-- ==== Defs.lean ====
def Pre_Attention (m : (ℓ : Loc Cert.Attention.nD Cert.Attention.τ Cert.Attention.sig) → Buf (Elt Bits) ℓ) : Prop :=
  True

def Pre_AttentionIdeal (m : (ℓ : Loc Cert.AttentionIdeal.nD Cert.AttentionIdeal.τ Cert.AttentionIdeal.sig) → Buf (Elt Ideal) ℓ) : Prop :=
  True

def Pre_RefAttentionIdeal (m : (ℓ : Loc Cert.RefAttentionIdeal.nD Cert.RefAttentionIdeal.τ Cert.RefAttentionIdeal.sig) → Buf (Elt Ideal) ℓ) : Prop :=
  True

def Pre_Ring (m : (ℓ : Loc Cert.Ring.nD Cert.Ring.τ Cert.Ring.sig) → Buf (Elt Bits) ℓ) : Prop :=
  True

def Pre_RingIdeal (m : (ℓ : Loc Cert.RingIdeal.nD Cert.RingIdeal.τ Cert.RingIdeal.sig) → Buf (Elt Ideal) ℓ) : Prop :=
  True

def Pre_RefSumIdeal (m : (ℓ : Loc Cert.RefSumIdeal.nD Cert.RefSumIdeal.τ Cert.RefSumIdeal.sig) → Buf (Elt Ideal) ℓ) : Prop :=
  True

def Pre_Half (m : (ℓ : Loc Cert.Half.nD Cert.Half.τ Cert.Half.sig) → Buf (Elt Bits) ℓ) : Prop :=
  True

def Pre_HalfIdeal (m : (ℓ : Loc Cert.HalfIdeal.nD Cert.HalfIdeal.τ Cert.HalfIdeal.sig) → Buf (Elt Ideal) ℓ) : Prop :=
  True

def Pre_RefHalfIdeal (m : (ℓ : Loc Cert.RefHalfIdeal.nD Cert.RefHalfIdeal.τ Cert.RefHalfIdeal.sig) → Buf (Elt Ideal) ℓ) : Prop :=
  True

def quiescent_Attention [hAttention : Cert.Attention.Facts] : Prop :=
  ∀ (m : (ℓ : Loc Cert.Attention.nD Cert.Attention.τ Cert.Attention.sig) → Buf (Elt Bits) ℓ) (g : Dev Cert.Attention.nD → PrngReg), Pre_Attention m →
    θ_run (Cert.Attention.defs (F := Bits)) (onTc (τ := Cert.Attention.τ) (Cert.Attention.main (F := Bits))) ⟨m, fun _ => 0, g⟩ (fun r => (∀ c : Dev Cert.Attention.nD,
      r.2.mem ((c.tc : Thread Cert.Attention.nD Cert.Attention.τ).loc Cert.Attention.main_arg0) = m ((c.tc : Thread Cert.Attention.nD Cert.Attention.τ).loc Cert.Attention.main_arg0)
      ∧ r.2.mem ((c.tc : Thread Cert.Attention.nD Cert.Attention.τ).loc Cert.Attention.main_arg1) = m ((c.tc : Thread Cert.Attention.nD Cert.Attention.τ).loc Cert.Attention.main_arg1)
      ∧ r.2.mem ((c.tc : Thread Cert.Attention.nD Cert.Attention.τ).loc Cert.Attention.main_arg2) = m ((c.tc : Thread Cert.Attention.nD Cert.Attention.τ).loc Cert.Attention.main_arg2))
      ∧ r.2.sem = fun _ => 0)

def quiescent_AttentionIdeal [hAttentionIdeal : Cert.AttentionIdeal.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
      ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
      ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2))
      ∧ r.2.sem = fun _ => 0)

def quiescent_RefAttentionIdeal [hRefAttentionIdeal : Cert.RefAttentionIdeal.Facts] : Prop :=
  ∀ (m : (ℓ : Loc Cert.RefAttentionIdeal.nD Cert.RefAttentionIdeal.τ Cert.RefAttentionIdeal.sig) → Buf (Elt Ideal) ℓ) (g : Dev Cert.RefAttentionIdeal.nD → PrngReg), Pre_RefAttentionIdeal m →
    θ_run (Cert.RefAttentionIdeal.defs (F := Ideal)) (onTc (τ := Cert.RefAttentionIdeal.τ) (Cert.RefAttentionIdeal.main (F := Ideal))) ⟨m, fun _ => 0, g⟩ (fun r => (∀ c : Dev Cert.RefAttentionIdeal.nD,
      r.2.mem ((c.tc : Thread Cert.RefAttentionIdeal.nD Cert.RefAttentionIdeal.τ).loc Cert.RefAttentionIdeal.main_arg0) = m ((c.tc : Thread Cert.RefAttentionIdeal.nD Cert.RefAttentionIdeal.τ).loc Cert.RefAttentionIdeal.main_arg0)
      ∧ r.2.mem ((c.tc : Thread Cert.RefAttentionIdeal.nD Cert.RefAttentionIdeal.τ).loc Cert.RefAttentionIdeal.main_arg1) = m ((c.tc : Thread Cert.RefAttentionIdeal.nD Cert.RefAttentionIdeal.τ).loc Cert.RefAttentionIdeal.main_arg1)
      ∧ r.2.mem ((c.tc : Thread Cert.RefAttentionIdeal.nD Cert.RefAttentionIdeal.τ).loc Cert.RefAttentionIdeal.main_arg2) = m ((c.tc : Thread Cert.RefAttentionIdeal.nD Cert.RefAttentionIdeal.τ).loc Cert.RefAttentionIdeal.main_arg2))
      ∧ r.2.sem = fun _ => 0)

def quiescent_Ring [hRing : Cert.Ring.Facts] : Prop :=
  ∀ (m : (ℓ : Loc Cert.Ring.nD Cert.Ring.τ Cert.Ring.sig) → Buf (Elt Bits) ℓ) (g : Dev Cert.Ring.nD → PrngReg), Pre_Ring m →
    θ_run (Cert.Ring.defs (F := Bits)) (onTc (τ := Cert.Ring.τ) (Cert.Ring.main (F := Bits))) ⟨m, fun _ => 0, g⟩ (fun r => (∀ c : Dev Cert.Ring.nD,
      r.2.mem ((c.tc : Thread Cert.Ring.nD Cert.Ring.τ).loc Cert.Ring.main_arg0) = m ((c.tc : Thread Cert.Ring.nD Cert.Ring.τ).loc Cert.Ring.main_arg0)
      ∧ r.2.mem ((c.tc : Thread Cert.Ring.nD Cert.Ring.τ).loc Cert.Ring.main_arg1) = m ((c.tc : Thread Cert.Ring.nD Cert.Ring.τ).loc Cert.Ring.main_arg1)
      ∧ r.2.mem ((c.tc : Thread Cert.Ring.nD Cert.Ring.τ).loc Cert.Ring.main_arg2) = m ((c.tc : Thread Cert.Ring.nD Cert.Ring.τ).loc Cert.Ring.main_arg2)
      ∧ r.2.mem ((c.tc : Thread Cert.Ring.nD Cert.Ring.τ).loc Cert.Ring.main_arg3) = m ((c.tc : Thread Cert.Ring.nD Cert.Ring.τ).loc Cert.Ring.main_arg3)
      ∧ r.2.mem ((c.tc : Thread Cert.Ring.nD Cert.Ring.τ).loc Cert.Ring.main_arg4) = m ((c.tc : Thread Cert.Ring.nD Cert.Ring.τ).loc Cert.Ring.main_arg4))
      ∧ r.2.sem = fun _ => 0)

def quiescent_RingIdeal [hRingIdeal : Cert.RingIdeal.Facts] : Prop :=
  ∀ (m : (ℓ : Loc Cert.RingIdeal.nD Cert.RingIdeal.τ Cert.RingIdeal.sig) → Buf (Elt Ideal) ℓ) (g : Dev Cert.RingIdeal.nD → PrngReg), Pre_RingIdeal m →
    θ_run (Cert.RingIdeal.defs (F := Ideal)) (onTc (τ := Cert.RingIdeal.τ) (Cert.RingIdeal.main (F := Ideal))) ⟨m, fun _ => 0, g⟩ (fun r => (∀ c : Dev Cert.RingIdeal.nD,
      r.2.mem ((c.tc : Thread Cert.RingIdeal.nD Cert.RingIdeal.τ).loc Cert.RingIdeal.main_arg0) = m ((c.tc : Thread Cert.RingIdeal.nD Cert.RingIdeal.τ).loc Cert.RingIdeal.main_arg0)
      ∧ r.2.mem ((c.tc : Thread Cert.RingIdeal.nD Cert.RingIdeal.τ).loc Cert.RingIdeal.main_arg1) = m ((c.tc : Thread Cert.RingIdeal.nD Cert.RingIdeal.τ).loc Cert.RingIdeal.main_arg1)
      ∧ r.2.mem ((c.tc : Thread Cert.RingIdeal.nD Cert.RingIdeal.τ).loc Cert.RingIdeal.main_arg2) = m ((c.tc : Thread Cert.RingIdeal.nD Cert.RingIdeal.τ).loc Cert.RingIdeal.main_arg2)
      ∧ r.2.mem ((c.tc : Thread Cert.RingIdeal.nD Cert.RingIdeal.τ).loc Cert.RingIdeal.main_arg3) = m ((c.tc : Thread Cert.RingIdeal.nD Cert.RingIdeal.τ).loc Cert.RingIdeal.main_arg3)
      ∧ r.2.mem ((c.tc : Thread Cert.RingIdeal.nD Cert.RingIdeal.τ).loc Cert.RingIdeal.main_arg4) = m ((c.tc : Thread Cert.RingIdeal.nD Cert.RingIdeal.τ).loc Cert.RingIdeal.main_arg4))
      ∧ r.2.sem = fun _ => 0)

def quiescent_RefSumIdeal [hRefSumIdeal : Cert.RefSumIdeal.Facts] : Prop :=
  ∀ (m : (ℓ : Loc Cert.RefSumIdeal.nD Cert.RefSumIdeal.τ Cert.RefSumIdeal.sig) → Buf (Elt Ideal) ℓ) (g : Dev Cert.RefSumIdeal.nD → PrngReg), Pre_RefSumIdeal m →
    θ_run (Cert.RefSumIdeal.defs (F := Ideal)) (onTc (τ := Cert.RefSumIdeal.τ) (Cert.RefSumIdeal.main (F := Ideal))) ⟨m, fun _ => 0, g⟩ (fun r => (∀ c : Dev Cert.RefSumIdeal.nD,
      r.2.mem ((c.tc : Thread Cert.RefSumIdeal.nD Cert.RefSumIdeal.τ).loc Cert.RefSumIdeal.main_arg0) = m ((c.tc : Thread Cert.RefSumIdeal.nD Cert.RefSumIdeal.τ).loc Cert.RefSumIdeal.main_arg0)
      ∧ r.2.mem ((c.tc : Thread Cert.RefSumIdeal.nD Cert.RefSumIdeal.τ).loc Cert.RefSumIdeal.main_arg1) = m ((c.tc : Thread Cert.RefSumIdeal.nD Cert.RefSumIdeal.τ).loc Cert.RefSumIdeal.main_arg1)
      ∧ r.2.mem ((c.tc : Thread Cert.RefSumIdeal.nD Cert.RefSumIdeal.τ).loc Cert.RefSumIdeal.main_arg2) = m ((c.tc : Thread Cert.RefSumIdeal.nD Cert.RefSumIdeal.τ).loc Cert.RefSumIdeal.main_arg2)
      ∧ r.2.mem ((c.tc : Thread Cert.RefSumIdeal.nD Cert.RefSumIdeal.τ).loc Cert.RefSumIdeal.main_arg3) = m ((c.tc : Thread Cert.RefSumIdeal.nD Cert.RefSumIdeal.τ).loc Cert.RefSumIdeal.main_arg3)
      ∧ r.2.mem ((c.tc : Thread Cert.RefSumIdeal.nD Cert.RefSumIdeal.τ).loc Cert.RefSumIdeal.main_arg4) = m ((c.tc : Thread Cert.RefSumIdeal.nD Cert.RefSumIdeal.τ).loc Cert.RefSumIdeal.main_arg4))
      ∧ r.2.sem = fun _ => 0)

def quiescent_Half [hHalf : Cert.Half.Facts] : Prop :=
  ∀ (m : (ℓ : Loc Cert.Half.nD Cert.Half.τ Cert.Half.sig) → Buf (Elt Bits) ℓ) (g : Dev Cert.Half.nD → PrngReg), Pre_Half m →
    θ_run (Cert.Half.defs (F := Bits)) (onTc (τ := Cert.Half.τ) (Cert.Half.main (F := Bits))) ⟨m, fun _ => 0, g⟩ (fun r => (∀ c : Dev Cert.Half.nD,
      r.2.mem ((c.tc : Thread Cert.Half.nD Cert.Half.τ).loc Cert.Half.main_arg0) = m ((c.tc : Thread Cert.Half.nD Cert.Half.τ).loc Cert.Half.main_arg0)
      ∧ r.2.mem ((c.tc : Thread Cert.Half.nD Cert.Half.τ).loc Cert.Half.main_arg1) = m ((c.tc : Thread Cert.Half.nD Cert.Half.τ).loc Cert.Half.main_arg1)
      ∧ r.2.mem ((c.tc : Thread Cert.Half.nD Cert.Half.τ).loc Cert.Half.main_arg2) = m ((c.tc : Thread Cert.Half.nD Cert.Half.τ).loc Cert.Half.main_arg2)
      ∧ r.2.mem ((c.tc : Thread Cert.Half.nD Cert.Half.τ).loc Cert.Half.main_arg3) = m ((c.tc : Thread Cert.Half.nD Cert.Half.τ).loc Cert.Half.main_arg3)
      ∧ r.2.mem ((c.tc : Thread Cert.Half.nD Cert.Half.τ).loc Cert.Half.main_arg4) = m ((c.tc : Thread Cert.Half.nD Cert.Half.τ).loc Cert.Half.main_arg4))
      ∧ r.2.sem = fun _ => 0)

def quiescent_HalfIdeal [hHalfIdeal : Cert.HalfIdeal.Facts] : Prop :=
  ∀ (m : (ℓ : Loc Cert.HalfIdeal.nD Cert.HalfIdeal.τ Cert.HalfIdeal.sig) → Buf (Elt Ideal) ℓ) (g : Dev Cert.HalfIdeal.nD → PrngReg), Pre_HalfIdeal m →
    θ_run (Cert.HalfIdeal.defs (F := Ideal)) (onTc (τ := Cert.HalfIdeal.τ) (Cert.HalfIdeal.main (F := Ideal))) ⟨m, fun _ => 0, g⟩ (fun r => (∀ c : Dev Cert.HalfIdeal.nD,
      r.2.mem ((c.tc : Thread Cert.HalfIdeal.nD Cert.HalfIdeal.τ).loc Cert.HalfIdeal.main_arg0) = m ((c.tc : Thread Cert.HalfIdeal.nD Cert.HalfIdeal.τ).loc Cert.HalfIdeal.main_arg0)
      ∧ r.2.mem ((c.tc : Thread Cert.HalfIdeal.nD Cert.HalfIdeal.τ).loc Cert.HalfIdeal.main_arg1) = m ((c.tc : Thread Cert.HalfIdeal.nD Cert.HalfIdeal.τ).loc Cert.HalfIdeal.main_arg1)
      ∧ r.2.mem ((c.tc : Thread Cert.HalfIdeal.nD Cert.HalfIdeal.τ).loc Cert.HalfIdeal.main_arg2) = m ((c.tc : Thread Cert.HalfIdeal.nD Cert.HalfIdeal.τ).loc Cert.HalfIdeal.main_arg2)
      ∧ r.2.mem ((c.tc : Thread Cert.HalfIdeal.nD Cert.HalfIdeal.τ).loc Cert.HalfIdeal.main_arg3) = m ((c.tc : Thread Cert.HalfIdeal.nD Cert.HalfIdeal.τ).loc Cert.HalfIdeal.main_arg3)
      ∧ r.2.mem ((c.tc : Thread Cert.HalfIdeal.nD Cert.HalfIdeal.τ).loc Cert.HalfIdeal.main_arg4) = m ((c.tc : Thread Cert.HalfIdeal.nD Cert.HalfIdeal.τ).loc Cert.HalfIdeal.main_arg4))
      ∧ r.2.sem = fun _ => 0)

def quiescent_RefHalfIdeal [hRefHalfIdeal : Cert.RefHalfIdeal.Facts] : Prop :=
  ∀ (m : (ℓ : Loc Cert.RefHalfIdeal.nD Cert.RefHalfIdeal.τ Cert.RefHalfIdeal.sig) → Buf (Elt Ideal) ℓ) (g : Dev Cert.RefHalfIdeal.nD → PrngReg), Pre_RefHalfIdeal m →
    θ_run (Cert.RefHalfIdeal.defs (F := Ideal)) (onTc (τ := Cert.RefHalfIdeal.τ) (Cert.RefHalfIdeal.main (F := Ideal))) ⟨m, fun _ => 0, g⟩ (fun r => (∀ c : Dev Cert.RefHalfIdeal.nD,
      r.2.mem ((c.tc : Thread Cert.RefHalfIdeal.nD Cert.RefHalfIdeal.τ).loc Cert.RefHalfIdeal.main_arg0) = m ((c.tc : Thread Cert.RefHalfIdeal.nD Cert.RefHalfIdeal.τ).loc Cert.RefHalfIdeal.main_arg0)
      ∧ r.2.mem ((c.tc : Thread Cert.RefHalfIdeal.nD Cert.RefHalfIdeal.τ).loc Cert.RefHalfIdeal.main_arg1) = m ((c.tc : Thread Cert.RefHalfIdeal.nD Cert.RefHalfIdeal.τ).loc Cert.RefHalfIdeal.main_arg1)
      ∧ r.2.mem ((c.tc : Thread Cert.RefHalfIdeal.nD Cert.RefHalfIdeal.τ).loc Cert.RefHalfIdeal.main_arg2) = m ((c.tc : Thread Cert.RefHalfIdeal.nD Cert.RefHalfIdeal.τ).loc Cert.RefHalfIdeal.main_arg2)
      ∧ r.2.mem ((c.tc : Thread Cert.RefHalfIdeal.nD Cert.RefHalfIdeal.τ).loc Cert.RefHalfIdeal.main_arg3) = m ((c.tc : Thread Cert.RefHalfIdeal.nD Cert.RefHalfIdeal.τ).loc Cert.RefHalfIdeal.main_arg3)
      ∧ r.2.mem ((c.tc : Thread Cert.RefHalfIdeal.nD Cert.RefHalfIdeal.τ).loc Cert.RefHalfIdeal.main_arg4) = m ((c.tc : Thread Cert.RefHalfIdeal.nD Cert.RefHalfIdeal.τ).loc Cert.RefHalfIdeal.main_arg4))
      ∧ r.2.sem = fun _ => 0)

def preserves_Attention_AttentionIdeal : Prop :=
  True

def algebraic_AttentionIdeal_RefAttentionIdeal [hAttentionIdeal : Cert.AttentionIdeal.Facts] [hRefAttentionIdeal : Cert.RefAttentionIdeal.Facts] : Prop :=
  ∀ (m : (ℓ : Loc Cert.AttentionIdeal.nD Cert.AttentionIdeal.τ Cert.AttentionIdeal.sig) → Buf (Elt Ideal) ℓ) (g : Dev Cert.AttentionIdeal.nD → PrngReg)
    (m' : (ℓ : Loc Cert.RefAttentionIdeal.nD Cert.RefAttentionIdeal.τ Cert.RefAttentionIdeal.sig) → Buf (Elt Ideal) ℓ) (g' : Dev Cert.RefAttentionIdeal.nD → PrngReg), Pre_AttentionIdeal m →
    (∀ c : Dev Cert.AttentionIdeal.nD,
      m' ((c.tc : Thread Cert.RefAttentionIdeal.nD Cert.RefAttentionIdeal.τ).loc Cert.RefAttentionIdeal.main_arg0) = m ((c.tc : Thread Cert.AttentionIdeal.nD Cert.AttentionIdeal.τ).loc Cert.AttentionIdeal.main_arg0)
      ∧ m' ((c.tc : Thread Cert.RefAttentionIdeal.nD Cert.RefAttentionIdeal.τ).loc Cert.RefAttentionIdeal.main_arg1) = m ((c.tc : Thread Cert.AttentionIdeal.nD Cert.AttentionIdeal.τ).loc Cert.AttentionIdeal.main_arg1)
      ∧ m' ((c.tc : Thread Cert.RefAttentionIdeal.nD Cert.RefAttentionIdeal.τ).loc Cert.RefAttentionIdeal.main_arg2) = m ((c.tc : Thread Cert.AttentionIdeal.nD Cert.AttentionIdeal.τ).loc Cert.AttentionIdeal.main_arg2)) →
    ∃ (v0 : (c : Dev Cert.AttentionIdeal.nD) → Buf (Elt Ideal) ((c.tc : Thread Cert.AttentionIdeal.nD Cert.AttentionIdeal.τ).loc Cert.AttentionIdeal.main_v0)),
      θ_run (Cert.AttentionIdeal.defs (F := Ideal)) (onTc (τ := Cert.AttentionIdeal.τ) (Cert.AttentionIdeal.main (F := Ideal))) ⟨m, fun _ => 0, g⟩ (fun r => ∀ c : Dev Cert.AttentionIdeal.nD,
          r.2.mem ((c.tc : Thread Cert.AttentionIdeal.nD Cert.AttentionIdeal.τ).loc Cert.AttentionIdeal.main_v0) = v0 c
          ∧ r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0)
          ∧ r.2.mem ((c.tc : Thread Cert.AttentionIdeal.nD Cert.AttentionIdeal.τ).loc Cert.AttentionIdeal.main_arg1) = m ((c.tc : Thread Cert.AttentionIdeal.nD Cert.AttentionIdeal.τ).loc Cert.AttentionIdeal.main_arg1)
          ∧ r.2.mem ((c.tc : Thread Cert.AttentionIdeal.nD Cert.AttentionIdeal.τ).loc Cert.AttentionIdeal.main_arg2) = m ((c.tc : Thread Cert.AttentionIdeal.nD Cert.AttentionIdeal.τ).loc Cert.AttentionIdeal.main_arg2))
      ∧ θ_run (Cert.RefAttentionIdeal.defs (F := Ideal)) (onTc (τ := Cert.RefAttentionIdeal.τ) (Cert.RefAttentionIdeal.main (F := Ideal))) ⟨m', fun _ => 0, g'⟩ (fun r => ∀ c : Dev Cert.RefAttentionIdeal.nD,
          r.2.mem ((c.tc : Thread Cert.RefAttentionIdeal.nD Cert.RefAttentionIdeal.τ).loc Cert.RefAttentionIdeal.main_v105) = v0 c
          ∧ r.2.mem ((c.tc : Thread Cert.RefAttentionIdeal.nD Cert.RefAttentionIdeal.τ).loc Cert.RefAttentionIdeal.main_arg0) = m' ((c.tc : Thread Cert.RefAttentionIdeal.nD Cert.RefAttentionIdeal.τ).loc Cert.RefAttentionIdeal.main_arg0)
          ∧ r.2.mem ((c.tc : Thread Cert.RefAttentionIdeal.nD Cert.RefAttentionIdeal.τ).loc Cert.RefAttentionIdeal.main_arg1) = m' ((c.tc : Thread Cert.RefAttentionIdeal.nD Cert.RefAttentionIdeal.τ).loc Cert.RefAttentionIdeal.main_arg1)
          ∧ r.2.mem ((c.tc : Thread Cert.RefAttentionIdeal.nD Cert.RefAttentionIdeal.τ).loc Cert.RefAttentionIdeal.main_arg2) = m' ((c.tc : Thread Cert.RefAttentionIdeal.nD Cert.RefAttentionIdeal.τ).loc Cert.RefAttentionIdeal.main_arg2))

def preserves_Ring_RingIdeal : Prop :=
  True

def algebraic_RingIdeal_RefSumIdeal [hRingIdeal : Cert.RingIdeal.Facts] [hRefSumIdeal : Cert.RefSumIdeal.Facts] : Prop :=
  ∀ (m : (ℓ : Loc Cert.RingIdeal.nD Cert.RingIdeal.τ Cert.RingIdeal.sig) → Buf (Elt Ideal) ℓ) (g : Dev Cert.RingIdeal.nD → PrngReg)
    (m' : (ℓ : Loc Cert.RefSumIdeal.nD Cert.RefSumIdeal.τ Cert.RefSumIdeal.sig) → Buf (Elt Ideal) ℓ) (g' : Dev Cert.RefSumIdeal.nD → PrngReg), Pre_RingIdeal m →
    (∀ c : Dev Cert.RingIdeal.nD,
      m ((c.tc : Thread Cert.RingIdeal.nD Cert.RingIdeal.τ).loc Cert.RingIdeal.main_arg0) = m' (((0 : Dev Cert.RefSumIdeal.nD).tc : Thread Cert.RefSumIdeal.nD Cert.RefSumIdeal.τ).loc Cert.RefSumIdeal.main_arg0)
      ∧ m ((c.tc : Thread Cert.RingIdeal.nD Cert.RingIdeal.τ).loc Cert.RingIdeal.main_arg1) = m' (((0 : Dev Cert.RefSumIdeal.nD).tc : Thread Cert.RefSumIdeal.nD Cert.RefSumIdeal.τ).loc Cert.RefSumIdeal.main_arg1)
      ∧ m ((c.tc : Thread Cert.RingIdeal.nD Cert.RingIdeal.τ).loc Cert.RingIdeal.main_arg2) = m' (((0 : Dev Cert.RefSumIdeal.nD).tc : Thread Cert.RefSumIdeal.nD Cert.RefSumIdeal.τ).loc Cert.RefSumIdeal.main_arg2)
      ∧ m ((c.tc : Thread Cert.RingIdeal.nD Cert.RingIdeal.τ).loc Cert.RingIdeal.main_arg3) = Layout.block ⟨2, ![1024, 256]⟩ ⟨2, ![1024, 4096]⟩ 1 16 c (m' (((0 : Dev Cert.RefSumIdeal.nD).tc : Thread Cert.RefSumIdeal.nD Cert.RefSumIdeal.τ).loc Cert.RefSumIdeal.main_arg3))
      ∧ m ((c.tc : Thread Cert.RingIdeal.nD Cert.RingIdeal.τ).loc Cert.RingIdeal.main_arg4) = Layout.block ⟨2, ![256, 1024]⟩ ⟨2, ![4096, 1024]⟩ 0 16 c (m' (((0 : Dev Cert.RefSumIdeal.nD).tc : Thread Cert.RefSumIdeal.nD Cert.RefSumIdeal.τ).loc Cert.RefSumIdeal.main_arg4))) →
    ∃ (v0 : Buf (Elt Ideal) (((0 : Dev Cert.RefSumIdeal.nD).tc : Thread Cert.RefSumIdeal.nD Cert.RefSumIdeal.τ).loc Cert.RefSumIdeal.main_v38)),
      θ_run (Cert.RingIdeal.defs (F := Ideal)) (onTc (τ := Cert.RingIdeal.τ) (Cert.RingIdeal.main (F := Ideal))) ⟨m, fun _ => 0, g⟩ (fun r => ∀ c : Dev Cert.RingIdeal.nD,
          r.2.mem ((c.tc : Thread Cert.RingIdeal.nD Cert.RingIdeal.τ).loc Cert.RingIdeal.main_v45) = v0
          ∧ r.2.mem ((c.tc : Thread Cert.RingIdeal.nD Cert.RingIdeal.τ).loc Cert.RingIdeal.main_arg0) = m ((c.tc : Thread Cert.RingIdeal.nD Cert.RingIdeal.τ).loc Cert.RingIdeal.main_arg0)
          ∧ r.2.mem ((c.tc : Thread Cert.RingIdeal.nD Cert.RingIdeal.τ).loc Cert.RingIdeal.main_arg1) = m ((c.tc : Thread Cert.RingIdeal.nD Cert.RingIdeal.τ).loc Cert.RingIdeal.main_arg1)
          ∧ r.2.mem ((c.tc : Thread Cert.RingIdeal.nD Cert.RingIdeal.τ).loc Cert.RingIdeal.main_arg2) = m ((c.tc : Thread Cert.RingIdeal.nD Cert.RingIdeal.τ).loc Cert.RingIdeal.main_arg2)
          ∧ r.2.mem ((c.tc : Thread Cert.RingIdeal.nD Cert.RingIdeal.τ).loc Cert.RingIdeal.main_arg3) = m ((c.tc : Thread Cert.RingIdeal.nD Cert.RingIdeal.τ).loc Cert.RingIdeal.main_arg3)
          ∧ r.2.mem ((c.tc : Thread Cert.RingIdeal.nD Cert.RingIdeal.τ).loc Cert.RingIdeal.main_arg4) = m ((c.tc : Thread Cert.RingIdeal.nD Cert.RingIdeal.τ).loc Cert.RingIdeal.main_arg4))
      ∧ θ_run (Cert.RefSumIdeal.defs (F := Ideal)) (onTc (τ := Cert.RefSumIdeal.τ) (Cert.RefSumIdeal.main (F := Ideal))) ⟨m', fun _ => 0, g'⟩ (fun r =>
          r.2.mem (((0 : Dev Cert.RefSumIdeal.nD).tc : Thread Cert.RefSumIdeal.nD Cert.RefSumIdeal.τ).loc Cert.RefSumIdeal.main_v38) = v0
          ∧ r.2.mem (((0 : Dev Cert.RefSumIdeal.nD).tc : Thread Cert.RefSumIdeal.nD Cert.RefSumIdeal.τ).loc Cert.RefSumIdeal.main_arg0) = m' (((0 : Dev Cert.RefSumIdeal.nD).tc : Thread Cert.RefSumIdeal.nD Cert.RefSumIdeal.τ).loc Cert.RefSumIdeal.main_arg0)
          ∧ r.2.mem (((0 : Dev Cert.RefSumIdeal.nD).tc : Thread Cert.RefSumIdeal.nD Cert.RefSumIdeal.τ).loc Cert.RefSumIdeal.main_arg1) = m' (((0 : Dev Cert.RefSumIdeal.nD).tc : Thread Cert.RefSumIdeal.nD Cert.RefSumIdeal.τ).loc Cert.RefSumIdeal.main_arg1)
          ∧ r.2.mem (((0 : Dev Cert.RefSumIdeal.nD).tc : Thread Cert.RefSumIdeal.nD Cert.RefSumIdeal.τ).loc Cert.RefSumIdeal.main_arg2) = m' (((0 : Dev Cert.RefSumIdeal.nD).tc : Thread Cert.RefSumIdeal.nD Cert.RefSumIdeal.τ).loc Cert.RefSumIdeal.main_arg2)
          ∧ r.2.mem (((0 : Dev Cert.RefSumIdeal.nD).tc : Thread Cert.RefSumIdeal.nD Cert.RefSumIdeal.τ).loc Cert.RefSumIdeal.main_arg3) = m' (((0 : Dev Cert.RefSumIdeal.nD).tc : Thread Cert.RefSumIdeal.nD Cert.RefSumIdeal.τ).loc Cert.RefSumIdeal.main_arg3)
          ∧ r.2.mem (((0 : Dev Cert.RefSumIdeal.nD).tc : Thread Cert.RefSumIdeal.nD Cert.RefSumIdeal.τ).loc Cert.RefSumIdeal.main_arg4) = m' (((0 : Dev Cert.RefSumIdeal.nD).tc : Thread Cert.RefSumIdeal.nD Cert.RefSumIdeal.τ).loc Cert.RefSumIdeal.main_arg4))

def preserves_Half_HalfIdeal : Prop :=
  True

def algebraic_HalfIdeal_RefHalfIdeal [hHalfIdeal : Cert.HalfIdeal.Facts] [hRefHalfIdeal : Cert.RefHalfIdeal.Facts] : Prop :=
  ∀ (m : (ℓ : Loc Cert.HalfIdeal.nD Cert.HalfIdeal.τ Cert.HalfIdeal.sig) → Buf (Elt Ideal) ℓ) (g : Dev Cert.HalfIdeal.nD → PrngReg)
    (m' : (ℓ : Loc Cert.RefHalfIdeal.nD Cert.RefHalfIdeal.τ Cert.RefHalfIdeal.sig) → Buf (Elt Ideal) ℓ) (g' : Dev Cert.RefHalfIdeal.nD → PrngReg), Pre_HalfIdeal m →
    (∀ c : Dev Cert.HalfIdeal.nD,
      m ((c.tc : Thread Cert.HalfIdeal.nD Cert.HalfIdeal.τ).loc Cert.HalfIdeal.main_arg0) = m' (((0 : Dev Cert.RefHalfIdeal.nD).tc : Thread Cert.RefHalfIdeal.nD Cert.RefHalfIdeal.τ).loc Cert.RefHalfIdeal.main_arg0)
      ∧ m ((c.tc : Thread Cert.HalfIdeal.nD Cert.HalfIdeal.τ).loc Cert.HalfIdeal.main_arg1) = Layout.block ⟨2, ![4096, 1024]⟩ ⟨2, ![4096, 16384]⟩ 1 16 c (m' (((0 : Dev Cert.RefHalfIdeal.nD).tc : Thread Cert.RefHalfIdeal.nD Cert.RefHalfIdeal.τ).loc Cert.RefHalfIdeal.main_arg1))
      ∧ m ((c.tc : Thread Cert.HalfIdeal.nD Cert.HalfIdeal.τ).loc Cert.HalfIdeal.main_arg2) = m' (((0 : Dev Cert.RefHalfIdeal.nD).tc : Thread Cert.RefHalfIdeal.nD Cert.RefHalfIdeal.τ).loc Cert.RefHalfIdeal.main_arg2)
      ∧ m ((c.tc : Thread Cert.HalfIdeal.nD Cert.HalfIdeal.τ).loc Cert.HalfIdeal.main_arg3) = m' (((0 : Dev Cert.RefHalfIdeal.nD).tc : Thread Cert.RefHalfIdeal.nD Cert.RefHalfIdeal.τ).loc Cert.RefHalfIdeal.main_arg3)
      ∧ m ((c.tc : Thread Cert.HalfIdeal.nD Cert.HalfIdeal.τ).loc Cert.HalfIdeal.main_arg4) = Layout.block ⟨2, ![1024, 1024]⟩ ⟨2, ![16384, 1024]⟩ 0 16 c (m' (((0 : Dev Cert.RefHalfIdeal.nD).tc : Thread Cert.RefHalfIdeal.nD Cert.RefHalfIdeal.τ).loc Cert.RefHalfIdeal.main_arg4))) →
    ∃ (v0 : Buf (Elt Ideal) (((0 : Dev Cert.RefHalfIdeal.nD).tc : Thread Cert.RefHalfIdeal.nD Cert.RefHalfIdeal.τ).loc Cert.RefHalfIdeal.main_v14)),
      θ_run (Cert.HalfIdeal.defs (F := Ideal)) (onTc (τ := Cert.HalfIdeal.τ) (Cert.HalfIdeal.main (F := Ideal))) ⟨m, fun _ => 0, g⟩ (fun r => ∀ c : Dev Cert.HalfIdeal.nD,
          r.2.mem ((c.tc : Thread Cert.HalfIdeal.nD Cert.HalfIdeal.τ).loc Cert.HalfIdeal.main_v16) = v0
          ∧ r.2.mem ((c.tc : Thread Cert.HalfIdeal.nD Cert.HalfIdeal.τ).loc Cert.HalfIdeal.main_arg0) = m ((c.tc : Thread Cert.HalfIdeal.nD Cert.HalfIdeal.τ).loc Cert.HalfIdeal.main_arg0)
          ∧ r.2.mem ((c.tc : Thread Cert.HalfIdeal.nD Cert.HalfIdeal.τ).loc Cert.HalfIdeal.main_arg1) = m ((c.tc : Thread Cert.HalfIdeal.nD Cert.HalfIdeal.τ).loc Cert.HalfIdeal.main_arg1)
          ∧ r.2.mem ((c.tc : Thread Cert.HalfIdeal.nD Cert.HalfIdeal.τ).loc Cert.HalfIdeal.main_arg2) = m ((c.tc : Thread Cert.HalfIdeal.nD Cert.HalfIdeal.τ).loc Cert.HalfIdeal.main_arg2)
          ∧ r.2.mem ((c.tc : Thread Cert.HalfIdeal.nD Cert.HalfIdeal.τ).loc Cert.HalfIdeal.main_arg3) = m ((c.tc : Thread Cert.HalfIdeal.nD Cert.HalfIdeal.τ).loc Cert.HalfIdeal.main_arg3)
          ∧ r.2.mem ((c.tc : Thread Cert.HalfIdeal.nD Cert.HalfIdeal.τ).loc Cert.HalfIdeal.main_arg4) = m ((c.tc : Thread Cert.HalfIdeal.nD Cert.HalfIdeal.τ).loc Cert.HalfIdeal.main_arg4))
      ∧ θ_run (Cert.RefHalfIdeal.defs (F := Ideal)) (onTc (τ := Cert.RefHalfIdeal.τ) (Cert.RefHalfIdeal.main (F := Ideal))) ⟨m', fun _ => 0, g'⟩ (fun r =>
          r.2.mem (((0 : Dev Cert.RefHalfIdeal.nD).tc : Thread Cert.RefHalfIdeal.nD Cert.RefHalfIdeal.τ).loc Cert.RefHalfIdeal.main_v14) = v0
          ∧ r.2.mem (((0 : Dev Cert.RefHalfIdeal.nD).tc : Thread Cert.RefHalfIdeal.nD Cert.RefHalfIdeal.τ).loc Cert.RefHalfIdeal.main_arg0) = m' (((0 : Dev Cert.RefHalfIdeal.nD).tc : Thread Cert.RefHalfIdeal.nD Cert.RefHalfIdeal.τ).loc Cert.RefHalfIdeal.main_arg0)
          ∧ r.2.mem (((0 : Dev Cert.RefHalfIdeal.nD).tc : Thread Cert.RefHalfIdeal.nD Cert.RefHalfIdeal.τ).loc Cert.RefHalfIdeal.main_arg1) = m' (((0 : Dev Cert.RefHalfIdeal.nD).tc : Thread Cert.RefHalfIdeal.nD Cert.RefHalfIdeal.τ).loc Cert.RefHalfIdeal.main_arg1)
          ∧ r.2.mem (((0 : Dev Cert.RefHalfIdeal.nD).tc : Thread Cert.RefHalfIdeal.nD Cert.RefHalfIdeal.τ).loc Cert.RefHalfIdeal.main_arg2) = m' (((0 : Dev Cert.RefHalfIdeal.nD).tc : Thread Cert.RefHalfIdeal.nD Cert.RefHalfIdeal.τ).loc Cert.RefHalfIdeal.main_arg2)
          ∧ r.2.mem (((0 : Dev Cert.RefHalfIdeal.nD).tc : Thread Cert.RefHalfIdeal.nD Cert.RefHalfIdeal.τ).loc Cert.RefHalfIdeal.main_arg3) = m' (((0 : Dev Cert.RefHalfIdeal.nD).tc : Thread Cert.RefHalfIdeal.nD Cert.RefHalfIdeal.τ).loc Cert.RefHalfIdeal.main_arg3)
          ∧ r.2.mem (((0 : Dev Cert.RefHalfIdeal.nD).tc : Thread Cert.RefHalfIdeal.nD Cert.RefHalfIdeal.τ).loc Cert.RefHalfIdeal.main_arg4) = m' (((0 : Dev Cert.RefHalfIdeal.nD).tc : Thread Cert.RefHalfIdeal.nD Cert.RefHalfIdeal.τ).loc Cert.RefHalfIdeal.main_arg4))

def Claim : Prop :=
  ∃ (hAttention : Cert.Attention.Facts) (hAttentionIdeal : Cert.AttentionIdeal.Facts) (hRefAttentionIdeal : Cert.RefAttentionIdeal.Facts) (hRing : Cert.Ring.Facts) (hRingIdeal : Cert.RingIdeal.Facts) (hRefSumIdeal : Cert.RefSumIdeal.Facts) (hHalf : Cert.Half.Facts) (hHalfIdeal : Cert.HalfIdeal.Facts) (hRefHalfIdeal : Cert.RefHalfIdeal.Facts),
    quiescent_Attention (hAttention := hAttention)
    ∧ quiescent_AttentionIdeal (hAttentionIdeal := hAttentionIdeal)
    ∧ quiescent_RefAttentionIdeal (hRefAttentionIdeal := hRefAttentionIdeal)
    ∧ quiescent_Ring (hRing := hRing)
    ∧ quiescent_RingIdeal (hRingIdeal := hRingIdeal)
    ∧ quiescent_RefSumIdeal (hRefSumIdeal := hRefSumIdeal)
    ∧ quiescent_Half (hHalf := hHalf)
    ∧ quiescent_HalfIdeal (hHalfIdeal := hHalfIdeal)
    ∧ quiescent_RefHalfIdeal (hRefHalfIdeal := hRefHalfIdeal)
    ∧ preserves_Attention_AttentionIdeal
    ∧ algebraic_AttentionIdeal_RefAttentionIdeal (hAttentionIdeal := hAttentionIdeal) (hRefAttentionIdeal := hRefAttentionIdeal)
    ∧ preserves_Ring_RingIdeal
    ∧ algebraic_RingIdeal_RefSumIdeal (hRingIdeal := hRingIdeal) (hRefSumIdeal := hRefSumIdeal)
    ∧ preserves_Half_HalfIdeal
    ∧ algebraic_HalfIdeal_RefHalfIdeal (hHalfIdeal := hHalfIdeal) (hRefHalfIdeal := hRefHalfIdeal)
-- ==== Attention.lean ====
abbrev S4096x1024 : Shape := ⟨2, ![4096, 1024]⟩
abbrev S512x128 : Shape := ⟨2, ![512, 128]⟩
abbrev S4096x128 : Shape := ⟨2, ![4096, 128]⟩
abbrev S512x4096 : Shape := ⟨2, ![512, 4096]⟩
abbrev S512 : Shape := ⟨1, ![512]⟩
abbrev S512x1 : Shape := ⟨2, ![512, 1]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .local _ .vmem, ⟨0, _⟩ => ⟨S512x128, .bf16⟩
  | .local _ .vmem, ⟨1, _⟩ => ⟨S512x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S512x128, .bf16⟩
  | .local _ .vmem, ⟨7, _⟩ => ⟨S512x128, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RefAttentionIdeal.lean ====
abbrev S4096x1024 : Shape := ⟨2, ![4096, 1024]⟩
abbrev S1x4096x8x128 : Shape := ⟨4, ![1, 4096, 8, 128]⟩
abbrev S_ : Shape := ⟨0, ![]⟩
abbrev S1x8x4096x1 : Shape := ⟨4, ![1, 8, 4096, 1]⟩
abbrev S1x1024x8x128 : Shape := ⟨4, ![1, 1024, 8, 128]⟩
abbrev S1x8x4096x1024 : Shape := ⟨4, ![1, 8, 4096, 1024]⟩
abbrev S1x8x4096 : Shape := ⟨3, ![1, 8, 4096]⟩
abbrev S1x4096x8x1 : Shape := ⟨4, ![1, 4096, 8, 1]⟩
abbrev S1x8x128x4096 : Shape := ⟨4, ![1, 8, 128, 4096]⟩

abbrev nBuf : Space → Nat
  | .hbm => 124
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x1024, .f32⟩
  | .hbm, ⟨4, _⟩ => ⟨S1x4096x8x128, .f32⟩
  | .hbm, ⟨5, _⟩ => ⟨S4096x1024, .f32⟩
  | .hbm, ⟨6, _⟩ => ⟨S1x4096x8x128, .f32⟩
  | .hbm, ⟨7, _⟩ => ⟨S4096x1024, .f32⟩
  | .hbm, ⟨8, _⟩ => ⟨S1x4096x8x128, .f32⟩
  | .hbm, ⟨9, _⟩ => ⟨S_, .f32⟩
  | .hbm, ⟨10, _⟩ => ⟨S1x4096x8x128, .f32⟩
  | .hbm, ⟨11, _⟩ => ⟨S_, .f32⟩
  | .hbm, ⟨12, _⟩ => ⟨S1x8x4096x1, .f32⟩
  | .hbm, ⟨13, _⟩ => ⟨S_, .f32⟩
  | .hbm, ⟨14, _⟩ => ⟨S1x8x4096x1, .f32⟩
  | .hbm, ⟨15, _⟩ => ⟨S1x1024x8x128, .f32⟩
  | .hbm, ⟨16, _⟩ => ⟨S1x1024x8x128, .f32⟩
  | .hbm, ⟨17, _⟩ => ⟨S1x8x4096x1024, .f32⟩
  | .hbm, ⟨18, _⟩ => ⟨S_, .f32⟩
  | .hbm, ⟨19, _⟩ => ⟨S1x8x4096x1024, .f32⟩
  | .hbm, ⟨20, _⟩ => ⟨S1x8x4096x1024, .f32⟩
  | .hbm, ⟨21, _⟩ => ⟨S_, .f32⟩
  | .hbm, ⟨22, _⟩ => ⟨S1x8x4096, .f32⟩
  | .hbm, ⟨23, _⟩ => ⟨S1x8x4096x1, .f32⟩
  | .hbm, ⟨24, _⟩ => ⟨S1x8x4096x1, .f32⟩
  | .hbm, ⟨25, _⟩ => ⟨S1x8x4096x1, .f32⟩
  | .hbm, ⟨26, _⟩ => ⟨S1x8x4096x1, .f32⟩
  | .hbm, ⟨27, _⟩ => ⟨S1x8x4096x1024, .f32⟩
  | .hbm, ⟨28, _⟩ => ⟨S1x8x4096x1024, .f32⟩
  | .hbm, ⟨29, _⟩ => ⟨S1x8x4096x1024, .f32⟩
  | .hbm, ⟨30, _⟩ => ⟨S1x8x4096x1, .f32⟩
  | .hbm, ⟨31, _⟩ => ⟨S_, .f32⟩
  | .hbm, ⟨32, _⟩ => ⟨S1x8x4096, .f32⟩
  | .hbm, ⟨33, _⟩ => ⟨S1x8x4096x1, .f32⟩
  | .hbm, ⟨34, _⟩ => ⟨S1x8x4096x1, .f32⟩
  | .hbm, ⟨35, _⟩ => ⟨S1x4096x8x1, .f32⟩
  | .hbm, ⟨36, _⟩ => ⟨S1x4096x8x128, .f32⟩
  | .hbm, ⟨37, _⟩ => ⟨S1x4096x8x128, .f32⟩
  | .hbm, ⟨38, _⟩ => ⟨S1x8x128x4096, .f32⟩
  | .hbm, ⟨39, _⟩ => ⟨S1x4096x8x128, .f32⟩
  | .hbm, ⟨40, _⟩ => ⟨S1x4096x8x128, .f32⟩
  | .hbm, ⟨41, _⟩ => ⟨S1x1024x8x128, .f32⟩
  | .hbm, ⟨42, _⟩ => ⟨S1x1024x8x128, .f32⟩
  | .hbm, ⟨43, _⟩ => ⟨S1x8x4096x1024, .f32⟩
  | .hbm, ⟨44, _⟩ => ⟨S_, .f32⟩
  | .hbm, ⟨45, _⟩ => ⟨S1x8x4096x1024, .f32⟩
  | .hbm, ⟨46, _⟩ => ⟨S1x8x4096x1024, .f32⟩
  | .hbm, ⟨47, _⟩ => ⟨S_, .f32⟩
  | .hbm, ⟨48, _⟩ => ⟨S1x8x4096, .f32⟩
  | .hbm, ⟨49, _⟩ => ⟨S1x8x4096x1, .f32⟩
  | .hbm, ⟨50, _⟩ => ⟨S1x8x4096x1, .f32⟩
  | .hbm, ⟨51, _⟩ => ⟨S1x8x4096x1, .f32⟩
  | .hbm, ⟨52, _⟩ => ⟨S1x8x4096x1, .f32⟩
  | .hbm, ⟨53, _⟩ => ⟨S1x8x4096x1024, .f32⟩
  | .hbm, ⟨54, _⟩ => ⟨S1x8x4096x1024, .f32⟩
  | .hbm, ⟨55, _⟩ => ⟨S1x8x4096x1024, .f32⟩
  | .hbm, ⟨56, _⟩ => ⟨S1x8x4096x1, .f32⟩
  | .hbm, ⟨57, _⟩ => ⟨S_, .f32⟩
  | .hbm, ⟨58, _⟩ => ⟨S1x8x4096, .f32⟩
  | .hbm, ⟨59, _⟩ => ⟨S1x8x4096x1, .f32⟩
  | .hbm, ⟨60, _⟩ => ⟨S1x8x4096x1, .f32⟩
  | .hbm, ⟨61, _⟩ => ⟨S1x4096x8x1, .f32⟩
  | .hbm, ⟨62, _⟩ => ⟨S1x4096x8x128, .f32⟩
  | .hbm, ⟨63, _⟩ => ⟨S1x4096x8x128, .f32⟩
  | .hbm, ⟨64, _⟩ => ⟨S1x8x128x4096, .f32⟩
  | .hbm, ⟨65, _⟩ => ⟨S1x4096x8x128, .f32⟩
  | .hbm, ⟨66, _⟩ => ⟨S1x4096x8x128, .f32⟩
  | .hbm, ⟨67, _⟩ => ⟨S1x1024x8x128, .f32⟩
  | .hbm, ⟨68, _⟩ => ⟨S1x1024x8x128, .f32⟩
  | .hbm, ⟨69, _⟩ => ⟨S1x8x4096x1024, .f32⟩
  | .hbm, ⟨70, _⟩ => ⟨S_, .f32⟩
  | .hbm, ⟨71, _⟩ => ⟨S1x8x4096x1024, .f32⟩
  | .hbm, ⟨72, _⟩ => ⟨S1x8x4096x1024, .f32⟩
  | .hbm, ⟨73, _⟩ => ⟨S_, .f32⟩
  | .hbm, ⟨74, _⟩ => ⟨S1x8x4096, .f32⟩
  | .hbm, ⟨75, _⟩ => ⟨S1x8x4096x1, .f32⟩
  | .hbm, ⟨76, _⟩ => ⟨S1x8x4096x1, .f32⟩
  | .hbm, ⟨77, _⟩ => ⟨S1x8x4096x1, .f32⟩
  | .hbm, ⟨78, _⟩ => ⟨S1x8x4096x1, .f32⟩
  | .hbm, ⟨79, _⟩ => ⟨S1x8x4096x1024, .f32⟩
  | .hbm, ⟨80, _⟩ => ⟨S1x8x4096x1024, .f32⟩
  | .hbm, ⟨81, _⟩ => ⟨S1x8x4096x1024, .f32⟩
  | .hbm, ⟨82, _⟩ => ⟨S1x8x4096x1, .f32⟩
  | .hbm, ⟨83, _⟩ => ⟨S_, .f32⟩
  | .hbm, ⟨84, _⟩ => ⟨S1x8x4096, .f32⟩
  | .hbm, ⟨85, _⟩ => ⟨S1x8x4096x1, .f32⟩
  | .hbm, ⟨86, _⟩ => ⟨S1x8x4096x1, .f32⟩
  | .hbm, ⟨87, _⟩ => ⟨S1x4096x8x1, .f32⟩
  | .hbm, ⟨88, _⟩ => ⟨S1x4096x8x128, .f32⟩
  | .hbm, ⟨89, _⟩ => ⟨S1x4096x8x128, .f32⟩
  | .hbm, ⟨90, _⟩ => ⟨S1x8x128x4096, .f32⟩
  | .hbm, ⟨91, _⟩ => ⟨S1x4096x8x128, .f32⟩
  | .hbm, ⟨92, _⟩ => ⟨S1x4096x8x128, .f32⟩
  | .hbm, ⟨93, _⟩ => ⟨S1x1024x8x128, .f32⟩
  | .hbm, ⟨94, _⟩ => ⟨S1x1024x8x128, .f32⟩
  | .hbm, ⟨95, _⟩ => ⟨S1x8x4096x1024, .f32⟩
  | .hbm, ⟨96, _⟩ => ⟨S_, .f32⟩
  | .hbm, ⟨97, _⟩ => ⟨S1x8x4096x1024, .f32⟩
  | .hbm, ⟨98, _⟩ => ⟨S1x8x4096x1024, .f32⟩
  | .hbm, ⟨99, _⟩ => ⟨S_, .f32⟩
  | .hbm, ⟨100, _⟩ => ⟨S1x8x4096, .f32⟩
  | .hbm, ⟨101, _⟩ => ⟨S1x8x4096x1, .f32⟩
  | .hbm, ⟨102, _⟩ => ⟨S1x8x4096x1, .f32⟩
  | .hbm, ⟨103, _⟩ => ⟨S1x8x4096x1, .f32⟩
  | .hbm, ⟨104, _⟩ => ⟨S1x8x4096x1, .f32⟩
  | .hbm, ⟨105, _⟩ => ⟨S1x8x4096x1024, .f32⟩
  | .hbm, ⟨106, _⟩ => ⟨S1x8x4096x1024, .f32⟩
  | .hbm, ⟨107, _⟩ => ⟨S1x8x4096x1024, .f32⟩
  | .hbm, ⟨108, _⟩ => ⟨S1x8x4096x1, .f32⟩
  | .hbm, ⟨109, _⟩ => ⟨S_, .f32⟩
  | .hbm, ⟨110, _⟩ => ⟨S1x8x4096, .f32⟩
  | .hbm, ⟨111, _⟩ => ⟨S1x8x4096x1, .f32⟩
  | .hbm, ⟨112, _⟩ => ⟨S1x8x4096x1, .f32⟩
  | .hbm, ⟨113, _⟩ => ⟨S1x4096x8x1, .f32⟩
  | .hbm, ⟨114, _⟩ => ⟨S1x4096x8x128, .f32⟩
  | .hbm, ⟨115, _⟩ => ⟨S1x4096x8x128, .f32⟩
  | .hbm, ⟨116, _⟩ => ⟨S1x8x128x4096, .f32⟩
  | .hbm, ⟨117, _⟩ => ⟨S1x4096x8x128, .f32⟩
  | .hbm, ⟨118, _⟩ => ⟨S1x4096x8x128, .f32⟩
  | .hbm, ⟨119, _⟩ => ⟨S1x4096x8x1, .f32⟩
  | .hbm, ⟨120, _⟩ => ⟨S1x4096x8x128, .f32⟩
  | .hbm, ⟨121, _⟩ => ⟨S1x4096x8x128, .f32⟩
  | .hbm, ⟨122, _⟩ => ⟨S4096x1024, .f32⟩
  | .hbm, ⟨123, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_5 : Ref sig .tc := ⟨.hbm, 44, rfl⟩
abbrev main_v35 : Ref sig .tc := ⟨.hbm, 45, rfl⟩
abbrev main_v36 : Ref sig .tc := ⟨.hbm, 46, rfl⟩
abbrev main_cst_6 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_cst_7 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_cst_8 : Ref sig .tc := ⟨.hbm, 70, rfl⟩
abbrev main_v58 : Ref sig .tc := ⟨.hbm, 71, rfl⟩
abbrev main_v59 : Ref sig .tc := ⟨.hbm, 72, rfl⟩
abbrev main_cst_9 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_cst_10 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_cst_11 : Ref sig .tc := ⟨.hbm, 96, rfl⟩
abbrev main_v81 : Ref sig .tc := ⟨.hbm, 97, rfl⟩
abbrev main_v82 : Ref sig .tc := ⟨.hbm, 98, rfl⟩
abbrev main_cst_12 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_cst_13 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩

abbrev nD : Nat := 1
abbrev τ : Topo := Topo.v7x

variable {F : FTy → Type} [FloatOps F]
-- ==== Ring.lean ====
abbrev S4096x1024 : Shape := ⟨2, ![4096, 1024]⟩
abbrev S1x128 : Shape := ⟨2, ![1, 128]⟩
abbrev S128x6144 : Shape := ⟨2, ![128, 6144]⟩
abbrev S1024x256 : Shape := ⟨2, ![1024, 256]⟩
abbrev S256x1024 : Shape := ⟨2, ![256, 1024]⟩
abbrev S1x6144 : Shape := ⟨2, ![1, 6144]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S4096x256 : Shape := ⟨2, ![4096, 256]⟩
abbrev S2x128x1024 : Shape := ⟨3, ![2, 128, 1024]⟩
abbrev S2 : Shape := ⟨1, ![2]⟩
abbrev S1 : Shape := ⟨1, ![1]⟩
abbrev S1x128x1024 : Shape := ⟨3, ![1, 128, 1024]⟩
abbrev S128x1024 : Shape := ⟨2, ![128, 1024]⟩
abbrev S1x4096x1024 : Shape := ⟨3, ![1, 4096, 1024]⟩

abbrev nBuf : Space → Nat
  | .hbm => 79
  | .vmem => 4
  | .smem => 0
  | _ => 0

abbrev bufTy : (tb : Table) → Fin (tcTables nBuf tb) → BufTy
  | .hbm, ⟨0, _⟩ => ⟨S4096x1024, .f32⟩
  | .hbm, ⟨1, _⟩ => ⟨S1x128, .f32⟩
  | .hbm, ⟨2, _⟩ => ⟨S128x6144, .f32⟩
  | .hbm, ⟨3, _⟩ => ⟨S1024x256, .f32⟩
  | .hbm, ⟨4, _⟩ => ⟨S256x1024, .f32⟩
  | .hbm, ⟨5, _⟩ => ⟨S1x6144, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .i32⟩
  | .hbm, ⟨19, _⟩ => ⟨S_, .f32⟩
  | .hbm, ⟨20, _⟩ => ⟨S4096, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S4096, .f32⟩
  | .hbm, ⟨33, _⟩ => ⟨S4096x1, .f32⟩
  | .hbm, ⟨34, _⟩ => ⟨S4096x1, .f32⟩
  | .hbm, ⟨35, _⟩ => ⟨S4096x1, .f32⟩
  | .hbm, ⟨36, _⟩ => ⟨S_, .f32⟩
  | .hbm, ⟨37, _⟩ => ⟨S_, .i1⟩
  | .hbm, ⟨38, _⟩ => ⟨S_, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S4096x1, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S1x1024, .f32⟩
  | .hbm, ⟨52, _⟩ => ⟨S1x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .bf16⟩
  | .hbm, ⟨58, _⟩ => ⟨S1024x256, .bf16⟩
  | .hbm, ⟨59, _⟩ => ⟨S4096x256, .f32⟩
  | .hbm, ⟨60, _⟩ => ⟨S4096x256, .f32⟩
  | .hbm, ⟨61, _⟩ => ⟨S4096x256, .f32⟩
  | .hbm, ⟨62, _⟩ => ⟨S_, .f32⟩
  | .hbm, ⟨63, _⟩ => ⟨S4096x256, .f32⟩
  | .hbm, ⟨64, _⟩ => ⟨S4096x256, .f32⟩
  | .hbm, ⟨65, _⟩ => ⟨S_, .f32⟩
  | .hbm, ⟨66, _⟩ => ⟨S4096x256, .f32⟩
  | .hbm, ⟨67, _⟩ => ⟨S4096x256, .f32⟩
  | .hbm, ⟨68, _⟩ => ⟨S4096x256, .f32⟩
  | .hbm, ⟨69, _⟩ => ⟨S4096x256, .bf16⟩
  | .hbm, ⟨70, _⟩ => ⟨S256x1024, .bf16⟩
  | .hbm, ⟨71, _⟩ => ⟨S4096x1024, .f32⟩
  | .hbm, ⟨72, _⟩ => ⟨S4096x1024, .bf16⟩
  | .hbm, ⟨73, _⟩ => ⟨S4096x1024, .bf16⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S1x4096x1024, .f32⟩
  | .local _ .vmem, ⟨0, _⟩ => ⟨S4096x1024, .bf16⟩
  | .local _ .vmem, ⟨1, _⟩ => ⟨S4096x1024, .bf16⟩
  | .local _ .vmem, ⟨2, _⟩ => ⟨S2x128x1024, .bf16⟩
  | .local _ .vmem, ⟨3, _⟩ => ⟨S2x128x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 3 → Bool
  | ⟨0, _⟩ => true
  | ⟨1, _⟩ => true
  | ⟨2, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  (ofTc nBuf bufTy 3 10 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_c : Ref sig .tc := ⟨.hbm, 18, rfl⟩
abbrev main_call0_cst : Ref sig .tc := ⟨.hbm, 19, rfl⟩
abbrev main_call0_v0 : Ref sig .tc := ⟨.hbm, 20, rfl⟩
abbrev main_call0_v1 : Ref sig .tc := ⟨.hbm, 21, rfl⟩
abbrev main_call0_cst_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_cst_1 : Ref sig .tc := ⟨.hbm, 29, rfl⟩
abbrev main_call0_v8 : Ref sig .tc := ⟨.hbm, 30, rfl⟩
abbrev main_call0_cst_2 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_v12 : Ref sig .tc := ⟨.hbm, 35, rfl⟩
abbrev main_call0_cst_3 : Ref sig .tc := ⟨.hbm, 36, rfl⟩
abbrev main_call0_v13 : Ref sig .tc := ⟨.hbm, 37, rfl⟩
abbrev main_call0_cst_4 : Ref sig .tc := ⟨.hbm, 38, rfl⟩
abbrev main_call0_call0_v0 : Ref sig .tc := ⟨.hbm, 39, rfl⟩
abbrev main_call0_call0_v1 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_cst_1 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_cst_2 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_cst_3 : Ref sig .tc := ⟨.hbm, 62, rfl⟩
abbrev main_v31 : Ref sig .tc := ⟨.hbm, 63, rfl⟩
abbrev main_v32 : Ref sig .tc := ⟨.hbm, 64, rfl⟩
abbrev main_cst_4 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 2

abbrev nD : Nat := 16
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v26 : BitVec 32 := Scalar.muli v13 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v28 : BitVec 32 := Scalar.muli v24 c1_i32_17
  let v29 : BitVec 32 := Scalar.addi c0_i32_18 v28
  v29.toNat
def k0_off1 (d0 : Dev nD) (c0_i32_22 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v33 : BitVec 32 := Scalar.subi v2 c0_i32_22
  let c16_i32_23 : BitVec 32 := 16#32
  let c0_i32_24 : BitVec 32 := 0#32
  let v34 : BitVec 1 := Scalar.cmpi .eq c16_i32_23 c0_i32_24
  let c1_i32_25 : BitVec 32 := 1#32
  let v35 : BitVec 32 := Scalar.select v34 c1_i32_25 c16_i32_23
  let v36 : BitVec 32 := Scalar.remsi v33 v35
  let c0_i32_27 : BitVec 32 := 0#32
  let v38 : BitVec 1 := Scalar.cmpi .slt v36 c0_i32_27
  let c0_i32_28 : BitVec 32 := 0#32
  let v39 : BitVec 1 := Scalar.cmpi .slt v35 c0_i32_28
  let v40 : BitVec 1 := Scalar.xori v38 v39
  let c0_i32_26 : BitVec 32 := 0#32
  let v37 : BitVec 1 := Scalar.cmpi .ne v36 c0_i32_26
  let v41 : BitVec 1 := Scalar.andi v40 v37
  let v42 : BitVec 32 := Scalar.addi v36 v35
  let v43 : BitVec 32 := Scalar.select v41 v42 v36
  let c128_i32 : BitVec 32 := 128#32
  let v79 : BitVec 32 := Scalar.muli v43 c128_i32
  let c0_i32_60 : BitVec 32 := 0#32
  ![v79.toNat, 0]
def k0_dev3 (d0 : Dev nD) : Nat :=
  let c0_i32_57 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_56 : BitVec 32 := 1#32
  let v82 : BitVec 32 := Scalar.muli v24 c1_i32_56
  let v83 : BitVec 32 := Scalar.addi c0_i32_57 v82
  v83.toNat
def k0_off2 (d0 : Dev nD) (c0_i32_37 : BitVec 32) : Fin 2 → Nat :=
  let c2048_i32 : BitVec 32 := 2048#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v56 : BitVec 32 := Scalar.addi v2 c0_i32_37
  let c16_i32_38 : BitVec 32 := 16#32
  let c0_i32_39 : BitVec 32 := 0#32
  let v57 : BitVec 1 := Scalar.cmpi .eq c16_i32_38 c0_i32_39
  let c1_i32_40 : BitVec 32 := 1#32
  let v58 : BitVec 32 := Scalar.select v57 c1_i32_40 c16_i32_38
  let v59 : BitVec 32 := Scalar.remsi v56 v58
  let c0_i32_42 : BitVec 32 := 0#32
  let v61 : BitVec 1 := Scalar.cmpi .slt v59 c0_i32_42
  let c0_i32_43 : BitVec 32 := 0#32
  let v62 : BitVec 1 := Scalar.cmpi .slt v58 c0_i32_43
  let v63 : BitVec 1 := Scalar.xori v61 v62
  let c0_i32_41 : BitVec 32 := 0#32
  let v60 : BitVec 1 := Scalar.cmpi .ne v59 c0_i32_41
  let v64 : BitVec 1 := Scalar.andi v63 v60
  let v65 : BitVec 32 := Scalar.addi v59 v58
  let v66 : BitVec 32 := Scalar.select v64 v65 v59
  let c128_i32_52 : BitVec 32 := 128#32
  let v80 : BitVec 32 := Scalar.muli v66 c128_i32_52
  let v81 : BitVec 32 := Scalar.addi c2048_i32 v80
  let c0_i32_68 : BitVec 32 := 0#32
  ![v81.toNat, 0]
def k0_dev4 (d0 : Dev nD) : Nat :=
  let c0_i32_65 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_64 : BitVec 32 := 1#32
  let v91 : BitVec 32 := Scalar.muli v13 c1_i32_64
  let v92 : BitVec 32 := Scalar.addi c0_i32_65 v91
  v92.toNat
def k0_off3 (d0 : Dev nD) (c0_i32_29 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v44 : BitVec 32 := Scalar.subi v2 c0_i32_29
  let c1_i32_30 : BitVec 32 := 1#32
  let v45 : BitVec 32 := Scalar.subi v44 c1_i32_30
  let c16_i32_31 : BitVec 32 := 16#32
  let c0_i32_32 : BitVec 32 := 0#32
  let v46 : BitVec 1 := Scalar.cmpi .eq c16_i32_31 c0_i32_32
  let c1_i32_33 : BitVec 32 := 1#32
  let v47 : BitVec 32 := Scalar.select v46 c1_i32_33 c16_i32_31
  let v48 : BitVec 32 := Scalar.remsi v45 v47
  let c0_i32_35 : BitVec 32 := 0#32
  let v50 : BitVec 1 := Scalar.cmpi .slt v48 c0_i32_35
  let c0_i32_36 : BitVec 32 := 0#32
  let v51 : BitVec 1 := Scalar.cmpi .slt v47 c0_i32_36
  let v52 : BitVec 1 := Scalar.xori v50 v51
  let c0_i32_34 : BitVec 32 := 0#32
  let v49 : BitVec 1 := Scalar.cmpi .ne v48 c0_i32_34
  let v53 : BitVec 1 := Scalar.andi v52 v49
  let v54 : BitVec 32 := Scalar.addi v48 v47
  let v55 : BitVec 32 := Scalar.select v53 v54 v48
  let c128_i32_99 : BitVec 32 := 128#32
  let v124 : BitVec 32 := Scalar.muli v55 c128_i32_99
  let v125 : Index := Scalar.indexCast v124
  let c0_100 : Index := 0#32
  ![v125.toNat, 0]
def k0_off4 (d0 : Dev nD) (c0_i32_44 : BitVec 32) : Fin 2 → Nat :=
  let c2048_i32_106 : BitVec 32 := 2048#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v67 : BitVec 32 := Scalar.addi v2 c0_i32_44
  let c1_i32_45 : BitVec 32 := 1#32
  let v68 : BitVec 32 := Scalar.addi v67 c1_i32_45
  let c16_i32_46 : BitVec 32 := 16#32
  let c0_i32_47 : BitVec 32 := 0#32
  let v69 : BitVec 1 := Scalar.cmpi .eq c16_i32_46 c0_i32_47
  let c1_i32_48 : BitVec 32 := 1#32
  let v70 : BitVec 32 := Scalar.select v69 c1_i32_48 c16_i32_46
  let v71 : BitVec 32 := Scalar.remsi v68 v70
  let c0_i32_50 : BitVec 32 := 0#32
  let v73 : BitVec 1 := Scalar.cmpi .slt v71 c0_i32_50
  let c0_i32_51 : BitVec 32 := 0#32
  let v74 : BitVec 1 := Scalar.cmpi .slt v70 c0_i32_51
  let v75 : BitVec 1 := Scalar.xori v73 v74
  let c0_i32_49 : BitVec 32 := 0#32
  let v72 : BitVec 1 := Scalar.cmpi .ne v71 c0_i32_49
  let v76 : BitVec 1 := Scalar.andi v75 v72
  let v77 : BitVec 32 := Scalar.addi v71 v70
  let v78 : BitVec 32 := Scalar.select v76 v77 v71
  let c128_i32_105 : BitVec 32 := 128#32
  let v133 : BitVec 32 := Scalar.muli v78 c128_i32_105
  let v134 : BitVec 32 := Scalar.addi c2048_i32_106 v133
  let v135 : Index := Scalar.indexCast v134
  let c0_107 : Index := 0#32
  ![v135.toNat, 0]
def k0_dev5 (d0 : Dev nD) : Nat :=
  let c0_i32_114 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_113 : BitVec 32 := 1#32
  let v143 : BitVec 32 := Scalar.muli v13 c1_i32_113
  let v144 : BitVec 32 := Scalar.addi c0_i32_114 v143
  v144.toNat
def k0_dev6 (d0 : Dev nD) : Nat :=
  let c0_i32_117 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_116 : BitVec 32 := 1#32
  let v145 : BitVec 32 := Scalar.muli v24 c1_i32_116
  let v146 : BitVec 32 := Scalar.addi c0_i32_117 v145
  v146.toNat
def k0_dev7 (d0 : Dev nD) : Nat :=
  let c0_i32_155 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_154 : BitVec 32 := 1#32
  let v196 : BitVec 32 := Scalar.muli v24 c1_i32_154
  let v197 : BitVec 32 := Scalar.addi c0_i32_155 v196
  v197.toNat
def k0_dev8 (d0 : Dev nD) : Nat :=
  let c0_i32_163 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_162 : BitVec 32 := 1#32
  let v205 : BitVec 32 := Scalar.muli v13 c1_i32_162
  let v206 : BitVec 32 := Scalar.addi c0_i32_163 v205
  v206.toNat
def k0_dev9 (d0 : Dev nD) : Nat :=
  let c0_i32_211 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_210 : BitVec 32 := 1#32
  let v257 : BitVec 32 := Scalar.muli v13 c1_i32_210
  let v258 : BitVec 32 := Scalar.addi c0_i32_211 v257
  v258.toNat
def k0_dev10 (d0 : Dev nD) : Nat :=
  let c0_i32_214 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_213 : BitVec 32 := 1#32
  let v259 : BitVec 32 := Scalar.muli v24 c1_i32_213
  let v260 : BitVec 32 := Scalar.addi c0_i32_214 v259
  v260.toNat
def k0_dev11 (d0 : Dev nD) : Nat :=
  let c0_i32_256 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_255 : BitVec 32 := 1#32
  let v310 : BitVec 32 := Scalar.muli v24 c1_i32_255
  let v311 : BitVec 32 := Scalar.addi c0_i32_256 v310
  v311.toNat
def k0_dev12 (d0 : Dev nD) : Nat :=
  let c0_i32_264 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_263 : BitVec 32 := 1#32
  let v319 : BitVec 32 := Scalar.muli v13 c1_i32_263
  let v320 : BitVec 32 := Scalar.addi c0_i32_264 v319
  v320.toNat
def k0_dev13 (d0 : Dev nD) : Nat :=
  let c0_i32_313 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_312 : BitVec 32 := 1#32
  let v371 : BitVec 32 := Scalar.muli v13 c1_i32_312
  let v372 : BitVec 32 := Scalar.addi c0_i32_313 v371
  v372.toNat
def k0_dev14 (d0 : Dev nD) : Nat :=
  let c0_i32_316 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_315 : BitVec 32 := 1#32
  let v373 : BitVec 32 := Scalar.muli v24 c1_i32_315
  let v374 : BitVec 32 := Scalar.addi c0_i32_316 v373
  v374.toNat
def k0_dev15 (d0 : Dev nD) : Nat :=
  let c0_i32_357 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_356 : BitVec 32 := 1#32
  let v424 : BitVec 32 := Scalar.muli v24 c1_i32_356
  let v425 : BitVec 32 := Scalar.addi c0_i32_357 v424
  v425.toNat
def k0_dev16 (d0 : Dev nD) : Nat :=
  let c0_i32_365 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_364 : BitVec 32 := 1#32
  let v433 : BitVec 32 := Scalar.muli v13 c1_i32_364
  let v434 : BitVec 32 := Scalar.addi c0_i32_365 v433
  v434.toNat
def k0_dev17 (d0 : Dev nD) : Nat :=
  let c0_i32_414 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_413 : BitVec 32 := 1#32
  let v485 : BitVec 32 := Scalar.muli v13 c1_i32_413
  let v486 : BitVec 32 := Scalar.addi c0_i32_414 v485
  v486.toNat
def k0_dev18 (d0 : Dev nD) : Nat :=
  let c0_i32_417 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_416 : BitVec 32 := 1#32
  let v487 : BitVec 32 := Scalar.muli v24 c1_i32_416
  let v488 : BitVec 32 := Scalar.addi c0_i32_417 v487
  v488.toNat
def k0_dev19 (d0 : Dev nD) : Nat :=
  let c0_i32_458 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_457 : BitVec 32 := 1#32
  let v538 : BitVec 32 := Scalar.muli v24 c1_i32_457
  let v539 : BitVec 32 := Scalar.addi c0_i32_458 v538
  v539.toNat
def k0_dev20 (d0 : Dev nD) : Nat :=
  let c0_i32_466 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_465 : BitVec 32 := 1#32
  let v547 : BitVec 32 := Scalar.muli v13 c1_i32_465
  let v548 : BitVec 32 := Scalar.addi c0_i32_466 v547
  v548.toNat
def k0_dev21 (d0 : Dev nD) : Nat :=
  let c0_i32_515 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_514 : BitVec 32 := 1#32
  let v599 : BitVec 32 := Scalar.muli v13 c1_i32_514
  let v600 : BitVec 32 := Scalar.addi c0_i32_515 v599
  v600.toNat
def k0_dev22 (d0 : Dev nD) : Nat :=
  let c0_i32_518 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_517 : BitVec 32 := 1#32
  let v601 : BitVec 32 := Scalar.muli v24 c1_i32_517
  let v602 : BitVec 32 := Scalar.addi c0_i32_518 v601
  v602.toNat
def k0_dev23 (d0 : Dev nD) : Nat :=
  let c0_i32_559 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_558 : BitVec 32 := 1#32
  let v652 : BitVec 32 := Scalar.muli v24 c1_i32_558
  let v653 : BitVec 32 := Scalar.addi c0_i32_559 v652
  v653.toNat
def k0_dev24 (d0 : Dev nD) : Nat :=
  let c0_i32_567 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_566 : BitVec 32 := 1#32
  let v661 : BitVec 32 := Scalar.muli v13 c1_i32_566
  let v662 : BitVec 32 := Scalar.addi c0_i32_567 v661
  v662.toNat
def k0_dev25 (d0 : Dev nD) : Nat :=
  let c0_i32_616 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_615 : BitVec 32 := 1#32
  let v713 : BitVec 32 := Scalar.muli v13 c1_i32_615
  let v714 : BitVec 32 := Scalar.addi c0_i32_616 v713
  v714.toNat
def k0_dev26 (d0 : Dev nD) : Nat :=
  let c0_i32_619 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_618 : BitVec 32 := 1#32
  let v715 : BitVec 32 := Scalar.muli v24 c1_i32_618
  let v716 : BitVec 32 := Scalar.addi c0_i32_619 v715
  v716.toNat
def k0_dev27 (d0 : Dev nD) : Nat :=
  let c0_i32_660 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_659 : BitVec 32 := 1#32
  let v766 : BitVec 32 := Scalar.muli v24 c1_i32_659
  let v767 : BitVec 32 := Scalar.addi c0_i32_660 v766
  v767.toNat
def k0_dev28 (d0 : Dev nD) : Nat :=
  let c0_i32_668 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_667 : BitVec 32 := 1#32
  let v775 : BitVec 32 := Scalar.muli v13 c1_i32_667
  let v776 : BitVec 32 := Scalar.addi c0_i32_668 v775
  v776.toNat
def k0_dev29 (d0 : Dev nD) : Nat :=
  let c0_i32_717 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_716 : BitVec 32 := 1#32
  let v827 : BitVec 32 := Scalar.muli v13 c1_i32_716
  let v828 : BitVec 32 := Scalar.addi c0_i32_717 v827
  v828.toNat
def k0_dev30 (d0 : Dev nD) : Nat :=
  let c0_i32_720 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_719 : BitVec 32 := 1#32
  let v829 : BitVec 32 := Scalar.muli v24 c1_i32_719
  let v830 : BitVec 32 := Scalar.addi c0_i32_720 v829
  v830.toNat
def k0_dev31 (d0 : Dev nD) : Nat :=
  let c0_i32_761 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_760 : BitVec 32 := 1#32
  let v880 : BitVec 32 := Scalar.muli v24 c1_i32_760
  let v881 : BitVec 32 := Scalar.addi c0_i32_761 v880
  v881.toNat
def k0_dev32 (d0 : Dev nD) : Nat :=
  let c0_i32_769 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_768 : BitVec 32 := 1#32
  let v889 : BitVec 32 := Scalar.muli v13 c1_i32_768
  let v890 : BitVec 32 := Scalar.addi c0_i32_769 v889
  v890.toNat
def k0_dev33 (d0 : Dev nD) : Nat :=
  let c0_i32_818 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_817 : BitVec 32 := 1#32
  let v941 : BitVec 32 := Scalar.muli v13 c1_i32_817
  let v942 : BitVec 32 := Scalar.addi c0_i32_818 v941
  v942.toNat
def k0_dev34 (d0 : Dev nD) : Nat :=
  let c0_i32_821 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_820 : BitVec 32 := 1#32
  let v943 : BitVec 32 := Scalar.muli v24 c1_i32_820
  let v944 : BitVec 32 := Scalar.addi c0_i32_821 v943
  v944.toNat
def k0_dev35 (d0 : Dev nD) : Nat :=
  let c0_i32_862 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_861 : BitVec 32 := 1#32
  let v994 : BitVec 32 := Scalar.muli v24 c1_i32_861
  let v995 : BitVec 32 := Scalar.addi c0_i32_862 v994
  v995.toNat
def k0_dev36 (d0 : Dev nD) : Nat :=
  let c0_i32_870 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_869 : BitVec 32 := 1#32
  let v1003 : BitVec 32 := Scalar.muli v13 c1_i32_869
  let v1004 : BitVec 32 := Scalar.addi c0_i32_870 v1003
  v1004.toNat
def k0_dev37 (d0 : Dev nD) : Nat :=
  let c0_i32_919 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_918 : BitVec 32 := 1#32
  let v1055 : BitVec 32 := Scalar.muli v13 c1_i32_918
  let v1056 : BitVec 32 := Scalar.addi c0_i32_919 v1055
  v1056.toNat
def k0_dev38 (d0 : Dev nD) : Nat :=
  let c0_i32_922 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_921 : BitVec 32 := 1#32
  let v1057 : BitVec 32 := Scalar.muli v24 c1_i32_921
  let v1058 : BitVec 32 := Scalar.addi c0_i32_922 v1057
  v1058.toNat
def k0_dev39 (d0 : Dev nD) : Nat :=
  let c0_i32_963 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_962 : BitVec 32 := 1#32
  let v1108 : BitVec 32 := Scalar.muli v24 c1_i32_962
  let v1109 : BitVec 32 := Scalar.addi c0_i32_963 v1108
  v1109.toNat
def k0_dev40 (d0 : Dev nD) : Nat :=
  let c0_i32_971 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_970 : BitVec 32 := 1#32
  let v1117 : BitVec 32 := Scalar.muli v13 c1_i32_970
  let v1118 : BitVec 32 := Scalar.addi c0_i32_971 v1117
  v1118.toNat
def k0_dev41 (d0 : Dev nD) : Nat :=
  let c0_i32_1020 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1019 : BitVec 32 := 1#32
  let v1169 : BitVec 32 := Scalar.muli v13 c1_i32_1019
  let v1170 : BitVec 32 := Scalar.addi c0_i32_1020 v1169
  v1170.toNat
def k0_dev42 (d0 : Dev nD) : Nat :=
  let c0_i32_1023 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1022 : BitVec 32 := 1#32
  let v1171 : BitVec 32 := Scalar.muli v24 c1_i32_1022
  let v1172 : BitVec 32 := Scalar.addi c0_i32_1023 v1171
  v1172.toNat
def k0_dev43 (d0 : Dev nD) : Nat :=
  let c0_i32_1064 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1063 : BitVec 32 := 1#32
  let v1222 : BitVec 32 := Scalar.muli v24 c1_i32_1063
  let v1223 : BitVec 32 := Scalar.addi c0_i32_1064 v1222
  v1223.toNat
def k0_dev44 (d0 : Dev nD) : Nat :=
  let c0_i32_1072 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1071 : BitVec 32 := 1#32
  let v1231 : BitVec 32 := Scalar.muli v13 c1_i32_1071
  let v1232 : BitVec 32 := Scalar.addi c0_i32_1072 v1231
  v1232.toNat
def k0_dev45 (d0 : Dev nD) : Nat :=
  let c0_i32_1121 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1120 : BitVec 32 := 1#32
  let v1283 : BitVec 32 := Scalar.muli v13 c1_i32_1120
  let v1284 : BitVec 32 := Scalar.addi c0_i32_1121 v1283
  v1284.toNat
def k0_dev46 (d0 : Dev nD) : Nat :=
  let c0_i32_1124 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1123 : BitVec 32 := 1#32
  let v1285 : BitVec 32 := Scalar.muli v24 c1_i32_1123
  let v1286 : BitVec 32 := Scalar.addi c0_i32_1124 v1285
  v1286.toNat
def k0_dev47 (d0 : Dev nD) : Nat :=
  let c0_i32_1165 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1164 : BitVec 32 := 1#32
  let v1336 : BitVec 32 := Scalar.muli v24 c1_i32_1164
  let v1337 : BitVec 32 := Scalar.addi c0_i32_1165 v1336
  v1337.toNat
def k0_dev48 (d0 : Dev nD) : Nat :=
  let c0_i32_1173 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1172 : BitVec 32 := 1#32
  let v1345 : BitVec 32 := Scalar.muli v13 c1_i32_1172
  let v1346 : BitVec 32 := Scalar.addi c0_i32_1173 v1345
  v1346.toNat
def k0_dev49 (d0 : Dev nD) : Nat :=
  let c0_i32_1222 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1221 : BitVec 32 := 1#32
  let v1397 : BitVec 32 := Scalar.muli v13 c1_i32_1221
  let v1398 : BitVec 32 := Scalar.addi c0_i32_1222 v1397
  v1398.toNat
def k0_dev50 (d0 : Dev nD) : Nat :=
  let c0_i32_1225 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1224 : BitVec 32 := 1#32
  let v1399 : BitVec 32 := Scalar.muli v24 c1_i32_1224
  let v1400 : BitVec 32 := Scalar.addi c0_i32_1225 v1399
  v1400.toNat
def k0_dev51 (d0 : Dev nD) : Nat :=
  let c0_i32_1266 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1265 : BitVec 32 := 1#32
  let v1450 : BitVec 32 := Scalar.muli v24 c1_i32_1265
  let v1451 : BitVec 32 := Scalar.addi c0_i32_1266 v1450
  v1451.toNat
def k0_dev52 (d0 : Dev nD) : Nat :=
  let c0_i32_1274 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1273 : BitVec 32 := 1#32
  let v1459 : BitVec 32 := Scalar.muli v13 c1_i32_1273
  let v1460 : BitVec 32 := Scalar.addi c0_i32_1274 v1459
  v1460.toNat
def k0_dev53 (d0 : Dev nD) : Nat :=
  let c0_i32_1323 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1322 : BitVec 32 := 1#32
  let v1511 : BitVec 32 := Scalar.muli v13 c1_i32_1322
  let v1512 : BitVec 32 := Scalar.addi c0_i32_1323 v1511
  v1512.toNat
def k0_dev54 (d0 : Dev nD) : Nat :=
  let c0_i32_1326 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1325 : BitVec 32 := 1#32
  let v1513 : BitVec 32 := Scalar.muli v24 c1_i32_1325
  let v1514 : BitVec 32 := Scalar.addi c0_i32_1326 v1513
  v1514.toNat
def k0_dev55 (d0 : Dev nD) : Nat :=
  let c0_i32_1367 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1366 : BitVec 32 := 1#32
  let v1564 : BitVec 32 := Scalar.muli v24 c1_i32_1366
  let v1565 : BitVec 32 := Scalar.addi c0_i32_1367 v1564
  v1565.toNat
def k0_dev56 (d0 : Dev nD) : Nat :=
  let c0_i32_1375 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1374 : BitVec 32 := 1#32
  let v1573 : BitVec 32 := Scalar.muli v13 c1_i32_1374
  let v1574 : BitVec 32 := Scalar.addi c0_i32_1375 v1573
  v1574.toNat
def k0_dev57 (d0 : Dev nD) : Nat :=
  let c0_i32_1424 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1423 : BitVec 32 := 1#32
  let v1625 : BitVec 32 := Scalar.muli v13 c1_i32_1423
  let v1626 : BitVec 32 := Scalar.addi c0_i32_1424 v1625
  v1626.toNat
def k0_dev58 (d0 : Dev nD) : Nat :=
  let c0_i32_1427 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1426 : BitVec 32 := 1#32
  let v1627 : BitVec 32 := Scalar.muli v24 c1_i32_1426
  let v1628 : BitVec 32 := Scalar.addi c0_i32_1427 v1627
  v1628.toNat
def k0_dev59 (d0 : Dev nD) : Nat :=
  let c0_i32_1468 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1467 : BitVec 32 := 1#32
  let v1678 : BitVec 32 := Scalar.muli v24 c1_i32_1467
  let v1679 : BitVec 32 := Scalar.addi c0_i32_1468 v1678
  v1679.toNat
def k0_dev60 (d0 : Dev nD) : Nat :=
  let c0_i32_1476 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1475 : BitVec 32 := 1#32
  let v1687 : BitVec 32 := Scalar.muli v13 c1_i32_1475
  let v1688 : BitVec 32 := Scalar.addi c0_i32_1476 v1687
  v1688.toNat
def k0_dev61 (d0 : Dev nD) : Nat :=
  let c0_i32_1525 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1524 : BitVec 32 := 1#32
  let v1739 : BitVec 32 := Scalar.muli v13 c1_i32_1524
  let v1740 : BitVec 32 := Scalar.addi c0_i32_1525 v1739
  v1740.toNat
def k0_dev62 (d0 : Dev nD) : Nat :=
  let c0_i32_1528 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1527 : BitVec 32 := 1#32
  let v1741 : BitVec 32 := Scalar.muli v24 c1_i32_1527
  let v1742 : BitVec 32 := Scalar.addi c0_i32_1528 v1741
  v1742.toNat
def k0_off5 (d0 : Dev nD) (c0_i32_1530 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1529 : BitVec 32 := 1#32
  let v1743 : BitVec 32 := Scalar.addi v2 c1_i32_1529
  let v1744 : BitVec 32 := Scalar.subi v1743 c0_i32_1530
  let c16_i32_1531 : BitVec 32 := 16#32
  let c0_i32_1532 : BitVec 32 := 0#32
  let v1745 : BitVec 1 := Scalar.cmpi .eq c16_i32_1531 c0_i32_1532
  let c1_i32_1533 : BitVec 32 := 1#32
  let v1746 : BitVec 32 := Scalar.select v1745 c1_i32_1533 c16_i32_1531
  let v1747 : BitVec 32 := Scalar.remsi v1744 v1746
  let c0_i32_1535 : BitVec 32 := 0#32
  let v1749 : BitVec 1 := Scalar.cmpi .slt v1747 c0_i32_1535
  let c0_i32_1536 : BitVec 32 := 0#32
  let v1750 : BitVec 1 := Scalar.cmpi .slt v1746 c0_i32_1536
  let v1751 : BitVec 1 := Scalar.xori v1749 v1750
  let c0_i32_1534 : BitVec 32 := 0#32
  let v1748 : BitVec 1 := Scalar.cmpi .ne v1747 c0_i32_1534
  let v1752 : BitVec 1 := Scalar.andi v1751 v1748
  let v1753 : BitVec 32 := Scalar.addi v1747 v1746
  let v1754 : BitVec 32 := Scalar.select v1752 v1753 v1747
  let c128_i32_1545 : BitVec 32 := 128#32
  let v1767 : BitVec 32 := Scalar.muli v1754 c128_i32_1545
  let c0_i32_1559 : BitVec 32 := 0#32
  ![v1767.toNat, 0]
def k0_dev63 (d0 : Dev nD) : Nat :=
  let c0_i32_1558 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1557 : BitVec 32 := 1#32
  let v1773 : BitVec 32 := Scalar.muli v24 c1_i32_1557
  let v1774 : BitVec 32 := Scalar.addi c0_i32_1558 v1773
  v1774.toNat
def k0_off6 (d0 : Dev nD) (c0_i32_1538 : BitVec 32) : Fin 2 → Nat :=
  let c2048_i32_1547 : BitVec 32 := 2048#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1537 : BitVec 32 := 1#32
  let v1755 : BitVec 32 := Scalar.subi v2 c1_i32_1537
  let v1756 : BitVec 32 := Scalar.addi v1755 c0_i32_1538
  let c16_i32_1539 : BitVec 32 := 16#32
  let c0_i32_1540 : BitVec 32 := 0#32
  let v1757 : BitVec 1 := Scalar.cmpi .eq c16_i32_1539 c0_i32_1540
  let c1_i32_1541 : BitVec 32 := 1#32
  let v1758 : BitVec 32 := Scalar.select v1757 c1_i32_1541 c16_i32_1539
  let v1759 : BitVec 32 := Scalar.remsi v1756 v1758
  let c0_i32_1543 : BitVec 32 := 0#32
  let v1761 : BitVec 1 := Scalar.cmpi .slt v1759 c0_i32_1543
  let c0_i32_1544 : BitVec 32 := 0#32
  let v1762 : BitVec 1 := Scalar.cmpi .slt v1758 c0_i32_1544
  let v1763 : BitVec 1 := Scalar.xori v1761 v1762
  let c0_i32_1542 : BitVec 32 := 0#32
  let v1760 : BitVec 1 := Scalar.cmpi .ne v1759 c0_i32_1542
  let v1764 : BitVec 1 := Scalar.andi v1763 v1760
  let v1765 : BitVec 32 := Scalar.addi v1759 v1758
  let v1766 : BitVec 32 := Scalar.select v1764 v1765 v1759
  let c128_i32_1546 : BitVec 32 := 128#32
  let v1768 : BitVec 32 := Scalar.muli v1766 c128_i32_1546
  let v1769 : BitVec 32 := Scalar.addi c2048_i32_1547 v1768
  let c0_i32_1565 : BitVec 32 := 0#32
  ![v1769.toNat, 0]
def k0_dev64 (d0 : Dev nD) : Nat :=
  let c0_i32_1564 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1563 : BitVec 32 := 1#32
  let v1781 : BitVec 32 := Scalar.muli v13 c1_i32_1563
  let v1782 : BitVec 32 := Scalar.addi c0_i32_1564 v1781
  v1782.toNat
def k0_dev65 (d0 : Dev nD) : Nat :=
  let c0_i32_1591 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1590 : BitVec 32 := 1#32
  let v1809 : BitVec 32 := Scalar.muli v13 c1_i32_1590
  let v1810 : BitVec 32 := Scalar.addi c0_i32_1591 v1809
  v1810.toNat
def k0_dev66 (d0 : Dev nD) : Nat :=
  let c0_i32_1594 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1593 : BitVec 32 := 1#32
  let v1811 : BitVec 32 := Scalar.muli v24 c1_i32_1593
  let v1812 : BitVec 32 := Scalar.addi c0_i32_1594 v1811
  v1812.toNat
def k0_dev67 (d0 : Dev nD) : Nat :=
  let c0_i32_1624 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1623 : BitVec 32 := 1#32
  let v1843 : BitVec 32 := Scalar.muli v24 c1_i32_1623
  let v1844 : BitVec 32 := Scalar.addi c0_i32_1624 v1843
  v1844.toNat
def k0_dev68 (d0 : Dev nD) : Nat :=
  let c0_i32_1630 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1629 : BitVec 32 := 1#32
  let v1851 : BitVec 32 := Scalar.muli v13 c1_i32_1629
  let v1852 : BitVec 32 := Scalar.addi c0_i32_1630 v1851
  v1852.toNat
def k0_dev69 (d0 : Dev nD) : Nat :=
  let c0_i32_1657 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1656 : BitVec 32 := 1#32
  let v1879 : BitVec 32 := Scalar.muli v13 c1_i32_1656
  let v1880 : BitVec 32 := Scalar.addi c0_i32_1657 v1879
  v1880.toNat
def k0_dev70 (d0 : Dev nD) : Nat :=
  let c0_i32_1660 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1659 : BitVec 32 := 1#32
  let v1881 : BitVec 32 := Scalar.muli v24 c1_i32_1659
  let v1882 : BitVec 32 := Scalar.addi c0_i32_1660 v1881
  v1882.toNat
def k0_dev71 (d0 : Dev nD) : Nat :=
  let c0_i32_1690 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1689 : BitVec 32 := 1#32
  let v1913 : BitVec 32 := Scalar.muli v24 c1_i32_1689
  let v1914 : BitVec 32 := Scalar.addi c0_i32_1690 v1913
  v1914.toNat
def k0_dev72 (d0 : Dev nD) : Nat :=
  let c0_i32_1696 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1695 : BitVec 32 := 1#32
  let v1921 : BitVec 32 := Scalar.muli v13 c1_i32_1695
  let v1922 : BitVec 32 := Scalar.addi c0_i32_1696 v1921
  v1922.toNat
def k0_dev73 (d0 : Dev nD) : Nat :=
  let c0_i32_1723 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1722 : BitVec 32 := 1#32
  let v1949 : BitVec 32 := Scalar.muli v13 c1_i32_1722
  let v1950 : BitVec 32 := Scalar.addi c0_i32_1723 v1949
  v1950.toNat
def k0_dev74 (d0 : Dev nD) : Nat :=
  let c0_i32_1726 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1725 : BitVec 32 := 1#32
  let v1951 : BitVec 32 := Scalar.muli v24 c1_i32_1725
  let v1952 : BitVec 32 := Scalar.addi c0_i32_1726 v1951
  v1952.toNat
def k0_dev75 (d0 : Dev nD) : Nat :=
  let c0_i32_1756 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1755 : BitVec 32 := 1#32
  let v1983 : BitVec 32 := Scalar.muli v24 c1_i32_1755
  let v1984 : BitVec 32 := Scalar.addi c0_i32_1756 v1983
  v1984.toNat
def k0_dev76 (d0 : Dev nD) : Nat :=
  let c0_i32_1762 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1761 : BitVec 32 := 1#32
  let v1991 : BitVec 32 := Scalar.muli v13 c1_i32_1761
  let v1992 : BitVec 32 := Scalar.addi c0_i32_1762 v1991
  v1992.toNat
def k0_dev77 (d0 : Dev nD) : Nat :=
  let c0_i32_1789 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1788 : BitVec 32 := 1#32
  let v2019 : BitVec 32 := Scalar.muli v13 c1_i32_1788
  let v2020 : BitVec 32 := Scalar.addi c0_i32_1789 v2019
  v2020.toNat
def k0_dev78 (d0 : Dev nD) : Nat :=
  let c0_i32_1792 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1791 : BitVec 32 := 1#32
  let v2021 : BitVec 32 := Scalar.muli v24 c1_i32_1791
  let v2022 : BitVec 32 := Scalar.addi c0_i32_1792 v2021
  v2022.toNat
def k0_dev79 (d0 : Dev nD) : Nat :=
  let c0_i32_1822 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1821 : BitVec 32 := 1#32
  let v2053 : BitVec 32 := Scalar.muli v24 c1_i32_1821
  let v2054 : BitVec 32 := Scalar.addi c0_i32_1822 v2053
  v2054.toNat
def k0_dev80 (d0 : Dev nD) : Nat :=
  let c0_i32_1828 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1827 : BitVec 32 := 1#32
  let v2061 : BitVec 32 := Scalar.muli v13 c1_i32_1827
  let v2062 : BitVec 32 := Scalar.addi c0_i32_1828 v2061
  v2062.toNat
def k0_dev81 (d0 : Dev nD) : Nat :=
  let c0_i32_1855 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1854 : BitVec 32 := 1#32
  let v2089 : BitVec 32 := Scalar.muli v13 c1_i32_1854
  let v2090 : BitVec 32 := Scalar.addi c0_i32_1855 v2089
  v2090.toNat
def k0_dev82 (d0 : Dev nD) : Nat :=
  let c0_i32_1858 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1857 : BitVec 32 := 1#32
  let v2091 : BitVec 32 := Scalar.muli v24 c1_i32_1857
  let v2092 : BitVec 32 := Scalar.addi c0_i32_1858 v2091
  v2092.toNat
def k0_dev83 (d0 : Dev nD) : Nat :=
  let c0_i32_1888 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1887 : BitVec 32 := 1#32
  let v2123 : BitVec 32 := Scalar.muli v24 c1_i32_1887
  let v2124 : BitVec 32 := Scalar.addi c0_i32_1888 v2123
  v2124.toNat
def k0_dev84 (d0 : Dev nD) : Nat :=
  let c0_i32_1894 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1893 : BitVec 32 := 1#32
  let v2131 : BitVec 32 := Scalar.muli v13 c1_i32_1893
  let v2132 : BitVec 32 := Scalar.addi c0_i32_1894 v2131
  v2132.toNat
def k0_dev85 (d0 : Dev nD) : Nat :=
  let c0_i32_1921 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1920 : BitVec 32 := 1#32
  let v2159 : BitVec 32 := Scalar.muli v13 c1_i32_1920
  let v2160 : BitVec 32 := Scalar.addi c0_i32_1921 v2159
  v2160.toNat
def k0_dev86 (d0 : Dev nD) : Nat :=
  let c0_i32_1924 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1923 : BitVec 32 := 1#32
  let v2161 : BitVec 32 := Scalar.muli v24 c1_i32_1923
  let v2162 : BitVec 32 := Scalar.addi c0_i32_1924 v2161
  v2162.toNat
def k0_dev87 (d0 : Dev nD) : Nat :=
  let c0_i32_1954 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1953 : BitVec 32 := 1#32
  let v2193 : BitVec 32 := Scalar.muli v24 c1_i32_1953
  let v2194 : BitVec 32 := Scalar.addi c0_i32_1954 v2193
  v2194.toNat
def k0_dev88 (d0 : Dev nD) : Nat :=
  let c0_i32_1960 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1959 : BitVec 32 := 1#32
  let v2201 : BitVec 32 := Scalar.muli v13 c1_i32_1959
  let v2202 : BitVec 32 := Scalar.addi c0_i32_1960 v2201
  v2202.toNat
def k0_dev89 (d0 : Dev nD) : Nat :=
  let c0_i32_1987 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1986 : BitVec 32 := 1#32
  let v2229 : BitVec 32 := Scalar.muli v13 c1_i32_1986
  let v2230 : BitVec 32 := Scalar.addi c0_i32_1987 v2229
  v2230.toNat
def k0_dev90 (d0 : Dev nD) : Nat :=
  let c0_i32_1990 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1989 : BitVec 32 := 1#32
  let v2231 : BitVec 32 := Scalar.muli v24 c1_i32_1989
  let v2232 : BitVec 32 := Scalar.addi c0_i32_1990 v2231
  v2232.toNat
def k0_dev91 (d0 : Dev nD) : Nat :=
  let c0_i32_2020 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2019 : BitVec 32 := 1#32
  let v2263 : BitVec 32 := Scalar.muli v24 c1_i32_2019
  let v2264 : BitVec 32 := Scalar.addi c0_i32_2020 v2263
  v2264.toNat
def k0_dev92 (d0 : Dev nD) : Nat :=
  let c0_i32_2026 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2025 : BitVec 32 := 1#32
  let v2271 : BitVec 32 := Scalar.muli v13 c1_i32_2025
  let v2272 : BitVec 32 := Scalar.addi c0_i32_2026 v2271
  v2272.toNat
def k0_dev93 (d0 : Dev nD) : Nat :=
  let c0_i32_2053 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2052 : BitVec 32 := 1#32
  let v2299 : BitVec 32 := Scalar.muli v13 c1_i32_2052
  let v2300 : BitVec 32 := Scalar.addi c0_i32_2053 v2299
  v2300.toNat
def k0_dev94 (d0 : Dev nD) : Nat :=
  let c0_i32_2056 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2055 : BitVec 32 := 1#32
  let v2301 : BitVec 32 := Scalar.muli v24 c1_i32_2055
  let v2302 : BitVec 32 := Scalar.addi c0_i32_2056 v2301
  v2302.toNat
def k0_dev95 (d0 : Dev nD) : Nat :=
  let c0_i32_2086 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2085 : BitVec 32 := 1#32
  let v2333 : BitVec 32 := Scalar.muli v24 c1_i32_2085
  let v2334 : BitVec 32 := Scalar.addi c0_i32_2086 v2333
  v2334.toNat
def k0_dev96 (d0 : Dev nD) : Nat :=
  let c0_i32_2092 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2091 : BitVec 32 := 1#32
  let v2341 : BitVec 32 := Scalar.muli v13 c1_i32_2091
  let v2342 : BitVec 32 := Scalar.addi c0_i32_2092 v2341
  v2342.toNat
def k0_dev97 (d0 : Dev nD) : Nat :=
  let c0_i32_2119 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2118 : BitVec 32 := 1#32
  let v2369 : BitVec 32 := Scalar.muli v13 c1_i32_2118
  let v2370 : BitVec 32 := Scalar.addi c0_i32_2119 v2369
  v2370.toNat
def k0_dev98 (d0 : Dev nD) : Nat :=
  let c0_i32_2122 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2121 : BitVec 32 := 1#32
  let v2371 : BitVec 32 := Scalar.muli v24 c1_i32_2121
  let v2372 : BitVec 32 := Scalar.addi c0_i32_2122 v2371
  v2372.toNat
def k0_dev99 (d0 : Dev nD) : Nat :=
  let c0_i32_2152 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2151 : BitVec 32 := 1#32
  let v2403 : BitVec 32 := Scalar.muli v24 c1_i32_2151
  let v2404 : BitVec 32 := Scalar.addi c0_i32_2152 v2403
  v2404.toNat
def k0_dev100 (d0 : Dev nD) : Nat :=
  let c0_i32_2158 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2157 : BitVec 32 := 1#32
  let v2411 : BitVec 32 := Scalar.muli v13 c1_i32_2157
  let v2412 : BitVec 32 := Scalar.addi c0_i32_2158 v2411
  v2412.toNat
def k0_dev101 (d0 : Dev nD) : Nat :=
  let c0_i32_2185 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2184 : BitVec 32 := 1#32
  let v2439 : BitVec 32 := Scalar.muli v13 c1_i32_2184
  let v2440 : BitVec 32 := Scalar.addi c0_i32_2185 v2439
  v2440.toNat
def k0_dev102 (d0 : Dev nD) : Nat :=
  let c0_i32_2188 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2187 : BitVec 32 := 1#32
  let v2441 : BitVec 32 := Scalar.muli v24 c1_i32_2187
  let v2442 : BitVec 32 := Scalar.addi c0_i32_2188 v2441
  v2442.toNat
def k0_dev103 (d0 : Dev nD) : Nat :=
  let c0_i32_2218 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2217 : BitVec 32 := 1#32
  let v2473 : BitVec 32 := Scalar.muli v24 c1_i32_2217
  let v2474 : BitVec 32 := Scalar.addi c0_i32_2218 v2473
  v2474.toNat
def k0_dev104 (d0 : Dev nD) : Nat :=
  let c0_i32_2224 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2223 : BitVec 32 := 1#32
  let v2481 : BitVec 32 := Scalar.muli v13 c1_i32_2223
  let v2482 : BitVec 32 := Scalar.addi c0_i32_2224 v2481
  v2482.toNat
def k0_dev105 (d0 : Dev nD) : Nat :=
  let c0_i32_2251 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2250 : BitVec 32 := 1#32
  let v2509 : BitVec 32 := Scalar.muli v13 c1_i32_2250
  let v2510 : BitVec 32 := Scalar.addi c0_i32_2251 v2509
  v2510.toNat
def k0_dev106 (d0 : Dev nD) : Nat :=
  let c0_i32_2254 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2253 : BitVec 32 := 1#32
  let v2511 : BitVec 32 := Scalar.muli v24 c1_i32_2253
  let v2512 : BitVec 32 := Scalar.addi c0_i32_2254 v2511
  v2512.toNat
def k0_dev107 (d0 : Dev nD) : Nat :=
  let c0_i32_2284 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2283 : BitVec 32 := 1#32
  let v2543 : BitVec 32 := Scalar.muli v24 c1_i32_2283
  let v2544 : BitVec 32 := Scalar.addi c0_i32_2284 v2543
  v2544.toNat
def k0_dev108 (d0 : Dev nD) : Nat :=
  let c0_i32_2290 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2289 : BitVec 32 := 1#32
  let v2551 : BitVec 32 := Scalar.muli v13 c1_i32_2289
  let v2552 : BitVec 32 := Scalar.addi c0_i32_2290 v2551
  v2552.toNat
def k0_dev109 (d0 : Dev nD) : Nat :=
  let c0_i32_2317 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2316 : BitVec 32 := 1#32
  let v2579 : BitVec 32 := Scalar.muli v13 c1_i32_2316
  let v2580 : BitVec 32 := Scalar.addi c0_i32_2317 v2579
  v2580.toNat
def k0_dev110 (d0 : Dev nD) : Nat :=
  let c0_i32_2320 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2319 : BitVec 32 := 1#32
  let v2581 : BitVec 32 := Scalar.muli v24 c1_i32_2319
  let v2582 : BitVec 32 := Scalar.addi c0_i32_2320 v2581
  v2582.toNat
def k0_dev111 (d0 : Dev nD) : Nat :=
  let c0_i32_2350 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2349 : BitVec 32 := 1#32
  let v2613 : BitVec 32 := Scalar.muli v24 c1_i32_2349
  let v2614 : BitVec 32 := Scalar.addi c0_i32_2350 v2613
  v2614.toNat
def k0_dev112 (d0 : Dev nD) : Nat :=
  let c0_i32_2356 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2355 : BitVec 32 := 1#32
  let v2621 : BitVec 32 := Scalar.muli v13 c1_i32_2355
  let v2622 : BitVec 32 := Scalar.addi c0_i32_2356 v2621
  v2622.toNat
def k0_dev113 (d0 : Dev nD) : Nat :=
  let c0_i32_2383 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2382 : BitVec 32 := 1#32
  let v2649 : BitVec 32 := Scalar.muli v13 c1_i32_2382
  let v2650 : BitVec 32 := Scalar.addi c0_i32_2383 v2649
  v2650.toNat
def k0_dev114 (d0 : Dev nD) : Nat :=
  let c0_i32_2386 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2385 : BitVec 32 := 1#32
  let v2651 : BitVec 32 := Scalar.muli v24 c1_i32_2385
  let v2652 : BitVec 32 := Scalar.addi c0_i32_2386 v2651
  v2652.toNat
def k0_dev115 (d0 : Dev nD) : Nat :=
  let c0_i32_2416 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2415 : BitVec 32 := 1#32
  let v2683 : BitVec 32 := Scalar.muli v24 c1_i32_2415
  let v2684 : BitVec 32 := Scalar.addi c0_i32_2416 v2683
  v2684.toNat
def k0_dev116 (d0 : Dev nD) : Nat :=
  let c0_i32_2422 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2421 : BitVec 32 := 1#32
  let v2691 : BitVec 32 := Scalar.muli v13 c1_i32_2421
  let v2692 : BitVec 32 := Scalar.addi c0_i32_2422 v2691
  v2692.toNat
def k0_dev117 (d0 : Dev nD) : Nat :=
  let c0_i32_2449 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2448 : BitVec 32 := 1#32
  let v2719 : BitVec 32 := Scalar.muli v13 c1_i32_2448
  let v2720 : BitVec 32 := Scalar.addi c0_i32_2449 v2719
  v2720.toNat
def k0_dev118 (d0 : Dev nD) : Nat :=
  let c0_i32_2452 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2451 : BitVec 32 := 1#32
  let v2721 : BitVec 32 := Scalar.muli v24 c1_i32_2451
  let v2722 : BitVec 32 := Scalar.addi c0_i32_2452 v2721
  v2722.toNat
def k0_dev119 (d0 : Dev nD) : Nat :=
  let c0_i32_2482 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2481 : BitVec 32 := 1#32
  let v2753 : BitVec 32 := Scalar.muli v24 c1_i32_2481
  let v2754 : BitVec 32 := Scalar.addi c0_i32_2482 v2753
  v2754.toNat
def k0_dev120 (d0 : Dev nD) : Nat :=
  let c0_i32_2488 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2487 : BitVec 32 := 1#32
  let v2761 : BitVec 32 := Scalar.muli v13 c1_i32_2487
  let v2762 : BitVec 32 := Scalar.addi c0_i32_2488 v2761
  v2762.toNat
def k0_dev121 (d0 : Dev nD) : Nat :=
  let c0_i32_2515 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2514 : BitVec 32 := 1#32
  let v2789 : BitVec 32 := Scalar.muli v13 c1_i32_2514
  let v2790 : BitVec 32 := Scalar.addi c0_i32_2515 v2789
  v2790.toNat
def k0_dev122 (d0 : Dev nD) : Nat :=
  let c0_i32_2518 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2517 : BitVec 32 := 1#32
  let v2791 : BitVec 32 := Scalar.muli v24 c1_i32_2517
  let v2792 : BitVec 32 := Scalar.addi c0_i32_2518 v2791
  v2792.toNat
abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== RefSumIdeal.lean ====
abbrev S4096x1024 : Shape := ⟨2, ![4096, 1024]⟩
abbrev S1x128 : Shape := ⟨2, ![1, 128]⟩
abbrev S128x6144 : Shape := ⟨2, ![128, 6144]⟩
abbrev S1024x4096 : Shape := ⟨2, ![1024, 4096]⟩
abbrev S1x4096x1024 : Shape := ⟨3, ![1, 4096, 1024]⟩
abbrev S1x6144 : Shape := ⟨2, ![1, 6144]⟩
abbrev S1x1024 : Shape := ⟨2, ![1, 1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1x4096x4096 : Shape := ⟨3, ![1, 4096, 4096]⟩

abbrev nBuf : Space → Nat
  | .hbm => 72
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x128, .f32⟩
  | .hbm, ⟨2, _⟩ => ⟨S128x6144, .f32⟩
  | .hbm, ⟨3, _⟩ => ⟨S1024x4096, .f32⟩
  | .hbm, ⟨4, _⟩ => ⟨S4096x1024, .f32⟩
  | .hbm, ⟨5, _⟩ => ⟨S1x4096x1024, .f32⟩
  | .hbm, ⟨6, _⟩ => ⟨S1x6144, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S_, .f32⟩
  | .hbm, ⟨14, _⟩ => ⟨S1x4096, .f32⟩
  | .hbm, ⟨15, _⟩ => ⟨S1x4096x1, .f32⟩
  | .hbm, ⟨16, _⟩ => ⟨S_, .f32⟩
  | .hbm, ⟨17, _⟩ => ⟨S1x4096x1, .f32⟩
  | .hbm, ⟨18, _⟩ => ⟨S1x4096x1, .f32⟩
  | .hbm, ⟨19, _⟩ => ⟨S_, .i32⟩
  | .hbm, ⟨20, _⟩ => ⟨S_, .f32⟩
  | .hbm, ⟨21, _⟩ => ⟨S1x4096, .f32⟩
  | .hbm, ⟨22, _⟩ => ⟨S1x4096x1, .f32⟩
  | .hbm, ⟨23, _⟩ => ⟨S_, .f32⟩
  | .hbm, ⟨24, _⟩ => ⟨S1x4096x1, .f32⟩
  | .hbm, ⟨25, _⟩ => ⟨S1x4096x1, .f32⟩
  | .hbm, ⟨26, _⟩ => ⟨S1x4096x1024, .f32⟩
  | .hbm, ⟨27, _⟩ => ⟨S1x4096x1024, .f32⟩
  | .hbm, ⟨28, _⟩ => ⟨S1x4096x1024, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S1x4096, .f32⟩
  | .hbm, ⟨34, _⟩ => ⟨S1x4096x1, .f32⟩
  | .hbm, ⟨35, _⟩ => ⟨S1x4096x1, .f32⟩
  | .hbm, ⟨36, _⟩ => ⟨S1x4096x1, .f32⟩
  | .hbm, ⟨37, _⟩ => ⟨S_, .f32⟩
  | .hbm, ⟨38, _⟩ => ⟨S_, .i1⟩
  | .hbm, ⟨39, _⟩ => ⟨S_, .f32⟩
  | .hbm, ⟨40, _⟩ => ⟨S_, .f32⟩
  | .hbm, ⟨41, _⟩ => ⟨S1x4096x1, .f32⟩
  | .hbm, ⟨42, _⟩ => ⟨S1x4096x1, .f32⟩
  | .hbm, ⟨43, _⟩ => ⟨S1x4096x1024, .f32⟩
  | .hbm, ⟨44, _⟩ => ⟨S1x4096x1024, .f32⟩
  | .hbm, ⟨45, _⟩ => ⟨S_, .f32⟩
  | .hbm, ⟨46, _⟩ => ⟨S1x4096x1, .f32⟩
  | .hbm, ⟨47, _⟩ => ⟨S1x4096x1, .f32⟩
  | .hbm, ⟨48, _⟩ => ⟨S1x4096x1, .f32⟩
  | .hbm, ⟨49, _⟩ => ⟨S1x4096x1024, .f32⟩
  | .hbm, ⟨50, _⟩ => ⟨S1x4096x1024, .f32⟩
  | .hbm, ⟨51, _⟩ => ⟨S1x1x1024, .f32⟩
  | .hbm, ⟨52, _⟩ => ⟨S_, .f32⟩
  | .hbm, ⟨53, _⟩ => ⟨S1x1x1024, .f32⟩
  | .hbm, ⟨54, _⟩ => ⟨S1x1x1024, .f32⟩
  | .hbm, ⟨55, _⟩ => ⟨S1x4096x1024, .f32⟩
  | .hbm, ⟨56, _⟩ => ⟨S1x4096x1024, .f32⟩
  | .hbm, ⟨57, _⟩ => ⟨S1x1x1024, .f32⟩
  | .hbm, ⟨58, _⟩ => ⟨S1x4096x1024, .f32⟩
  | .hbm, ⟨59, _⟩ => ⟨S1x4096x1024, .f32⟩
  | .hbm, ⟨60, _⟩ => ⟨S1x4096x4096, .f32⟩
  | .hbm, ⟨61, _⟩ => ⟨S1x4096x4096, .f32⟩
  | .hbm, ⟨62, _⟩ => ⟨S1x4096x4096, .f32⟩
  | .hbm, ⟨63, _⟩ => ⟨S_, .f32⟩
  | .hbm, ⟨64, _⟩ => ⟨S1x4096x4096, .f32⟩
  | .hbm, ⟨65, _⟩ => ⟨S1x4096x4096, .f32⟩
  | .hbm, ⟨66, _⟩ => ⟨S1x4096x4096, .f32⟩
  | .hbm, ⟨67, _⟩ => ⟨S1x1x1024, .f32⟩
  | .hbm, ⟨68, _⟩ => ⟨S1x4096x1024, .f32⟩
  | .hbm, ⟨69, _⟩ => ⟨S1x4096x1024, .f32⟩
  | .hbm, ⟨70, _⟩ => ⟨S1x4096x1024, .f32⟩
  | .hbm, ⟨71, _⟩ => ⟨S1x4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_c : Ref sig .tc := ⟨.hbm, 19, rfl⟩
abbrev main_call0_cst : Ref sig .tc := ⟨.hbm, 20, rfl⟩
abbrev main_call0_v0 : Ref sig .tc := ⟨.hbm, 21, rfl⟩
abbrev main_call0_v1 : Ref sig .tc := ⟨.hbm, 22, rfl⟩
abbrev main_call0_cst_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_cst_1 : Ref sig .tc := ⟨.hbm, 30, rfl⟩
abbrev main_call0_v8 : Ref sig .tc := ⟨.hbm, 31, rfl⟩
abbrev main_call0_cst_2 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_v12 : Ref sig .tc := ⟨.hbm, 36, rfl⟩
abbrev main_call0_cst_3 : Ref sig .tc := ⟨.hbm, 37, rfl⟩
abbrev main_call0_v13 : Ref sig .tc := ⟨.hbm, 38, rfl⟩
abbrev main_call0_cst_4 : Ref sig .tc := ⟨.hbm, 39, rfl⟩
abbrev main_call0_call0_v0 : Ref sig .tc := ⟨.hbm, 40, rfl⟩
abbrev main_call0_call0_v1 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_cst_1 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_cst_2 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_cst_3 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩

abbrev nD : Nat := 1
abbrev τ : Topo := Topo.v7x

variable {F : FTy → Type} [FloatOps F]
-- ==== Half.lean ====
abbrev S1x4096x1024 : Shape := ⟨3, ![1, 4096, 1024]⟩
abbrev S4096x1024 : Shape := ⟨2, ![4096, 1024]⟩
abbrev S1x128 : Shape := ⟨2, ![1, 128]⟩
abbrev S128x6144 : Shape := ⟨2, ![128, 6144]⟩
abbrev S1024x1024 : Shape := ⟨2, ![1024, 1024]⟩
abbrev S1x6144 : Shape := ⟨2, ![1, 6144]⟩
abbrev S1x1024 : Shape := ⟨2, ![1, 1024]⟩
abbrev S2x128x1024 : Shape := ⟨3, ![2, 128, 1024]⟩
abbrev S2 : Shape := ⟨1, ![2]⟩
abbrev S_ : Shape := ⟨0, ![]⟩
abbrev S1 : Shape := ⟨1, ![1]⟩
abbrev S1x128x1024 : Shape := ⟨3, ![1, 128, 1024]⟩
abbrev S128x1024 : Shape := ⟨2, ![128, 1024]⟩

abbrev nBuf : Space → Nat
  | .hbm => 21
  | .vmem => 4
  | .smem => 0
  | _ => 0

abbrev bufTy : (tb : Table) → Fin (tcTables nBuf tb) → BufTy
  | .hbm, ⟨0, _⟩ => ⟨S1x4096x1024, .f32⟩
  | .hbm, ⟨1, _⟩ => ⟨S4096x1024, .bf16⟩
  | .hbm, ⟨2, _⟩ => ⟨S1x128, .f32⟩
  | .hbm, ⟨3, _⟩ => ⟨S128x6144, .f32⟩
  | .hbm, ⟨4, _⟩ => ⟨S1024x1024, .f32⟩
  | .hbm, ⟨5, _⟩ => ⟨S1x6144, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S4096x1024, .f32⟩
  | .hbm, ⟨13, _⟩ => ⟨S1024x1024, .bf16⟩
  | .hbm, ⟨14, _⟩ => ⟨S4096x1024, .f32⟩
  | .hbm, ⟨15, _⟩ => ⟨S4096x1024, .bf16⟩
  | .hbm, ⟨16, _⟩ => ⟨S4096x1024, .bf16⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .local _ .vmem, ⟨0, _⟩ => ⟨S4096x1024, .bf16⟩
  | .local _ .vmem, ⟨1, _⟩ => ⟨S4096x1024, .bf16⟩
  | .local _ .vmem, ⟨2, _⟩ => ⟨S2x128x1024, .bf16⟩
  | .local _ .vmem, ⟨3, _⟩ => ⟨S2x128x1024, .bf16⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 3 → Bool
  | ⟨0, _⟩ => true
  | ⟨1, _⟩ => true
  | ⟨2, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  (ofTc nBuf bufTy 3 10 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 2

abbrev nD : Nat := 16
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v26 : BitVec 32 := Scalar.muli v13 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v28 : BitVec 32 := Scalar.muli v24 c1_i32_17
  let v29 : BitVec 32 := Scalar.addi c0_i32_18 v28
  v29.toNat
def k0_off1 (d0 : Dev nD) (c0_i32_22 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v33 : BitVec 32 := Scalar.subi v2 c0_i32_22
  let c16_i32_23 : BitVec 32 := 16#32
  let c0_i32_24 : BitVec 32 := 0#32
  let v34 : BitVec 1 := Scalar.cmpi .eq c16_i32_23 c0_i32_24
  let c1_i32_25 : BitVec 32 := 1#32
  let v35 : BitVec 32 := Scalar.select v34 c1_i32_25 c16_i32_23
  let v36 : BitVec 32 := Scalar.remsi v33 v35
  let c0_i32_27 : BitVec 32 := 0#32
  let v38 : BitVec 1 := Scalar.cmpi .slt v36 c0_i32_27
  let c0_i32_28 : BitVec 32 := 0#32
  let v39 : BitVec 1 := Scalar.cmpi .slt v35 c0_i32_28
  let v40 : BitVec 1 := Scalar.xori v38 v39
  let c0_i32_26 : BitVec 32 := 0#32
  let v37 : BitVec 1 := Scalar.cmpi .ne v36 c0_i32_26
  let v41 : BitVec 1 := Scalar.andi v40 v37
  let v42 : BitVec 32 := Scalar.addi v36 v35
  let v43 : BitVec 32 := Scalar.select v41 v42 v36
  let c128_i32 : BitVec 32 := 128#32
  let v79 : BitVec 32 := Scalar.muli v43 c128_i32
  let c0_i32_60 : BitVec 32 := 0#32
  ![v79.toNat, 0]
def k0_dev3 (d0 : Dev nD) : Nat :=
  let c0_i32_57 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_56 : BitVec 32 := 1#32
  let v82 : BitVec 32 := Scalar.muli v24 c1_i32_56
  let v83 : BitVec 32 := Scalar.addi c0_i32_57 v82
  v83.toNat
def k0_off2 (d0 : Dev nD) (c0_i32_37 : BitVec 32) : Fin 2 → Nat :=
  let c2048_i32 : BitVec 32 := 2048#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v56 : BitVec 32 := Scalar.addi v2 c0_i32_37
  let c16_i32_38 : BitVec 32 := 16#32
  let c0_i32_39 : BitVec 32 := 0#32
  let v57 : BitVec 1 := Scalar.cmpi .eq c16_i32_38 c0_i32_39
  let c1_i32_40 : BitVec 32 := 1#32
  let v58 : BitVec 32 := Scalar.select v57 c1_i32_40 c16_i32_38
  let v59 : BitVec 32 := Scalar.remsi v56 v58
  let c0_i32_42 : BitVec 32 := 0#32
  let v61 : BitVec 1 := Scalar.cmpi .slt v59 c0_i32_42
  let c0_i32_43 : BitVec 32 := 0#32
  let v62 : BitVec 1 := Scalar.cmpi .slt v58 c0_i32_43
  let v63 : BitVec 1 := Scalar.xori v61 v62
  let c0_i32_41 : BitVec 32 := 0#32
  let v60 : BitVec 1 := Scalar.cmpi .ne v59 c0_i32_41
  let v64 : BitVec 1 := Scalar.andi v63 v60
  let v65 : BitVec 32 := Scalar.addi v59 v58
  let v66 : BitVec 32 := Scalar.select v64 v65 v59
  let c128_i32_52 : BitVec 32 := 128#32
  let v80 : BitVec 32 := Scalar.muli v66 c128_i32_52
  let v81 : BitVec 32 := Scalar.addi c2048_i32 v80
  let c0_i32_68 : BitVec 32 := 0#32
  ![v81.toNat, 0]
def k0_dev4 (d0 : Dev nD) : Nat :=
  let c0_i32_65 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_64 : BitVec 32 := 1#32
  let v91 : BitVec 32 := Scalar.muli v13 c1_i32_64
  let v92 : BitVec 32 := Scalar.addi c0_i32_65 v91
  v92.toNat
def k0_off3 (d0 : Dev nD) (c0_i32_29 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v44 : BitVec 32 := Scalar.subi v2 c0_i32_29
  let c1_i32_30 : BitVec 32 := 1#32
  let v45 : BitVec 32 := Scalar.subi v44 c1_i32_30
  let c16_i32_31 : BitVec 32 := 16#32
  let c0_i32_32 : BitVec 32 := 0#32
  let v46 : BitVec 1 := Scalar.cmpi .eq c16_i32_31 c0_i32_32
  let c1_i32_33 : BitVec 32 := 1#32
  let v47 : BitVec 32 := Scalar.select v46 c1_i32_33 c16_i32_31
  let v48 : BitVec 32 := Scalar.remsi v45 v47
  let c0_i32_35 : BitVec 32 := 0#32
  let v50 : BitVec 1 := Scalar.cmpi .slt v48 c0_i32_35
  let c0_i32_36 : BitVec 32 := 0#32
  let v51 : BitVec 1 := Scalar.cmpi .slt v47 c0_i32_36
  let v52 : BitVec 1 := Scalar.xori v50 v51
  let c0_i32_34 : BitVec 32 := 0#32
  let v49 : BitVec 1 := Scalar.cmpi .ne v48 c0_i32_34
  let v53 : BitVec 1 := Scalar.andi v52 v49
  let v54 : BitVec 32 := Scalar.addi v48 v47
  let v55 : BitVec 32 := Scalar.select v53 v54 v48
  let c128_i32_99 : BitVec 32 := 128#32
  let v124 : BitVec 32 := Scalar.muli v55 c128_i32_99
  let v125 : Index := Scalar.indexCast v124
  let c0_100 : Index := 0#32
  ![v125.toNat, 0]
def k0_off4 (d0 : Dev nD) (c0_i32_44 : BitVec 32) : Fin 2 → Nat :=
  let c2048_i32_106 : BitVec 32 := 2048#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v67 : BitVec 32 := Scalar.addi v2 c0_i32_44
  let c1_i32_45 : BitVec 32 := 1#32
  let v68 : BitVec 32 := Scalar.addi v67 c1_i32_45
  let c16_i32_46 : BitVec 32 := 16#32
  let c0_i32_47 : BitVec 32 := 0#32
  let v69 : BitVec 1 := Scalar.cmpi .eq c16_i32_46 c0_i32_47
  let c1_i32_48 : BitVec 32 := 1#32
  let v70 : BitVec 32 := Scalar.select v69 c1_i32_48 c16_i32_46
  let v71 : BitVec 32 := Scalar.remsi v68 v70
  let c0_i32_50 : BitVec 32 := 0#32
  let v73 : BitVec 1 := Scalar.cmpi .slt v71 c0_i32_50
  let c0_i32_51 : BitVec 32 := 0#32
  let v74 : BitVec 1 := Scalar.cmpi .slt v70 c0_i32_51
  let v75 : BitVec 1 := Scalar.xori v73 v74
  let c0_i32_49 : BitVec 32 := 0#32
  let v72 : BitVec 1 := Scalar.cmpi .ne v71 c0_i32_49
  let v76 : BitVec 1 := Scalar.andi v75 v72
  let v77 : BitVec 32 := Scalar.addi v71 v70
  let v78 : BitVec 32 := Scalar.select v76 v77 v71
  let c128_i32_105 : BitVec 32 := 128#32
  let v133 : BitVec 32 := Scalar.muli v78 c128_i32_105
  let v134 : BitVec 32 := Scalar.addi c2048_i32_106 v133
  let v135 : Index := Scalar.indexCast v134
  let c0_107 : Index := 0#32
  ![v135.toNat, 0]
def k0_dev5 (d0 : Dev nD) : Nat :=
  let c0_i32_114 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_113 : BitVec 32 := 1#32
  let v143 : BitVec 32 := Scalar.muli v13 c1_i32_113
  let v144 : BitVec 32 := Scalar.addi c0_i32_114 v143
  v144.toNat
def k0_dev6 (d0 : Dev nD) : Nat :=
  let c0_i32_117 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_116 : BitVec 32 := 1#32
  let v145 : BitVec 32 := Scalar.muli v24 c1_i32_116
  let v146 : BitVec 32 := Scalar.addi c0_i32_117 v145
  v146.toNat
def k0_dev7 (d0 : Dev nD) : Nat :=
  let c0_i32_155 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_154 : BitVec 32 := 1#32
  let v196 : BitVec 32 := Scalar.muli v24 c1_i32_154
  let v197 : BitVec 32 := Scalar.addi c0_i32_155 v196
  v197.toNat
def k0_dev8 (d0 : Dev nD) : Nat :=
  let c0_i32_163 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_162 : BitVec 32 := 1#32
  let v205 : BitVec 32 := Scalar.muli v13 c1_i32_162
  let v206 : BitVec 32 := Scalar.addi c0_i32_163 v205
  v206.toNat
def k0_dev9 (d0 : Dev nD) : Nat :=
  let c0_i32_211 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_210 : BitVec 32 := 1#32
  let v257 : BitVec 32 := Scalar.muli v13 c1_i32_210
  let v258 : BitVec 32 := Scalar.addi c0_i32_211 v257
  v258.toNat
def k0_dev10 (d0 : Dev nD) : Nat :=
  let c0_i32_214 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_213 : BitVec 32 := 1#32
  let v259 : BitVec 32 := Scalar.muli v24 c1_i32_213
  let v260 : BitVec 32 := Scalar.addi c0_i32_214 v259
  v260.toNat
def k0_dev11 (d0 : Dev nD) : Nat :=
  let c0_i32_256 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_255 : BitVec 32 := 1#32
  let v310 : BitVec 32 := Scalar.muli v24 c1_i32_255
  let v311 : BitVec 32 := Scalar.addi c0_i32_256 v310
  v311.toNat
def k0_dev12 (d0 : Dev nD) : Nat :=
  let c0_i32_264 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_263 : BitVec 32 := 1#32
  let v319 : BitVec 32 := Scalar.muli v13 c1_i32_263
  let v320 : BitVec 32 := Scalar.addi c0_i32_264 v319
  v320.toNat
def k0_dev13 (d0 : Dev nD) : Nat :=
  let c0_i32_313 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_312 : BitVec 32 := 1#32
  let v371 : BitVec 32 := Scalar.muli v13 c1_i32_312
  let v372 : BitVec 32 := Scalar.addi c0_i32_313 v371
  v372.toNat
def k0_dev14 (d0 : Dev nD) : Nat :=
  let c0_i32_316 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_315 : BitVec 32 := 1#32
  let v373 : BitVec 32 := Scalar.muli v24 c1_i32_315
  let v374 : BitVec 32 := Scalar.addi c0_i32_316 v373
  v374.toNat
def k0_dev15 (d0 : Dev nD) : Nat :=
  let c0_i32_357 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_356 : BitVec 32 := 1#32
  let v424 : BitVec 32 := Scalar.muli v24 c1_i32_356
  let v425 : BitVec 32 := Scalar.addi c0_i32_357 v424
  v425.toNat
def k0_dev16 (d0 : Dev nD) : Nat :=
  let c0_i32_365 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_364 : BitVec 32 := 1#32
  let v433 : BitVec 32 := Scalar.muli v13 c1_i32_364
  let v434 : BitVec 32 := Scalar.addi c0_i32_365 v433
  v434.toNat
def k0_dev17 (d0 : Dev nD) : Nat :=
  let c0_i32_414 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_413 : BitVec 32 := 1#32
  let v485 : BitVec 32 := Scalar.muli v13 c1_i32_413
  let v486 : BitVec 32 := Scalar.addi c0_i32_414 v485
  v486.toNat
def k0_dev18 (d0 : Dev nD) : Nat :=
  let c0_i32_417 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_416 : BitVec 32 := 1#32
  let v487 : BitVec 32 := Scalar.muli v24 c1_i32_416
  let v488 : BitVec 32 := Scalar.addi c0_i32_417 v487
  v488.toNat
def k0_dev19 (d0 : Dev nD) : Nat :=
  let c0_i32_458 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_457 : BitVec 32 := 1#32
  let v538 : BitVec 32 := Scalar.muli v24 c1_i32_457
  let v539 : BitVec 32 := Scalar.addi c0_i32_458 v538
  v539.toNat
def k0_dev20 (d0 : Dev nD) : Nat :=
  let c0_i32_466 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_465 : BitVec 32 := 1#32
  let v547 : BitVec 32 := Scalar.muli v13 c1_i32_465
  let v548 : BitVec 32 := Scalar.addi c0_i32_466 v547
  v548.toNat
def k0_dev21 (d0 : Dev nD) : Nat :=
  let c0_i32_515 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_514 : BitVec 32 := 1#32
  let v599 : BitVec 32 := Scalar.muli v13 c1_i32_514
  let v600 : BitVec 32 := Scalar.addi c0_i32_515 v599
  v600.toNat
def k0_dev22 (d0 : Dev nD) : Nat :=
  let c0_i32_518 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_517 : BitVec 32 := 1#32
  let v601 : BitVec 32 := Scalar.muli v24 c1_i32_517
  let v602 : BitVec 32 := Scalar.addi c0_i32_518 v601
  v602.toNat
def k0_dev23 (d0 : Dev nD) : Nat :=
  let c0_i32_559 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_558 : BitVec 32 := 1#32
  let v652 : BitVec 32 := Scalar.muli v24 c1_i32_558
  let v653 : BitVec 32 := Scalar.addi c0_i32_559 v652
  v653.toNat
def k0_dev24 (d0 : Dev nD) : Nat :=
  let c0_i32_567 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_566 : BitVec 32 := 1#32
  let v661 : BitVec 32 := Scalar.muli v13 c1_i32_566
  let v662 : BitVec 32 := Scalar.addi c0_i32_567 v661
  v662.toNat
def k0_dev25 (d0 : Dev nD) : Nat :=
  let c0_i32_616 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_615 : BitVec 32 := 1#32
  let v713 : BitVec 32 := Scalar.muli v13 c1_i32_615
  let v714 : BitVec 32 := Scalar.addi c0_i32_616 v713
  v714.toNat
def k0_dev26 (d0 : Dev nD) : Nat :=
  let c0_i32_619 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_618 : BitVec 32 := 1#32
  let v715 : BitVec 32 := Scalar.muli v24 c1_i32_618
  let v716 : BitVec 32 := Scalar.addi c0_i32_619 v715
  v716.toNat
def k0_dev27 (d0 : Dev nD) : Nat :=
  let c0_i32_660 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_659 : BitVec 32 := 1#32
  let v766 : BitVec 32 := Scalar.muli v24 c1_i32_659
  let v767 : BitVec 32 := Scalar.addi c0_i32_660 v766
  v767.toNat
def k0_dev28 (d0 : Dev nD) : Nat :=
  let c0_i32_668 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_667 : BitVec 32 := 1#32
  let v775 : BitVec 32 := Scalar.muli v13 c1_i32_667
  let v776 : BitVec 32 := Scalar.addi c0_i32_668 v775
  v776.toNat
def k0_dev29 (d0 : Dev nD) : Nat :=
  let c0_i32_717 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_716 : BitVec 32 := 1#32
  let v827 : BitVec 32 := Scalar.muli v13 c1_i32_716
  let v828 : BitVec 32 := Scalar.addi c0_i32_717 v827
  v828.toNat
def k0_dev30 (d0 : Dev nD) : Nat :=
  let c0_i32_720 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_719 : BitVec 32 := 1#32
  let v829 : BitVec 32 := Scalar.muli v24 c1_i32_719
  let v830 : BitVec 32 := Scalar.addi c0_i32_720 v829
  v830.toNat
def k0_dev31 (d0 : Dev nD) : Nat :=
  let c0_i32_761 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_760 : BitVec 32 := 1#32
  let v880 : BitVec 32 := Scalar.muli v24 c1_i32_760
  let v881 : BitVec 32 := Scalar.addi c0_i32_761 v880
  v881.toNat
def k0_dev32 (d0 : Dev nD) : Nat :=
  let c0_i32_769 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_768 : BitVec 32 := 1#32
  let v889 : BitVec 32 := Scalar.muli v13 c1_i32_768
  let v890 : BitVec 32 := Scalar.addi c0_i32_769 v889
  v890.toNat
def k0_dev33 (d0 : Dev nD) : Nat :=
  let c0_i32_818 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_817 : BitVec 32 := 1#32
  let v941 : BitVec 32 := Scalar.muli v13 c1_i32_817
  let v942 : BitVec 32 := Scalar.addi c0_i32_818 v941
  v942.toNat
def k0_dev34 (d0 : Dev nD) : Nat :=
  let c0_i32_821 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_820 : BitVec 32 := 1#32
  let v943 : BitVec 32 := Scalar.muli v24 c1_i32_820
  let v944 : BitVec 32 := Scalar.addi c0_i32_821 v943
  v944.toNat
def k0_dev35 (d0 : Dev nD) : Nat :=
  let c0_i32_862 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_861 : BitVec 32 := 1#32
  let v994 : BitVec 32 := Scalar.muli v24 c1_i32_861
  let v995 : BitVec 32 := Scalar.addi c0_i32_862 v994
  v995.toNat
def k0_dev36 (d0 : Dev nD) : Nat :=
  let c0_i32_870 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_869 : BitVec 32 := 1#32
  let v1003 : BitVec 32 := Scalar.muli v13 c1_i32_869
  let v1004 : BitVec 32 := Scalar.addi c0_i32_870 v1003
  v1004.toNat
def k0_dev37 (d0 : Dev nD) : Nat :=
  let c0_i32_919 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_918 : BitVec 32 := 1#32
  let v1055 : BitVec 32 := Scalar.muli v13 c1_i32_918
  let v1056 : BitVec 32 := Scalar.addi c0_i32_919 v1055
  v1056.toNat
def k0_dev38 (d0 : Dev nD) : Nat :=
  let c0_i32_922 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_921 : BitVec 32 := 1#32
  let v1057 : BitVec 32 := Scalar.muli v24 c1_i32_921
  let v1058 : BitVec 32 := Scalar.addi c0_i32_922 v1057
  v1058.toNat
def k0_dev39 (d0 : Dev nD) : Nat :=
  let c0_i32_963 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_962 : BitVec 32 := 1#32
  let v1108 : BitVec 32 := Scalar.muli v24 c1_i32_962
  let v1109 : BitVec 32 := Scalar.addi c0_i32_963 v1108
  v1109.toNat
def k0_dev40 (d0 : Dev nD) : Nat :=
  let c0_i32_971 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_970 : BitVec 32 := 1#32
  let v1117 : BitVec 32 := Scalar.muli v13 c1_i32_970
  let v1118 : BitVec 32 := Scalar.addi c0_i32_971 v1117
  v1118.toNat
def k0_dev41 (d0 : Dev nD) : Nat :=
  let c0_i32_1020 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1019 : BitVec 32 := 1#32
  let v1169 : BitVec 32 := Scalar.muli v13 c1_i32_1019
  let v1170 : BitVec 32 := Scalar.addi c0_i32_1020 v1169
  v1170.toNat
def k0_dev42 (d0 : Dev nD) : Nat :=
  let c0_i32_1023 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1022 : BitVec 32 := 1#32
  let v1171 : BitVec 32 := Scalar.muli v24 c1_i32_1022
  let v1172 : BitVec 32 := Scalar.addi c0_i32_1023 v1171
  v1172.toNat
def k0_dev43 (d0 : Dev nD) : Nat :=
  let c0_i32_1064 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1063 : BitVec 32 := 1#32
  let v1222 : BitVec 32 := Scalar.muli v24 c1_i32_1063
  let v1223 : BitVec 32 := Scalar.addi c0_i32_1064 v1222
  v1223.toNat
def k0_dev44 (d0 : Dev nD) : Nat :=
  let c0_i32_1072 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1071 : BitVec 32 := 1#32
  let v1231 : BitVec 32 := Scalar.muli v13 c1_i32_1071
  let v1232 : BitVec 32 := Scalar.addi c0_i32_1072 v1231
  v1232.toNat
def k0_dev45 (d0 : Dev nD) : Nat :=
  let c0_i32_1121 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1120 : BitVec 32 := 1#32
  let v1283 : BitVec 32 := Scalar.muli v13 c1_i32_1120
  let v1284 : BitVec 32 := Scalar.addi c0_i32_1121 v1283
  v1284.toNat
def k0_dev46 (d0 : Dev nD) : Nat :=
  let c0_i32_1124 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1123 : BitVec 32 := 1#32
  let v1285 : BitVec 32 := Scalar.muli v24 c1_i32_1123
  let v1286 : BitVec 32 := Scalar.addi c0_i32_1124 v1285
  v1286.toNat
def k0_dev47 (d0 : Dev nD) : Nat :=
  let c0_i32_1165 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1164 : BitVec 32 := 1#32
  let v1336 : BitVec 32 := Scalar.muli v24 c1_i32_1164
  let v1337 : BitVec 32 := Scalar.addi c0_i32_1165 v1336
  v1337.toNat
def k0_dev48 (d0 : Dev nD) : Nat :=
  let c0_i32_1173 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1172 : BitVec 32 := 1#32
  let v1345 : BitVec 32 := Scalar.muli v13 c1_i32_1172
  let v1346 : BitVec 32 := Scalar.addi c0_i32_1173 v1345
  v1346.toNat
def k0_dev49 (d0 : Dev nD) : Nat :=
  let c0_i32_1222 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1221 : BitVec 32 := 1#32
  let v1397 : BitVec 32 := Scalar.muli v13 c1_i32_1221
  let v1398 : BitVec 32 := Scalar.addi c0_i32_1222 v1397
  v1398.toNat
def k0_dev50 (d0 : Dev nD) : Nat :=
  let c0_i32_1225 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1224 : BitVec 32 := 1#32
  let v1399 : BitVec 32 := Scalar.muli v24 c1_i32_1224
  let v1400 : BitVec 32 := Scalar.addi c0_i32_1225 v1399
  v1400.toNat
def k0_dev51 (d0 : Dev nD) : Nat :=
  let c0_i32_1266 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1265 : BitVec 32 := 1#32
  let v1450 : BitVec 32 := Scalar.muli v24 c1_i32_1265
  let v1451 : BitVec 32 := Scalar.addi c0_i32_1266 v1450
  v1451.toNat
def k0_dev52 (d0 : Dev nD) : Nat :=
  let c0_i32_1274 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1273 : BitVec 32 := 1#32
  let v1459 : BitVec 32 := Scalar.muli v13 c1_i32_1273
  let v1460 : BitVec 32 := Scalar.addi c0_i32_1274 v1459
  v1460.toNat
def k0_dev53 (d0 : Dev nD) : Nat :=
  let c0_i32_1323 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1322 : BitVec 32 := 1#32
  let v1511 : BitVec 32 := Scalar.muli v13 c1_i32_1322
  let v1512 : BitVec 32 := Scalar.addi c0_i32_1323 v1511
  v1512.toNat
def k0_dev54 (d0 : Dev nD) : Nat :=
  let c0_i32_1326 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1325 : BitVec 32 := 1#32
  let v1513 : BitVec 32 := Scalar.muli v24 c1_i32_1325
  let v1514 : BitVec 32 := Scalar.addi c0_i32_1326 v1513
  v1514.toNat
def k0_dev55 (d0 : Dev nD) : Nat :=
  let c0_i32_1367 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1366 : BitVec 32 := 1#32
  let v1564 : BitVec 32 := Scalar.muli v24 c1_i32_1366
  let v1565 : BitVec 32 := Scalar.addi c0_i32_1367 v1564
  v1565.toNat
def k0_dev56 (d0 : Dev nD) : Nat :=
  let c0_i32_1375 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1374 : BitVec 32 := 1#32
  let v1573 : BitVec 32 := Scalar.muli v13 c1_i32_1374
  let v1574 : BitVec 32 := Scalar.addi c0_i32_1375 v1573
  v1574.toNat
def k0_dev57 (d0 : Dev nD) : Nat :=
  let c0_i32_1424 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1423 : BitVec 32 := 1#32
  let v1625 : BitVec 32 := Scalar.muli v13 c1_i32_1423
  let v1626 : BitVec 32 := Scalar.addi c0_i32_1424 v1625
  v1626.toNat
def k0_dev58 (d0 : Dev nD) : Nat :=
  let c0_i32_1427 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1426 : BitVec 32 := 1#32
  let v1627 : BitVec 32 := Scalar.muli v24 c1_i32_1426
  let v1628 : BitVec 32 := Scalar.addi c0_i32_1427 v1627
  v1628.toNat
def k0_dev59 (d0 : Dev nD) : Nat :=
  let c0_i32_1468 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1467 : BitVec 32 := 1#32
  let v1678 : BitVec 32 := Scalar.muli v24 c1_i32_1467
  let v1679 : BitVec 32 := Scalar.addi c0_i32_1468 v1678
  v1679.toNat
def k0_dev60 (d0 : Dev nD) : Nat :=
  let c0_i32_1476 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1475 : BitVec 32 := 1#32
  let v1687 : BitVec 32 := Scalar.muli v13 c1_i32_1475
  let v1688 : BitVec 32 := Scalar.addi c0_i32_1476 v1687
  v1688.toNat
def k0_dev61 (d0 : Dev nD) : Nat :=
  let c0_i32_1525 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1524 : BitVec 32 := 1#32
  let v1739 : BitVec 32 := Scalar.muli v13 c1_i32_1524
  let v1740 : BitVec 32 := Scalar.addi c0_i32_1525 v1739
  v1740.toNat
def k0_dev62 (d0 : Dev nD) : Nat :=
  let c0_i32_1528 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1527 : BitVec 32 := 1#32
  let v1741 : BitVec 32 := Scalar.muli v24 c1_i32_1527
  let v1742 : BitVec 32 := Scalar.addi c0_i32_1528 v1741
  v1742.toNat
def k0_off5 (d0 : Dev nD) (c0_i32_1530 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1529 : BitVec 32 := 1#32
  let v1743 : BitVec 32 := Scalar.addi v2 c1_i32_1529
  let v1744 : BitVec 32 := Scalar.subi v1743 c0_i32_1530
  let c16_i32_1531 : BitVec 32 := 16#32
  let c0_i32_1532 : BitVec 32 := 0#32
  let v1745 : BitVec 1 := Scalar.cmpi .eq c16_i32_1531 c0_i32_1532
  let c1_i32_1533 : BitVec 32 := 1#32
  let v1746 : BitVec 32 := Scalar.select v1745 c1_i32_1533 c16_i32_1531
  let v1747 : BitVec 32 := Scalar.remsi v1744 v1746
  let c0_i32_1535 : BitVec 32 := 0#32
  let v1749 : BitVec 1 := Scalar.cmpi .slt v1747 c0_i32_1535
  let c0_i32_1536 : BitVec 32 := 0#32
  let v1750 : BitVec 1 := Scalar.cmpi .slt v1746 c0_i32_1536
  let v1751 : BitVec 1 := Scalar.xori v1749 v1750
  let c0_i32_1534 : BitVec 32 := 0#32
  let v1748 : BitVec 1 := Scalar.cmpi .ne v1747 c0_i32_1534
  let v1752 : BitVec 1 := Scalar.andi v1751 v1748
  let v1753 : BitVec 32 := Scalar.addi v1747 v1746
  let v1754 : BitVec 32 := Scalar.select v1752 v1753 v1747
  let c128_i32_1545 : BitVec 32 := 128#32
  let v1767 : BitVec 32 := Scalar.muli v1754 c128_i32_1545
  let c0_i32_1559 : BitVec 32 := 0#32
  ![v1767.toNat, 0]
def k0_dev63 (d0 : Dev nD) : Nat :=
  let c0_i32_1558 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1557 : BitVec 32 := 1#32
  let v1773 : BitVec 32 := Scalar.muli v24 c1_i32_1557
  let v1774 : BitVec 32 := Scalar.addi c0_i32_1558 v1773
  v1774.toNat
def k0_off6 (d0 : Dev nD) (c0_i32_1538 : BitVec 32) : Fin 2 → Nat :=
  let c2048_i32_1547 : BitVec 32 := 2048#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1537 : BitVec 32 := 1#32
  let v1755 : BitVec 32 := Scalar.subi v2 c1_i32_1537
  let v1756 : BitVec 32 := Scalar.addi v1755 c0_i32_1538
  let c16_i32_1539 : BitVec 32 := 16#32
  let c0_i32_1540 : BitVec 32 := 0#32
  let v1757 : BitVec 1 := Scalar.cmpi .eq c16_i32_1539 c0_i32_1540
  let c1_i32_1541 : BitVec 32 := 1#32
  let v1758 : BitVec 32 := Scalar.select v1757 c1_i32_1541 c16_i32_1539
  let v1759 : BitVec 32 := Scalar.remsi v1756 v1758
  let c0_i32_1543 : BitVec 32 := 0#32
  let v1761 : BitVec 1 := Scalar.cmpi .slt v1759 c0_i32_1543
  let c0_i32_1544 : BitVec 32 := 0#32
  let v1762 : BitVec 1 := Scalar.cmpi .slt v1758 c0_i32_1544
  let v1763 : BitVec 1 := Scalar.xori v1761 v1762
  let c0_i32_1542 : BitVec 32 := 0#32
  let v1760 : BitVec 1 := Scalar.cmpi .ne v1759 c0_i32_1542
  let v1764 : BitVec 1 := Scalar.andi v1763 v1760
  let v1765 : BitVec 32 := Scalar.addi v1759 v1758
  let v1766 : BitVec 32 := Scalar.select v1764 v1765 v1759
  let c128_i32_1546 : BitVec 32 := 128#32
  let v1768 : BitVec 32 := Scalar.muli v1766 c128_i32_1546
  let v1769 : BitVec 32 := Scalar.addi c2048_i32_1547 v1768
  let c0_i32_1565 : BitVec 32 := 0#32
  ![v1769.toNat, 0]
def k0_dev64 (d0 : Dev nD) : Nat :=
  let c0_i32_1564 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1563 : BitVec 32 := 1#32
  let v1781 : BitVec 32 := Scalar.muli v13 c1_i32_1563
  let v1782 : BitVec 32 := Scalar.addi c0_i32_1564 v1781
  v1782.toNat
def k0_dev65 (d0 : Dev nD) : Nat :=
  let c0_i32_1591 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1590 : BitVec 32 := 1#32
  let v1809 : BitVec 32 := Scalar.muli v13 c1_i32_1590
  let v1810 : BitVec 32 := Scalar.addi c0_i32_1591 v1809
  v1810.toNat
def k0_dev66 (d0 : Dev nD) : Nat :=
  let c0_i32_1594 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1593 : BitVec 32 := 1#32
  let v1811 : BitVec 32 := Scalar.muli v24 c1_i32_1593
  let v1812 : BitVec 32 := Scalar.addi c0_i32_1594 v1811
  v1812.toNat
def k0_dev67 (d0 : Dev nD) : Nat :=
  let c0_i32_1624 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1623 : BitVec 32 := 1#32
  let v1843 : BitVec 32 := Scalar.muli v24 c1_i32_1623
  let v1844 : BitVec 32 := Scalar.addi c0_i32_1624 v1843
  v1844.toNat
def k0_dev68 (d0 : Dev nD) : Nat :=
  let c0_i32_1630 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1629 : BitVec 32 := 1#32
  let v1851 : BitVec 32 := Scalar.muli v13 c1_i32_1629
  let v1852 : BitVec 32 := Scalar.addi c0_i32_1630 v1851
  v1852.toNat
def k0_dev69 (d0 : Dev nD) : Nat :=
  let c0_i32_1657 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1656 : BitVec 32 := 1#32
  let v1879 : BitVec 32 := Scalar.muli v13 c1_i32_1656
  let v1880 : BitVec 32 := Scalar.addi c0_i32_1657 v1879
  v1880.toNat
def k0_dev70 (d0 : Dev nD) : Nat :=
  let c0_i32_1660 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1659 : BitVec 32 := 1#32
  let v1881 : BitVec 32 := Scalar.muli v24 c1_i32_1659
  let v1882 : BitVec 32 := Scalar.addi c0_i32_1660 v1881
  v1882.toNat
def k0_dev71 (d0 : Dev nD) : Nat :=
  let c0_i32_1690 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1689 : BitVec 32 := 1#32
  let v1913 : BitVec 32 := Scalar.muli v24 c1_i32_1689
  let v1914 : BitVec 32 := Scalar.addi c0_i32_1690 v1913
  v1914.toNat
def k0_dev72 (d0 : Dev nD) : Nat :=
  let c0_i32_1696 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1695 : BitVec 32 := 1#32
  let v1921 : BitVec 32 := Scalar.muli v13 c1_i32_1695
  let v1922 : BitVec 32 := Scalar.addi c0_i32_1696 v1921
  v1922.toNat
def k0_dev73 (d0 : Dev nD) : Nat :=
  let c0_i32_1723 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1722 : BitVec 32 := 1#32
  let v1949 : BitVec 32 := Scalar.muli v13 c1_i32_1722
  let v1950 : BitVec 32 := Scalar.addi c0_i32_1723 v1949
  v1950.toNat
def k0_dev74 (d0 : Dev nD) : Nat :=
  let c0_i32_1726 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1725 : BitVec 32 := 1#32
  let v1951 : BitVec 32 := Scalar.muli v24 c1_i32_1725
  let v1952 : BitVec 32 := Scalar.addi c0_i32_1726 v1951
  v1952.toNat
def k0_dev75 (d0 : Dev nD) : Nat :=
  let c0_i32_1756 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1755 : BitVec 32 := 1#32
  let v1983 : BitVec 32 := Scalar.muli v24 c1_i32_1755
  let v1984 : BitVec 32 := Scalar.addi c0_i32_1756 v1983
  v1984.toNat
def k0_dev76 (d0 : Dev nD) : Nat :=
  let c0_i32_1762 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1761 : BitVec 32 := 1#32
  let v1991 : BitVec 32 := Scalar.muli v13 c1_i32_1761
  let v1992 : BitVec 32 := Scalar.addi c0_i32_1762 v1991
  v1992.toNat
def k0_dev77 (d0 : Dev nD) : Nat :=
  let c0_i32_1789 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1788 : BitVec 32 := 1#32
  let v2019 : BitVec 32 := Scalar.muli v13 c1_i32_1788
  let v2020 : BitVec 32 := Scalar.addi c0_i32_1789 v2019
  v2020.toNat
def k0_dev78 (d0 : Dev nD) : Nat :=
  let c0_i32_1792 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1791 : BitVec 32 := 1#32
  let v2021 : BitVec 32 := Scalar.muli v24 c1_i32_1791
  let v2022 : BitVec 32 := Scalar.addi c0_i32_1792 v2021
  v2022.toNat
def k0_dev79 (d0 : Dev nD) : Nat :=
  let c0_i32_1822 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1821 : BitVec 32 := 1#32
  let v2053 : BitVec 32 := Scalar.muli v24 c1_i32_1821
  let v2054 : BitVec 32 := Scalar.addi c0_i32_1822 v2053
  v2054.toNat
def k0_dev80 (d0 : Dev nD) : Nat :=
  let c0_i32_1828 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1827 : BitVec 32 := 1#32
  let v2061 : BitVec 32 := Scalar.muli v13 c1_i32_1827
  let v2062 : BitVec 32 := Scalar.addi c0_i32_1828 v2061
  v2062.toNat
def k0_dev81 (d0 : Dev nD) : Nat :=
  let c0_i32_1855 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1854 : BitVec 32 := 1#32
  let v2089 : BitVec 32 := Scalar.muli v13 c1_i32_1854
  let v2090 : BitVec 32 := Scalar.addi c0_i32_1855 v2089
  v2090.toNat
def k0_dev82 (d0 : Dev nD) : Nat :=
  let c0_i32_1858 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1857 : BitVec 32 := 1#32
  let v2091 : BitVec 32 := Scalar.muli v24 c1_i32_1857
  let v2092 : BitVec 32 := Scalar.addi c0_i32_1858 v2091
  v2092.toNat
def k0_dev83 (d0 : Dev nD) : Nat :=
  let c0_i32_1888 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1887 : BitVec 32 := 1#32
  let v2123 : BitVec 32 := Scalar.muli v24 c1_i32_1887
  let v2124 : BitVec 32 := Scalar.addi c0_i32_1888 v2123
  v2124.toNat
def k0_dev84 (d0 : Dev nD) : Nat :=
  let c0_i32_1894 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1893 : BitVec 32 := 1#32
  let v2131 : BitVec 32 := Scalar.muli v13 c1_i32_1893
  let v2132 : BitVec 32 := Scalar.addi c0_i32_1894 v2131
  v2132.toNat
def k0_dev85 (d0 : Dev nD) : Nat :=
  let c0_i32_1921 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1920 : BitVec 32 := 1#32
  let v2159 : BitVec 32 := Scalar.muli v13 c1_i32_1920
  let v2160 : BitVec 32 := Scalar.addi c0_i32_1921 v2159
  v2160.toNat
def k0_dev86 (d0 : Dev nD) : Nat :=
  let c0_i32_1924 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1923 : BitVec 32 := 1#32
  let v2161 : BitVec 32 := Scalar.muli v24 c1_i32_1923
  let v2162 : BitVec 32 := Scalar.addi c0_i32_1924 v2161
  v2162.toNat
def k0_dev87 (d0 : Dev nD) : Nat :=
  let c0_i32_1954 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1953 : BitVec 32 := 1#32
  let v2193 : BitVec 32 := Scalar.muli v24 c1_i32_1953
  let v2194 : BitVec 32 := Scalar.addi c0_i32_1954 v2193
  v2194.toNat
def k0_dev88 (d0 : Dev nD) : Nat :=
  let c0_i32_1960 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1959 : BitVec 32 := 1#32
  let v2201 : BitVec 32 := Scalar.muli v13 c1_i32_1959
  let v2202 : BitVec 32 := Scalar.addi c0_i32_1960 v2201
  v2202.toNat
def k0_dev89 (d0 : Dev nD) : Nat :=
  let c0_i32_1987 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1986 : BitVec 32 := 1#32
  let v2229 : BitVec 32 := Scalar.muli v13 c1_i32_1986
  let v2230 : BitVec 32 := Scalar.addi c0_i32_1987 v2229
  v2230.toNat
def k0_dev90 (d0 : Dev nD) : Nat :=
  let c0_i32_1990 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1989 : BitVec 32 := 1#32
  let v2231 : BitVec 32 := Scalar.muli v24 c1_i32_1989
  let v2232 : BitVec 32 := Scalar.addi c0_i32_1990 v2231
  v2232.toNat
def k0_dev91 (d0 : Dev nD) : Nat :=
  let c0_i32_2020 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2019 : BitVec 32 := 1#32
  let v2263 : BitVec 32 := Scalar.muli v24 c1_i32_2019
  let v2264 : BitVec 32 := Scalar.addi c0_i32_2020 v2263
  v2264.toNat
def k0_dev92 (d0 : Dev nD) : Nat :=
  let c0_i32_2026 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2025 : BitVec 32 := 1#32
  let v2271 : BitVec 32 := Scalar.muli v13 c1_i32_2025
  let v2272 : BitVec 32 := Scalar.addi c0_i32_2026 v2271
  v2272.toNat
def k0_dev93 (d0 : Dev nD) : Nat :=
  let c0_i32_2053 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2052 : BitVec 32 := 1#32
  let v2299 : BitVec 32 := Scalar.muli v13 c1_i32_2052
  let v2300 : BitVec 32 := Scalar.addi c0_i32_2053 v2299
  v2300.toNat
def k0_dev94 (d0 : Dev nD) : Nat :=
  let c0_i32_2056 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2055 : BitVec 32 := 1#32
  let v2301 : BitVec 32 := Scalar.muli v24 c1_i32_2055
  let v2302 : BitVec 32 := Scalar.addi c0_i32_2056 v2301
  v2302.toNat
def k0_dev95 (d0 : Dev nD) : Nat :=
  let c0_i32_2086 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2085 : BitVec 32 := 1#32
  let v2333 : BitVec 32 := Scalar.muli v24 c1_i32_2085
  let v2334 : BitVec 32 := Scalar.addi c0_i32_2086 v2333
  v2334.toNat
def k0_dev96 (d0 : Dev nD) : Nat :=
  let c0_i32_2092 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2091 : BitVec 32 := 1#32
  let v2341 : BitVec 32 := Scalar.muli v13 c1_i32_2091
  let v2342 : BitVec 32 := Scalar.addi c0_i32_2092 v2341
  v2342.toNat
def k0_dev97 (d0 : Dev nD) : Nat :=
  let c0_i32_2119 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2118 : BitVec 32 := 1#32
  let v2369 : BitVec 32 := Scalar.muli v13 c1_i32_2118
  let v2370 : BitVec 32 := Scalar.addi c0_i32_2119 v2369
  v2370.toNat
def k0_dev98 (d0 : Dev nD) : Nat :=
  let c0_i32_2122 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2121 : BitVec 32 := 1#32
  let v2371 : BitVec 32 := Scalar.muli v24 c1_i32_2121
  let v2372 : BitVec 32 := Scalar.addi c0_i32_2122 v2371
  v2372.toNat
def k0_dev99 (d0 : Dev nD) : Nat :=
  let c0_i32_2152 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2151 : BitVec 32 := 1#32
  let v2403 : BitVec 32 := Scalar.muli v24 c1_i32_2151
  let v2404 : BitVec 32 := Scalar.addi c0_i32_2152 v2403
  v2404.toNat
def k0_dev100 (d0 : Dev nD) : Nat :=
  let c0_i32_2158 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2157 : BitVec 32 := 1#32
  let v2411 : BitVec 32 := Scalar.muli v13 c1_i32_2157
  let v2412 : BitVec 32 := Scalar.addi c0_i32_2158 v2411
  v2412.toNat
def k0_dev101 (d0 : Dev nD) : Nat :=
  let c0_i32_2185 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2184 : BitVec 32 := 1#32
  let v2439 : BitVec 32 := Scalar.muli v13 c1_i32_2184
  let v2440 : BitVec 32 := Scalar.addi c0_i32_2185 v2439
  v2440.toNat
def k0_dev102 (d0 : Dev nD) : Nat :=
  let c0_i32_2188 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2187 : BitVec 32 := 1#32
  let v2441 : BitVec 32 := Scalar.muli v24 c1_i32_2187
  let v2442 : BitVec 32 := Scalar.addi c0_i32_2188 v2441
  v2442.toNat
def k0_dev103 (d0 : Dev nD) : Nat :=
  let c0_i32_2218 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2217 : BitVec 32 := 1#32
  let v2473 : BitVec 32 := Scalar.muli v24 c1_i32_2217
  let v2474 : BitVec 32 := Scalar.addi c0_i32_2218 v2473
  v2474.toNat
def k0_dev104 (d0 : Dev nD) : Nat :=
  let c0_i32_2224 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2223 : BitVec 32 := 1#32
  let v2481 : BitVec 32 := Scalar.muli v13 c1_i32_2223
  let v2482 : BitVec 32 := Scalar.addi c0_i32_2224 v2481
  v2482.toNat
def k0_dev105 (d0 : Dev nD) : Nat :=
  let c0_i32_2251 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2250 : BitVec 32 := 1#32
  let v2509 : BitVec 32 := Scalar.muli v13 c1_i32_2250
  let v2510 : BitVec 32 := Scalar.addi c0_i32_2251 v2509
  v2510.toNat
def k0_dev106 (d0 : Dev nD) : Nat :=
  let c0_i32_2254 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2253 : BitVec 32 := 1#32
  let v2511 : BitVec 32 := Scalar.muli v24 c1_i32_2253
  let v2512 : BitVec 32 := Scalar.addi c0_i32_2254 v2511
  v2512.toNat
def k0_dev107 (d0 : Dev nD) : Nat :=
  let c0_i32_2284 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2283 : BitVec 32 := 1#32
  let v2543 : BitVec 32 := Scalar.muli v24 c1_i32_2283
  let v2544 : BitVec 32 := Scalar.addi c0_i32_2284 v2543
  v2544.toNat
def k0_dev108 (d0 : Dev nD) : Nat :=
  let c0_i32_2290 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2289 : BitVec 32 := 1#32
  let v2551 : BitVec 32 := Scalar.muli v13 c1_i32_2289
  let v2552 : BitVec 32 := Scalar.addi c0_i32_2290 v2551
  v2552.toNat
def k0_dev109 (d0 : Dev nD) : Nat :=
  let c0_i32_2317 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2316 : BitVec 32 := 1#32
  let v2579 : BitVec 32 := Scalar.muli v13 c1_i32_2316
  let v2580 : BitVec 32 := Scalar.addi c0_i32_2317 v2579
  v2580.toNat
def k0_dev110 (d0 : Dev nD) : Nat :=
  let c0_i32_2320 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2319 : BitVec 32 := 1#32
  let v2581 : BitVec 32 := Scalar.muli v24 c1_i32_2319
  let v2582 : BitVec 32 := Scalar.addi c0_i32_2320 v2581
  v2582.toNat
def k0_dev111 (d0 : Dev nD) : Nat :=
  let c0_i32_2350 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2349 : BitVec 32 := 1#32
  let v2613 : BitVec 32 := Scalar.muli v24 c1_i32_2349
  let v2614 : BitVec 32 := Scalar.addi c0_i32_2350 v2613
  v2614.toNat
def k0_dev112 (d0 : Dev nD) : Nat :=
  let c0_i32_2356 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2355 : BitVec 32 := 1#32
  let v2621 : BitVec 32 := Scalar.muli v13 c1_i32_2355
  let v2622 : BitVec 32 := Scalar.addi c0_i32_2356 v2621
  v2622.toNat
def k0_dev113 (d0 : Dev nD) : Nat :=
  let c0_i32_2383 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2382 : BitVec 32 := 1#32
  let v2649 : BitVec 32 := Scalar.muli v13 c1_i32_2382
  let v2650 : BitVec 32 := Scalar.addi c0_i32_2383 v2649
  v2650.toNat
def k0_dev114 (d0 : Dev nD) : Nat :=
  let c0_i32_2386 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2385 : BitVec 32 := 1#32
  let v2651 : BitVec 32 := Scalar.muli v24 c1_i32_2385
  let v2652 : BitVec 32 := Scalar.addi c0_i32_2386 v2651
  v2652.toNat
def k0_dev115 (d0 : Dev nD) : Nat :=
  let c0_i32_2416 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2415 : BitVec 32 := 1#32
  let v2683 : BitVec 32 := Scalar.muli v24 c1_i32_2415
  let v2684 : BitVec 32 := Scalar.addi c0_i32_2416 v2683
  v2684.toNat
def k0_dev116 (d0 : Dev nD) : Nat :=
  let c0_i32_2422 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2421 : BitVec 32 := 1#32
  let v2691 : BitVec 32 := Scalar.muli v13 c1_i32_2421
  let v2692 : BitVec 32 := Scalar.addi c0_i32_2422 v2691
  v2692.toNat
def k0_dev117 (d0 : Dev nD) : Nat :=
  let c0_i32_2449 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2448 : BitVec 32 := 1#32
  let v2719 : BitVec 32 := Scalar.muli v13 c1_i32_2448
  let v2720 : BitVec 32 := Scalar.addi c0_i32_2449 v2719
  v2720.toNat
def k0_dev118 (d0 : Dev nD) : Nat :=
  let c0_i32_2452 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2451 : BitVec 32 := 1#32
  let v2721 : BitVec 32 := Scalar.muli v24 c1_i32_2451
  let v2722 : BitVec 32 := Scalar.addi c0_i32_2452 v2721
  v2722.toNat
def k0_dev119 (d0 : Dev nD) : Nat :=
  let c0_i32_2482 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2481 : BitVec 32 := 1#32
  let v2753 : BitVec 32 := Scalar.muli v24 c1_i32_2481
  let v2754 : BitVec 32 := Scalar.addi c0_i32_2482 v2753
  v2754.toNat
def k0_dev120 (d0 : Dev nD) : Nat :=
  let c0_i32_2488 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2487 : BitVec 32 := 1#32
  let v2761 : BitVec 32 := Scalar.muli v13 c1_i32_2487
  let v2762 : BitVec 32 := Scalar.addi c0_i32_2488 v2761
  v2762.toNat
def k0_dev121 (d0 : Dev nD) : Nat :=
  let c0_i32_2515 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2514 : BitVec 32 := 1#32
  let v2789 : BitVec 32 := Scalar.muli v13 c1_i32_2514
  let v2790 : BitVec 32 := Scalar.addi c0_i32_2515 v2789
  v2790.toNat
def k0_dev122 (d0 : Dev nD) : Nat :=
  let c0_i32_2518 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2517 : BitVec 32 := 1#32
  let v2791 : BitVec 32 := Scalar.muli v24 c1_i32_2517
  let v2792 : BitVec 32 := Scalar.addi c0_i32_2518 v2791
  v2792.toNat
abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== RefHalfIdeal.lean ====
abbrev S1x4096x1024 : Shape := ⟨3, ![1, 4096, 1024]⟩
abbrev S4096x16384 : Shape := ⟨2, ![4096, 16384]⟩
abbrev S1x128 : Shape := ⟨2, ![1, 128]⟩
abbrev S128x6144 : Shape := ⟨2, ![128, 6144]⟩
abbrev S16384x1024 : Shape := ⟨2, ![16384, 1024]⟩
abbrev S1x4096x16384 : Shape := ⟨3, ![1, 4096, 16384]⟩
abbrev S1x6144 : Shape := ⟨2, ![1, 6144]⟩
abbrev S1x1024 : Shape := ⟨2, ![1, 1024]⟩
abbrev S1x1x1024 : Shape := ⟨3, ![1, 1, 1024]⟩
abbrev S4096x1024 : Shape := ⟨2, ![4096, 1024]⟩

abbrev nBuf : Space → Nat
  | .hbm => 20
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S4096x16384, .bf16⟩
  | .hbm, ⟨2, _⟩ => ⟨S1x128, .f32⟩
  | .hbm, ⟨3, _⟩ => ⟨S128x6144, .f32⟩
  | .hbm, ⟨4, _⟩ => ⟨S16384x1024, .f32⟩
  | .hbm, ⟨5, _⟩ => ⟨S4096x16384, .f32⟩
  | .hbm, ⟨6, _⟩ => ⟨S1x4096x16384, .f32⟩
  | .hbm, ⟨7, _⟩ => ⟨S1x6144, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x4096x1024, .f32⟩
  | .hbm, ⟨15, _⟩ => ⟨S1x1x1024, .f32⟩
  | .hbm, ⟨16, _⟩ => ⟨S1x4096x1024, .f32⟩
  | .hbm, ⟨17, _⟩ => ⟨S1x4096x1024, .f32⟩
  | .hbm, ⟨18, _⟩ => ⟨S1x4096x1024, .f32⟩
  | .hbm, ⟨19, _⟩ => ⟨S4096x1024, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Proof.OnlineSoftmax.lean ====
/-
  The arithmetic of attention over blocks of keys, on the extended reals: a row of scores `s`, a row of values `v`, and
  the three running quantities (greatest score, sum of the weights, weighted sum of the values) of a pass over blocks.
  Nothing here mentions a program.
-/
module

public import Idealize.ShloMosaic.Lib.Pointwise

@[expose] public section

noncomputable section

namespace Cert.OnlineSoftmax

open Idealize.ShloMosaic

theorem exp_bot : Ideal.exp ⊥ = 0 := rfl

/-- The exponential of an extended real is nonnegative. -/
theorem exp_nonneg (x : EReal) : 0 ≤ Ideal.exp x := by
  induction x using EReal.rec with
  | bot => exact le_refl _
  | top => exact le_top
  | coe r => exact EReal.coe_nonneg.2 (Real.exp_pos r).le

/-- The exponential of a difference `a - b` with `a ≤ b` is not infinite. -/
theorem exp_sub_ne_top {a b : EReal} (h : a ≤ b) : Ideal.exp (a - b) ≠ ⊤ := by
  induction b using EReal.rec with
  | bot => simp only [le_bot_iff] at h; subst h; simp [exp_bot]
  | top => rw [EReal.sub_top]; simp [exp_bot]
  | coe r =>
    induction a using EReal.rec with
    | bot => rw [EReal.bot_sub]; simp [exp_bot]
    | top => simp at h
    | coe q => rw [← EReal.coe_sub]; exact EReal.coe_ne_top _

/-- Rebasing a weight: for `s ≤ m ≤ m'`, the weight of `s` against `m`, times the weight of `m` against `m'`, is the
    weight of `s` against `m'`. This holds at the infinities too. -/
theorem exp_rebase {s m m' : EReal} (h : s ≤ m) (h' : m ≤ m') :
    Ideal.exp (s - m) * Ideal.exp (m - m') = Ideal.exp (s - m') := by
  induction m' using EReal.rec with
  | bot =>
    simp only [le_bot_iff] at h'; subst h'
    simp only [le_bot_iff] at h; subst h
    simp [exp_bot]
  | top => rw [EReal.sub_top, EReal.sub_top]; simp [exp_bot]
  | coe r =>
    induction m using EReal.rec with
    | bot =>
      simp only [le_bot_iff] at h; subst h
      rw [EReal.bot_sub, EReal.bot_sub]; simp [exp_bot]
    | top => simp at h'
    | coe q =>
      induction s using EReal.rec with
      | bot => rw [EReal.bot_sub, EReal.bot_sub]; simp [exp_bot]
      | top => simp at h
      | coe p =>
        rw [← EReal.coe_sub, ← EReal.coe_sub, ← EReal.coe_sub]
        show ((Real.exp _ : ℝ) : EReal) * ((Real.exp _ : ℝ) : EReal) = ((Real.exp _ : ℝ) : EReal)
        rw [← EReal.coe_mul, ← Real.exp_add]
        congr 2; ring

/-- A finite nonnegative factor distributes over a finite sum of extended reals. -/
theorem sum_mul_of_nonneg {ι : Type} (A : Finset ι) (f : ι → EReal) {a : EReal} (h0 : 0 ≤ a) (ht : a ≠ ⊤) :
    (∑ i ∈ A, f i) * a = ∑ i ∈ A, f i * a := by
  classical
  induction A using Finset.induction_on with
  | empty => simp
  | insert i A hi ih =>
    rw [Finset.sum_insert hi, Finset.sum_insert hi, ← ih, EReal.right_distrib_of_nonneg_of_ne_top h0 ht]

variable (s v : ℕ → EReal)

/-- The greatest of the first `n` scores (`⊥` when there is none). -/
def top (n : ℕ) : EReal := (Finset.range n).sup s

/-- The sum of the weights of the first `n` keys against `m`. -/
def weight (n : ℕ) (m : EReal) : EReal := ∑ j ∈ Finset.range n, Ideal.exp (s j - m)

/-- The weighted sum of the values of the first `n` keys against `m`. -/
def mix (n : ℕ) (m : EReal) : EReal := ∑ j ∈ Finset.range n, v j * Ideal.exp (s j - m)

theorem le_top_of_mem {n j : ℕ} (h : j ∈ Finset.range n) : s j ≤ top s n := Finset.le_sup h

theorem top_zero : top s 0 = ⊥ := rfl
theorem weight_zero (m : EReal) : weight s 0 m = 0 := rfl
theorem mix_zero (m : EReal) : mix s v 0 m = 0 := rfl

/-- The greatest score of a longer row: that of the shorter one against that of the block added. -/
theorem top_add (n k : ℕ) : max (top s n) ((Finset.univ : Finset (Fin k)).fold max ⊥ fun j : Fin k => s (n + j)) = top s (n + k) := by
  have e : ((Finset.univ : Finset (Fin k)).fold max ⊥ fun j : Fin k => s (n + j)) = Finset.univ.sup fun j : Fin k => s (n + j) := rfl
  rw [e]
  apply le_antisymm
  · refine max_le (Finset.sup_mono ?_) (Finset.sup_le fun j _ => Finset.le_sup (f := s) ?_)
    · exact Finset.range_subset_range.2 (Nat.le_add_right n k)
    · exact Finset.mem_range.2 (by have := j.isLt; omega)
  · refine Finset.sup_le fun j hj => ?_
    rw [Finset.mem_range] at hj
    by_cases h : j < n
    · exact (Finset.le_sup (f := s) (Finset.mem_range.2 h)).trans (le_max_left _ _)
    · have e' : s j = s (n + ((⟨j - n, by omega⟩ : Fin k) : ℕ)) := congrArg s (by simp only; omega)
      rw [e']
      exact (Finset.le_sup (f := fun j : Fin k => s (n + j)) (Finset.mem_univ _)).trans (le_max_right _ _)

/-- A sum over the first `n + k` keys, cut at `n`. -/
theorem sum_add (f : ℕ → EReal) (n k : ℕ) :
    (∑ j ∈ Finset.range n, f j) + ∑ j : Fin k, f (n + j) = ∑ j ∈ Finset.range (n + k), f j := by
  rw [Finset.sum_range_add, Finset.sum_range (fun j => f (n + j))]

theorem top_mono {n k : ℕ} : top s n ≤ top s (n + k) := Finset.sup_mono (Finset.range_subset_range.2 (Nat.le_add_right n k))

/-- One block's step of the running sum of weights. -/
theorem weight_step (n k : ℕ) :
    weight s n (top s n) * Ideal.exp (top s n - top s (n + k)) + ∑ j : Fin k, Ideal.exp (s (n + j) - top s (n + k))
      = weight s (n + k) (top s (n + k)) := by
  unfold weight
  rw [sum_mul_of_nonneg _ _ (exp_nonneg _) (exp_sub_ne_top (top_mono s)),
    Finset.sum_congr rfl fun j hj => exp_rebase (le_top_of_mem s hj) (top_mono s),
    sum_add (fun j => Ideal.exp (s j - top s (n + k)))]

/-- One block's step of the running weighted sum of values. -/
theorem mix_step (n k : ℕ) :
    mix s v n (top s n) * Ideal.exp (top s n - top s (n + k)) + ∑ j : Fin k, v (n + j) * Ideal.exp (s (n + j) - top s (n + k))
      = mix s v (n + k) (top s (n + k)) := by
  unfold mix
  rw [sum_mul_of_nonneg _ _ (exp_nonneg _) (exp_sub_ne_top (top_mono s)),
    Finset.sum_congr rfl fun j hj => (mul_assoc _ _ _).trans (congrArg (v j * ·) (exp_rebase (le_top_of_mem s hj) (top_mono s))),
    sum_add (fun j => v j * Ideal.exp (s j - top s (n + k)))]

end Cert.OnlineSoftmax

end
-- ==== Proof.RefTerm.lean ====
/-
  The reference's result as a few named stages: the scores of one block of 1024 keys, the running greatest score, the
  rescaling factor, the weights, the running sum of weights and the running weighted sum of values; each stage read at
  an index, and the whole result read at an index.
-/
module

public import proofs.«01_k».proof.Proof.Gen.RefAttentionIdeal.Run
public import proofs.«01_k».proof.Proof.OnlineSoftmax

@[expose] public section

set_option maxRecDepth 16384

noncomputable section

namespace Cert.RefTerm

open Idealize.ShloMosaic Idealize.ShloMosaic.TcCoe Idealize.SL.Sem Cert.RefAttentionIdeal Cert.RefAttentionIdeal.Gen

/-- An array of 8 heads, as the reference views a matrix of 1024 columns. -/
def heads (x : FVec Ideal S4096x1024 .bf16) : FVec Ideal S1x4096x8x128 .f32 :=
  shapeCast _ (extf .f32 x bitsLt_bf16_f32) shapeCasts_S4096x1024_S1x4096x8x128

/-- The scores of all queries against one block of keys. -/
def scores (q : FVec Ideal S1x4096x8x128 .f32) (k : FVec Ideal S1x1024x8x128 .f32) : FVec Ideal S1x8x4096x1024 .f32 :=
  mulf (Host.dotGeneral dot_S1x4096x8x128_S1x1024x8x128_S1x8x4096x1024_3_3_1_1_02_02 none q k)
    (broadcastInDim S1x8x4096x1024 ![] bcast_S_S1x8x4096x1024 (constant S_ .f32 0x3DB504F3#32))

/-- The greatest score of each query in a block. -/
def blockMax (s : FVec Ideal S1x8x4096x1024 .f32) : FVec Ideal S1x8x4096 .f32 :=
  Host.reduce FloatOps.maximumf s (constant S_ .f32 0xFF800000#32) reducesTo_S1x8x4096x1024_S1x8x4096_d3 h_S_

/-- The running greatest score after a block. -/
def newMax (m : FVec Ideal S1x8x4096x1 .f32) (b : FVec Ideal S1x8x4096 .f32) : FVec Ideal S1x8x4096x1 .f32 :=
  maximumf m (broadcastInDim S1x8x4096x1 ![0, 1, 2] bcast_S1x8x4096_S1x8x4096x1_0_1_2 b)

/-- The factor that rebases what was accumulated against `m` to `m'`. -/
def factor (m m' : FVec Ideal S1x8x4096x1 .f32) : FVec Ideal S1x8x4096x1 .f32 := Host.exp (subf m m')

/-- The weights of a block's keys against `m'`. -/
def weights (s : FVec Ideal S1x8x4096x1024 .f32) (m' : FVec Ideal S1x8x4096x1 .f32) : FVec Ideal S1x8x4096x1024 .f32 :=
  Host.exp (subf s (broadcastInDim S1x8x4096x1024 ![0, 1, 2, 3] bcast_S1x8x4096x1_S1x8x4096x1024_0_1_2_3 m'))

/-- The running sum of weights after a block. -/
def newSum (l a : FVec Ideal S1x8x4096x1 .f32) (p : FVec Ideal S1x8x4096x1024 .f32) : FVec Ideal S1x8x4096x1 .f32 :=
  addf (mulf l a) (broadcastInDim S1x8x4096x1 ![0, 1, 2] bcast_S1x8x4096_S1x8x4096x1_0_1_2
    (Host.reduceAdd p (constant S_ .f32 0x00000000#32) reducesTo_S1x8x4096x1024_S1x8x4096_d3 h_S_))

/-- One quantity per query and head, spread over the 128 columns of a head. -/
def spread (a : FVec Ideal S1x8x4096x1 .f32) : FVec Ideal S1x4096x8x128 .f32 :=
  broadcastInDim S1x4096x8x128 ![0, 1, 2, 3] bcast_S1x4096x8x1_S1x4096x8x128_0_1_2_3
    (transpose S1x4096x8x1 [0, 2, 1, 3] a transposes_S1x8x4096x1_S1x4096x8x1_0_2_1_3)

/-- The running weighted sum of values after a block. -/
def newOut (o : FVec Ideal S1x4096x8x128 .f32) (a : FVec Ideal S1x8x4096x1 .f32) (v : FVec Ideal S1x1024x8x128 .f32)
    (p : FVec Ideal S1x8x4096x1024 .f32) : FVec Ideal S1x4096x8x128 .f32 :=
  addf (mulf o (spread a)) (transpose S1x4096x8x128 [0, 3, 1, 2]
    (Host.dotGeneral dot_S1x1024x8x128_S1x8x4096x1024_S1x8x128x4096_1_3_3_2_02_01 none v p) transposes_S1x8x128x4096_S1x4096x8x128_0_3_1_2)

/-- The three running arrays. -/
structure St where
  /-- greatest score so far -/
  m : FVec Ideal S1x8x4096x1 .f32
  /-- sum of weights so far -/
  l : FVec Ideal S1x8x4096x1 .f32
  /-- weighted sum of values so far -/
  o : FVec Ideal S1x4096x8x128 .f32

/-- The running arrays before any block. -/
def start : St where
  m := broadcastInDim S1x8x4096x1 ![] bcast_S_S1x8x4096x1 (constant S_ .f32 0xFF800000#32)
  l := broadcastInDim S1x8x4096x1 ![] bcast_S_S1x8x4096x1 (constant S_ .f32 0x00000000#32)
  o := broadcastInDim S1x4096x8x128 ![] bcast_S_S1x4096x8x128 (constant S_ .f32 0x00000000#32)

/-- One block's step. -/
def next (q : FVec Ideal S1x4096x8x128 .f32) (k v : FVec Ideal S1x1024x8x128 .f32) (x : St) : St where
  m := newMax x.m (blockMax (scores q k))
  l := newSum x.l (factor x.m (newMax x.m (blockMax (scores q k)))) (weights (scores q k) (newMax x.m (blockMax (scores q k))))
  o := newOut x.o (factor x.m (newMax x.m (blockMax (scores q k)))) v (weights (scores q k) (newMax x.m (blockMax (scores q k))))

/-- The four blocks of 1024 rows. -/
def blk0 (x : FVec Ideal S1x4096x8x128 .f32) : FVec Ideal S1x1024x8x128 .f32 :=
  extractStridedSlice S1x1024x8x128 ![0, 0, 0, 0] x slices_S1x4096x8x128_S1x1024x8x128_0_0_0_0
def blk1 (x : FVec Ideal S1x4096x8x128 .f32) : FVec Ideal S1x1024x8x128 .f32 :=
  extractStridedSlice S1x1024x8x128 ![0, 1024, 0, 0] x slices_S1x4096x8x128_S1x1024x8x128_0_1024_0_0
def blk2 (x : FVec Ideal S1x4096x8x128 .f32) : FVec Ideal S1x1024x8x128 .f32 :=
  extractStridedSlice S1x1024x8x128 ![0, 2048, 0, 0] x slices_S1x4096x8x128_S1x1024x8x128_0_2048_0_0
def blk3 (x : FVec Ideal S1x4096x8x128 .f32) : FVec Ideal S1x1024x8x128 .f32 :=
  extractStridedSlice S1x1024x8x128 ![0, 3072, 0, 0] x slices_S1x4096x8x128_S1x1024x8x128_0_3072_0_0

/-- The quotient at the end, as a matrix of 1024 columns. -/
def finish (x : St) : FVec Ideal S4096x1024 .bf16 :=
  truncf .bf16 (shapeCast S4096x1024 (Host.divf x.o (spread x.l)) shapeCasts_S1x4096x8x128_S4096x1024) bitsLt_bf16_f32

/-- The running arrays after the four blocks. -/
def four (q k v : FVec Ideal S1x4096x8x128 .f32) : St :=
  next q (blk3 k) (blk3 v) (next q (blk2 k) (blk2 v) (next q (blk1 k) (blk1 v) (next q (blk0 k) (blk0 v) start)))

set_option maxHeartbeats 4000000 in
/-- The reference's composed result is the quotient after the four blocks. -/
theorem res_eq (m : (ℓ : Loc nD τ sig) → Buf (Elt Ideal) ℓ) (c : Dev nD) :
    Value.res_main_v105 m c = finish (four (heads (m ((c.tc : Thread nD τ).loc main_arg0)))
      (heads (m ((c.tc : Thread nD τ).loc main_arg1))) (heads (m ((c.tc : Thread nD τ).loc main_arg2)))) := by
  unfold Value.res_main_v105
  rfl

end Cert.RefTerm

end
-- ==== Proof.RefStages.lean ====
/-
  The stages of the reference read at an index, and the reference's result read at an index.
-/
module

public import proofs.«01_k».proof.Proof.RefTerm

@[expose] public section

set_option maxRecDepth 16384

noncomputable section

namespace Cert.RefTerm

open Idealize.ShloMosaic Idealize.ShloMosaic.TcCoe Idealize.SL.Sem Cert.RefAttentionIdeal Cert.RefAttentionIdeal.Gen

/-! ## The stages at an index -/

theorem ofBits_negInf : Ideal.ofBits .f32 0xFF800000#32 = ⊥ := by
  simp [Ideal.ofBits, Ideal.ieee]

/-- A maximum along the last axis of a rank-4 array, read at an index. -/
theorem hostMax_apply {n0 n1 n2 n3 : ℕ} (x : FVec Ideal ⟨4, ![n0, n1, n2, n3]⟩ .f32) (v : FVec Ideal S_ .f32)
    (r : (⟨4, ![n0, n1, n2, n3]⟩ : Shape).ReducesTo [3] ⟨3, ![n0, n1, n2]⟩) (hu : 0 < S_.numel) (a : Fin n0) (b : Fin n1) (c : Fin n2) :
    Host.reduce FloatOps.maximumf x v r hu (ix3 a b c)
      = (Finset.univ : Finset (Fin n3)).fold max (v (Shape.Idx.first hu)) fun k => x (ix4 a b c k) := by
  rw [Host.reduce_eq_fold, Shape.ReducesTo.fold_fiber_r4_a3]
  rfl

/-- The maximum of a block's scores, at an index. -/
theorem blockMax_apply (s : FVec Ideal S1x8x4096x1024 .f32) (h : Fin 8) (i : Fin 4096) :
    blockMax s (ix3 0 h i) = (Finset.univ : Finset (Fin 1024)).fold max ⊥ fun j => s (ix4 0 h i j) := by
  rw [← ofBits_negInf]
  exact hostMax_apply s _ reducesTo_S1x8x4096x1024_S1x8x4096_d3 h_S_ 0 h i

theorem heads_apply (x : FVec Ideal S4096x1024 .bf16) (i : Fin 4096) (h : Fin 8) (d : Fin 128) :
    heads x (ix4 0 i h d) = x (ix2 i ⟨h * 128 + d, by omega⟩) := by
  unfold heads; pointwise

theorem scores_apply (q k) (h : Fin 8) (i : Fin 4096) (j : Fin 1024) :
    scores q k (ix4 0 h i j) = (∑ d : Fin 128, q (ix4 0 i h d) * k (ix4 0 j h d)) * Ideal.ofBits .f32 0x3DB504F3#32 := by
  unfold scores; pointwise

theorem newMax_apply (m b) (h : Fin 8) (i : Fin 4096) :
    newMax m b (ix4 0 h i 0) = max (m (ix4 0 h i 0)) (b (ix3 0 h i)) := by
  unfold newMax; pointwise

theorem factor_apply (m m') (h : Fin 8) (i : Fin 4096) :
    factor m m' (ix4 0 h i 0) = Ideal.exp (m (ix4 0 h i 0) - m' (ix4 0 h i 0)) := by
  unfold factor; pointwise

theorem weights_apply (s m') (h : Fin 8) (i : Fin 4096) (j : Fin 1024) :
    weights s m' (ix4 0 h i j) = Ideal.exp (s (ix4 0 h i j) - m' (ix4 0 h i 0)) := by
  unfold weights; pointwise

theorem newSum_apply (l a p) (h : Fin 8) (i : Fin 4096) :
    newSum l a p (ix4 0 h i 0) = l (ix4 0 h i 0) * a (ix4 0 h i 0) + ∑ j : Fin 1024, p (ix4 0 h i j) := by
  unfold newSum; pointwise

theorem newOut_apply (o a v p) (i : Fin 4096) (h : Fin 8) (d : Fin 128) :
    newOut o a v p (ix4 0 i h d) = o (ix4 0 i h d) * a (ix4 0 h i 0) + ∑ j : Fin 1024, v (ix4 0 j h d) * p (ix4 0 h i j) := by
  unfold newOut spread; pointwise

theorem blk0_apply (x) (j : Fin 1024) (h : Fin 8) (d : Fin 128) :
    blk0 x (ix4 0 j h d) = x (ix4 0 ⟨0 + j, by omega⟩ h d) := by
  unfold blk0; pointwise

theorem blk1_apply (x) (j : Fin 1024) (h : Fin 8) (d : Fin 128) :
    blk1 x (ix4 0 j h d) = x (ix4 0 ⟨1024 + j, by omega⟩ h d) := by
  unfold blk1; pointwise

theorem blk2_apply (x) (j : Fin 1024) (h : Fin 8) (d : Fin 128) :
    blk2 x (ix4 0 j h d) = x (ix4 0 ⟨2048 + j, by omega⟩ h d) := by
  unfold blk2; pointwise

theorem blk3_apply (x) (j : Fin 1024) (h : Fin 8) (d : Fin 128) :
    blk3 x (ix4 0 j h d) = x (ix4 0 ⟨3072 + j, by omega⟩ h d) := by
  unfold blk3; pointwise

theorem finish_apply (x : St) (i : Fin 4096) (h : Fin 8) (d : Fin 128) :
    finish x (ix2 i ⟨h * 128 + d, by omega⟩) = Ideal.div (x.o (ix4 0 i h d)) (x.l (ix4 0 h i 0)) := by
  unfold finish spread; pointwise

end Cert.RefTerm

end
-- ==== Proof.Attention.lean ====
/-
  Attention of one device's eight heads as a function of the three argument matrices, index by index, and that the
  reference's result is this function.
-/
module

public import proofs.«01_k».proof.Proof.RefStages

@[expose] public section

set_option maxRecDepth 16384

noncomputable section

namespace Cert.Attn

open Idealize.ShloMosaic Cert.OnlineSoftmax

/-- A matrix of 4096 rows and 1024 columns: eight heads of 128 columns. -/
abbrev Mat : Type := (⟨2, ![4096, 1024]⟩ : Shape).Idx → EReal

/-- Column `d` of head `h`. -/
def col (h : Fin 8) (d : Fin 128) : Fin 1024 := ⟨h * 128 + d, by omega⟩

/-- The scaled score of query `i` against key `j` in head `h`. -/
def score (q k : Mat) (h : Fin 8) (i : Fin 4096) (j : ℕ) : EReal :=
  (∑ d : Fin 128, q (ix2 i (col h d)) * k (ix2 ⟨j % 4096, by omega⟩ (col h d))) * Ideal.ofBits .f32 0x3DB504F3#32

/-- Column `e` of the values. -/
def value (v : Mat) (e : Fin 1024) (j : ℕ) : EReal := v (ix2 ⟨j % 4096, by omega⟩ e)

/-- The attention of query `i` in head `h`, at column `e`: the values weighted by the exponentials of the scores less the
    greatest score, divided by the sum of these weights. -/
def attnAt (q k v : Mat) (h : Fin 8) (i : Fin 4096) (e : Fin 1024) : EReal :=
  Ideal.div (mix (score q k h i) (value v e) 4096 (top (score q k h i) 4096))
    (weight (score q k h i) 4096 (top (score q k h i) 4096))

/-- The attention of all queries and heads. -/
def attn (q k v : Mat) : Mat := fun x => attnAt q k v ⟨(x 1).val / 128, by have : (x 1).val < 1024 := (x 1).isLt; omega⟩ (x 0) (x 1)

/-! ## The reference computes it -/

section Ref

open Cert.RefTerm Cert.RefAttentionIdeal

/-- The running arrays, at query `i`, head `h` and column `d`, are those of the first `n` keys. -/
def Upto (q k v : Mat) (h : Fin 8) (i : Fin 4096) (d : Fin 128) (n : ℕ) (x : St) : Prop :=
  x.m (ix4 0 h i 0) = top (score q k h i) n
  ∧ x.l (ix4 0 h i 0) = weight (score q k h i) n (top (score q k h i) n)
  ∧ x.o (ix4 0 i h d) = mix (score q k h i) (value v (col h d)) n (top (score q k h i) n)

theorem start_upto (q k v : Mat) (h : Fin 8) (i : Fin 4096) (d : Fin 128) : Upto q k v h i d 0 start := by
  refine ⟨?_, ?_, ?_⟩
  · rw [top_zero, ← ofBits_negInf]; unfold start; pointwise
  · rw [weight_zero]; unfold start; pointwise
  · rw [mix_zero]; unfold start; pointwise

/-- One block's step carries the running arrays of the first `n` keys to those of the first `n + 1024`. -/
theorem next_upto (q k v : Mat) (h : Fin 8) (i : Fin 4096) (d : Fin 128) {n : ℕ} {x : St}
    (hx : Upto q k v h i d n x) (kb vb : FVec Ideal S1x1024x8x128 .f32)
    (hk : ∀ (j : Fin 1024) (d : Fin 128), kb (ix4 0 j h d) = k (ix2 ⟨(n + j) % 4096, by omega⟩ (col h d)))
    (hv : ∀ (j : Fin 1024) (d : Fin 128), vb (ix4 0 j h d) = v (ix2 ⟨(n + j) % 4096, by omega⟩ (col h d))) :
    Upto q k v h i d (n + 1024) (next (heads q) kb vb x) := by
  obtain ⟨hm, hl, ho⟩ := hx
  have hs : ∀ j : Fin 1024, scores (heads q) kb (ix4 0 h i j) = score q k h i (n + j) := by
    intro j
    rw [scores_apply]
    unfold score
    congr 1
    exact Finset.sum_congr rfl fun d _ => by rw [heads_apply, hk]; rfl
  have hM : (next (heads q) kb vb x).m (ix4 0 h i 0) = top (score q k h i) (n + 1024) := by
    show newMax x.m (blockMax (scores (heads q) kb)) (ix4 0 h i 0) = _
    rw [newMax_apply, blockMax_apply, hm, ← top_add]
    congr 2
    exact funext hs
  have hM' : newMax x.m (blockMax (scores (heads q) kb)) (ix4 0 h i 0) = top (score q k h i) (n + 1024) := hM
  refine ⟨hM, ?_, ?_⟩
  · show newSum x.l (factor x.m (newMax x.m (blockMax (scores (heads q) kb)))) (weights (scores (heads q) kb) (newMax x.m (blockMax (scores (heads q) kb)))) (ix4 0 h i 0) = _
    rw [newSum_apply, factor_apply, hM', hm, hl, ← weight_step]
    congr 1
    exact Finset.sum_congr rfl fun j _ => by rw [weights_apply, hM', hs]
  · show newOut x.o (factor x.m (newMax x.m (blockMax (scores (heads q) kb)))) vb (weights (scores (heads q) kb) (newMax x.m (blockMax (scores (heads q) kb)))) (ix4 0 i h d) = _
    rw [newOut_apply, factor_apply, hM', hm, ho, ← mix_step]
    congr 1
    exact Finset.sum_congr rfl fun j _ => by rw [weights_apply, hM', hs, hv]; rfl

theorem four_upto (q k v : Mat) (h : Fin 8) (i : Fin 4096) (d : Fin 128) :
    Upto q k v h i d 4096 (four (heads q) (heads k) (heads v)) := by
  have b0 : ∀ (x : Mat) (j : Fin 1024) (d : Fin 128), blk0 (heads x) (ix4 0 j h d) = x (ix2 ⟨(0 + j) % 4096, by omega⟩ (col h d)) := by
    intro x j d
    rw [blk0_apply, heads_apply]
    exact congrArg x (congrArg (ix2 · (col h d)) (Fin.ext (by simp only; omega)))
  have b1 : ∀ (x : Mat) (j : Fin 1024) (d : Fin 128), blk1 (heads x) (ix4 0 j h d) = x (ix2 ⟨(0 + 1024 + j) % 4096, by omega⟩ (col h d)) := by
    intro x j d
    rw [blk1_apply, heads_apply]
    exact congrArg x (congrArg (ix2 · (col h d)) (Fin.ext (by simp only; omega)))
  have b2 : ∀ (x : Mat) (j : Fin 1024) (d : Fin 128), blk2 (heads x) (ix4 0 j h d) = x (ix2 ⟨(0 + 1024 + 1024 + j) % 4096, by omega⟩ (col h d)) := by
    intro x j d
    rw [blk2_apply, heads_apply]
    exact congrArg x (congrArg (ix2 · (col h d)) (Fin.ext (by simp only; omega)))
  have b3 : ∀ (x : Mat) (j : Fin 1024) (d : Fin 128), blk3 (heads x) (ix4 0 j h d) = x (ix2 ⟨(0 + 1024 + 1024 + 1024 + j) % 4096, by omega⟩ (col h d)) := by
    intro x j d
    rw [blk3_apply, heads_apply]
    exact congrArg x (congrArg (ix2 · (col h d)) (Fin.ext (by simp only; omega)))
  exact next_upto q k v h i d (next_upto q k v h i d (next_upto q k v h i d (next_upto q k v h i d (start_upto q k v h i d)
    _ _ (b0 k) (b0 v)) _ _ (b1 k) (b1 v)) _ _ (b2 k) (b2 v)) _ _ (b3 k) (b3 v)

/-- The reference's result is the attention of its arguments. -/
theorem ref_eq (q k v : Mat) : finish (four (heads q) (heads k) (heads v)) = attn q k v := by
  funext x
  obtain ⟨i, e, rfl⟩ : ∃ (i : Fin 4096) (e : Fin 1024), x = ix2 i e := ⟨x 0, x 1, eq_ix2 x⟩
  obtain ⟨h, d, rfl⟩ : ∃ (h : Fin 8) (d : Fin 128), e = ⟨h * 128 + d, by omega⟩ :=
    ⟨⟨e / 128, by omega⟩, ⟨e % 128, by omega⟩, Fin.ext (by simp only; omega)⟩
  obtain ⟨-, hl, ho⟩ := four_upto q k v h i d
  rw [finish_apply, hl, ho]
  have eh : (⟨(col h d).val / 128, by have := (col h d).isLt; omega⟩ : Fin 8) = h := Fin.ext (by simp only [col]; omega)
  show _ = attnAt q k v ⟨(col h d).val / 128, _⟩ i (col h d)
  rw [eh]
  rfl

end Ref

end Cert.Attn

end
-- ==== Proof.KernelValue.lean ====
/-
  The kernel's result array is the attention of its arguments: what one grid point (one head, one block of 512 queries)
  stores, at an index, and the array block by block.
-/
module

public import proofs.«01_k».proof.Proof.Gen.AttentionIdeal.Value
public import proofs.«01_k».proof.Proof.Attention
public import Idealize.ShloMosaic.Lib.Pipeline.ValueKit

@[expose] public section

set_option maxRecDepth 16384

noncomputable section

namespace Cert.KernelValue

open Cert.AttentionIdeal Cert.AttentionIdeal.Gen Idealize.ShloMosaic Idealize.ShloMosaic.TcCoe Idealize.SL.Sem
open Cert.OnlineSoftmax Cert.Attn

/-- A row of scores of a block of queries against all keys. -/
def rowScore (x0 : FVec Ideal S512x128 .bf16) (x1 : FVec Ideal S4096x128 .bf16) (r : Fin 512) (j : ℕ) : EReal :=
  (∑ d : Fin 128, x0 (ix2 r d) * x1 (ix2 ⟨j % 4096, by omega⟩ d)) * Ideal.ofBits .f32 0x3DB504F3#32

/-- A column of values. -/
def colValue (x2 : FVec Ideal S4096x128 .bf16) (d : Fin 128) (j : ℕ) : EReal := x2 (ix2 ⟨j % 4096, by omega⟩ d)

/-- What a block's body stores, at an index. -/
theorem pay_apply (x0 : FVec Ideal S512x128 .bf16) (x1 x2 : FVec Ideal S4096x128 .bf16) (r : Fin 512) (d : Fin 128) :
    k0_pay1 (F := Ideal) x0 x1 x2 (ix2 r d)
      = Ideal.div (mix (rowScore x0 x1 r) (colValue x2 d) 4096 (top (rowScore x0 x1 r) 4096))
          (weight (rowScore x0 x1 r) 4096 (top (rowScore x0 x1 r) 4096)) := by
  unfold k0_pay1
  pointwise
  rw [RefTerm.ofBits_negInf]
  have es : ∀ x : Fin 4096, (∑ y : Fin 128, x0 (ix2 r y) * x1 (ix2 x y)) * Ideal.ofBits .f32 0x3DB504F3#32 = rowScore x0 x1 r x := by
    intro x
    unfold rowScore
    have e : (⟨(x : ℕ) % 4096, by omega⟩ : Fin 4096) = x := Fin.ext (by simp only; omega)
    rw [e]
  have ev : ∀ x : Fin 4096, x2 (ix2 x d) = colValue x2 d x := by
    intro x
    unfold colValue
    have e : (⟨(x : ℕ) % 4096, by omega⟩ : Fin 4096) = x := Fin.ext (by simp only; omega)
    rw [e]
  simp only [es, ev]
  have et : ((Finset.univ : Finset (Fin 4096)).fold max ⊥ fun x : Fin 4096 => rowScore x0 x1 r x) = top (rowScore x0 x1 r) 4096 := by
    rw [← Nat.zero_add 4096, ← OnlineSoftmax.top_add, top_zero, Nat.zero_add]
    simp only [Nat.zero_add]
    exact (max_eq_right bot_le).symm
  rw [et]
  unfold mix weight
  rw [Finset.sum_range, Finset.sum_range]
  congr 1
  exact Finset.sum_congr rfl fun x _ => mul_comm _ _

/-! ## The blocks in their arrays -/

variable (m : (ℓ : Loc nD τ sig) → Buf (Elt Ideal) ℓ)

/-- The query window moves with the result; the key and value windows move with its head alone. -/
theorem idx : ∀ t : Fin cfg0.N, win0_0.index t 0 = win0_3.index t 0 ∧ win0_0.index t 1 = win0_3.index t 1
    ∧ win0_1.index t 0 = 0 ∧ win0_1.index t 1 = win0_3.index t 1 ∧ win0_2.index t 0 = 0 ∧ win0_2.index t 1 = win0_3.index t 1
    ∧ win0_3.index t 0 < 8 ∧ win0_3.index t 1 < 8 :=
  (by decide +kernel : ∀ t : Fin grid0.N, win0_0.index t 0 = win0_3.index t 0 ∧ win0_0.index t 1 = win0_3.index t 1
    ∧ win0_1.index t 0 = 0 ∧ win0_1.index t 1 = win0_3.index t 1 ∧ win0_2.index t 0 = 0 ∧ win0_2.index t 1 = win0_3.index t 1
    ∧ win0_3.index t 0 < 8 ∧ win0_3.index t 1 < 8)

/-- The result array after the run. -/
theorem result_eq (c : Dev nD) :
    (dats m 0 c).arrAt 3 cfg0.N = attn (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  obtain ⟨r, d, rfl⟩ : ∃ (r : Fin 512) (d : Fin 128), y = ix2 r d := ⟨y 0, y 1, eq_ix2 y⟩
  obtain ⟨e00, e01, e10, e11, e20, e21, l0, l1⟩ := idx t
  have hq : ∀ d : Fin 128, iblk m c 0 t (ix2 r d) = m ((c : Thread nD τ).loc main_arg0) (ix2 (⟨win0_3.index t 0 * 512 + r, by omega⟩ : Fin 4096) (col ⟨win0_3.index t 1, l1⟩ d)) := by
    intro d; blk_ext [iblk, V, e00, e01, col]
  have hk : ∀ (j : Fin 4096) (d : Fin 128), iblk m c 1 t (ix2 j d) = m ((c : Thread nD τ).loc main_arg1) (ix2 j (col ⟨win0_3.index t 1, l1⟩ d)) := by
    intro j d; blk_ext [iblk, V, e10, e11, col]
  have hv : ∀ (j : Fin 4096) (d : Fin 128), iblk m c 2 t (ix2 j d) = m ((c : Thread nD τ).loc main_arg2) (ix2 j (col ⟨win0_3.index t 1, l1⟩ d)) := by
    intro j d; blk_ext [iblk, V, e20, e21, col]
  have he : ((View.whole main_v0).slice (win0_3.rect t)).emb (ix2 r d) = ix2 (⟨win0_3.index t 0 * 512 + r, by omega⟩ : Fin 4096) (col ⟨win0_3.index t 1, l1⟩ d) := by
    blk_ext [col]
  rw [he]
  refine (pay_apply (iblk m c 0 t) (iblk m c 1 t) (iblk m c 2 t) r d).trans ?_
  have es : rowScore (iblk m c 0 t) (iblk m c 1 t) r = score (m ((c : Thread nD τ).loc main_arg0)) (m ((c : Thread nD τ).loc main_arg1))
      ⟨win0_3.index t 1, l1⟩ (⟨win0_3.index t 0 * 512 + r, by omega⟩ : Fin 4096) := by
    funext j
    unfold rowScore score
    congr 1
    exact Finset.sum_congr rfl fun d' _ => by rw [hq, hk]
  have ev : colValue (iblk m c 2 t) d = value (m ((c : Thread nD τ).loc main_arg2)) (col ⟨win0_3.index t 1, l1⟩ d) := by
    funext j
    exact hv _ _
  have eh : (⟨(col ⟨win0_3.index t 1, l1⟩ d).val / 128, by have := (col ⟨win0_3.index t 1, l1⟩ d).isLt; omega⟩ : Fin 8) = ⟨win0_3.index t 1, l1⟩ :=
    Fin.ext (by simp only [col]; omega)
  show _ = attnAt _ _ _ ⟨(col ⟨win0_3.index t 1, l1⟩ d).val / 128, _⟩ _ _
  rw [es, ev, eh]
  rfl

end Cert.KernelValue

end
-- ==== Proof.RowMath.lean ====
/-
# One row of the layer norm and of the activation, as extended reals

The program multiplies by the reciprocal of a root and by the reciprocal of a sum; the reference divides by the root and by the sum.
Both are the same whatever the row holds, because the variance is not negative and the sum is positive.
-/
module

public import proofs.«01_k».proof.Proof.RefStages

@[expose] public section

noncomputable section

namespace Cert.RowMath

open Idealize.ShloMosaic

/-- The number of columns, as the programs write it. -/
def width : EReal := Ideal.ofBits .f32 1149239296#32
/-- The small number added to the variance. -/
def small : EReal := Ideal.ofBits .f32 925353388#32
/-- What the variance would be of no columns. -/
def fill : EReal := Ideal.ofBits .f32 2143289344#32
/-- The number the squares are divided by. -/
def count : EReal := width - (FloatOps.sitofp (F := Ideal) .f32 0#32 : EReal)

/-- A row's mean. -/
def mean (f : Fin 1024 → EReal) : EReal := Ideal.div (∑ k, f k) width
/-- An entry less the row's mean. -/
def cen (f : Fin 1024 → EReal) (k : Fin 1024) : EReal := f k - mean f
/-- A row's variance. -/
def var (f : Fin 1024 → EReal) : EReal :=
  if 0 < count then Ideal.div (∑ k, cen f k * cen f k) count else fill
/-- The reference's layer norm of an entry. -/
def norm (f : Fin 1024 → EReal) (k : Fin 1024) : EReal := Ideal.div (cen f k) (Ideal.sqrt (var f + small))
/-- The reference's activation. -/
def act (h : EReal) : EReal := Ideal.div h (1 + Ideal.exp (-h))

/-- An entry of the modulated layer norm: scaled by one plus a scale and shifted, by the fourth and fifth stretch of `s`. -/
def shifted (f : Fin 1024 → EReal) (s : Fin 6144 → EReal) (k : Fin 1024) : EReal :=
  norm f k * (1 + s ⟨3072 + k.val, by omega⟩) + s ⟨4096 + k.val, by omega⟩
/-- One term of the feed-forward layer's sum: the activated entry of the hidden layer that the column `w1` makes, times `w2`. -/
def term (f : Fin 1024 → EReal) (s : Fin 6144 → EReal) (w1 : Fin 1024 → EReal) (w2 : EReal) : EReal :=
  act (∑ k, shifted f s k * w1 k) * w2

theorem width_eq : width = ((1024 : ℝ) : EReal) := by
  unfold width
  simp [Ideal.ofBits, Ideal.ieee, -EReal.coe_mul]; norm_num

theorem small_pos : 0 < small := by
  have h : small = ((10995116 / 2 ^ 40 : ℝ) : EReal) := by
    unfold small
    simp [Ideal.ofBits, Ideal.ieee, -EReal.coe_mul]; norm_num
  rw [h]
  exact EReal.coe_pos.2 (by norm_num)

theorem count_eq : count = ((1024 : ℝ) : EReal) := by
  have h : (FloatOps.sitofp (F := Ideal) .f32 0#32 : EReal) = 0 := by
    show ((((0#32 : BitVec 32).toInt : ℤ) : ℝ) : EReal) = 0
    simp
  unfold count
  rw [h, sub_zero, width_eq]

/-- No square is negative. -/
theorem sq_nonneg (x : EReal) : 0 ≤ x * x := by
  rcases le_total 0 x with h | h
  · exact mul_nonneg h h
  · rw [← neg_mul_neg]
    exact mul_nonneg (EReal.neg_nonneg.2 h) (EReal.neg_nonneg.2 h)

/-- The variance is not negative. -/
theorem var_nonneg (f : Fin 1024 → EReal) : 0 ≤ var f := by
  unfold var
  rw [if_pos (by rw [count_eq]; exact EReal.coe_pos.2 (by norm_num)), count_eq, Ideal.div_coe (by norm_num : (1024 : ℝ) ≠ 0)]
  exact mul_nonneg (Finset.sum_nonneg fun k _ => sq_nonneg _) (EReal.coe_nonneg.2 (by norm_num))

/-- Multiplying by the reciprocal root of a positive number divides by its root. -/
theorem mul_rsqrt (a v : EReal) (h : 0 < v) : a * Ideal.rsqrt v = Ideal.div a (Ideal.sqrt v) := by
  induction v with
  | bot => exact absurd h (by simp)
  | top =>
    show a * 0 = if (⊤ : EReal) = 0 then (if 0 < a then ⊤ else ⊥) else a * (⊤ : EReal)⁻¹
    rw [if_neg (by simp), EReal.inv_top]
  | coe r =>
    have hr : 0 < r := EReal.coe_pos.1 h
    rw [Ideal.rsqrt_coe, Ideal.sqrt_coe, if_neg (not_lt.2 hr.le), if_neg hr.ne', if_neg (not_lt.2 hr.le),
      Ideal.div_coe (Real.sqrt_pos.2 hr).ne', one_div]

/-- The program's layer norm of an entry is the reference's. -/
theorem norm_mul (f : Fin 1024 → EReal) (k : Fin 1024) : cen f k * Ideal.rsqrt (var f + small) = norm f k :=
  mul_rsqrt _ _ (lt_of_lt_of_le small_pos (le_add_of_nonneg_left (var_nonneg f)))

/-- An exponential is not negative. -/
theorem exp_nonneg (x : EReal) : 0 ≤ Ideal.exp x := by
  induction x with
  | bot => exact le_rfl
  | top => exact le_top
  | coe r => exact EReal.coe_nonneg.2 (Real.exp_pos r).le

/-- The program's activation is the reference's. -/
theorem act_mul (h : EReal) : h * Ideal.div 1 (1 + Ideal.exp (-h)) = act h := by
  have hp : (1 + Ideal.exp (-h) : EReal) ≠ 0 := (lt_of_lt_of_le one_pos (le_add_of_nonneg_right (exp_nonneg _))).ne'
  have hd : ∀ x : EReal, Ideal.div x (1 + Ideal.exp (-h)) = x * (1 + Ideal.exp (-h))⁻¹ := fun x => if_neg hp
  unfold act
  rw [hd, hd, one_mul]

/-- A sum over 4096 places is the sum over the sixteen stretches of 256. -/
theorem sum_stretches (f : Fin 4096 → EReal) :
    ∑ J, f J = ∑ e : Fin 16, ∑ j : Fin 256, f ⟨e.val * 256 + j.val, by omega⟩ := by
  rw [← Finset.sum_product', Finset.univ_product_univ]
  refine (Equiv.sum_comp (finProdFinEquiv (m := 16) (n := 256)) f).symm.trans (Finset.sum_congr rfl fun p _ => congrArg f (Fin.ext ?_))
  show p.2.val + 256 * p.1.val = p.1.val * 256 + p.2.val
  omega

end Cert.RowMath
-- ==== Proof.RingSum.lean ====
/-
# The second half of the block: its reference

The plain reference's run, and what it leaves: the residual plus the gate times the feed-forward layer of the modulated layer norm,
with the weights whole.
-/
module

public import proofs.«01_k».proof.Proof.Gen.RefSumIdeal
public import Idealize.ShloMosaic.Lib.StableHlo.Run
public import Idealize.ShloMosaic.Lib.Layout
public import proofs.«01_k».proof.Proof.RowMath

@[expose] public section

set_option maxRecDepth 20000

noncomputable section

namespace Cert.RingSum

open Cert.RefSumIdeal Cert.RefSumIdeal.Gen Idealize.ShloMosaic Idealize.ShloMosaic.TcCoe Idealize.SL.Sem Idealize.ShloMosaic.StableHlo

variable {F : FTy → Type} [FloatOps F]

/-- What an array of shape `S` holds. -/
abbrev C (F : FTy → Type) [FloatOps F] (S : Shape) : Type := (⟨S, .f32⟩ : BufTy).Contents (Elt F)
/-- A reference to an array of shape `S`. -/
abbrev R (S : Shape) : Type := TRef sig ⟨S, .f32⟩

/-- The reference's operations up to the variance: the vector of scales and shifts cut in six, and the rows' means. -/
abbrev opsA : List (HloOp τ sig (Elt F)) :=
  [StableHlo.reshape main_arg0 main_v0 (rfl : (.f32 : EltTy) = .f32) shapeCasts_S4096x1024_S1x4096x1024,
    binary main_arg1 main_arg2 main_v1 ((fun l r => Host.dotGeneral dot_S1x128_S128x6144_S1x6144_1_0_0_1_n_n none l r) : C F S1x128 → C F S128x6144 → C F S1x6144),
    unary main_v1 main_v2 ((extractStridedSlice S1x1024 ![0, 0] · slices_S1x6144_S1x1024_0_0) : C F S1x6144 → C F S1x1024),
    unary main_v1 main_v3 ((extractStridedSlice S1x1024 ![0, 1024] · slices_S1x6144_S1x1024_0_1024) : C F S1x6144 → C F S1x1024),
    unary main_v1 main_v4 ((extractStridedSlice S1x1024 ![0, 2048] · slices_S1x6144_S1x1024_0_2048) : C F S1x6144 → C F S1x1024),
    unary main_v1 main_v5 ((extractStridedSlice S1x1024 ![0, 3072] · slices_S1x6144_S1x1024_0_3072) : C F S1x6144 → C F S1x1024),
    unary main_v1 main_v6 ((extractStridedSlice S1x1024 ![0, 4096] · slices_S1x6144_S1x1024_0_4096) : C F S1x6144 → C F S1x1024),
    unary main_v1 main_v7 ((extractStridedSlice S1x1024 ![0, 5120] · slices_S1x6144_S1x1024_0_5120) : C F S1x6144 → C F S1x1024),
    nullary main_cst (constant S_ .f32 0x00000000#32),
    binary main_v0 main_cst main_v8 ((fun x v => Host.reduceAdd x v reducesTo_S1x4096x1024_S1x4096_d2 h_S_) : C F S1x4096x1024 → C F S_ → C F S1x4096),
    unary main_v8 main_v9 (broadcastInDim S1x4096x1 ![0, 1] bcast_S1x4096_S1x4096x1_0_1 : C F S1x4096 → C F S1x4096x1),
    nullary main_cst_0 (constant S_ .f32 0x44800000#32),
    unary main_cst_0 main_v10 (broadcastInDim S1x4096x1 ![] bcast_S_S1x4096x1 : C F S_ → C F S1x4096x1),
    binary main_v9 main_v10 main_v11 (Host.divf : C F S1x4096x1 → C F S1x4096x1 → C F S1x4096x1),
    nullary main_c (constantI S_ 32 0#32)]

theorem opsA_sub : (opsA : List (HloOp τ sig (Elt F))).Forall fun op => op.bufs ⊆ tcRefs τ sig :=
  ⟨reshape_bufs_sub .., binary_bufs_sub .., unary_bufs_sub .., unary_bufs_sub .., unary_bufs_sub .., unary_bufs_sub .., unary_bufs_sub .., unary_bufs_sub .., nullary_bufs_sub .., binary_bufs_sub .., unary_bufs_sub .., nullary_bufs_sub .., unary_bufs_sub .., binary_bufs_sub .., nullary_bufs_sub ..⟩

/-- The variance's operations. -/
abbrev opsB : List (HloOp τ sig (Elt F)) :=
  [TRef.nullary (.of main_call0_cst : R S_) (constant S_ .f32 0x00000000#32),
    TRef.binary (.of main_v0 : R S1x4096x1024) (.of main_call0_cst : R S_) (.of main_call0_v0 : R S1x4096) (fun x v => Host.reduceAdd x v reducesTo_S1x4096x1024_S1x4096_d2 h_S_),
    TRef.unary (.of main_call0_v0 : R S1x4096) (.of main_call0_v1 : R S1x4096x1) (broadcastInDim S1x4096x1 ![0, 1] bcast_S1x4096_S1x4096x1_0_1),
    TRef.nullary (.of main_call0_cst_0 : R S_) (constant S_ .f32 0x44800000#32),
    TRef.unary (.of main_call0_cst_0 : R S_) (.of main_call0_v2 : R S1x4096x1) (broadcastInDim S1x4096x1 ![] bcast_S_S1x4096x1),
    TRef.binary (.of main_call0_v1 : R S1x4096x1) (.of main_call0_v2 : R S1x4096x1) (.of main_call0_v3 : R S1x4096x1) Host.divf,
    TRef.unary (.of main_call0_v3 : R S1x4096x1) (.of main_call0_v4 : R S1x4096x1024) (broadcastInDim S1x4096x1024 ![0, 1, 2] bcast_S1x4096x1_S1x4096x1024_0_1_2),
    TRef.binary (.of main_v0 : R S1x4096x1024) (.of main_call0_v4 : R S1x4096x1024) (.of main_call0_v5 : R S1x4096x1024) subf,
    TRef.binary (.of main_call0_v5 : R S1x4096x1024) (.of main_call0_v5 : R S1x4096x1024) (.of main_call0_v6 : R S1x4096x1024) mulf,
    TRef.unary (.of main_c : TRef sig ⟨S_, .i32⟩) (.of main_call0_v7 : R S_) (sitofp .f32),
    TRef.nullary (.of main_call0_cst_1 : R S_) (constant S_ .f32 0x44800000#32),
    TRef.binary (.of main_call0_cst_1 : R S_) (.of main_call0_v7 : R S_) (.of main_call0_v8 : R S_) subf,
    TRef.nullary (.of main_call0_cst_2 : R S_) (constant S_ .f32 0x00000000#32),
    TRef.binary (.of main_call0_v6 : R S1x4096x1024) (.of main_call0_cst_2 : R S_) (.of main_call0_v9 : R S1x4096) (fun x v => Host.reduceAdd x v reducesTo_S1x4096x1024_S1x4096_d2 h_S_),
    TRef.unary (.of main_call0_v9 : R S1x4096) (.of main_call0_v10 : R S1x4096x1) (broadcastInDim S1x4096x1 ![0, 1] bcast_S1x4096_S1x4096x1_0_1),
    TRef.unary (.of main_call0_v8 : R S_) (.of main_call0_v11 : R S1x4096x1) (broadcastInDim S1x4096x1 ![] bcast_S_S1x4096x1),
    TRef.binary (.of main_call0_v10 : R S1x4096x1) (.of main_call0_v11 : R S1x4096x1) (.of main_call0_v12 : R S1x4096x1) Host.divf,
    TRef.nullary (.of main_call0_cst_3 : R S_) (constant S_ .f32 0x00000000#32),
    TRef.binary (.of main_call0_v8 : R S_) (.of main_call0_cst_3 : R S_) (.of main_call0_v13 : TRef sig ⟨S_, .i1⟩) (cmpf .ogt),
    TRef.nullary (.of main_call0_cst_4 : R S_) (constant S_ .f32 0x7FC00000#32),
    TRef.unary (.of main_call0_cst_4 : R S_) (.of main_call0_call0_v0 : R S_) id,
    TRef.unary (.of main_call0_call0_v0 : R S_) (.of main_call0_call0_v1 : R S1x4096x1) (broadcastInDim S1x4096x1 ![] bcast_S_S1x4096x1),
    TRef.ternary (.of main_call0_v13 : TRef sig ⟨S_, .i1⟩) (.of main_call0_v12 : R S1x4096x1) (.of main_call0_call0_v1 : R S1x4096x1) (.of main_v12 : R S1x4096x1) (fun p a b => select (broadcastInDim S1x4096x1 ![] bcast_S_S1x4096x1 p) a b)]

theorem opsB_sub : (opsB : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub ..⟩

/-- The reference's operations after the variance. -/
abbrev opsC : List (HloOp τ sig (Elt F)) :=
  [unary main_v11 main_v13 (broadcastInDim S1x4096x1024 ![0, 1, 2] bcast_S1x4096x1_S1x4096x1024_0_1_2 : C F S1x4096x1 → C F S1x4096x1024),
    binary main_v0 main_v13 main_v14 (subf : C F S1x4096x1024 → C F S1x4096x1024 → C F S1x4096x1024),
    nullary main_cst_1 (constant S_ .f32 0x3727C5AC#32),
    unary main_cst_1 main_v15 (broadcastInDim S1x4096x1 ![] bcast_S_S1x4096x1 : C F S_ → C F S1x4096x1),
    binary main_v12 main_v15 main_v16 (addf : C F S1x4096x1 → C F S1x4096x1 → C F S1x4096x1),
    unary main_v16 main_v17 (Host.sqrt : C F S1x4096x1 → C F S1x4096x1),
    unary main_v17 main_v18 (broadcastInDim S1x4096x1024 ![0, 1, 2] bcast_S1x4096x1_S1x4096x1024_0_1_2 : C F S1x4096x1 → C F S1x4096x1024),
    binary main_v14 main_v18 main_v19 (Host.divf : C F S1x4096x1024 → C F S1x4096x1024 → C F S1x4096x1024),
    unary main_v5 main_v20 (broadcastInDim S1x1x1024 ![0, 2] bcast_S1x1024_S1x1x1024_0_2 : C F S1x1024 → C F S1x1x1024),
    nullary main_cst_2 (constant S_ .f32 0x3F800000#32),
    unary main_cst_2 main_v21 (broadcastInDim S1x1x1024 ![] bcast_S_S1x1x1024 : C F S_ → C F S1x1x1024),
    binary main_v21 main_v20 main_v22 (addf : C F S1x1x1024 → C F S1x1x1024 → C F S1x1x1024),
    unary main_v22 main_v23 (broadcastInDim S1x4096x1024 ![0, 1, 2] bcast_S1x1x1024_S1x4096x1024_0_1_2 : C F S1x1x1024 → C F S1x4096x1024),
    binary main_v19 main_v23 main_v24 (mulf : C F S1x4096x1024 → C F S1x4096x1024 → C F S1x4096x1024),
    unary main_v6 main_v25 (broadcastInDim S1x1x1024 ![0, 2] bcast_S1x1024_S1x1x1024_0_2 : C F S1x1024 → C F S1x1x1024),
    unary main_v25 main_v26 (broadcastInDim S1x4096x1024 ![0, 1, 2] bcast_S1x1x1024_S1x4096x1024_0_1_2 : C F S1x1x1024 → C F S1x4096x1024),
    binary main_v24 main_v26 main_v27 (addf : C F S1x4096x1024 → C F S1x4096x1024 → C F S1x4096x1024),
    binary main_v27 main_arg3 main_v28 ((fun l r => Host.dotGeneral dot_S1x4096x1024_S1024x4096_S1x4096x4096_2_0_01_1_n_n none l r) : C F S1x4096x1024 → C F S1024x4096 → C F S1x4096x4096),
    unary main_v28 main_v29 (Host.negf : C F S1x4096x4096 → C F S1x4096x4096),
    unary main_v29 main_v30 (Host.exp : C F S1x4096x4096 → C F S1x4096x4096),
    nullary main_cst_3 (constant S_ .f32 0x3F800000#32),
    unary main_cst_3 main_v31 (broadcastInDim S1x4096x4096 ![] bcast_S_S1x4096x4096 : C F S_ → C F S1x4096x4096),
    binary main_v31 main_v30 main_v32 (addf : C F S1x4096x4096 → C F S1x4096x4096 → C F S1x4096x4096),
    binary main_v28 main_v32 main_v33 (Host.divf : C F S1x4096x4096 → C F S1x4096x4096 → C F S1x4096x4096),
    unary main_v7 main_v34 (broadcastInDim S1x1x1024 ![0, 2] bcast_S1x1024_S1x1x1024_0_2 : C F S1x1024 → C F S1x1x1024),
    binary main_v33 main_arg4 main_v35 ((fun l r => Host.dotGeneral dot_S1x4096x4096_S4096x1024_S1x4096x1024_2_0_01_1_n_n none l r) : C F S1x4096x4096 → C F S4096x1024 → C F S1x4096x1024),
    unary main_v34 main_v36 (broadcastInDim S1x4096x1024 ![0, 1, 2] bcast_S1x1x1024_S1x4096x1024_0_1_2 : C F S1x1x1024 → C F S1x4096x1024),
    binary main_v36 main_v35 main_v37 (mulf : C F S1x4096x1024 → C F S1x4096x1024 → C F S1x4096x1024),
    binary main_v0 main_v37 main_v38 (addf : C F S1x4096x1024 → C F S1x4096x1024 → C F S1x4096x1024)]

theorem opsC_sub : (opsC : List (HloOp τ sig (Elt F))).Forall fun op => op.bufs ⊆ tcRefs τ sig :=
  ⟨unary_bufs_sub .., binary_bufs_sub .., nullary_bufs_sub .., unary_bufs_sub .., binary_bufs_sub .., unary_bufs_sub .., unary_bufs_sub .., binary_bufs_sub .., unary_bufs_sub .., nullary_bufs_sub .., unary_bufs_sub .., binary_bufs_sub .., unary_bufs_sub .., binary_bufs_sub .., unary_bufs_sub .., unary_bufs_sub .., binary_bufs_sub .., binary_bufs_sub .., unary_bufs_sub .., unary_bufs_sub .., nullary_bufs_sub .., unary_bufs_sub .., binary_bufs_sub .., binary_bufs_sub .., unary_bufs_sub .., binary_bufs_sub .., unary_bufs_sub .., binary_bufs_sub .., binary_bufs_sub ..⟩

/-- The reference's operations, in order. -/
abbrev ops : List (HloOp τ sig (Elt F)) := opsA ++ (opsB ++ opsC)

theorem ops_sub : (ops : List (HloOp τ sig (Elt F))).Forall fun op => op.bufs ⊆ tcRefs τ sig :=
  List.forall_append.2 ⟨opsA_sub, List.forall_append.2 ⟨opsB_sub, opsC_sub⟩⟩

theorem main_eq (c : Dev nD) : main (F := F) c = seq ops := by
  rfl

theorem after_ops (V : Valuation τ sig (Elt F)) : after ops V = after opsC (after opsB (after opsA V)) := rfl

/-! ## What the operations compute -/

/-- The vector of the six scales and shifts. -/
def scales (t : FVec F S1x128 .f32) (W : FVec F S128x6144 .f32) : FVec F S1x6144 .f32 :=
  Host.dotGeneral dot_S1x128_S128x6144_S1x6144_1_0_0_1_n_n none t W

/-- A row's mean. -/
def mean (x : FVec F S1x4096x1024 .f32) : FVec F S1x4096x1 .f32 :=
  Host.divf (broadcastInDim S1x4096x1 ![0, 1] bcast_S1x4096_S1x4096x1_0_1
      (Host.reduceAdd x (constant S_ .f32 0x00000000#32) reducesTo_S1x4096x1024_S1x4096_d2 h_S_))
    (broadcastInDim S1x4096x1 ![] bcast_S_S1x4096x1 (constant S_ .f32 0x44800000#32))

/-- What is left of each entry when its row's mean is taken off. -/
def centred (x : FVec F S1x4096x1024 .f32) : FVec F S1x4096x1024 .f32 :=
  subf x (broadcastInDim S1x4096x1024 ![0, 1, 2] bcast_S1x4096x1_S1x4096x1024_0_1_2 (mean x))

/-- The number of entries a row's squares are divided by: 1024 less the correction, which is zero. -/
def count : FVec F S_ .f32 := subf (constant S_ .f32 0x44800000#32) (sitofp .f32 (constantI S_ 32 0#32))

/-- A row's variance: the mean of the squares of its centred entries. -/
def variance (x : FVec F S1x4096x1024 .f32) : FVec F S1x4096x1 .f32 :=
  select (broadcastInDim S1x4096x1 ![] bcast_S_S1x4096x1 (cmpf .ogt (count (F := F)) (constant S_ .f32 0x00000000#32)))
    (Host.divf (broadcastInDim S1x4096x1 ![0, 1] bcast_S1x4096_S1x4096x1_0_1
        (Host.reduceAdd (mulf (centred x) (centred x)) (constant S_ .f32 0x00000000#32) reducesTo_S1x4096x1024_S1x4096_d2 h_S_))
      (broadcastInDim S1x4096x1 ![] bcast_S_S1x4096x1 count))
    (broadcastInDim S1x4096x1 ![] bcast_S_S1x4096x1 (constant S_ .f32 0x7FC00000#32))

/-- The layer norm: the centred entry over the root of the variance and a small number. -/
def normed (x : FVec F S1x4096x1024 .f32) : FVec F S1x4096x1024 .f32 :=
  Host.divf (centred x) (broadcastInDim S1x4096x1024 ![0, 1, 2] bcast_S1x4096x1_S1x4096x1024_0_1_2
    (Host.sqrt (addf (variance x) (broadcastInDim S1x4096x1 ![] bcast_S_S1x4096x1 (constant S_ .f32 0x3727C5AC#32)))))

/-- A vector of scales or shifts laid along every row. -/
def alongRows (v : FVec F S1x1x1024 .f32) : FVec F S1x4096x1024 .f32 :=
  broadcastInDim S1x4096x1024 ![0, 1, 2] bcast_S1x1x1024_S1x4096x1024_0_1_2 v

/-- The same vector with one axis more. -/
def lift (v : FVec F S1x1024 .f32) : FVec F S1x1x1024 .f32 := broadcastInDim S1x1x1024 ![0, 2] bcast_S1x1024_S1x1x1024_0_2 v

/-- The modulated layer norm. -/
def modulated (x : FVec F S1x4096x1024 .f32) (s : FVec F S1x6144 .f32) : FVec F S1x4096x1024 .f32 :=
  addf (mulf (normed x) (alongRows (addf (broadcastInDim S1x1x1024 ![] bcast_S_S1x1x1024 (constant S_ .f32 0x3F800000#32))
      (lift (extractStridedSlice S1x1024 ![0, 3072] s slices_S1x6144_S1x1024_0_3072)))))
    (alongRows (lift (extractStridedSlice S1x1024 ![0, 4096] s slices_S1x6144_S1x1024_0_4096)))

/-- The hidden layer before its activation. -/
def hidden (y : FVec F S1x4096x1024 .f32) (W1 : FVec F S1024x4096 .f32) : FVec F S1x4096x4096 .f32 :=
  Host.dotGeneral dot_S1x4096x1024_S1024x4096_S1x4096x4096_2_0_01_1_n_n none y W1

/-- The activation: each entry over one plus the exponential of its negative. -/
def activated (h : FVec F S1x4096x4096 .f32) : FVec F S1x4096x4096 .f32 :=
  Host.divf h (addf (broadcastInDim S1x4096x4096 ![] bcast_S_S1x4096x4096 (constant S_ .f32 0x3F800000#32)) (Host.exp (Host.negf h)))

/-- The residual plus the gate times the feed-forward layer. -/
def gatedSum (x : FVec F S1x4096x1024 .f32) (s : FVec F S1x6144 .f32) (a : FVec F S1x4096x4096 .f32) (W2 : FVec F S4096x1024 .f32) :
    FVec F S1x4096x1024 .f32 :=
  addf x (mulf (alongRows (lift (extractStridedSlice S1x1024 ![0, 5120] s slices_S1x6144_S1x1024_0_5120)))
    (Host.dotGeneral dot_S1x4096x4096_S4096x1024_S1x4096x1024_2_0_01_1_n_n none a W2))

/-- The rows with one axis more. -/
def rows (x : FVec F S4096x1024 .f32) : FVec F S1x4096x1024 .f32 := shapeCast S1x4096x1024 x shapeCasts_S4096x1024_S1x4096x1024

/-- The whole reference. -/
def total (x : FVec F S4096x1024 .f32) (t : FVec F S1x128 .f32) (W : FVec F S128x6144 .f32) (W1 : FVec F S1024x4096 .f32)
    (W2 : FVec F S4096x1024 .f32) : FVec F S1x4096x1024 .f32 :=
  gatedSum (rows x) (scales t W) (activated (hidden (modulated (rows x) (scales t W)) W1)) W2

/-! ## What each stretch of operations leaves -/

theorem opsA_v0 (V : Valuation τ sig (Elt F)) : after opsA V (main_v0 : DevRef τ sig) = rows (V (main_arg0 : DevRef τ sig)) := by
  after_results_simp
  rfl
theorem opsA_v5 (V : Valuation τ sig (Elt F)) : after opsA V (main_v5 : DevRef τ sig) = extractStridedSlice S1x1024 ![0, 3072] (scales (V (main_arg1 : DevRef τ sig)) (V (main_arg2 : DevRef τ sig))) slices_S1x6144_S1x1024_0_3072 := by
  after_results_simp
  rfl
theorem opsA_v6 (V : Valuation τ sig (Elt F)) : after opsA V (main_v6 : DevRef τ sig) = extractStridedSlice S1x1024 ![0, 4096] (scales (V (main_arg1 : DevRef τ sig)) (V (main_arg2 : DevRef τ sig))) slices_S1x6144_S1x1024_0_4096 := by
  after_results_simp
  rfl
theorem opsA_v7 (V : Valuation τ sig (Elt F)) : after opsA V (main_v7 : DevRef τ sig) = extractStridedSlice S1x1024 ![0, 5120] (scales (V (main_arg1 : DevRef τ sig)) (V (main_arg2 : DevRef τ sig))) slices_S1x6144_S1x1024_0_5120 := by
  after_results_simp
  rfl
theorem opsA_v11 (V : Valuation τ sig (Elt F)) : after opsA V (main_v11 : DevRef τ sig) = mean (rows (V (main_arg0 : DevRef τ sig))) := by
  after_results_simp
  rfl
theorem opsA_c (V : Valuation τ sig (Elt F)) : after opsA V (main_c : DevRef τ sig) = (constantI S_ 32 0#32 : IVec S_ 32) := by
  after_results_simp
theorem opsA_arg0 (V : Valuation τ sig (Elt F)) : after opsA V (main_arg0 : DevRef τ sig) = V (main_arg0 : DevRef τ sig) := by
  after_results_simp
theorem opsA_arg1 (V : Valuation τ sig (Elt F)) : after opsA V (main_arg1 : DevRef τ sig) = V (main_arg1 : DevRef τ sig) := by
  after_results_simp
theorem opsA_arg2 (V : Valuation τ sig (Elt F)) : after opsA V (main_arg2 : DevRef τ sig) = V (main_arg2 : DevRef τ sig) := by
  after_results_simp
theorem opsA_arg3 (V : Valuation τ sig (Elt F)) : after opsA V (main_arg3 : DevRef τ sig) = V (main_arg3 : DevRef τ sig) := by
  after_results_simp
theorem opsA_arg4 (V : Valuation τ sig (Elt F)) : after opsA V (main_arg4 : DevRef τ sig) = V (main_arg4 : DevRef τ sig) := by
  after_results_simp

theorem opsB_v12 (V : Valuation τ sig (Elt F)) (x : FVec F S1x4096x1024 .f32) (hx : V (main_v0 : DevRef τ sig) = x)
    (hc : V (main_c : DevRef τ sig) = (constantI S_ 32 0#32 : IVec S_ 32)) : after opsB V (main_v12 : DevRef τ sig) = variance x := by
  after_results_simp
  simp only [hx, hc]
  rfl
theorem opsB_v0 (V : Valuation τ sig (Elt F)) : after opsB V (main_v0 : DevRef τ sig) = V (main_v0 : DevRef τ sig) := by
  after_results_simp
theorem opsB_v5 (V : Valuation τ sig (Elt F)) : after opsB V (main_v5 : DevRef τ sig) = V (main_v5 : DevRef τ sig) := by
  after_results_simp
theorem opsB_v6 (V : Valuation τ sig (Elt F)) : after opsB V (main_v6 : DevRef τ sig) = V (main_v6 : DevRef τ sig) := by
  after_results_simp
theorem opsB_v7 (V : Valuation τ sig (Elt F)) : after opsB V (main_v7 : DevRef τ sig) = V (main_v7 : DevRef τ sig) := by
  after_results_simp
theorem opsB_v11 (V : Valuation τ sig (Elt F)) : after opsB V (main_v11 : DevRef τ sig) = V (main_v11 : DevRef τ sig) := by
  after_results_simp
theorem opsB_arg0 (V : Valuation τ sig (Elt F)) : after opsB V (main_arg0 : DevRef τ sig) = V (main_arg0 : DevRef τ sig) := by
  after_results_simp
theorem opsB_arg1 (V : Valuation τ sig (Elt F)) : after opsB V (main_arg1 : DevRef τ sig) = V (main_arg1 : DevRef τ sig) := by
  after_results_simp
theorem opsB_arg2 (V : Valuation τ sig (Elt F)) : after opsB V (main_arg2 : DevRef τ sig) = V (main_arg2 : DevRef τ sig) := by
  after_results_simp
theorem opsB_arg3 (V : Valuation τ sig (Elt F)) : after opsB V (main_arg3 : DevRef τ sig) = V (main_arg3 : DevRef τ sig) := by
  after_results_simp
theorem opsB_arg4 (V : Valuation τ sig (Elt F)) : after opsB V (main_arg4 : DevRef τ sig) = V (main_arg4 : DevRef τ sig) := by
  after_results_simp

theorem opsC_v38 (V : Valuation τ sig (Elt F)) (x : FVec F S1x4096x1024 .f32) (s : FVec F S1x6144 .f32)
    (h0 : V (main_v0 : DevRef τ sig) = x) (h11 : V (main_v11 : DevRef τ sig) = mean x) (h12 : V (main_v12 : DevRef τ sig) = variance x)
    (h5 : V (main_v5 : DevRef τ sig) = extractStridedSlice S1x1024 ![0, 3072] s slices_S1x6144_S1x1024_0_3072)
    (h6 : V (main_v6 : DevRef τ sig) = extractStridedSlice S1x1024 ![0, 4096] s slices_S1x6144_S1x1024_0_4096)
    (h7 : V (main_v7 : DevRef τ sig) = extractStridedSlice S1x1024 ![0, 5120] s slices_S1x6144_S1x1024_0_5120) :
    after opsC V (main_v38 : DevRef τ sig) = gatedSum x s (activated (hidden (modulated x s) (V (main_arg3 : DevRef τ sig)))) (V (main_arg4 : DevRef τ sig)) := by
  after_results_simp
  simp only [h0, h11, h12, h5, h6, h7]
  rfl
theorem opsC_arg0 (V : Valuation τ sig (Elt F)) : after opsC V (main_arg0 : DevRef τ sig) = V (main_arg0 : DevRef τ sig) := by
  after_results_simp
theorem opsC_arg1 (V : Valuation τ sig (Elt F)) : after opsC V (main_arg1 : DevRef τ sig) = V (main_arg1 : DevRef τ sig) := by
  after_results_simp
theorem opsC_arg2 (V : Valuation τ sig (Elt F)) : after opsC V (main_arg2 : DevRef τ sig) = V (main_arg2 : DevRef τ sig) := by
  after_results_simp
theorem opsC_arg3 (V : Valuation τ sig (Elt F)) : after opsC V (main_arg3 : DevRef τ sig) = V (main_arg3 : DevRef τ sig) := by
  after_results_simp
theorem opsC_arg4 (V : Valuation τ sig (Elt F)) : after opsC V (main_arg4 : DevRef τ sig) = V (main_arg4 : DevRef τ sig) := by
  after_results_simp

theorem out_eq (V : Valuation τ sig (Elt F)) : after ops V (main_v38 : DevRef τ sig)
    = total (V (main_arg0 : DevRef τ sig)) (V (main_arg1 : DevRef τ sig)) (V (main_arg2 : DevRef τ sig)) (V (main_arg3 : DevRef τ sig))
      (V (main_arg4 : DevRef τ sig)) := by
  rw [after_ops, opsC_v38 _ (rows (V (main_arg0 : DevRef τ sig))) (scales (V (main_arg1 : DevRef τ sig)) (V (main_arg2 : DevRef τ sig)))
    ((opsB_v0 _).trans (opsA_v0 V)) ((opsB_v11 _).trans (opsA_v11 V)) (opsB_v12 _ _ (opsA_v0 V) (opsA_c V))
    ((opsB_v5 _).trans (opsA_v5 V)) ((opsB_v6 _).trans (opsA_v6 V)) ((opsB_v7 _).trans (opsA_v7 V)),
    opsB_arg3, opsA_arg3, opsB_arg4, opsA_arg4]
  rfl

theorem arg0_eq (V : Valuation τ sig (Elt F)) : after ops V (main_arg0 : DevRef τ sig) = V (main_arg0 : DevRef τ sig) := by
  rw [after_ops, opsC_arg0, opsB_arg0, opsA_arg0]
theorem arg1_eq (V : Valuation τ sig (Elt F)) : after ops V (main_arg1 : DevRef τ sig) = V (main_arg1 : DevRef τ sig) := by
  rw [after_ops, opsC_arg1, opsB_arg1, opsA_arg1]
theorem arg2_eq (V : Valuation τ sig (Elt F)) : after ops V (main_arg2 : DevRef τ sig) = V (main_arg2 : DevRef τ sig) := by
  rw [after_ops, opsC_arg2, opsB_arg2, opsA_arg2]
theorem arg3_eq (V : Valuation τ sig (Elt F)) : after ops V (main_arg3 : DevRef τ sig) = V (main_arg3 : DevRef τ sig) := by
  rw [after_ops, opsC_arg3, opsB_arg3, opsA_arg3]
theorem arg4_eq (V : Valuation τ sig (Elt F)) : after ops V (main_arg4 : DevRef τ sig) = V (main_arg4 : DevRef τ sig) := by
  rw [after_ops, opsC_arg4, opsB_arg4, opsA_arg4]

theorem scopedRefs_eq : (Finset.univ.filter fun b : Ref sig .tc => b.isScoped) = ∅ := by decide
theorem scopedSems_eq : (Finset.univ.filter fun sm : SemLoc sig => sm.isScoped .tc) = ∅ := by decide

/-- The reference runs, leaves `total` of its arguments in its result and its arguments as they were. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v38)
          = total (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c main_v38).trans (out_eq _), (h c main_arg0).trans (arg0_eq _),
      (h c main_arg1).trans (arg1_eq _), (h c main_arg2).trans (arg2_eq _), (h c main_arg3).trans (arg3_eq _), (h c main_arg4).trans (arg4_eq _)⟩)
    (run_seq scopedRefs_eq scopedSems_eq defs main (fun _ => ops) main_eq (fun _ => ops_sub) m ρ)

/-! ## The values over the reals -/

section Values

variable (x : FVec Ideal S1x4096x1024 .f32)

theorem mean_apply (r : Fin 4096) : (mean (F := Ideal) x (ix3 0 r 0) : EReal) = RowMath.mean fun k => (x (ix3 0 r k) : EReal) := by
  unfold mean
  pointwise
  rfl

theorem centred_apply (r : Fin 4096) (k : Fin 1024) :
    (centred (F := Ideal) x (ix3 0 r k) : EReal) = RowMath.cen (fun k => (x (ix3 0 r k) : EReal)) k := by
  unfold centred
  pointwise
  rw [mean_apply]
  rfl

theorem variance_apply (r : Fin 4096) : (variance (F := Ideal) x (ix3 0 r 0) : EReal) = RowMath.var fun k => (x (ix3 0 r k) : EReal) := by
  unfold variance count
  pointwise
  simp only [centred_apply]
  rfl

theorem normed_apply (r : Fin 4096) (k : Fin 1024) :
    (normed (F := Ideal) x (ix3 0 r k) : EReal) = RowMath.norm (fun k => (x (ix3 0 r k) : EReal)) k := by
  unfold normed
  pointwise
  rw [centred_apply, variance_apply]
  rfl

/-- A place of the vector of scales and shifts. -/
theorem scales_apply (t : FVec Ideal S1x128 .f32) (W : FVec Ideal S128x6144 .f32) (k : Fin 6144) :
    (scales (F := Ideal) t W (ix2 0 k) : EReal) = (∑ p : Fin 128, (t (ix2 0 p) : EReal) * (W (ix2 p k) : EReal) : EReal) := by
  unfold scales
  pointwise

theorem modulated_apply (s : FVec Ideal S1x6144 .f32) (r : Fin 4096) (k : Fin 1024) :
    (modulated (F := Ideal) x s (ix3 0 r k) : EReal)
      = RowMath.shifted (fun k => (x (ix3 0 r k) : EReal)) (fun j => (s (ix2 0 j) : EReal)) k := by
  unfold modulated alongRows lift
  pointwise
  rw [normed_apply]
  rfl

theorem hidden_apply (W1 : FVec Ideal S1024x4096 .f32) (r : Fin 4096) (J : Fin 4096) :
    (hidden (F := Ideal) x W1 (ix3 0 r J) : EReal) = (∑ k : Fin 1024, (x (ix3 0 r k) : EReal) * (W1 (ix2 k J) : EReal) : EReal) := by
  unfold hidden
  pointwise

theorem activated_apply (h : FVec Ideal S1x4096x4096 .f32) (r : Fin 4096) (J : Fin 4096) :
    (activated (F := Ideal) h (ix3 0 r J) : EReal) = RowMath.act (h (ix3 0 r J) : EReal) := by
  unfold activated
  pointwise
  rfl

theorem gatedSum_apply (s : FVec Ideal S1x6144 .f32) (a : FVec Ideal S1x4096x4096 .f32)
    (W2 : FVec Ideal S4096x1024 .f32) (r : Fin 4096) (l : Fin 1024) :
    (gatedSum (F := Ideal) x s a W2 (ix3 0 r l) : EReal)
      = ((x (ix3 0 r l) : EReal) + (s (ix2 0 ⟨5120 + l.val, by omega⟩) : EReal)
          * ∑ J : Fin 4096, (a (ix3 0 r J) : EReal) * (W2 (ix2 J l) : EReal) : EReal) := by
  unfold gatedSum alongRows lift
  pointwise

theorem rows_apply (x : FVec Ideal S4096x1024 .f32) (r : Fin 4096) (l : Fin 1024) :
    (rows (F := Ideal) x (ix3 0 r l) : EReal) = x (ix2 r l) := by
  unfold rows
  pointwise

/-- The result at a place: the residual there plus the column's gate times the sum of the feed-forward layer's terms, over the
    sixteen stretches of 256 hidden places. -/
theorem total_apply (x : FVec Ideal S4096x1024 .f32) (t : FVec Ideal S1x128 .f32) (W : FVec Ideal S128x6144 .f32)
    (W1 : FVec Ideal S1024x4096 .f32) (W2 : FVec Ideal S4096x1024 .f32) (r : Fin 4096) (l : Fin 1024) :
    (total (F := Ideal) x t W W1 W2 (ix3 0 r l) : EReal)
      = ((x (ix2 r l) : EReal) + (scales (F := Ideal) t W (ix2 0 ⟨5120 + l.val, by omega⟩) : EReal)
        * ∑ e : Fin 16, ∑ j : Fin 256, RowMath.term (fun k => (x (ix2 r k) : EReal)) (fun j => (scales (F := Ideal) t W (ix2 0 j) : EReal))
            (fun k => (W1 (ix2 k ⟨e.val * 256 + j.val, by omega⟩) : EReal)) (W2 (ix2 ⟨e.val * 256 + j.val, by omega⟩ l) : EReal) : EReal) := by
  unfold total
  rw [gatedSum_apply, rows_apply, RowMath.sum_stretches]
  simp only [activated_apply, hidden_apply, modulated_apply, rows_apply]
  rfl

end Values

end Cert.RingSum
-- ==== Proof.RingProto.lean ====
/-
# The ring all-reduce: cells, landing areas, contents and schedule

Two rings run at once, one per half of the rows: direction `false` passes chunks to the next device, direction `true`
to the previous one. Step `k` (`k < 30`) of either ring does the same on every device `c`: it sends the chunk `back d c k`
(the chunk `k` places behind `c` against the direction of travel) and receives the chunk `back d c (k + 1)`. The first
fifteen steps reduce (a chunk lands in one of two scratch slots and is added), the last fifteen gather (a finished chunk
lands directly in the receiver's result).
-/
module

public import proofs.«01_k».proof.Defs
public import proofs.«01_k».proof.Proof.Gen.RingIdeal
public import proofs.«01_k».proof.Proof.Gen.RingIdeal.Skeleton
public import proofs.«01_k».proof.Proof.Gen.RingIdeal.Launch
public import Idealize.ShloMosaic.Lib.Pipeline.Launch
public import Idealize.ShloMosaic.Lib.Pipeline.Kit
public import Idealize.ShloMosaic.Lib.Release
public import Idealize.ShloMosaic.Lib.Tactic

@[expose] public section

noncomputable section

namespace Cert.RingProof

open Cert.RingIdeal Cert.RingIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Devices and chunks -/

/-- The device (or chunk) `n` places behind `c`, against the direction of travel. -/
def back (d : Bool) (c : Dev nD) (n : ℕ) : Dev nD :=
  ⟨(c.val + (if d then n else 15 * n)) % 16, Nat.mod_lt _ (by decide)⟩

/-- The device that `c` receives from. -/
abbrev prv (d : Bool) (c : Dev nD) : Dev nD := back d c 1
/-- The device that `c` sends to. -/
abbrev nxt (d : Bool) (c : Dev nD) : Dev nD := back (!d) c 1

theorem back_val (d : Bool) (c : Dev nD) (n : ℕ) : (back d c n).val = (c.val + (if d then n else 15 * n)) % 16 := rfl

theorem prv_nxt (d : Bool) (c : Dev nD) : prv d (nxt d c) = c := by revert d c; decide
theorem nxt_prv (d : Bool) (c : Dev nD) : nxt d (prv d c) = c := by revert d c; decide

theorem back_zero (d : Bool) (c : Dev nD) : back d c 0 = c := by revert d c; decide

theorem back_back (d : Bool) (c : Dev nD) (m n : ℕ) : back d (back d c m) n = back d c (m + n) := by
  apply Fin.ext; rw [back_val, back_val, back_val]; cases d <;> simp <;> omega

theorem back_prv (d : Bool) (c : Dev nD) (n : ℕ) : back d (prv d c) n = back d c (n + 1) := by
  rw [back_back, Nat.add_comm]

/-- What `c` sends at a step, the device it sends to receives at that step. -/
theorem back_nxt (d : Bool) (c : Dev nD) (n : ℕ) : back d (nxt d c) (n + 1) = back d c n := by
  have h := back_prv d (nxt d c) n
  rw [prv_nxt] at h; exact h.symm

theorem back_mod (d : Bool) (c : Dev nD) (n : ℕ) : back d c (n % 16) = back d c n := by
  apply Fin.ext; rw [back_val, back_val]; cases d <;> simp <;> omega

theorem back_add16 (d : Bool) (c : Dev nD) (n : ℕ) : back d c (n + 16) = back d c n := by
  rw [← back_mod d c (n + 16), Nat.add_mod_right, back_mod]

/-- The places behind `c` enumerate the chunks. -/
def backE (d : Bool) (c : Dev nD) : Fin 16 ≃ Dev nD :=
  Equiv.ofBijective (fun i : Fin 16 => back d c i.val) (by
    rw [Fintype.bijective_iff_injective_and_card]
    refine ⟨fun i j h => ?_, rfl⟩
    have h' := congrArg Fin.val h
    simp only [back_val] at h'
    apply Fin.ext
    have hi := i.isLt; have hj := j.isLt
    cases d <;> simp at h' <;> omega)

/-! ## Memrefs and semaphores -/

abbrev xM : Memref sig .tc .vmem S4096x1024 .bf16 := Memref.whole cc0_stg0_0
abbrev oM : Memref sig .tc .vmem S4096x1024 .bf16 := Memref.whole cc0_stg1_0
/-- A ring's two landing slots. -/
abbrev comM (d : Bool) : Memref sig .tc .vmem S2x128x1024 .bf16 :=
  match d with | false => Memref.whole cc0_scratch0 | true => Memref.whole cc0_scratch1

/-- Where a ring's chunk `j` starts in the result. -/
def choff (d : Bool) (j : Dev nD) : Fin 2 → Nat := ![(if d then 2048 else 0) + 128 * j.val, 0]

theorem choff_inb (d : Bool) (j : Dev nD) : ∀ a, choff d j a + S128x1024.size a ≤ S4096x1024.size a := by
  revert d j; decide +kernel

abbrev chR (d : Bool) (j : Dev nD) : Rect S4096x1024 := Rect.unit (s := S4096x1024) (choff d j) S128x1024.size (choff_inb d j)
/-- A ring's chunk `j` of the result. -/
abbrev chM (d : Bool) (j : Dev nD) : Memref sig .tc .vmem S128x1024 .bf16 := oM.slice (chR d j) (fun _ => rfl)

/-- A ring's landing slot as a chunk, for either parity. -/
abbrev slM (d : Bool) (s : Fin 2) : Memref sig .tc .vmem S128x1024 .bf16 :=
  match s with
  | 0 => ((comM d).slice (Rect.unit (s := S2x128x1024) ![0, 0, 0] S1x128x1024.size inb_S2x128x1024_S1x128x1024_0_0_0) (fun _ => rfl)).squeeze
      S128x1024 squeezes_S1x128x1024_S128x1024
  | 1 => ((comM d).slice (Rect.unit (s := S2x128x1024) ![1, 0, 0] S1x128x1024.size inb_S2x128x1024_S1x128x1024_1_0_0) (fun _ => rfl)).squeeze
      S128x1024 squeezes_S1x128x1024_S128x1024

/-- The parity of a step. -/
def par (k : ℕ) : Fin 2 := ⟨k % 2, Nat.mod_lt _ (by decide)⟩

theorem par_add_two (k : ℕ) : par (k + 2) = par k := Fin.ext (Nat.add_mod_right k 2)

/-- Where step `k`'s chunk lands on device `r`: a scratch slot while reducing, the result while gathering. -/
def landM (d : Bool) (r : Dev nD) (k : ℕ) : Memref sig .tc .vmem S128x1024 .bf16 :=
  if k < 15 then slM d (par k) else chM d (back d r (k + 1))

/-- The two semaphores of a two-element semaphore array. -/
abbrev pick (A : DmaSems sig S2) (s : Fin 2) : DmaSem sig :=
  match s with
  | 0 => ((A.slice (Rect.unit (s := S2) ![0] S1.size inb_S2_S1_0)).squeeze S_ squeezes_S1_S_).sem
  | 1 => ((A.slice (Rect.unit (s := S2) ![1] S1.size inb_S2_S1_1)).squeeze S_ squeezes_S1_S_).sem

abbrev sendS (d : Bool) (s : Fin 2) : DmaSem sig := pick (match d with | false => cc0_scratch2 | true => cc0_scratch4) s
abbrev recvS (d : Bool) (s : Fin 2) : DmaSem sig := pick (match d with | false => cc0_scratch3 | true => cc0_scratch5) s
abbrev credS (d : Bool) : Sem sig := match d with | false => (cc0_scratch6 : Sems sig S_).sem | true => (cc0_scratch7 : Sems sig S_).sem
abbrev barS : Sem sig := (SemArray.scalar (sig.barrier 0 rfl) : Sems sig S_).sem

/-- The cells of a device: its barrier, and per ring two send cells, two receive cells and a credit cell. -/
inductive CK : Type
  | bar : CK
  | send (d : Bool) (s : Fin 2) : CK
  | recv (d : Bool) (s : Fin 2) : CK
  | cred (d : Bool) : CK
  deriving DecidableEq

/-- The cells listed. -/
def ckE : Fin 11 → CK
  | 0 => .bar
  | 1 => .send false 0 | 2 => .send false 1 | 3 => .recv false 0 | 4 => .recv false 1
  | 5 => .send true 0 | 6 => .send true 1 | 7 => .recv true 0 | 8 => .recv true 1
  | 9 => .cred false | 10 => .cred true

theorem ckE_surj (k : CK) : ∃ i, ckE i = k := by
  rcases k with _ | ⟨d, s⟩ | ⟨d, s⟩ | d
  · exact ⟨0, rfl⟩
  · cases d <;> fin_cases s
    exacts [⟨1, rfl⟩, ⟨2, rfl⟩, ⟨5, rfl⟩, ⟨6, rfl⟩]
  · cases d <;> fin_cases s
    exacts [⟨3, rfl⟩, ⟨4, rfl⟩, ⟨7, rfl⟩, ⟨8, rfl⟩]
  · cases d
    exacts [⟨9, rfl⟩, ⟨10, rfl⟩]

abbrev csem : CK → SemLoc sig
  | .bar => .reg barS
  | .send d s => .dma (sendS d s)
  | .recv d s => .dma (recvS d s)
  | .cred d => .reg (credS d)

theorem csem_ckE_inj : Function.Injective fun i => csem (ckE i) := by decide

theorem ckE_inj : Function.Injective ckE := fun i j h => csem_ckE_inj (congrArg csem h)

theorem csem_inj : Function.Injective csem := fun a b h => by
  obtain ⟨i, rfl⟩ := ckE_surj a
  obtain ⟨j, rfl⟩ := ckE_surj b
  exact congrArg ckE (csem_ckE_inj h)

open Classical in
/-- Which of the ring's cells a semaphore is. -/
def kindOf (sm : SemLoc sig) : Option CK := if h : ∃ k, csem k = sm then some h.choose else none

theorem kindOf_csem (k : CK) : kindOf (csem k) = some k := by
  have h : ∃ k', csem k' = csem k := ⟨k, rfl⟩
  unfold kindOf
  rw [dif_pos h]
  exact congrArg some (csem_inj h.choose_spec)

theorem kindOf_eq_some {sm : SemLoc sig} {k : CK} (h : kindOf sm = some k) : sm = csem k := by
  unfold kindOf at h
  split at h
  · rename_i hx; rw [← Option.some.inj h]; exact hx.choose_spec.symm
  · cases h

/-- Device `c`'s cell of kind `k`. -/
abbrev cell (c : Dev nD) (k : CK) : GSem nD τ sig := ((c : Thread nD τ), csem k)

abbrev N : ℕ := (chM false 0).view.dmaCredit
theorem N_pos : 0 < N := View.dmaCredit_pos _ (by decide)

end Cert.RingProof
-- ==== Proof.RingSched.lean ====
/-
# The ring all-reduce: contents, payloads, schedule, dues and levels
-/
module

public import proofs.«01_k».proof.Proof.RingProto

@[expose] public section

noncomputable section

namespace Cert.RingProof

open Cert.RingIdeal Cert.RingIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

/-! ## The resource algebra -/

/-- A landing area: its device, its ring, its step. -/
abbrev Key : Type := Dev nD × Bool × ℕ
abbrev UB : Type := URounds (GSem nD τ sig) ℕ
abbrev UV : Type := UB × USlots Key
abbrev UU : Type := UR sig nD τ × UV

local notation "𝕄" => MT nD τ sig ℕ (Elt F) ℕ UU ℕ

abbrev EP : Emb (UR sig nD τ) (MT nD τ sig ℕ (Elt F) ℕ UU ℕ) := embL
abbrev EV : Emb UV (MT nD τ sig ℕ (Elt F) ℕ UU ℕ) := embR
abbrev ER : Emb UB (MT nD τ sig ℕ (Elt F) ℕ UU ℕ) := (Emb.inl : Emb UB (UV)).trans EV
abbrev ES : Emb (USlots Key) (MT nD τ sig ℕ (Elt F) ℕ UU ℕ) := (Emb.inr : Emb (USlots Key) (UV)).trans EV

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Contents -/

abbrev Chunk (F : FTy → Type) [FloatOps F] : Type := Vec F S128x1024 .bf16

/-- Device `c`'s block of the input, as staged. -/
def xstg (c : Dev nD) : (cc0_stg0_0 : Ref sig .tc).ty.Contents (Elt F) :=
  (win0_0.blk (0 : Fin 1)).view.read (Elt F) ((s₀ m ρ).mem ((c : Thread nD τ).loc main_v39))

/-- The result buffer after the first store: the device's own block. -/
def out0 (c : Dev nD) : (cc0_stg1_0 : Ref sig .tc).ty.Contents (Elt F) := k0_pay1 (xstg m ρ c)

/-- A ring's chunk `j` of device `c`'s own block. -/
def xch (d : Bool) (c j : Dev nD) : Chunk F := fun i => out0 m ρ c ((chR d j).emb i)

/-- What device `c` sends at step `k`: while reducing its own part of the chunk plus what it received the step before,
    while gathering what it received the step before. -/
def val (d : Bool) : ℕ → Dev nD → Chunk F
  | 0, c => xch m ρ d c (back d c 0)
  | k + 1, c => if k < 15 then addf (xch m ρ d c (back d c (k + 1))) (val d k (prv d c)) else val d k (prv d c)

theorem val_zero (d : Bool) (c : Dev nD) : val m ρ d 0 c = xch m ρ d c (back d c 0) := rfl
theorem val_reduce (d : Bool) (c : Dev nD) (k : ℕ) (h : k < 15) :
    val m ρ d (k + 1) c = addf (xch m ρ d c (back d c (k + 1))) (val m ρ d k (prv d c)) := if_pos h
theorem val_gather (d : Bool) (c : Dev nD) (k : ℕ) (h : ¬ k < 15) : val m ρ d (k + 1) c = val m ρ d k (prv d c) := if_neg h

/-- What the chunk `i` places behind `c` holds on `c` before step `k`. -/
def cont (d : Bool) (c : Dev nD) (k i : ℕ) : Chunk F :=
  if 16 + i ≤ k then val m ρ d (16 + i) c else if i ≤ k then val m ρ d i c else xch m ρ d c (back d c i)

/-! ## Payloads -/

/-- Device `r` has opened its credit cell for the other ring, whose credits its receiver on this ring returns; it has
    released the landing areas of its first `n` steps, and has reached their receive rounds. -/
def rel (d : Bool) (r : Dev nD) (n : ℕ) : sProp 𝕄 :=
  iprop(reached ER (cell r (.cred (!d))) 0
    ∗ bigSep (Finset.range n) fun k => iprop(released ES (r, d, k) 1 ∗ reached ER (cell r (.recv d (par k))) (k / 2)))

instance rel_persistent (d : Bool) (r : Dev nD) (n : ℕ) : BI.Persistent (rel (F := F) d r n) := by unfold rel; infer_instance
instance rel_storable (d : Bool) (r : Dev nD) (n : ℕ) : BI.Storable (upEmb : UEmb _ 𝕄) (rel (F := F) d r n) := by
  unfold rel; infer_instance

/-- A landing area, whatever it holds. -/
def area (d : Bool) (r : Dev nD) (k : ℕ) : sProp 𝕄 := iprop(∃ v : Chunk F, ownsTc r (landM d r k) fullShare v)
instance area_storable (d : Bool) (r : Dev nD) (k : ℕ) : BI.Storable (upEmb : UEmb _ 𝕄) (area (F := F) d r k) := by
  unfold area; infer_instance

/-- The chunk device `c` sends at step `k`, holding what it sends: what the send's completion gives back. -/
def sendPay (d : Bool) (c : Dev nD) (k : ℕ) : sProp 𝕄 := ownsTc c (chM d (back d c k)) fullShare (val m ρ d k c)
/-- Device `c`'s landing area of step `k`, holding what its sender sent. -/
def recvPay (d : Bool) (c : Dev nD) (k : ℕ) : sProp 𝕄 := ownsTc c (landM d c k) fullShare (val m ρ d k (prv d c))
instance sendPay_storable (d : Bool) (c : Dev nD) (k : ℕ) : BI.Storable (upEmb : UEmb _ 𝕄) (sendPay (F := F) m ρ d c k) := by
  unfold sendPay; infer_instance
instance recvPay_storable (d : Bool) (c : Dev nD) (k : ℕ) : BI.Storable (upEmb : UEmb _ 𝕄) (recvPay (F := F) m ρ d c k) := by
  unfold recvPay; infer_instance

def dutiesK (r : ℕ) : CK → Finset ℕ
  | .bar => if r = 0 then {0, 1} else ∅
  | .send _ _ => if r < 15 then {0} else ∅
  | .recv _ _ => if r < 15 then {0} else ∅
  | .cred _ => if r = 0 then Finset.range 30 else ∅

def amountK : CK → ℕ
  | .bar => 1
  | .send _ _ => N
  | .recv _ _ => N
  | .cred _ => 1

theorem amountK_pos (k : CK) : 0 < amountK k := by
  cases k
  exacts [Nat.one_pos, N_pos, N_pos, Nat.one_pos]

def payloadK (c : Dev nD) (r δ : ℕ) : CK → sProp 𝕄
  | .bar => if δ = 0 then rel false (nxt false c) 2 else rel true (nxt true c) 2
  | .send d s => sendPay m ρ d c (2 * r + s.val)
  | .recv d s => recvPay m ρ d c (2 * r + s.val)
  | .cred d => rel d (nxt d c) (min (δ + 3) 30)

instance payloadK_storable (c : Dev nD) (r δ : ℕ) (k : CK) : BI.Storable (upEmb : UEmb _ 𝕄) (payloadK (F := F) m ρ c r δ k) := by
  cases k <;> unfold payloadK
  · dsimp only; split <;> infer_instance
  all_goals dsimp only; infer_instance

/-- The schedule: a barrier cell has one round with a unit from each neighbour; a send or receive cell fifteen rounds of
    one chunk's credit; a credit cell one round of thirty units, one for each step of the receiver. -/
def ringRd : Rounds.Schedule (GSem nD τ sig) ℕ 𝕄 where
  duties g r := if g.1.2 = .tc then (match kindOf g.2 with | some k => dutiesK r k | none => ∅) else ∅
  unitless _ := False
  amount g _ _ := match kindOf g.2 with | some k => amountK k | none => 1
  payload g r δ := match kindOf g.2 with | some k => payloadK m ρ g.1.1 r δ k | none => iprop(emp)
  amount_pos g _ _ _ := by
    cases kindOf g.2 with
    | none => exact Nat.one_pos
    | some k => exact amountK_pos k

instance ringRd_payload_storable (g : GSem nD τ sig) (r δ : ℕ) :
    BI.Storable (upEmb : UEmb _ 𝕄) ((ringRd (F := F) m ρ).payload g r δ) := by
  unfold ringRd; dsimp only
  split <;> infer_instance

theorem duties_cell (c : Dev nD) (k : CK) (r : ℕ) : (ringRd (F := F) m ρ).duties (cell c k) r = dutiesK r k := by
  unfold ringRd; dsimp only [cell]; rw [kindOf_csem]; exact if_pos rfl
theorem amount_cell (c : Dev nD) (k : CK) (r δ : ℕ) : (ringRd (F := F) m ρ).amount (cell c k) r δ = amountK k := by
  unfold ringRd; dsimp only [cell]; rw [kindOf_csem]
theorem payload_cell (c : Dev nD) (k : CK) (r δ : ℕ) : (ringRd (F := F) m ρ).payload (cell c k) r δ = payloadK m ρ c r δ k := by
  unfold ringRd; dsimp only [cell]; rw [kindOf_csem]
theorem expect_cell (c : Dev nD) (k : CK) (r : ℕ) : (ringRd (F := F) m ρ).expect (cell c k) r = (dutiesK r k).card * amountK k := by
  unfold Schedule.expect Schedule.amountOf
  rw [duties_cell, Finset.sum_congr rfl fun δ _ => amount_cell m ρ c k r δ, Finset.sum_const, smul_eq_mul]

theorem duties_done (c : Dev nD) (k : CK) (R : ℕ) (hR : (match k with | .send _ _ => 15 | .recv _ _ => 15 | _ => 1) ≤ R) :
    ∀ r, R ≤ r → (ringRd (F := F) m ρ).duties (cell c k) r = ∅ := fun r hr => by
  rw [duties_cell]
  cases k <;> simp only at hR <;> unfold dutiesK <;> simp only <;> exact if_neg (by omega)

/-! ## Dues and levels -/

/-- The payments of a core after its barrier signals, in the order it makes them: at step `i / 4` the chunk it sends on
    either ring, then the credit it returns on either ring. -/
def pay (c : Dev nD) (i : ℕ) : CellTallies nD τ sig ℕ :=
  if i % 4 = 0 then tallyAt (cell (nxt false c) (.recv false (par (i / 4)))) (i / 4) N
  else if i % 4 = 1 then tallyAt (cell (nxt true c) (.recv true (par (i / 4)))) (i / 4) N
  else if i % 4 = 2 then tallyAt (cell (prv false c) (.cred false)) (i / 4) 1
  else tallyAt (cell (prv true c) (.cred true)) (i / 4) 1

/-- What a core owes once it has made `q` of them. -/
def due (c : Dev nD) (q : ℕ) : CellTallies nD τ sig ℕ := ∑ i ∈ Finset.Ico q 120, pay c i

theorem due_step (c : Dev nD) (q : ℕ) (h : q < 120) : due c q = due c (q + 1) + pay c q := by
  unfold due; rw [Finset.sum_eq_sum_Ico_succ_bot h, add_comm]

theorem due_end (c : Dev nD) : due c 120 = 0 := by unfold due; simp

/-- After the signal to the previous device only the one to the next is owed, and the ring's. -/
def O₁ (c : Dev nD) : CellTallies nD τ sig ℕ := due c 0 + tallyAt (cell (nxt false c) .bar) 0 1
def O₀ (c : Dev nD) : CellTallies nD τ sig ℕ := O₁ c + tallyAt (cell (prv false c) .bar) 0 1

def L (g : GSem nD τ sig) : Finset ℕ := if g.1.2 = .tc then Finset.range 30 else ∅

def lvK (ι : ℕ) : CK → ℕ
  | .bar => 1
  | .send _ _ => 0
  | .recv _ _ => 2 * ι + 2
  | .cred _ => 2 * ι + 3

/-- A receive cell's step `k` is below the credit of that step, which is below the next step's receives; the barrier is
    below them all, everything else at the bottom. -/
def lv (g : GSem nD τ sig) (ι : ℕ) : ℕ := match kindOf g.2 with | some k => lvK ι k | none => 0

theorem lv_cell (c : Dev nD) (k : CK) (ι : ℕ) : lv (cell c k) ι = lvK ι k := by unfold lv; dsimp only [cell]; rw [kindOf_csem]

theorem L_of_ne (g : GSem nD τ sig) (h : g.1.2 ≠ .tc) : L g = ∅ := if_neg h
theorem L_tc (c : Dev nD) (sm : SemLoc sig) : L ((c : Thread nD τ), sm) = Finset.range 30 := if_pos rfl

/-- Which cell and step a payment is for, and its level. -/
theorem pay_pos {c : Dev nD} {i : ℕ} {g : GSem nD τ sig} {ι : ℕ} (h : 0 < pay c i g ι) :
    (∃ e k, g = cell e k) ∧ ι = i / 4 ∧ lv g ι = 2 * (i / 4) + (if i % 4 < 2 then 2 else 3) := by
  have key {e : Dev nD} {k : CK} {n : ℕ} (h : 0 < tallyAt (cell e k) (i / 4) n g ι) : g = cell e k ∧ ι = i / 4 := by
    rw [tallyAt_apply] at h
    by_contra hn
    rw [if_neg hn] at h
    exact Nat.lt_irrefl 0 h
  unfold pay at h
  split at h
  · obtain ⟨rfl, rfl⟩ := key h
    refine ⟨⟨_, _, rfl⟩, rfl, ?_⟩
    rw [lv_cell, if_pos (by omega)]; rfl
  · split at h
    · obtain ⟨rfl, rfl⟩ := key h
      refine ⟨⟨_, _, rfl⟩, rfl, ?_⟩
      rw [lv_cell, if_pos (by omega)]; rfl
    · split at h
      · obtain ⟨rfl, rfl⟩ := key h
        refine ⟨⟨_, _, rfl⟩, rfl, ?_⟩
        rw [lv_cell, if_neg (by omega)]; rfl
      · obtain ⟨rfl, rfl⟩ := key h
        refine ⟨⟨_, _, rfl⟩, rfl, ?_⟩
        rw [lv_cell, if_neg (by omega)]; rfl

theorem due_pos {c : Dev nD} {q : ℕ} {g : GSem nD τ sig} {ι : ℕ} (h : 0 < due c q g ι) :
    ∃ i, q ≤ i ∧ i < 120 ∧ 0 < pay c i g ι := by
  unfold due at h
  rw [Finset.sum_apply, Finsupp.finset_sum_apply] at h
  obtain ⟨i, hi, hp⟩ := Finset.exists_ne_zero_of_sum_ne_zero (Nat.pos_iff_ne_zero.mp h)
  rw [Finset.mem_Ico] at hi
  exact ⟨i, hi.1, hi.2, Nat.pos_of_ne_zero hp⟩

/-- A wait at step index `ι < 30` of one of the core's own semaphores is allowed when everything still owed is above it. -/
theorem mayWait_due (c : Dev nD) (sm : SemLoc sig) (ι q : ℕ) (hι : ι < 30)
    (hlv : ∀ i, q ≤ i → i < 120 → lv ((c : Thread nD τ), sm) ι < 2 * (i / 4) + (if i % 4 < 2 then 2 else 3)) :
    (levAts L lv : sProp 𝕄) ⊢ MayWait (c : Thread nD τ) sm ι (due c q) := by
  by_cases hq : q < 120
  · refine MayOwe.of_cut (L := L) (lev := lv) (lv ((c : Thread nD τ), sm) ι)
      (fun p hp => by rw [Finset.mem_singleton.mp hp, L_tc]; exact Finset.mem_range.mpr hι)
      (fun g u hg => by
        obtain ⟨i, hqi, hi, hp⟩ := due_pos hg
        obtain ⟨⟨e, k, rfl⟩, rfl, -⟩ := pay_pos hp
        rw [L_tc]; exact Finset.mem_range.mpr (by omega))
      (fun p hp => by rw [Finset.mem_singleton.mp hp])
      (fun g u hg => by
        obtain ⟨i, hqi, hi, hp⟩ := due_pos hg
        obtain ⟨-, rfl, h3⟩ := pay_pos hp
        rw [h3]; exact hlv i hqi hi)
  · have h0 : due c q = 0 := by unfold due; rw [Finset.Ico_eq_empty (by omega), Finset.sum_empty]
    rw [h0, MayWait_zero]; iintro -; iempintro

end Cert.RingProof
-- ==== Proof.RingState.lean ====
/-
# The ring all-reduce: what a core holds of the memory, step by step
-/
module

public import proofs.«01_k».proof.Proof.RingSched

@[expose] public section

noncomputable section

namespace Cert.RingProof

open Cert.RingIdeal Cert.RingIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : (ℓ : Loc nD τ sig) → Buf (Elt F) ℓ) (ρ : Dev nD → PrngReg)

theorem bigSep_put {I : Type} [DecidableEq I] {s : Finset I} {i : I} (hi : i ∉ s) (Φ : I → sProp 𝕄) :
    bigSep (insert i s) Φ = iprop(Φ i ∗ bigSep s Φ) := BI.bigSep_insert hi
theorem bigSep_pick {I : Type} [DecidableEq I] {s : Finset I} {i : I} (hi : i ∈ s) (Φ : I → sProp 𝕄) :
    bigSep s Φ = iprop(Φ i ∗ bigSep (s.erase i) Φ) := BI.bigSep_erase hi
/-! ## What a core holds of its result and of its landing slots -/

/-- The chunks (by how far behind `c` they lie) that `c` holds before step `k`: all but those lent as landing areas. -/
def own (k : ℕ) : Finset (Fin 16) := Finset.univ.filter fun i => i.val = 15 ∨ k < 14 + i.val ∨ 16 + i.val ≤ k

theorem mem_own {k : ℕ} {i : Fin 16} : i ∈ own k ↔ i.val = 15 ∨ k < 14 + i.val ∨ 16 + i.val ≤ k := by simp [own]

/-- The chunk `i` places behind `c`, holding what it holds before step `k`. -/
def piece (d : Bool) (c : Dev nD) (k i : ℕ) : sProp 𝕄 := ownsTc c (chM d (back d c i)) fullShare (cont m ρ d c k i)

/-- A landing slot of the reducing steps, whatever it holds. -/
def slot0 (d : Bool) (c : Dev nD) (s : Fin 2) : sProp 𝕄 := iprop(∃ v : Chunk F, ownsTc c (slM d s) fullShare v)

/-- The landing slots kept by `c` before step `k`, once the last reducing steps have used them. -/
def kept (d : Bool) (c : Dev nD) (k : ℕ) : sProp 𝕄 :=
  iprop((if 14 ≤ k then slot0 d c 1 else emp) ∗ (if 15 ≤ k then slot0 d c 0 else emp))

/-- What `c` holds of a ring's memory before step `k`. -/
def held (d : Bool) (c : Dev nD) (k : ℕ) : sProp 𝕄 :=
  iprop((bigSep (own k) fun i => piece m ρ d c k i.val) ∗ kept d c k)

/-- The same but for the chunk it sends. -/
def heldBut (d : Bool) (c : Dev nD) (k : ℕ) : sProp 𝕄 :=
  iprop((bigSep ((own k).erase ⟨k % 16, Nat.mod_lt _ (by decide)⟩) fun i => piece m ρ d c k i.val) ∗ kept d c k)

/-- A landing area of a later step, if there is such a step. -/
def areaAt (d : Bool) (c : Dev nD) (k : ℕ) : sProp 𝕄 := if k < 30 then area d c k else iprop(emp)

theorem cont_sent (d : Bool) (c : Dev nD) (k : ℕ) (hk : k < 30) : cont m ρ d c k (k % 16) = val m ρ d k c := by
  unfold cont
  by_cases h : k < 16
  · rw [Nat.mod_eq_of_lt h, if_neg (by omega), if_pos le_rfl]
  · rw [if_pos (by omega), show 16 + k % 16 = k by omega]

/-- The chunk sent at step `k` is among those held. -/
theorem held_send (d : Bool) (c : Dev nD) (k : ℕ) (hk : k < 30) :
    held m ρ d c k = iprop(sendPay m ρ d c k ∗ heldBut m ρ d c k) := by
  have hi : (⟨k % 16, Nat.mod_lt _ (by decide)⟩ : Fin 16) ∈ own k := by
    rw [mem_own]; simp only; omega
  unfold held heldBut
  rw [bigSep_pick hi]
  have e : piece m ρ d c k (k % 16) = sendPay m ρ d c k := by
    unfold piece sendPay; rw [cont_sent m ρ d c k hk, back_mod]
  rw [e]
  exact BI.Entails.antisymm (sep_assoc (PROP := sProp 𝕄)).1 (sep_assoc (PROP := sProp 𝕄)).2

theorem landM_lt (d : Bool) (r : Dev nD) (k : ℕ) (h : k < 15) : landM d r k = slM d (par k) := if_pos h
theorem landM_ge (d : Bool) (r : Dev nD) (k : ℕ) (h : ¬ k < 15) : landM d r k = chM d (back d r (k + 1)) := if_neg h

theorem cont_other (d : Bool) (c : Dev nD) (k i : ℕ) (h1 : i ≠ k + 1) (h2 : k + 1 ≠ 16 + i) :
    cont m ρ d c (k + 1) i = cont m ρ d c k i := by
  unfold cont
  by_cases h : 16 + i ≤ k
  · rw [if_pos h, if_pos (by omega)]
  · rw [if_neg h, if_neg (by omega)]
    by_cases h' : i ≤ k
    · rw [if_pos h', if_pos (by omega)]
    · rw [if_neg h', if_neg (by omega)]

/-- While reducing, the chunk that step `k` adds to is held, with the core's own part in it. -/
theorem held_reduce (d : Bool) (c : Dev nD) (k : ℕ) (hk : k < 15) :
    held m ρ d c k = iprop(ownsTc c (chM d (back d c (k + 1))) fullShare (xch m ρ d c (back d c (k + 1)))
      ∗ (bigSep ((own k).erase ⟨k + 1, by omega⟩) fun i => piece m ρ d c (k + 1) i.val) ∗ kept d c k) := by
  have hi : (⟨k + 1, by omega⟩ : Fin 16) ∈ own k := by
    rw [mem_own]; simp only; omega
  unfold held
  rw [bigSep_pick hi]
  have e : piece m ρ d c k (k + 1) = ownsTc c (chM d (back d c (k + 1))) fullShare (xch m ρ d c (back d c (k + 1))) := by
    unfold piece cont; rw [if_neg (by omega), if_neg (by omega)]
  have e2 : (bigSep ((own k).erase ⟨k + 1, by omega⟩) fun i => piece m ρ d c k i.val)
      = (bigSep ((own k).erase ⟨k + 1, by omega⟩) fun i => piece m ρ d c (k + 1) i.val) := by
    refine bigSep_congr fun i hi' => ?_
    rw [Finset.mem_erase, mem_own] at hi'
    have hne : i.val ≠ k + 1 := fun h => hi'.1 (Fin.ext h)
    unfold piece
    rw [cont_other m ρ d c k i.val hne (by omega)]
  rw [e2]
  refine (BI.Entails.antisymm (sep_assoc (PROP := sProp 𝕄)).1 (sep_assoc (PROP := sProp 𝕄)).2).trans ?_
  rw [← e]

/-- After adding: the chunks at their next contents. -/
theorem held_reduced (d : Bool) (c : Dev nD) (k : ℕ) (hk : k < 15) :
    iprop(ownsTc c (chM d (back d c (k + 1))) fullShare (val m ρ d (k + 1) c)
      ∗ (bigSep ((own k).erase ⟨k + 1, by omega⟩) fun i => piece m ρ d c (k + 1) i.val))
    = bigSep (own k) fun i => piece m ρ d c (k + 1) i.val := by
  have hi : (⟨k + 1, by omega⟩ : Fin 16) ∈ own k := by
    rw [mem_own]; simp only; omega
  rw [bigSep_pick hi]
  have e : piece m ρ d c (k + 1) (k + 1) = ownsTc c (chM d (back d c (k + 1))) fullShare (val m ρ d (k + 1) c) := by
    unfold piece cont; rw [if_neg (by omega), if_pos le_rfl]
  rw [← e]

/-- A held chunk that step `k + 2` lands in is a landing area. -/
theorem piece_area (d : Bool) (c : Dev nD) (k j : ℕ) (h : ¬ k < 15) (i : ℕ) (hi : i + 16 = k + 1) :
    (piece m ρ d c j i : sProp 𝕄) ⊢ area d c k := by
  unfold piece area
  rw [landM_ge d c k h, ← hi, back_add16]
  iintro H; iexists _; iexact H

theorem own_reduce_lt (k : ℕ) (h : k < 13) : own (k + 1) = own k := by
  ext i; rw [mem_own, mem_own]; omega

theorem own_lend (k : ℕ) (h : 13 ≤ k) (h' : k < 15) :
    own k = insert ⟨k - 13, by omega⟩ (own (k + 1)) := by
  ext i; rw [Finset.mem_insert, mem_own, mem_own, Fin.ext_iff]; simp only; omega

theorem own_lend_not (k : ℕ) (h : 13 ≤ k) (h' : k < 28) : (⟨k - 13, by omega⟩ : Fin 16) ∉ own (k + 1) := by
  rw [mem_own]; simp only; omega

/-- The end of a reducing step: the slot the chunk came in, or a chunk of the result, is the landing area of step `k + 2`. -/
theorem reduce_end (d : Bool) (c : Dev nD) (k : ℕ) (hk : k < 15) :
    iprop(((bigSep (own k) fun i => piece m ρ d c (k + 1) i.val) ∗ kept d c k) ∗ recvPay m ρ d c k)
      ⊢ (iprop(held m ρ d c (k + 1) ∗ areaAt d c (k + 2)) : sProp 𝕄) := by
  unfold held recvPay areaAt
  rw [if_pos (show k + 2 < 30 by omega)]
  by_cases h : k < 13
  · rw [own_reduce_lt k h, landM_lt d c k hk]
    unfold kept area
    rw [landM_lt d c (k + 2) (by omega), par_add_two]
    rw [if_neg (show ¬ 14 ≤ k by omega), if_neg (show ¬ 15 ≤ k by omega), if_neg (show ¬ 14 ≤ k + 1 by omega), if_neg (show ¬ 15 ≤ k + 1 by omega)]
    iintro ⟨HA, HB⟩
    isplitl [HA]; · iexact HA
    iexists _; iexact HB
  · rw [own_lend k (by omega) hk, bigSep_put (own_lend_not k (by omega) (by omega)), landM_lt d c k hk]
    have ha := piece_area m ρ d c (k + 2) (k + 1) (by omega) (k - 13) (by omega)
    have hs : (ownsTc c (slM d (par k)) fullShare (val m ρ d k (prv d c)) : sProp 𝕄) ⊢ slot0 d c (par k) := by
      unfold slot0; iintro H; iexists _; iexact H
    have h2 : k = 13 ∨ k = 14 := by omega
    iintro ⟨⟨⟨HA, HB⟩, HC⟩, HD⟩
    ihave HA := ha $$ HA
    ihave HD := hs $$ HD
    isplitr [HA]
    · isplitl [HB]; · iexact HB
      unfold kept
      rcases h2 with rfl | rfl
      · rw [if_neg (by omega), if_neg (by omega), if_pos (by omega), if_neg (by omega)]
        icases HC with ⟨-, HC⟩
        isplitl [HD]; · iexact HD
        iexact HC
      · rw [if_pos (by omega), if_neg (by omega), if_pos (by omega), if_pos (by omega)]
        icases HC with ⟨HC, -⟩
        isplitl [HC]; · iexact HC
        iexact HD
    · iexact HA

theorem own_gather_lend (k : ℕ) (h : 15 ≤ k) (h' : k < 28) :
    insert ⟨k - 15, by omega⟩ (own k) = insert ⟨k - 13, by omega⟩ (own (k + 1)) := by
  ext i; rw [Finset.mem_insert, Finset.mem_insert, mem_own, mem_own, Fin.ext_iff, Fin.ext_iff]; simp only; omega

theorem own_gather_last (k : ℕ) (h : 28 ≤ k) (h' : k < 30) : insert ⟨k - 15, by omega⟩ (own k) = own (k + 1) := by
  ext i; rw [Finset.mem_insert, mem_own, mem_own, Fin.ext_iff]; simp only; omega

theorem own_gather_not (k : ℕ) (h : 15 ≤ k) (h' : k < 30) : (⟨k - 15, by omega⟩ : Fin 16) ∉ own k := by
  rw [mem_own]; simp only; omega

/-- The end of a gathering step: the chunk landed in the result, and another chunk is the landing area of step `k + 2`. -/
theorem gather_end (d : Bool) (c : Dev nD) (k : ℕ) (hk : 15 ≤ k) (hk' : k < 30) :
    iprop(held m ρ d c k ∗ recvPay m ρ d c k) ⊢ (iprop(held m ρ d c (k + 1) ∗ areaAt d c (k + 2)) : sProp 𝕄) := by
  have e1 : (bigSep (own k) fun i => piece m ρ d c k i.val) = bigSep (own k) fun i => piece m ρ d c (k + 1) i.val := by
    refine bigSep_congr fun i hi => ?_
    rw [mem_own] at hi
    have := i.isLt
    unfold piece
    rw [cont_other m ρ d c k i.val (by omega) (by omega)]
  have e2 : recvPay m ρ d c k = piece m ρ d c (k + 1) (k - 15) := by
    unfold recvPay piece cont
    rw [landM_ge d c k (by omega), if_pos (by omega), show 16 + (k - 15) = k + 1 by omega, val_gather m ρ d c k (by omega),
      show k + 1 = (k - 15) + 16 by omega, back_add16]
  have e3 : kept (F := F) d c (k + 1) = kept d c k := by
    unfold kept; rw [if_pos (by omega), if_pos (by omega), if_pos (by omega), if_pos (by omega)]
  unfold held areaAt
  rw [e1, e2, e3]
  have e4 : iprop(piece m ρ d c (k + 1) (k - 15) ∗ bigSep (own k) fun i => piece m ρ d c (k + 1) i.val)
      = bigSep (insert ⟨k - 15, by omega⟩ (own k)) fun i => piece m ρ d c (k + 1) i.val := by
    rw [bigSep_put (own_gather_not k hk hk')]
  iintro ⟨⟨HA, HC⟩, HB⟩
  ihave HA := (Entails.of_eq e4) $$ [HA HB]
  · isplitl [HB] <;> iassumption
  by_cases h : k < 28
  · have e5 : (bigSep (insert ⟨k - 15, by omega⟩ (own k)) fun i => piece m ρ d c (k + 1) i.val)
        = iprop(piece m ρ d c (k + 1) (k - 13) ∗ bigSep (own (k + 1)) fun i => piece m ρ d c (k + 1) i.val) := by
      rw [own_gather_lend k hk h, bigSep_put (own_lend_not k (by omega) h)]
    ihave HA := (Entails.of_eq e5) $$ HA
    icases HA with ⟨HA, HB⟩
    isplitr [HA]
    · isplitl [HB]
      · iexact HB
      · iexact HC
    · rw [if_pos (by omega)]
      iapply (piece_area m ρ d c (k + 2) (k + 1) (by omega) (k - 13) (by omega)); iexact HA
  · have e5 : (bigSep (insert ⟨k - 15, by omega⟩ (own k)) fun i => piece m ρ d c (k + 1) i.val)
        = bigSep (own (k + 1)) fun i => piece m ρ d c (k + 1) i.val := by
      rw [own_gather_last k (by omega) hk']
    ihave HA := (Entails.of_eq e5) $$ HA
    isplitl [HA HC]
    · isplitl [HA]
      · iexact HA
      · iexact HC
    · rw [if_neg (by omega)]; iempintro

/-- A landing area is nonempty: two of it cannot be held. -/
theorem area_excl (d : Bool) (r : Dev nD) (k : ℕ) : iprop(area d r k ∗ area d r k) ⊢ (False : sProp 𝕄) := by
  have hs : (area d r k : sProp 𝕄) ⊢ slot ((landM d r k).view.loc (r : Thread nD τ)) (landM d r k).view.set := by
    unfold area slot ownsTc owns
    iintro ⟨%v, %f, -, H⟩
    iexists f; iexact H
  exact (BI.sep_mono hs hs).trans (slot_slot_false (View.set_nonempty (v := (landM d r k).view) (by decide)))

end Cert.RingProof
-- ==== Proof.RingRules.lean ====
/-
# The ring all-reduce: one rule per operation of the body
-/
module

public import proofs.«01_k».proof.Proof.RingState

@[expose] public section

set_option maxRecDepth 20000

noncomputable section

namespace Cert.RingProof

open Cert.RingIdeal Cert.RingIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : (ℓ : Loc nD τ sig) → Buf (Elt F) ℓ) (ρ : Dev nD → PrngReg)

/-! ## The facts every core shares -/

theorem bigSep_at {I : Type} [DecidableEq I] {s : Finset I} {i : I} (hi : i ∈ s) {Φ : I → sProp 𝕄} : bigSep s Φ ⊢ Φ i := bigSep_elim hi

def keys : Finset Key := Finset.univ ×ˢ (Finset.univ ×ˢ Finset.range 30)

/-- The invariants of all cells (each barrier cell at round 0 or later) and of all landing areas, and the level facts. -/
def facts : sProp 𝕄 :=
  iprop((bigSep Finset.univ fun x : Dev nD × Fin 11 => iprop(∃ κ, cellInv ER (ringRd m ρ) κ (cell x.1 (ckE x.2))))
    ∗ (bigSep Finset.univ fun e : Dev nD => reached ER (cell e .bar) 0)
    ∗ (bigSep keys fun k => iprop(∃ ι, slotInv ES ι k (area k.2.1 k.1 k.2.2)))
    ∗ levAts L lv)

instance facts_persistent : BI.Persistent (facts (F := F) m ρ) := by unfold facts; infer_instance

theorem facts_cell (e : Dev nD) (k : CK) : facts m ρ ⊢ (iprop(∃ κ, cellInv ER (ringRd m ρ) κ (cell e k)) : sProp 𝕄) := by
  obtain ⟨i, rfl⟩ := ckE_surj k
  unfold facts
  have h := bigSep_at (Finset.mem_univ ((e, i) : Dev nD × Fin 11)) (Φ := fun x : Dev nD × Fin 11 => iprop(∃ κ, cellInv ER (ringRd m ρ) κ (cell x.1 (ckE x.2))))
  iintro ⟨H, -, -, -⟩
  iapply h; iexact H

theorem facts_bar (e : Dev nD) : facts m ρ ⊢ (reached ER (cell e .bar) 0 : sProp 𝕄) := by
  unfold facts
  have h := bigSep_at (Finset.mem_univ e) (Φ := fun e : Dev nD => (reached ER (cell e .bar) 0 : sProp 𝕄))
  iintro ⟨-, H, -, -⟩
  iapply h; iexact H

theorem facts_slot (e : Dev nD) (d : Bool) (k : ℕ) (hk : k < 30) :
    facts m ρ ⊢ (iprop(∃ ι, slotInv ES ι (e, d, k) (area d e k)) : sProp 𝕄) := by
  unfold facts
  have h := bigSep_at (s := keys) (i := ((e, d, k) : Key)) (Φ := fun k : Key => iprop(∃ ι, slotInv ES ι k (area (F := F) k.2.1 k.1 k.2.2))) (by simp [keys, hk])
  iintro ⟨-, -, H, -⟩
  iapply h; iexact H

theorem facts_lev : (facts m ρ : sProp 𝕄) ⊢ (levAts L lv : sProp 𝕄) := by
  unfold facts; iintro ⟨-, -, -, H⟩; iexact H

/-- What a core knows after the barrier: that, and its two receivers' first two landing areas released. -/
def env (c : Dev nD) : sProp 𝕄 := iprop(facts m ρ ∗ rel false (nxt false c) 2 ∗ rel true (nxt true c) 2)

instance env_persistent (c : Dev nD) : BI.Persistent (env (F := F) m ρ c) := by unfold env; infer_instance

theorem env_facts (c : Dev nD) : env m ρ c ⊢ (facts m ρ : sProp 𝕄) := by unfold env; iintro ⟨H, -⟩; iexact H
theorem env_rel (d : Bool) (c : Dev nD) : env m ρ c ⊢ (rel d (nxt d c) 2 : sProp 𝕄) := by
  unfold env
  cases d
  · iintro ⟨-, H, -⟩; iexact H
  · iintro ⟨-, -, H⟩; iexact H

theorem rel_mono (d : Bool) (r : Dev nD) {a b : ℕ} (h : a ≤ b) : rel d r b ⊢ (rel d r a : sProp 𝕄) := by
  unfold rel
  exact sep_mono_right (bigSep_subset (Finset.range_mono h))

theorem rel_reached (d : Bool) (r : Dev nD) (n : ℕ) : rel d r n ⊢ (reached ER (cell r (.cred (!d))) 0 : sProp 𝕄) := by
  unfold rel
  iintro ⟨H, -⟩; iexact H

theorem rel_none (d : Bool) (r : Dev nD) : reached ER (cell r (.cred (!d))) 0 ⊢ (rel d r 0 : sProp 𝕄) := by
  unfold rel
  rw [Finset.range_zero, bigSep_empty]
  iintro H
  isplitl [H]; · iexact H
  iempintro

theorem rel_get (d : Bool) (r : Dev nD) {k b : ℕ} (h : k < b) :
    rel d r b ⊢ (iprop(released ES (r, d, k) 1 ∗ reached ER (cell r (.recv d (par k))) (k / 2)) : sProp 𝕄) := by
  unfold rel
  have h := bigSep_at (Finset.mem_range.mpr h) (Φ := fun k => (iprop(released ES (r, d, k) 1 ∗ reached ER (cell r (.recv d (par k))) (k / 2)) : sProp 𝕄))
  iintro ⟨-, H⟩
  iapply h; iexact H

theorem rel_succ (d : Bool) (r : Dev nD) (k : ℕ) :
    iprop(rel d r k ∗ released ES (r, d, k) 1 ∗ reached ER (cell r (.recv d (par k))) (k / 2)) ⊢ (rel d r (k + 1) : sProp 𝕄) := by
  unfold rel
  rw [Finset.range_add_one, bigSep_put Finset.notMem_range_self]
  iintro ⟨⟨HC, HA⟩, HB⟩
  isplitl [HC]; · iexact HC
  isplitl [HB]
  · iexact HB
  · iexact HA

/-! ## What a core holds through the steps of one ring -/

def posS (d : Bool) (c : Dev nD) (k : ℕ) : sProp 𝕄 :=
  iprop(atPos ER (cell c (.send d (par k))) (k / 2) ∅ 0 ∗ reached ER (cell c (.send d (par k))) (k / 2))
def posR (d : Bool) (c : Dev nD) (k : ℕ) : sProp 𝕄 :=
  iprop(atPos ER (cell c (.recv d (par k))) (k / 2) ∅ 0 ∗ reached ER (cell c (.recv d (par k))) (k / 2))
theorem posS_eq (d : Bool) (c : Dev nD) (k : ℕ) : (posS d c k : sProp 𝕄)
    = iprop(atPos ER (cell c (.send d (par k))) (k / 2) ∅ 0 ∗ reached ER (cell c (.send d (par k))) (k / 2)) := rfl
theorem posR_eq (d : Bool) (c : Dev nD) (k : ℕ) : (posR d c k : sProp 𝕄)
    = iprop(atPos ER (cell c (.recv d (par k))) (k / 2) ∅ 0 ∗ reached ER (cell c (.recv d (par k))) (k / 2)) := rfl
/-- After `n` credit waits: at least `n` of the receiver's returns heard. -/
def posC (d : Bool) (c : Dev nD) (n : ℕ) : sProp 𝕄 :=
  iprop(∃ T : Finset ℕ, ⌜T ⊆ Finset.range 30 ∧ n ≤ T.card⌝ ∗ atPos ER (cell c (.cred d)) 0 T n
    ∗ bigSep T fun δ => rel d (nxt d c) (min (δ + 3) 30))

/-- Step `k`'s tokens for its transfer. -/
def sup1 (d : Bool) (c : Dev nD) (k : ℕ) : sProp 𝕄 :=
  iprop(writeTok ES (nxt d c, d, k) 1 ∗ dutyTok ER (cell c (.send d (par k))) (k / 2) 0 ∗ dutyTok ER (cell (nxt d c) (.recv d (par k))) (k / 2) 0)
/-- Its credit for the arrival. -/
def sup2 (d : Bool) (c : Dev nD) (k : ℕ) : sProp 𝕄 := cred (tallyAt (cell c (.recv d (par k))) k N)
/-- Its tokens for the credit it returns, and its count of the landing area it then releases. -/
def sup3 (d : Bool) (c : Dev nD) (k : ℕ) : sProp 𝕄 :=
  iprop(dutyTok ER (cell (prv d c) (.cred d)) 0 k ∗ (if k + 2 < 30 then readerAt ES (c, d, k + 2) 0 else emp))
/-- Its credit for the receiver's return. -/
def sup0 (d : Bool) (c : Dev nD) (k : ℕ) : sProp 𝕄 := if 2 ≤ k then cred (tallyAt (cell c (.cred d)) (k - 2) 1) else iprop(emp)

def sup (d : Bool) (c : Dev nD) (k : ℕ) : sProp 𝕄 := iprop(sup0 d c k ∗ sup1 d c k ∗ sup2 d c k ∗ sup3 d c k)

/-- The credits of the two waits at the end. -/
def fin2 (d : Bool) (c : Dev nD) : sProp 𝕄 := iprop(cred (tallyAt (cell c (.cred d)) 28 1) ∗ cred (tallyAt (cell c (.cred d)) 29 1))

/-- What step `k` leaves alone. -/
def rest (d : Bool) (c : Dev nD) (k : ℕ) : sProp 𝕄 :=
  iprop((bigSep (Finset.Ico (k + 1) 30) fun k => sup d c k) ∗ fin2 d c ∗ rel d c (min (k + 2) 30) ∗ posS d c (k + 1) ∗ posR d c (k + 1))

/-- Where a core is in one ring: before step `k`; before its transfer; after it; after it has left; after the arrival;
    after the reduction or the gathering; at the end. -/
inductive Ph : Type
  | p0 (k : ℕ) | p1 (k : ℕ) | p2 (k : ℕ) | p3 (k : ℕ) | p4 (k : ℕ) | p5 (k : ℕ) | p6

def P (d : Bool) (c : Dev nD) : Ph → sProp 𝕄
  | .p0 k => iprop((bigSep (Finset.Ico k 30) fun k => sup d c k) ∗ fin2 d c ∗ rel d c (min (k + 2) 30)
      ∗ posS d c k ∗ posS d c (k + 1) ∗ posR d c k ∗ posR d c (k + 1) ∗ posC d c (k - 2) ∗ held m ρ d c k)
  | .p1 k => iprop(rest d c k ∗ posS d c k ∗ posR d c k ∗ posC d c (k + 1 - 2) ∗ rel d (nxt d c) (k + 1)
      ∗ sup1 d c k ∗ sup2 d c k ∗ sup3 d c k ∗ held m ρ d c k)
  | .p2 k => iprop(rest d c k ∗ posS d c k ∗ posR d c k ∗ posC d c (k + 1 - 2)
      ∗ cred (tallyAt (cell c (.send d (par k))) k N) ∗ sup2 d c k ∗ sup3 d c k ∗ heldBut m ρ d c k)
  | .p3 k => iprop(rest d c k ∗ posS d c (k + 2) ∗ posR d c k ∗ posC d c (k + 1 - 2) ∗ sup2 d c k ∗ sup3 d c k ∗ held m ρ d c k)
  | .p4 k => iprop(rest d c k ∗ posS d c (k + 2) ∗ posR d c (k + 2) ∗ posC d c (k + 1 - 2) ∗ sup3 d c k ∗ held m ρ d c k ∗ recvPay m ρ d c k)
  | .p5 k => iprop(rest d c k ∗ posS d c (k + 2) ∗ posR d c (k + 2) ∗ posC d c (k + 1 - 2) ∗ sup3 d c k ∗ held m ρ d c (k + 1) ∗ areaAt d c (k + 2))
  | .p6 => iprop(posS d c 30 ∗ posS d c 31 ∗ posR d c 30 ∗ posR d c 31 ∗ atPos ER (cell c (.cred d)) 1 ∅ 0 ∗ held m ρ d c 30)

/-- What it owes after `q` payments. -/
def Ow (c : Dev nD) (q : ℕ) : sProp 𝕄 := iprop(∃ W : Waits sig ℕ, owes (c : Thread nD τ) (due c q) W)

abbrev WP {α : Type} (c : Dev nD) (p : Prog (TpuEff nD τ sig (Elt F) Λ₀ .tc) α) (Q : α → sProp 𝕄) : sProp 𝕄 :=
  wp frame (wpE (defs₀ (F := F)) Variants.none (c : Thread nD τ) none) Set.univ p Q

/-! ## Ghost steps -/

theorem sup_first (d : Bool) (c : Dev nD) (k : ℕ) (hk : k < 30) :
    (bigSep (Finset.Ico k 30) fun k => sup (F := F) d c k) = iprop(sup d c k ∗ bigSep (Finset.Ico (k + 1) 30) fun k => sup d c k) := by
  rw [show Finset.Ico k 30 = insert k (Finset.Ico (k + 1) 30) by ext x; simp only [Finset.mem_Ico, Finset.mem_insert]; omega]
  exact bigSep_put (by rw [Finset.mem_Ico]; omega) _

/-- The first two steps wait for no return: their areas were released before the barrier. -/
theorem g_start (d : Bool) (c : Dev nD) (k : ℕ) (hk : k < 2) : iprop(env m ρ c ∗ P m ρ d c (.p0 k)) ⊢ (P m ρ d c (.p1 k) : sProp 𝕄) := by
  simp only [P]
  rw [sup_first d c k (by omega), show k - 2 = k + 1 - 2 by omega]
  unfold sup rest
  iintro ⟨He, ⟨⟨-, H1, H2, H3⟩, Hb⟩, Hf, Hr, HS, HS', HR, HR', HC, HM⟩
  ihave He := (env_rel m ρ d c) $$ He
  ihave He := (rel_mono d (nxt d c) (show k + 1 ≤ 2 by omega)) $$ He
  isplitl [Hb Hf Hr HS' HR']
  · isplitl [Hb]; · iexact Hb
    isplitl [Hf]; · iexact Hf
    isplitl [Hr]; · iexact Hr
    isplitl [HS']; · iexact HS'
    iexact HR'
  isplitl [HS]; · iexact HS
  isplitl [HR]; · iexact HR
  isplitl [HC]; · iexact HC
  isplitl [He]; · iexact He
  isplitl [H1]; · iexact H1
  isplitl [H2]; · iexact H2
  isplitl [H3]; · iexact H3
  iexact HM

/-- A gathering step does nothing with the chunk that has landed in the result. -/
theorem g_gather (d : Bool) (c : Dev nD) (k : ℕ) (hk : 15 ≤ k) (hk' : k < 30) : P m ρ d c (.p4 k) ⊢ (P m ρ d c (.p5 k) : sProp 𝕄) := by
  simp only [P]
  iintro ⟨HA, HB, HC, HD, HE, HF, HG⟩
  ihave H := (gather_end m ρ d c k hk hk') $$ [HF HG]
  · isplitl [HF]; · iexact HF
    iexact HG
  isplitl [HA]; · iexact HA
  isplitl [HB]; · iexact HB
  isplitl [HC]; · iexact HC
  isplitl [HD]; · iexact HD
  isplitl [HE]; · iexact HE
  iexact H

/-! ## One rule per operation -/

section Rules

theorem par_div (k : ℕ) : 2 * (k / 2) + (par k).val = k := by unfold par; simp only; omega
theorem div_add_two (k : ℕ) : (k + 2) / 2 = k / 2 + 1 := by omega

theorem pay_send (d : Bool) (c : Dev nD) (k q : ℕ) (hq : q = 4 * k + (if d then 1 else 0)) :
    pay c q = tallyAt (cell (nxt d c) (.recv d (par k))) k N := by
  subst hq
  cases d
  · simp only [Bool.false_eq_true, if_false]
    unfold pay
    rw [if_pos (by omega), show (4 * k + 0) / 4 = k by omega]
  · simp only [if_true]
    unfold pay
    rw [if_neg (by omega), if_pos (by omega), show (4 * k + 1) / 4 = k by omega]

theorem pay_cred (d : Bool) (c : Dev nD) (k q : ℕ) (hq : q = 4 * k + 2 + (if d then 1 else 0)) :
    pay c q = tallyAt (cell (prv d c) (.cred d)) k 1 := by
  subst hq
  cases d
  · simp only [Bool.false_eq_true, if_false]
    unfold pay
    rw [if_neg (by omega), if_neg (by omega), if_pos (by omega), show (4 * k + 2 + 0) / 4 = k by omega]
  · simp only [if_true]
    unfold pay
    rw [if_neg (by omega), if_neg (by omega), if_neg (by omega), show (4 * k + 2 + 1) / 4 = k by omega]

theorem credit_ch (d : Bool) (j : Dev nD) : (chM d j).view.dmaCredit = N := rfl
theorem credit_sl (d : Bool) (s : Fin 2) : (slM d s).view.dmaCredit = N := by revert d s; decide +kernel

theorem credit_land (d : Bool) (r : Dev nD) (k : ℕ) : (landM d r k).view.dmaCredit = N := by
  unfold landM; split
  · exact credit_sl d (par k)
  · exact credit_ch d _

theorem dK_send (d : Bool) (s : Fin 2) (r : ℕ) (h : r < 15) : dutiesK r (.send d s) = {0} := by unfold dutiesK; exact if_pos h
theorem dK_recv (d : Bool) (s : Fin 2) (r : ℕ) (h : r < 15) : dutiesK r (.recv d s) = {0} := by unfold dutiesK; exact if_pos h
theorem dK_cred (d : Bool) : dutiesK 0 (.cred d) = Finset.range 30 := by unfold dutiesK; exact if_pos rfl
theorem dK_bar : dutiesK 0 .bar = {0, 1} := by unfold dutiesK; exact if_pos rfl

theorem duty_send (d : Bool) (c : Dev nD) (k : ℕ) (hk : k < 30) (s : Fin 2) : 0 ∈ (ringRd m ρ).duties (cell c (.send d s)) (k / 2) := by
  rw [duties_cell]; rw [dK_send d s (k / 2) (by omega)]; exact Finset.mem_singleton_self _
theorem duty_recv (d : Bool) (c : Dev nD) (k : ℕ) (hk : k < 30) (s : Fin 2) : 0 ∈ (ringRd m ρ).duties (cell c (.recv d s)) (k / 2) := by
  rw [duties_cell]; rw [dK_recv d s (k / 2) (by omega)]; exact Finset.mem_singleton_self _

theorem mayWait_cell (c : Dev nD) (K : CK) (ι q : ℕ) (hι : ι < 30)
    (hlv : ∀ i, q ≤ i → lvK ι K < 2 * (i / 4) + (if i % 4 < 2 then 2 else 3)) :
    (levAts L lv : sProp 𝕄) ⊢ MayWait (c : Thread nD τ) (csem K) ι (due c q) :=
  mayWait_due c (csem K) ι q hι fun i hi _ => lt_of_eq_of_lt (lv_cell c K ι) (hlv i hi)

theorem may_send (d : Bool) (c : Dev nD) (k q : ℕ) (hk : k < 30) :
    (levAts L lv : sProp 𝕄) ⊢ MayWait (c : Thread nD τ) (.dma (sendS d (par k))) k (due c q) :=
  mayWait_cell c (.send d (par k)) k q hk fun i hi => by
    show 0 < _
    split <;> omega
theorem may_recv (d : Bool) (c : Dev nD) (k q : ℕ) (hk : k < 30) (hq : 4 * k + 2 ≤ q) :
    (levAts L lv : sProp 𝕄) ⊢ MayWait (c : Thread nD τ) (.dma (recvS d (par k))) k (due c q) :=
  mayWait_cell c (.recv d (par k)) k q hk fun i hi => by
    show 2 * k + 2 < _
    split <;> omega
theorem may_cred (d : Bool) (c : Dev nD) (n q : ℕ) (hk : n < 30) (hq : 4 * (n + 2) ≤ q) :
    (levAts L lv : sProp 𝕄) ⊢ MayWait (c : Thread nD τ) (.reg (credS d)) n (due c q) :=
  mayWait_cell c (.cred d) n q hk fun i hi => by
    show 2 * n + 3 < _
    split <;> omega

theorem send_made (d : Bool) (c : Dev nD) (k : ℕ) (fs : Buf (Elt F) ((chM d (back d c k)).view.loc (c : Thread nD τ)))
    (h : (chM d (back d c k)).view.read (Elt F) fs = val m ρ d k c) :
    ((chM d (back d c k)).view.loc (c : Thread nD τ) ↦[(chM d (back d c k)).view.set]{fullShare} fs)
      ⊢ ((ringRd m ρ).payload (cell c (.send d (par k))) (k / 2) 0 : sProp 𝕄) := by
  refine BI.Entails.trans ?_ (Entails.of_eq (payload_cell m ρ c (.send d (par k)) (k / 2) 0).symm)
  have e : payloadK m ρ c (k / 2) 0 (.send d (par k)) = sendPay m ρ d c k := by unfold payloadK; simp only; rw [par_div]
  rw [e]
  unfold sendPay ownsTc
  rw [← h]
  exact owns_intro (c : Thread nD τ) (chM d (back d c k)) fullShare fs

theorem recv_made (d : Bool) (c : Dev nD) (k : ℕ) (fs : Buf (Elt F) ((chM d (back d c k)).view.loc (c : Thread nD τ)))
    (fd : Buf (Elt F) ((landM d (nxt d c) k).view.loc (nxt d c : Thread nD τ)))
    (h : (chM d (back d c k)).view.read (Elt F) fs = val m ρ d k c) :
    ((landM d (nxt d c) k).view.loc (nxt d c : Thread nD τ) ↦[(landM d (nxt d c) k).view.set]{fullShare}
        ((landM d (nxt d c) k).view.write (Elt F) fd ((chM d (back d c k)).view.read (Elt F) fs) Finset.univ))
      ⊢ ((ringRd m ρ).payload (cell (nxt d c) (.recv d (par k))) (k / 2) 0 : sProp 𝕄) := by
  refine BI.Entails.trans ?_ (Entails.of_eq (payload_cell m ρ (nxt d c) (.recv d (par k)) (k / 2) 0).symm)
  have e : payloadK m ρ (nxt d c) (k / 2) 0 (.recv d (par k)) = recvPay m ρ d (nxt d c) k := by unfold payloadK; simp only; rw [par_div]
  rw [e, h]
  unfold recvPay ownsTc
  rw [prv_nxt]
  have h2 : _ ⊢ (owns (nxt d c : Thread nD τ) (landM d (nxt d c) k) fullShare _ : sProp 𝕄) := owns_intro (nxt d c : Thread nD τ) (landM d (nxt d c) k) fullShare ((landM d (nxt d c) k).view.write (Elt F) fd (val m ρ d k c) Finset.univ)
  rw [View.read_write_univ] at h2
  exact h2

variable {m ρ} in
/-- The transfer of step `k`. -/
theorem r_send {d : Bool} {c : Dev nD} {k q : ℕ} {n : Dev nD}
    {src : Memref sig .tc .vmem S128x1024 .bf16} {dst : Memref sig (Dev.tc n : Thread nD τ).2.kind .vmem S128x1024 .bf16} {s1 s2 : DmaSem sig}
    {hsc : dst.view.ref.isScScratch = false} {hsrc : src.view.WordExact} {hdst : dst.view.WordExact}
    {hsem : DmaTarget.Typed .vmem (.dma s2) (.remote (Dev.tc n : Thread nD τ) dst (.dma s1) hsc)} {α : Type} {Q : α → sProp 𝕄} {K : PUnit → Prog (TpuEff nD τ sig (Elt F) Λ₀ .tc) α}
    (hn : n = nxt d c) (hsrc' : src = chM d (back d c k)) (hdst' : dst = landM d n k) (hk : k < 30 := by decide)
    (hq : q = 4 * k + (if d then 1 else 0) := by rfl) (h1 : s1 = sendS d (par k) := by rfl) (h2 : s2 = recvS d (par k) := by rfl) :
    iprop(env m ρ c ∗ P m ρ d c (.p1 k) ∗ Ow c q)
      ⊢ iprop(((P m ρ d c (.p2 k) ∗ Ow c (q + 1)) -∗ WP c (K ⟨⟩) Q)
        -∗ WP c (.op (.enqueueDma src (.remote (Dev.tc n : Thread nD τ) dst (.dma s1) hsc) (.dma s2) hsrc hdst hsem) K) Q) := by
  subst hn hsrc' hdst' h1 h2
  simp only [P]
  rw [held_send m ρ d c k hk]
  unfold sup1 Ow sendPay
  iintro ⟨#He, ⟨Hrest, HS, HR, HC, #Hrel, ⟨Hw, Ht1, Ht2⟩, H2, H3, Hsrc, HM⟩, ⟨%W, HO⟩⟩ Hk
  ihave HS := (Entails.of_eq (posS_eq d c k)) $$ HS
  icases HS with ⟨HS, #HSr⟩
  ihave #Hfacts := (env_facts m ρ c) $$ He
  ihave Hc1 := (facts_cell m ρ c (.send d (par k))) $$ Hfacts
  icases Hc1 with ⟨%κ₁, #Hc1⟩
  ihave Hc2 := (facts_cell m ρ (nxt d c) (.recv d (par k))) $$ Hfacts
  icases Hc2 with ⟨%κ₂, #Hc2⟩
  ihave Hsl := (facts_slot m ρ (nxt d c) d k hk) $$ Hfacts
  icases Hsl with ⟨%ι, #Hsl⟩
  ihave Hg := (rel_get d (nxt d c) (Nat.lt_succ_self k)) $$ Hrel
  icases Hg with ⟨#Hrd, #Hrr⟩
  imod (slot_take ES (S := area (F := F) d (nxt d c) k) (ι := ι) (Set.mem_univ ι) 1) $$ [Hw] with Ha
  · isplitr; · iexact Hsl
    isplitr; · iexact Hrd
    iexact Hw
  unfold area
  icases Ha with ⟨%v, Ha⟩
  unfold ownsTc owns
  icases Ha with ⟨%fd, -, Ha⟩
  icases Hsrc with ⟨%fs, %hfs, Hsrc⟩
  iapply (Rounds.wp_send_pointsTo Variants.none ER (ringRd m ρ) (c : Thread nD τ) none (c' := (nxt d c : Thread nD τ)) (sp := .vmem) (sp' := .vmem) (κ₁ := κ₁) (κ₂ := κ₂)
    (src := chM d (back d c k)) (dst := landM d (nxt d c) k) (sS := .dma (sendS d (par k))) (sem := .dma (recvS d (par k)))
    (q := fullShare) (r₁ := k / 2) (r₂ := k / 2) (d₁ := 0) (d₂ := 0) (fs := fs) (fd := fd)
    (duty_send m ρ d c k hk (par k)) (duty_recv m ρ d (nxt d c) k hk (par k))
    k k N (credit_land d (nxt d c) k) (amount_cell m ρ c (.send d (par k)) _ _) (amount_cell m ρ (nxt d c) (.recv d (par k)) _ _)
    (O₀ := due c q) (due c (q + 1)) (by rw [due_step c q (by split at hq <;> omega), pay_send d c k q hq]) (W := W)
    (send_made m ρ d c k fs hfs) (recv_made m ρ d c k fs fd hfs)) $$ [Hsrc Ha HO Ht1 Ht2]
  · isplitr; · iexact Hc1
    isplitr; · iexact Hc2
    isplitl [Hsrc]; · iexact Hsrc
    isplitl [Ha]; · iexact Ha
    isplitl [HO]; · iexact HO
    isplitl [Ht1]; · iexact Ht1
    isplitr; · iexact HSr
    isplitl [Ht2]; · iexact Ht2
    iexact Hrr
  iintro ⟨Hcr, HO⟩
  iapply Hk
  isplitr [HO]
  · isplitl [Hrest]; · iexact Hrest
    isplitl [HS]
    · unfold posS; isplitl [HS]; · iexact HS
      iexact HSr
    isplitl [HR]; · iexact HR
    isplitl [HC]; · iexact HC
    isplitl [Hcr]; · iexact Hcr
    isplitl [H2]; · iexact H2
    isplitl [H3]; · iexact H3
    iexact HM
  · iexists W; iexact HO

theorem bigSep_one (Φ : ℕ → sProp 𝕄) : bigSep (({0} : Finset ℕ) \ ∅) Φ = Φ 0 := by rw [Finset.sdiff_empty, bigSep_singleton]

variable {m ρ} in
/-- The wait for step `k`'s transfer to have left. -/
theorem r_sent {d : Bool} {c : Dev nD} {k q : ℕ} {sm : DmaSem sig} {sp sp' : Space} {s s' : Shape} {e e' : EltTy} {src : Memref sig .tc sp' s' e'} {dst : Memref sig .tc sp s e}
    {hsrc : src.view.WordExact} {hdst : dst.view.WordExact} {α : Type} {Q : α → sProp 𝕄} {K : PUnit → Prog (TpuEff nD τ sig (Elt F) Λ₀ .tc) α}
    (hN : dst.view.dmaCredit = N) (hk : k < 30 := by decide) (hsm : sm = sendS d (par k) := by rfl) :
    iprop(env m ρ c ∗ P m ρ d c (.p2 k) ∗ Ow c q)
      ⊢ iprop(((P m ρ d c (.p3 k) ∗ Ow c q) -∗ WP c (K ⟨⟩) Q)
        -∗ WP c (.op (.waitDma2 sm src dst hsrc hdst) K) Q) := by
  subst hsm
  simp only [P]
  rw [held_send m ρ d c k hk]
  unfold Ow
  iintro ⟨#He, ⟨Hrest, HS, HR, HC, Hcr, H2, H3, HM⟩, ⟨%W, HO⟩⟩ Hk
  ihave HS := (Entails.of_eq (posS_eq d c k)) $$ HS
  icases HS with ⟨HS, -⟩
  ihave #Hfacts := (env_facts m ρ c) $$ He
  ihave Hc1 := (facts_cell m ρ c (.send d (par k))) $$ Hfacts
  icases Hc1 with ⟨%κ, #Hc1⟩
  ihave #Hlev := (facts_lev m ρ) $$ Hfacts
  have hmw := may_send (F := F) d c k q hk
  ihave #Hmw := hmw $$ Hlev
  iapply (Rounds.wp_wait_rest_token Variants.none ER (ringRd m ρ) (c : Thread nD τ) none (κ := κ)
      (wpE_waitDma2_eq Variants.none (c : Thread nD τ) none Set.univ) (Set.mem_univ _) k (O := due c q) (W := W) (R := k / 2) (m := 0) (T := ∅)
      (by
        have h := expect_cell m ρ c (.send d (par k)) (k / 2)
        rw [dK_send d (par k) (k / 2) (by omega), Finset.card_singleton, one_mul] at h
        rw [hN, Nat.zero_add]; exact h.symm)) $$ [Hcr HO HS]
  · isplitr; · iexact Hc1
    isplitl [Hcr]; · rw [hN]; iexact Hcr
    isplitl [HO]; · iexact HO
    isplitr; · iexact Hmw
    iexact HS
  iintro ⟨HO, HS, HSr, Hpay⟩
  ihave Hpay := (Entails.of_eq (show (bigSep ((ringRd m ρ).duties (cell c (.send d (par k))) (k / 2) \ ∅) fun δ => (ringRd m ρ).payload (cell c (.send d (par k))) (k / 2) δ)
      = sendPay m ρ d c k by
    rw [duties_cell, dK_send d (par k) (k / 2) (by omega), bigSep_one, payload_cell]
    unfold payloadK; simp only; rw [par_div])) $$ Hpay
  iapply Hk
  isplitr [HO]
  · isplitl [Hrest]; · iexact Hrest
    isplitl [HS HSr]
    · unfold posS; rw [par_add_two, div_add_two]; isplitl [HS]; · iexact HS
      iexact HSr
    isplitl [HR]; · iexact HR
    isplitl [HC]; · iexact HC
    isplitl [H2]; · iexact H2
    isplitl [H3]; · iexact H3
    isplitl [Hpay]; · iexact Hpay
    iexact HM
  · iexists _; iexact HO

variable {m ρ} in
/-- The wait for step `k`'s chunk to arrive. -/
theorem r_recv {d : Bool} {c : Dev nD} {k q : ℕ} {sm : DmaSem sig} {sp sp' : Space} {s s' : Shape} {e e' : EltTy} {src : Memref sig .tc sp' s' e'} {dst : Memref sig .tc sp s e}
    {hsrc : src.view.WordExact} {hdst : dst.view.WordExact} {α : Type} {Q : α → sProp 𝕄} {K : PUnit → Prog (TpuEff nD τ sig (Elt F) Λ₀ .tc) α}
    (hN : dst.view.dmaCredit = N) (hk : k < 30 := by decide) (hq : 4 * k + 2 ≤ q := by decide)
    (hsm : sm = recvS d (par k) := by rfl) :
    iprop(env m ρ c ∗ P m ρ d c (.p3 k) ∗ Ow c q)
      ⊢ iprop(((P m ρ d c (.p4 k) ∗ Ow c q) -∗ WP c (K ⟨⟩) Q)
        -∗ WP c (.op (.waitDma2 sm src dst hsrc hdst) K) Q) := by
  subst hsm
  simp only [P]
  unfold Ow sup2
  iintro ⟨#He, ⟨Hrest, HS, HR, HC, Hcr, H3, HM⟩, ⟨%W, HO⟩⟩ Hk
  ihave HR := (Entails.of_eq (posR_eq d c k)) $$ HR
  icases HR with ⟨HR, -⟩
  ihave #Hfacts := (env_facts m ρ c) $$ He
  ihave Hc1 := (facts_cell m ρ c (.recv d (par k))) $$ Hfacts
  icases Hc1 with ⟨%κ, #Hc1⟩
  ihave #Hlev := (facts_lev m ρ) $$ Hfacts
  have hmw := may_recv (F := F) d c k q hk hq
  ihave #Hmw := hmw $$ Hlev
  iapply (Rounds.wp_wait_rest_token Variants.none ER (ringRd m ρ) (c : Thread nD τ) none (κ := κ)
      (wpE_waitDma2_eq Variants.none (c : Thread nD τ) none Set.univ) (Set.mem_univ _) k (O := due c q) (W := W) (R := k / 2) (m := 0) (T := ∅)
      (by
        have h := expect_cell m ρ c (.recv d (par k)) (k / 2)
        rw [dK_recv d (par k) (k / 2) (by omega), Finset.card_singleton, one_mul] at h
        rw [hN, Nat.zero_add]; exact h.symm)) $$ [Hcr HO HR]
  · isplitr; · iexact Hc1
    isplitl [Hcr]; · rw [hN]; iexact Hcr
    isplitl [HO]; · iexact HO
    isplitr; · iexact Hmw
    iexact HR
  iintro ⟨HO, HR, HRr, Hpay⟩
  ihave Hpay := (Entails.of_eq (show (bigSep ((ringRd m ρ).duties (cell c (.recv d (par k))) (k / 2) \ ∅) fun δ => (ringRd m ρ).payload (cell c (.recv d (par k))) (k / 2) δ)
      = recvPay m ρ d c k by
    rw [duties_cell, dK_recv d (par k) (k / 2) (by omega), bigSep_one, payload_cell]
    unfold payloadK; simp only; rw [par_div])) $$ Hpay
  iapply Hk
  isplitr [HO]
  · isplitl [Hrest]; · iexact Hrest
    isplitl [HS]; · iexact HS
    isplitl [HR HRr]
    · unfold posR; rw [par_add_two, div_add_two]; isplitl [HR]; · iexact HR
      iexact HRr
    isplitl [HC]; · iexact HC
    isplitl [H3]; · iexact H3
    isplitl [HM]; · iexact HM
    iexact Hpay
  · iexists _; iexact HO

variable {m ρ} in
/-- The return of step `k`'s credit: the landing area of step `k + 2` is released. -/
theorem r_signal {d : Bool} {c : Dev nD} {k q : ℕ} {n : Dev nD} {sm : Sem sig} {i : ℤ} {α : Type} {Q : α → sProp 𝕄} {K : PUnit → Prog (TpuEff nD τ sig (Elt F) Λ₀ .tc) α}
    (hn : n = prv d c) (hk : k < 30 := by decide) (hq : q = 4 * k + 2 + (if d then 1 else 0) := by rfl) (hsm : sm = credS d := by rfl)
    (hi : i = ((1 : ℕ) : ℤ) := by rfl) :
    iprop(env m ρ c ∗ P m ρ d c (.p5 k) ∗ Ow c q)
      ⊢ iprop(((P m ρ d c (.p0 (k + 1)) ∗ Ow c (q + 1)) -∗ WP c (K ⟨⟩) Q)
        -∗ WP c (.op (.semSignal ((n, .tc) : Thread nD τ) sm i) K) Q) := by
  subst hn hsm hi
  simp only [P]
  unfold Ow sup3 rest
  iintro ⟨#He, ⟨⟨Hb, Hf, #Hrel, HS', HR'⟩, HS, HR, HC, ⟨Ht, Hrd⟩, HM, Ha⟩, ⟨%W, HO⟩⟩ Hk
  ihave HR := (Entails.of_eq (posR_eq d c (k + 2))) $$ HR
  icases HR with ⟨HR, #HRr⟩
  ihave #Hfacts := (env_facts m ρ c) $$ He
  ihave Hc1 := (facts_cell m ρ (prv d c) (.cred d)) $$ Hfacts
  icases Hc1 with ⟨%κ, #Hc1⟩
  ihave Hreach := (env_rel m ρ (!d) c) $$ He
  ihave #Hreach := ((rel_reached (!d) (nxt (!d) c) 2).trans (Entails.of_eq
    (show reached ER (cell (nxt (!d) c) (.cred (!!d))) 0 = reached ER (cell (prv d c) (.cred d)) 0 by cases d <;> rfl))) $$ Hreach
  have hrel : iprop(facts m ρ ∗ rel d c (min (k + 2) 30) ∗ reached ER (cell c (.recv d (par (k + 2)))) ((k + 2) / 2)
      ∗ (if k + 2 < 30 then readerAt ES (c, d, k + 2) 0 else emp) ∗ areaAt d c (k + 2)) ⊢ (|={Set.univ}=> rel d c (min (k + 3) 30) : sProp 𝕄) := by
    by_cases h : k + 2 < 30
    · unfold areaAt
      rw [if_pos h, if_pos h, Nat.min_eq_left (by omega), Nat.min_eq_left (by omega)]
      iintro ⟨Hfa, Hre, Hrr, Hrd, Ha⟩
      ihave Hsl := (facts_slot m ρ c d (k + 2) h) $$ Hfa
      icases Hsl with ⟨%ι, Hsl⟩
      imod (slot_release ES (S := area (F := F) d c (k + 2)) (ι := ι) (Set.mem_univ ι) (area_excl d c (k + 2)) 0) $$ [Hsl Hrd Ha] with ⟨-, Hrl⟩
      · isplitl [Hsl]; · iexact Hsl
        isplitl [Hrd]; · iexact Hrd
        iexact Ha
      imodintro
      iapply (rel_succ d c (k + 2))
      isplitl [Hre]; · iexact Hre
      isplitl [Hrl]; · iexact Hrl
      iexact Hrr
    · rw [Nat.min_eq_right (by omega), Nat.min_eq_right (by omega)]
      iintro ⟨-, Hre, -⟩
      imodintro; iexact Hre
  imod hrel $$ [Hrd Ha] with #Hrel'
  · isplitr; · iexact Hfacts
    isplitr; · iexact Hrel
    isplitr; · iexact HRr
    isplitl [Hrd]; · iexact Hrd
    iexact Ha
  iapply (Rounds.wp_signal Variants.none ER (ringRd m ρ) (c : Thread nD τ) none (dst := (prv d c : Thread nD τ)) (sem := credS d) (κ := κ)
      (r := 0) (d := k) (k' := 1)
      (by
        have h := duties_cell m ρ (prv d c) (.cred d) 0
        rw [dK_cred d] at h
        exact h ▸ Finset.mem_range.mpr hk)
      (amount_cell m ρ (prv d c) (.cred d) 0 k) k (O₀ := due c q) (due c (q + 1))
      (by rw [due_step c q (by split at hq <;> omega), pay_cred d c k q hq])) $$ [HO Ht]
  · isplitr; · iexact Hc1
    isplitl [HO]; · iexact HO
    isplitl [Ht]; · iexact Ht
    isplitr
    · iapply (Entails.of_eq (show rel d c (min (k + 3) 30) = (ringRd m ρ).payload (cell (prv d c) (.cred d)) 0 k by
        rw [payload_cell]; unfold payloadK; simp only; rw [nxt_prv]))
      iexact Hrel'
    iexact Hreach
  iintro HO
  iapply Hk
  isplitr [HO]
  · isplitl [Hb]; · iexact Hb
    isplitl [Hf]; · iexact Hf
    isplitr; · iexact Hrel'
    isplitl [HS']; · iexact HS'
    isplitl [HS]; · iexact HS
    isplitl [HR']; · iexact HR'
    isplitl [HR]
    · unfold posR; isplitl [HR]; · iexact HR
      iexact HRr
    isplitl [HC]; · iexact HC
    iexact HM
  · iexists W; iexact HO

theorem posC_rel (d : Bool) (r : Dev nD) (n : ℕ) (hn : n < 28) (T : Finset ℕ) (h : n + 1 ≤ T.card) :
    (bigSep T fun δ => rel d r (min (δ + 3) 30)) ⊢ (rel d r (n + 2 + 1) : sProp 𝕄) := by
  obtain ⟨δ, hδ, hle⟩ : ∃ δ ∈ T, n ≤ δ := by
    by_contra hc
    push Not at hc
    have hsub : T ⊆ Finset.range n := fun δ hδ => Finset.mem_range.mpr (hc δ hδ)
    have := Finset.card_le_card hsub
    rw [Finset.card_range] at this; omega
  exact (bigSep_at hδ (Φ := fun δ => rel d r (min (δ + 3) 30))).trans (rel_mono d r (by omega))

variable {m ρ} in
/-- The wait for a return before step `k`. -/
theorem r_credit {d : Bool} {c : Dev nD} {k q : ℕ} {sm : Sem sig} {i : ℤ} {α : Type} {Q : α → sProp 𝕄} {K : PUnit → Prog (TpuEff nD τ sig (Elt F) Λ₀ .tc) α}
    (hk2 : 2 ≤ k := by decide) (hk : k < 30 := by decide) (hq : 4 * k ≤ q := by decide) (hsm : sm = credS d := by rfl)
    (hi : i = ((1 : ℕ) : ℤ) := by rfl) :
    iprop(env m ρ c ∗ P m ρ d c (.p0 k) ∗ Ow c q)
      ⊢ iprop(((P m ρ d c (.p1 k) ∗ Ow c q) -∗ WP c (K ⟨⟩) Q)
        -∗ WP c (.op (.semWait sm i) K) Q) := by
  subst hsm hi
  obtain ⟨n, rfl⟩ : ∃ n, k = n + 2 := ⟨k - 2, by omega⟩
  simp only [P]
  rw [sup_first d c (n + 2) hk]
  unfold sup rest sup0 posC Ow
  rw [if_pos hk2, show n + 2 - 2 = n by omega, show n + 2 + 1 - 2 = n + 1 by omega]
  iintro ⟨#He, ⟨⟨⟨Hcr, H1, H2, H3⟩, Hb⟩, Hf, Hr, HS, HS', HR, HR', ⟨%T, %hT, HC, #HT⟩, HM⟩, ⟨%W, HO⟩⟩ Hk
  ihave #Hfacts := (env_facts m ρ c) $$ He
  ihave Hc1 := (facts_cell m ρ c (.cred d)) $$ Hfacts
  icases Hc1 with ⟨%κ, #Hc1⟩
  ihave #Hlev := (facts_lev m ρ) $$ Hfacts
  have hmw := may_cred (F := F) d c n q (by omega) (by omega)
  ihave #Hmw := hmw $$ Hlev
  iapply (Rounds.wp_wait Variants.none ER (ringRd m ρ) (c : Thread nD τ) none (κ := κ)
      (wpE_semWait_eq Variants.none (c : Thread nD τ) none Set.univ) (Set.mem_univ _) (cr := Finsupp.single n 1) (O := due c q) (W := W)
      {((.reg (credS d) : SemLoc sig), n)} (R := 0) (m := n) (T := T) (Util.total_single _ _) (image_single_subset _ n 1)) $$ [Hcr HO HC]
  · isplitr; · iexact Hc1
    isplitl [Hcr]; · iexact Hcr
    isplitl [HO]; · iexact HO
    isplitr; · iexact Hmw
    iexact HC
  iintro %S ⟨%hS, HO, HC, Hpay⟩
  have hd : (ringRd m ρ).duties ((c : Thread nD τ), .reg (credS d)) 0 = Finset.range 30 :=
    (duties_cell m ρ c (.cred d) 0).trans (dK_cred d)
  have hx : (ringRd m ρ).expect ((c : Thread nD τ), .reg (credS d)) 0 = 30 := by
    refine (expect_cell m ρ c (.cred d) 0).trans ?_
    rw [dK_cred d, Finset.card_range]; rfl
  obtain ⟨hTS, hSd, hcard⟩ := hS
  rw [hd] at hSd hcard
  rw [hx, Finset.card_sdiff_of_subset hSd, Finset.card_range] at hcard
  have hSc : n + 1 ≤ S.card := by
    have := Finset.card_le_card hSd
    rw [Finset.card_range] at this; omega
  have hj : iprop((bigSep T fun δ => rel (F := F) d (nxt d c) (min (δ + 3) 30))
      ∗ bigSep (S \ T) fun δ => (ringRd m ρ).payload ((c : Thread nD τ), .reg (credS d)) 0 δ)
      ⊢ (bigSep S fun δ => rel d (nxt d c) (min (δ + 3) 30) : sProp 𝕄) := by
    have e : (bigSep (S \ T) fun δ => (ringRd m ρ).payload ((c : Thread nD τ), .reg (credS d)) 0 δ)
        = bigSep (S \ T) fun δ => rel d (nxt d c) (min (δ + 3) 30) :=
      bigSep_congr fun δ _ => payload_cell m ρ c (.cred d) 0 δ
    rw [e]
    refine (bigSep_sep_union T (S \ T)).trans ?_
    rw [Finset.union_sdiff_of_subset hTS]; exact BI.Entails.refl _
  ihave #HS2 := hj $$ [Hpay]
  · isplitr; · iexact HT
    iexact Hpay
  ihave #Hrel := (posC_rel d (nxt d c) n (by omega) S hSc) $$ HS2
  iapply Hk
  isplitr [HO]
  · isplitl [Hb Hf Hr HS' HR']
    · isplitl [Hb]; · iexact Hb
      isplitl [Hf]; · iexact Hf
      isplitl [Hr]; · iexact Hr
      isplitl [HS']; · iexact HS'
      iexact HR'
    isplitl [HS]; · iexact HS
    isplitl [HR]; · iexact HR
    isplitl [HC]
    · iexists S; isplitr; · ipureintro; exact ⟨hSd, hSc⟩
      isplitl [HC]; · iexact HC
      iexact HS2
    isplitr; · iexact Hrel
    isplitl [H1]; · iexact H1
    isplitl [H2]; · iexact H2
    isplitl [H3]; · iexact H3
    iexact HM
  · iexists _; iexact HO

variable {m ρ} in
/-- The wait for the last two returns. -/
theorem r_last {d : Bool} {c : Dev nD} {sm : Sem sig} {i : ℤ} {α : Type} {Q : α → sProp 𝕄} {K : PUnit → Prog (TpuEff nD τ sig (Elt F) Λ₀ .tc) α} (hsm : sm = credS d := by rfl) (hi : i = ((2 : ℕ) : ℤ) := by rfl) :
    iprop(env m ρ c ∗ P m ρ d c (.p0 30) ∗ Ow c 120)
      ⊢ iprop(((P m ρ d c .p6 ∗ Ow c 120) -∗ WP c (K ⟨⟩) Q)
        -∗ WP c (.op (.semWait sm i) K) Q) := by
  subst hsm hi
  simp only [P]
  unfold posC Ow fin2
  rw [due_end]
  iintro ⟨#He, ⟨-, ⟨Hc28, Hc29⟩, -, HS, HS', HR, HR', ⟨%T, -, HC, -⟩, HM⟩, ⟨%W, HO⟩⟩ Hk
  ihave #Hfacts := (env_facts m ρ c) $$ He
  ihave Hc1 := (facts_cell m ρ c (.cred d)) $$ Hfacts
  icases Hc1 with ⟨%κ, #Hc1⟩
  have hcr : iprop(cred (tallyAt (cell c (.cred d)) 28 1) ∗ cred (tallyAt (cell c (.cred d)) 29 1))
      ⊢ (cred (tallyOn ((c : Thread nD τ), .reg (credS d)) (Finsupp.single 28 1 + Finsupp.single 29 1)) : sProp 𝕄) := by
    rw [tallyOn_add]
    exact (cred_add _ _).2
  have htot : Util.total (Finsupp.single 28 1 + Finsupp.single 29 1 : ℕ →₀ ℕ) = 2 := by
    rw [Util.total_add, Util.total_single, Util.total_single]
  iapply (Rounds.wp_wait_rest Variants.none ER (ringRd m ρ) (c : Thread nD τ) none (κ := κ)
      (wpE_semWait_eq Variants.none (c : Thread nD τ) none Set.univ) (Set.mem_univ _) (cr := Finsupp.single 28 1 + Finsupp.single 29 1)
      (O := 0) (W := W) (((Finsupp.single 28 1 + Finsupp.single 29 1 : ℕ →₀ ℕ)).support.image ((.reg (credS d) : SemLoc sig), ·)) (R := 0) (m := 30 - 2) (T := T)
      (by
        refine Eq.trans ?_ (expect_cell m ρ c (.cred d) 0).symm
        rw [dK_cred d, Finset.card_range]; rfl)
      htot subset_rfl) $$ [Hc28 Hc29 HO HC]
  · isplitr; · iexact Hc1
    isplitl [Hc28 Hc29]
    · iapply hcr; isplitl [Hc28]; · iexact Hc28
      iexact Hc29
    isplitl [HO]; · iexact HO
    isplitr; · rw [MayOwe_zero]; iempintro
    iexact HC
  iintro ⟨HO, HC, -, -⟩
  iapply Hk
  isplitr [HO]
  · isplitl [HS]; · iexact HS
    isplitl [HS']; · iexact HS'
    isplitl [HR]; · iexact HR
    isplitl [HR']; · iexact HR'
    isplitl [HC]; · iexact HC
    iexact HM
  · iexists _; iexact HO

variable {m ρ} in
/-- A reducing step's load of the core's own chunk. -/
theorem r_load {d : Bool} {c : Dev nD} {k q : ℕ} {off : Fin 2 → ℕ} {inb : ∀ a, off a + S128x1024.size a ≤ S4096x1024.size a}
    {hl : oM.view.LoadsAt (Rect.unit (s := S4096x1024) off S128x1024.size inb).toLoadRect}
    {α : Type} {Q : α → sProp 𝕄} {K : Vec F S128x1024 .bf16 → Prog (TpuEff nD τ sig (Elt F) Λ₀ .tc) α}
    (hoff : off = choff d (back d c (k + 1))) (hk : k < 15 := by decide) :
    iprop(env m ρ c ∗ P m ρ d c (.p4 k) ∗ Ow c q)
      ⊢ iprop(((P m ρ d c (.p4 k) ∗ Ow c q) -∗ WP c (K (xch m ρ d c (back d c (k + 1)))) Q)
        -∗ WP c (.op (.load oM (Rect.unit (s := S4096x1024) off S128x1024.size inb).toLoadRect hl) K) Q) := by
  subst hoff
  simp only [P]
  rw [held_reduce m ρ d c k hk]
  iintro ⟨-, ⟨HA, HB, HC, HD, HE, ⟨Ho, HF⟩, HG⟩, HO⟩ Hk
  unfold ownsTc owns
  icases Ho with ⟨%f, %hf, Ho⟩
  iapply (wp_load_rect Variants.none (c : Thread nD τ) none Set.univ (m := oM) (r := chR d (back d c (k + 1))) (f := f) (S := (chM d (back d c (k + 1))).view.set) subset_rfl) $$ [Ho]
  · iexact Ho
  iintro Ho
  rw [show (oM.access (chR d (back d c (k + 1)))).read (Elt F) f = xch m ρ d c (back d c (k + 1)) from hf]
  iapply Hk
  isplitr [HO]
  · isplitl [HA]; · iexact HA
    isplitl [HB]; · iexact HB
    isplitl [HC]; · iexact HC
    isplitl [HD]; · iexact HD
    isplitl [HE]; · iexact HE
    isplitl [Ho HF]
    · isplitl [Ho]
      · iexists f; isplitr; · ipureintro; exact hf
        iexact Ho
      iexact HF
    iexact HG
  · iexact HO

theorem store_owns (d : Bool) (c : Dev nD) (k : ℕ) (f) :
    ((oM.access (chR d (back d c (k + 1)))).loc (c : Thread nD τ) ↦[(chM d (back d c (k + 1))).view.set]{fullShare}
        ((oM.access (chR d (back d c (k + 1)))).write (Elt F) f (val m ρ d (k + 1) c) Finset.univ))
      ⊢ (ownsTc c (chM d (back d c (k + 1))) fullShare (val m ρ d (k + 1) c) : sProp 𝕄) := by
  have h2 : _ ⊢ (owns (c : Thread nD τ) (chM d (back d c (k + 1))) fullShare _ : sProp 𝕄) :=
    owns_intro (c : Thread nD τ) (chM d (back d c (k + 1))) fullShare ((chM d (back d c (k + 1))).view.write (Elt F) f (val m ρ d (k + 1) c) Finset.univ)
  rw [View.read_write_univ] at h2
  exact h2

theorem owns_load {sh s' : Shape} (M : Memref sig .tc .vmem sh .bf16) (r : Rect sh) (hr : ∀ a, r.stride a = 1) (hq : r.shape.Squeezes s')
    (hc : r.shape.ShapeCasts s') (c : Dev nD) (X : Vec F s' .bf16) {hl : M.view.LoadsAt r.toLoadRect}
    {α : Type} {Q : α → sProp 𝕄} {K : Vec F r.shape .bf16 → Prog (TpuEff nD τ sig (Elt F) Λ₀ .tc) α} :
    (owns (c : Thread nD τ) ((M.slice r hr).squeeze s' hq) fullShare X : sProp 𝕄)
      ⊢ iprop((∀ w : Vec F r.shape .bf16, (⌜shapeCast s' w hc = X⌝ ∗ owns (c : Thread nD τ) ((M.slice r hr).squeeze s' hq) fullShare X) -∗ WP c (K w) Q)
        -∗ WP c (.op (.load M r.toLoadRect hl) K) Q) := by
  unfold owns
  iintro ⟨%f, %hf, Ho⟩ Hk
  have hs : (M.access r).set ⊆ ((M.slice r hr).squeeze s' hq).view.set := by
    exact (View.set_reshape (M.slice r hr).view (Shape.Squeezes.numel_eq hq)).symm.subset
  iapply (wp_load_rect Variants.none (c : Thread nD τ) none Set.univ (m := M) (r := r) (f := f)
    (S := ((M.slice r hr).squeeze s' hq).view.set) hs) $$ [Ho]
  · iexact Ho
  iintro Ho
  ispecialize Hk $$ %((M.access r).read (Elt F) f)
  iapply Hk
  isplitr
  · ipureintro; exact hf
  · iexists f; isplitr; · ipureintro; exact hf
    iexact Ho

theorem slot_load (d : Bool) (s : Fin 2) (c : Dev nD) (X : Chunk F) {off : Fin 3 → ℕ} (hoff : off = ![s.val, 0, 0])
    {inb : ∀ a, off a + S1x128x1024.size a ≤ S2x128x1024.size a} {M : Memref sig .tc .vmem S2x128x1024 .bf16} (hM : M = comM d)
    {hl : M.view.LoadsAt (Rect.unit (s := S2x128x1024) off S1x128x1024.size inb).toLoadRect}
    {α : Type} {Q : α → sProp 𝕄} {K : Vec F S1x128x1024 .bf16 → Prog (TpuEff nD τ sig (Elt F) Λ₀ .tc) α} :
    (owns (c : Thread nD τ) (slM d s) fullShare X : sProp 𝕄)
      ⊢ iprop((∀ w : Vec F S1x128x1024 .bf16, (⌜shapeCast S128x1024 w shapeCasts_S1x128x1024_S128x1024 = X⌝
            ∗ owns (c : Thread nD τ) (slM d s) fullShare X) -∗ WP c (K w) Q)
        -∗ WP c (.op (.load M (Rect.unit (s := S2x128x1024) off S1x128x1024.size inb).toLoadRect hl) K) Q) := by
  subst hoff hM
  match d, s with
  | false, 0 => exact owns_load (comM false) (Rect.unit (s := S2x128x1024) ![0, 0, 0] S1x128x1024.size inb) (fun _ => rfl) squeezes_S1x128x1024_S128x1024 shapeCasts_S1x128x1024_S128x1024 c X
  | false, 1 => exact owns_load (comM false) (Rect.unit (s := S2x128x1024) ![1, 0, 0] S1x128x1024.size inb) (fun _ => rfl) squeezes_S1x128x1024_S128x1024 shapeCasts_S1x128x1024_S128x1024 c X
  | true, 0 => exact owns_load (comM true) (Rect.unit (s := S2x128x1024) ![0, 0, 0] S1x128x1024.size inb) (fun _ => rfl) squeezes_S1x128x1024_S128x1024 shapeCasts_S1x128x1024_S128x1024 c X
  | true, 1 => exact owns_load (comM true) (Rect.unit (s := S2x128x1024) ![1, 0, 0] S1x128x1024.size inb) (fun _ => rfl) squeezes_S1x128x1024_S128x1024 shapeCasts_S1x128x1024_S128x1024 c X

variable {m ρ} in
/-- A reducing step's load of the chunk that arrived. -/
theorem r_slot {d : Bool} {c : Dev nD} {k q : ℕ} {off : Fin 3 → ℕ}
    {inb : ∀ a, off a + S1x128x1024.size a ≤ S2x128x1024.size a} {M : Memref sig .tc .vmem S2x128x1024 .bf16}
    {hl : M.view.LoadsAt (Rect.unit (s := S2x128x1024) off S1x128x1024.size inb).toLoadRect}
    {α : Type} {Q : α → sProp 𝕄} {K : Vec F S1x128x1024 .bf16 → Prog (TpuEff nD τ sig (Elt F) Λ₀ .tc) α}
    (hk : k < 15 := by decide) (hoff : off = ![(par k).val, 0, 0] := by rfl) (hM : M = comM d := by rfl) :
    iprop(env m ρ c ∗ P m ρ d c (.p4 k) ∗ Ow c q)
      ⊢ iprop((∀ w : Vec F S1x128x1024 .bf16, (⌜shapeCast S128x1024 w shapeCasts_S1x128x1024_S128x1024 = val m ρ d k (prv d c)⌝
            ∗ P m ρ d c (.p4 k) ∗ Ow c q) -∗ WP c (K w) Q)
        -∗ WP c (.op (.load M (Rect.unit (s := S2x128x1024) off S1x128x1024.size inb).toLoadRect hl) K) Q) := by
  simp only [P]
  unfold recvPay
  rw [landM_lt d c k hk]
  iintro ⟨-, ⟨HA, HB, HC, HD, HE, HF, Hs⟩, HO⟩ Hk
  iapply (slot_load d (par k) c (val m ρ d k (prv d c)) hoff hM) $$ [Hs]
  · iexact Hs
  iintro %w ⟨%hw, Hs⟩
  ispecialize Hk $$ %w
  iapply Hk
  isplitr
  · ipureintro; exact hw
  isplitr [HO]
  · isplitl [HA]; · iexact HA
    isplitl [HB]; · iexact HB
    isplitl [HC]; · iexact HC
    isplitl [HD]; · iexact HD
    isplitl [HE]; · iexact HE
    isplitl [HF]; · iexact HF
    iexact Hs
  · iexact HO

variable {m ρ} in
/-- A reducing step's store of the sum. -/
theorem r_store {d : Bool} {c : Dev nD} {k q : ℕ} {off : Fin 2 → ℕ} {inb : ∀ a, off a + S128x1024.size a ≤ S4096x1024.size a}
    {w : Vec F S128x1024 .bf16} {Mk : Finset S128x1024.Idx}
    {hx : (oM.access (Rect.unit (s := S4096x1024) off S128x1024.size inb)).Stores Mk}
    {hm : Mk = Finset.univ ∨ ∀ a, (Rect.unit (s := S4096x1024) off S128x1024.size inb).stride a = 1} {α : Type} {Q : α → sProp 𝕄} {K : PUnit → Prog (TpuEff nD τ sig (Elt F) Λ₀ .tc) α}
    (hoff : off = choff d (back d c (k + 1))) (hw : w = val m ρ d (k + 1) c) (hk : k < 15 := by decide) (hMk : Mk = Finset.univ := by rfl) :
    iprop(env m ρ c ∗ P m ρ d c (.p4 k) ∗ Ow c q)
      ⊢ iprop(((P m ρ d c (.p5 k) ∗ Ow c q) -∗ WP c (K ⟨⟩) Q)
        -∗ WP c (.op (.store oM (Rect.unit (s := S4096x1024) off S128x1024.size inb) w Mk hx hm) K) Q) := by
  subst hoff hw hMk
  simp only [P]
  rw [held_reduce m ρ d c k hk]
  iintro ⟨-, ⟨HA, HB, HC, HD, HE, ⟨Ho, HF, HH⟩, HG⟩, HO⟩ Hk
  unfold ownsTc owns
  icases Ho with ⟨%f, %hf, Ho⟩
  iapply (wp_store Variants.none (c : Thread nD τ) none Set.univ (m := oM) (r := chR d (back d c (k + 1))) (f := f)
    (S := (chM d (back d c (k + 1))).view.set) subset_rfl) $$ [Ho]
  · iexact Ho
  iintro Ho
  have ho := store_owns m ρ d c k f
  ihave Ho := ho $$ Ho
  ihave Hb := (Entails.of_eq (held_reduced m ρ d c k hk)) $$ [Ho HF]
  · isplitl [Ho]; · iexact Ho
    iexact HF
  ihave H := (reduce_end m ρ d c k hk) $$ [Hb HH HG]
  · isplitr [HG]
    · isplitl [Hb]; · iexact Hb
      iexact HH
    iexact HG
  iapply Hk
  isplitr [HO]
  · isplitl [HA]; · iexact HA
    isplitl [HB]; · iexact HB
    isplitl [HC]; · iexact HC
    isplitl [HD]; · iexact HD
    isplitl [HE]; · iexact HE
    iexact H
  · iexact HO

end Rules

end Cert.RingProof
-- ==== Proof.RingDevs.lean ====
/-
# The ring all-reduce: the peers and slices of the body, in terms of the ring
-/
module

public import proofs.«01_k».proof.Proof.RingSched

@[expose] public section

set_option maxRecDepth 20000

noncomputable section

namespace Cert.RingProof

open Cert.RingIdeal Cert.RingIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : (ℓ : Loc nD τ sig) → Buf (Elt F) ℓ) (ρ : Dev nD → PrngReg)

/-! ## The peers and the slices the body computes -/

theorem dev1_eq : ∀ c : Dev nD, (⟨k0_dev1 c, k0_dev1_lt c⟩ : Dev nD) = prv false c := by decide +kernel
theorem dev2_eq : ∀ c : Dev nD, (⟨k0_dev2 c, k0_dev2_lt c⟩ : Dev nD) = prv true c := by decide +kernel

theorem off1_eq : ∀ (c : Dev nD) (k : Fin 15), k0_off1 c (BitVec.ofNat 32 k.val) = choff false (back false c k.val) := by decide +kernel
theorem off2_eq : ∀ (c : Dev nD) (k : Fin 15), k0_off2 c (BitVec.ofNat 32 k.val) = choff true (back true c k.val) := by decide +kernel
theorem off3_eq : ∀ (c : Dev nD) (k : Fin 15), k0_off3 c (BitVec.ofNat 32 k.val) = choff false (back false c (k.val + 1)) := by decide +kernel
theorem off4_eq : ∀ (c : Dev nD) (k : Fin 15), k0_off4 c (BitVec.ofNat 32 k.val) = choff true (back true c (k.val + 1)) := by decide +kernel
theorem off5_eq : ∀ (c : Dev nD) (k : Fin 15), k0_off5 c (BitVec.ofNat 32 k.val) = choff false (back false c (15 + k.val)) := by decide +kernel
theorem off6_eq : ∀ (c : Dev nD) (k : Fin 15), k0_off6 c (BitVec.ofNat 32 k.val) = choff true (back true c (15 + k.val)) := by decide +kernel

end Cert.RingProof
-- ==== Proof.RingSteps.lean ====
/-
# The ring all-reduce: the two rings side by side
-/
module

public import proofs.«01_k».proof.Proof.RingRules
public import proofs.«01_k».proof.Proof.RingDevs
public import Idealize.ShloMosaic.Lib.Pipeline.Value

@[expose] public section

set_option maxRecDepth 20000

noncomputable section

namespace Cert.RingProof

open Cert.RingIdeal Cert.RingIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : (ℓ : Loc nD τ sig) → Buf (Elt F) ℓ) (ρ : Dev nD → PrngReg)

/-! ## Both rings at once -/

/-- What a core has between two operations: what it knows, its place in both rings, and what it owes after `q` payments. -/
def St (c : Dev nD) (a b : Ph) (q : ℕ) : sProp 𝕄 := iprop(env m ρ c ∗ P m ρ false c a ∗ P m ρ true c b ∗ Ow c q)

/-- A stretch `p` of the body takes a core from one place in the two rings to another. -/
abbrev Goes (c : Dev nD) (a b : Ph) (q : ℕ) (a' b' : Ph) (q' : ℕ) {α : Type} (p : Prog (TpuEff nD τ sig (Elt F) Λ₀ .tc) α) : Prop :=
  ∀ {Q : α → sProp 𝕄}, (∀ r, St m ρ c a' b' q' ⊢ Q r) → (St m ρ c a b q ⊢ WP c p Q)

/-- How a program's steps are brought to its head, one by one. -/
theorem runs {α β γ : Type} :
    (∀ e : TpuEff nD τ sig (Elt F) Λ₀ .tc α, Prog.lift e = .op e .ret)
      ∧ (∀ (a : α) (k : α → Prog (TpuEff nD τ sig (Elt F) Λ₀ .tc) β), Prog.ret a >>= k = k a)
      ∧ (∀ (e : TpuEff nD τ sig (Elt F) Λ₀ .tc β) (d : β → Prog _ α) (k : α → Prog _ γ), Prog.op e d >>= k = Prog.op e (fun x => d x >>= k))
      ∧ (∀ a : α, (pure a : Prog (TpuEff nD τ sig (Elt F) Λ₀ .tc) α) = .ret a)
      ∧ (∀ (e : Dev nD) (x : Sem sig) (n : BitVec 32),
        (semSignalWord e x n : Prog (TpuEff nD τ sig (Elt F) Λ₀ .tc) PUnit) = .op (.semSignal (e, .tc) x n.toInt) .ret)
      ∧ (∀ (x : Sem sig) (n : BitVec 32), (semWaitWord x n : Prog (TpuEff nD τ sig (Elt F) Λ₀ .tc) PUnit) = .op (.semWait x n.toInt) .ret) :=
  ⟨fun _ => rfl, fun _ _ => rfl, fun _ _ _ => rfl, fun _ => rfl, fun _ _ _ => rfl, fun _ _ => rfl⟩

variable {m ρ} in
/-- An operation on the first ring leaves the second alone. -/
theorem lf {c : Dev nD} {a a' b : Ph} {q q' : ℕ} {G R : sProp 𝕄}
    (h : iprop(env m ρ c ∗ P m ρ false c a ∗ Ow c q) ⊢ iprop(((P m ρ false c a' ∗ Ow c q') -∗ R) -∗ G))
    (k : St m ρ c a' b q' ⊢ R) : St m ρ c a b q ⊢ G := by
  unfold St at *
  iintro ⟨#He, Ha, Hb, HO⟩
  iapply h $$ [Ha HO]
  · isplitr; · iexact He
    isplitl [Ha]; · iexact Ha
    iexact HO
  iintro ⟨Ha, HO⟩
  iapply k
  isplitr; · iexact He
  isplitl [Ha]; · iexact Ha
  isplitl [Hb]; · iexact Hb
  iexact HO

variable {m ρ} in
/-- An operation on the second ring leaves the first alone. -/
theorem lt {c : Dev nD} {a b b' : Ph} {q q' : ℕ} {G R : sProp 𝕄}
    (h : iprop(env m ρ c ∗ P m ρ true c b ∗ Ow c q) ⊢ iprop(((P m ρ true c b' ∗ Ow c q') -∗ R) -∗ G))
    (k : St m ρ c a b' q' ⊢ R) : St m ρ c a b q ⊢ G := by
  unfold St at *
  iintro ⟨#He, Ha, Hb, HO⟩
  iapply h $$ [Hb HO]
  · isplitr; · iexact He
    isplitl [Hb]; · iexact Hb
    iexact HO
  iintro ⟨Hb, HO⟩
  iapply k
  isplitr; · iexact He
  isplitl [Ha]; · iexact Ha
  isplitl [Hb]; · iexact Hb
  iexact HO

variable {m ρ} in
/-- The same for a load, whose value is known only through an equation. -/
theorem lfw {c : Dev nD} {a a' b : Ph} {q q' : ℕ} {T : Type} {φ : T → Prop} {G : sProp 𝕄} {R : T → sProp 𝕄}
    (h : iprop(env m ρ c ∗ P m ρ false c a ∗ Ow c q) ⊢ iprop((∀ w, (⌜φ w⌝ ∗ P m ρ false c a' ∗ Ow c q') -∗ R w) -∗ G))
    (k : ∀ w, φ w → (St m ρ c a' b q' ⊢ R w)) : St m ρ c a b q ⊢ G := by
  unfold St at *
  iintro ⟨#He, Ha, Hb, HO⟩
  iapply h $$ [Ha HO]
  · isplitr; · iexact He
    isplitl [Ha]; · iexact Ha
    iexact HO
  iintro %w ⟨%hw, Ha, HO⟩
  iapply (k w hw)
  isplitr; · iexact He
  isplitl [Ha]; · iexact Ha
  isplitl [Hb]; · iexact Hb
  iexact HO

variable {m ρ} in
theorem ltw {c : Dev nD} {a b b' : Ph} {q q' : ℕ} {T : Type} {φ : T → Prop} {G : sProp 𝕄} {R : T → sProp 𝕄}
    (h : iprop(env m ρ c ∗ P m ρ true c b ∗ Ow c q) ⊢ iprop((∀ w, (⌜φ w⌝ ∗ P m ρ true c b' ∗ Ow c q') -∗ R w) -∗ G))
    (k : ∀ w, φ w → (St m ρ c a b' q' ⊢ R w)) : St m ρ c a b q ⊢ G := by
  unfold St at *
  iintro ⟨#He, Ha, Hb, HO⟩
  iapply h $$ [Hb HO]
  · isplitr; · iexact He
    isplitl [Hb]; · iexact Hb
    iexact HO
  iintro %w ⟨%hw, Hb, HO⟩
  iapply (k w hw)
  isplitr; · iexact He
  isplitl [Ha]; · iexact Ha
  isplitl [Hb]; · iexact Hb
  iexact HO

variable {m ρ} in
/-- The first two steps start without a wait. -/
theorem s_start {c : Dev nD} {k q : ℕ} {G : sProp 𝕄} (h : St m ρ c (.p1 k) (.p1 k) q ⊢ G) (hk : k < 2 := by decide) : St m ρ c (.p0 k) (.p0 k) q ⊢ G := by
  unfold St at *
  iintro ⟨#He, Ha, Hb, HO⟩
  ihave Ha := (g_start m ρ false c k hk) $$ [Ha]
  · isplitr; · iexact He
    iexact Ha
  ihave Hb := (g_start m ρ true c k hk) $$ [Hb]
  · isplitr; · iexact He
    iexact Hb
  iapply h
  isplitr; · iexact He
  isplitl [Ha]; · iexact Ha
  isplitl [Hb]; · iexact Hb
  iexact HO

variable {m ρ} in
/-- The gathering steps reduce nothing. -/
theorem s_gather {c : Dev nD} {k q : ℕ} {G : sProp 𝕄} (h : St m ρ c (.p5 k) (.p5 k) q ⊢ G) (hk : 15 ≤ k := by decide) (hk' : k < 30 := by decide) : St m ρ c (.p4 k) (.p4 k) q ⊢ G := by
  unfold St at *
  iintro ⟨#He, Ha, Hb, HO⟩
  ihave Ha := (g_gather m ρ false c k hk hk') $$ Ha
  ihave Hb := (g_gather m ρ true c k hk hk') $$ Hb
  iapply h
  isplitr; · iexact He
  isplitl [Ha]; · iexact Ha
  isplitl [Hb]; · iexact Hb
  iexact HO

theorem s_ret {c : Dev nD} {α : Type} {r : α} {Q : α → sProp 𝕄} {G : sProp 𝕄} (h : G ⊢ Q r) : G ⊢ WP c (.ret r) Q :=
  h.trans (le_wp_ret _ _ _ r Q)

theorem s_part {c : Dev nD} {α β : Type} {p : Prog (TpuEff nD τ sig (Elt F) Λ₀ .tc) β} {k : β → Prog (TpuEff nD τ sig (Elt F) Λ₀ .tc) α}
    {Q : α → sProp 𝕄} {G : sProp 𝕄} (h : G ⊢ WP c p fun r => WP c (k r) Q) : G ⊢ WP c (p >>= k) Q := by
  rw [WP, wp_bind]; exact h

/-- A device named by a number is the one the ring says it is, if it is at all sixteen devices. -/
theorem at_all {f : Dev nD → ℕ} {g : Dev nD → Dev nD} (c : Dev nD) {p : f c < nD} (h : ∀ c, f c = (g c).val := by decide +kernel) :
    (⟨f c, p⟩ : Dev nD) = g c := Fin.ext (h c)

/-! ## The slices -/

theorem ch_eq {d : Bool} {j : Dev nD} {off : Fin 2 → ℕ} (h : off = choff d j) {inb : ∀ a, off a + S128x1024.size a ≤ S4096x1024.size a} :
    (oM.slice (Rect.unit (s := S4096x1024) off S128x1024.size inb) (fun _ => rfl) : Memref sig .tc .vmem S128x1024 .bf16) = chM d j := by
  subst h; rfl

theorem land_rs (d : Bool) (k : ℕ) {n : Dev nD} (hk : k < 15 := by decide) : slM d (par k) = landM d n k :=
  (landM_lt d n k hk).symm

theorem land_ag {d : Bool} {c n : Dev nD} {k : ℕ} {off : Fin 2 → ℕ} {inb : ∀ a, off a + S128x1024.size a ≤ S4096x1024.size a}
    (hn : n = nxt d c) (h : off = choff d (back d c k)) (hk : ¬ k < 15 := by decide) :
    (oM.slice (Rect.unit (s := S4096x1024) off S128x1024.size inb) (fun _ => rfl) : Memref sig .tc .vmem S128x1024 .bf16) = landM d n k := by
  rw [landM_ge d n k hk, ch_eq h, hn, back_nxt]

theorem credit_o {off : Fin 2 → ℕ} {inb : ∀ a, off a + S128x1024.size a ≤ S4096x1024.size a} :
    (oM.slice (Rect.unit (s := S4096x1024) off S128x1024.size inb) (fun _ => rfl) : Memref sig .tc .vmem S128x1024 .bf16).view.dmaCredit = N := rfl

variable {m ρ} in
/-- What a reducing step stores. -/
theorem sum_val {d : Bool} {c : Dev nD} {k : ℕ} {v : Vec F S128x1024 .bf16} {w : Vec F S1x128x1024 .bf16} (hv : v = xch m ρ d c (back d c (k + 1)))
    (hw : shapeCast S128x1024 w shapeCasts_S1x128x1024_S128x1024 = val m ρ d k (prv d c)) (hk : k < 15 := by decide) :
    addf (F := F) (φ := .bf16) v (shapeCast S128x1024 w shapeCasts_S1x128x1024_S128x1024) = val m ρ d (k + 1) c := by
  rw [val_reduce m ρ d c k hk, hv, hw]

variable {m ρ} in
theorem sum_val' {d : Bool} {c : Dev nD} {k : ℕ}
    {w : Vec F S1x128x1024 .bf16} (hw : shapeCast S128x1024 w shapeCasts_S1x128x1024_S128x1024 = val m ρ d k (prv d c)) (hk : k < 15 := by decide) :
    addf (F := F) (φ := .bf16) (shapeCast S128x1024 (xch m ρ d c (back d c (k + 1))) shapeCasts_S128x1024_S128x1024)
      (shapeCast S128x1024 w shapeCasts_S1x128x1024_S128x1024) = val m ρ d (k + 1) c :=
  sum_val (shapeCast_self _ _) hw hk

end Cert.RingProof
-- ==== Proof.RingPartsA.lean ====
/-
# The ring all-reduce: the body, part by part
-/
module

public import proofs.«01_k».proof.Proof.RingSteps

@[expose] public section

set_option maxRecDepth 20000

noncomputable section

namespace Cert.RingProof

open Cert.RingIdeal Cert.RingIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable {m : (ℓ : Loc nD τ sig) → Buf (Elt F) ℓ} {ρ : Dev nD → PrngReg}

variable {c : Dev nD} {h0 : (xM : Memref sig .tc .vmem S4096x1024 .bf16).IsWhole} {h1 : (oM : Memref sig .tc .vmem S4096x1024 .bf16).IsWhole}
  {h2 : (comM false).IsWhole} {h3 : (comM true).IsWhole}

open Cert.RingIdeal renaming cc0_scratch2 → e2, cc0_scratch3 → e3, cc0_scratch4 → e4, cc0_scratch5 → e5, cc0_scratch6 → e6, cc0_scratch7 → e7

/-! ## The parts of the body

`part_n` says from where to where in the two rings the body's `n`-th stretch takes a core, and after how many payments. -/

theorem part_3 {v2 v13 v24 v43 v58 v59 v64} : Goes m ρ c (.p0 0) (.p0 0) 0 (.p2 0) (.p1 0) 1 (k0_part3 xM h0 oM h1 (comM false) h2 (comM true) h3 e2 e3 e4 e5 e6 e7 c v2 v13 v24 v43 v58 v59 v64) := by
  intro Q h; rw [k0_part3_eq_skeleton]; unfold k0_part3_skel; simp only [runs]
  refine s_start ?_
  refine lf (r_send (at_all c) (ch_eq (off1_eq c 0)) (land_rs false 0)) ?_
  exact s_ret (h _)

theorem part_4 {v13 v24} : Goes m ρ c (.p2 0) (.p1 0) 1 (.p4 0) (.p3 0) 2 (k0_part4 xM h0 oM h1 (comM false) h2 (comM true) h3 e2 e3 e4 e5 e6 e7 c v13 v24) := by
  intro Q h; rw [k0_part4_eq_skeleton]; unfold k0_part4_skel; simp only [runs]
  refine lt (r_send (at_all c) (ch_eq (off2_eq c 0)) (land_rs true 0)) ?_
  refine lf (r_sent credit_o) ?_
  refine lf (r_recv (credit_sl false 0)) ?_
  refine lt (r_sent credit_o) ?_
  exact s_ret (h _)

theorem part_5 {v2 v13 v24 v55 v78} : Goes m ρ c (.p4 0) (.p3 0) 2 (.p0 1) (.p0 1) 4 (k0_part5 xM h0 oM h1 (comM false) h2 (comM true) h3 e2 e3 e4 e5 e6 e7 c v2 v13 v24 v55 v78) := by
  intro Q h; rw [k0_part5_eq_skeleton]; unfold k0_part5_skel; simp only [runs]
  refine lt (r_recv (credit_sl true 0)) ?_
  refine lf (r_load (off3_eq c 0)) ?_
  refine lfw r_slot fun w0 hw0 => ?_
  refine lf (r_load (off3_eq c 0)) ?_
  refine lf (r_store (off3_eq c 0) (sum_val' hw0)) ?_
  refine lt (r_load (off4_eq c 0)) ?_
  refine ltw r_slot fun w1 hw1 => ?_
  refine lt (r_load (off4_eq c 0)) ?_
  refine lt (r_store (off4_eq c 0) (sum_val' hw1)) ?_
  refine lf (r_signal (at_all c)) ?_
  refine lt (r_signal (at_all c)) ?_
  exact s_ret (h _)

theorem part_6 {v2 v149 v150 v151 v152} : Goes m ρ c (.p0 1) (.p0 1) 4 (.p0 1) (.p0 1) 4 (k0_part6 xM h0 oM h1 (comM false) h2 (comM true) h3 e2 e3 e4 e5 e6 e7 v2 v149 v150 v151 v152) := by
  intro Q h; rw [k0_part6_eq_skeleton]; unfold k0_part6_skel; simp only [runs]
  exact s_ret (h _)

theorem part_7 {v13 v24 v157 v180 v184 v185 v186 v187 v188} : Goes m ρ c (.p0 1) (.p0 1) 4 (.p3 1) (.p2 1) 6 (k0_part7 xM h0 oM h1 (comM false) h2 (comM true) h3 e2 e3 e4 e5 e6 e7 c v13 v24 v157 v180 v184 v185 v186 v187 v188) := by
  intro Q h; rw [k0_part7_eq_skeleton]; unfold k0_part7_skel; simp only [runs]
  refine s_start ?_
  refine lf (r_send (at_all c) (ch_eq (off1_eq c 1)) (land_rs false 1)) ?_
  refine lt (r_send (at_all c) (ch_eq (off2_eq c 1)) (land_rs true 1)) ?_
  refine lf (r_sent credit_o) ?_
  exact s_ret (h _)

theorem part_8 {v13 v24 v169} : Goes m ρ c (.p3 1) (.p2 1) 6 (.p5 1) (.p4 1) 6 (k0_part8 xM h0 oM h1 (comM false) h2 (comM true) h3 e2 e3 e4 e5 e6 e7 c v13 v24 v169) := by
  intro Q h; rw [k0_part8_eq_skeleton]; unfold k0_part8_skel; simp only [runs]
  refine lf (r_recv (credit_sl false 1)) ?_
  refine lt (r_sent credit_o) ?_
  refine lt (r_recv (credit_sl true 1)) ?_
  refine lf (r_load (off3_eq c 1)) ?_
  refine lfw r_slot fun w0 hw0 => ?_
  refine lf (r_load (off3_eq c 1)) ?_
  refine lf (r_store (off3_eq c 1) (sum_val' hw0)) ?_
  exact s_ret (h _)

theorem part_9 {v2 v13 v24 v192} : Goes m ρ c (.p5 1) (.p4 1) 6 (.p0 2) (.p0 2) 8 (k0_part9 xM h0 oM h1 (comM false) h2 (comM true) h3 e2 e3 e4 e5 e6 e7 c v2 v13 v24 v192) := by
  intro Q h; rw [k0_part9_eq_skeleton]; unfold k0_part9_skel; simp only [runs]
  refine lt (r_load (off4_eq c 1)) ?_
  refine ltw r_slot fun w0 hw0 => ?_
  refine lt (r_load (off4_eq c 1)) ?_
  refine lt (r_store (off4_eq c 1) (sum_val' hw0)) ?_
  refine lf (r_signal (at_all c)) ?_
  refine lt (r_signal (at_all c)) ?_
  exact s_ret (h _)

theorem part_10 {v2 v271 v275 v276 v277} : Goes m ρ c (.p0 2) (.p0 2) 8 (.p1 2) (.p1 2) 8 (k0_part10 xM h0 oM h1 (comM false) h2 (comM true) h3 e2 e3 e4 e5 e6 e7 v2 v271 v275 v276 v277) := by
  intro Q h; rw [k0_part10_eq_skeleton]; unfold k0_part10_skel; simp only [runs]
  refine lf r_credit ?_
  refine lt r_credit ?_
  exact s_ret (h _)

theorem part_11 {v13 v24} : Goes m ρ c (.p1 2) (.p1 2) 8 (.p3 2) (.p2 2) 10 (k0_part11 xM h0 oM h1 (comM false) h2 (comM true) h3 e2 e3 e4 e5 e6 e7 c v13 v24) := by
  intro Q h; rw [k0_part11_eq_skeleton]; unfold k0_part11_skel; simp only [runs]
  refine lf (r_send (at_all c) (ch_eq (off1_eq c 2)) (land_rs false 2)) ?_
  refine lt (r_send (at_all c) (ch_eq (off2_eq c 2)) (land_rs true 2)) ?_
  refine lf (r_sent credit_o) ?_
  exact s_ret (h _)

theorem part_12 {v13 v283 v306 : BitVec 32} {Q : _ → sProp 𝕄}
    (h : ∀ r : (Σ' (v362 : BitVec 32) (v365 : FVec F S128x1024 .bf16), Vec F S1x128x1024 .bf16), r.2.1 = xch m ρ true c (back true c (2 + 1)) → shapeCast S128x1024 r.2.2 shapeCasts_S1x128x1024_S128x1024 = val m ρ true 2 (prv true c) → (St m ρ c (.p5 2) (.p4 2) 10 ⊢ Q r)) :
    St m ρ c (.p3 2) (.p2 2) 10 ⊢ WP c (k0_part12 xM h0 oM h1 (comM false) h2 (comM true) h3 e2 e3 e4 e5 e6 e7 c v13 v283 v306) Q := by
  rw [k0_part12_eq_skeleton]; unfold k0_part12_skel; simp only [runs]
  refine lf (r_recv (credit_sl false 0)) ?_
  refine lt (r_sent credit_o) ?_
  refine lt (r_recv (credit_sl true 0)) ?_
  refine lf (r_load (off3_eq c 2)) ?_
  refine lfw r_slot fun w0 hw0 => ?_
  refine lf (r_load (off3_eq c 2)) ?_
  refine lf (r_store (off3_eq c 2) (sum_val' hw0)) ?_
  refine lt (r_load (off4_eq c 2)) ?_
  refine ltw r_slot fun w1 hw1 => ?_
  exact s_ret (h _ (shapeCast_self (xch m ρ true c (back true c (2 + 1))) shapeCasts_S128x1024_S128x1024) hw1)

theorem part_13 {v2 v13 v24 v362 v365 v366} (hv : v365 = xch m ρ true c (back true c (2 + 1))) (hw : shapeCast S128x1024 v366 shapeCasts_S1x128x1024_S128x1024 = val m ρ true 2 (prv true c)) : Goes m ρ c (.p5 2) (.p4 2) 10 (.p0 3) (.p0 3) 12 (k0_part13 xM h0 oM h1 (comM false) h2 (comM true) h3 e2 e3 e4 e5 e6 e7 c v2 v13 v24 v362 v365 v366) := by
  intro Q h; rw [k0_part13_eq_skeleton]; unfold k0_part13_skel; simp only [runs]
  refine lt (r_load (off4_eq c 2)) ?_
  refine lt (r_store (off4_eq c 2) (sum_val hv hw)) ?_
  refine lf (r_signal (at_all c)) ?_
  refine lt (r_signal (at_all c)) ?_
  exact s_ret (h _)

theorem part_14 {v2 v24 v385 v398 c16_i32_332 c0_i32_333} : Goes m ρ c (.p0 3) (.p0 3) 12 (.p1 3) (.p1 3) 12 (k0_part14 xM h0 oM h1 (comM false) h2 (comM true) h3 e2 e3 e4 e5 e6 e7 v2 v24 v385 v398 c16_i32_332 c0_i32_333) := by
  intro Q h; rw [k0_part14_eq_skeleton]; unfold k0_part14_skel; simp only [runs]
  refine lf r_credit ?_
  refine lt r_credit ?_
  exact s_ret (h _)

theorem part_15 {v13 v24} : Goes m ρ c (.p1 3) (.p1 3) 12 (.p4 3) (.p2 3) 14 (k0_part15 xM h0 oM h1 (comM false) h2 (comM true) h3 e2 e3 e4 e5 e6 e7 c v13 v24) := by
  intro Q h; rw [k0_part15_eq_skeleton]; unfold k0_part15_skel; simp only [runs]
  refine lf (r_send (at_all c) (ch_eq (off1_eq c 3)) (land_rs false 3)) ?_
  refine lt (r_send (at_all c) (ch_eq (off2_eq c 3)) (land_rs true 3)) ?_
  refine lf (r_sent credit_o) ?_
  refine lf (r_recv (credit_sl false 1)) ?_
  exact s_ret (h _)

theorem part_16 {v13 v397 v420} : Goes m ρ c (.p4 3) (.p2 3) 14 (.p0 4) (.p5 3) 15 (k0_part16 xM h0 oM h1 (comM false) h2 (comM true) h3 e2 e3 e4 e5 e6 e7 c v13 v397 v420) := by
  intro Q h; rw [k0_part16_eq_skeleton]; unfold k0_part16_skel; simp only [runs]
  refine lt (r_sent credit_o) ?_
  refine lt (r_recv (credit_sl true 1)) ?_
  refine lf (r_load (off3_eq c 3)) ?_
  refine lfw r_slot fun w0 hw0 => ?_
  refine lf (r_load (off3_eq c 3)) ?_
  refine lf (r_store (off3_eq c 3) (sum_val' hw0)) ?_
  refine lt (r_load (off4_eq c 3)) ?_
  refine ltw r_slot fun w1 hw1 => ?_
  refine lt (r_load (off4_eq c 3)) ?_
  refine lt (r_store (off4_eq c 3) (sum_val' hw1)) ?_
  refine lf (r_signal (at_all c)) ?_
  exact s_ret (h _)

theorem part_17 {v2 v24} : Goes m ρ c (.p0 4) (.p5 3) 15 (.p0 4) (.p0 4) 16 (k0_part17 xM h0 oM h1 (comM false) h2 (comM true) h3 e2 e3 e4 e5 e6 e7 c v2 v24) := by
  intro Q h; rw [k0_part17_eq_skeleton]; unfold k0_part17_skel; simp only [runs]
  refine lt (r_signal (at_all c)) ?_
  exact s_ret (h _)

theorem part_18 {v2 v13 v24 v499 v514 v515 v520} : Goes m ρ c (.p0 4) (.p0 4) 16 (.p2 4) (.p1 4) 17 (k0_part18 xM h0 oM h1 (comM false) h2 (comM true) h3 e2 e3 e4 e5 e6 e7 c v2 v13 v24 v499 v514 v515 v520) := by
  intro Q h; rw [k0_part18_eq_skeleton]; unfold k0_part18_skel; simp only [runs]
  refine lf r_credit ?_
  refine lt r_credit ?_
  refine lf (r_send (at_all c) (ch_eq (off1_eq c 4)) (land_rs false 4)) ?_
  exact s_ret (h _)

theorem part_19 {v13 v24} : Goes m ρ c (.p2 4) (.p1 4) 17 (.p4 4) (.p3 4) 18 (k0_part19 xM h0 oM h1 (comM false) h2 (comM true) h3 e2 e3 e4 e5 e6 e7 c v13 v24) := by
  intro Q h; rw [k0_part19_eq_skeleton]; unfold k0_part19_skel; simp only [runs]
  refine lt (r_send (at_all c) (ch_eq (off2_eq c 4)) (land_rs true 4)) ?_
  refine lf (r_sent credit_o) ?_
  refine lf (r_recv (credit_sl false 0)) ?_
  refine lt (r_sent credit_o) ?_
  exact s_ret (h _)

theorem part_20 {v2 v13 v24 v511 v534} : Goes m ρ c (.p4 4) (.p3 4) 18 (.p0 5) (.p0 5) 20 (k0_part20 xM h0 oM h1 (comM false) h2 (comM true) h3 e2 e3 e4 e5 e6 e7 c v2 v13 v24 v511 v534) := by
  intro Q h; rw [k0_part20_eq_skeleton]; unfold k0_part20_skel; simp only [runs]
  refine lt (r_recv (credit_sl true 0)) ?_
  refine lf (r_load (off3_eq c 4)) ?_
  refine lfw r_slot fun w0 hw0 => ?_
  refine lf (r_load (off3_eq c 4)) ?_
  refine lf (r_store (off3_eq c 4) (sum_val' hw0)) ?_
  refine lt (r_load (off4_eq c 4)) ?_
  refine ltw r_slot fun w1 hw1 => ?_
  refine lt (r_load (off4_eq c 4)) ?_
  refine lt (r_store (off4_eq c 4) (sum_val' hw1)) ?_
  refine lf (r_signal (at_all c)) ?_
  refine lt (r_signal (at_all c)) ?_
  exact s_ret (h _)

theorem part_21 {v2 v603 c16_i32_519 v604 c1_i32_521} : Goes m ρ c (.p0 5) (.p0 5) 20 (.p0 5) (.p0 5) 20 (k0_part21 xM h0 oM h1 (comM false) h2 (comM true) h3 e2 e3 e4 e5 e6 e7 v2 v603 c16_i32_519 v604 c1_i32_521) := by
  intro Q h; rw [k0_part21_eq_skeleton]; unfold k0_part21_skel; simp only [runs]
  exact s_ret (h _)

theorem part_22 {v13 v24 v613 v636 v640 v641} : Goes m ρ c (.p0 5) (.p0 5) 20 (.p2 5) (.p2 5) 22 (k0_part22 xM h0 oM h1 (comM false) h2 (comM true) h3 e2 e3 e4 e5 e6 e7 c v13 v24 v613 v636 v640 v641) := by
  intro Q h; rw [k0_part22_eq_skeleton]; unfold k0_part22_skel; simp only [runs]
  refine lf r_credit ?_
  refine lt r_credit ?_
  refine lf (r_send (at_all c) (ch_eq (off1_eq c 5)) (land_rs false 5)) ?_
  refine lt (r_send (at_all c) (ch_eq (off2_eq c 5)) (land_rs true 5)) ?_
  exact s_ret (h _)

theorem part_23 {v13 v24 v625} : Goes m ρ c (.p2 5) (.p2 5) 22 (.p4 5) (.p4 5) 22 (k0_part23 xM h0 oM h1 (comM false) h2 (comM true) h3 e2 e3 e4 e5 e6 e7 c v13 v24 v625) := by
  intro Q h; rw [k0_part23_eq_skeleton]; unfold k0_part23_skel; simp only [runs]
  refine lf (r_sent credit_o) ?_
  refine lf (r_recv (credit_sl false 1)) ?_
  refine lt (r_sent credit_o) ?_
  refine lt (r_recv (credit_sl true 1)) ?_
  exact s_ret (h _)

theorem part_24 {v2 v13 v24 v648 v694} : Goes m ρ c (.p4 5) (.p4 5) 22 (.p0 6) (.p0 6) 24 (k0_part24 xM h0 oM h1 (comM false) h2 (comM true) h3 e2 e3 e4 e5 e6 e7 c v2 v13 v24 v648 v694) := by
  intro Q h; rw [k0_part24_eq_skeleton]; unfold k0_part24_skel; simp only [runs]
  refine lf (r_load (off3_eq c 5)) ?_
  refine lfw r_slot fun w0 hw0 => ?_
  refine lf (r_load (off3_eq c 5)) ?_
  refine lf (r_store (off3_eq c 5) (sum_val' hw0)) ?_
  refine lt (r_load (off4_eq c 5)) ?_
  refine ltw r_slot fun w1 hw1 => ?_
  refine lt (r_load (off4_eq c 5)) ?_
  refine lt (r_store (off4_eq c 5) (sum_val' hw1)) ?_
  refine lf (r_signal (at_all c)) ?_
  refine lt (r_signal (at_all c)) ?_
  exact s_ret (h _)

theorem part_25 {v2} : Goes m ρ c (.p0 6) (.p0 6) 24 (.p0 6) (.p0 6) 24 (k0_part25 xM h0 oM h1 (comM false) h2 (comM true) h3 e2 e3 e4 e5 e6 e7 v2) := by
  intro Q h; rw [k0_part25_eq_skeleton]; unfold k0_part25_skel; simp only [runs]
  exact s_ret (h _)

theorem part_26 {v13 v24 v727 v750} : Goes m ρ c (.p0 6) (.p0 6) 24 (.p3 6) (.p2 6) 26 (k0_part26 xM h0 oM h1 (comM false) h2 (comM true) h3 e2 e3 e4 e5 e6 e7 c v13 v24 v727 v750) := by
  intro Q h; rw [k0_part26_eq_skeleton]; unfold k0_part26_skel; simp only [runs]
  refine lf r_credit ?_
  refine lt r_credit ?_
  refine lf (r_send (at_all c) (ch_eq (off1_eq c 6)) (land_rs false 6)) ?_
  refine lt (r_send (at_all c) (ch_eq (off2_eq c 6)) (land_rs true 6)) ?_
  refine lf (r_sent credit_o) ?_
  exact s_ret (h _)

theorem part_27 {v13 v24 v739} : Goes m ρ c (.p3 6) (.p2 6) 26 (.p5 6) (.p4 6) 26 (k0_part27 xM h0 oM h1 (comM false) h2 (comM true) h3 e2 e3 e4 e5 e6 e7 c v13 v24 v739) := by
  intro Q h; rw [k0_part27_eq_skeleton]; unfold k0_part27_skel; simp only [runs]
  refine lf (r_recv (credit_sl false 0)) ?_
  refine lt (r_sent credit_o) ?_
  refine lt (r_recv (credit_sl true 0)) ?_
  refine lf (r_load (off3_eq c 6)) ?_
  refine lfw r_slot fun w0 hw0 => ?_
  refine lf (r_load (off3_eq c 6)) ?_
  refine lf (r_store (off3_eq c 6) (sum_val' hw0)) ?_
  exact s_ret (h _)

theorem part_28 {v2 v13 v24 v762} : Goes m ρ c (.p5 6) (.p4 6) 26 (.p0 7) (.p0 7) 28 (k0_part28 xM h0 oM h1 (comM false) h2 (comM true) h3 e2 e3 e4 e5 e6 e7 c v2 v13 v24 v762) := by
  intro Q h; rw [k0_part28_eq_skeleton]; unfold k0_part28_skel; simp only [runs]
  refine lt (r_load (off4_eq c 6)) ?_
  refine ltw r_slot fun w0 hw0 => ?_
  refine lt (r_load (off4_eq c 6)) ?_
  refine lt (r_store (off4_eq c 6) (sum_val' hw0)) ?_
  refine lf (r_signal (at_all c)) ?_
  refine lt (r_signal (at_all c)) ?_
  exact s_ret (h _)

theorem part_29 {v2 v841 v845 v846 v847} : Goes m ρ c (.p0 7) (.p0 7) 28 (.p1 7) (.p1 7) 28 (k0_part29 xM h0 oM h1 (comM false) h2 (comM true) h3 e2 e3 e4 e5 e6 e7 v2 v841 v845 v846 v847) := by
  intro Q h; rw [k0_part29_eq_skeleton]; unfold k0_part29_skel; simp only [runs]
  refine lf r_credit ?_
  refine lt r_credit ?_
  exact s_ret (h _)

theorem part_30 {v13 v24} : Goes m ρ c (.p1 7) (.p1 7) 28 (.p3 7) (.p2 7) 30 (k0_part30 xM h0 oM h1 (comM false) h2 (comM true) h3 e2 e3 e4 e5 e6 e7 c v13 v24) := by
  intro Q h; rw [k0_part30_eq_skeleton]; unfold k0_part30_skel; simp only [runs]
  refine lf (r_send (at_all c) (ch_eq (off1_eq c 7)) (land_rs false 7)) ?_
  refine lt (r_send (at_all c) (ch_eq (off2_eq c 7)) (land_rs true 7)) ?_
  refine lf (r_sent credit_o) ?_
  exact s_ret (h _)

theorem part_31 {v13 v853 v876 : BitVec 32} {Q : _ → sProp 𝕄}
    (h : ∀ r : (Σ' (v932 : BitVec 32) (v935 : FVec F S128x1024 .bf16), Vec F S1x128x1024 .bf16), r.2.1 = xch m ρ true c (back true c (7 + 1)) → shapeCast S128x1024 r.2.2 shapeCasts_S1x128x1024_S128x1024 = val m ρ true 7 (prv true c) → (St m ρ c (.p5 7) (.p4 7) 30 ⊢ Q r)) :
    St m ρ c (.p3 7) (.p2 7) 30 ⊢ WP c (k0_part31 xM h0 oM h1 (comM false) h2 (comM true) h3 e2 e3 e4 e5 e6 e7 c v13 v853 v876) Q := by
  rw [k0_part31_eq_skeleton]; unfold k0_part31_skel; simp only [runs]
  refine lf (r_recv (credit_sl false 1)) ?_
  refine lt (r_sent credit_o) ?_
  refine lt (r_recv (credit_sl true 1)) ?_
  refine lf (r_load (off3_eq c 7)) ?_
  refine lfw r_slot fun w0 hw0 => ?_
  refine lf (r_load (off3_eq c 7)) ?_
  refine lf (r_store (off3_eq c 7) (sum_val' hw0)) ?_
  refine lt (r_load (off4_eq c 7)) ?_
  refine ltw r_slot fun w1 hw1 => ?_
  exact s_ret (h _ (shapeCast_self (xch m ρ true c (back true c (7 + 1))) shapeCasts_S128x1024_S128x1024) hw1)

theorem part_32 {v2 v13 v24 v932 v935 v936} (hv : v935 = xch m ρ true c (back true c (7 + 1))) (hw : shapeCast S128x1024 v936 shapeCasts_S1x128x1024_S128x1024 = val m ρ true 7 (prv true c)) : Goes m ρ c (.p5 7) (.p4 7) 30 (.p0 8) (.p0 8) 32 (k0_part32 xM h0 oM h1 (comM false) h2 (comM true) h3 e2 e3 e4 e5 e6 e7 c v2 v13 v24 v932 v935 v936) := by
  intro Q h; rw [k0_part32_eq_skeleton]; unfold k0_part32_skel; simp only [runs]
  refine lt (r_load (off4_eq c 7)) ?_
  refine lt (r_store (off4_eq c 7) (sum_val hv hw)) ?_
  refine lf (r_signal (at_all c)) ?_
  refine lt (r_signal (at_all c)) ?_
  exact s_ret (h _)

theorem part_33 {v2 v24 v955 v968 c16_i32_837 c0_i32_838} : Goes m ρ c (.p0 8) (.p0 8) 32 (.p1 8) (.p1 8) 32 (k0_part33 xM h0 oM h1 (comM false) h2 (comM true) h3 e2 e3 e4 e5 e6 e7 v2 v24 v955 v968 c16_i32_837 c0_i32_838) := by
  intro Q h; rw [k0_part33_eq_skeleton]; unfold k0_part33_skel; simp only [runs]
  refine lf r_credit ?_
  refine lt r_credit ?_
  exact s_ret (h _)

theorem part_34 {v13 v24} : Goes m ρ c (.p1 8) (.p1 8) 32 (.p4 8) (.p2 8) 34 (k0_part34 xM h0 oM h1 (comM false) h2 (comM true) h3 e2 e3 e4 e5 e6 e7 c v13 v24) := by
  intro Q h; rw [k0_part34_eq_skeleton]; unfold k0_part34_skel; simp only [runs]
  refine lf (r_send (at_all c) (ch_eq (off1_eq c 8)) (land_rs false 8)) ?_
  refine lt (r_send (at_all c) (ch_eq (off2_eq c 8)) (land_rs true 8)) ?_
  refine lf (r_sent credit_o) ?_
  refine lf (r_recv (credit_sl false 0)) ?_
  exact s_ret (h _)

theorem part_35 {v13 v967 v990} : Goes m ρ c (.p4 8) (.p2 8) 34 (.p0 9) (.p5 8) 35 (k0_part35 xM h0 oM h1 (comM false) h2 (comM true) h3 e2 e3 e4 e5 e6 e7 c v13 v967 v990) := by
  intro Q h; rw [k0_part35_eq_skeleton]; unfold k0_part35_skel; simp only [runs]
  refine lt (r_sent credit_o) ?_
  refine lt (r_recv (credit_sl true 0)) ?_
  refine lf (r_load (off3_eq c 8)) ?_
  refine lfw r_slot fun w0 hw0 => ?_
  refine lf (r_load (off3_eq c 8)) ?_
  refine lf (r_store (off3_eq c 8) (sum_val' hw0)) ?_
  refine lt (r_load (off4_eq c 8)) ?_
  refine ltw r_slot fun w1 hw1 => ?_
  refine lt (r_load (off4_eq c 8)) ?_
  refine lt (r_store (off4_eq c 8) (sum_val' hw1)) ?_
  refine lf (r_signal (at_all c)) ?_
  exact s_ret (h _)

theorem part_36 {v2 v24} : Goes m ρ c (.p0 9) (.p5 8) 35 (.p0 9) (.p0 9) 36 (k0_part36 xM h0 oM h1 (comM false) h2 (comM true) h3 e2 e3 e4 e5 e6 e7 c v2 v24) := by
  intro Q h; rw [k0_part36_eq_skeleton]; unfold k0_part36_skel; simp only [runs]
  refine lt (r_signal (at_all c)) ?_
  exact s_ret (h _)

theorem part_37 {v2 v13 v24 v1069 v1084 v1085 v1090} : Goes m ρ c (.p0 9) (.p0 9) 36 (.p2 9) (.p1 9) 37 (k0_part37 xM h0 oM h1 (comM false) h2 (comM true) h3 e2 e3 e4 e5 e6 e7 c v2 v13 v24 v1069 v1084 v1085 v1090) := by
  intro Q h; rw [k0_part37_eq_skeleton]; unfold k0_part37_skel; simp only [runs]
  refine lf r_credit ?_
  refine lt r_credit ?_
  refine lf (r_send (at_all c) (ch_eq (off1_eq c 9)) (land_rs false 9)) ?_
  exact s_ret (h _)

theorem part_38 {v13 v24} : Goes m ρ c (.p2 9) (.p1 9) 37 (.p4 9) (.p3 9) 38 (k0_part38 xM h0 oM h1 (comM false) h2 (comM true) h3 e2 e3 e4 e5 e6 e7 c v13 v24) := by
  intro Q h; rw [k0_part38_eq_skeleton]; unfold k0_part38_skel; simp only [runs]
  refine lt (r_send (at_all c) (ch_eq (off2_eq c 9)) (land_rs true 9)) ?_
  refine lf (r_sent credit_o) ?_
  refine lf (r_recv (credit_sl false 1)) ?_
  refine lt (r_sent credit_o) ?_
  exact s_ret (h _)

theorem part_39 {v2 v13 v24 v1081 v1104} : Goes m ρ c (.p4 9) (.p3 9) 38 (.p0 10) (.p0 10) 40 (k0_part39 xM h0 oM h1 (comM false) h2 (comM true) h3 e2 e3 e4 e5 e6 e7 c v2 v13 v24 v1081 v1104) := by
  intro Q h; rw [k0_part39_eq_skeleton]; unfold k0_part39_skel; simp only [runs]
  refine lt (r_recv (credit_sl true 1)) ?_
  refine lf (r_load (off3_eq c 9)) ?_
  refine lfw r_slot fun w0 hw0 => ?_
  refine lf (r_load (off3_eq c 9)) ?_
  refine lf (r_store (off3_eq c 9) (sum_val' hw0)) ?_
  refine lt (r_load (off4_eq c 9)) ?_
  refine ltw r_slot fun w1 hw1 => ?_
  refine lt (r_load (off4_eq c 9)) ?_
  refine lt (r_store (off4_eq c 9) (sum_val' hw1)) ?_
  refine lf (r_signal (at_all c)) ?_
  refine lt (r_signal (at_all c)) ?_
  exact s_ret (h _)

theorem part_40 {v2 v1173 c16_i32_1024 v1174 c1_i32_1026} : Goes m ρ c (.p0 10) (.p0 10) 40 (.p0 10) (.p0 10) 40 (k0_part40 xM h0 oM h1 (comM false) h2 (comM true) h3 e2 e3 e4 e5 e6 e7 v2 v1173 c16_i32_1024 v1174 c1_i32_1026) := by
  intro Q h; rw [k0_part40_eq_skeleton]; unfold k0_part40_skel; simp only [runs]
  exact s_ret (h _)

theorem part_41 {v13 v24 v1183 v1206 v1210 v1211} : Goes m ρ c (.p0 10) (.p0 10) 40 (.p2 10) (.p2 10) 42 (k0_part41 xM h0 oM h1 (comM false) h2 (comM true) h3 e2 e3 e4 e5 e6 e7 c v13 v24 v1183 v1206 v1210 v1211) := by
  intro Q h; rw [k0_part41_eq_skeleton]; unfold k0_part41_skel; simp only [runs]
  refine lf r_credit ?_
  refine lt r_credit ?_
  refine lf (r_send (at_all c) (ch_eq (off1_eq c 10)) (land_rs false 10)) ?_
  refine lt (r_send (at_all c) (ch_eq (off2_eq c 10)) (land_rs true 10)) ?_
  exact s_ret (h _)

theorem part_42 {v13 v24 v1195} : Goes m ρ c (.p2 10) (.p2 10) 42 (.p4 10) (.p4 10) 42 (k0_part42 xM h0 oM h1 (comM false) h2 (comM true) h3 e2 e3 e4 e5 e6 e7 c v13 v24 v1195) := by
  intro Q h; rw [k0_part42_eq_skeleton]; unfold k0_part42_skel; simp only [runs]
  refine lf (r_sent credit_o) ?_
  refine lf (r_recv (credit_sl false 0)) ?_
  refine lt (r_sent credit_o) ?_
  refine lt (r_recv (credit_sl true 0)) ?_
  exact s_ret (h _)

theorem part_43 {v2 v13 v24 v1218 v1264} : Goes m ρ c (.p4 10) (.p4 10) 42 (.p0 11) (.p0 11) 44 (k0_part43 xM h0 oM h1 (comM false) h2 (comM true) h3 e2 e3 e4 e5 e6 e7 c v2 v13 v24 v1218 v1264) := by
  intro Q h; rw [k0_part43_eq_skeleton]; unfold k0_part43_skel; simp only [runs]
  refine lf (r_load (off3_eq c 10)) ?_
  refine lfw r_slot fun w0 hw0 => ?_
  refine lf (r_load (off3_eq c 10)) ?_
  refine lf (r_store (off3_eq c 10) (sum_val' hw0)) ?_
  refine lt (r_load (off4_eq c 10)) ?_
  refine ltw r_slot fun w1 hw1 => ?_
  refine lt (r_load (off4_eq c 10)) ?_
  refine lt (r_store (off4_eq c 10) (sum_val' hw1)) ?_
  refine lf (r_signal (at_all c)) ?_
  refine lt (r_signal (at_all c)) ?_
  exact s_ret (h _)

theorem part_44 {v2} : Goes m ρ c (.p0 11) (.p0 11) 44 (.p0 11) (.p0 11) 44 (k0_part44 xM h0 oM h1 (comM false) h2 (comM true) h3 e2 e3 e4 e5 e6 e7 v2) := by
  intro Q h; rw [k0_part44_eq_skeleton]; unfold k0_part44_skel; simp only [runs]
  exact s_ret (h _)

theorem part_45 {v13 v24 v1297 v1320} : Goes m ρ c (.p0 11) (.p0 11) 44 (.p3 11) (.p2 11) 46 (k0_part45 xM h0 oM h1 (comM false) h2 (comM true) h3 e2 e3 e4 e5 e6 e7 c v13 v24 v1297 v1320) := by
  intro Q h; rw [k0_part45_eq_skeleton]; unfold k0_part45_skel; simp only [runs]
  refine lf r_credit ?_
  refine lt r_credit ?_
  refine lf (r_send (at_all c) (ch_eq (off1_eq c 11)) (land_rs false 11)) ?_
  refine lt (r_send (at_all c) (ch_eq (off2_eq c 11)) (land_rs true 11)) ?_
  refine lf (r_sent credit_o) ?_
  exact s_ret (h _)

theorem part_46 {v13 v24 v1309} : Goes m ρ c (.p3 11) (.p2 11) 46 (.p5 11) (.p4 11) 46 (k0_part46 xM h0 oM h1 (comM false) h2 (comM true) h3 e2 e3 e4 e5 e6 e7 c v13 v24 v1309) := by
  intro Q h; rw [k0_part46_eq_skeleton]; unfold k0_part46_skel; simp only [runs]
  refine lf (r_recv (credit_sl false 1)) ?_
  refine lt (r_sent credit_o) ?_
  refine lt (r_recv (credit_sl true 1)) ?_
  refine lf (r_load (off3_eq c 11)) ?_
  refine lfw r_slot fun w0 hw0 => ?_
  refine lf (r_load (off3_eq c 11)) ?_
  refine lf (r_store (off3_eq c 11) (sum_val' hw0)) ?_
  exact s_ret (h _)

theorem part_47 {v2 v13 v24 v1332} : Goes m ρ c (.p5 11) (.p4 11) 46 (.p0 12) (.p0 12) 48 (k0_part47 xM h0 oM h1 (comM false) h2 (comM true) h3 e2 e3 e4 e5 e6 e7 c v2 v13 v24 v1332) := by
  intro Q h; rw [k0_part47_eq_skeleton]; unfold k0_part47_skel; simp only [runs]
  refine lt (r_load (off4_eq c 11)) ?_
  refine ltw r_slot fun w0 hw0 => ?_
  refine lt (r_load (off4_eq c 11)) ?_
  refine lt (r_store (off4_eq c 11) (sum_val' hw0)) ?_
  refine lf (r_signal (at_all c)) ?_
  refine lt (r_signal (at_all c)) ?_
  exact s_ret (h _)

theorem part_48 {v2 v1411 v1415 v1416 v1417} : Goes m ρ c (.p0 12) (.p0 12) 48 (.p1 12) (.p1 12) 48 (k0_part48 xM h0 oM h1 (comM false) h2 (comM true) h3 e2 e3 e4 e5 e6 e7 v2 v1411 v1415 v1416 v1417) := by
  intro Q h; rw [k0_part48_eq_skeleton]; unfold k0_part48_skel; simp only [runs]
  refine lf r_credit ?_
  refine lt r_credit ?_
  exact s_ret (h _)

end Cert.RingProof
-- ==== Proof.RingPartsB.lean ====
/-
# The ring all-reduce: the body, part by part
-/
module

public import proofs.«01_k».proof.Proof.RingSteps

@[expose] public section

set_option maxRecDepth 20000

noncomputable section

namespace Cert.RingProof

open Cert.RingIdeal Cert.RingIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable {m : (ℓ : Loc nD τ sig) → Buf (Elt F) ℓ} {ρ : Dev nD → PrngReg}

variable {c : Dev nD} {h0 : (xM : Memref sig .tc .vmem S4096x1024 .bf16).IsWhole} {h1 : (oM : Memref sig .tc .vmem S4096x1024 .bf16).IsWhole}
  {h2 : (comM false).IsWhole} {h3 : (comM true).IsWhole}

open Cert.RingIdeal renaming cc0_scratch2 → e2, cc0_scratch3 → e3, cc0_scratch4 → e4, cc0_scratch5 → e5, cc0_scratch6 → e6, cc0_scratch7 → e7

/-! ## The parts of the body

`part_n` says from where to where in the two rings the body's `n`-th stretch takes a core, and after how many payments. -/

theorem part_49 {v13 v24} : Goes m ρ c (.p1 12) (.p1 12) 48 (.p3 12) (.p2 12) 50 (k0_part49 xM h0 oM h1 (comM false) h2 (comM true) h3 e2 e3 e4 e5 e6 e7 c v13 v24) := by
  intro Q h; rw [k0_part49_eq_skeleton]; unfold k0_part49_skel; simp only [runs]
  refine lf (r_send (at_all c) (ch_eq (off1_eq c 12)) (land_rs false 12)) ?_
  refine lt (r_send (at_all c) (ch_eq (off2_eq c 12)) (land_rs true 12)) ?_
  refine lf (r_sent credit_o) ?_
  exact s_ret (h _)

theorem part_50 {v13 v1423 v1446 : BitVec 32} {Q : _ → sProp 𝕄}
    (h : ∀ r : (Σ' (v1502 : BitVec 32) (v1505 : FVec F S128x1024 .bf16), Vec F S1x128x1024 .bf16), r.2.1 = xch m ρ true c (back true c (12 + 1)) → shapeCast S128x1024 r.2.2 shapeCasts_S1x128x1024_S128x1024 = val m ρ true 12 (prv true c) → (St m ρ c (.p5 12) (.p4 12) 50 ⊢ Q r)) :
    St m ρ c (.p3 12) (.p2 12) 50 ⊢ WP c (k0_part50 xM h0 oM h1 (comM false) h2 (comM true) h3 e2 e3 e4 e5 e6 e7 c v13 v1423 v1446) Q := by
  rw [k0_part50_eq_skeleton]; unfold k0_part50_skel; simp only [runs]
  refine lf (r_recv (credit_sl false 0)) ?_
  refine lt (r_sent credit_o) ?_
  refine lt (r_recv (credit_sl true 0)) ?_
  refine lf (r_load (off3_eq c 12)) ?_
  refine lfw r_slot fun w0 hw0 => ?_
  refine lf (r_load (off3_eq c 12)) ?_
  refine lf (r_store (off3_eq c 12) (sum_val' hw0)) ?_
  refine lt (r_load (off4_eq c 12)) ?_
  refine ltw r_slot fun w1 hw1 => ?_
  exact s_ret (h _ (shapeCast_self (xch m ρ true c (back true c (12 + 1))) shapeCasts_S128x1024_S128x1024) hw1)

theorem part_51 {v2 v13 v24 v1502 v1505 v1506} (hv : v1505 = xch m ρ true c (back true c (12 + 1))) (hw : shapeCast S128x1024 v1506 shapeCasts_S1x128x1024_S128x1024 = val m ρ true 12 (prv true c)) : Goes m ρ c (.p5 12) (.p4 12) 50 (.p0 13) (.p0 13) 52 (k0_part51 xM h0 oM h1 (comM false) h2 (comM true) h3 e2 e3 e4 e5 e6 e7 c v2 v13 v24 v1502 v1505 v1506) := by
  intro Q h; rw [k0_part51_eq_skeleton]; unfold k0_part51_skel; simp only [runs]
  refine lt (r_load (off4_eq c 12)) ?_
  refine lt (r_store (off4_eq c 12) (sum_val hv hw)) ?_
  refine lf (r_signal (at_all c)) ?_
  refine lt (r_signal (at_all c)) ?_
  exact s_ret (h _)

theorem part_52 {v2 v24 v1525 v1538 c16_i32_1342 c0_i32_1343} : Goes m ρ c (.p0 13) (.p0 13) 52 (.p1 13) (.p1 13) 52 (k0_part52 xM h0 oM h1 (comM false) h2 (comM true) h3 e2 e3 e4 e5 e6 e7 v2 v24 v1525 v1538 c16_i32_1342 c0_i32_1343) := by
  intro Q h; rw [k0_part52_eq_skeleton]; unfold k0_part52_skel; simp only [runs]
  refine lf r_credit ?_
  refine lt r_credit ?_
  exact s_ret (h _)

theorem part_53 {v13 v24} : Goes m ρ c (.p1 13) (.p1 13) 52 (.p4 13) (.p2 13) 54 (k0_part53 xM h0 oM h1 (comM false) h2 (comM true) h3 e2 e3 e4 e5 e6 e7 c v13 v24) := by
  intro Q h; rw [k0_part53_eq_skeleton]; unfold k0_part53_skel; simp only [runs]
  refine lf (r_send (at_all c) (ch_eq (off1_eq c 13)) (land_rs false 13)) ?_
  refine lt (r_send (at_all c) (ch_eq (off2_eq c 13)) (land_rs true 13)) ?_
  refine lf (r_sent credit_o) ?_
  refine lf (r_recv (credit_sl false 1)) ?_
  exact s_ret (h _)

theorem part_54 {v13 v1537 v1560} : Goes m ρ c (.p4 13) (.p2 13) 54 (.p0 14) (.p5 13) 55 (k0_part54 xM h0 oM h1 (comM false) h2 (comM true) h3 e2 e3 e4 e5 e6 e7 c v13 v1537 v1560) := by
  intro Q h; rw [k0_part54_eq_skeleton]; unfold k0_part54_skel; simp only [runs]
  refine lt (r_sent credit_o) ?_
  refine lt (r_recv (credit_sl true 1)) ?_
  refine lf (r_load (off3_eq c 13)) ?_
  refine lfw r_slot fun w0 hw0 => ?_
  refine lf (r_load (off3_eq c 13)) ?_
  refine lf (r_store (off3_eq c 13) (sum_val' hw0)) ?_
  refine lt (r_load (off4_eq c 13)) ?_
  refine ltw r_slot fun w1 hw1 => ?_
  refine lt (r_load (off4_eq c 13)) ?_
  refine lt (r_store (off4_eq c 13) (sum_val' hw1)) ?_
  refine lf (r_signal (at_all c)) ?_
  exact s_ret (h _)

theorem part_55 {v2 v24} : Goes m ρ c (.p0 14) (.p5 13) 55 (.p0 14) (.p0 14) 56 (k0_part55 xM h0 oM h1 (comM false) h2 (comM true) h3 e2 e3 e4 e5 e6 e7 c v2 v24) := by
  intro Q h; rw [k0_part55_eq_skeleton]; unfold k0_part55_skel; simp only [runs]
  refine lt (r_signal (at_all c)) ?_
  exact s_ret (h _)

theorem part_56 {v2 v13 v24 v1639 v1654 v1655 v1660} : Goes m ρ c (.p0 14) (.p0 14) 56 (.p2 14) (.p1 14) 57 (k0_part56 xM h0 oM h1 (comM false) h2 (comM true) h3 e2 e3 e4 e5 e6 e7 c v2 v13 v24 v1639 v1654 v1655 v1660) := by
  intro Q h; rw [k0_part56_eq_skeleton]; unfold k0_part56_skel; simp only [runs]
  refine lf r_credit ?_
  refine lt r_credit ?_
  refine lf (r_send (at_all c) (ch_eq (off1_eq c 14)) (land_rs false 14)) ?_
  exact s_ret (h _)

theorem part_57 {v13 v24} : Goes m ρ c (.p2 14) (.p1 14) 57 (.p4 14) (.p3 14) 58 (k0_part57 xM h0 oM h1 (comM false) h2 (comM true) h3 e2 e3 e4 e5 e6 e7 c v13 v24) := by
  intro Q h; rw [k0_part57_eq_skeleton]; unfold k0_part57_skel; simp only [runs]
  refine lt (r_send (at_all c) (ch_eq (off2_eq c 14)) (land_rs true 14)) ?_
  refine lf (r_sent credit_o) ?_
  refine lf (r_recv (credit_sl false 0)) ?_
  refine lt (r_sent credit_o) ?_
  exact s_ret (h _)

theorem part_58 {v2 v13 v24 v1651 v1674} : Goes m ρ c (.p4 14) (.p3 14) 58 (.p0 15) (.p0 15) 60 (k0_part58 xM h0 oM h1 (comM false) h2 (comM true) h3 e2 e3 e4 e5 e6 e7 c v2 v13 v24 v1651 v1674) := by
  intro Q h; rw [k0_part58_eq_skeleton]; unfold k0_part58_skel; simp only [runs]
  refine lt (r_recv (credit_sl true 0)) ?_
  refine lf (r_load (off3_eq c 14)) ?_
  refine lfw r_slot fun w0 hw0 => ?_
  refine lf (r_load (off3_eq c 14)) ?_
  refine lf (r_store (off3_eq c 14) (sum_val' hw0)) ?_
  refine lt (r_load (off4_eq c 14)) ?_
  refine ltw r_slot fun w1 hw1 => ?_
  refine lt (r_load (off4_eq c 14)) ?_
  refine lt (r_store (off4_eq c 14) (sum_val' hw1)) ?_
  refine lf (r_signal (at_all c)) ?_
  refine lt (r_signal (at_all c)) ?_
  exact s_ret (h _)

theorem part_59 {v2 v24 v1744 c16_i32_1531 c0_i32_1532} : Goes m ρ c (.p0 15) (.p0 15) 60 (.p1 15) (.p1 15) 60 (k0_part59 xM h0 oM h1 (comM false) h2 (comM true) h3 e2 e3 e4 e5 e6 e7 v2 v24 v1744 c16_i32_1531 c0_i32_1532) := by
  intro Q h; rw [k0_part59_eq_skeleton]; unfold k0_part59_skel
  refine lf r_credit ?_
  refine lt r_credit ?_
  exact s_ret (h _)

theorem part_60 {v13 v24} : Goes m ρ c (.p1 15) (.p1 15) 60 (.p4 15) (.p3 15) 62 (k0_part60 xM h0 oM h1 (comM false) h2 (comM true) h3 e2 e3 e4 e5 e6 e7 c v13 v24) := by
  intro Q h; rw [k0_part60_eq_skeleton]; unfold k0_part60_skel; simp only [runs]
  refine lf (r_send (at_all c) (ch_eq (off5_eq c 0)) (land_ag (at_all c) (off5_eq c 0))) ?_
  refine lt (r_send (at_all c) (ch_eq (off6_eq c 0)) (land_ag (at_all c) (off6_eq c 0))) ?_
  refine lf (r_sent credit_o) ?_
  refine lf (r_recv credit_o) ?_
  refine lt (r_sent credit_o) ?_
  exact s_ret (h _)

theorem part_61 {v2 v13 v24 v1803 c0_i32_1586} : Goes m ρ c (.p4 15) (.p3 15) 62 (.p0 16) (.p0 16) 64 (k0_part61 xM h0 oM h1 (comM false) h2 (comM true) h3 e2 e3 e4 e5 e6 e7 c v2 v13 v24 v1803 c0_i32_1586) := by
  intro Q h; rw [k0_part61_eq_skeleton]; unfold k0_part61_skel; simp only [runs]
  refine lt (r_recv credit_o) ?_
  refine s_gather ?_
  refine lf (r_signal (at_all c)) ?_
  refine lt (r_signal (at_all c)) ?_
  exact s_ret (h _)

theorem part_62 {v13 v24 v1824 v1836} : Goes m ρ c (.p0 16) (.p0 16) 64 (.p3 16) (.p2 16) 66 (k0_part62 xM h0 oM h1 (comM false) h2 (comM true) h3 e2 e3 e4 e5 e6 e7 c v13 v24 v1824 v1836) := by
  intro Q h; rw [k0_part62_eq_skeleton]; unfold k0_part62_skel; simp only [runs]
  refine lf r_credit ?_
  refine lt r_credit ?_
  refine lf (r_send (at_all c) (ch_eq (off5_eq c 1)) (land_ag (at_all c) (off5_eq c 1))) ?_
  refine lt (r_send (at_all c) (ch_eq (off6_eq c 1)) (land_ag (at_all c) (off6_eq c 1))) ?_
  refine lf (r_sent credit_o) ?_
  exact s_ret (h _)

theorem part_63 {v2 v13 v24} : Goes m ρ c (.p3 16) (.p2 16) 66 (.p0 17) (.p0 17) 68 (k0_part63 xM h0 oM h1 (comM false) h2 (comM true) h3 e2 e3 e4 e5 e6 e7 c v2 v13 v24) := by
  intro Q h; rw [k0_part63_eq_skeleton]; unfold k0_part63_skel; simp only [runs]
  refine lf (r_recv credit_o) ?_
  refine lt (r_sent credit_o) ?_
  refine lt (r_recv credit_o) ?_
  refine s_gather ?_
  refine lf (r_signal (at_all c)) ?_
  refine lt (r_signal (at_all c)) ?_
  exact s_ret (h _)

theorem part_64 {v2 v24 v1886 v1887 v1888 v1889} : Goes m ρ c (.p0 17) (.p0 17) 68 (.p2 17) (.p1 17) 69 (k0_part64 xM h0 oM h1 (comM false) h2 (comM true) h3 e2 e3 e4 e5 e6 e7 c v2 v24 v1886 v1887 v1888 v1889) := by
  intro Q h; rw [k0_part64_eq_skeleton]; unfold k0_part64_skel; simp only [runs]
  refine lf r_credit ?_
  refine lt r_credit ?_
  refine lf (r_send (at_all c) (ch_eq (off5_eq c 2)) (land_ag (at_all c) (off5_eq c 2))) ?_
  exact s_ret (h _)

theorem part_65 {v13 v24} : Goes m ρ c (.p2 17) (.p1 17) 69 (.p4 17) (.p4 17) 70 (k0_part65 xM h0 oM h1 (comM false) h2 (comM true) h3 e2 e3 e4 e5 e6 e7 c v13 v24) := by
  intro Q h; rw [k0_part65_eq_skeleton]; unfold k0_part65_skel; simp only [runs]
  refine lt (r_send (at_all c) (ch_eq (off6_eq c 2)) (land_ag (at_all c) (off6_eq c 2))) ?_
  refine lf (r_sent credit_o) ?_
  refine lf (r_recv credit_o) ?_
  refine lt (r_sent credit_o) ?_
  refine lt (r_recv credit_o) ?_
  exact s_ret (h _)

theorem part_66 {v2 v13 v24} : Goes m ρ c (.p4 17) (.p4 17) 70 (.p0 18) (.p0 18) 72 (k0_part66 xM h0 oM h1 (comM false) h2 (comM true) h3 e2 e3 e4 e5 e6 e7 c v2 v13 v24) := by
  intro Q h; rw [k0_part66_eq_skeleton]; unfold k0_part66_skel; simp only [runs]
  refine s_gather ?_
  refine lf (r_signal (at_all c)) ?_
  refine lt (r_signal (at_all c)) ?_
  exact s_ret (h _)

theorem part_67 {v13 v24 v1964 v1976} : Goes m ρ c (.p0 18) (.p0 18) 72 (.p3 18) (.p2 18) 74 (k0_part67 xM h0 oM h1 (comM false) h2 (comM true) h3 e2 e3 e4 e5 e6 e7 c v13 v24 v1964 v1976) := by
  intro Q h; rw [k0_part67_eq_skeleton]; unfold k0_part67_skel; simp only [runs]
  refine lf r_credit ?_
  refine lt r_credit ?_
  refine lf (r_send (at_all c) (ch_eq (off5_eq c 3)) (land_ag (at_all c) (off5_eq c 3))) ?_
  refine lt (r_send (at_all c) (ch_eq (off6_eq c 3)) (land_ag (at_all c) (off6_eq c 3))) ?_
  refine lf (r_sent credit_o) ?_
  exact s_ret (h _)

theorem part_68 {v2 v13 v24} : Goes m ρ c (.p3 18) (.p2 18) 74 (.p0 19) (.p0 19) 76 (k0_part68 xM h0 oM h1 (comM false) h2 (comM true) h3 e2 e3 e4 e5 e6 e7 c v2 v13 v24) := by
  intro Q h; rw [k0_part68_eq_skeleton]; unfold k0_part68_skel; simp only [runs]
  refine lf (r_recv credit_o) ?_
  refine lt (r_sent credit_o) ?_
  refine lt (r_recv credit_o) ?_
  refine s_gather ?_
  refine lf (r_signal (at_all c)) ?_
  refine lt (r_signal (at_all c)) ?_
  exact s_ret (h _)

theorem part_69 {v13 v24 v2034 v2035} : Goes m ρ c (.p0 19) (.p0 19) 76 (.p2 19) (.p1 19) 77 (k0_part69 xM h0 oM h1 (comM false) h2 (comM true) h3 e2 e3 e4 e5 e6 e7 c v13 v24 v2034 v2035) := by
  intro Q h; rw [k0_part69_eq_skeleton]; unfold k0_part69_skel; simp only [runs]
  refine lf r_credit ?_
  refine lt r_credit ?_
  refine lf (r_send (at_all c) (ch_eq (off5_eq c 4)) (land_ag (at_all c) (off5_eq c 4))) ?_
  exact s_ret (h _)

theorem part_70 {v13 v24} : Goes m ρ c (.p2 19) (.p1 19) 77 (.p0 20) (.p5 19) 79 (k0_part70 xM h0 oM h1 (comM false) h2 (comM true) h3 e2 e3 e4 e5 e6 e7 c v13 v24) := by
  intro Q h; rw [k0_part70_eq_skeleton]; unfold k0_part70_skel; simp only [runs]
  refine lt (r_send (at_all c) (ch_eq (off6_eq c 4)) (land_ag (at_all c) (off6_eq c 4))) ?_
  refine lf (r_sent credit_o) ?_
  refine lf (r_recv credit_o) ?_
  refine lt (r_sent credit_o) ?_
  refine lt (r_recv credit_o) ?_
  refine s_gather ?_
  refine lf (r_signal (at_all c)) ?_
  exact s_ret (h _)

theorem part_71 {v2 v24 c1_i32_1857} : Goes m ρ c (.p0 20) (.p5 19) 79 (.p1 20) (.p1 20) 80 (k0_part71 xM h0 oM h1 (comM false) h2 (comM true) h3 e2 e3 e4 e5 e6 e7 c v2 v24 c1_i32_1857) := by
  intro Q h; rw [k0_part71_eq_skeleton]; unfold k0_part71_skel; simp only [runs]
  refine lt (r_signal (at_all c)) ?_
  refine lf r_credit ?_
  refine lt r_credit ?_
  exact s_ret (h _)

theorem part_72 {v13 v24 v2121} : Goes m ρ c (.p1 20) (.p1 20) 80 (.p4 20) (.p2 20) 82 (k0_part72 xM h0 oM h1 (comM false) h2 (comM true) h3 e2 e3 e4 e5 e6 e7 c v13 v24 v2121) := by
  intro Q h; rw [k0_part72_eq_skeleton]; unfold k0_part72_skel; simp only [runs]
  refine lf (r_send (at_all c) (ch_eq (off5_eq c 5)) (land_ag (at_all c) (off5_eq c 5))) ?_
  refine lt (r_send (at_all c) (ch_eq (off6_eq c 5)) (land_ag (at_all c) (off6_eq c 5))) ?_
  refine lf (r_sent credit_o) ?_
  refine lf (r_recv credit_o) ?_
  exact s_ret (h _)

theorem part_73 {v2 v13 v24} : Goes m ρ c (.p4 20) (.p2 20) 82 (.p0 21) (.p0 21) 84 (k0_part73 xM h0 oM h1 (comM false) h2 (comM true) h3 e2 e3 e4 e5 e6 e7 c v2 v13 v24) := by
  intro Q h; rw [k0_part73_eq_skeleton]; unfold k0_part73_skel; simp only [runs]
  refine lt (r_sent credit_o) ?_
  refine lt (r_recv credit_o) ?_
  refine s_gather ?_
  refine lf (r_signal (at_all c)) ?_
  refine lt (r_signal (at_all c)) ?_
  exact s_ret (h _)

theorem part_74 {v13 v24 v2174 v2178 v2179} : Goes m ρ c (.p0 21) (.p0 21) 84 (.p2 21) (.p2 21) 86 (k0_part74 xM h0 oM h1 (comM false) h2 (comM true) h3 e2 e3 e4 e5 e6 e7 c v13 v24 v2174 v2178 v2179) := by
  intro Q h; rw [k0_part74_eq_skeleton]; unfold k0_part74_skel; simp only [runs]
  refine lf r_credit ?_
  refine lt r_credit ?_
  refine lf (r_send (at_all c) (ch_eq (off5_eq c 6)) (land_ag (at_all c) (off5_eq c 6))) ?_
  refine lt (r_send (at_all c) (ch_eq (off6_eq c 6)) (land_ag (at_all c) (off6_eq c 6))) ?_
  exact s_ret (h _)

theorem part_75 {v2 v13 v24} : Goes m ρ c (.p2 21) (.p2 21) 86 (.p0 22) (.p0 22) 88 (k0_part75 xM h0 oM h1 (comM false) h2 (comM true) h3 e2 e3 e4 e5 e6 e7 c v2 v13 v24) := by
  intro Q h; rw [k0_part75_eq_skeleton]; unfold k0_part75_skel; simp only [runs]
  refine lf (r_sent credit_o) ?_
  refine lf (r_recv credit_o) ?_
  refine lt (r_sent credit_o) ?_
  refine lt (r_recv credit_o) ?_
  refine s_gather ?_
  refine lf (r_signal (at_all c)) ?_
  refine lt (r_signal (at_all c)) ?_
  exact s_ret (h _)

theorem part_76 {v2 v24 v2234} : Goes m ρ c (.p0 22) (.p0 22) 88 (.p1 22) (.p1 22) 88 (k0_part76 xM h0 oM h1 (comM false) h2 (comM true) h3 e2 e3 e4 e5 e6 e7 v2 v24 v2234) := by
  intro Q h; rw [k0_part76_eq_skeleton]; unfold k0_part76_skel
  refine lf r_credit ?_
  refine lt r_credit ?_
  exact s_ret (h _)

theorem part_77 {v13 v24} : Goes m ρ c (.p1 22) (.p1 22) 88 (.p4 22) (.p3 22) 90 (k0_part77 xM h0 oM h1 (comM false) h2 (comM true) h3 e2 e3 e4 e5 e6 e7 c v13 v24) := by
  intro Q h; rw [k0_part77_eq_skeleton]; unfold k0_part77_skel; simp only [runs]
  refine lf (r_send (at_all c) (ch_eq (off5_eq c 7)) (land_ag (at_all c) (off5_eq c 7))) ?_
  refine lt (r_send (at_all c) (ch_eq (off6_eq c 7)) (land_ag (at_all c) (off6_eq c 7))) ?_
  refine lf (r_sent credit_o) ?_
  refine lf (r_recv credit_o) ?_
  refine lt (r_sent credit_o) ?_
  exact s_ret (h _)

theorem part_78 {v2 v13 v24 c1_i32_2047} : Goes m ρ c (.p4 22) (.p3 22) 90 (.p0 23) (.p0 23) 92 (k0_part78 xM h0 oM h1 (comM false) h2 (comM true) h3 e2 e3 e4 e5 e6 e7 c v2 v13 v24 c1_i32_2047) := by
  intro Q h; rw [k0_part78_eq_skeleton]; unfold k0_part78_skel; simp only [runs]
  refine lt (r_recv credit_o) ?_
  refine s_gather ?_
  refine lf (r_signal (at_all c)) ?_
  refine lt (r_signal (at_all c)) ?_
  exact s_ret (h _)

theorem part_79 {v13 v24 v2314 v2318 v2319 v2324} : Goes m ρ c (.p0 23) (.p0 23) 92 (.p3 23) (.p2 23) 94 (k0_part79 xM h0 oM h1 (comM false) h2 (comM true) h3 e2 e3 e4 e5 e6 e7 c v13 v24 v2314 v2318 v2319 v2324) := by
  intro Q h; rw [k0_part79_eq_skeleton]; unfold k0_part79_skel; simp only [runs]
  refine lf r_credit ?_
  refine lt r_credit ?_
  refine lf (r_send (at_all c) (ch_eq (off5_eq c 8)) (land_ag (at_all c) (off5_eq c 8))) ?_
  refine lt (r_send (at_all c) (ch_eq (off6_eq c 8)) (land_ag (at_all c) (off6_eq c 8))) ?_
  refine lf (r_sent credit_o) ?_
  exact s_ret (h _)

theorem part_80 {v2 v13 v24} : Goes m ρ c (.p3 23) (.p2 23) 94 (.p0 24) (.p0 24) 96 (k0_part80 xM h0 oM h1 (comM false) h2 (comM true) h3 e2 e3 e4 e5 e6 e7 c v2 v13 v24) := by
  intro Q h; rw [k0_part80_eq_skeleton]; unfold k0_part80_skel; simp only [runs]
  refine lf (r_recv credit_o) ?_
  refine lt (r_sent credit_o) ?_
  refine lt (r_recv credit_o) ?_
  refine s_gather ?_
  refine lf (r_signal (at_all c)) ?_
  refine lt (r_signal (at_all c)) ?_
  exact s_ret (h _)

theorem part_81 {v2 v24 v2376 v2377 v2378} : Goes m ρ c (.p0 24) (.p0 24) 96 (.p1 24) (.p1 24) 96 (k0_part81 xM h0 oM h1 (comM false) h2 (comM true) h3 e2 e3 e4 e5 e6 e7 c v2 v24 v2376 v2377 v2378) := by
  intro Q h; rw [k0_part81_eq_skeleton]; unfold k0_part81_skel
  refine lf r_credit ?_
  refine lt r_credit ?_
  exact s_ret (h _)

theorem part_82 {v13 v24} : Goes m ρ c (.p1 24) (.p1 24) 96 (.p4 24) (.p3 24) 98 (k0_part82 xM h0 oM h1 (comM false) h2 (comM true) h3 e2 e3 e4 e5 e6 e7 c v13 v24) := by
  intro Q h; rw [k0_part82_eq_skeleton]; unfold k0_part82_skel; simp only [runs]
  refine lf (r_send (at_all c) (ch_eq (off5_eq c 9)) (land_ag (at_all c) (off5_eq c 9))) ?_
  refine lt (r_send (at_all c) (ch_eq (off6_eq c 9)) (land_ag (at_all c) (off6_eq c 9))) ?_
  refine lf (r_sent credit_o) ?_
  refine lf (r_recv credit_o) ?_
  refine lt (r_sent credit_o) ?_
  exact s_ret (h _)

theorem part_83 {v2 v13 v24} : Goes m ρ c (.p4 24) (.p3 24) 98 (.p0 25) (.p0 25) 100 (k0_part83 xM h0 oM h1 (comM false) h2 (comM true) h3 e2 e3 e4 e5 e6 e7 c v2 v13 v24) := by
  intro Q h; rw [k0_part83_eq_skeleton]; unfold k0_part83_skel; simp only [runs]
  refine lt (r_recv credit_o) ?_
  refine s_gather ?_
  refine lf (r_signal (at_all c)) ?_
  refine lt (r_signal (at_all c)) ?_
  exact s_ret (h _)

theorem part_84 {v13 v24 v2454 v2466} : Goes m ρ c (.p0 25) (.p0 25) 100 (.p3 25) (.p2 25) 102 (k0_part84 xM h0 oM h1 (comM false) h2 (comM true) h3 e2 e3 e4 e5 e6 e7 c v13 v24 v2454 v2466) := by
  intro Q h; rw [k0_part84_eq_skeleton]; unfold k0_part84_skel; simp only [runs]
  refine lf r_credit ?_
  refine lt r_credit ?_
  refine lf (r_send (at_all c) (ch_eq (off5_eq c 10)) (land_ag (at_all c) (off5_eq c 10))) ?_
  refine lt (r_send (at_all c) (ch_eq (off6_eq c 10)) (land_ag (at_all c) (off6_eq c 10))) ?_
  refine lf (r_sent credit_o) ?_
  exact s_ret (h _)

theorem part_85 {v2 v13 v24} : Goes m ρ c (.p3 25) (.p2 25) 102 (.p0 26) (.p0 26) 104 (k0_part85 xM h0 oM h1 (comM false) h2 (comM true) h3 e2 e3 e4 e5 e6 e7 c v2 v13 v24) := by
  intro Q h; rw [k0_part85_eq_skeleton]; unfold k0_part85_skel; simp only [runs]
  refine lf (r_recv credit_o) ?_
  refine lt (r_sent credit_o) ?_
  refine lt (r_recv credit_o) ?_
  refine s_gather ?_
  refine lf (r_signal (at_all c)) ?_
  refine lt (r_signal (at_all c)) ?_
  exact s_ret (h _)

theorem part_86 {v2 v13 v24 v2524} : Goes m ρ c (.p0 26) (.p0 26) 104 (.p2 26) (.p1 26) 105 (k0_part86 xM h0 oM h1 (comM false) h2 (comM true) h3 e2 e3 e4 e5 e6 e7 c v2 v13 v24 v2524) := by
  intro Q h; rw [k0_part86_eq_skeleton]; unfold k0_part86_skel; simp only [runs]
  refine lf r_credit ?_
  refine lt r_credit ?_
  refine lf (r_send (at_all c) (ch_eq (off5_eq c 11)) (land_ag (at_all c) (off5_eq c 11))) ?_
  exact s_ret (h _)

theorem part_87 {v13 v24} : Goes m ρ c (.p2 26) (.p1 26) 105 (.p0 27) (.p5 26) 107 (k0_part87 xM h0 oM h1 (comM false) h2 (comM true) h3 e2 e3 e4 e5 e6 e7 c v13 v24) := by
  intro Q h; rw [k0_part87_eq_skeleton]; unfold k0_part87_skel; simp only [runs]
  refine lt (r_send (at_all c) (ch_eq (off6_eq c 11)) (land_ag (at_all c) (off6_eq c 11))) ?_
  refine lf (r_sent credit_o) ?_
  refine lf (r_recv credit_o) ?_
  refine lt (r_sent credit_o) ?_
  refine lt (r_recv credit_o) ?_
  refine s_gather ?_
  refine lf (r_signal (at_all c)) ?_
  exact s_ret (h _)

theorem part_88 {v2 v24} : Goes m ρ c (.p0 27) (.p5 26) 107 (.p1 27) (.p1 27) 108 (k0_part88 xM h0 oM h1 (comM false) h2 (comM true) h3 e2 e3 e4 e5 e6 e7 c v2 v24) := by
  intro Q h; rw [k0_part88_eq_skeleton]; unfold k0_part88_skel; simp only [runs]
  refine lt (r_signal (at_all c)) ?_
  refine lf r_credit ?_
  refine lt r_credit ?_
  exact s_ret (h _)

theorem part_89 {v13 v24 v2606} : Goes m ρ c (.p1 27) (.p1 27) 108 (.p4 27) (.p2 27) 110 (k0_part89 xM h0 oM h1 (comM false) h2 (comM true) h3 e2 e3 e4 e5 e6 e7 c v13 v24 v2606) := by
  intro Q h; rw [k0_part89_eq_skeleton]; unfold k0_part89_skel; simp only [runs]
  refine lf (r_send (at_all c) (ch_eq (off5_eq c 12)) (land_ag (at_all c) (off5_eq c 12))) ?_
  refine lt (r_send (at_all c) (ch_eq (off6_eq c 12)) (land_ag (at_all c) (off6_eq c 12))) ?_
  refine lf (r_sent credit_o) ?_
  refine lf (r_recv credit_o) ?_
  exact s_ret (h _)

theorem part_90 {v2 v13 v24} : Goes m ρ c (.p4 27) (.p2 27) 110 (.p0 28) (.p0 28) 112 (k0_part90 xM h0 oM h1 (comM false) h2 (comM true) h3 e2 e3 e4 e5 e6 e7 c v2 v13 v24) := by
  intro Q h; rw [k0_part90_eq_skeleton]; unfold k0_part90_skel; simp only [runs]
  refine lt (r_sent credit_o) ?_
  refine lt (r_recv credit_o) ?_
  refine s_gather ?_
  refine lf (r_signal (at_all c)) ?_
  refine lt (r_signal (at_all c)) ?_
  exact s_ret (h _)

theorem part_91 {v13 v24 v2664 v2666 c16_i32_2397 v2667 c1_i32_2399} : Goes m ρ c (.p0 28) (.p0 28) 112 (.p2 28) (.p2 28) 114 (k0_part91 xM h0 oM h1 (comM false) h2 (comM true) h3 e2 e3 e4 e5 e6 e7 c v13 v24 v2664 v2666 c16_i32_2397 v2667 c1_i32_2399) := by
  intro Q h; rw [k0_part91_eq_skeleton]; unfold k0_part91_skel; simp only [runs]
  refine lf r_credit ?_
  refine lt r_credit ?_
  refine lf (r_send (at_all c) (ch_eq (off5_eq c 13)) (land_ag (at_all c) (off5_eq c 13))) ?_
  refine lt (r_send (at_all c) (ch_eq (off6_eq c 13)) (land_ag (at_all c) (off6_eq c 13))) ?_
  exact s_ret (h _)

theorem part_92 {v2 v13 v24} : Goes m ρ c (.p2 28) (.p2 28) 114 (.p0 29) (.p0 29) 116 (k0_part92 xM h0 oM h1 (comM false) h2 (comM true) h3 e2 e3 e4 e5 e6 e7 c v2 v13 v24) := by
  intro Q h; rw [k0_part92_eq_skeleton]; unfold k0_part92_skel; simp only [runs]
  refine lf (r_sent credit_o) ?_
  refine lf (r_recv credit_o) ?_
  refine lt (r_sent credit_o) ?_
  refine lt (r_recv credit_o) ?_
  refine s_gather ?_
  refine lf (r_signal (at_all c)) ?_
  refine lt (r_signal (at_all c)) ?_
  exact s_ret (h _)

theorem part_93 {v2 v24 v2723} : Goes m ρ c (.p0 29) (.p0 29) 116 (.p1 29) (.p1 29) 116 (k0_part93 xM h0 oM h1 (comM false) h2 (comM true) h3 e2 e3 e4 e5 e6 e7 v2 v24 v2723) := by
  intro Q h; rw [k0_part93_eq_skeleton]; unfold k0_part93_skel; simp only [runs]
  refine lf r_credit ?_
  refine lt r_credit ?_
  exact s_ret (h _)

theorem part_94 {v13 v24 v2753} : Goes m ρ c (.p1 29) (.p1 29) 116 (.p4 29) (.p3 29) 118 (k0_part94 xM h0 oM h1 (comM false) h2 (comM true) h3 e2 e3 e4 e5 e6 e7 c v13 v24 v2753) := by
  intro Q h; rw [k0_part94_eq_skeleton]; unfold k0_part94_skel; simp only [runs]
  refine lf (r_send (at_all c) (ch_eq (off5_eq c 14)) (land_ag (at_all c) (off5_eq c 14))) ?_
  refine lt (r_send (at_all c) (ch_eq (off6_eq c 14)) (land_ag (at_all c) (off6_eq c 14))) ?_
  refine lf (r_sent credit_o) ?_
  refine lf (r_recv credit_o) ?_
  refine lt (r_sent credit_o) ?_
  exact s_ret (h _)

end Cert.RingProof
-- ==== Proof.RingMem.lean ====
/-
# The ring all-reduce: the memory a core starts and ends with
-/
module

public import proofs.«01_k».proof.Proof.RingState

@[expose] public section

set_option maxRecDepth 20000

noncomputable section

namespace Cert.RingProof

open Cert.RingIdeal Cert.RingIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : (ℓ : Loc nD τ sig) → Buf (Elt F) ℓ) (ρ : Dev nD → PrngReg)

/-! ## The landing slots cut out of their buffers -/

abbrev slotOff (s : Fin 2) : Fin 3 → ℕ := ![s.val, 0, 0]
theorem slot_inb (s : Fin 2) : ∀ a, slotOff s a + S1x128x1024.size a ≤ S2x128x1024.size a := by revert s; decide +kernel
abbrev slotR (s : Fin 2) : Rect S2x128x1024 := Rect.unit (s := S2x128x1024) (slotOff s) S1x128x1024.size (slot_inb s)

/-- A ring's landing buffer, whatever it holds. -/
def scr (d : Bool) (c : Dev nD) : sProp 𝕄 :=
  iprop(∃ f : Buf (Elt F) ((comM d).view.loc (c : Thread nD τ)), (comM d).view.loc (c : Thread nD τ) ↦[(comM d).view.set]{fullShare} f)

theorem slotR_disj : ∀ s t : Fin 2, s ≠ t → Disjoint (slotR s).set (slotR t).set := fun s t h => by
  refine Rect.unit_disjoint (0 : Fin 3) ?_
  show s.val + 1 ≤ t.val ∨ t.val + 1 ≤ s.val
  have : s.val ≠ t.val := fun e => h (Fin.ext e)
  omega

theorem slotR_cov : (Finset.univ : Finset (Fin 2)).biUnion (fun s => (slotR s).set) = Finset.univ := by
  refine Finset.eq_univ_of_forall fun i => Finset.mem_biUnion.mpr ⟨⟨(i (0 : Fin 3)).val, (i (0 : Fin 3)).isLt⟩, Finset.mem_univ _, ?_⟩
  rw [Rect.mem_set_unit]
  intro a
  match a with
  | ⟨0, _⟩ => exact ⟨le_rfl, Nat.lt_succ_self _⟩
  | ⟨1, h⟩ => exact ⟨Nat.zero_le _, lt_of_lt_of_eq (i ⟨1, h⟩).isLt (Nat.zero_add _).symm⟩
  | ⟨2, h⟩ => exact ⟨Nat.zero_le _, lt_of_lt_of_eq (i ⟨2, h⟩).isLt (Nat.zero_add _).symm⟩

/-- A slot as a chunk and as a slice of the buffer: the same elements. -/
theorem slot_slice (d : Bool) (c : Dev nD) (s : Fin 2) (X : Vec F S1x128x1024 .bf16) :
    (owns (c : Thread nD τ) ((comM d).slice (slotR s) (fun _ => rfl)) fullShare X : sProp 𝕄) ⊢ slot0 d c s := by
  have key (M : Memref sig .tc .vmem S1x128x1024 .bf16) (hq : S1x128x1024.Squeezes S128x1024) :
      (owns (c : Thread nD τ) M fullShare X : sProp 𝕄) ⊢ iprop(∃ v : Chunk F, owns (c : Thread nD τ) (M.squeeze S128x1024 hq) fullShare v) := by
    unfold owns
    iintro ⟨%f, -, H⟩
    iexists (M.squeeze S128x1024 hq).view.read (Elt F) f
    iexists f
    isplitr; · ipureintro; rfl
    have e : M.view.set = (M.squeeze S128x1024 hq).view.set := (View.set_reshape (v := M.view) (Shape.Squeezes.numel_eq hq)).symm
    ihave H := (Entails.of_eq (congrArg (fun S => (M.view.loc (c : Thread nD τ) ↦[S]{fullShare} f : sProp 𝕄)) e)) $$ H
    iexact H
  unfold slot0 ownsTc
  match d, s with
  | false, 0 => exact key ((comM false).slice (slotR 0) (fun _ => rfl)) squeezes_S1x128x1024_S128x1024
  | false, 1 => exact key ((comM false).slice (slotR 1) (fun _ => rfl)) squeezes_S1x128x1024_S128x1024
  | true, 0 => exact key ((comM true).slice (slotR 0) (fun _ => rfl)) squeezes_S1x128x1024_S128x1024
  | true, 1 => exact key ((comM true).slice (slotR 1) (fun _ => rfl)) squeezes_S1x128x1024_S128x1024

theorem slot_unslice (d : Bool) (c : Dev nD) (s : Fin 2) :
    (slot0 d c s : sProp 𝕄) ⊢ iprop(∃ X : Vec F S1x128x1024 .bf16, owns (c : Thread nD τ) ((comM d).slice (slotR s) (fun _ => rfl)) fullShare X) := by
  have key (M : Memref sig .tc .vmem S1x128x1024 .bf16) (hq : S1x128x1024.Squeezes S128x1024) :
      iprop(∃ v : Chunk F, owns (c : Thread nD τ) (M.squeeze S128x1024 hq) fullShare v)
        ⊢ (iprop(∃ X : Vec F S1x128x1024 .bf16, owns (c : Thread nD τ) M fullShare X) : sProp 𝕄) := by
    unfold owns
    iintro ⟨%v, %f, -, H⟩
    iexists M.view.read (Elt F) f
    iexists f
    isplitr; · ipureintro; rfl
    have e : (M.squeeze S128x1024 hq).view.set = M.view.set := View.set_reshape (v := M.view) (Shape.Squeezes.numel_eq hq)
    ihave H := (Entails.of_eq (congrArg (fun S => (M.view.loc (c : Thread nD τ) ↦[S]{fullShare} f : sProp 𝕄)) e)) $$ H
    iexact H
  unfold slot0 ownsTc
  match d, s with
  | false, 0 => exact key ((comM false).slice (slotR 0) (fun _ => rfl)) squeezes_S1x128x1024_S128x1024
  | false, 1 => exact key ((comM false).slice (slotR 1) (fun _ => rfl)) squeezes_S1x128x1024_S128x1024
  | true, 0 => exact key ((comM true).slice (slotR 0) (fun _ => rfl)) squeezes_S1x128x1024_S128x1024
  | true, 1 => exact key ((comM true).slice (slotR 1) (fun _ => rfl)) squeezes_S1x128x1024_S128x1024

/-- A landing buffer is its two slots, -/
theorem scr_split (d : Bool) (c : Dev nD) : (scr d c : sProp 𝕄) ⊢ iprop(slot0 d c 0 ∗ slot0 d c 1) := by
  unfold scr
  iintro ⟨%f, H⟩
  have h := pointsTo_rects (Ix := ℕ) (Name := ℕ) (U := UU) (Lvl := ℕ) (c : Thread nD τ) (comM d) fullShare slotR (fun _ _ => rfl) slotR_disj slotR_cov f
  ihave H := (Entails.of_eq h) $$ H
  have h2 (Φ : Fin 2 → sProp 𝕄) : bigSep Finset.univ Φ = iprop(Φ 0 ∗ Φ 1) := by
    rw [bigSep_univ_eq_bigSepL [(0 : Fin 2), 1] (by decide) (by decide), bigSepL_cons_cons, bigSepL_singleton]; rfl
  ihave H := (Entails.of_eq (h2 _)) $$ H
  icases H with ⟨H0, H1⟩
  ihave H0 := (slot_slice d c 0 _) $$ H0
  ihave H1 := (slot_slice d c 1 _) $$ H1
  isplitl [H0]; · iexact H0
  iexact H1

/-- Two slots' contents as the buffer's. -/
def both (X0 X1 : Vec F S1x128x1024 .bf16) : Vec F S2x128x1024 .bf16 := fun i =>
  (if (i (0 : Fin 3)).val = 0 then X0 else X1) fun a =>
    match a with
    | ⟨0, _⟩ => ⟨0, Nat.one_pos⟩
    | ⟨1, h⟩ => i ⟨1, h⟩
    | ⟨2, h⟩ => i ⟨2, h⟩

theorem one_idx (i : S1x128x1024.Idx) (j : S1x128x1024.Idx) (h1 : (j (1 : Fin 3)).val = (i (1 : Fin 3)).val) (h2 : (j (2 : Fin 3)).val = (i (2 : Fin 3)).val) : j = i := by
  funext a
  match a with
  | ⟨0, _⟩ =>
    have hi : (i (0 : Fin 3)).val < 1 := (i (0 : Fin 3)).isLt
    have hj : (j (0 : Fin 3)).val < 1 := (j (0 : Fin 3)).isLt
    exact Fin.ext (by show (j (0 : Fin 3)).val = (i (0 : Fin 3)).val; omega)
  | ⟨1, _⟩ => exact Fin.ext h1
  | ⟨2, _⟩ => exact Fin.ext h2

theorem both_zero (X0 X1 : Vec F S1x128x1024 .bf16) : (fun j => both X0 X1 ((slotR 0).emb j)) = X0 := by
  funext j
  have hj : (j (0 : Fin 3)).val < 1 := (j (0 : Fin 3)).isLt
  have e : ((slotR 0).emb j (0 : Fin 3)).val = 0 + 1 * (j (0 : Fin 3)).val := rfl
  unfold both
  rw [e, if_pos (by omega)]
  refine congrArg X0 (one_idx j _ ?_ ?_)
  · show 0 + 1 * (j (1 : Fin 3)).val = _; omega
  · show 0 + 1 * (j (2 : Fin 3)).val = _; omega

theorem both_one (X0 X1 : Vec F S1x128x1024 .bf16) : (fun j => both X0 X1 ((slotR 1).emb j)) = X1 := by
  funext j
  have hj : (j (0 : Fin 3)).val < 1 := (j (0 : Fin 3)).isLt
  have e : ((slotR 1).emb j (0 : Fin 3)).val = 1 + 1 * (j (0 : Fin 3)).val := rfl
  unfold both
  rw [e, if_neg (by omega)]
  refine congrArg X1 (one_idx j _ ?_ ?_)
  · show 0 + 1 * (j (1 : Fin 3)).val = _; omega
  · show 0 + 1 * (j (2 : Fin 3)).val = _; omega

/-- and its two slots are the buffer. -/
theorem scr_join (d : Bool) (c : Dev nD) : iprop(slot0 d c 0 ∗ slot0 d c 1) ⊢ (scr d c : sProp 𝕄) := by
  iintro ⟨H0, H1⟩
  ihave H0 := (slot_unslice d c 0) $$ H0
  ihave H1 := (slot_unslice d c 1) $$ H1
  icases H0 with ⟨%X0, H0⟩
  icases H1 with ⟨%X1, H1⟩
  have e (Φ : Fin 2 → sProp 𝕄) : iprop(Φ 0 ∗ Φ 1) = bigSep Finset.univ Φ := by
    rw [bigSep_univ_eq_bigSepL [(0 : Fin 2), 1] (by decide) (by decide), bigSepL_cons_cons, bigSepL_singleton]; rfl
  have h := owns_of_rects (Ix := ℕ) (Name := ℕ) (U := UU) (Lvl := ℕ) (c : Thread nD τ) (comM d) fullShare slotR (fun _ _ => rfl) slotR_disj slotR_cov
    (both X0 X1)
  rw [← e] at h
  rw [both_zero, both_one] at h
  ihave H := h $$ [H0 H1]
  · isplitl [H0]; · iexact H0
    iexact H1
  unfold owns scr
  icases H with ⟨%f, -, H⟩
  iexists f; iexact H

/-! ## The chunks cut out of the result -/

abbrev chT (t : Bool × Dev nD) : Rect S4096x1024 := chR t.1 t.2

theorem chT_disj : ∀ s t : Bool × Dev nD, s ≠ t → Disjoint (chT s).set (chT t).set := fun s t h => by
  refine Rect.unit_disjoint (0 : Fin 2) ?_
  obtain ⟨a, i⟩ := s
  obtain ⟨b, j⟩ := t
  show (if a then 2048 else 0) + 128 * i.val + 128 ≤ (if b then 2048 else 0) + 128 * j.val
    ∨ (if b then 2048 else 0) + 128 * j.val + 128 ≤ (if a then 2048 else 0) + 128 * i.val
  have hi : i.val < 16 := i.isLt
  have hj : j.val < 16 := j.isLt
  cases a <;> cases b <;> simp only [Bool.false_eq_true, if_false, if_true]
  · have : i.val ≠ j.val := fun e => h (by rw [Fin.ext e])
    omega
  · omega
  · omega
  · have : i.val ≠ j.val := fun e => h (by rw [Fin.ext e])
    omega

/-- The chunk a row of the result lies in. -/
def chOf (r : ℕ) : Bool × Dev nD := (decide (2048 ≤ r), ⟨r / 128 % 16, Nat.mod_lt _ (by decide)⟩)

theorem chOf_mem (x : S4096x1024.Idx) : x ∈ (chT (chOf (x (0 : Fin 2)).val)).set := by
  rw [Rect.mem_set_unit]
  intro a
  match a with
  | ⟨0, h⟩ =>
    have hx : (x (0 : Fin 2)).val < 4096 := (x (0 : Fin 2)).isLt
    show (if decide (2048 ≤ (x (0 : Fin 2)).val) then 2048 else 0) + 128 * ((x (0 : Fin 2)).val / 128 % 16) ≤ (x (0 : Fin 2)).val
      ∧ (x (0 : Fin 2)).val < (if decide (2048 ≤ (x (0 : Fin 2)).val) then 2048 else 0) + 128 * ((x (0 : Fin 2)).val / 128 % 16) + 128
    generalize (x (0 : Fin 2)).val = r at hx
    by_cases h2 : 2048 ≤ r
    · simp only [h2, decide_true, if_true]; omega
    · simp only [h2, decide_false, Bool.false_eq_true, if_false]; omega
  | ⟨1, h⟩ => exact ⟨Nat.zero_le _, lt_of_lt_of_eq (x ⟨1, h⟩).isLt (Nat.zero_add _).symm⟩

theorem chT_cov : (Finset.univ : Finset (Bool × Dev nD)).biUnion (fun t => (chT t).set) = Finset.univ :=
  Finset.eq_univ_of_forall fun x => Finset.mem_biUnion.mpr ⟨_, Finset.mem_univ _, chOf_mem x⟩

theorem chOf_emb (d : Bool) (j : Dev nD) (i : S128x1024.Idx) : chOf ((chR d j).emb i (0 : Fin 2)).val = (d, j) := by
  have hi : (i (0 : Fin 2)).val < 128 := (i (0 : Fin 2)).isLt
  have hj : j.val < 16 := j.isLt
  have e : ((chR d j).emb i (0 : Fin 2)).val = (if d then 2048 else 0) + 128 * j.val + 1 * (i (0 : Fin 2)).val := rfl
  rw [e]
  generalize (i (0 : Fin 2)).val = r at hi
  unfold chOf
  cases d
  · simp only [Bool.false_eq_true, if_false]
    rw [Prod.mk.injEq]
    exact ⟨decide_eq_false (by omega), Fin.ext (by show (0 + 128 * j.val + 1 * r) / 128 % 16 = j.val; omega)⟩
  · simp only [if_true]
    rw [Prod.mk.injEq]
    exact ⟨decide_eq_true (by omega), Fin.ext (by show (2048 + 128 * j.val + 1 * r) / 128 % 16 = j.val; omega)⟩

/-- The place of an element of the result in its chunk. -/
def inCh (x : S4096x1024.Idx) : S128x1024.Idx := fun a =>
  match a with
  | ⟨0, _⟩ => ⟨(x (0 : Fin 2)).val % 128, Nat.mod_lt _ (by decide)⟩
  | ⟨1, _⟩ => ⟨(x (1 : Fin 2)).val, (x (1 : Fin 2)).isLt⟩

theorem inCh_emb (d : Bool) (j : Dev nD) (i : S128x1024.Idx) : inCh ((chR d j).emb i) = i := by
  have hi : (i (0 : Fin 2)).val < 128 := (i (0 : Fin 2)).isLt
  funext a
  match a with
  | ⟨0, _⟩ =>
    apply Fin.ext
    show ((if d then 2048 else 0) + 128 * j.val + 1 * (i (0 : Fin 2)).val) % 128 = (i (0 : Fin 2)).val
    cases d
    · simp only [Bool.false_eq_true, if_false]; omega
    · simp only [if_true]; omega
  | ⟨1, _⟩ =>
    apply Fin.ext
    show 0 + 1 * (i (1 : Fin 2)).val = (i (1 : Fin 2)).val
    omega

/-- What the result holds at the end, on every device: each chunk's last partial sum. -/
def outF : (cc0_stg1_0 : Ref sig .tc).ty.Contents (Elt F) := fun x =>
  val m ρ (chOf (x (0 : Fin 2)).val).1 15 (prv (chOf (x (0 : Fin 2)).val).1 (chOf (x (0 : Fin 2)).val).2) (inCh x)

theorem outF_emb (d : Bool) (j : Dev nD) (i : S128x1024.Idx) : outF m ρ ((chR d j).emb i) = val m ρ d 15 (prv d j) i := by
  unfold outF
  rw [chOf_emb, inCh_emb]

theorem val_last (d : Bool) (c : Dev nD) : ∀ n, val m ρ d (15 + n) c = val m ρ d 15 (back d c n)
  | 0 => by rw [back_zero]
  | n + 1 => by
    rw [show 15 + (n + 1) = 15 + n + 1 by omega, val_gather m ρ d c (15 + n) (by omega), val_last d (prv d c) n, back_prv]

theorem cont_last (d : Bool) (c : Dev nD) (i : ℕ) (hi : i < 16) : cont m ρ d c 30 i = val m ρ d 15 (prv d (back d c i)) := by
  unfold cont
  by_cases h : 16 + i ≤ 30
  · rw [if_pos h, show 16 + i = 15 + (i + 1) by omega, val_last]; exact congrArg _ (back_back d c i 1).symm
  · have : i = 15 := by omega
    subst this
    rw [if_neg h, if_pos (by omega), show prv d (back d c 15) = c by rw [show prv d (back d c 15) = back d c (0 + 16) from back_back d c 15 1, back_add16, back_zero]]

theorem bool_sep (Φ : Bool → sProp 𝕄) : bigSep Finset.univ Φ = iprop(Φ false ∗ Φ true) := by
  rw [bigSep_univ_eq_bigSepL [false, true] (by decide) (by decide), bigSepL_cons_cons, bigSepL_singleton]; rfl

/-- All chunks of the result, by the place behind `c`. -/
theorem chunks_eq (c : Dev nD) (X : (cc0_stg1_0 : Ref sig .tc).ty.Contents (Elt F)) :
    (bigSep Finset.univ fun t : Bool × Dev nD => (owns (c : Thread nD τ) (oM.slice (chT t) (fun _ => rfl)) fullShare (fun x => X ((chT t).emb x)) : sProp 𝕄))
      = iprop((bigSep Finset.univ fun i : Fin 16 => ownsTc c (chM false (back false c i.val)) fullShare (fun x => X ((chR false (back false c i.val)).emb x)))
        ∗ (bigSep Finset.univ fun i : Fin 16 => ownsTc c (chM true (back true c i.val)) fullShare (fun x => X ((chR true (back true c i.val)).emb x)))) := by
  refine (BI.bigSep_univ_prod _).trans ((bool_sep _).trans ?_)
  refine congrArg₂ (fun a b : sProp 𝕄 => iprop(a ∗ b)) ?_ ?_
  · exact BI.bigSep_univ_equiv (backE false c) _
  · exact BI.bigSep_univ_equiv (backE true c) _

/-- The result cut into the chunks of both rings, at any contents, -/
theorem out_split (c : Dev nD) (X : (cc0_stg1_0 : Ref sig .tc).ty.Contents (Elt F)) :
    (owns (c : Thread nD τ) oM fullShare X : sProp 𝕄)
      ⊢ iprop((bigSep Finset.univ fun i : Fin 16 => ownsTc c (chM false (back false c i.val)) fullShare (fun x => X ((chR false (back false c i.val)).emb x)))
        ∗ (bigSep Finset.univ fun i : Fin 16 => ownsTc c (chM true (back true c i.val)) fullShare (fun x => X ((chR true (back true c i.val)).emb x)))) :=
  BI.Entails.trans (owns_rects (c : Thread nD τ) oM fullShare chT (fun _ _ => rfl) chT_disj chT_cov X) (Entails.of_eq (chunks_eq c X))

/-- and put together again. -/
theorem out_join (c : Dev nD) (X : (cc0_stg1_0 : Ref sig .tc).ty.Contents (Elt F)) :
    iprop((bigSep Finset.univ fun i : Fin 16 => ownsTc c (chM false (back false c i.val)) fullShare (fun x => X ((chR false (back false c i.val)).emb x)))
        ∗ (bigSep Finset.univ fun i : Fin 16 => ownsTc c (chM true (back true c i.val)) fullShare (fun x => X ((chR true (back true c i.val)).emb x))))
      ⊢ (owns (c : Thread nD τ) oM fullShare X : sProp 𝕄) :=
  BI.Entails.trans (Entails.of_eq (chunks_eq c X).symm) (owns_of_rects (c : Thread nD τ) oM fullShare chT (fun _ _ => rfl) chT_disj chT_cov X)

theorem own_zero : own 0 = Finset.univ := by ext i; rw [mem_own]; simp only [Finset.mem_univ, iff_true]; omega
theorem own_last : own 30 = Finset.univ := by ext i; rw [mem_own]; have := i.isLt; simp only [Finset.mem_univ, iff_true]; omega

theorem held_zero (d : Bool) (c : Dev nD) : (held m ρ d c 0 : sProp 𝕄)
    = iprop((bigSep Finset.univ fun i : Fin 16 => ownsTc c (chM d (back d c i.val)) fullShare (fun x => out0 m ρ c ((chR d (back d c i.val)).emb x))) ∗ emp ∗ emp) := by
  unfold held kept
  rw [own_zero, if_neg (by omega), if_neg (by omega)]
  have e : ∀ i : Fin 16, piece m ρ d c 0 i.val
      = ownsTc c (chM d (back d c i.val)) fullShare (fun x => out0 m ρ c ((chR d (back d c i.val)).emb x)) := fun i => by
    unfold piece cont
    by_cases h : i.val = 0
    · rw [h, if_neg (by omega), if_pos le_rfl]; rfl
    · rw [if_neg (by omega), if_neg (by omega)]; rfl
  rw [bigSep_congr fun i _ => e i]

theorem held_last (d : Bool) (c : Dev nD) : (held m ρ d c 30 : sProp 𝕄)
    = iprop((bigSep Finset.univ fun i : Fin 16 => ownsTc c (chM d (back d c i.val)) fullShare (fun x => outF m ρ ((chR d (back d c i.val)).emb x)))
        ∗ slot0 d c 1 ∗ slot0 d c 0) := by
  unfold held kept
  rw [own_last, if_pos (by omega), if_pos (by omega)]
  have e : ∀ i : Fin 16, piece m ρ d c 30 i.val
      = ownsTc c (chM d (back d c i.val)) fullShare (fun x => outF m ρ ((chR d (back d c i.val)).emb x)) := fun i => by
    unfold piece
    rw [cont_last m ρ d c i.val i.isLt]
    refine congrArg _ (funext fun x => ?_)
    rw [outF_emb]
  rw [bigSep_congr fun i _ => e i]

/-- The result after the first store is what both rings hold at the start, -/
theorem held_start (c : Dev nD) : (owns (c : Thread nD τ) oM fullShare (out0 m ρ c) : sProp 𝕄) ⊢ iprop(held m ρ false c 0 ∗ held m ρ true c 0) := by
  rw [held_zero, held_zero]
  iintro H
  ihave H := (out_split c (out0 m ρ c)) $$ H
  icases H with ⟨HA, HB⟩
  isplitl [HA]
  · isplitl [HA]; · iexact HA
    isplitr <;> iempintro
  · isplitl [HB]; · iexact HB
    isplitr <;> iempintro

/-- and what both hold at the end is the result and the two landing buffers. -/
theorem held_end (c : Dev nD) : iprop(held m ρ false c 30 ∗ held m ρ true c 30)
    ⊢ (iprop(owns (c : Thread nD τ) oM fullShare (outF m ρ) ∗ scr false c ∗ scr true c) : sProp 𝕄) := by
  rw [held_last, held_last]
  iintro ⟨⟨HA, HA1, HA0⟩, HB, HB1, HB0⟩
  isplitl [HA HB]
  · iapply (out_join c (outF m ρ))
    isplitl [HA]; · iexact HA
    iexact HB
  isplitl [HA0 HA1]
  · iapply (scr_join false c); isplitl [HA0]; · iexact HA0
    iexact HA1
  · iapply (scr_join true c); isplitl [HB0]; · iexact HB0
    iexact HB1

end Cert.RingProof
-- ==== Proof.RingStart.lean ====
/-
# The ring all-reduce: the barrier, the first store, and the end
-/
module

public import proofs.«01_k».proof.Proof.RingMem
public import proofs.«01_k».proof.Proof.RingSteps
public import proofs.«01_k».proof.Proof.RingDevs

@[expose] public section

set_option maxRecDepth 20000

noncomputable section

namespace Cert.RingProof

open Cert.RingIdeal Cert.RingIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : (ℓ : Loc nD τ sig) → Buf (Elt F) ℓ) (ρ : Dev nD → PrngReg)

/-! ## What a core starts from -/

/-- One ring's ghost state at the start: every step's tokens and credits, those of the two last waits, its counts of the
    first two landing areas, its places in its five cells, all opened, and in the other ring's credit cell too. -/
def ring0 (d : Bool) (c : Dev nD) : sProp 𝕄 :=
  iprop(((bigSep (Finset.Ico 0 30) fun k => sup d c k) ∗ fin2 d c ∗ readerAt ES (c, d, 0) 0 ∗ readerAt ES (c, d, 1) 0)
    ∗ (atPos ER (cell c (.send d 0)) 0 ∅ 0 ∗ atPos ER (cell c (.send d 1)) 0 ∅ 0
      ∗ atPos ER (cell c (.recv d 0)) 0 ∅ 0 ∗ atPos ER (cell c (.recv d 1)) 0 ∅ 0 ∗ atPos ER (cell c (.cred d)) 0 ∅ 0)
    ∗ (reached ER (cell c (.send d 0)) 0 ∗ reached ER (cell c (.send d 1)) 0
      ∗ reached ER (cell c (.recv d 0)) 0 ∗ reached ER (cell c (.recv d 1)) 0 ∗ reached ER (cell c (.cred (!d))) 0))

/-- A core's: both rings', its place in its barrier cell, the tokens of its two barrier signals and the credit of its
    barrier wait. -/
def lin (c : Dev nD) : sProp 𝕄 :=
  iprop(atPos ER (cell c .bar) 0 ∅ 0 ∗ dutyTok ER (cell (prv false c) .bar) 0 0 ∗ dutyTok ER (cell (prv true c) .bar) 0 1
    ∗ cred (tallyAt (cell c .bar) 0 2) ∗ ring0 false c ∗ ring0 true c)

/-- One ring after the landing areas of its first two steps are released: all but the result's chunks. -/
def pre0 (d : Bool) (c : Dev nD) : sProp 𝕄 :=
  iprop((bigSep (Finset.Ico 0 30) fun k => sup d c k) ∗ fin2 d c ∗ rel d c 2
    ∗ posS d c 0 ∗ posS d c 1 ∗ posR d c 0 ∗ posR d c 1 ∗ posC d c 0)

/-- The staged block and the result's buffer. -/
def stgs (c : Dev nD) : sProp 𝕄 :=
  iprop(owns (c : Thread nD τ) xM fullShare (xstg m ρ c) ∗ ∃ v : (cc0_stg1_0 : Ref sig .tc).ty.Contents (Elt F), owns (c : Thread nD τ) oM fullShare v)

/-- Before the barrier, -/
def S0 (c : Dev nD) : sProp 𝕄 :=
  iprop(facts m ρ ∗ lin c ∗ scr false c ∗ scr true c ∗ (∃ W : Waits sig ℕ, owes (c : Thread nD τ) (O₀ c) W) ∗ stgs m ρ c)
/-- and after it. -/
def S1 (c : Dev nD) : sProp 𝕄 :=
  iprop(env m ρ c ∗ pre0 false c ∗ pre0 true c ∗ Ow c 0 ∗ atPos ER (cell c .bar) 1 ∅ 0 ∗ stgs m ρ c)

/-- What the ring's steps leave alone. -/
def Fr (c : Dev nD) : sProp 𝕄 := iprop(atPos ER (cell c .bar) 1 ∅ 0 ∗ owns (c : Thread nD τ) xM fullShare (xstg m ρ c))

theorem slot_area (d : Bool) (c : Dev nD) (k : ℕ) (hk : k < 15) : (slot0 d c (par k) : sProp 𝕄) ⊢ area d c k := by
  unfold slot0 area; rw [landM_lt d c k hk]

/-- A core releases the landing areas of the first two steps of a ring. -/
theorem g_release (d : Bool) (c : Dev nD) : iprop(facts m ρ ∗ ring0 d c ∗ scr d c) ⊢ (|={Set.univ}=> pre0 d c : sProp 𝕄) := by
  unfold ring0
  iintro ⟨#Hf, ⟨⟨Hs, Hf2, Hr0, Hr1⟩, ⟨HS0, HS1, HR0, HR1, HC⟩, ⟨#Hp0, #Hp1, #Hq0, #Hq1, #HqC⟩⟩, Hscr⟩
  ihave Hscr := (scr_split d c) $$ Hscr
  icases Hscr with ⟨Ha0, Ha1⟩
  ihave Ha0 := (show (slot0 d c 0 : sProp 𝕄) ⊢ area d c 0 from slot_area d c 0 (by decide)) $$ Ha0
  ihave Ha1 := (show (slot0 d c 1 : sProp 𝕄) ⊢ area d c 1 from slot_area d c 1 (by decide)) $$ Ha1
  ihave H0 := (facts_slot m ρ c d 0 (by decide)) $$ Hf
  icases H0 with ⟨%ι0, #H0⟩
  ihave H1 := (facts_slot m ρ c d 1 (by decide)) $$ Hf
  icases H1 with ⟨%ι1, #H1⟩
  imod (slot_release ES (S := area (F := F) d c 0) (ι := ι0) (Set.mem_univ ι0) (area_excl d c 0) 0) $$ [Hr0 Ha0] with ⟨-, #Hl0⟩
  · isplitr; · iexact H0
    isplitl [Hr0]; · iexact Hr0
    iexact Ha0
  imod (slot_release ES (S := area (F := F) d c 1) (ι := ι1) (Set.mem_univ ι1) (area_excl d c 1) 0) $$ [Hr1 Ha1] with ⟨-, #Hl1⟩
  · isplitr; · iexact H1
    isplitl [Hr1]; · iexact Hr1
    iexact Ha1
  imodintro
  unfold pre0
  isplitl [Hs]; · iexact Hs
  isplitl [Hf2]; · iexact Hf2
  isplitr
  · iapply (rel_succ d c 1)
    isplitr
    · iapply (rel_succ d c 0)
      isplitr
      · iapply (rel_none d c); iexact HqC
      isplitr; · iexact Hl0
      iexact Hq0
    isplitr; · iexact Hl1
    iexact Hq1
  isplitl [HS0]
  · unfold posS; isplitl [HS0]; · iexact HS0
    iexact Hp0
  isplitl [HS1]
  · unfold posS; isplitl [HS1]; · iexact HS1
    iexact Hp1
  isplitl [HR0]
  · unfold posR; isplitl [HR0]; · iexact HR0
    iexact Hq0
  isplitl [HR1]
  · unfold posR; isplitl [HR1]; · iexact HR1
    iexact Hq1
  unfold posC
  iexists (∅ : Finset ℕ)
  isplitr
  · ipureintro; exact ⟨Finset.empty_subset _, Nat.zero_le _⟩
  isplitl [HC]; · iexact HC
  rw [bigSep_empty]; iempintro

theorem pre0_rel (d : Bool) (c : Dev nD) : (pre0 d c : sProp 𝕄) ⊢ iprop(rel d c 2 ∗ pre0 d c) := by
  unfold pre0
  iintro ⟨Hs, Hf, #Hr, Hk⟩
  isplitr; · iexact Hr
  isplitl [Hs]; · iexact Hs
  isplitl [Hf]; · iexact Hf
  isplitr; · iexact Hr
  iexact Hk

theorem bar_duty (e : Dev nD) (i : ℕ) (hi : i < 2) : i ∈ (ringRd m ρ).duties (cell e .bar) 0 := by
  rw [duties_cell]; rw [dK_bar]
  have : i = 0 ∨ i = 1 := by omega
  rcases this with rfl | rfl <;> decide

theorem bar_pay0 (c : Dev nD) : (rel false c 2 : sProp 𝕄) ⊢ (ringRd m ρ).payload (cell (prv false c) .bar) 0 0 := by
  refine Entails.of_eq ?_
  rw [payload_cell]; unfold payloadK; simp only [if_true]; rw [nxt_prv]
theorem bar_pay1 (c : Dev nD) : (rel true c 2 : sProp 𝕄) ⊢ (ringRd m ρ).payload (cell (prv true c) .bar) 0 1 := by
  refine Entails.of_eq ?_
  rw [payload_cell]; unfold payloadK; simp only [Nat.one_ne_zero, if_false]; rw [nxt_prv]

theorem bar_rest (c : Dev nD) :
    bigSep ((ringRd m ρ).duties (cell c .bar) 0 \ ∅) (fun i => (ringRd m ρ).payload (cell c .bar) 0 i)
      ⊢ (iprop(rel false (nxt false c) 2 ∗ rel true (nxt true c) 2) : sProp 𝕄) := by
  refine Entails.of_eq ?_
  rw [Finset.sdiff_empty, duties_cell, dK_bar, bigSep_put (by decide), bigSep_singleton, payload_cell, payload_cell]
  unfold payloadK; simp only [if_true, Nat.one_ne_zero, if_false]

/-- The barrier: a signal to either neighbour with this core's first landing areas, and the wait for both neighbours'. -/
theorem r_barrier (c : Dev nD) {n1 n2 : Dev nD} (hn1 : n1 = prv false c) (hn2 : n2 = prv true c)
    {sm : Sem sig} (hsm : sm = barS) {i1 i2 i3 : ℤ} (hi1 : i1 = ((1 : ℕ) : ℤ)) (hi2 : i2 = ((1 : ℕ) : ℤ)) (hi3 : i3 = ((2 : ℕ) : ℤ))
    {α : Type} {Q : α → sProp 𝕄} {K : PUnit → Prog (TpuEff nD τ sig (Elt F) Λ₀ .tc) α} (h : S1 m ρ c ⊢ WP c (K ⟨⟩) Q) :
    S0 m ρ c ⊢ WP c (.op (.semSignal ((n1, .tc) : Thread nD τ) sm i1) fun _ => .op (.semSignal ((n2, .tc) : Thread nD τ) sm i2) fun _ => .op (.semWait sm i3) K) Q := by
  subst hn1 hn2 hsm hi1 hi2 hi3
  unfold S0 lin
  iintro ⟨#Hf, ⟨HB, Ht0, Ht1, Hc, HrF, HrT⟩, HsF, HsT, ⟨%W, HO⟩, Hst⟩
  imod (g_release m ρ false c) $$ [HrF HsF] with HF
  · isplitr; · iexact Hf
    isplitl [HrF]; · iexact HrF
    iexact HsF
  imod (g_release m ρ true c) $$ [HrT HsT] with HT
  · isplitr; · iexact Hf
    isplitl [HrT]; · iexact HrT
    iexact HsT
  ihave HF := (pre0_rel false c) $$ HF
  icases HF with ⟨#HlF, HF⟩
  ihave HT := (pre0_rel true c) $$ HT
  icases HT with ⟨#HlT, HT⟩
  ihave H0 := (facts_cell m ρ (prv false c) .bar) $$ Hf
  icases H0 with ⟨%κ0, #H0⟩
  ihave H1 := (facts_cell m ρ (prv true c) .bar) $$ Hf
  icases H1 with ⟨%κ1, #H1⟩
  ihave H2 := (facts_cell m ρ c .bar) $$ Hf
  icases H2 with ⟨%κ2, #H2⟩
  ihave #Hq0 := (facts_bar m ρ (prv false c)) $$ Hf
  ihave #Hq1 := (facts_bar m ρ (prv true c)) $$ Hf
  iapply (Rounds.wp_signal Variants.none ER (ringRd m ρ) (c : Thread nD τ) none (dst := (prv false c : Thread nD τ)) (sem := barS) (κ := κ0)
      (r := 0) (d := 0) (k' := 1) (bar_duty m ρ (prv false c) 0 (by decide)) (amount_cell m ρ (prv false c) .bar 0 0) 0 (O₀ := O₀ c) (O₁ c) rfl) $$ [HO Ht0]
  · isplitr; · iexact H0
    isplitl [HO]; · iexact HO
    isplitl [Ht0]; · iexact Ht0
    isplitr
    · iapply (bar_pay0 m ρ c); iexact HlF
    iexact Hq0
  iintro HO
  iapply (Rounds.wp_signal Variants.none ER (ringRd m ρ) (c : Thread nD τ) none (dst := (prv true c : Thread nD τ)) (sem := barS) (κ := κ1)
      (r := 0) (d := 1) (k' := 1) (bar_duty m ρ (prv true c) 1 (by decide)) (amount_cell m ρ (prv true c) .bar 0 1) 0 (O₀ := O₁ c) (due c 0) rfl) $$ [HO Ht1]
  · isplitr; · iexact H1
    isplitl [HO]; · iexact HO
    isplitl [Ht1]; · iexact Ht1
    isplitr
    · iapply (bar_pay1 m ρ c); iexact HlT
    iexact Hq1
  iintro HO
  iapply (Rounds.wp_wait_rest_token Variants.none ER (ringRd m ρ) (c : Thread nD τ) none (κ := κ2)
      (wpE_semWait_eq Variants.none (c : Thread nD τ) none Set.univ) (Set.mem_univ _) 0 (O := due c 0) (W := W) (R := 0) (m := 0) (T := ∅)
      (by
        refine Eq.trans ?_ (expect_cell m ρ c .bar 0).symm
        rw [dK_bar]; rfl)) $$ [Hc HO HB]
  · isplitr; · iexact H2
    isplitl [Hc]; · iexact Hc
    isplitl [HO]; · iexact HO
    isplitr
    · iapply (mayWait_cell c .bar 0 0 (by decide) fun i hi => by
        show 1 < _
        split <;> omega)
      iapply (facts_lev m ρ); iexact Hf
    iexact HB
  iintro ⟨HO, HB, -, Hpay⟩
  ihave Hp := (bar_rest m ρ c) $$ Hpay
  icases Hp with ⟨HlF', HlT'⟩
  iapply h
  unfold S1 env Ow
  isplitl [HlF' HlT']
  · isplitr; · iexact Hf
    isplitl [HlF']; · iexact HlF'
    iexact HlT'
  isplitl [HF]; · iexact HF
  isplitl [HT]; · iexact HT
  isplitl [HO]; · iexists _; iexact HO
  isplitl [HB]; · iexact HB
  iexact Hst

theorem part_1 (c : Dev nD) (h0 : (xM : Memref sig .tc .vmem S4096x1024 .bf16).IsWhole) (h1 : (oM : Memref sig .tc .vmem S4096x1024 .bf16).IsWhole) (h2 : (comM false).IsWhole) (h3 : (comM true).IsWhole) {Q : _ → sProp 𝕄} (h : ∀ v2 v13 v24, S1 m ρ c ⊢ Q ⟨c, v2, v13, v24⟩) :
    S0 m ρ c ⊢ WP c (k0_part1 xM h0 oM h1 (comM false) h2 (comM true) h3 cc0_scratch2 cc0_scratch3 cc0_scratch4 cc0_scratch5 cc0_scratch6 cc0_scratch7) Q := by
  rw [k0_part1_eq_skeleton]; unfold k0_part1_skel
  simp only [Prog.lift, Prog.bind_op, Prog.bind_ret, Prog.pure_eq_ret, semSignalWord, semWaitWord]
  rw [WP, wp_deviceId]
  refine r_barrier m ρ c (dev1_eq c) (dev2_eq c) rfl rfl rfl rfl ?_
  exact s_ret (h _ _ _)

theorem whole_zero : (![0, 0] : Fin 2 → Nat) = fun _ => 0 := funext fun a => by fin_cases a <;> rfl

/-- The block loaded, and stored into the result. -/
theorem part_2 (c : Dev nD) (h0 : (xM : Memref sig .tc .vmem S4096x1024 .bf16).IsWhole) (h1 : (oM : Memref sig .tc .vmem S4096x1024 .bf16).IsWhole) (h2 : (comM false).IsWhole) (h3 : (comM true).IsWhole) (v2 : BitVec 32) {Q : _ → sProp 𝕄} (h : ∀ r, iprop(St m ρ c (.p0 0) (.p0 0) 0 ∗ Fr m ρ c) ⊢ Q r) :
    S1 m ρ c ⊢ WP c (k0_part2 xM h0 oM h1 (comM false) h2 (comM true) h3 cc0_scratch2 cc0_scratch3 cc0_scratch4 cc0_scratch5 cc0_scratch6 cc0_scratch7 v2) Q := by
  rw [k0_part2_eq_skeleton]; unfold k0_part2_skel
  simp only [Prog.lift, Prog.bind_op, Prog.bind_ret, Prog.pure_eq_ret]
  unfold S1 stgs
  iintro ⟨He, HF, HT, HO, HB, Hx, ⟨%v, Ho⟩⟩
  unfold owns
  icases Hx with ⟨%fx, %hx, Hx⟩
  icases Ho with ⟨%fo, %ho, Ho⟩
  iapply (wp_load_rect Variants.none (c : Thread nD τ) none Set.univ (m := xM) (r := Rect.unit (s := S4096x1024) ![0, 0] S4096x1024.size inb_S4096x1024_S4096x1024_0_0) (f := fx) (S := xM.view.set) (View.set_slice_subset _ _)) $$ [Hx]
  · iexact Hx
  iintro Hx
  iapply (wp_load_rect Variants.none (c : Thread nD τ) none Set.univ (m := oM) (r := Rect.unit (s := S4096x1024) ![0, 0] S4096x1024.size inb_S4096x1024_S4096x1024_0_0) (f := fo) (S := oM.view.set) (View.set_slice_subset _ _)) $$ [Ho]
  · iexact Ho
  iintro Ho
  iapply (wp_store Variants.none (c : Thread nD τ) none Set.univ (m := oM) (r := Rect.unit (s := S4096x1024) ![0, 0] S4096x1024.size inb_S4096x1024_S4096x1024_0_0) (f := fo) (S := oM.view.set) (View.set_slice_subset _ _)) $$ [Ho]
  · iexact Ho
  iintro Ho
  rw [show (xM.access (Rect.unit (s := S4096x1024) ![0, 0] S4096x1024.size inb_S4096x1024_S4096x1024_0_0)).read (Elt F) fx = xstg m ρ c from
    (Memref.readAt_unit_zero (Elt F) cc0_stg0_0 whole_zero _ fx).trans hx]
  rw [show (oM.access (Rect.unit (s := S4096x1024) ![0, 0] S4096x1024.size inb_S4096x1024_S4096x1024_0_0)).write (Elt F) fo (k0_pay1 (xstg m ρ c)) Finset.univ = out0 m ρ c from
    Memref.write_access_unit_zero_univ (Elt F) cc0_stg1_0 whole_zero _ fo _]
  have ho2 : (oM.view.loc (c : Thread nD τ) ↦[oM.view.set]{fullShare} out0 m ρ c) ⊢ (owns (c : Thread nD τ) oM fullShare (out0 m ρ c) : sProp 𝕄) := owns_intro (c : Thread nD τ) oM fullShare (out0 m ρ c)
  ihave Ho := ho2 $$ Ho
  ihave Ho := (held_start m ρ c) $$ Ho
  icases Ho with ⟨HhF, HhT⟩
  iapply (s_ret (h _))
  unfold St Fr pre0
  icases HF with ⟨HF1, HF2, HF3, HF4, HF5, HF6, HF7, HF8⟩
  icases HT with ⟨HT1, HT2, HT3, HT4, HT5, HT6, HT7, HT8⟩
  simp only [P]
  isplitl [He HO HhF HhT HF1 HF2 HF3 HF4 HF5 HF6 HF7 HF8 HT1 HT2 HT3 HT4 HT5 HT6 HT7 HT8]
  · isplitl [He]; · iexact He
    isplitl [HhF HF1 HF2 HF3 HF4 HF5 HF6 HF7 HF8]
    · isplitl [HF1]; · iexact HF1
      isplitl [HF2]; · iexact HF2
      isplitl [HF3]; · iexact HF3
      isplitl [HF4]; · iexact HF4
      isplitl [HF5]; · iexact HF5
      isplitl [HF6]; · iexact HF6
      isplitl [HF7]; · iexact HF7
      isplitl [HF8]; · iexact HF8
      iexact HhF
    isplitl [HhT HT1 HT2 HT3 HT4 HT5 HT6 HT7 HT8]
    · isplitl [HT1]; · iexact HT1
      isplitl [HT2]; · iexact HT2
      isplitl [HT3]; · iexact HT3
      isplitl [HT4]; · iexact HT4
      isplitl [HT5]; · iexact HT5
      isplitl [HT6]; · iexact HT6
      isplitl [HT7]; · iexact HT7
      isplitl [HT8]; · iexact HT8
      iexact HhT
    iexact HO
  · isplitl [HB]; · iexact HB
    unfold owns
    iexists fx
    isplitr; · ipureintro; exact hx
    iexact Hx

/-! ## The end -/

theorem close_cell (c : Dev nD) (k : CK) (R : ℕ) (hR : (match k with | .send _ _ => 15 | .recv _ _ => 15 | _ => 1) ≤ R) :
    iprop(facts m ρ ∗ atPos ER (cell c k) R ∅ 0) ⊢ (|={Set.univ}=> semVal (cell c k) 0 : sProp 𝕄) := by
  iintro ⟨Hf, Hp⟩
  ihave H := (facts_cell m ρ c k) $$ Hf
  icases H with ⟨%κ, H⟩
  iapply (Rounds.cell_close ER (ringRd m ρ) (Set.mem_univ κ) (fun h => h) (R := R) (duties_done m ρ c k R hR))
  isplitl [H]; · iexact H
  iexact Hp

/-- A core's eleven semaphores at zero. -/
def zeros (c : Dev nD) : sProp 𝕄 := bigSep Finset.univ fun i : Fin 11 => semVal (cell c (ckE i)) 0

/-- What a core ends with: its result, its input as staged, its landing buffers, its semaphores at zero, nothing owed. -/
def SE (c : Dev nD) : sProp 𝕄 :=
  iprop(owns (c : Thread nD τ) xM fullShare (xstg m ρ c) ∗ owns (c : Thread nD τ) oM fullShare (outF m ρ)
    ∗ scr false c ∗ scr true c ∗ zeros c ∗ ∃ W : Waits sig ℕ, owes (c : Thread nD τ) 0 W)

theorem cells_list (Φ : Fin 11 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10) := by
  rw [bigSep_univ_eq_bigSepL [(0 : Fin 11), 1, 2, 3, 4, 5, 6, 7, 8, 9, 10] (by decide) (by decide)]
  simp only [bigSepL_cons_cons, bigSepL_singleton]
  rfl

theorem ring_close (d : Bool) (c : Dev nD) : iprop(facts m ρ ∗ P m ρ d c .p6)
    ⊢ (|={Set.univ}=> (semVal (cell c (.send d 0)) 0 ∗ semVal (cell c (.send d 1)) 0 ∗ semVal (cell c (.recv d 0)) 0 ∗ semVal (cell c (.recv d 1)) 0
      ∗ semVal (cell c (.cred d)) 0 ∗ held m ρ d c 30) : sProp 𝕄) := by
  simp only [P]
  unfold posS posR
  iintro ⟨#Hf, ⟨HS0, -⟩, ⟨HS1, -⟩, ⟨HR0, -⟩, ⟨HR1, -⟩, HC, HM⟩
  imod (close_cell m ρ c (.send d 0) 15 le_rfl) $$ [HS0] with HS0
  · isplitr; · iexact Hf
    iexact HS0
  imod (close_cell m ρ c (.send d 1) 15 le_rfl) $$ [HS1] with HS1
  · isplitr; · iexact Hf
    iexact HS1
  imod (close_cell m ρ c (.recv d 0) 15 le_rfl) $$ [HR0] with HR0
  · isplitr; · iexact Hf
    iexact HR0
  imod (close_cell m ρ c (.recv d 1) 15 le_rfl) $$ [HR1] with HR1
  · isplitr; · iexact Hf
    iexact HR1
  imod (close_cell m ρ c (.cred d) 1 le_rfl) $$ [HC] with HC
  · isplitr; · iexact Hf
    iexact HC
  imodintro
  isplitl [HS0]; · iexact HS0
  isplitl [HS1]; · iexact HS1
  isplitl [HR0]; · iexact HR0
  isplitl [HR1]; · iexact HR1
  isplitl [HC]; · iexact HC
  iexact HM

/-- After the last waits the cells close and the memory is whole again. -/
theorem s_close (c : Dev nD) : iprop(St m ρ c .p6 .p6 120 ∗ Fr m ρ c) ⊢ (|={Set.univ}=> SE m ρ c : sProp 𝕄) := by
  unfold St Fr Ow
  iintro ⟨⟨He, HF, HT, ⟨%W, HO⟩⟩, HB, Hx⟩
  ihave #Hf := (env_facts m ρ c) $$ He
  imod (ring_close m ρ false c) $$ [HF] with ⟨HF1, HF2, HF3, HF4, HF5, HF⟩
  · isplitr; · iexact Hf
    iexact HF
  imod (ring_close m ρ true c) $$ [HT] with ⟨HT1, HT2, HT3, HT4, HT5, HT⟩
  · isplitr; · iexact Hf
    iexact HT
  imod (close_cell m ρ c .bar 1 le_rfl) $$ [HB] with HB
  · isplitr; · iexact Hf
    iexact HB
  ihave HM := (held_end m ρ c) $$ [HF HT]
  · isplitl [HF]; · iexact HF
    iexact HT
  icases HM with ⟨Ho, HsF, HsT⟩
  imodintro
  unfold SE zeros
  rw [cells_list]
  isplitl [Hx]; · iexact Hx
  isplitl [Ho]; · iexact Ho
  isplitl [HsF]; · iexact HsF
  isplitl [HsT]; · iexact HsT
  isplitr [HO]
  · isplitl [HB]; · iexact HB
    isplitl [HF1]; · iexact HF1
    isplitl [HF2]; · iexact HF2
    isplitl [HF3]; · iexact HF3
    isplitl [HF4]; · iexact HF4
    isplitl [HT1]; · iexact HT1
    isplitl [HT2]; · iexact HT2
    isplitl [HT3]; · iexact HT3
    isplitl [HT4]; · iexact HT4
    isplitl [HF5]; · iexact HF5
    iexact HT5
  · iexists W; rw [due_end]; iexact HO

/-- Steps that leave a resource alone. -/
theorem s_frame {c : Dev nD} {α : Type} {p : Prog (TpuEff nD τ sig (Elt F) Λ₀ .tc) α} {Q : α → sProp 𝕄} {G R : sProp 𝕄}
    (h : G ⊢ WP c p fun r => iprop(R -∗ Q r)) : iprop(G ∗ R) ⊢ WP c p Q := by
  iintro ⟨HG, HR⟩
  ihave H := h $$ HG
  iapply (wp_wand _ _ _) $$ H
  iintro %r H
  iapply H; iexact HR

theorem s_unframe {G R Q : sProp 𝕄} (h : iprop(G ∗ R) ⊢ Q) : G ⊢ iprop(R -∗ Q) := by
  iintro HG HR
  iapply h; isplitl [HG]; · iexact HG
  iexact HR

end Cert.RingProof
-- ==== Proof.RingChain.lean ====
/-
# The ring all-reduce: the whole body
-/
module

public import proofs.«01_k».proof.Proof.RingPartsA
public import proofs.«01_k».proof.Proof.RingPartsB
public import proofs.«01_k».proof.Proof.RingStart

@[expose] public section

set_option maxRecDepth 20000

noncomputable section

namespace Cert.RingProof

open Cert.RingIdeal Cert.RingIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : (ℓ : Loc nD τ sig) → Buf (Elt F) ℓ) (ρ : Dev nD → PrngReg)

variable (c : Dev nD) (h0 : (xM : Memref sig .tc .vmem S4096x1024 .bf16).IsWhole) (h1 : (oM : Memref sig .tc .vmem S4096x1024 .bf16).IsWhole) (h2 : (comM false).IsWhole) (h3 : (comM true).IsWhole)

/-! ## The first half and the second -/

theorem part_95 {Q : (Σ' (d0 : Dev nD) (v2 : BitVec 32) (v13 : BitVec 32) (v24 : BitVec 32) (v1803 : BitVec 32), BitVec 32) → sProp 𝕄}
    (h : ∀ v2 v13 v24 v1803 z, iprop(St m ρ c (.p4 15) (.p3 15) 62 ∗ Fr m ρ c) ⊢ Q ⟨c, v2, v13, v24, v1803, z⟩) :
    S0 m ρ c ⊢ WP c (k0_part95 xM h0 oM h1 (comM false) h2 (comM true) h3 cc0_scratch2 cc0_scratch3 cc0_scratch4 cc0_scratch5 cc0_scratch6 cc0_scratch7) Q := by
  rw [k0_part95_eq_skeleton]; unfold k0_part95_skel
  refine s_part (part_1 m ρ c h0 h1 h2 h3 fun v2 v13 v24 => ?_)
  refine s_part (part_2 m ρ c h0 h1 h2 h3 _ fun r => ?_)
  refine s_frame ?_
  refine s_part (part_3 fun r => ?_)
  refine s_part (part_4 fun r => ?_)
  refine s_part (part_5 fun r => ?_)
  refine s_part (part_6 fun r => ?_)
  refine s_part (part_7 fun r => ?_)
  refine s_part (part_8 fun r => ?_)
  refine s_part (part_9 fun r => ?_)
  refine s_part (part_10 fun r => ?_)
  refine s_part (part_11 fun r => ?_)
  refine s_part (part_12 fun r hv hw => ?_)
  refine s_part (part_13 hv hw fun r => ?_)
  refine s_part (part_14 fun r => ?_)
  refine s_part (part_15 fun r => ?_)
  refine s_part (part_16 fun r => ?_)
  refine s_part (part_17 fun r => ?_)
  refine s_part (part_18 fun r => ?_)
  refine s_part (part_19 fun r => ?_)
  refine s_part (part_20 fun r => ?_)
  refine s_part (part_21 fun r => ?_)
  refine s_part (part_22 fun r => ?_)
  refine s_part (part_23 fun r => ?_)
  refine s_part (part_24 fun r => ?_)
  refine s_part (part_25 fun r => ?_)
  refine s_part (part_26 fun r => ?_)
  refine s_part (part_27 fun r => ?_)
  refine s_part (part_28 fun r => ?_)
  refine s_part (part_29 fun r => ?_)
  refine s_part (part_30 fun r => ?_)
  refine s_part (part_31 fun r hv hw => ?_)
  refine s_part (part_32 hv hw fun r => ?_)
  refine s_part (part_33 fun r => ?_)
  refine s_part (part_34 fun r => ?_)
  refine s_part (part_35 fun r => ?_)
  refine s_part (part_36 fun r => ?_)
  refine s_part (part_37 fun r => ?_)
  refine s_part (part_38 fun r => ?_)
  refine s_part (part_39 fun r => ?_)
  refine s_part (part_40 fun r => ?_)
  refine s_part (part_41 fun r => ?_)
  refine s_part (part_42 fun r => ?_)
  refine s_part (part_43 fun r => ?_)
  refine s_part (part_44 fun r => ?_)
  refine s_part (part_45 fun r => ?_)
  refine s_part (part_46 fun r => ?_)
  refine s_part (part_47 fun r => ?_)
  refine s_part (part_48 fun r => ?_)
  refine s_part (part_49 fun r => ?_)
  refine s_part (part_50 fun r hv hw => ?_)
  refine s_part (part_51 hv hw fun r => ?_)
  refine s_part (part_52 fun r => ?_)
  refine s_part (part_53 fun r => ?_)
  refine s_part (part_54 fun r => ?_)
  refine s_part (part_55 fun r => ?_)
  refine s_part (part_56 fun r => ?_)
  refine s_part (part_57 fun r => ?_)
  refine s_part (part_58 fun r => ?_)
  refine s_part (part_59 fun r => ?_)
  refine s_part (part_60 fun r => ?_)
  exact s_ret (s_unframe (h _ _ _ _ _))

theorem part_96
    (v2 : BitVec 32) (v13 : BitVec 32) (v24 : BitVec 32) (v1803 : BitVec 32) (c0_i32_1586 : BitVec 32) {Q : PUnit → sProp 𝕄}
    (h : iprop(St m ρ c (.p0 30) (.p0 30) 120 ∗ Fr m ρ c) ⊢ Q ⟨⟩) :
    iprop(St m ρ c (.p4 15) (.p3 15) 62 ∗ Fr m ρ c) ⊢ WP c (k0_part96 xM h0 oM h1 (comM false) h2 (comM true) h3 cc0_scratch2 cc0_scratch3 cc0_scratch4 cc0_scratch5 cc0_scratch6 cc0_scratch7 c v2 v13 v24 v1803 c0_i32_1586) Q := by
  rw [k0_part96_eq_skeleton]; unfold k0_part96_skel
  refine s_frame ?_
  refine s_part (part_61 fun r => ?_)
  refine s_part (part_62 fun r => ?_)
  refine s_part (part_63 fun r => ?_)
  refine s_part (part_64 fun r => ?_)
  refine s_part (part_65 fun r => ?_)
  refine s_part (part_66 fun r => ?_)
  refine s_part (part_67 fun r => ?_)
  refine s_part (part_68 fun r => ?_)
  refine s_part (part_69 fun r => ?_)
  refine s_part (part_70 fun r => ?_)
  refine s_part (part_71 fun r => ?_)
  refine s_part (part_72 fun r => ?_)
  refine s_part (part_73 fun r => ?_)
  refine s_part (part_74 fun r => ?_)
  refine s_part (part_75 fun r => ?_)
  refine s_part (part_76 fun r => ?_)
  refine s_part (part_77 fun r => ?_)
  refine s_part (part_78 fun r => ?_)
  refine s_part (part_79 fun r => ?_)
  refine s_part (part_80 fun r => ?_)
  refine s_part (part_81 fun r => ?_)
  refine s_part (part_82 fun r => ?_)
  refine s_part (part_83 fun r => ?_)
  refine s_part (part_84 fun r => ?_)
  refine s_part (part_85 fun r => ?_)
  refine s_part (part_86 fun r => ?_)
  refine s_part (part_87 fun r => ?_)
  refine s_part (part_88 fun r => ?_)
  refine s_part (part_89 fun r => ?_)
  refine s_part (part_90 fun r => ?_)
  refine s_part (part_91 fun r => ?_)
  refine s_part (part_92 fun r => ?_)
  refine s_part (part_93 fun r => ?_)
  refine s_part (part_94 fun r => ?_)
  simp only [runs]
  refine lt (r_recv credit_o) ?_
  refine s_gather ?_
  refine lf (r_signal (at_all c)) ?_
  refine lt (r_signal (at_all c)) ?_
  exact s_ret (s_unframe h)

/-- The body, from a core's start to its end. -/
theorem sound_ring :
    S0 m ρ c ⊢ WP c (cc0_body xM h0 oM h1 (comM false) h2 (comM true) h3 cc0_scratch2 cc0_scratch3 cc0_scratch4 cc0_scratch5 cc0_scratch6 cc0_scratch7) fun _ => SE m ρ c := by
  rw [cc0_body_eq_skeleton]; unfold cc0_body_skel
  refine s_part (part_95 m ρ c h0 h1 h2 h3 fun v2 v13 v24 v1803 z => ?_)
  refine s_part (part_96 m ρ c h0 h1 h2 h3 v2 v13 v24 v1803 z ?_)
  refine BI.Entails.trans ?_ (wp_fupd _ _ _ _ _)
  refine s_frame ?_
  refine lf r_last ?_
  refine lt r_last ?_
  exact s_ret (s_unframe (s_close m ρ c))

end Cert.RingProof
-- ==== Proof.RingLaunch.lean ====
/-
# The ring all-reduce: what the launch deals
-/
module

public import proofs.«01_k».proof.Proof.RingChain
public import Idealize.ShloMosaic.Lib.Pipeline.Launch
public import Idealize.ShloMosaic.Lib.Pipeline.Kit

@[expose] public section

set_option maxRecDepth 20000

noncomputable section

namespace Cert.RingProof

open Cert.RingIdeal Cert.RingIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : (ℓ : Loc nD τ sig) → Buf (Elt F) ℓ) (ρ : Dev nD → PrngReg)

open Idealize.ShloMosaic.Pipeline (Dat Cfg Window BodyObligation cellOf)
/-- Over the pairs of two sets is over the one and, for each, over the other. -/
theorem bigSep_pairs {I J : Type} [DecidableEq I] [DecidableEq J] (s : Finset I) (t : Finset J) (Φ : I × J → sProp 𝕄) :
    bigSep (s ×ˢ t) Φ = bigSep s fun i => bigSep t fun j => Φ (i, j) := by
  induction s using Finset.induction_on with
  | empty => rfl
  | insert i s hi ih =>
    have he : (insert i s) ×ˢ t = (t.map ⟨Prod.mk i, Prod.mk_right_injective i⟩) ∪ (s ×ˢ t) := by
      ext x
      simp only [Finset.mem_product, Finset.mem_insert, Finset.mem_union, Finset.mem_map, Function.Embedding.coeFn_mk]
      constructor
      · rintro ⟨rfl | h, h'⟩
        · exact Or.inl ⟨x.2, h', rfl⟩
        · exact Or.inr ⟨h, h'⟩
      · rintro (⟨j, hj, rfl⟩ | ⟨h, h'⟩)
        · exact ⟨Or.inl rfl, hj⟩
        · exact ⟨Or.inr h, h'⟩
    have hd : Disjoint (t.map ⟨Prod.mk i, Prod.mk_right_injective i⟩) (s ×ˢ t) := by
      refine Finset.disjoint_left.mpr fun x hx hy => hi ?_
      obtain ⟨j, -, rfl⟩ := Finset.mem_map.mp hx
      exact (Finset.mem_product.mp hy).1
    rw [he, BI.bigSep_union hd, ih, BI.bigSep_map, bigSep_put hi]
    rfl

/-! ## The pipeline's proof data -/

/-- A core's own semaphores: all its cells but the barrier. -/
abbrev osem : Fin 10 → SemLoc sig := fun i => csem (ckE i.succ)

/-- Before the one point: the launch's facts and tokens, the two landing buffers and the generator register; -/
def Φ₀ (c : Dev nD) : sProp 𝕄 := iprop((facts m ρ ∗ lin c) ∗ scr false c ∗ scr true c ∗ ∃ r, prngReg c r)
/-- after it: the landing buffers, every cell closed at zero and the register. -/
def Φ₁ (c : Dev nD) : sProp 𝕄 := iprop(scr false c ∗ scr true c ∗ zeros c ∗ ∃ r, prngReg c r)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xstg m ρ c
    | ⟨1, _⟩ => outF m ρ
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem fetch_x : (cfg0.win (0 : Fin 2)).fetch t0_0 = true := rfl

def bodyPre (c : Dev nD) : sProp 𝕄 :=
  iprop(Φ₀ m ρ c ∗ (dats m ρ 0 c).owesAt 0 t0_0.castSucc
    ∗ (∃ d, owns (c : Thread nD τ) xM fullShare ((dats m ρ 0 c).before (0 : Fin 2) t0_0 d))
    ∗ (∃ d, owns (c : Thread nD τ) oM fullShare ((dats m ρ 0 c).before (1 : Fin 2) t0_0 d)))

def bodyPost (c : Dev nD) : sProp 𝕄 :=
  iprop(Φ₁ c ∗ (dats m ρ 0 c).owesAt 0 t0_0.succ ∗ owns (c : Thread nD τ) xM fullShare (xstg m ρ c) ∗ owns (c : Thread nD τ) oM fullShare (outF m ρ))

theorem pre_S0 (c : Dev nD) : bodyPre m ρ c ⊢ (iprop(S0 m ρ c ∗ ∃ r, prngReg c r) : sProp 𝕄) := by
  unfold bodyPre Φ₀ S0 stgs
  iintro ⟨⟨⟨Hf, Hl⟩, Hs0, Hs1, Hp⟩, Ho, ⟨%dx, Hx⟩, ⟨%dy, Hy⟩⟩
  unfold Dat.owesAt Pipeline.owesWithin
  icases Ho with ⟨%W, %hW, HO⟩
  rw [show (dats m ρ 0 c).owed t0_0.castSucc = O₀ c from rfl]
  rw [show (dats m ρ 0 c).before (0 : Fin 2) t0_0 dx = xstg m ρ c by unfold Dat.before; rw [if_pos fetch_x]; rfl]
  isplitr [Hp]
  swap; · iexact Hp
  isplitl [Hf]; · iexact Hf
  isplitl [Hl]; · iexact Hl
  isplitl [Hs0]; · iexact Hs0
  isplitl [Hs1]; · iexact Hs1
  isplitl [HO]; · iexists W; iexact HO
  isplitl [Hx]; · iexact Hx
  iexists _; iexact Hy

theorem SE_post (c : Dev nD) : SE m ρ c ⊢ (iprop((∃ r, prngReg c r) -∗ bodyPost m ρ c) : sProp 𝕄) := by
  unfold bodyPost Φ₁ SE
  iintro ⟨Hx, Ho, Hs0, Hs1, Hz, ⟨%W, HO⟩⟩ Hp
  unfold Dat.owesAt Pipeline.owesWithin
  rw [show (dats m ρ 0 c).owed t0_0.succ = 0 from rfl]
  isplitl [Hs0 Hs1 Hz Hp]
  · isplitl [Hs0]; · iexact Hs0
    isplitl [Hs1]; · iexact Hs1
    isplitl [Hz]; · iexact Hz
    iexact Hp
  isplitl [HO]
  · iexists W
    isplitr; · ipureintro; exact fun _ _ => Or.inl trivial
    iexact HO
  isplitl [Hx]; · iexact Hx
  iexact Ho

theorem wp_after {α : Type} {c : Dev nD} {p : Prog (TpuEff nD τ sig (Elt F) Λ₀ .tc) α} {Q Q' : α → sProp 𝕄} {P : sProp 𝕄}
    (h : P ⊢ WP c p Q) (hQ : ∀ a, Q a ⊢ Q' a) : P ⊢ WP c p Q' := BI.Entails.trans h (wp_mono _ _ _ hQ)

theorem of_same {P Q R : sProp 𝕄} (h : P ⊢ Q) (e : Q = R) : P ⊢ R := e ▸ h

/-- The body's obligation to the pipeline. -/
theorem body_obligation (c : Dev nD) : BodyObligation (dats (F := F) m ρ 0 c) (defs₀ (F := F)) Variants.none 0 Set.univ := fun t => by
  have e0 : stage0_0 0 = xM := rfl
  have e1 : stage0_1 0 = oM := rfl
  have e2 : (defs₀ (F := F)) Proc.tc (0 : Fin 1) (t0_0, cfg0.slots t0_0)
      = cc0_body xM (Memref.isWhole_whole _) oM (Memref.isWhole_whole _) (comM false) (Memref.isWhole_whole _) (comM true)
        (Memref.isWhole_whole _) cc0_scratch2 cc0_scratch3 cc0_scratch4 cc0_scratch5 cc0_scratch6 cc0_scratch7 := rfl
  have e3 : (dats m ρ 0 c).Φ t0_0.castSucc = Φ₀ m ρ c := rfl
  have e4 : (dats m ρ 0 c).Φ t0_0.succ = Φ₁ c := rfl
  have e7 : (dats m ρ 0 c).after (0 : Fin 2) t0_0 = xstg m ρ c := rfl
  have e8 : (dats m ρ 0 c).after (1 : Fin 2) t0_0 = outF m ρ := rfl
  rw [show t = t0_0 from fin_N0 t]
  rw [show ∀ Φ : Fin cfg0.W → sProp 𝕄, bigSep Finset.univ Φ = iprop(Φ (0 : Fin 2) ∗ Φ (1 : Fin 2)) from fun Φ => bigSep_W0 Φ,
    show ∀ Φ : Fin cfg0.W → sProp 𝕄, bigSep Finset.univ Φ = iprop(Φ (0 : Fin 2) ∗ Φ (1 : Fin 2)) from fun Φ => bigSep_W0 Φ]
  dsimp only
  rw [e0, e1, e2, e3, e4, e7, e8]
  rw [show iprop(Φ₁ c ∗ (dats m ρ 0 c).owesAt 0 t0_0.succ ∗ owns (c : Thread nD τ) xM fullShare (xstg m ρ c) ∗ owns (c : Thread nD τ) oM fullShare (outF m ρ)) = bodyPost m ρ c from rfl,
    show iprop(Φ₀ m ρ c ∗ (dats m ρ 0 c).owesAt 0 t0_0.castSucc
    ∗ (∃ d, owns (c : Thread nD τ) xM fullShare ((dats m ρ 0 c).before (0 : Fin 2) t0_0 d))
    ∗ (∃ d, owns (c : Thread nD τ) oM fullShare ((dats m ρ 0 c).before (1 : Fin 2) t0_0 d))) = bodyPre m ρ c from rfl]
  have h := (pre_S0 m ρ c).trans (s_frame (wp_after (sound_ring m ρ c (Memref.isWhole_whole _) (Memref.isWhole_whole _) (Memref.isWhole_whole cc0_scratch0) (Memref.isWhole_whole cc0_scratch1))
    fun _ => SE_post m ρ c))
  refine of_same h ?_
  unfold WP
  congr 1

/-! ## The launch: ghost state -/

theorem ownSemFacts : Pipeline.OwnSemFacts cfg0.spec osem := by decide

theorem share_full (c : Dev nD) (w : Fin cfg0.W) : (dats m ρ 0 c).share w = fullShare := by unfold Dat.share; split <;> rfl

abbrev kcell (x : Dev nD × Fin 11) : GSem nD τ sig := cell x.1 (ckE x.2)

theorem cell_inj {c e : Dev nD} {k l : CK} (h : cell c k = cell e l) : c = e ∧ k = l :=
  ⟨congrArg (fun g : GSem nD τ sig => g.1.1) h, csem_inj (congrArg Prod.snd h)⟩

theorem kcell_inj : Function.Injective kcell := by
  rintro ⟨c, i⟩ ⟨e, j⟩ h
  obtain ⟨h1, h2⟩ := cell_inj h
  exact Prod.ext h1 (ckE_inj h2)

/-- The barrier cells, whose counters the launch has; -/
def barCells : Finset (GSem nD τ sig) := Finset.univ.map ⟨fun c : Dev nD => kcell (c, 0), fun _ _ h => (cell_inj h).1⟩
/-- and the others, whose counters a device has once its kernel is entered. -/
def ownCells : Finset (GSem nD τ sig) :=
  Finset.univ.map ⟨fun x : Dev nD × Fin 10 => kcell (x.1, x.2.succ), fun x y h => by
    have h' := Prod.mk.inj (kcell_inj h)
    exact Prod.ext h'.1 (Fin.succ_injective _ h'.2)⟩

theorem cells_apart : Disjoint barCells ownCells := by
  rw [Finset.disjoint_left]
  rintro g h1 h2
  obtain ⟨c, -, rfl⟩ := Finset.mem_map.mp h1
  obtain ⟨x, -, h⟩ := Finset.mem_map.mp h2
  exact Fin.succ_ne_zero _ (congrArg Prod.snd (kcell_inj h))

theorem kcell_mem (x : Dev nD × Fin 11) : kcell x ∈ (barCells ∪ ownCells : Finset (GSem nD τ sig)) := by
  obtain ⟨c, i⟩ := x
  rcases Fin.eq_zero_or_eq_succ i with rfl | ⟨j, rfl⟩
  · exact Finset.mem_union_left _ (Finset.mem_map.mpr ⟨c, Finset.mem_univ _, rfl⟩)
  · exact Finset.mem_union_right _ (Finset.mem_map.mpr ⟨(c, j), Finset.mem_univ _, rfl⟩)

/-- The duties of a device's cells: at a step of a ring the send's, the arrival's, the credit's, and a barrier signal's. -/
def tokOf (x : Key × Fin 4) : GSem nD τ sig × ℕ × ℕ :=
  match x.2 with
  | 0 => (cell x.1.1 (.send x.1.2.1 (par x.1.2.2)), x.1.2.2 / 2, 0)
  | 1 => (cell x.1.1 (.recv x.1.2.1 (par x.1.2.2)), x.1.2.2 / 2, 0)
  | 2 => (cell x.1.1 (.cred x.1.2.1), 0, x.1.2.2)
  | 3 => (cell x.1.1 .bar, x.1.2.2, if x.1.2.1 then 1 else 0)

theorem par_half {k l : ℕ} (h : par k = par l) (h' : k / 2 = l / 2) : k = l := by
  have := congrArg Fin.val h
  simp only [par] at this
  omega

theorem tokOf_inj : Function.Injective tokOf := by
  rintro ⟨⟨c, d, k⟩, i⟩ ⟨⟨e, f, l⟩, j⟩ h
  have hc := cell_inj (c := (tokOf ((c, d, k), i)).1.1.1) (e := (tokOf ((e, f, l), j)).1.1.1)
    (k := match i with | 0 => .send d (par k) | 1 => .recv d (par k) | 2 => .cred d | 3 => .bar)
    (l := match j with | 0 => .send f (par l) | 1 => .recv f (par l) | 2 => .cred f | 3 => .bar)
    (by
      have h1 := congrArg Prod.fst h
      fin_cases i <;> fin_cases j <;> exact h1)
  have hr := congrArg (fun x => x.2.1) h
  have hd := congrArg (fun x => x.2.2) h
  have hce : c = e := by have := hc.1; fin_cases i <;> fin_cases j <;> exact this
  subst hce
  have hk := hc.2
  fin_cases i <;> fin_cases j <;> simp [tokOf] at hk hr hd ⊢
  · exact ⟨hk.1, par_half hk.2 hr⟩
  · exact ⟨hk.1, par_half hk.2 hr⟩
  · exact ⟨hk, hd⟩
  · refine ⟨?_, hr⟩
    cases d <;> cases f <;> simp at hd ⊢

def ringToks : Finset (GSem nD τ sig × ℕ × ℕ) := (keys ×ˢ (Finset.univ : Finset (Fin 4))).map ⟨tokOf, tokOf_inj⟩

/-- What the launch starts the ring's ghost state from; -/
def v₀ : UV := (launchOf barCells ownCells ringToks, initSlots keys 1)
/-- that, and the pipeline's. -/
def u₀ : UU := (initOf (Pipeline.cells cfgs cellOf_inj) (Pipeline.launchToks cfgs cellOf_inj), v₀)

theorem keys_next (Φ : Key → sProp 𝕄) : bigSep keys Φ = bigSep keys fun x => Φ (nxt x.2.1 x.1, x.2) := by
  have hi : Function.Injective (fun x : Key => ((nxt x.2.1 x.1, x.2) : Key)) := by
    rintro ⟨c, d, k⟩ ⟨e, f, l⟩ h
    obtain ⟨h1, h2⟩ := Prod.mk.inj h
    obtain ⟨rfl, rfl⟩ := Prod.mk.inj h2
    have := congrArg (prv d) h1
    simp only [prv_nxt] at this
    rw [this]
  have hm : keys.map ⟨_, hi⟩ = keys := Finset.eq_of_subset_of_card_le
    (fun x hx => by
      obtain ⟨y, hy, rfl⟩ := Finset.mem_map.mp hx
      simp only [keys, Finset.mem_product, Finset.mem_univ, true_and] at hy ⊢
      exact hy) (by rw [Finset.card_map])
  have h := BI.bigSep_map (s := keys) ⟨_, hi⟩ (Φ := Φ)
  rw [hm] at h; exact h

theorem keys_prev (Φ : Key → sProp 𝕄) : bigSep keys Φ = bigSep keys fun x => Φ (prv x.2.1 x.1, x.2) := by
  have hi : Function.Injective (fun x : Key => ((prv x.2.1 x.1, x.2) : Key)) := by
    rintro ⟨c, d, k⟩ ⟨e, f, l⟩ h
    obtain ⟨h1, h2⟩ := Prod.mk.inj h
    obtain ⟨rfl, rfl⟩ := Prod.mk.inj h2
    have := congrArg (nxt d) h1
    simp only [nxt_prv] at this
    rw [this]
  have hm : keys.map ⟨_, hi⟩ = keys := Finset.eq_of_subset_of_card_le
    (fun x hx => by
      obtain ⟨y, hy, rfl⟩ := Finset.mem_map.mp hx
      simp only [keys, Finset.mem_product, Finset.mem_univ, true_and] at hy ⊢
      exact hy) (by rw [Finset.card_map])
  have h := BI.bigSep_map (s := keys) ⟨_, hi⟩ (Φ := Φ)
  rw [hm] at h; exact h

/-- What a core gets for a step of a ring: the tokens of what it pays, and its count of its landing area. -/
def pk (x : Key) : sProp 𝕄 :=
  iprop((writeTok ES ((nxt x.2.1 x.1, x.2) : Key) 1 ∗ dutyTok ER (cell x.1 (.send x.2.1 (par x.2.2))) (x.2.2 / 2) 0
      ∗ dutyTok ER (cell (nxt x.2.1 x.1) (.recv x.2.1 (par x.2.2))) (x.2.2 / 2) 0)
    ∗ dutyTok ER (cell (prv x.2.1 x.1) (.cred x.2.1)) 0 x.2.2
    ∗ readerAt ES x 0
    ∗ dutyTok ER (cell (prv x.2.1 x.1) .bar) x.2.2 (if x.2.1 then 1 else 0))

theorem deal : iprop((bigSep ringToks fun x => (dutyTok ER x.1 x.2.1 x.2.2 : sProp 𝕄)) ∗ (bigSep keys fun k => readerAt ES k 0)
      ∗ bigSep (keys ×ˢ Finset.range 1) fun x => writeTok ES x.1 (x.2 + 1))
    ⊢ (bigSep keys fun x => pk x : sProp 𝕄) := by
  have eT : (bigSep ringToks fun x => (dutyTok ER x.1 x.2.1 x.2.2 : sProp 𝕄))
      = iprop((bigSep keys fun x => dutyTok ER (cell x.1 (.send x.2.1 (par x.2.2))) (x.2.2 / 2) 0)
        ∗ (bigSep keys fun x => dutyTok ER (cell x.1 (.recv x.2.1 (par x.2.2))) (x.2.2 / 2) 0)
        ∗ (bigSep keys fun x => dutyTok ER (cell x.1 (.cred x.2.1)) 0 x.2.2)
        ∗ (bigSep keys fun x => dutyTok ER (cell x.1 .bar) x.2.2 (if x.2.1 then 1 else 0))) := by
    unfold ringToks
    rw [BI.bigSep_map, bigSep_pairs, ← bigSep_sep', ← bigSep_sep', ← bigSep_sep']
    refine bigSep_congr fun x _ => ?_
    rw [bigSep_univ_eq_bigSepL [(0 : Fin 4), 1, 2, 3] (by decide) (by decide)]
    simp only [bigSepL_cons_cons, bigSepL_singleton]
    rfl
  have eW : (bigSep (keys ×ˢ Finset.range 1) fun x => (writeTok ES x.1 (x.2 + 1) : sProp 𝕄)) = bigSep keys fun x => writeTok ES x 1 := by
    rw [bigSep_pairs]
    refine bigSep_congr fun x _ => ?_
    rw [Finset.range_one, bigSep_singleton]
  rw [eT, eW, keys_next fun x => (writeTok ES x 1 : sProp 𝕄), keys_next fun x => (dutyTok ER (cell x.1 (.recv x.2.1 (par x.2.2))) (x.2.2 / 2) 0 : sProp 𝕄),
    keys_prev fun x => (dutyTok ER (cell x.1 (.cred x.2.1)) 0 x.2.2 : sProp 𝕄),
    keys_prev fun x => (dutyTok ER (cell x.1 .bar) x.2.2 (if x.2.1 then 1 else 0) : sProp 𝕄)]
  unfold pk
  simp only [bigSep_sep']
  iintro ⟨⟨H1, H2, H3, H4⟩, H5, H6⟩
  isplitl [H6 H1 H2]
  · isplitl [H6]; · iexact H6
    isplitl [H1]; · iexact H1
    iexact H2
  isplitl [H3]; · iexact H3
  isplitl [H5]; · iexact H5
  iexact H4

/-- The invariants of all landing areas. -/
def slots : sProp 𝕄 := bigSep keys fun k => iprop(∃ ι, slotInv ES ι k (area (F := F) k.2.1 k.1 k.2.2))
instance slots_persistent : BI.Persistent (slots (F := F)) := by unfold slots; infer_instance

/-- The invariants of all cells. -/
def cellsI : sProp 𝕄 := bigSep Finset.univ fun x : Dev nD × Fin 11 => iprop(∃ κ, cellInv ER (ringRd m ρ) κ (cell x.1 (ckE x.2)))
instance cellsI_persistent : BI.Persistent (cellsI (F := F) m ρ) := by unfold cellsI; infer_instance

/-- Every barrier cell is at round 0 or later. -/
def barsI : sProp 𝕄 := bigSep Finset.univ fun e : Dev nD => reached ER (cell e .bar) 0
instance barsI_persistent : BI.Persistent (barsI (F := F)) := by unfold barsI; infer_instance

/-- What every core knows. -/
def records : sProp 𝕄 := iprop(cellsI m ρ ∗ barsI ∗ slots)
instance records_persistent : BI.Persistent (records (F := F) m ρ) := by unfold records; infer_instance

def share (c : Dev nD) : sProp 𝕄 := bigSep (Finset.univ ×ˢ Finset.range 30) fun y : Bool × ℕ => pk ((c, y) : Key)

/-- A core's rights to open its ten cells. -/
def opens (c : Dev nD) : sProp 𝕄 := bigSep Finset.univ fun i : Fin 10 => openTok ER (kcell (c, i.succ))

/-- What the launch deals a core. -/
def G' (c : Dev nD) : sProp 𝕄 := iprop(records m ρ ∗ atPos ER (cell c .bar) 0 ∅ 0 ∗ opens c ∗ share c)

theorem mono_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ownSems0_eq (c : Dev nD) : (Pipeline.ownSems0 (Ix := ℕ) (Name := ℕ) (U := UU) (Lvl := ℕ) (Val := Elt F) (τ := τ) osem c : sProp 𝕄)
    = iprop(semVal (kcell (c, 1)) 0 ∗ semVal (kcell (c, 2)) 0 ∗ semVal (kcell (c, 3)) 0 ∗ semVal (kcell (c, 4)) 0 ∗ semVal (kcell (c, 5)) 0
      ∗ semVal (kcell (c, 6)) 0 ∗ semVal (kcell (c, 7)) 0 ∗ semVal (kcell (c, 8)) 0 ∗ semVal (kcell (c, 9)) 0 ∗ semVal (kcell (c, 10)) 0) := by
  rw [Pipeline.ownSems0_eq_of_list c osem [0, 1, 2, 3, 4, 5, 6, 7, 8, 9] (by decide) (by decide)]; rfl

theorem unscopedSems0_eq (c : Dev nD) : (unscopedSems0 c : sProp 𝕄) = semVal (kcell (c, 0)) 0 := by
  unfold unscopedSems0; rw [bigSep_eq_bigSepL_of_eq [SemLoc.reg barS] (by decide) (by decide)]; rfl

theorem zeros_eq (c : Dev nD) : (zeros c : sProp 𝕄)
    = iprop(unscopedSems0 c ∗ Pipeline.ownSems0 (Ix := ℕ) (Name := ℕ) (U := UU) (Lvl := ℕ) (Val := Elt F) (τ := τ) osem c) := by
  rw [ownSems0_eq, unscopedSems0_eq]; unfold zeros; rw [cells_list]

/-- The launch makes every cell's invariant, the barrier cells' from their counters, and deals the tokens. -/
theorem fund_ring : iprop((bigSep Finset.univ fun c : Dev nD => unscopedSems0 c) ∗ BI.own (EV v₀)) ⊢ (|={Set.univ}=> bigSep Finset.univ (G' m ρ) : sProp 𝕄) := by
  have hB (Φ : GSem nD τ sig → sProp 𝕄) : bigSep barCells Φ = bigSep Finset.univ fun c : Dev nD => Φ (cell c .bar) := by
    unfold barCells; rw [BI.bigSep_map]; rfl
  have hO : (bigSep ownCells fun g => (openTok ER g : sProp 𝕄)) = bigSep Finset.univ fun c : Dev nD => opens c := by
    unfold ownCells; rw [BI.bigSep_map, BI.bigSep_univ_prod]; rfl
  have hK : (bigSep keys fun x => (pk x : sProp 𝕄)) = bigSep Finset.univ fun c : Dev nD => share c := by
    unfold keys; rw [bigSep_pairs]; rfl
  have hV : (bigSep Finset.univ fun c : Dev nD => (unscopedSems0 c : sProp 𝕄)) = bigSep barCells fun g => semVal g 0 := by
    rw [hB]; exact bigSep_congr fun c _ => unscopedSems0_eq c
  iintro ⟨Hu, HX⟩
  ihave Hu := (Entails.of_eq hV) $$ Hu
  ihave HX := (Entails.of_eq (show (BI.own (EV v₀) : sProp 𝕄) = BI.own (EV (launchOf barCells ownCells ringToks, initSlots keys 1)) from rfl)) $$ HX
  ihave HX := (own_pair_emb EV (launchOf barCells ownCells ringToks) (initSlots keys 1)) $$ HX
  icases HX with ⟨HA, HB⟩
  imod (Rounds.fund_launch ER (ringRd m ρ) cells_apart (fun _ _ h => h) ringToks) $$ [Hu HA] with ⟨%κ, -, Hinv, Hr, Hat, Hop, Htok⟩
  · isplitl [Hu]; · iexact Hu
    iexact HA
  imod (slots_init ES keys 1 (fun k : Key => area (F := F) k.2.1 k.1 k.2.2)) $$ HB with ⟨%ιs, -, Hsl, Hrd, Hwt⟩
  imodintro
  ihave Hat := (Entails.of_eq (hB fun g => atPos ER g 0 ∅ 0)) $$ Hat
  ihave Hr := (Entails.of_eq (hB fun g => reached ER g 0)) $$ Hr
  ihave Hop := (Entails.of_eq hO) $$ Hop
  ihave Hk := (deal (F := F)) $$ [Htok Hrd Hwt]
  · isplitl [Htok]; · iexact Htok
    isplitl [Hrd]; · iexact Hrd
    iexact Hwt
  ihave Hk := (Entails.of_eq hK) $$ Hk
  have hs : (bigSep keys fun k : Key => slotInv ES (ιs k) k (area (F := F) k.2.1 k.1 k.2.2)) ⊢ (slots : sProp 𝕄) := by
    unfold slots
    refine bigSep_mono fun k _ => ?_
    show slotInv ES (ιs k) k (area (F := F) k.2.1 k.1 k.2.2) ⊢ (iprop(∃ ι, slotInv ES ι k (area (F := F) k.2.1 k.1 k.2.2)) : sProp 𝕄)
    iintro H; iexists _; iexact H
  ihave Hsl := hs $$ Hsl
  have hc : (bigSep (barCells ∪ ownCells) fun g => (cellInv ER (ringRd m ρ) (κ g) g : sProp 𝕄)) ⊢ (cellsI m ρ : sProp 𝕄) := by
    unfold cellsI
    have h1 (x : Dev nD × Fin 11) : (bigSep (barCells ∪ ownCells) fun g => (cellInv ER (ringRd m ρ) (κ g) g : sProp 𝕄))
        ⊢ (iprop(∃ κ, cellInv ER (ringRd m ρ) κ (cell x.1 (ckE x.2))) : sProp 𝕄) := by
      have h2 := bigSep_at (kcell_mem x) (Φ := fun g => (cellInv ER (ringRd m ρ) (κ g) g : sProp 𝕄))
      iintro H
      iexists (κ (kcell x))
      iapply h2; iexact H
    exact (BI.bigSep_of_persistent Finset.univ _).trans (bigSep_mono fun x _ => h1 x)
  ihave Hinv := hc $$ Hinv
  have hg : iprop(records m ρ ∗ bigSep Finset.univ fun c : Dev nD => iprop(atPos ER (cell c .bar) 0 ∅ 0 ∗ opens c ∗ share c))
      ⊢ (bigSep Finset.univ (G' m ρ) : sProp 𝕄) :=
    mono_with fun c _ => by unfold G'; iintro H; iexact H
  iapply hg
  isplitl [Hinv Hr Hsl]
  · unfold records barsI
    isplitl [Hinv]; · iexact Hinv
    isplitl [Hr]; · iexact Hr
    iexact Hsl
  simp only [bigSep_sep']
  isplitl [Hat]; · iexact Hat
  isplitl [Hop]; · iexact Hop
  iexact Hk

/-- A core opens one of its cells. -/
theorem open_cell (c : Dev nD) (i : Fin 10) : iprop(records m ρ ∗ openTok ER (kcell (c, i.succ)) ∗ semVal (kcell (c, i.succ)) 0)
    ⊢ (|={Set.univ}=> (atPos ER (kcell (c, i.succ)) 0 ∅ 0 ∗ reached ER (kcell (c, i.succ)) 0) : sProp 𝕄) := by
  unfold records cellsI
  have h := bigSep_at (Finset.mem_univ ((c, i.succ) : Dev nD × Fin 11)) (Φ := fun x : Dev nD × Fin 11 => (iprop(∃ κ, cellInv ER (ringRd m ρ) κ (cell x.1 (ckE x.2))) : sProp 𝕄))
  iintro ⟨⟨HI, -⟩, Ho, Hv⟩
  ihave HI := h $$ HI
  icases HI with ⟨%κ, HI⟩
  iapply (Rounds.cell_open ER (ringRd m ρ) (g := kcell (c, i.succ)) (Set.mem_univ κ))
  isplitl [HI]; · iexact HI
  isplitl [Ho]; · iexact Ho
  iexact Hv

/-- A core opens its ten cells when its kernel is entered. -/
theorem open_cells (c : Dev nD) : iprop(records m ρ ∗ opens c ∗ Pipeline.ownSems0 (Ix := ℕ) (Name := ℕ) (U := UU) (Lvl := ℕ) (Val := Elt F) (τ := τ) osem c)
    ⊢ (|={Set.univ}=> ((bigSep Finset.univ fun i : Fin 10 => atPos ER (kcell (c, i.succ)) 0 ∅ 0)
      ∗ bigSep Finset.univ fun i : Fin 10 => reached ER (kcell (c, i.succ)) 0) : sProp 𝕄) := by
  have e : (Pipeline.ownSems0 (Ix := ℕ) (Name := ℕ) (U := UU) (Lvl := ℕ) (Val := Elt F) (τ := τ) osem c : sProp 𝕄)
      = bigSep Finset.univ fun i : Fin 10 => semVal (kcell (c, i.succ)) 0 := rfl
  rw [e]
  unfold opens
  rw [← bigSep_sep', ← bigSep_sep']
  exact (mono_with fun i _ => open_cell m ρ c i).trans (bigSep_fupd _ _)

end Cert.RingProof
-- ==== Proof.RingRun.lean ====
/-
# The ring all-reduce: the launch and its run
-/
module

public import proofs.«01_k».proof.Proof.RingLaunch
public import Idealize.ShloMosaic.Lib.Pipeline.CollectiveSegs
public import Idealize.ShloMosaic.Lib.Pipeline.RegionTalk

@[expose] public section

set_option maxRecDepth 20000

noncomputable section

namespace Cert.RingProof

open Cert.RingIdeal Cert.RingIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : (ℓ : Loc nD τ sig) → Buf (Elt F) ℓ) (ρ : Dev nD → PrngReg)

open Idealize.ShloMosaic.Pipeline (Dat Cfg Window BodyObligation cellOf)

/-! ## The launch credit -/

theorem pay_at (d : Dev nD) (k : ℕ) (j : Fin 4) : pay d (4 * k + j.val)
    = match j with
      | 0 => tallyAt (cell (nxt false d) (.recv false (par k))) k N
      | 1 => tallyAt (cell (nxt true d) (.recv true (par k))) k N
      | 2 => tallyAt (cell (prv false d) (.cred false)) k 1
      | 3 => tallyAt (cell (prv true d) (.cred true)) k 1 := by
  have hm : (4 * k + j.val) % 4 = j.val := by omega
  have hd : (4 * k + j.val) / 4 = k := by omega
  unfold pay
  rw [hm, hd]
  fin_cases j <;> rfl

theorem due_all (d : Dev nD) : due d 0 = ∑ y ∈ Finset.range 30 ×ˢ (Finset.univ : Finset (Fin 4)), pay d (4 * y.1 + y.2.val) := by
  unfold due
  refine Finset.sum_nbij' (fun i => (i / 4, (⟨i % 4, Nat.mod_lt _ (by decide)⟩ : Fin 4))) (fun y => 4 * y.1 + y.2.val) ?_ ?_ ?_ ?_ ?_
  · intro i hi
    have := Finset.mem_Ico.mp hi
    exact Finset.mem_product.mpr ⟨Finset.mem_range.mpr (by dsimp only; omega), Finset.mem_univ _⟩
  · rintro ⟨k, j⟩ hy
    have := Finset.mem_range.mp (Finset.mem_product.mp hy).1
    have := j.isLt
    exact Finset.mem_Ico.mpr ⟨Nat.zero_le _, by dsimp only at *; omega⟩
  · intro i hi; dsimp only; omega
  · rintro ⟨k, j⟩ hy
    have := j.isLt
    refine Prod.ext (by dsimp only; omega) (Fin.ext (by dsimp only; omega))
  · intro i hi; dsimp only; rw [Nat.div_add_mod]

def credR (d : Bool) (c : Dev nD) : sProp 𝕄 := bigSep (Finset.range 30) fun k => cred (tallyAt (cell c (.recv d (par k))) k N)
def credC (d : Bool) (c : Dev nD) : sProp 𝕄 := bigSep (Finset.range 30) fun k => cred (tallyAt (cell c (.cred d)) k 1)

theorem cred_nxt (d : Bool) (k : CK) (ι n : ℕ) (c : Dev nD) :
    (Pipeline.launchCred (fun e => tallyAt (cell (nxt d e) k) ι n) c : sProp 𝕄) ⊢ cred (tallyAt (cell c k) ι n) :=
  Pipeline.launchCred_tallyAt (csem k) (nxt d) (prv d) (nxt_prv d) (prv_nxt d) ι n c
theorem cred_prv (d : Bool) (k : CK) (ι n : ℕ) (c : Dev nD) :
    (Pipeline.launchCred (fun e => tallyAt (cell (prv d e) k) ι n) c : sProp 𝕄) ⊢ cred (tallyAt (cell c k) ι n) :=
  Pipeline.launchCred_tallyAt (csem k) (prv d) (nxt d) (prv_nxt d) (nxt_prv d) ι n c

theorem cred_step (c : Dev nD) (k : ℕ) :
    (bigSep Finset.univ fun j : Fin 4 => (Pipeline.launchCred (fun e => pay e (4 * k + j.val)) c : sProp 𝕄))
      ⊢ iprop(cred (tallyAt (cell c (.recv false (par k))) k N) ∗ cred (tallyAt (cell c (.recv true (par k))) k N)
        ∗ cred (tallyAt (cell c (.cred false)) k 1) ∗ cred (tallyAt (cell c (.cred true)) k 1)) := by
  rw [bigSep_univ_eq_bigSepL [(0 : Fin 4), 1, 2, 3] (by decide) (by decide)]
  simp only [bigSepL_cons_cons, bigSepL_singleton, pay_at]
  exact BI.sep_mono (cred_nxt _ _ _ _ _) (BI.sep_mono (cred_nxt _ _ _ _ _) (BI.sep_mono (cred_prv _ _ _ _ _) (cred_prv _ _ _ _ _)))

theorem cred_due (c : Dev nD) :
    (Pipeline.launchCred (fun e => due e 0) c : sProp 𝕄) ⊢ iprop(credR false c ∗ credR true c ∗ credC false c ∗ credC true c) := by
  rw [show (fun e : Dev nD => due e 0) = fun e => ∑ y ∈ Finset.range 30 ×ˢ (Finset.univ : Finset (Fin 4)), pay e (4 * y.1 + y.2.val) from funext due_all,
    Pipeline.launchCred_sum, bigSep_pairs]
  unfold credR credC
  rw [← bigSep_sep', ← bigSep_sep', ← bigSep_sep']
  exact bigSep_mono fun k _ => cred_step c k

theorem creds (c : Dev nD) : (Pipeline.launchCred O₀ c : sProp 𝕄)
    ⊢ iprop(cred (tallyAt (cell c .bar) 0 2) ∗ credR false c ∗ credR true c ∗ credC false c ∗ credC true c) := by
  have e : (Pipeline.launchCred O₀ c : sProp 𝕄)
      = iprop((Pipeline.launchCred (fun e => due e 0) c ∗ Pipeline.launchCred (fun e => tallyAt (cell (nxt false e) .bar) 0 1) c)
        ∗ Pipeline.launchCred (fun e => tallyAt (cell (prv false e) .bar) 0 1) c) := by
    rw [← Pipeline.launchCred_add, ← Pipeline.launchCred_add]; rfl
  rw [e]
  iintro ⟨⟨H, H1⟩, H2⟩
  ihave H := (cred_due (F := F) c) $$ H
  ihave H1 := (cred_nxt (F := F) _ _ _ _ _) $$ H1
  ihave H2 := (cred_prv (F := F) _ _ _ _ _) $$ H2
  isplitl [H1 H2]
  · rw [show (2 : ℕ) = 1 + 1 from rfl, ← tallyAt_add]
    iapply (cred_add _ _).2
    isplitl [H1]; · iexact H1
    iexact H2
  iexact H

/-! ## A ring's supplies, sorted by step -/

theorem range_low : Finset.range 30 = insert 0 (insert 1 ((Finset.range 28).map (addRightEmbedding 2))) := by decide
theorem range_high : Finset.range 30 = insert 28 (insert 29 (Finset.range 28)) := by decide

theorem sort_low (Φ : ℕ → sProp 𝕄) : bigSep (Finset.range 30) Φ
    ⊢ iprop(Φ 0 ∗ Φ 1 ∗ bigSep (Finset.range 30) fun k => if k + 2 < 30 then Φ (k + 2) else iprop(emp)) := by
  have h2 : (bigSep (Finset.range 30) fun k => if k + 2 < 30 then Φ (k + 2) else (iprop(emp) : sProp 𝕄)) = iprop(emp ∗ emp ∗ bigSep (Finset.range 28) fun k => Φ (k + 2)) := by
    rw [range_high, bigSep_put (by decide), bigSep_put (by decide), if_neg (by decide), if_neg (by decide)]
    rw [bigSep_congr fun k hk => if_pos (show k + 2 < 30 by have := Finset.mem_range.mp hk; omega)]
  rw [h2]
  rw [range_low, bigSep_put (by decide), bigSep_put (by decide), BI.bigSep_map]
  iintro ⟨H0, H1, H⟩
  isplitl [H0]; · iexact H0
  isplitl [H1]; · iexact H1
  isplitr; · iempintro
  isplitr; · iempintro
  iexact H

theorem sort_high (Φ : ℕ → sProp 𝕄) : bigSep (Finset.range 30) Φ
    ⊢ iprop((bigSep (Finset.range 30) fun k => if 2 ≤ k then Φ (k - 2) else iprop(emp)) ∗ Φ 28 ∗ Φ 29) := by
  have h2 : (bigSep (Finset.range 30) fun k => if 2 ≤ k then Φ (k - 2) else (iprop(emp) : sProp 𝕄)) = iprop(emp ∗ emp ∗ bigSep (Finset.range 28) fun k => Φ k) := by
    rw [range_low, bigSep_put (by decide), bigSep_put (by decide), if_neg (by decide), if_neg (by decide), BI.bigSep_map]
    rw [bigSep_congr fun k _ => if_pos (show 2 ≤ addRightEmbedding 2 k from Nat.le_add_left 2 k)]
    rfl
  rw [h2]
  rw [range_high, bigSep_put (by decide), bigSep_put (by decide)]
  iintro ⟨H0, H1, H⟩
  isplitl [H]
  · isplitr; · iempintro
    isplitr; · iempintro
    iexact H
  isplitl [H0]; · iexact H0
  iexact H1

theorem ring_intro (d : Bool) (c : Dev nD) :
    iprop((bigSep (Finset.range 30) fun k => pk ((c, d, k) : Key)) ∗ credR d c ∗ credC d c)
      ⊢ (iprop(((bigSep (Finset.Ico 0 30) fun k => sup d c k) ∗ fin2 d c ∗ readerAt ES ((c, d, 0) : Key) 0 ∗ readerAt ES ((c, d, 1) : Key) 0)
        ∗ dutyTok ER (cell (prv d c) .bar) 0 (if d then 1 else 0)) : sProp 𝕄) := by
  rw [← Finset.range_eq_Ico]
  unfold pk sup sup0 sup1 sup2 sup3 credR credC fin2
  dsimp only
  simp only [bigSep_sep']
  iintro ⟨⟨⟨H1, H2, H3⟩, H4, H5, H6⟩, HR, HC⟩
  ihave H5 := (sort_low (F := F) fun k => readerAt ES ((c, d, k) : Key) 0) $$ H5
  icases H5 with ⟨Hr0, Hr1, H5⟩
  ihave HC := (sort_high (F := F) fun k => cred (tallyAt (cell c (.cred d)) k 1)) $$ HC
  icases HC with ⟨HC, Hc0, Hc1⟩
  ihave H6 := (bigSep_at (Finset.mem_range.mpr (by decide : (0 : ℕ) < 30)) (Φ := fun k => (dutyTok ER (cell (prv d c) .bar) k (if d then 1 else 0) : sProp 𝕄))) $$ H6
  isplitr [H6]
  · isplitl [H1 H2 H3 H4 H5 HR HC]
    · isplitl [HC]; · iexact HC
      isplitl [H1 H2 H3]
      · isplitl [H1]; · iexact H1
        isplitl [H2]; · iexact H2
        iexact H3
      isplitl [HR]; · iexact HR
      isplitl [H4]; · iexact H4
      iexact H5
    isplitl [Hc0 Hc1]
    · isplitl [Hc0]; · iexact Hc0
      iexact Hc1
    isplitl [Hr0]; · iexact Hr0
    iexact Hr1
  iexact H6

theorem share_eq2 (c : Dev nD) : (share c : sProp 𝕄)
    = iprop((bigSep (Finset.range 30) fun k => pk ((c, false, k) : Key)) ∗ bigSep (Finset.range 30) fun k => pk ((c, true, k) : Key)) := by
  unfold share
  rw [bigSep_pairs, bigSep_univ_eq_bigSepL [false, true] (by decide) (by decide)]
  simp only [bigSepL_cons_cons, bigSepL_singleton]
  rfl

theorem ten_list (Φ : Fin 10 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9) := by
  rw [bigSep_univ_eq_bigSepL [(0 : Fin 10), 1, 2, 3, 4, 5, 6, 7, 8, 9] (by decide) (by decide)]
  simp only [bigSepL_cons_cons, bigSepL_singleton]
  rfl

/-- What the launch deals a core, its ten cells opened, is what its kernel starts from. -/
theorem start_of (c : Dev nD) :
    iprop(levAts L lv ∗ Pipeline.launchCred O₀ c ∗ (records m ρ ∗ atPos ER (cell c .bar) 0 ∅ 0 ∗ share c)
        ∗ (bigSep Finset.univ fun i : Fin 10 => atPos ER (kcell (c, i.succ)) 0 ∅ 0)
        ∗ bigSep Finset.univ fun i : Fin 10 => reached ER (kcell (c, i.succ)) 0)
      ⊢ (iprop(facts m ρ ∗ lin c) : sProp 𝕄) := by
  unfold facts lin ring0 records cellsI barsI slots
  rw [share_eq2, ten_list, ten_list]
  iintro ⟨Hlv, Hcr, ⟨⟨HI, HU, HS⟩, A0, HF, HT⟩, ⟨A1, A2, A3, A4, A5, A6, A7, A8, A9, A10⟩, R1, R2, R3, R4, R5, R6, R7, R8, R9, R10⟩
  ihave Hcr := (creds (F := F) c) $$ Hcr
  icases Hcr with ⟨HB, HR0, HR1, HC0, HC1⟩
  ihave HF := (ring_intro (F := F) false c) $$ [HF HR0 HC0]
  · isplitl [HF]; · iexact HF
    isplitl [HR0] <;> iassumption
  ihave HT := (ring_intro (F := F) true c) $$ [HT HR1 HC1]
  · isplitl [HT]; · iexact HT
    isplitl [HR1] <;> iassumption
  icases HF with ⟨HF, HFb⟩
  icases HT with ⟨HT, HTb⟩
  isplitl [HI HU HS Hlv]
  · isplitl [HI]; · iexact HI
    isplitl [HU]; · iexact HU
    isplitl [HS]; · iexact HS
    iexact Hlv
  isplitl [A0]; · iexact A0
  isplitl [HFb]; · iexact HFb
  isplitl [HTb]; · iexact HTb
  isplitl [HB]; · iexact HB
  isplitl [HF A1 A2 A3 A4 A9 R1 R2 R3 R4 R10]
  · isplitl [HF]; · iexact HF
    isplitl [A1 A2 A3 A4 A9]
    · isplitl [A1]; · iexact A1
      isplitl [A2]; · iexact A2
      isplitl [A3]; · iexact A3
      isplitl [A4]; · iexact A4
      iexact A9
    isplitl [R1]; · iexact R1
    isplitl [R2]; · iexact R2
    isplitl [R3]; · iexact R3
    isplitl [R4]; · iexact R4
    iexact R10
  isplitl [HT]; · iexact HT
  isplitl [A5 A6 A7 A8 A10]
  · isplitl [A5]; · iexact A5
    isplitl [A6]; · iexact A6
    isplitl [A7]; · iexact A7
    isplitl [A8]; · iexact A8
    iexact A10
  isplitl [R5]; · iexact R5
  isplitl [R6]; · iexact R6
  isplitl [R7]; · iexact R7
  isplitl [R8]; · iexact R8
  iexact R9

/-! ## The kernel as a segment of the program -/

def start (c : Dev nD) : sProp 𝕄 := iprop(facts m ρ ∗ lin c)

/-- What the launch keeps for a core's kernel. -/
def Tk (c : Dev nD) : sProp 𝕄 := iprop(Pipeline.launchCred O₀ c ∗ G' m ρ c)

theorem hopen (c : Dev nD) :
    iprop(Tk m ρ c ∗ Pipeline.ownSems0 (Ix := ℕ) (Name := ℕ) (U := UU) (Lvl := ℕ) (Val := Elt F) (τ := τ) osem c ∗ levAts L lv)
      ⊢ (|={Set.univ}=> start m ρ c : sProp 𝕄) := by
  unfold Tk G' start
  iintro ⟨⟨Hcr, ⟨#HR, Hat, Hop, Hsh⟩⟩, Hos, Hlv⟩
  imod (open_cells m ρ c) $$ [Hop Hos] with ⟨HA, HRe⟩
  · isplitr; · iexact HR
    isplitl [Hop] <;> iassumption
  imodintro
  iapply (start_of m ρ c)
  isplitl [Hlv]; · iexact Hlv
  isplitl [Hcr]; · iexact Hcr
  isplitl [Hat Hsh]
  · isplitr; · iexact HR
    isplitl [Hat] <;> iassumption
  isplitl [HA] <;> iassumption

theorem scr_false (c : Dev nD) : (scr false c : sProp 𝕄)
    = iprop(∃ f : Buf (Elt F) ((c : Thread nD τ).loc cc0_scratch0), ((c : Thread nD τ).loc cc0_scratch0) ↦{fullShare} f) := by
  unfold scr comM
  simp only [Memref.view_whole, View.set_whole]
theorem scr_true (c : Dev nD) : (scr true c : sProp 𝕄)
    = iprop(∃ f : Buf (Elt F) ((c : Thread nD τ).loc cc0_scratch1), ((c : Thread nD τ).loc cc0_scratch1) ↦{fullShare} f) := by
  unfold scr comM
  simp only [Memref.view_whole, View.set_whole]

/-- The tables of the calls' prefetched operands: there is none. -/
abbrev adm : (p : Fin 1) → (pcfgs (F := F) p).Adm := fun p => (cfgs p).toPCfg_adm

def pdats : (p : Fin 1) → (c : Dev nD) → Dat τ (Elt F) ℕ ℕ UU ℕ (Pipeline.pin (pcfgs (F := F)) adm p) c := dats m ρ

theorem hin (c : Dev nD) (V : Valuation τ sig (Elt F)) :
    iprop(Pipeline.scopedRest cfg0.spec c ∗ (∃ r, prngReg c r) ∗ StableHlo.held (c.tc : Thread nD τ) ∅ V ∗ start m ρ c)
      ⊢ (dats m ρ 0 c).Φ 0 := by
  rw [show (dats m ρ 0 c).Φ 0 = Φ₀ m ρ c from rfl, scopedRest0_eq]
  unfold Φ₀ start
  rw [scr_false, scr_true]
  iintro ⟨⟨H0, H1⟩, Hp, -, Hs⟩
  isplitl [Hs]; · iexact Hs
  isplitl [H0]; · iexact H0
  isplitl [H1]; · iexact H1
  iexact Hp

theorem hout (c : Dev nD) (V : Valuation τ sig (Elt F)) :
    (dats m ρ 0 c).Φ (Fin.last cfg0.N)
      ⊢ iprop(Pipeline.scopedRest cfg0.spec c ∗ (∃ r, prngReg c r) ∗ StableHlo.held (c.tc : Thread nD τ) ∅ V ∗ Pipeline.ownSems0 osem c ∗ unscopedSems0 c) := by
  rw [show (dats m ρ 0 c).Φ (Fin.last cfg0.N) = Φ₁ c from rfl, scopedRest0_eq]
  unfold Φ₁
  rw [scr_false, scr_true, zeros_eq]
  unfold StableHlo.held
  rw [bigSep_empty]
  iintro ⟨H0, H1, ⟨Hz, Ho⟩, Hp⟩
  isplitl [H0 H1]
  · isplitl [H0]; · iexact H0
    iexact H1
  isplitl [Hp]; · iexact Hp
  isplitr; · iempintro
  isplitl [Ho]; · iexact Ho
  iexact Hz

theorem O₀_pos {c : Dev nD} {g : GSem nD τ sig} {ι : ℕ} (h : 0 < O₀ c g ι) : (∃ e k, g = cell e k) ∧ ι < 30 ∧ 0 < lv g ι := by
  have one {e : Dev nD} (h : 0 < tallyAt (cell e .bar) 0 1 g ι) : (∃ e k, g = cell e k) ∧ ι < 30 ∧ 0 < lv g ι := by
    rw [tallyAt_apply] at h
    by_cases hn : g = cell e .bar ∧ ι = 0
    · obtain ⟨rfl, rfl⟩ := hn
      exact ⟨⟨_, _, rfl⟩, by decide, by rw [lv_cell]; exact Nat.one_pos⟩
    · rw [if_neg hn] at h; exact absurd h (Nat.lt_irrefl 0)
  unfold O₀ O₁ at h
  rw [Pi.add_apply, Finsupp.add_apply, Pi.add_apply, Finsupp.add_apply] at h
  rcases Nat.eq_zero_or_pos (due c 0 g ι) with h1 | h1
  · rcases Nat.eq_zero_or_pos (tallyAt (cell (nxt false c) .bar) 0 1 g ι) with h2 | h2
    · exact one (e := prv false c) (by omega)
    · exact one h2
  · obtain ⟨i, -, hi, hp⟩ := due_pos h1
    obtain ⟨he, rfl, h3⟩ := pay_pos hp
    refine ⟨he, by omega, ?_⟩
    rw [h3]; split <;> omega

/-- A staging semaphore is none of the ring's: its level is zero. -/
theorem lv_stage (c : Dev nD) (q : DmaSem sig) (hq : ∀ i : Fin 11, csem (ckE i) ≠ SemLoc.dma q) (ι : ℕ) : lv ((c : Thread nD τ), .dma q) ι = 0 := by
  have hn : kindOf (SemLoc.dma q) = none := by
    cases hk : kindOf (SemLoc.dma q) with
    | none => rfl
    | some k =>
      obtain ⟨i, rfl⟩ := ckE_surj k
      exact absurd (kindOf_eq_some hk).symm (hq i)
  unfold lv
  dsimp only
  rw [hn]

theorem stage_apart (w : Fin cfg0.W) (s : Fin (cfg0.win w).nbuf) : ∀ i : Fin 11, csem (ckE i) ≠ SemLoc.dma ((cfg0.win w).sem s) := by
  fin_cases w <;> fin_cases s <;> decide

theorem owed_cut (c : Dev nD) (t : Fin (cfg0.N + 1)) (g : GSem nD τ sig) (i : ℕ) (h : 0 < (dats (F := F) m ρ 0 c).owed t g i) :
    i ∈ L g ∧ (0 : ℕ) < lv g i := by
  rcases t with ⟨_ | t, ht⟩
  · obtain ⟨⟨e, k, rfl⟩, hu, hp⟩ := O₀_pos (show 0 < O₀ c g i from h)
    exact ⟨(L_tc e (csem k)).symm ▸ Finset.mem_range.mpr hu, hp⟩
  · exact absurd (show 0 < (0 : CellTallies nD τ sig ℕ) g i from h) (Nat.lt_irrefl 0)

def finalA (c : Dev nD) (w : Fin cfg0.W) : Buf (Elt F) ((cfg0.win w).arr.view.loc (c : Thread nD τ)) := (dats m ρ 0 c).arrAt w cfg0.N

/-- A device's block is as it was. -/
theorem finalA_x (c : Dev nD) : finalA m ρ c (0 : Fin 2) = (s₀ m ρ).mem (win0_0.arr.view.loc (c : Thread nD τ)) :=
  (dats (F := F) m ρ 0 c).arrAt_in (0 : Fin 2) rfl _

/-- A core's arrays in a memory; -/
def W0 (c : Dev nD) : Valuation τ sig (Elt F) := fun b => m ((c : Dev nD), b)
/-- and in it after the ring, which writes its result. -/
def W1 (c : Dev nD) : Valuation τ sig (Elt F) := Function.update (W0 m c) (Proc.devRef .tc main_v40) (finalA m ρ c (1 : Fin 2))

theorem W1_o (c : Dev nD) : W1 m ρ c (Proc.devRef .tc main_v40) = finalA m ρ c (1 : Fin 2) := Function.update_self ..
theorem W1_ne (c : Dev nD) {b : DevRef τ sig} (h : b ≠ Proc.devRef .tc main_v40) : W1 m ρ c b = W0 m c b := Function.update_of_ne h ..
theorem W1_ref (c : Dev nD) {b : Ref sig .tc} (h : b ≠ main_v40) : W1 m ρ c (Proc.devRef .tc b) = m ((c.tc : Thread nD τ).loc b) :=
  W1_ne m ρ c fun e => h (Proc.devRef_injective _ e)

/-- The arrays the kernel is called on. -/
abbrev arrs : Finset (DevRef τ sig) := Pipeline.arrRefs (pcfgs (F := F) 0).spec
/-- The program's other arrays. -/
abbrev others : Finset (DevRef τ sig) := Pipeline.ucRefs τ sig \ arrs (F := F)

theorem arrs_sub : arrs (F := F) ⊆ Pipeline.ucRefs τ sig := Pipeline.arrRefs_sub_ucRefs _ fun w => by fin_cases w <;> rfl

theorem v1_arrs : (Proc.devRef .tc main_v40 : DevRef τ sig) ∈ arrs (F := F) :=
  Finset.mem_map_of_mem _ (Finset.mem_image.mpr ⟨(1 : Fin 2), Finset.mem_univ _, rfl⟩)

theorem keep_others (c : Dev nD) : ∀ b ∈ others (F := F) \ ∅, W1 m ρ c b = W0 m c b := fun b hb =>
  W1_ne m ρ c fun e => (Finset.mem_sdiff.mp (Finset.mem_sdiff.mp hb).1).2 (e ▸ v1_arrs)

set_option backward.isDefEq.respectTransparency.types false in
/-- The kernel: entered with the launch's holdings, left with its result and every counter at zero. -/
def reg : Pipeline.RegionSeg (pcfgs (F := F)) adm (pdats m ρ) 0 defs₀ Variants.none L lv 0 :=
  Pipeline.RegionSeg.ofTalk (pcfgs (F := F)) adm (pdats m ρ) 0 defs₀ Variants.none L lv 0 osem ownSemFacts
    ∅ (others (F := F)) (Finset.empty_subset _) launch0.toP rfl (fun c => (body_obligation m ρ c).loose)
    (fun _ => 0) O₀ (fun c => (zero_add _).symm) (fun _ => rfl) (fun _ => rfl) (fun c w => share_full m ρ c w)
    (W0 m) (W1 m ρ) (keep_others m ρ)
    (Tk m ρ) (fun c => unscopedSems0 c) (start m ρ) (fun c => unscopedSems0 c)
    (hopen m ρ) (fun c => hin m ρ c _) (fun c => hout m ρ c _)
    (fun c => by iintro H; imodintro; iexact H)
    (fun _ => 0)
    ⟨fun c w s => by rw [L_tc]; exact Finset.mem_range.mpr (by decide),
      fun c w s => (lv_stage c _ (stage_apart w s) 0).le,
      fun c t g i h => owed_cut m ρ c t g i h⟩
    (fun _ => iprop(emp))
    (fun c w => by fin_cases w <;> rfl)
    (fun c w => by
      fin_cases w
      · exact (finalA_x m ρ c).trans (W1_ref m ρ c (b := main_v39) (by decide)).symm
      · exact (W1_o m ρ c).symm)

/-- What a core carries across the host's operations. -/
def Rest (c : Dev nD) : sProp 𝕄 := iprop(unscopedSems0 c ∗ ∃ W, owes (c : Thread nD τ) (0 : CellTallies nD τ sig ℕ) W)

/-- No operation of the host's makes an array of its own. -/
theorem fresh0 : (hostOps0 : List (HloOp τ sig (Elt F))).Forall fun op => op.fresh = ∅ := by
  repeat' (first | rfl | apply And.intro)
theorem fresh0_1 : (hostOps0_1 : List (HloOp τ sig (Elt F))).Forall fun op => op.fresh = ∅ := by
  repeat' (first | rfl | apply And.intro)
theorem fresh0_2 : (hostOps0_2 : List (HloOp τ sig (Elt F))).Forall fun op => op.fresh = ∅ := by
  repeat' (first | rfl | apply And.intro)
theorem fresh1 : (hostOps1 : List (HloOp τ sig (Elt F))).Forall fun op => op.fresh = ∅ := by
  repeat' (first | rfl | apply And.intro)

/-- The host's operations after the kernel. -/
def hostSeg : Pipeline.HostSeg (Name := ℕ) (U := UU) (pcfgs (F := F)) defs₀ Variants.none L lv :=
  Pipeline.HostSeg.ofOps (pcfgs (F := F)) defs₀ Variants.none L lv (Pipeline.ucRefs τ sig) hostOps1
    (fun op h => Pipeline.sub_ucRefs op (List.forall_iff_forall_mem.mp hostOps1_sub op h))
    (fun op h => List.forall_iff_forall_mem.mp fresh1 op h)
    (W1 m ρ) Rest

/-- A core's arrays after the host's operations up to the call that takes the variance, -/
def Wa (c : Dev nD) : Valuation τ sig (Elt F) := StableHlo.after hostOps0 (W0 m c)
/-- after that call's operations, -/
def Wb (c : Dev nD) : Valuation τ sig (Elt F) := StableHlo.after hostOps0_1 (Wa m c)
/-- and after the host's other operations before the ring. -/
def Wc (c : Dev nD) : Valuation τ sig (Elt F) := StableHlo.after hostOps0_2 (Wb m c)

/-- The memory the ring starts in. -/
def mid : (ℓ : Loc nD τ sig) → Buf (Elt F) ℓ := fun ℓ => Wc m ℓ.1 ℓ.2

/-- What a core carries across the host's operations before the ring. -/
def Rest0 (c : Dev nD) : sProp 𝕄 := iprop(Tk (mid m) ρ c ∗ (∃ r, prngReg c r) ∗ ∃ W, owes (c : Thread nD τ) (O₀ c) W)

/-- The host's operations before the ring, in three stretches. -/
def preA : Pipeline.HostSeg (Name := ℕ) (U := UU) (pcfgs (F := F)) defs₀ Variants.none L lv :=
  Pipeline.HostSeg.ofOps (pcfgs (F := F)) defs₀ Variants.none L lv (Pipeline.ucRefs τ sig) hostOps0
    (fun op h => Pipeline.sub_ucRefs op (List.forall_iff_forall_mem.mp hostOps0_sub op h))
    (fun op h => List.forall_iff_forall_mem.mp fresh0 op h)
    (W0 m) (Rest0 m ρ)
def preB : Pipeline.HostSeg (Name := ℕ) (U := UU) (pcfgs (F := F)) defs₀ Variants.none L lv :=
  Pipeline.HostSeg.ofOps (pcfgs (F := F)) defs₀ Variants.none L lv (Pipeline.ucRefs τ sig) hostOps0_1
    (fun op h => Pipeline.sub_ucRefs op (List.forall_iff_forall_mem.mp hostOps0_1_sub op h))
    (fun op h => List.forall_iff_forall_mem.mp fresh0_1 op h)
    (Wa m) (Rest0 m ρ)
def preC : Pipeline.HostSeg (Name := ℕ) (U := UU) (pcfgs (F := F)) defs₀ Variants.none L lv :=
  Pipeline.HostSeg.ofOps (pcfgs (F := F)) defs₀ Variants.none L lv (Pipeline.ucRefs τ sig) hostOps0_2
    (fun op h => Pipeline.sub_ucRefs op (List.forall_iff_forall_mem.mp hostOps0_2_sub op h))
    (fun op h => List.forall_iff_forall_mem.mp fresh0_2 op h)
    (Wb m) (Rest0 m ρ)

/-- The program's segments: the host's operations before the ring, the ring, the host's operations after it. -/
def segs : List (Pipeline.Seg (pcfgs (F := F)) adm (pdats (mid m) ρ) 0 defs₀ Variants.none L lv) :=
  [.host (preA m ρ), .host (preB m ρ), .host (preC m ρ), .region (reg (mid m) ρ), .host (hostSeg (mid m) ρ)]

/-- What a core ends with. -/
def Tn (c : Dev nD) : sProp 𝕄 :=
  iprop(StableHlo.held (c.tc : Thread nD τ) (Pipeline.ucRefs τ sig) (StableHlo.after hostOps1 (W1 m ρ c)) ∗ unscopedSems0 c)

theorem reg_post (c : Dev nD) : (reg m ρ).post c ⊢ (hostSeg m ρ).pre c := by
  show iprop(StableHlo.held (c.tc : Thread nD τ) (arrs (F := F)) (W1 m ρ c) ∗ (∃ r, prngReg c r)
      ∗ (StableHlo.held (c.tc : Thread nD τ) (others (F := F)) (W1 m ρ c) ∗ emp) ∗ unscopedSems0 c ∗ ∃ Wd, owes (c : Thread nD τ) (0 : CellTallies nD τ sig ℕ) Wd)
    ⊢ iprop(StableHlo.held (c.tc : Thread nD τ) (Pipeline.ucRefs τ sig) (W1 m ρ c) ∗ Rest c)
  rw [StableHlo.held_sub_split (c.tc : Thread nD τ) (arrs_sub (F := F)) (W1 m ρ c)]
  unfold Rest
  iintro ⟨Ha, -, ⟨Hr, -⟩, Hu, HO⟩
  isplitl [Ha Hr]
  · isplitl [Ha] <;> iassumption
  isplitl [Hu] <;> iassumption

theorem reg_pre (c : Dev nD) : (preC m ρ).post c ⊢ (reg (mid m) ρ).pre c := by
  show iprop(StableHlo.held (c.tc : Thread nD τ) (Pipeline.ucRefs τ sig) (W0 (mid m) c) ∗ Rest0 m ρ c)
    ⊢ iprop(StableHlo.held (c.tc : Thread nD τ) (arrs (F := F)) (W0 (mid m) c) ∗ (∃ r, prngReg c r)
      ∗ (StableHlo.held (c.tc : Thread nD τ) (others (F := F)) (W0 (mid m) c) ∗ emp) ∗ Tk (mid m) ρ c ∗ ∃ Wd, owes (c : Thread nD τ) (0 + O₀ c) Wd)
  rw [StableHlo.held_sub_split (c.tc : Thread nD τ) (arrs_sub (F := F)) (W0 (mid m) c), zero_add]
  unfold Rest0
  iintro ⟨⟨Ha, Hr⟩, HT, Hp, HO⟩
  isplitl [Ha]; · iexact Ha
  isplitl [Hp]; · iexact Hp
  isplitl [Hr]
  · isplitl [Hr]; · iexact Hr
    iempintro
  isplitl [HT]; · iexact HT
  iexact HO

theorem first_pre (c : Dev nD) :
    iprop((StableHlo.held (c.tc : Thread nD τ) (Pipeline.ucRefs τ sig) (W0 m c) ∗ owes (c : Thread nD τ) (O₀ c) ∅ ∗ Pipeline.launchCred O₀ c ∗ prngReg c (ρ c)) ∗ G' (mid m) ρ c)
      ⊢ (preA m ρ).pre c := by
  show _ ⊢ iprop(StableHlo.held (c.tc : Thread nD τ) (Pipeline.ucRefs τ sig) (W0 m c) ∗ Rest0 m ρ c)
  unfold Rest0 Tk
  iintro ⟨⟨Ha, HO, Hcr, Hp⟩, HG⟩
  isplitl [Ha]; · iexact Ha
  isplitl [Hcr HG]
  · isplitl [Hcr] <;> iassumption
  isplitl [Hp]; · iexists _; iexact Hp
  iexists _; iexact HO

/-! ## The run -/

/-- A resource all of which is with one core. -/
def onDev (c₀ : Dev nD) (X : sProp 𝕄) (c : Dev nD) : sProp 𝕄 := if c = c₀ then X else iprop(emp)

theorem onDev_all (c₀ : Dev nD) (X : sProp 𝕄) : bigSep Finset.univ (onDev c₀ X) = X := by
  have h : ∀ c ∈ Finset.univ.erase c₀, onDev c₀ X c = (fun _ : Dev nD => (iprop(emp) : sProp 𝕄)) c := fun c hc => if_neg (Finset.ne_of_mem_erase hc)
  rw [bigSep_univ_at _ c₀, bigSep_congr h, show onDev c₀ X c₀ = X from if_pos rfl]
  exact (congrArg (fun Y => iprop(X ∗ Y)) (BI.bigSep_emp_const _)).trans (BI.equiv_iff.mp sep_emp)

/-- The ring's ghost state, kept with one core until the launch deals it. -/
def G : Dev nD → sProp 𝕄 := onDev 0 (BI.own (EV v₀))

theorem init :
    iprop((bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c)) ∗ levAts L lv)
      ⊢ (|={Set.univ}=> bigSep Finset.univ (preA m ρ).pre : sProp 𝕄) := by
  have hU (c : Dev nD) : (unscopedBufs c (fun b => m ((c.tc : Thread nD τ).loc b)) : sProp 𝕄)
      = StableHlo.held (c.tc : Thread nD τ) (Pipeline.ucRefs τ sig) (W0 m c) := Pipeline.unscopedBufs_held c (W0 m c)
  have hP : (bigSep Finset.univ fun c : Dev nD => iprop((StableHlo.held (c.tc : Thread nD τ) (Pipeline.ucRefs τ sig) (W0 m c) ∗ owes (c : Thread nD τ) (O₀ c) ∅
        ∗ Pipeline.launchCred O₀ c ∗ prngReg c (ρ c)) ∗ G' (mid m) ρ c)) ⊢ (bigSep Finset.univ (preA m ρ).pre : sProp 𝕄) :=
    bigSep_mono fun c _ => first_pre m ρ c
  have hG : bigSep Finset.univ (G (F := F)) ⊢ (BI.own (EV v₀) : sProp 𝕄) := Entails.of_eq (onDev_all 0 _)
  simp only [hU, bigSep_sep'] at hP ⊢
  iintro ⟨⟨HH, HU, HO, Hcr, Hp, HG⟩, -⟩
  ihave HG := hG $$ HG
  imod (fund_ring (mid m) ρ) $$ [HU HG] with HG
  · isplitl [HU] <;> iassumption
  imodintro
  iapply hP
  isplitr [HG]
  · isplitl [HH]; · iexact HH
    isplitl [HO]; · iexact HO
    isplitl [Hcr] <;> iassumption
  iexact HG

theorem ref_unscoped {b : Ref sig .tc} (h : b.isScoped = false) : (Proc.devRef .tc b : DevRef τ sig) ∈ Pipeline.ucRefs τ sig :=
  Finset.mem_filter.mpr ⟨StableHlo.devRef_mem_tcRefs b, fun h' => Bool.false_ne_true (h.symm.trans h')⟩

/-- What a final memory is read to hold on a core: every array as the host's operations leave it, every counter at zero. -/
def QY (c : Dev nD) (s : MemSt nD τ sig (Elt F)) : Prop :=
  (∀ b : Ref sig .tc, b.isScoped = false → s.mem ((c.tc : Thread nD τ).loc b) = StableHlo.after hostOps1 (W1 (mid m) ρ c) (Proc.devRef .tc b))
    ∧ ∀ sm : SemLoc sig, sm.isScoped .tc = false → s.sem ((c.tc : Thread nD τ), sm) = 0

theorem read_end (c : Dev nD) (s' : Phys nD τ sig (Elt F)) :
    iprop(Tn (mid m) ρ c ∗ SI s') ⊢ (|={Set.univ}=> iprop(⌜QY m ρ c s'.mem⌝ ∗ SI s') : sProp 𝕄) := by
  have hB : iprop(SI s' ∗ StableHlo.held (c.tc : Thread nD τ) (Pipeline.ucRefs τ sig) (StableHlo.after hostOps1 (W1 (mid m) ρ c)))
      ⊢ (⌜∀ b ∈ Pipeline.ucRefs τ sig, s'.mem.mem (c, b) = StableHlo.after hostOps1 (W1 (mid m) ρ c) b⌝ : sProp 𝕄) :=
    SI_pointsTo_bufs_agree (qs := fun _ => fullShare) (Pipeline.ucRefs τ sig)
  have h1 : iprop(Tn (mid m) ρ c ∗ SI s')
      ⊢ (⌜∀ b ∈ Pipeline.ucRefs τ sig, s'.mem.mem (c, b) = StableHlo.after hostOps1 (W1 (mid m) ρ c) b⌝ : sProp 𝕄) := by
    unfold Tn
    iintro ⟨⟨Hh, -⟩, HSI⟩
    iapply hB
    isplitl [HSI] <;> iassumption
  refine Laws.pure_elim _ h1 fun h => ?_
  unfold Tn
  iintro ⟨⟨-, Hu⟩, HSI⟩
  imod (Pipeline.unscopedSems0_read (X := unscopedSems0 c) (c := c) fupd_intro s') $$ [Hu HSI] with ⟨%h2, HSI⟩
  · isplitl [Hu] <;> iassumption
  imodintro
  isplitr
  · ipureintro
    exact ⟨fun b hb => h _ (ref_unscoped hb), h2⟩
  iexact HSI

set_option backward.isDefEq.respectTransparency.types false in
set_option maxRecDepth 1000000 in
/-- For any float values, from any memory with every counter at zero: every weakly fair execution of the sixteen programs
    ends, and then each device's arrays hold what the host's operations make of them after the ring, and every semaphore counter
    is zero. -/
theorem run_main : θ_run defs (onTc (τ := τ) (main (F := F))) (s₀ m ρ) (fun r => (∀ c : Dev nD, ∀ b : Ref sig .tc, b.isScoped = false →
      r.2.mem ((c.tc : Thread nD τ).loc b) = StableHlo.after hostOps1 (W1 (mid m) ρ c) (Proc.devRef .tc b)) ∧ r.2.sem = fun _ => 0) :=
  Pipeline.θ_run_regions_kit_sems (pcfgs (F := F)) adm (pdats (mid m) ρ) 0 cellOf_inj EP defs₀ Variants.none L lv m ρ main (segs m ρ)
    (fun c Q => by rw [main_chain, Pipeline.Seg.run_eq_chain]; exact .rfl)
    (by simp only [segs, Pipeline.Seg.pipes_host, Pipeline.Seg.pipes_region, Pipeline.Seg.pipes_nil]; decide)
    (O₀ := O₀) (hL := L_of_ne) (G := G) (u₀ := u₀)
    (hu₀ := by
      unfold u₀ G
      iintro Hu
      ihave H := (ownU_pair _ _) $$ Hu
      icases H with ⟨HP, HX⟩
      imodintro
      isplitl [HP]; · iexact HP
      rw [onDev_all]; iexact HX)
    (T₀ := (preA m ρ).pre) (Tₙ := Tn (mid m) ρ)
    (hch := by
      refine ⟨fun c => .rfl, fun c => .rfl, fun c => .rfl, fun c => reg_pre m ρ c, fun c => reg_post (mid m) ρ c, fun c => ?_⟩
      show iprop(StableHlo.held (c.tc : Thread nD τ) (Pipeline.ucRefs τ sig) (StableHlo.after hostOps1 (W1 (mid m) ρ c)) ∗ Rest c)
        ⊢ iprop(Tn (mid m) ρ c ∗ ∃ W, owes (c : Thread nD τ) (0 : CellTallies nD τ sig ℕ) W)
      unfold Tn Rest
      iintro ⟨Hh, Hu, HO⟩
      isplitl [Hh Hu]
      · isplitl [Hh] <;> iassumption
      iexact HO)
    (hinit := init m ρ)
    (QY := QY m ρ)
    (hfin := read_end m ρ)
    (hQ := fun s h hs => ⟨fun c b hb => (h c).1 b hb, sem_eq_zero hs fun c sm hsm => (h c).2 sm hsm⟩)

end Cert.RingProof
-- ==== Proof.RingHost.lean ====
/-
# The second half of the block: what the program's own operations compute

What a device's operations before the ring make of its arguments: its part of the feed-forward layer, which the ring adds up. And what
the operations after the ring make of the sum.
-/
module

public import proofs.«01_k».proof.Proof.Gen.RingIdeal.Launch
public import Idealize.ShloMosaic.Lib.StableHlo.Run
public import proofs.«01_k».proof.Proof.RowMath

@[expose] public section

set_option maxRecDepth 20000

noncomputable section

namespace Cert.RingHost

open Cert.RingIdeal Cert.RingIdeal.Gen Idealize.ShloMosaic Idealize.ShloMosaic.TcCoe Idealize.SL.Sem Idealize.ShloMosaic.StableHlo

variable {F : FTy → Type} [FloatOps F]

/-! ## What the operations compute -/

/-- The vector of the six scales and shifts. -/
def scales (t : FVec F S1x128 .f32) (W : FVec F S128x6144 .f32) : FVec F S1x6144 .f32 :=
  Host.dotGeneral dot_S1x128_S128x6144_S1x6144_1_0_0_1_n_n none t W

/-- A row's mean. -/
def mean (x : FVec F S4096x1024 .f32) : FVec F S4096x1 .f32 :=
  Host.divf (broadcastInDim S4096x1 ![0] bcast_S4096_S4096x1_0
      (Host.reduceAdd x (constant S_ .f32 0x00000000#32) reducesTo_S4096x1024_S4096_d1 h_S_))
    (broadcastInDim S4096x1 ![] bcast_S_S4096x1 (constant S_ .f32 0x44800000#32))

/-- What is left of each entry when its row's mean is taken off. -/
def centred (x : FVec F S4096x1024 .f32) : FVec F S4096x1024 .f32 :=
  subf x (broadcastInDim S4096x1024 ![0, 1] bcast_S4096x1_S4096x1024_0_1 (mean x))

/-- The number of entries a row's squares are divided by: 1024 less the correction, which is zero. -/
def count : FVec F S_ .f32 := subf (constant S_ .f32 0x44800000#32) (sitofp .f32 (constantI S_ 32 0#32))

/-- A row's variance: the mean of the squares of its centred entries. -/
def variance (x : FVec F S4096x1024 .f32) : FVec F S4096x1 .f32 :=
  select (broadcastInDim S4096x1 ![] bcast_S_S4096x1 (cmpf .ogt (count (F := F)) (constant S_ .f32 0x00000000#32)))
    (Host.divf (broadcastInDim S4096x1 ![0] bcast_S4096_S4096x1_0
        (Host.reduceAdd (mulf (centred x) (centred x)) (constant S_ .f32 0x00000000#32) reducesTo_S4096x1024_S4096_d1 h_S_))
      (broadcastInDim S4096x1 ![] bcast_S_S4096x1 count))
    (broadcastInDim S4096x1 ![] bcast_S_S4096x1 (constant S_ .f32 0x7FC00000#32))

/-- The layer norm: the centred entry times the reciprocal root of the variance and a small number. -/
def normed (x : FVec F S4096x1024 .f32) : FVec F S4096x1024 .f32 :=
  mulf (centred x) (broadcastInDim S4096x1024 ![0, 1] bcast_S4096x1_S4096x1024_0_1
    (Host.rsqrt (addf (variance x) (broadcastInDim S4096x1 ![] bcast_S_S4096x1 (constant S_ .f32 0x3727C5AC#32)))))

/-- A vector of scales or shifts laid along every row. -/
def alongRows (v : FVec F S1x1024 .f32) : FVec F S4096x1024 .f32 :=
  broadcastInDim S4096x1024 ![0, 1] bcast_S1x1024_S4096x1024_0_1 v

/-- The modulated layer norm. -/
def modulated (x : FVec F S4096x1024 .f32) (s : FVec F S1x6144 .f32) : FVec F S4096x1024 .f32 :=
  addf (mulf (normed x) (alongRows (addf (broadcastInDim S1x1024 ![] bcast_S_S1x1024 (constant S_ .f32 0x3F800000#32))
      (extractStridedSlice S1x1024 ![0, 3072] s slices_S1x6144_S1x1024_0_3072))))
    (alongRows (extractStridedSlice S1x1024 ![0, 4096] s slices_S1x6144_S1x1024_0_4096))

/-- The device's 256 places of the hidden layer before its activation. -/
def hidden (y : FVec F S4096x1024 .f32) (W1 : FVec F S1024x256 .f32) : FVec F S4096x256 .f32 :=
  Host.dotGeneral dot_S4096x1024_S1024x256_S4096x256_1_0_0_1_n_n none (truncf .bf16 y bitsLt_bf16_f32) (truncf .bf16 W1 bitsLt_bf16_f32)

/-- The activation: each entry times the reciprocal of one plus the exponential of its negative. -/
def activated (h : FVec F S4096x256 .f32) : FVec F S4096x256 .f32 :=
  mulf h (Host.divf (broadcastInDim S4096x256 ![] bcast_S_S4096x256 (constant S_ .f32 0x3F800000#32))
    (addf (broadcastInDim S4096x256 ![] bcast_S_S4096x256 (constant S_ .f32 0x3F800000#32)) (Host.exp (Host.negf h))))

/-- The device's part of the feed-forward layer. -/
def project (a : FVec F S4096x256 .f32) (W2 : FVec F S256x1024 .f32) : FVec F S4096x1024 .bf16 :=
  truncf .bf16 (Host.dotGeneral dot_S4096x256_S256x1024_S4096x1024_1_0_0_1_n_n none (truncf .bf16 a bitsLt_bf16_f32)
    (truncf .bf16 W2 bitsLt_bf16_f32)) bitsLt_bf16_f32

/-- The device's part of the feed-forward layer, of its arguments. -/
def part (x : FVec F S4096x1024 .f32) (t : FVec F S1x128 .f32) (W : FVec F S128x6144 .f32) (W1 : FVec F S1024x256 .f32)
    (W2 : FVec F S256x1024 .f32) : FVec F S4096x1024 .bf16 :=
  project (activated (hidden (modulated x (scales t W)) W1)) W2

/-- What the operations after the ring make of its sum `v`: the residual plus the gate times it. -/
def gated (v : FVec F S4096x1024 .bf16) (x : FVec F S4096x1024 .f32) (gm : FVec F S1x1024 .f32) : FVec F S1x4096x1024 .f32 :=
  broadcastInDim S1x4096x1024 ![1, 2] bcast_S4096x1024_S1x4096x1024_1_2 (addf x (mulf (alongRows gm) (extf .f32 v bitsLt_bf16_f32)))

/-- The gate, cut out of the vector of scales and shifts. -/
def gate (s : FVec F S1x6144 .f32) : FVec F S1x1024 .f32 := extractStridedSlice S1x1024 ![0, 5120] s slices_S1x6144_S1x1024_0_5120

/-! ## What each stretch of operations leaves -/

theorem opsA_v5 (V : Valuation τ sig (Elt F)) : after hostOps0 V (main_v5 : DevRef τ sig) = extractStridedSlice S1x1024 ![0, 3072] (scales (V (main_arg1 : DevRef τ sig)) (V (main_arg2 : DevRef τ sig))) slices_S1x6144_S1x1024_0_3072 := by
  after_results_simp
  rfl
theorem opsA_v6 (V : Valuation τ sig (Elt F)) : after hostOps0 V (main_v6 : DevRef τ sig) = extractStridedSlice S1x1024 ![0, 4096] (scales (V (main_arg1 : DevRef τ sig)) (V (main_arg2 : DevRef τ sig))) slices_S1x6144_S1x1024_0_4096 := by
  after_results_simp
  rfl
theorem opsA_v7 (V : Valuation τ sig (Elt F)) : after hostOps0 V (main_v7 : DevRef τ sig) = gate (scales (V (main_arg1 : DevRef τ sig)) (V (main_arg2 : DevRef τ sig))) := by
  after_results_simp
  rfl
theorem opsA_v11 (V : Valuation τ sig (Elt F)) : after hostOps0 V (main_v11 : DevRef τ sig) = mean (V (main_arg0 : DevRef τ sig)) := by
  after_results_simp
  rfl
theorem opsA_c (V : Valuation τ sig (Elt F)) : after hostOps0 V (main_c : DevRef τ sig) = (constantI S_ 32 0#32 : IVec S_ 32) := by
  after_results_simp
theorem opsA_arg0 (V : Valuation τ sig (Elt F)) : after hostOps0 V (main_arg0 : DevRef τ sig) = V (main_arg0 : DevRef τ sig) := by
  after_results_simp
theorem opsA_arg1 (V : Valuation τ sig (Elt F)) : after hostOps0 V (main_arg1 : DevRef τ sig) = V (main_arg1 : DevRef τ sig) := by
  after_results_simp
theorem opsA_arg2 (V : Valuation τ sig (Elt F)) : after hostOps0 V (main_arg2 : DevRef τ sig) = V (main_arg2 : DevRef τ sig) := by
  after_results_simp
theorem opsA_arg3 (V : Valuation τ sig (Elt F)) : after hostOps0 V (main_arg3 : DevRef τ sig) = V (main_arg3 : DevRef τ sig) := by
  after_results_simp
theorem opsA_arg4 (V : Valuation τ sig (Elt F)) : after hostOps0 V (main_arg4 : DevRef τ sig) = V (main_arg4 : DevRef τ sig) := by
  after_results_simp

theorem opsB_v12 (V : Valuation τ sig (Elt F)) (x : FVec F S4096x1024 .f32) (hx : V (main_arg0 : DevRef τ sig) = x)
    (hc : V (main_c : DevRef τ sig) = (constantI S_ 32 0#32 : IVec S_ 32)) : after hostOps0_1 V (main_v12 : DevRef τ sig) = variance x := by
  after_results_simp
  simp only [hx, hc]
  rfl
theorem opsB_v5 (V : Valuation τ sig (Elt F)) : after hostOps0_1 V (main_v5 : DevRef τ sig) = V (main_v5 : DevRef τ sig) := by
  after_results_simp
theorem opsB_v6 (V : Valuation τ sig (Elt F)) : after hostOps0_1 V (main_v6 : DevRef τ sig) = V (main_v6 : DevRef τ sig) := by
  after_results_simp
theorem opsB_v7 (V : Valuation τ sig (Elt F)) : after hostOps0_1 V (main_v7 : DevRef τ sig) = V (main_v7 : DevRef τ sig) := by
  after_results_simp
theorem opsB_v11 (V : Valuation τ sig (Elt F)) : after hostOps0_1 V (main_v11 : DevRef τ sig) = V (main_v11 : DevRef τ sig) := by
  after_results_simp
theorem opsB_arg0 (V : Valuation τ sig (Elt F)) : after hostOps0_1 V (main_arg0 : DevRef τ sig) = V (main_arg0 : DevRef τ sig) := by
  after_results_simp
theorem opsB_arg1 (V : Valuation τ sig (Elt F)) : after hostOps0_1 V (main_arg1 : DevRef τ sig) = V (main_arg1 : DevRef τ sig) := by
  after_results_simp
theorem opsB_arg2 (V : Valuation τ sig (Elt F)) : after hostOps0_1 V (main_arg2 : DevRef τ sig) = V (main_arg2 : DevRef τ sig) := by
  after_results_simp
theorem opsB_arg3 (V : Valuation τ sig (Elt F)) : after hostOps0_1 V (main_arg3 : DevRef τ sig) = V (main_arg3 : DevRef τ sig) := by
  after_results_simp
theorem opsB_arg4 (V : Valuation τ sig (Elt F)) : after hostOps0_1 V (main_arg4 : DevRef τ sig) = V (main_arg4 : DevRef τ sig) := by
  after_results_simp

theorem opsC_v39 (V : Valuation τ sig (Elt F)) (x : FVec F S4096x1024 .f32) (s : FVec F S1x6144 .f32)
    (h0 : V (main_arg0 : DevRef τ sig) = x) (h11 : V (main_v11 : DevRef τ sig) = mean x) (h12 : V (main_v12 : DevRef τ sig) = variance x)
    (h5 : V (main_v5 : DevRef τ sig) = extractStridedSlice S1x1024 ![0, 3072] s slices_S1x6144_S1x1024_0_3072)
    (h6 : V (main_v6 : DevRef τ sig) = extractStridedSlice S1x1024 ![0, 4096] s slices_S1x6144_S1x1024_0_4096) :
    after hostOps0_2 V (main_v39 : DevRef τ sig)
      = project (activated (hidden (modulated x s) (V (main_arg3 : DevRef τ sig)))) (V (main_arg4 : DevRef τ sig)) := by
  after_results_simp
  simp only [h0, h11, h12, h5, h6]
  rfl
theorem opsC_v7 (V : Valuation τ sig (Elt F)) : after hostOps0_2 V (main_v7 : DevRef τ sig) = V (main_v7 : DevRef τ sig) := by
  after_results_simp
theorem opsC_arg0 (V : Valuation τ sig (Elt F)) : after hostOps0_2 V (main_arg0 : DevRef τ sig) = V (main_arg0 : DevRef τ sig) := by
  after_results_simp
theorem opsC_arg1 (V : Valuation τ sig (Elt F)) : after hostOps0_2 V (main_arg1 : DevRef τ sig) = V (main_arg1 : DevRef τ sig) := by
  after_results_simp
theorem opsC_arg2 (V : Valuation τ sig (Elt F)) : after hostOps0_2 V (main_arg2 : DevRef τ sig) = V (main_arg2 : DevRef τ sig) := by
  after_results_simp
theorem opsC_arg3 (V : Valuation τ sig (Elt F)) : after hostOps0_2 V (main_arg3 : DevRef τ sig) = V (main_arg3 : DevRef τ sig) := by
  after_results_simp
theorem opsC_arg4 (V : Valuation τ sig (Elt F)) : after hostOps0_2 V (main_arg4 : DevRef τ sig) = V (main_arg4 : DevRef τ sig) := by
  after_results_simp

theorem opsD_v45 (V : Valuation τ sig (Elt F)) : after hostOps1 V (main_v45 : DevRef τ sig)
    = gated (V (main_v40 : DevRef τ sig)) (V (main_arg0 : DevRef τ sig)) (V (main_v7 : DevRef τ sig)) := by
  after_results_simp
  rfl
theorem opsD_arg0 (V : Valuation τ sig (Elt F)) : after hostOps1 V (main_arg0 : DevRef τ sig) = V (main_arg0 : DevRef τ sig) := by
  after_results_simp
theorem opsD_arg1 (V : Valuation τ sig (Elt F)) : after hostOps1 V (main_arg1 : DevRef τ sig) = V (main_arg1 : DevRef τ sig) := by
  after_results_simp
theorem opsD_arg2 (V : Valuation τ sig (Elt F)) : after hostOps1 V (main_arg2 : DevRef τ sig) = V (main_arg2 : DevRef τ sig) := by
  after_results_simp
theorem opsD_arg3 (V : Valuation τ sig (Elt F)) : after hostOps1 V (main_arg3 : DevRef τ sig) = V (main_arg3 : DevRef τ sig) := by
  after_results_simp
theorem opsD_arg4 (V : Valuation τ sig (Elt F)) : after hostOps1 V (main_arg4 : DevRef τ sig) = V (main_arg4 : DevRef τ sig) := by
  after_results_simp

/-! ## What the three stretches before the ring leave -/

/-- The device's part of the feed-forward layer. -/
theorem before_v39 (V : Valuation τ sig (Elt F)) : after hostOps0_2 (after hostOps0_1 (after hostOps0 V)) (main_v39 : DevRef τ sig)
    = part (V (main_arg0 : DevRef τ sig)) (V (main_arg1 : DevRef τ sig)) (V (main_arg2 : DevRef τ sig)) (V (main_arg3 : DevRef τ sig))
      (V (main_arg4 : DevRef τ sig)) := by
  rw [opsC_v39 _ (V (main_arg0 : DevRef τ sig)) (scales (V (main_arg1 : DevRef τ sig)) (V (main_arg2 : DevRef τ sig)))
    ((opsB_arg0 _).trans (opsA_arg0 V)) ((opsB_v11 _).trans (opsA_v11 V)) (opsB_v12 _ _ (opsA_arg0 V) (opsA_c V))
    ((opsB_v5 _).trans (opsA_v5 V)) ((opsB_v6 _).trans (opsA_v6 V)), opsB_arg3, opsA_arg3, opsB_arg4, opsA_arg4]
  rfl

/-- The gate. -/
theorem before_v7 (V : Valuation τ sig (Elt F)) : after hostOps0_2 (after hostOps0_1 (after hostOps0 V)) (main_v7 : DevRef τ sig)
    = gate (scales (V (main_arg1 : DevRef τ sig)) (V (main_arg2 : DevRef τ sig))) := by
  rw [opsC_v7, opsB_v7, opsA_v7]

theorem before_arg0 (V : Valuation τ sig (Elt F)) : after hostOps0_2 (after hostOps0_1 (after hostOps0 V)) (main_arg0 : DevRef τ sig) = V (main_arg0 : DevRef τ sig) := by
  rw [opsC_arg0, opsB_arg0, opsA_arg0]
theorem before_arg1 (V : Valuation τ sig (Elt F)) : after hostOps0_2 (after hostOps0_1 (after hostOps0 V)) (main_arg1 : DevRef τ sig) = V (main_arg1 : DevRef τ sig) := by
  rw [opsC_arg1, opsB_arg1, opsA_arg1]
theorem before_arg2 (V : Valuation τ sig (Elt F)) : after hostOps0_2 (after hostOps0_1 (after hostOps0 V)) (main_arg2 : DevRef τ sig) = V (main_arg2 : DevRef τ sig) := by
  rw [opsC_arg2, opsB_arg2, opsA_arg2]
theorem before_arg3 (V : Valuation τ sig (Elt F)) : after hostOps0_2 (after hostOps0_1 (after hostOps0 V)) (main_arg3 : DevRef τ sig) = V (main_arg3 : DevRef τ sig) := by
  rw [opsC_arg3, opsB_arg3, opsA_arg3]
theorem before_arg4 (V : Valuation τ sig (Elt F)) : after hostOps0_2 (after hostOps0_1 (after hostOps0 V)) (main_arg4 : DevRef τ sig) = V (main_arg4 : DevRef τ sig) := by
  rw [opsC_arg4, opsB_arg4, opsA_arg4]

/-! ## The values over the reals -/

section Values

variable (x : FVec Ideal S4096x1024 .f32)

theorem mean_apply (r : Fin 4096) : (mean (F := Ideal) x (ix2 r 0) : EReal) = RowMath.mean fun k => (x (ix2 r k) : EReal) := by
  unfold mean
  pointwise
  rfl

theorem centred_apply (r : Fin 4096) (k : Fin 1024) :
    (centred (F := Ideal) x (ix2 r k) : EReal) = RowMath.cen (fun k => (x (ix2 r k) : EReal)) k := by
  unfold centred
  pointwise
  rw [mean_apply]
  rfl

theorem variance_apply (r : Fin 4096) : (variance (F := Ideal) x (ix2 r 0) : EReal) = RowMath.var fun k => (x (ix2 r k) : EReal) := by
  unfold variance count
  pointwise
  simp only [centred_apply]
  rfl

theorem normed_apply (r : Fin 4096) (k : Fin 1024) :
    (normed (F := Ideal) x (ix2 r k) : EReal) = RowMath.norm (fun k => (x (ix2 r k) : EReal)) k := by
  unfold normed
  pointwise
  rw [centred_apply, variance_apply]
  exact RowMath.norm_mul _ k

theorem modulated_apply (s : FVec Ideal S1x6144 .f32) (r : Fin 4096) (k : Fin 1024) :
    (modulated (F := Ideal) x s (ix2 r k) : EReal)
      = RowMath.shifted (fun k => (x (ix2 r k) : EReal)) (fun j => (s (ix2 0 j) : EReal)) k := by
  unfold modulated alongRows
  pointwise
  rw [normed_apply]
  rfl

theorem hidden_apply (W1 : FVec Ideal S1024x256 .f32) (r : Fin 4096) (j : Fin 256) :
    (hidden (F := Ideal) x W1 (ix2 r j) : EReal) = (∑ k : Fin 1024, (x (ix2 r k) : EReal) * (W1 (ix2 k j) : EReal) : EReal) := by
  unfold hidden
  pointwise

theorem activated_apply (h : FVec Ideal S4096x256 .f32) (r : Fin 4096) (j : Fin 256) :
    (activated (F := Ideal) h (ix2 r j) : EReal) = RowMath.act (h (ix2 r j) : EReal) := by
  unfold activated
  pointwise
  exact RowMath.act_mul _

theorem project_apply (a : FVec Ideal S4096x256 .f32) (W2 : FVec Ideal S256x1024 .f32) (r : Fin 4096) (l : Fin 1024) :
    (project (F := Ideal) a W2 (ix2 r l) : EReal) = (∑ j : Fin 256, (a (ix2 r j) : EReal) * (W2 (ix2 j l) : EReal) : EReal) := by
  unfold project
  pointwise

/-- The device's part at a place: the sum of the feed-forward layer's terms over the device's 256 hidden places. -/
theorem part_apply (t : FVec Ideal S1x128 .f32) (W : FVec Ideal S128x6144 .f32)
    (W1 : FVec Ideal S1024x256 .f32) (W2 : FVec Ideal S256x1024 .f32) (r : Fin 4096) (l : Fin 1024) :
    (part (F := Ideal) x t W W1 W2 (ix2 r l) : EReal)
      = (∑ j : Fin 256, RowMath.term (fun k => (x (ix2 r k) : EReal)) (fun j => (scales (F := Ideal) t W (ix2 0 j) : EReal))
          (fun k => (W1 (ix2 k j) : EReal)) (W2 (ix2 j l) : EReal) : EReal) := by
  unfold part
  rw [project_apply]
  simp only [activated_apply, hidden_apply, modulated_apply]
  rfl

/-- The result at a place: the residual there plus the column's gate times the ring's sum there. -/
theorem gated_apply (v : FVec Ideal S4096x1024 .bf16) (s : FVec Ideal S1x6144 .f32) (r : Fin 4096) (l : Fin 1024) :
    gated (F := Ideal) v x (gate s) (ix3 0 r l)
      = ((x (ix2 r l) : EReal) + (s (ix2 0 ⟨5120 + l.val, by omega⟩) : EReal) * (v (ix2 r l) : EReal) : EReal) := by
  unfold gated alongRows gate
  pointwise

end Values

end Cert.RingHost
-- ==== Proof.RingValue.lean ====
/-
# The ring all-reduce: its value

What the ring leaves, as the sum of the devices' parts over the reals; what the whole second half of the block leaves; and the
claims about it.
-/
module

public import proofs.«01_k».proof.Proof.Gen.RingIdeal
public import proofs.«01_k».proof.Proof.Gen.Ring
public import proofs.«01_k».proof.Proof.RingRun
public import proofs.«01_k».proof.Proof.RingSum
public import proofs.«01_k».proof.Proof.RingHost
public import proofs.«01_k».proof.Defs

@[expose] public section

set_option maxRecDepth 20000

noncomputable section

namespace Cert.RingProof

open Cert.RingIdeal Cert.RingIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : (ℓ : Loc nD τ sig) → Buf (Elt F) ℓ) (ρ : Dev nD → PrngReg)

open Idealize.ShloMosaic.Pipeline (Dat Cfg Window BodyObligation cellOf)

/-! ## What the launch leaves in the result -/

/-- The one block of the result is what the body leaves. -/
theorem finalA_blk (c : Dev nD) :
    (win0_1.blk (0 : Fin 1)).view.read (Elt F) (finalA m ρ c (1 : Fin 2)) = outF m ρ := by
  unfold finalA
  rw [show cfg0.N = ((0 : Fin 1) : Fin cfg0.N).val + 1 from rfl, (dats m ρ 0 c).arrAt_succ (1 : Fin 2) (0 : Fin 1)]
  rw [show (cfg0.win (1 : Fin 2)).flush (0 : Fin 1) = true from by decide, if_pos rfl]
  exact View.read_write_univ _ _

/-- That block is the whole result. -/
theorem finalA_o (c : Dev nD) : finalA m ρ c (1 : Fin 2) = outF m ρ := by
  have hz : (fun a => (win0_1.index (0 : Fin 1)) a * main_v40.ty.shape.size a) = fun _ => 0 := funext fun a => by
    fin_cases a <;> decide
  exact (Memref.read_access_unit_zero (Elt F) main_v40 hz (fun a => by fin_cases a <;> decide) _).symm.trans (finalA_blk m ρ c)

/-- What the body finds in its argument is the device's array. -/
theorem xstg_eq (c : Dev nD) : xstg m ρ c = (s₀ m ρ).mem ((c.tc : Thread nD τ).loc main_v39) := by
  have hz : (fun a => (win0_0.index (0 : Fin 1)) a * main_v39.ty.shape.size a) = fun _ => 0 := funext fun a => by
    fin_cases a <;> decide
  exact Memref.read_access_unit_zero (Elt F) main_v39 hz (fun a => by fin_cases a <;> decide) _

/-- The copy the body makes of it before the ring starts changes nothing. -/
theorem out0_eq (c : Dev nD) : out0 m ρ c = (s₀ m ρ).mem ((c.tc : Thread nD τ).loc main_v39) := by
  rw [← xstg_eq]
  exact funext fun i => congrArg (xstg m ρ c) (Shape.reshapeEquiv_self shapeCasts_S4096x1024_S4096x1024 i)

/-! ## The ring's sum over the reals -/

variable (w : (ℓ : Loc nD τ sig) → Buf (Elt Ideal) ℓ)

/-- Over the reals, what a device sends at step `k` of the reduction is the sum, over the `k + 1` devices the chunk has
    passed, of each device's part of the chunk. -/
theorem val_sum (d : Bool) (i : S128x1024.Idx) : ∀ (k : ℕ) (c : Dev nD), k ≤ 15 →
    val (F := Ideal) w ρ d k c i = ∑ t ∈ Finset.range (k + 1), (xch (F := Ideal) w ρ d (back d c t) (back d c k) i : EReal)
  | 0, c, _ => by
      rw [val_zero, Finset.sum_range_one, back_zero]
  | k + 1, c, h => by
      rw [val_reduce w ρ d c k (by omega), Finset.sum_range_succ', back_zero]
      have ih := val_sum d i k (prv d c) (by omega)
      simp only [back_prv] at ih
      rw [← ih]
      exact add_comm (xch (F := Ideal) w ρ d c (back d c (k + 1)) i : EReal) (val (F := Ideal) w ρ d k (prv d c) i)

/-- A chunk's last sum is over all devices. -/
theorem val_all (d : Bool) (j : Dev nD) (i : S128x1024.Idx) :
    val (F := Ideal) w ρ d 15 (prv d j) i = ∑ e : Dev nD, (xch (F := Ideal) w ρ d e j i : EReal) := by
  have hj : back d (prv d j) 15 = j := by
    rw [back_prv]; exact (back_add16 d j 0).trans (back_zero d j)
  rw [val_sum ρ w d i 15 (prv d j) le_rfl, hj, Finset.sum_range]
  exact Equiv.sum_comp (backE d (prv d j)) fun e => (xch (F := Ideal) w ρ d e j i : EReal)

/-- A place of the result is the place of its chunk its row and column say. -/
theorem emb_inCh (x : S4096x1024.Idx) :
    (chR (chOf (x (0 : Fin 2)).val).1 (chOf (x (0 : Fin 2)).val).2).emb (inCh x) = x := by
  have h0 : (x (0 : Fin 2)).val < 4096 := (x (0 : Fin 2)).isLt
  funext a
  apply Fin.ext
  match a with
  | ⟨0, _⟩ =>
    show ((if decide (2048 ≤ (x (0 : Fin 2)).val) = true then 2048 else 0) + 128 * ((x (0 : Fin 2)).val / 128 % 16)) + 1 * ((x (0 : Fin 2)).val % 128) = (x (0 : Fin 2)).val
    by_cases hr : 2048 ≤ (x (0 : Fin 2)).val
    · rw [if_pos (by simpa using hr)]; omega
    · rw [if_neg (by simpa using hr)]; omega
  | ⟨1, _⟩ =>
    show 0 + 1 * (x (1 : Fin 2)).val = (x (1 : Fin 2)).val
    omega

/-- Over the reals the ring leaves, on every device and at every place, the sum of the devices' arrays there. -/
theorem outF_sum (x : S4096x1024.Idx) :
    @Eq EReal (outF (F := Ideal) w ρ x) (∑ e : Dev nD, (show EReal from w ((e.tc : Thread nD τ).loc main_v39) x)) := by
  have h : ∀ e : Dev nD, @Eq EReal (xch (F := Ideal) w ρ (chOf (x (0 : Fin 2)).val).1 e (chOf (x (0 : Fin 2)).val).2 (inCh x))
      (w ((e.tc : Thread nD τ).loc main_v39) x) := fun e => by
    unfold xch
    rw [emb_inCh, out0_eq]
    rfl
  exact (val_all ρ w _ _ _).trans (congrArg (fun f : Dev nD → EReal => ∑ e, f e) (funext h))

/-! ## The whole second half of the block -/

/-- What the operations before the ring leave in a buffer is read off the memory at the start. -/
theorem mid_loc (c : Dev nD) (b : Ref sig .tc) :
    mid m ((c.tc : Thread nD τ).loc b) = StableHlo.after hostOps0_2 (StableHlo.after hostOps0_1 (StableHlo.after hostOps0 (W0 m c))) (Proc.devRef .tc b) := rfl

/-- What the ring finds on a device is the device's part of the feed-forward layer. -/
theorem mid_v39 (c : Dev nD) : mid m ((c.tc : Thread nD τ).loc main_v39)
    = RingHost.part (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) :=
  (mid_loc m c main_v39).trans (RingHost.before_v39 _)

theorem mid_v7 (c : Dev nD) : mid m ((c.tc : Thread nD τ).loc main_v7)
    = RingHost.gate (RingHost.scales (m ((c.tc : Thread nD τ).loc main_arg1)) (m ((c.tc : Thread nD τ).loc main_arg2))) :=
  (mid_loc m c main_v7).trans (RingHost.before_v7 _)

theorem mid_arg0 (c : Dev nD) : mid m ((c.tc : Thread nD τ).loc main_arg0) = m ((c.tc : Thread nD τ).loc main_arg0) :=
  (mid_loc m c main_arg0).trans (RingHost.before_arg0 _)
theorem mid_arg1 (c : Dev nD) : mid m ((c.tc : Thread nD τ).loc main_arg1) = m ((c.tc : Thread nD τ).loc main_arg1) :=
  (mid_loc m c main_arg1).trans (RingHost.before_arg1 _)
theorem mid_arg2 (c : Dev nD) : mid m ((c.tc : Thread nD τ).loc main_arg2) = m ((c.tc : Thread nD τ).loc main_arg2) :=
  (mid_loc m c main_arg2).trans (RingHost.before_arg2 _)
theorem mid_arg3 (c : Dev nD) : mid m ((c.tc : Thread nD τ).loc main_arg3) = m ((c.tc : Thread nD τ).loc main_arg3) :=
  (mid_loc m c main_arg3).trans (RingHost.before_arg3 _)
theorem mid_arg4 (c : Dev nD) : mid m ((c.tc : Thread nD τ).loc main_arg4) = m ((c.tc : Thread nD τ).loc main_arg4) :=
  (mid_loc m c main_arg4).trans (RingHost.before_arg4 _)

theorem end_arg0 (c : Dev nD) : StableHlo.after hostOps1 (W1 (mid m) ρ c) (Proc.devRef .tc main_arg0) = m ((c.tc : Thread nD τ).loc main_arg0) :=
  (RingHost.opsD_arg0 _).trans ((W1_ref (mid m) ρ c (b := main_arg0) (by decide)).trans (mid_arg0 m c))

theorem end_arg1 (c : Dev nD) : StableHlo.after hostOps1 (W1 (mid m) ρ c) (Proc.devRef .tc main_arg1) = m ((c.tc : Thread nD τ).loc main_arg1) :=
  (RingHost.opsD_arg1 _).trans ((W1_ref (mid m) ρ c (b := main_arg1) (by decide)).trans (mid_arg1 m c))

theorem end_arg2 (c : Dev nD) : StableHlo.after hostOps1 (W1 (mid m) ρ c) (Proc.devRef .tc main_arg2) = m ((c.tc : Thread nD τ).loc main_arg2) :=
  (RingHost.opsD_arg2 _).trans ((W1_ref (mid m) ρ c (b := main_arg2) (by decide)).trans (mid_arg2 m c))

theorem end_arg3 (c : Dev nD) : StableHlo.after hostOps1 (W1 (mid m) ρ c) (Proc.devRef .tc main_arg3) = m ((c.tc : Thread nD τ).loc main_arg3) :=
  (RingHost.opsD_arg3 _).trans ((W1_ref (mid m) ρ c (b := main_arg3) (by decide)).trans (mid_arg3 m c))

theorem end_arg4 (c : Dev nD) : StableHlo.after hostOps1 (W1 (mid m) ρ c) (Proc.devRef .tc main_arg4) = m ((c.tc : Thread nD τ).loc main_arg4) :=
  (RingHost.opsD_arg4 _).trans ((W1_ref (mid m) ρ c (b := main_arg4) (by decide)).trans (mid_arg4 m c))

/-- What a device's result holds at the end. -/
def final (c : Dev nD) : FVec F S1x4096x1024 .f32 :=
  RingHost.gated (outF (mid m) ρ) (m ((c.tc : Thread nD τ).loc main_arg0))
    (RingHost.gate (RingHost.scales (m ((c.tc : Thread nD τ).loc main_arg1)) (m ((c.tc : Thread nD τ).loc main_arg2))))

theorem end_out (c : Dev nD) : StableHlo.after hostOps1 (W1 (mid m) ρ c) (Proc.devRef .tc main_v45) = final m ρ c := by
  have e1 : W1 (mid m) ρ c (Proc.devRef .tc main_v40) = outF (mid m) ρ := (W1_o (mid m) ρ c).trans (finalA_o (mid m) ρ c)
  have k0 := (W1_ref (mid m) ρ c (b := main_arg0) (by decide)).trans (mid_arg0 m c)
  have k7 := (W1_ref (mid m) ρ c (b := main_v7) (by decide)).trans (mid_v7 m c)
  exact (RingHost.opsD_v45 _).trans (congr (congr (congrArg RingHost.gated e1) k0) k7)

/-- For any floats: the run ends with every device's result `final`, every argument as it was and every semaphore counter at zero. -/
theorem run_all : θ_run (defs (F := F)) (onTc (τ := τ) (main (F := F))) (s₀ m ρ) (fun r =>
    (∀ c : Dev nD, r.2.mem ((c.tc : Thread nD τ).loc main_v45) = final m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun r h => ⟨fun c => ⟨(h.1 c main_v45 rfl).trans (end_out m ρ c), (h.1 c main_arg0 rfl).trans (end_arg0 m ρ c), (h.1 c main_arg1 rfl).trans (end_arg1 m ρ c), (h.1 c main_arg2 rfl).trans (end_arg2 m ρ c), (h.1 c main_arg3 rfl).trans (end_arg3 m ρ c), (h.1 c main_arg4 rfl).trans (end_arg4 m ρ c)⟩, h.2⟩) (run_main m ρ)

/-! ## The claims -/

/-- What the frames say of the final state. -/
abbrev argsKept (r : PUnit × MemSt nD τ sig (Elt F)) : Prop :=
  (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0

/-- The ring's program runs over any floats, keeps its arguments and leaves every semaphore counter at zero. -/
theorem frame_any : θ_run (defs (F := F)) (onTc (τ := τ) (main (F := F))) (s₀ m ρ) (argsKept m) :=
  (θ_run defs _ _).mono (fun _ h => ⟨fun c => (h.1 c).2, h.2⟩) (run_all m ρ)

/-- The claim of the ring read over the reals; -/
theorem frame_ring_ideal : Cert.quiescent_RingIdeal := fun m ρ _ => frame_any (F := Ideal) m ρ

/-! The same program is printed twice, once to be read over the machine's floats and once over the reals. -/

theorem body_same : Cert.Ring.cc0_body (F := F) = cc0_body (F := F) := rfl

theorem defs₀_same : Cert.Ring.defs₀ (F := F) = defs₀ (F := F) :=
  congrArg Defs.onTc (funext fun ℓ => funext fun x => by
    match ℓ, x with
    | ⟨0, _⟩, (t, s) => rfl
    | ⟨_ + 1, h⟩, _ => exact absurd h (Nat.not_lt.2 (Nat.le_add_left _ _)))

theorem defs_same : Cert.Ring.defs (F := F) = defs (F := F) := congrArg (Pipeline.defs pcfgs) defs₀_same

set_option maxHeartbeats 4000000 in
/-- The claim of the ring over the machine's floats. -/
theorem frame_ring : Cert.quiescent_Ring := fun m ρ _ =>
  Eq.mpr (congrArg (fun D => θ_run D (onTc (τ := τ) (main (F := Bits))) (s₀ m ρ) (argsKept (F := Bits) m)) (defs_same (F := Bits)))
    (frame_any (F := Bits) m ρ)

/-- A device's part of the feed-forward layer, made of its blocks of the two weights, is the sum of the layer's terms over the device's
    stretch of the hidden places. -/
theorem part_block (x : FVec Ideal S4096x1024 .f32) (t : FVec Ideal S1x128 .f32) (W : FVec Ideal S128x6144 .f32)
    (W1 : FVec Ideal ⟨2, ![1024, 4096]⟩ .f32) (W2 : FVec Ideal ⟨2, ![4096, 1024]⟩ .f32) (e : Fin 16) (r : Fin 4096) (l : Fin 1024) :
    (RingHost.part (F := Ideal) x t W (Layout.block ⟨2, ![1024, 256]⟩ ⟨2, ![1024, 4096]⟩ 1 16 e W1 (by decide))
        (Layout.block ⟨2, ![256, 1024]⟩ ⟨2, ![4096, 1024]⟩ 0 16 e W2 (by decide)) (ix2 r l) : EReal)
      = (∑ j : Fin 256, RowMath.term (fun k => (x (ix2 r k) : EReal)) (fun j => (RingHost.scales (F := Ideal) t W (ix2 0 j) : EReal))
          (fun k => (W1 (ix2 k ⟨e.val * 256 + j.val, by omega⟩) : EReal)) (W2 (ix2 ⟨e.val * 256 + j.val, by omega⟩ l) : EReal) : EReal) := by
  rw [RingHost.part_apply]
  refine Finset.sum_congr rfl fun j _ => ?_
  have h2 : Layout.block ⟨2, ![256, 1024]⟩ ⟨2, ![4096, 1024]⟩ 0 16 e W2 (by decide) (ix2 j l) = W2 (ix2 ⟨e.val * 256 + j.val, by omega⟩ l) := by
    rw [Layout.block_apply]
    congr 1
    funext a
    match a with
    | ⟨0, _⟩ => exact Fin.ext rfl
    | ⟨1, _⟩ => exact Fin.ext rfl
  have h1 : ∀ k : Fin 1024, Layout.block ⟨2, ![1024, 256]⟩ ⟨2, ![1024, 4096]⟩ 1 16 e W1 (by decide) (ix2 k j) = W1 (ix2 k ⟨e.val * 256 + j.val, by omega⟩) := fun k => by
    rw [Layout.block_apply]
    congr 1
    funext a
    match a with
    | ⟨0, _⟩ => exact Fin.ext rfl
    | ⟨1, _⟩ => exact Fin.ext rfl
  exact congr (congrArg (RowMath.term _ _) (funext h1)) h2

/-- The two programs cut the scales and shifts out of the same product. -/
theorem scales_same (t : FVec Ideal S1x128 .f32) (W : FVec Ideal S128x6144 .f32) (k : Fin 6144) :
    (RingHost.scales (F := Ideal) t W (ix2 0 k) : EReal) = RingSum.scales (F := Ideal) t W (ix2 0 k) := rfl

set_option maxRecDepth 1000000 in
/-- Over the reals the program leaves on every device the residual plus the gate times the whole feed-forward layer, which is the
    reference's result. -/
theorem ring_value : Cert.algebraic_RingIdeal_RefSumIdeal := by
  intro w ρ w' ρ' _ hagree
  have hval (c : Dev nD) : (final (F := Ideal) w ρ c : FVec Ideal S1x4096x1024 .f32)
      = Cert.RingSum.total (F := Ideal) (w' (((0 : Dev Cert.RefSumIdeal.nD).tc : Thread Cert.RefSumIdeal.nD Cert.RefSumIdeal.τ).loc Cert.RefSumIdeal.main_arg0))
        (w' (((0 : Dev Cert.RefSumIdeal.nD).tc : Thread Cert.RefSumIdeal.nD Cert.RefSumIdeal.τ).loc Cert.RefSumIdeal.main_arg1))
        (w' (((0 : Dev Cert.RefSumIdeal.nD).tc : Thread Cert.RefSumIdeal.nD Cert.RefSumIdeal.τ).loc Cert.RefSumIdeal.main_arg2))
        (w' (((0 : Dev Cert.RefSumIdeal.nD).tc : Thread Cert.RefSumIdeal.nD Cert.RefSumIdeal.τ).loc Cert.RefSumIdeal.main_arg3))
        (w' (((0 : Dev Cert.RefSumIdeal.nD).tc : Thread Cert.RefSumIdeal.nD Cert.RefSumIdeal.τ).loc Cert.RefSumIdeal.main_arg4)) := by
    have key : ∀ a b s t : EReal, s = t → a + b * s = a + b * t := fun _ _ _ _ h => h ▸ rfl
    obtain ⟨h0, h1, h2, -, -⟩ := hagree c
    unfold final
    rw [h0, h1, h2]
    funext i
    obtain ⟨r, l, rfl⟩ : ∃ (r : Fin 4096) (l : Fin 1024), i = ix3 0 r l := by
      refine ⟨i 1, i 2, ?_⟩
      have h0 : (show Fin 1 from i 0) = 0 := Subsingleton.elim _ _
      exact (ix3_eta i).symm.trans (congrArg (fun a : Fin 1 => ix3 a (i 1) (i 2)) h0)
    refine (RingHost.gated_apply _ _ _ r l).trans (Eq.trans ?_ (Cert.RingSum.total_apply _ _ _ _ _ r l).symm)
    refine key _ _ _ _ ((outF_sum ρ (mid w) (ix2 r l)).trans (congrArg (fun f : Dev nD → EReal => ∑ e, f e) (funext fun e => ?_)))
    obtain ⟨g0, g1, g2, g3, g4⟩ := hagree e
    refine (congrFun (mid_v39 w e) (ix2 r l)).trans ?_
    rw [g0, g1, g2, g3, g4]
    exact part_block _ _ _ _ _ e r l
  refine ⟨_, ?_, (θ_run Cert.RefSumIdeal.defs _ _).mono (fun _ h => h 0) (Cert.RingSum.run w' ρ')⟩
  exact (θ_run Cert.RingIdeal.defs _ _).mono (fun _ h c => ⟨((h.1 c).1).trans (hval c), (h.1 c).2⟩) (run_all (F := Ideal) w ρ)

end Cert.RingProof
-- ==== Proof.HalfProto.lean ====
/-
# The first half's ring all-reduce: cells, landing areas, contents and schedule

Two rings run at once, one per half of the rows: direction `false` passes chunks to the next device, direction `true`
to the previous one. Step `k` (`k < 30`) of either ring does the same on every device `c`: it sends the chunk `back d c k`
(the chunk `k` places behind `c` against the direction of travel) and receives the chunk `back d c (k + 1)`. The first
fifteen steps reduce (a chunk lands in one of two scratch slots and is added), the last fifteen gather (a finished chunk
lands directly in the receiver's result).
-/
module

public import proofs.«01_k».proof.Defs
public import proofs.«01_k».proof.Proof.Gen.HalfIdeal
public import proofs.«01_k».proof.Proof.Gen.HalfIdeal.Skeleton
public import proofs.«01_k».proof.Proof.Gen.HalfIdeal.Launch
public import Idealize.ShloMosaic.Lib.Pipeline.Launch
public import Idealize.ShloMosaic.Lib.Pipeline.Kit
public import Idealize.ShloMosaic.Lib.Release
public import Idealize.ShloMosaic.Lib.Tactic

@[expose] public section

noncomputable section

namespace Cert.HalfProof

open Cert.HalfIdeal Cert.HalfIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Devices and chunks -/

/-- The device (or chunk) `n` places behind `c`, against the direction of travel. -/
def back (d : Bool) (c : Dev nD) (n : ℕ) : Dev nD :=
  ⟨(c.val + (if d then n else 15 * n)) % 16, Nat.mod_lt _ (by decide)⟩

/-- The device that `c` receives from. -/
abbrev prv (d : Bool) (c : Dev nD) : Dev nD := back d c 1
/-- The device that `c` sends to. -/
abbrev nxt (d : Bool) (c : Dev nD) : Dev nD := back (!d) c 1

theorem back_val (d : Bool) (c : Dev nD) (n : ℕ) : (back d c n).val = (c.val + (if d then n else 15 * n)) % 16 := rfl

theorem prv_nxt (d : Bool) (c : Dev nD) : prv d (nxt d c) = c := by revert d c; decide
theorem nxt_prv (d : Bool) (c : Dev nD) : nxt d (prv d c) = c := by revert d c; decide

theorem back_zero (d : Bool) (c : Dev nD) : back d c 0 = c := by revert d c; decide

theorem back_back (d : Bool) (c : Dev nD) (m n : ℕ) : back d (back d c m) n = back d c (m + n) := by
  apply Fin.ext; rw [back_val, back_val, back_val]; cases d <;> simp <;> omega

theorem back_prv (d : Bool) (c : Dev nD) (n : ℕ) : back d (prv d c) n = back d c (n + 1) := by
  rw [back_back, Nat.add_comm]

/-- What `c` sends at a step, the device it sends to receives at that step. -/
theorem back_nxt (d : Bool) (c : Dev nD) (n : ℕ) : back d (nxt d c) (n + 1) = back d c n := by
  have h := back_prv d (nxt d c) n
  rw [prv_nxt] at h; exact h.symm

theorem back_mod (d : Bool) (c : Dev nD) (n : ℕ) : back d c (n % 16) = back d c n := by
  apply Fin.ext; rw [back_val, back_val]; cases d <;> simp <;> omega

theorem back_add16 (d : Bool) (c : Dev nD) (n : ℕ) : back d c (n + 16) = back d c n := by
  rw [← back_mod d c (n + 16), Nat.add_mod_right, back_mod]

/-- The places behind `c` enumerate the chunks. -/
def backE (d : Bool) (c : Dev nD) : Fin 16 ≃ Dev nD :=
  Equiv.ofBijective (fun i : Fin 16 => back d c i.val) (by
    rw [Fintype.bijective_iff_injective_and_card]
    refine ⟨fun i j h => ?_, rfl⟩
    have h' := congrArg Fin.val h
    simp only [back_val] at h'
    apply Fin.ext
    have hi := i.isLt; have hj := j.isLt
    cases d <;> simp at h' <;> omega)

/-! ## Memrefs and semaphores -/

abbrev xM : Memref sig .tc .vmem S4096x1024 .bf16 := Memref.whole cc0_stg0_0
abbrev oM : Memref sig .tc .vmem S4096x1024 .bf16 := Memref.whole cc0_stg1_0
/-- A ring's two landing slots. -/
abbrev comM (d : Bool) : Memref sig .tc .vmem S2x128x1024 .bf16 :=
  match d with | false => Memref.whole cc0_scratch0 | true => Memref.whole cc0_scratch1

/-- Where a ring's chunk `j` starts in the result. -/
def choff (d : Bool) (j : Dev nD) : Fin 2 → Nat := ![(if d then 2048 else 0) + 128 * j.val, 0]

theorem choff_inb (d : Bool) (j : Dev nD) : ∀ a, choff d j a + S128x1024.size a ≤ S4096x1024.size a := by
  revert d j; decide +kernel

abbrev chR (d : Bool) (j : Dev nD) : Rect S4096x1024 := Rect.unit (s := S4096x1024) (choff d j) S128x1024.size (choff_inb d j)
/-- A ring's chunk `j` of the result. -/
abbrev chM (d : Bool) (j : Dev nD) : Memref sig .tc .vmem S128x1024 .bf16 := oM.slice (chR d j) (fun _ => rfl)

/-- A ring's landing slot as a chunk, for either parity. -/
abbrev slM (d : Bool) (s : Fin 2) : Memref sig .tc .vmem S128x1024 .bf16 :=
  match s with
  | 0 => ((comM d).slice (Rect.unit (s := S2x128x1024) ![0, 0, 0] S1x128x1024.size inb_S2x128x1024_S1x128x1024_0_0_0) (fun _ => rfl)).squeeze
      S128x1024 squeezes_S1x128x1024_S128x1024
  | 1 => ((comM d).slice (Rect.unit (s := S2x128x1024) ![1, 0, 0] S1x128x1024.size inb_S2x128x1024_S1x128x1024_1_0_0) (fun _ => rfl)).squeeze
      S128x1024 squeezes_S1x128x1024_S128x1024

/-- The parity of a step. -/
def par (k : ℕ) : Fin 2 := ⟨k % 2, Nat.mod_lt _ (by decide)⟩

theorem par_add_two (k : ℕ) : par (k + 2) = par k := Fin.ext (Nat.add_mod_right k 2)

/-- Where step `k`'s chunk lands on device `r`: a scratch slot while reducing, the result while gathering. -/
def landM (d : Bool) (r : Dev nD) (k : ℕ) : Memref sig .tc .vmem S128x1024 .bf16 :=
  if k < 15 then slM d (par k) else chM d (back d r (k + 1))

/-- The two semaphores of a two-element semaphore array. -/
abbrev pick (A : DmaSems sig S2) (s : Fin 2) : DmaSem sig :=
  match s with
  | 0 => ((A.slice (Rect.unit (s := S2) ![0] S1.size inb_S2_S1_0)).squeeze S_ squeezes_S1_S_).sem
  | 1 => ((A.slice (Rect.unit (s := S2) ![1] S1.size inb_S2_S1_1)).squeeze S_ squeezes_S1_S_).sem

abbrev sendS (d : Bool) (s : Fin 2) : DmaSem sig := pick (match d with | false => cc0_scratch2 | true => cc0_scratch4) s
abbrev recvS (d : Bool) (s : Fin 2) : DmaSem sig := pick (match d with | false => cc0_scratch3 | true => cc0_scratch5) s
abbrev credS (d : Bool) : Sem sig := match d with | false => (cc0_scratch6 : Sems sig S_).sem | true => (cc0_scratch7 : Sems sig S_).sem
abbrev barS : Sem sig := (SemArray.scalar (sig.barrier 0 rfl) : Sems sig S_).sem

/-- The cells of a device: its barrier, and per ring two send cells, two receive cells and a credit cell. -/
inductive CK : Type
  | bar : CK
  | send (d : Bool) (s : Fin 2) : CK
  | recv (d : Bool) (s : Fin 2) : CK
  | cred (d : Bool) : CK
  deriving DecidableEq

/-- The cells listed. -/
def ckE : Fin 11 → CK
  | 0 => .bar
  | 1 => .send false 0 | 2 => .send false 1 | 3 => .recv false 0 | 4 => .recv false 1
  | 5 => .send true 0 | 6 => .send true 1 | 7 => .recv true 0 | 8 => .recv true 1
  | 9 => .cred false | 10 => .cred true

theorem ckE_surj (k : CK) : ∃ i, ckE i = k := by
  rcases k with _ | ⟨d, s⟩ | ⟨d, s⟩ | d
  · exact ⟨0, rfl⟩
  · cases d <;> fin_cases s
    exacts [⟨1, rfl⟩, ⟨2, rfl⟩, ⟨5, rfl⟩, ⟨6, rfl⟩]
  · cases d <;> fin_cases s
    exacts [⟨3, rfl⟩, ⟨4, rfl⟩, ⟨7, rfl⟩, ⟨8, rfl⟩]
  · cases d
    exacts [⟨9, rfl⟩, ⟨10, rfl⟩]

abbrev csem : CK → SemLoc sig
  | .bar => .reg barS
  | .send d s => .dma (sendS d s)
  | .recv d s => .dma (recvS d s)
  | .cred d => .reg (credS d)

theorem csem_ckE_inj : Function.Injective fun i => csem (ckE i) := by decide

theorem ckE_inj : Function.Injective ckE := fun i j h => csem_ckE_inj (congrArg csem h)

theorem csem_inj : Function.Injective csem := fun a b h => by
  obtain ⟨i, rfl⟩ := ckE_surj a
  obtain ⟨j, rfl⟩ := ckE_surj b
  exact congrArg ckE (csem_ckE_inj h)

open Classical in
/-- Which of the ring's cells a semaphore is. -/
def kindOf (sm : SemLoc sig) : Option CK := if h : ∃ k, csem k = sm then some h.choose else none

theorem kindOf_csem (k : CK) : kindOf (csem k) = some k := by
  have h : ∃ k', csem k' = csem k := ⟨k, rfl⟩
  unfold kindOf
  rw [dif_pos h]
  exact congrArg some (csem_inj h.choose_spec)

theorem kindOf_eq_some {sm : SemLoc sig} {k : CK} (h : kindOf sm = some k) : sm = csem k := by
  unfold kindOf at h
  split at h
  · rename_i hx; rw [← Option.some.inj h]; exact hx.choose_spec.symm
  · cases h

/-- Device `c`'s cell of kind `k`. -/
abbrev cell (c : Dev nD) (k : CK) : GSem nD τ sig := ((c : Thread nD τ), csem k)

abbrev N : ℕ := (chM false 0).view.dmaCredit
theorem N_pos : 0 < N := View.dmaCredit_pos _ (by decide)

end Cert.HalfProof
-- ==== Proof.HalfSched.lean ====
/-
# The first half's ring all-reduce: contents, payloads, schedule, dues and levels
-/
module

public import proofs.«01_k».proof.Proof.HalfProto

@[expose] public section

noncomputable section

namespace Cert.HalfProof

open Cert.HalfIdeal Cert.HalfIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

/-! ## The resource algebra -/

/-- A landing area: its device, its ring, its step. -/
abbrev Key : Type := Dev nD × Bool × ℕ
abbrev UB : Type := URounds (GSem nD τ sig) ℕ
abbrev UV : Type := UB × USlots Key
abbrev UU : Type := UR sig nD τ × UV

local notation "𝕄" => MT nD τ sig ℕ (Elt F) ℕ UU ℕ

abbrev EP : Emb (UR sig nD τ) (MT nD τ sig ℕ (Elt F) ℕ UU ℕ) := embL
abbrev EV : Emb UV (MT nD τ sig ℕ (Elt F) ℕ UU ℕ) := embR
abbrev ER : Emb UB (MT nD τ sig ℕ (Elt F) ℕ UU ℕ) := (Emb.inl : Emb UB (UV)).trans EV
abbrev ES : Emb (USlots Key) (MT nD τ sig ℕ (Elt F) ℕ UU ℕ) := (Emb.inr : Emb (USlots Key) (UV)).trans EV

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Contents -/

abbrev Chunk (F : FTy → Type) [FloatOps F] : Type := Vec F S128x1024 .bf16

/-- Device `c`'s block of the input, as staged. -/
def xstg (c : Dev nD) : (cc0_stg0_0 : Ref sig .tc).ty.Contents (Elt F) :=
  (win0_0.blk (0 : Fin 1)).view.read (Elt F) ((s₀ m ρ).mem ((c : Thread nD τ).loc main_v11))

/-- The result buffer after the first store: the device's own block. -/
def out0 (c : Dev nD) : (cc0_stg1_0 : Ref sig .tc).ty.Contents (Elt F) := k0_pay1 (xstg m ρ c)

/-- A ring's chunk `j` of device `c`'s own block. -/
def xch (d : Bool) (c j : Dev nD) : Chunk F := fun i => out0 m ρ c ((chR d j).emb i)

/-- What device `c` sends at step `k`: while reducing its own part of the chunk plus what it received the step before,
    while gathering what it received the step before. -/
def val (d : Bool) : ℕ → Dev nD → Chunk F
  | 0, c => xch m ρ d c (back d c 0)
  | k + 1, c => if k < 15 then addf (xch m ρ d c (back d c (k + 1))) (val d k (prv d c)) else val d k (prv d c)

theorem val_zero (d : Bool) (c : Dev nD) : val m ρ d 0 c = xch m ρ d c (back d c 0) := rfl
theorem val_reduce (d : Bool) (c : Dev nD) (k : ℕ) (h : k < 15) :
    val m ρ d (k + 1) c = addf (xch m ρ d c (back d c (k + 1))) (val m ρ d k (prv d c)) := if_pos h
theorem val_gather (d : Bool) (c : Dev nD) (k : ℕ) (h : ¬ k < 15) : val m ρ d (k + 1) c = val m ρ d k (prv d c) := if_neg h

/-- What the chunk `i` places behind `c` holds on `c` before step `k`. -/
def cont (d : Bool) (c : Dev nD) (k i : ℕ) : Chunk F :=
  if 16 + i ≤ k then val m ρ d (16 + i) c else if i ≤ k then val m ρ d i c else xch m ρ d c (back d c i)

/-! ## Payloads -/

/-- Device `r` has opened its credit cell for the other ring, whose credits its receiver on this ring returns; it has
    released the landing areas of its first `n` steps, and has reached their receive rounds. -/
def rel (d : Bool) (r : Dev nD) (n : ℕ) : sProp 𝕄 :=
  iprop(reached ER (cell r (.cred (!d))) 0
    ∗ bigSep (Finset.range n) fun k => iprop(released ES (r, d, k) 1 ∗ reached ER (cell r (.recv d (par k))) (k / 2)))

instance rel_persistent (d : Bool) (r : Dev nD) (n : ℕ) : BI.Persistent (rel (F := F) d r n) := by unfold rel; infer_instance
instance rel_storable (d : Bool) (r : Dev nD) (n : ℕ) : BI.Storable (upEmb : UEmb _ 𝕄) (rel (F := F) d r n) := by
  unfold rel; infer_instance

/-- A landing area, whatever it holds. -/
def area (d : Bool) (r : Dev nD) (k : ℕ) : sProp 𝕄 := iprop(∃ v : Chunk F, ownsTc r (landM d r k) fullShare v)
instance area_storable (d : Bool) (r : Dev nD) (k : ℕ) : BI.Storable (upEmb : UEmb _ 𝕄) (area (F := F) d r k) := by
  unfold area; infer_instance

/-- The chunk device `c` sends at step `k`, holding what it sends: what the send's completion gives back. -/
def sendPay (d : Bool) (c : Dev nD) (k : ℕ) : sProp 𝕄 := ownsTc c (chM d (back d c k)) fullShare (val m ρ d k c)
/-- Device `c`'s landing area of step `k`, holding what its sender sent. -/
def recvPay (d : Bool) (c : Dev nD) (k : ℕ) : sProp 𝕄 := ownsTc c (landM d c k) fullShare (val m ρ d k (prv d c))
instance sendPay_storable (d : Bool) (c : Dev nD) (k : ℕ) : BI.Storable (upEmb : UEmb _ 𝕄) (sendPay (F := F) m ρ d c k) := by
  unfold sendPay; infer_instance
instance recvPay_storable (d : Bool) (c : Dev nD) (k : ℕ) : BI.Storable (upEmb : UEmb _ 𝕄) (recvPay (F := F) m ρ d c k) := by
  unfold recvPay; infer_instance

def dutiesK (r : ℕ) : CK → Finset ℕ
  | .bar => if r = 0 then {0, 1} else ∅
  | .send _ _ => if r < 15 then {0} else ∅
  | .recv _ _ => if r < 15 then {0} else ∅
  | .cred _ => if r = 0 then Finset.range 30 else ∅

def amountK : CK → ℕ
  | .bar => 1
  | .send _ _ => N
  | .recv _ _ => N
  | .cred _ => 1

theorem amountK_pos (k : CK) : 0 < amountK k := by
  cases k
  exacts [Nat.one_pos, N_pos, N_pos, Nat.one_pos]

def payloadK (c : Dev nD) (r δ : ℕ) : CK → sProp 𝕄
  | .bar => if δ = 0 then rel false (nxt false c) 2 else rel true (nxt true c) 2
  | .send d s => sendPay m ρ d c (2 * r + s.val)
  | .recv d s => recvPay m ρ d c (2 * r + s.val)
  | .cred d => rel d (nxt d c) (min (δ + 3) 30)

instance payloadK_storable (c : Dev nD) (r δ : ℕ) (k : CK) : BI.Storable (upEmb : UEmb _ 𝕄) (payloadK (F := F) m ρ c r δ k) := by
  cases k <;> unfold payloadK
  · dsimp only; split <;> infer_instance
  all_goals dsimp only; infer_instance

/-- The schedule: a barrier cell has one round with a unit from each neighbour; a send or receive cell fifteen rounds of
    one chunk's credit; a credit cell one round of thirty units, one for each step of the receiver. -/
def ringRd : Rounds.Schedule (GSem nD τ sig) ℕ 𝕄 where
  duties g r := if g.1.2 = .tc then (match kindOf g.2 with | some k => dutiesK r k | none => ∅) else ∅
  unitless _ := False
  amount g _ _ := match kindOf g.2 with | some k => amountK k | none => 1
  payload g r δ := match kindOf g.2 with | some k => payloadK m ρ g.1.1 r δ k | none => iprop(emp)
  amount_pos g _ _ _ := by
    cases kindOf g.2 with
    | none => exact Nat.one_pos
    | some k => exact amountK_pos k

instance ringRd_payload_storable (g : GSem nD τ sig) (r δ : ℕ) :
    BI.Storable (upEmb : UEmb _ 𝕄) ((ringRd (F := F) m ρ).payload g r δ) := by
  unfold ringRd; dsimp only
  split <;> infer_instance

theorem duties_cell (c : Dev nD) (k : CK) (r : ℕ) : (ringRd (F := F) m ρ).duties (cell c k) r = dutiesK r k := by
  unfold ringRd; dsimp only [cell]; rw [kindOf_csem]; exact if_pos rfl
theorem amount_cell (c : Dev nD) (k : CK) (r δ : ℕ) : (ringRd (F := F) m ρ).amount (cell c k) r δ = amountK k := by
  unfold ringRd; dsimp only [cell]; rw [kindOf_csem]
theorem payload_cell (c : Dev nD) (k : CK) (r δ : ℕ) : (ringRd (F := F) m ρ).payload (cell c k) r δ = payloadK m ρ c r δ k := by
  unfold ringRd; dsimp only [cell]; rw [kindOf_csem]
theorem expect_cell (c : Dev nD) (k : CK) (r : ℕ) : (ringRd (F := F) m ρ).expect (cell c k) r = (dutiesK r k).card * amountK k := by
  unfold Schedule.expect Schedule.amountOf
  rw [duties_cell, Finset.sum_congr rfl fun δ _ => amount_cell m ρ c k r δ, Finset.sum_const, smul_eq_mul]

theorem duties_done (c : Dev nD) (k : CK) (R : ℕ) (hR : (match k with | .send _ _ => 15 | .recv _ _ => 15 | _ => 1) ≤ R) :
    ∀ r, R ≤ r → (ringRd (F := F) m ρ).duties (cell c k) r = ∅ := fun r hr => by
  rw [duties_cell]
  cases k <;> simp only at hR <;> unfold dutiesK <;> simp only <;> exact if_neg (by omega)

/-! ## Dues and levels -/

/-- The payments of a core after its barrier signals, in the order it makes them: at step `i / 4` the chunk it sends on
    either ring, then the credit it returns on either ring. -/
def pay (c : Dev nD) (i : ℕ) : CellTallies nD τ sig ℕ :=
  if i % 4 = 0 then tallyAt (cell (nxt false c) (.recv false (par (i / 4)))) (i / 4) N
  else if i % 4 = 1 then tallyAt (cell (nxt true c) (.recv true (par (i / 4)))) (i / 4) N
  else if i % 4 = 2 then tallyAt (cell (prv false c) (.cred false)) (i / 4) 1
  else tallyAt (cell (prv true c) (.cred true)) (i / 4) 1

/-- What a core owes once it has made `q` of them. -/
def due (c : Dev nD) (q : ℕ) : CellTallies nD τ sig ℕ := ∑ i ∈ Finset.Ico q 120, pay c i

theorem due_step (c : Dev nD) (q : ℕ) (h : q < 120) : due c q = due c (q + 1) + pay c q := by
  unfold due; rw [Finset.sum_eq_sum_Ico_succ_bot h, add_comm]

theorem due_end (c : Dev nD) : due c 120 = 0 := by unfold due; simp

/-- After the signal to the previous device only the one to the next is owed, and the ring's. -/
def O₁ (c : Dev nD) : CellTallies nD τ sig ℕ := due c 0 + tallyAt (cell (nxt false c) .bar) 0 1
def O₀ (c : Dev nD) : CellTallies nD τ sig ℕ := O₁ c + tallyAt (cell (prv false c) .bar) 0 1

def L (g : GSem nD τ sig) : Finset ℕ := if g.1.2 = .tc then Finset.range 30 else ∅

def lvK (ι : ℕ) : CK → ℕ
  | .bar => 1
  | .send _ _ => 0
  | .recv _ _ => 2 * ι + 2
  | .cred _ => 2 * ι + 3

/-- A receive cell's step `k` is below the credit of that step, which is below the next step's receives; the barrier is
    below them all, everything else at the bottom. -/
def lv (g : GSem nD τ sig) (ι : ℕ) : ℕ := match kindOf g.2 with | some k => lvK ι k | none => 0

theorem lv_cell (c : Dev nD) (k : CK) (ι : ℕ) : lv (cell c k) ι = lvK ι k := by unfold lv; dsimp only [cell]; rw [kindOf_csem]

theorem L_of_ne (g : GSem nD τ sig) (h : g.1.2 ≠ .tc) : L g = ∅ := if_neg h
theorem L_tc (c : Dev nD) (sm : SemLoc sig) : L ((c : Thread nD τ), sm) = Finset.range 30 := if_pos rfl

/-- Which cell and step a payment is for, and its level. -/
theorem pay_pos {c : Dev nD} {i : ℕ} {g : GSem nD τ sig} {ι : ℕ} (h : 0 < pay c i g ι) :
    (∃ e k, g = cell e k) ∧ ι = i / 4 ∧ lv g ι = 2 * (i / 4) + (if i % 4 < 2 then 2 else 3) := by
  have key {e : Dev nD} {k : CK} {n : ℕ} (h : 0 < tallyAt (cell e k) (i / 4) n g ι) : g = cell e k ∧ ι = i / 4 := by
    rw [tallyAt_apply] at h
    by_contra hn
    rw [if_neg hn] at h
    exact Nat.lt_irrefl 0 h
  unfold pay at h
  split at h
  · obtain ⟨rfl, rfl⟩ := key h
    refine ⟨⟨_, _, rfl⟩, rfl, ?_⟩
    rw [lv_cell, if_pos (by omega)]; rfl
  · split at h
    · obtain ⟨rfl, rfl⟩ := key h
      refine ⟨⟨_, _, rfl⟩, rfl, ?_⟩
      rw [lv_cell, if_pos (by omega)]; rfl
    · split at h
      · obtain ⟨rfl, rfl⟩ := key h
        refine ⟨⟨_, _, rfl⟩, rfl, ?_⟩
        rw [lv_cell, if_neg (by omega)]; rfl
      · obtain ⟨rfl, rfl⟩ := key h
        refine ⟨⟨_, _, rfl⟩, rfl, ?_⟩
        rw [lv_cell, if_neg (by omega)]; rfl

theorem due_pos {c : Dev nD} {q : ℕ} {g : GSem nD τ sig} {ι : ℕ} (h : 0 < due c q g ι) :
    ∃ i, q ≤ i ∧ i < 120 ∧ 0 < pay c i g ι := by
  unfold due at h
  rw [Finset.sum_apply, Finsupp.finset_sum_apply] at h
  obtain ⟨i, hi, hp⟩ := Finset.exists_ne_zero_of_sum_ne_zero (Nat.pos_iff_ne_zero.mp h)
  rw [Finset.mem_Ico] at hi
  exact ⟨i, hi.1, hi.2, Nat.pos_of_ne_zero hp⟩

/-- A wait at step index `ι < 30` of one of the core's own semaphores is allowed when everything still owed is above it. -/
theorem mayWait_due (c : Dev nD) (sm : SemLoc sig) (ι q : ℕ) (hι : ι < 30)
    (hlv : ∀ i, q ≤ i → i < 120 → lv ((c : Thread nD τ), sm) ι < 2 * (i / 4) + (if i % 4 < 2 then 2 else 3)) :
    (levAts L lv : sProp 𝕄) ⊢ MayWait (c : Thread nD τ) sm ι (due c q) := by
  by_cases hq : q < 120
  · refine MayOwe.of_cut (L := L) (lev := lv) (lv ((c : Thread nD τ), sm) ι)
      (fun p hp => by rw [Finset.mem_singleton.mp hp, L_tc]; exact Finset.mem_range.mpr hι)
      (fun g u hg => by
        obtain ⟨i, hqi, hi, hp⟩ := due_pos hg
        obtain ⟨⟨e, k, rfl⟩, rfl, -⟩ := pay_pos hp
        rw [L_tc]; exact Finset.mem_range.mpr (by omega))
      (fun p hp => by rw [Finset.mem_singleton.mp hp])
      (fun g u hg => by
        obtain ⟨i, hqi, hi, hp⟩ := due_pos hg
        obtain ⟨-, rfl, h3⟩ := pay_pos hp
        rw [h3]; exact hlv i hqi hi)
  · have h0 : due c q = 0 := by unfold due; rw [Finset.Ico_eq_empty (by omega), Finset.sum_empty]
    rw [h0, MayWait_zero]; iintro -; iempintro

end Cert.HalfProof
-- ==== Proof.HalfState.lean ====
/-
# The first half's ring all-reduce: what a core holds of the memory, step by step
-/
module

public import proofs.«01_k».proof.Proof.HalfSched

@[expose] public section

noncomputable section

namespace Cert.HalfProof

open Cert.HalfIdeal Cert.HalfIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : (ℓ : Loc nD τ sig) → Buf (Elt F) ℓ) (ρ : Dev nD → PrngReg)

theorem bigSep_put {I : Type} [DecidableEq I] {s : Finset I} {i : I} (hi : i ∉ s) (Φ : I → sProp 𝕄) :
    bigSep (insert i s) Φ = iprop(Φ i ∗ bigSep s Φ) := BI.bigSep_insert hi
theorem bigSep_pick {I : Type} [DecidableEq I] {s : Finset I} {i : I} (hi : i ∈ s) (Φ : I → sProp 𝕄) :
    bigSep s Φ = iprop(Φ i ∗ bigSep (s.erase i) Φ) := BI.bigSep_erase hi
/-! ## What a core holds of its result and of its landing slots -/

/-- The chunks (by how far behind `c` they lie) that `c` holds before step `k`: all but those lent as landing areas. -/
def own (k : ℕ) : Finset (Fin 16) := Finset.univ.filter fun i => i.val = 15 ∨ k < 14 + i.val ∨ 16 + i.val ≤ k

theorem mem_own {k : ℕ} {i : Fin 16} : i ∈ own k ↔ i.val = 15 ∨ k < 14 + i.val ∨ 16 + i.val ≤ k := by simp [own]

/-- The chunk `i` places behind `c`, holding what it holds before step `k`. -/
def piece (d : Bool) (c : Dev nD) (k i : ℕ) : sProp 𝕄 := ownsTc c (chM d (back d c i)) fullShare (cont m ρ d c k i)

/-- A landing slot of the reducing steps, whatever it holds. -/
def slot0 (d : Bool) (c : Dev nD) (s : Fin 2) : sProp 𝕄 := iprop(∃ v : Chunk F, ownsTc c (slM d s) fullShare v)

/-- The landing slots kept by `c` before step `k`, once the last reducing steps have used them. -/
def kept (d : Bool) (c : Dev nD) (k : ℕ) : sProp 𝕄 :=
  iprop((if 14 ≤ k then slot0 d c 1 else emp) ∗ (if 15 ≤ k then slot0 d c 0 else emp))

/-- What `c` holds of a ring's memory before step `k`. -/
def held (d : Bool) (c : Dev nD) (k : ℕ) : sProp 𝕄 :=
  iprop((bigSep (own k) fun i => piece m ρ d c k i.val) ∗ kept d c k)

/-- The same but for the chunk it sends. -/
def heldBut (d : Bool) (c : Dev nD) (k : ℕ) : sProp 𝕄 :=
  iprop((bigSep ((own k).erase ⟨k % 16, Nat.mod_lt _ (by decide)⟩) fun i => piece m ρ d c k i.val) ∗ kept d c k)

/-- A landing area of a later step, if there is such a step. -/
def areaAt (d : Bool) (c : Dev nD) (k : ℕ) : sProp 𝕄 := if k < 30 then area d c k else iprop(emp)

theorem cont_sent (d : Bool) (c : Dev nD) (k : ℕ) (hk : k < 30) : cont m ρ d c k (k % 16) = val m ρ d k c := by
  unfold cont
  by_cases h : k < 16
  · rw [Nat.mod_eq_of_lt h, if_neg (by omega), if_pos le_rfl]
  · rw [if_pos (by omega), show 16 + k % 16 = k by omega]

/-- The chunk sent at step `k` is among those held. -/
theorem held_send (d : Bool) (c : Dev nD) (k : ℕ) (hk : k < 30) :
    held m ρ d c k = iprop(sendPay m ρ d c k ∗ heldBut m ρ d c k) := by
  have hi : (⟨k % 16, Nat.mod_lt _ (by decide)⟩ : Fin 16) ∈ own k := by
    rw [mem_own]; simp only; omega
  unfold held heldBut
  rw [bigSep_pick hi]
  have e : piece m ρ d c k (k % 16) = sendPay m ρ d c k := by
    unfold piece sendPay; rw [cont_sent m ρ d c k hk, back_mod]
  rw [e]
  exact BI.Entails.antisymm (sep_assoc (PROP := sProp 𝕄)).1 (sep_assoc (PROP := sProp 𝕄)).2

theorem landM_lt (d : Bool) (r : Dev nD) (k : ℕ) (h : k < 15) : landM d r k = slM d (par k) := if_pos h
theorem landM_ge (d : Bool) (r : Dev nD) (k : ℕ) (h : ¬ k < 15) : landM d r k = chM d (back d r (k + 1)) := if_neg h

theorem cont_other (d : Bool) (c : Dev nD) (k i : ℕ) (h1 : i ≠ k + 1) (h2 : k + 1 ≠ 16 + i) :
    cont m ρ d c (k + 1) i = cont m ρ d c k i := by
  unfold cont
  by_cases h : 16 + i ≤ k
  · rw [if_pos h, if_pos (by omega)]
  · rw [if_neg h, if_neg (by omega)]
    by_cases h' : i ≤ k
    · rw [if_pos h', if_pos (by omega)]
    · rw [if_neg h', if_neg (by omega)]

/-- While reducing, the chunk that step `k` adds to is held, with the core's own part in it. -/
theorem held_reduce (d : Bool) (c : Dev nD) (k : ℕ) (hk : k < 15) :
    held m ρ d c k = iprop(ownsTc c (chM d (back d c (k + 1))) fullShare (xch m ρ d c (back d c (k + 1)))
      ∗ (bigSep ((own k).erase ⟨k + 1, by omega⟩) fun i => piece m ρ d c (k + 1) i.val) ∗ kept d c k) := by
  have hi : (⟨k + 1, by omega⟩ : Fin 16) ∈ own k := by
    rw [mem_own]; simp only; omega
  unfold held
  rw [bigSep_pick hi]
  have e : piece m ρ d c k (k + 1) = ownsTc c (chM d (back d c (k + 1))) fullShare (xch m ρ d c (back d c (k + 1))) := by
    unfold piece cont; rw [if_neg (by omega), if_neg (by omega)]
  have e2 : (bigSep ((own k).erase ⟨k + 1, by omega⟩) fun i => piece m ρ d c k i.val)
      = (bigSep ((own k).erase ⟨k + 1, by omega⟩) fun i => piece m ρ d c (k + 1) i.val) := by
    refine bigSep_congr fun i hi' => ?_
    rw [Finset.mem_erase, mem_own] at hi'
    have hne : i.val ≠ k + 1 := fun h => hi'.1 (Fin.ext h)
    unfold piece
    rw [cont_other m ρ d c k i.val hne (by omega)]
  rw [e2]
  refine (BI.Entails.antisymm (sep_assoc (PROP := sProp 𝕄)).1 (sep_assoc (PROP := sProp 𝕄)).2).trans ?_
  rw [← e]

/-- After adding: the chunks at their next contents. -/
theorem held_reduced (d : Bool) (c : Dev nD) (k : ℕ) (hk : k < 15) :
    iprop(ownsTc c (chM d (back d c (k + 1))) fullShare (val m ρ d (k + 1) c)
      ∗ (bigSep ((own k).erase ⟨k + 1, by omega⟩) fun i => piece m ρ d c (k + 1) i.val))
    = bigSep (own k) fun i => piece m ρ d c (k + 1) i.val := by
  have hi : (⟨k + 1, by omega⟩ : Fin 16) ∈ own k := by
    rw [mem_own]; simp only; omega
  rw [bigSep_pick hi]
  have e : piece m ρ d c (k + 1) (k + 1) = ownsTc c (chM d (back d c (k + 1))) fullShare (val m ρ d (k + 1) c) := by
    unfold piece cont; rw [if_neg (by omega), if_pos le_rfl]
  rw [← e]

/-- A held chunk that step `k + 2` lands in is a landing area. -/
theorem piece_area (d : Bool) (c : Dev nD) (k j : ℕ) (h : ¬ k < 15) (i : ℕ) (hi : i + 16 = k + 1) :
    (piece m ρ d c j i : sProp 𝕄) ⊢ area d c k := by
  unfold piece area
  rw [landM_ge d c k h, ← hi, back_add16]
  iintro H; iexists _; iexact H

theorem own_reduce_lt (k : ℕ) (h : k < 13) : own (k + 1) = own k := by
  ext i; rw [mem_own, mem_own]; omega

theorem own_lend (k : ℕ) (h : 13 ≤ k) (h' : k < 15) :
    own k = insert ⟨k - 13, by omega⟩ (own (k + 1)) := by
  ext i; rw [Finset.mem_insert, mem_own, mem_own, Fin.ext_iff]; simp only; omega

theorem own_lend_not (k : ℕ) (h : 13 ≤ k) (h' : k < 28) : (⟨k - 13, by omega⟩ : Fin 16) ∉ own (k + 1) := by
  rw [mem_own]; simp only; omega

/-- The end of a reducing step: the slot the chunk came in, or a chunk of the result, is the landing area of step `k + 2`. -/
theorem reduce_end (d : Bool) (c : Dev nD) (k : ℕ) (hk : k < 15) :
    iprop(((bigSep (own k) fun i => piece m ρ d c (k + 1) i.val) ∗ kept d c k) ∗ recvPay m ρ d c k)
      ⊢ (iprop(held m ρ d c (k + 1) ∗ areaAt d c (k + 2)) : sProp 𝕄) := by
  unfold held recvPay areaAt
  rw [if_pos (show k + 2 < 30 by omega)]
  by_cases h : k < 13
  · rw [own_reduce_lt k h, landM_lt d c k hk]
    unfold kept area
    rw [landM_lt d c (k + 2) (by omega), par_add_two]
    rw [if_neg (show ¬ 14 ≤ k by omega), if_neg (show ¬ 15 ≤ k by omega), if_neg (show ¬ 14 ≤ k + 1 by omega), if_neg (show ¬ 15 ≤ k + 1 by omega)]
    iintro ⟨HA, HB⟩
    isplitl [HA]; · iexact HA
    iexists _; iexact HB
  · rw [own_lend k (by omega) hk, bigSep_put (own_lend_not k (by omega) (by omega)), landM_lt d c k hk]
    have ha := piece_area m ρ d c (k + 2) (k + 1) (by omega) (k - 13) (by omega)
    have hs : (ownsTc c (slM d (par k)) fullShare (val m ρ d k (prv d c)) : sProp 𝕄) ⊢ slot0 d c (par k) := by
      unfold slot0; iintro H; iexists _; iexact H
    have h2 : k = 13 ∨ k = 14 := by omega
    iintro ⟨⟨⟨HA, HB⟩, HC⟩, HD⟩
    ihave HA := ha $$ HA
    ihave HD := hs $$ HD
    isplitr [HA]
    · isplitl [HB]; · iexact HB
      unfold kept
      rcases h2 with rfl | rfl
      · rw [if_neg (by omega), if_neg (by omega), if_pos (by omega), if_neg (by omega)]
        icases HC with ⟨-, HC⟩
        isplitl [HD]; · iexact HD
        iexact HC
      · rw [if_pos (by omega), if_neg (by omega), if_pos (by omega), if_pos (by omega)]
        icases HC with ⟨HC, -⟩
        isplitl [HC]; · iexact HC
        iexact HD
    · iexact HA

theorem own_gather_lend (k : ℕ) (h : 15 ≤ k) (h' : k < 28) :
    insert ⟨k - 15, by omega⟩ (own k) = insert ⟨k - 13, by omega⟩ (own (k + 1)) := by
  ext i; rw [Finset.mem_insert, Finset.mem_insert, mem_own, mem_own, Fin.ext_iff, Fin.ext_iff]; simp only; omega

theorem own_gather_last (k : ℕ) (h : 28 ≤ k) (h' : k < 30) : insert ⟨k - 15, by omega⟩ (own k) = own (k + 1) := by
  ext i; rw [Finset.mem_insert, mem_own, mem_own, Fin.ext_iff]; simp only; omega

theorem own_gather_not (k : ℕ) (h : 15 ≤ k) (h' : k < 30) : (⟨k - 15, by omega⟩ : Fin 16) ∉ own k := by
  rw [mem_own]; simp only; omega

/-- The end of a gathering step: the chunk landed in the result, and another chunk is the landing area of step `k + 2`. -/
theorem gather_end (d : Bool) (c : Dev nD) (k : ℕ) (hk : 15 ≤ k) (hk' : k < 30) :
    iprop(held m ρ d c k ∗ recvPay m ρ d c k) ⊢ (iprop(held m ρ d c (k + 1) ∗ areaAt d c (k + 2)) : sProp 𝕄) := by
  have e1 : (bigSep (own k) fun i => piece m ρ d c k i.val) = bigSep (own k) fun i => piece m ρ d c (k + 1) i.val := by
    refine bigSep_congr fun i hi => ?_
    rw [mem_own] at hi
    have := i.isLt
    unfold piece
    rw [cont_other m ρ d c k i.val (by omega) (by omega)]
  have e2 : recvPay m ρ d c k = piece m ρ d c (k + 1) (k - 15) := by
    unfold recvPay piece cont
    rw [landM_ge d c k (by omega), if_pos (by omega), show 16 + (k - 15) = k + 1 by omega, val_gather m ρ d c k (by omega),
      show k + 1 = (k - 15) + 16 by omega, back_add16]
  have e3 : kept (F := F) d c (k + 1) = kept d c k := by
    unfold kept; rw [if_pos (by omega), if_pos (by omega), if_pos (by omega), if_pos (by omega)]
  unfold held areaAt
  rw [e1, e2, e3]
  have e4 : iprop(piece m ρ d c (k + 1) (k - 15) ∗ bigSep (own k) fun i => piece m ρ d c (k + 1) i.val)
      = bigSep (insert ⟨k - 15, by omega⟩ (own k)) fun i => piece m ρ d c (k + 1) i.val := by
    rw [bigSep_put (own_gather_not k hk hk')]
  iintro ⟨⟨HA, HC⟩, HB⟩
  ihave HA := (Entails.of_eq e4) $$ [HA HB]
  · isplitl [HB] <;> iassumption
  by_cases h : k < 28
  · have e5 : (bigSep (insert ⟨k - 15, by omega⟩ (own k)) fun i => piece m ρ d c (k + 1) i.val)
        = iprop(piece m ρ d c (k + 1) (k - 13) ∗ bigSep (own (k + 1)) fun i => piece m ρ d c (k + 1) i.val) := by
      rw [own_gather_lend k hk h, bigSep_put (own_lend_not k (by omega) h)]
    ihave HA := (Entails.of_eq e5) $$ HA
    icases HA with ⟨HA, HB⟩
    isplitr [HA]
    · isplitl [HB]
      · iexact HB
      · iexact HC
    · rw [if_pos (by omega)]
      iapply (piece_area m ρ d c (k + 2) (k + 1) (by omega) (k - 13) (by omega)); iexact HA
  · have e5 : (bigSep (insert ⟨k - 15, by omega⟩ (own k)) fun i => piece m ρ d c (k + 1) i.val)
        = bigSep (own (k + 1)) fun i => piece m ρ d c (k + 1) i.val := by
      rw [own_gather_last k (by omega) hk']
    ihave HA := (Entails.of_eq e5) $$ HA
    isplitl [HA HC]
    · isplitl [HA]
      · iexact HA
      · iexact HC
    · rw [if_neg (by omega)]; iempintro

/-- A landing area is nonempty: two of it cannot be held. -/
theorem area_excl (d : Bool) (r : Dev nD) (k : ℕ) : iprop(area d r k ∗ area d r k) ⊢ (False : sProp 𝕄) := by
  have hs : (area d r k : sProp 𝕄) ⊢ slot ((landM d r k).view.loc (r : Thread nD τ)) (landM d r k).view.set := by
    unfold area slot ownsTc owns
    iintro ⟨%v, %f, -, H⟩
    iexists f; iexact H
  exact (BI.sep_mono hs hs).trans (slot_slot_false (View.set_nonempty (v := (landM d r k).view) (by decide)))

end Cert.HalfProof
-- ==== Proof.HalfRules.lean ====
/-
# The first half's ring all-reduce: one rule per operation of the body
-/
module

public import proofs.«01_k».proof.Proof.HalfState

@[expose] public section

set_option maxRecDepth 20000

noncomputable section

namespace Cert.HalfProof

open Cert.HalfIdeal Cert.HalfIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : (ℓ : Loc nD τ sig) → Buf (Elt F) ℓ) (ρ : Dev nD → PrngReg)

/-! ## The facts every core shares -/

theorem bigSep_at {I : Type} [DecidableEq I] {s : Finset I} {i : I} (hi : i ∈ s) {Φ : I → sProp 𝕄} : bigSep s Φ ⊢ Φ i := bigSep_elim hi

def keys : Finset Key := Finset.univ ×ˢ (Finset.univ ×ˢ Finset.range 30)

/-- The invariants of all cells (each barrier cell at round 0 or later) and of all landing areas, and the level facts. -/
def facts : sProp 𝕄 :=
  iprop((bigSep Finset.univ fun x : Dev nD × Fin 11 => iprop(∃ κ, cellInv ER (ringRd m ρ) κ (cell x.1 (ckE x.2))))
    ∗ (bigSep Finset.univ fun e : Dev nD => reached ER (cell e .bar) 0)
    ∗ (bigSep keys fun k => iprop(∃ ι, slotInv ES ι k (area k.2.1 k.1 k.2.2)))
    ∗ levAts L lv)

instance facts_persistent : BI.Persistent (facts (F := F) m ρ) := by unfold facts; infer_instance

theorem facts_cell (e : Dev nD) (k : CK) : facts m ρ ⊢ (iprop(∃ κ, cellInv ER (ringRd m ρ) κ (cell e k)) : sProp 𝕄) := by
  obtain ⟨i, rfl⟩ := ckE_surj k
  unfold facts
  have h := bigSep_at (Finset.mem_univ ((e, i) : Dev nD × Fin 11)) (Φ := fun x : Dev nD × Fin 11 => iprop(∃ κ, cellInv ER (ringRd m ρ) κ (cell x.1 (ckE x.2))))
  iintro ⟨H, -, -, -⟩
  iapply h; iexact H

theorem facts_bar (e : Dev nD) : facts m ρ ⊢ (reached ER (cell e .bar) 0 : sProp 𝕄) := by
  unfold facts
  have h := bigSep_at (Finset.mem_univ e) (Φ := fun e : Dev nD => (reached ER (cell e .bar) 0 : sProp 𝕄))
  iintro ⟨-, H, -, -⟩
  iapply h; iexact H

theorem facts_slot (e : Dev nD) (d : Bool) (k : ℕ) (hk : k < 30) :
    facts m ρ ⊢ (iprop(∃ ι, slotInv ES ι (e, d, k) (area d e k)) : sProp 𝕄) := by
  unfold facts
  have h := bigSep_at (s := keys) (i := ((e, d, k) : Key)) (Φ := fun k : Key => iprop(∃ ι, slotInv ES ι k (area (F := F) k.2.1 k.1 k.2.2))) (by simp [keys, hk])
  iintro ⟨-, -, H, -⟩
  iapply h; iexact H

theorem facts_lev : (facts m ρ : sProp 𝕄) ⊢ (levAts L lv : sProp 𝕄) := by
  unfold facts; iintro ⟨-, -, -, H⟩; iexact H

/-- What a core knows after the barrier: that, and its two receivers' first two landing areas released. -/
def env (c : Dev nD) : sProp 𝕄 := iprop(facts m ρ ∗ rel false (nxt false c) 2 ∗ rel true (nxt true c) 2)

instance env_persistent (c : Dev nD) : BI.Persistent (env (F := F) m ρ c) := by unfold env; infer_instance

theorem env_facts (c : Dev nD) : env m ρ c ⊢ (facts m ρ : sProp 𝕄) := by unfold env; iintro ⟨H, -⟩; iexact H
theorem env_rel (d : Bool) (c : Dev nD) : env m ρ c ⊢ (rel d (nxt d c) 2 : sProp 𝕄) := by
  unfold env
  cases d
  · iintro ⟨-, H, -⟩; iexact H
  · iintro ⟨-, -, H⟩; iexact H

theorem rel_mono (d : Bool) (r : Dev nD) {a b : ℕ} (h : a ≤ b) : rel d r b ⊢ (rel d r a : sProp 𝕄) := by
  unfold rel
  exact sep_mono_right (bigSep_subset (Finset.range_mono h))

theorem rel_reached (d : Bool) (r : Dev nD) (n : ℕ) : rel d r n ⊢ (reached ER (cell r (.cred (!d))) 0 : sProp 𝕄) := by
  unfold rel
  iintro ⟨H, -⟩; iexact H

theorem rel_none (d : Bool) (r : Dev nD) : reached ER (cell r (.cred (!d))) 0 ⊢ (rel d r 0 : sProp 𝕄) := by
  unfold rel
  rw [Finset.range_zero, bigSep_empty]
  iintro H
  isplitl [H]; · iexact H
  iempintro

theorem rel_get (d : Bool) (r : Dev nD) {k b : ℕ} (h : k < b) :
    rel d r b ⊢ (iprop(released ES (r, d, k) 1 ∗ reached ER (cell r (.recv d (par k))) (k / 2)) : sProp 𝕄) := by
  unfold rel
  have h := bigSep_at (Finset.mem_range.mpr h) (Φ := fun k => (iprop(released ES (r, d, k) 1 ∗ reached ER (cell r (.recv d (par k))) (k / 2)) : sProp 𝕄))
  iintro ⟨-, H⟩
  iapply h; iexact H

theorem rel_succ (d : Bool) (r : Dev nD) (k : ℕ) :
    iprop(rel d r k ∗ released ES (r, d, k) 1 ∗ reached ER (cell r (.recv d (par k))) (k / 2)) ⊢ (rel d r (k + 1) : sProp 𝕄) := by
  unfold rel
  rw [Finset.range_add_one, bigSep_put Finset.notMem_range_self]
  iintro ⟨⟨HC, HA⟩, HB⟩
  isplitl [HC]; · iexact HC
  isplitl [HB]
  · iexact HB
  · iexact HA

/-! ## What a core holds through the steps of one ring -/

def posS (d : Bool) (c : Dev nD) (k : ℕ) : sProp 𝕄 :=
  iprop(atPos ER (cell c (.send d (par k))) (k / 2) ∅ 0 ∗ reached ER (cell c (.send d (par k))) (k / 2))
def posR (d : Bool) (c : Dev nD) (k : ℕ) : sProp 𝕄 :=
  iprop(atPos ER (cell c (.recv d (par k))) (k / 2) ∅ 0 ∗ reached ER (cell c (.recv d (par k))) (k / 2))
theorem posS_eq (d : Bool) (c : Dev nD) (k : ℕ) : (posS d c k : sProp 𝕄)
    = iprop(atPos ER (cell c (.send d (par k))) (k / 2) ∅ 0 ∗ reached ER (cell c (.send d (par k))) (k / 2)) := rfl
theorem posR_eq (d : Bool) (c : Dev nD) (k : ℕ) : (posR d c k : sProp 𝕄)
    = iprop(atPos ER (cell c (.recv d (par k))) (k / 2) ∅ 0 ∗ reached ER (cell c (.recv d (par k))) (k / 2)) := rfl
/-- After `n` credit waits: at least `n` of the receiver's returns heard. -/
def posC (d : Bool) (c : Dev nD) (n : ℕ) : sProp 𝕄 :=
  iprop(∃ T : Finset ℕ, ⌜T ⊆ Finset.range 30 ∧ n ≤ T.card⌝ ∗ atPos ER (cell c (.cred d)) 0 T n
    ∗ bigSep T fun δ => rel d (nxt d c) (min (δ + 3) 30))

/-- Step `k`'s tokens for its transfer. -/
def sup1 (d : Bool) (c : Dev nD) (k : ℕ) : sProp 𝕄 :=
  iprop(writeTok ES (nxt d c, d, k) 1 ∗ dutyTok ER (cell c (.send d (par k))) (k / 2) 0 ∗ dutyTok ER (cell (nxt d c) (.recv d (par k))) (k / 2) 0)
/-- Its credit for the arrival. -/
def sup2 (d : Bool) (c : Dev nD) (k : ℕ) : sProp 𝕄 := cred (tallyAt (cell c (.recv d (par k))) k N)
/-- Its tokens for the credit it returns, and its count of the landing area it then releases. -/
def sup3 (d : Bool) (c : Dev nD) (k : ℕ) : sProp 𝕄 :=
  iprop(dutyTok ER (cell (prv d c) (.cred d)) 0 k ∗ (if k + 2 < 30 then readerAt ES (c, d, k + 2) 0 else emp))
/-- Its credit for the receiver's return. -/
def sup0 (d : Bool) (c : Dev nD) (k : ℕ) : sProp 𝕄 := if 2 ≤ k then cred (tallyAt (cell c (.cred d)) (k - 2) 1) else iprop(emp)

def sup (d : Bool) (c : Dev nD) (k : ℕ) : sProp 𝕄 := iprop(sup0 d c k ∗ sup1 d c k ∗ sup2 d c k ∗ sup3 d c k)

/-- The credits of the two waits at the end. -/
def fin2 (d : Bool) (c : Dev nD) : sProp 𝕄 := iprop(cred (tallyAt (cell c (.cred d)) 28 1) ∗ cred (tallyAt (cell c (.cred d)) 29 1))

/-- What step `k` leaves alone. -/
def rest (d : Bool) (c : Dev nD) (k : ℕ) : sProp 𝕄 :=
  iprop((bigSep (Finset.Ico (k + 1) 30) fun k => sup d c k) ∗ fin2 d c ∗ rel d c (min (k + 2) 30) ∗ posS d c (k + 1) ∗ posR d c (k + 1))

/-- Where a core is in one ring: before step `k`; before its transfer; after it; after it has left; after the arrival;
    after the reduction or the gathering; at the end. -/
inductive Ph : Type
  | p0 (k : ℕ) | p1 (k : ℕ) | p2 (k : ℕ) | p3 (k : ℕ) | p4 (k : ℕ) | p5 (k : ℕ) | p6

def P (d : Bool) (c : Dev nD) : Ph → sProp 𝕄
  | .p0 k => iprop((bigSep (Finset.Ico k 30) fun k => sup d c k) ∗ fin2 d c ∗ rel d c (min (k + 2) 30)
      ∗ posS d c k ∗ posS d c (k + 1) ∗ posR d c k ∗ posR d c (k + 1) ∗ posC d c (k - 2) ∗ held m ρ d c k)
  | .p1 k => iprop(rest d c k ∗ posS d c k ∗ posR d c k ∗ posC d c (k + 1 - 2) ∗ rel d (nxt d c) (k + 1)
      ∗ sup1 d c k ∗ sup2 d c k ∗ sup3 d c k ∗ held m ρ d c k)
  | .p2 k => iprop(rest d c k ∗ posS d c k ∗ posR d c k ∗ posC d c (k + 1 - 2)
      ∗ cred (tallyAt (cell c (.send d (par k))) k N) ∗ sup2 d c k ∗ sup3 d c k ∗ heldBut m ρ d c k)
  | .p3 k => iprop(rest d c k ∗ posS d c (k + 2) ∗ posR d c k ∗ posC d c (k + 1 - 2) ∗ sup2 d c k ∗ sup3 d c k ∗ held m ρ d c k)
  | .p4 k => iprop(rest d c k ∗ posS d c (k + 2) ∗ posR d c (k + 2) ∗ posC d c (k + 1 - 2) ∗ sup3 d c k ∗ held m ρ d c k ∗ recvPay m ρ d c k)
  | .p5 k => iprop(rest d c k ∗ posS d c (k + 2) ∗ posR d c (k + 2) ∗ posC d c (k + 1 - 2) ∗ sup3 d c k ∗ held m ρ d c (k + 1) ∗ areaAt d c (k + 2))
  | .p6 => iprop(posS d c 30 ∗ posS d c 31 ∗ posR d c 30 ∗ posR d c 31 ∗ atPos ER (cell c (.cred d)) 1 ∅ 0 ∗ held m ρ d c 30)

/-- What it owes after `q` payments. -/
def Ow (c : Dev nD) (q : ℕ) : sProp 𝕄 := iprop(∃ W : Waits sig ℕ, owes (c : Thread nD τ) (due c q) W)

abbrev WP {α : Type} (c : Dev nD) (p : Prog (TpuEff nD τ sig (Elt F) Λ₀ .tc) α) (Q : α → sProp 𝕄) : sProp 𝕄 :=
  wp frame (wpE (defs₀ (F := F)) Variants.none (c : Thread nD τ) none) Set.univ p Q

/-! ## Ghost steps -/

theorem sup_first (d : Bool) (c : Dev nD) (k : ℕ) (hk : k < 30) :
    (bigSep (Finset.Ico k 30) fun k => sup (F := F) d c k) = iprop(sup d c k ∗ bigSep (Finset.Ico (k + 1) 30) fun k => sup d c k) := by
  rw [show Finset.Ico k 30 = insert k (Finset.Ico (k + 1) 30) by ext x; simp only [Finset.mem_Ico, Finset.mem_insert]; omega]
  exact bigSep_put (by rw [Finset.mem_Ico]; omega) _

/-- The first two steps wait for no return: their areas were released before the barrier. -/
theorem g_start (d : Bool) (c : Dev nD) (k : ℕ) (hk : k < 2) : iprop(env m ρ c ∗ P m ρ d c (.p0 k)) ⊢ (P m ρ d c (.p1 k) : sProp 𝕄) := by
  simp only [P]
  rw [sup_first d c k (by omega), show k - 2 = k + 1 - 2 by omega]
  unfold sup rest
  iintro ⟨He, ⟨⟨-, H1, H2, H3⟩, Hb⟩, Hf, Hr, HS, HS', HR, HR', HC, HM⟩
  ihave He := (env_rel m ρ d c) $$ He
  ihave He := (rel_mono d (nxt d c) (show k + 1 ≤ 2 by omega)) $$ He
  isplitl [Hb Hf Hr HS' HR']
  · isplitl [Hb]; · iexact Hb
    isplitl [Hf]; · iexact Hf
    isplitl [Hr]; · iexact Hr
    isplitl [HS']; · iexact HS'
    iexact HR'
  isplitl [HS]; · iexact HS
  isplitl [HR]; · iexact HR
  isplitl [HC]; · iexact HC
  isplitl [He]; · iexact He
  isplitl [H1]; · iexact H1
  isplitl [H2]; · iexact H2
  isplitl [H3]; · iexact H3
  iexact HM

/-- A gathering step does nothing with the chunk that has landed in the result. -/
theorem g_gather (d : Bool) (c : Dev nD) (k : ℕ) (hk : 15 ≤ k) (hk' : k < 30) : P m ρ d c (.p4 k) ⊢ (P m ρ d c (.p5 k) : sProp 𝕄) := by
  simp only [P]
  iintro ⟨HA, HB, HC, HD, HE, HF, HG⟩
  ihave H := (gather_end m ρ d c k hk hk') $$ [HF HG]
  · isplitl [HF]; · iexact HF
    iexact HG
  isplitl [HA]; · iexact HA
  isplitl [HB]; · iexact HB
  isplitl [HC]; · iexact HC
  isplitl [HD]; · iexact HD
  isplitl [HE]; · iexact HE
  iexact H

/-! ## One rule per operation -/

section Rules

theorem par_div (k : ℕ) : 2 * (k / 2) + (par k).val = k := by unfold par; simp only; omega
theorem div_add_two (k : ℕ) : (k + 2) / 2 = k / 2 + 1 := by omega

theorem pay_send (d : Bool) (c : Dev nD) (k q : ℕ) (hq : q = 4 * k + (if d then 1 else 0)) :
    pay c q = tallyAt (cell (nxt d c) (.recv d (par k))) k N := by
  subst hq
  cases d
  · simp only [Bool.false_eq_true, if_false]
    unfold pay
    rw [if_pos (by omega), show (4 * k + 0) / 4 = k by omega]
  · simp only [if_true]
    unfold pay
    rw [if_neg (by omega), if_pos (by omega), show (4 * k + 1) / 4 = k by omega]

theorem pay_cred (d : Bool) (c : Dev nD) (k q : ℕ) (hq : q = 4 * k + 2 + (if d then 1 else 0)) :
    pay c q = tallyAt (cell (prv d c) (.cred d)) k 1 := by
  subst hq
  cases d
  · simp only [Bool.false_eq_true, if_false]
    unfold pay
    rw [if_neg (by omega), if_neg (by omega), if_pos (by omega), show (4 * k + 2 + 0) / 4 = k by omega]
  · simp only [if_true]
    unfold pay
    rw [if_neg (by omega), if_neg (by omega), if_neg (by omega), show (4 * k + 2 + 1) / 4 = k by omega]

theorem credit_ch (d : Bool) (j : Dev nD) : (chM d j).view.dmaCredit = N := rfl
theorem credit_sl (d : Bool) (s : Fin 2) : (slM d s).view.dmaCredit = N := by revert d s; decide +kernel

theorem credit_land (d : Bool) (r : Dev nD) (k : ℕ) : (landM d r k).view.dmaCredit = N := by
  unfold landM; split
  · exact credit_sl d (par k)
  · exact credit_ch d _

theorem dK_send (d : Bool) (s : Fin 2) (r : ℕ) (h : r < 15) : dutiesK r (.send d s) = {0} := by unfold dutiesK; exact if_pos h
theorem dK_recv (d : Bool) (s : Fin 2) (r : ℕ) (h : r < 15) : dutiesK r (.recv d s) = {0} := by unfold dutiesK; exact if_pos h
theorem dK_cred (d : Bool) : dutiesK 0 (.cred d) = Finset.range 30 := by unfold dutiesK; exact if_pos rfl
theorem dK_bar : dutiesK 0 .bar = {0, 1} := by unfold dutiesK; exact if_pos rfl

theorem duty_send (d : Bool) (c : Dev nD) (k : ℕ) (hk : k < 30) (s : Fin 2) : 0 ∈ (ringRd m ρ).duties (cell c (.send d s)) (k / 2) := by
  rw [duties_cell]; rw [dK_send d s (k / 2) (by omega)]; exact Finset.mem_singleton_self _
theorem duty_recv (d : Bool) (c : Dev nD) (k : ℕ) (hk : k < 30) (s : Fin 2) : 0 ∈ (ringRd m ρ).duties (cell c (.recv d s)) (k / 2) := by
  rw [duties_cell]; rw [dK_recv d s (k / 2) (by omega)]; exact Finset.mem_singleton_self _

theorem mayWait_cell (c : Dev nD) (K : CK) (ι q : ℕ) (hι : ι < 30)
    (hlv : ∀ i, q ≤ i → lvK ι K < 2 * (i / 4) + (if i % 4 < 2 then 2 else 3)) :
    (levAts L lv : sProp 𝕄) ⊢ MayWait (c : Thread nD τ) (csem K) ι (due c q) :=
  mayWait_due c (csem K) ι q hι fun i hi _ => lt_of_eq_of_lt (lv_cell c K ι) (hlv i hi)

theorem may_send (d : Bool) (c : Dev nD) (k q : ℕ) (hk : k < 30) :
    (levAts L lv : sProp 𝕄) ⊢ MayWait (c : Thread nD τ) (.dma (sendS d (par k))) k (due c q) :=
  mayWait_cell c (.send d (par k)) k q hk fun i hi => by
    show 0 < _
    split <;> omega
theorem may_recv (d : Bool) (c : Dev nD) (k q : ℕ) (hk : k < 30) (hq : 4 * k + 2 ≤ q) :
    (levAts L lv : sProp 𝕄) ⊢ MayWait (c : Thread nD τ) (.dma (recvS d (par k))) k (due c q) :=
  mayWait_cell c (.recv d (par k)) k q hk fun i hi => by
    show 2 * k + 2 < _
    split <;> omega
theorem may_cred (d : Bool) (c : Dev nD) (n q : ℕ) (hk : n < 30) (hq : 4 * (n + 2) ≤ q) :
    (levAts L lv : sProp 𝕄) ⊢ MayWait (c : Thread nD τ) (.reg (credS d)) n (due c q) :=
  mayWait_cell c (.cred d) n q hk fun i hi => by
    show 2 * n + 3 < _
    split <;> omega

theorem send_made (d : Bool) (c : Dev nD) (k : ℕ) (fs : Buf (Elt F) ((chM d (back d c k)).view.loc (c : Thread nD τ)))
    (h : (chM d (back d c k)).view.read (Elt F) fs = val m ρ d k c) :
    ((chM d (back d c k)).view.loc (c : Thread nD τ) ↦[(chM d (back d c k)).view.set]{fullShare} fs)
      ⊢ ((ringRd m ρ).payload (cell c (.send d (par k))) (k / 2) 0 : sProp 𝕄) := by
  refine BI.Entails.trans ?_ (Entails.of_eq (payload_cell m ρ c (.send d (par k)) (k / 2) 0).symm)
  have e : payloadK m ρ c (k / 2) 0 (.send d (par k)) = sendPay m ρ d c k := by unfold payloadK; simp only; rw [par_div]
  rw [e]
  unfold sendPay ownsTc
  rw [← h]
  exact owns_intro (c : Thread nD τ) (chM d (back d c k)) fullShare fs

theorem recv_made (d : Bool) (c : Dev nD) (k : ℕ) (fs : Buf (Elt F) ((chM d (back d c k)).view.loc (c : Thread nD τ)))
    (fd : Buf (Elt F) ((landM d (nxt d c) k).view.loc (nxt d c : Thread nD τ)))
    (h : (chM d (back d c k)).view.read (Elt F) fs = val m ρ d k c) :
    ((landM d (nxt d c) k).view.loc (nxt d c : Thread nD τ) ↦[(landM d (nxt d c) k).view.set]{fullShare}
        ((landM d (nxt d c) k).view.write (Elt F) fd ((chM d (back d c k)).view.read (Elt F) fs) Finset.univ))
      ⊢ ((ringRd m ρ).payload (cell (nxt d c) (.recv d (par k))) (k / 2) 0 : sProp 𝕄) := by
  refine BI.Entails.trans ?_ (Entails.of_eq (payload_cell m ρ (nxt d c) (.recv d (par k)) (k / 2) 0).symm)
  have e : payloadK m ρ (nxt d c) (k / 2) 0 (.recv d (par k)) = recvPay m ρ d (nxt d c) k := by unfold payloadK; simp only; rw [par_div]
  rw [e, h]
  unfold recvPay ownsTc
  rw [prv_nxt]
  have h2 : _ ⊢ (owns (nxt d c : Thread nD τ) (landM d (nxt d c) k) fullShare _ : sProp 𝕄) := owns_intro (nxt d c : Thread nD τ) (landM d (nxt d c) k) fullShare ((landM d (nxt d c) k).view.write (Elt F) fd (val m ρ d k c) Finset.univ)
  rw [View.read_write_univ] at h2
  exact h2

variable {m ρ} in
/-- The transfer of step `k`. -/
theorem r_send {d : Bool} {c : Dev nD} {k q : ℕ} {n : Dev nD}
    {src : Memref sig .tc .vmem S128x1024 .bf16} {dst : Memref sig (Dev.tc n : Thread nD τ).2.kind .vmem S128x1024 .bf16} {s1 s2 : DmaSem sig}
    {hsc : dst.view.ref.isScScratch = false} {hsrc : src.view.WordExact} {hdst : dst.view.WordExact}
    {hsem : DmaTarget.Typed .vmem (.dma s2) (.remote (Dev.tc n : Thread nD τ) dst (.dma s1) hsc)} {α : Type} {Q : α → sProp 𝕄} {K : PUnit → Prog (TpuEff nD τ sig (Elt F) Λ₀ .tc) α}
    (hn : n = nxt d c) (hsrc' : src = chM d (back d c k)) (hdst' : dst = landM d n k) (hk : k < 30 := by decide)
    (hq : q = 4 * k + (if d then 1 else 0) := by rfl) (h1 : s1 = sendS d (par k) := by rfl) (h2 : s2 = recvS d (par k) := by rfl) :
    iprop(env m ρ c ∗ P m ρ d c (.p1 k) ∗ Ow c q)
      ⊢ iprop(((P m ρ d c (.p2 k) ∗ Ow c (q + 1)) -∗ WP c (K ⟨⟩) Q)
        -∗ WP c (.op (.enqueueDma src (.remote (Dev.tc n : Thread nD τ) dst (.dma s1) hsc) (.dma s2) hsrc hdst hsem) K) Q) := by
  subst hn hsrc' hdst' h1 h2
  simp only [P]
  rw [held_send m ρ d c k hk]
  unfold sup1 Ow sendPay
  iintro ⟨#He, ⟨Hrest, HS, HR, HC, #Hrel, ⟨Hw, Ht1, Ht2⟩, H2, H3, Hsrc, HM⟩, ⟨%W, HO⟩⟩ Hk
  ihave HS := (Entails.of_eq (posS_eq d c k)) $$ HS
  icases HS with ⟨HS, #HSr⟩
  ihave #Hfacts := (env_facts m ρ c) $$ He
  ihave Hc1 := (facts_cell m ρ c (.send d (par k))) $$ Hfacts
  icases Hc1 with ⟨%κ₁, #Hc1⟩
  ihave Hc2 := (facts_cell m ρ (nxt d c) (.recv d (par k))) $$ Hfacts
  icases Hc2 with ⟨%κ₂, #Hc2⟩
  ihave Hsl := (facts_slot m ρ (nxt d c) d k hk) $$ Hfacts
  icases Hsl with ⟨%ι, #Hsl⟩
  ihave Hg := (rel_get d (nxt d c) (Nat.lt_succ_self k)) $$ Hrel
  icases Hg with ⟨#Hrd, #Hrr⟩
  imod (slot_take ES (S := area (F := F) d (nxt d c) k) (ι := ι) (Set.mem_univ ι) 1) $$ [Hw] with Ha
  · isplitr; · iexact Hsl
    isplitr; · iexact Hrd
    iexact Hw
  unfold area
  icases Ha with ⟨%v, Ha⟩
  unfold ownsTc owns
  icases Ha with ⟨%fd, -, Ha⟩
  icases Hsrc with ⟨%fs, %hfs, Hsrc⟩
  iapply (Rounds.wp_send_pointsTo Variants.none ER (ringRd m ρ) (c : Thread nD τ) none (c' := (nxt d c : Thread nD τ)) (sp := .vmem) (sp' := .vmem) (κ₁ := κ₁) (κ₂ := κ₂)
    (src := chM d (back d c k)) (dst := landM d (nxt d c) k) (sS := .dma (sendS d (par k))) (sem := .dma (recvS d (par k)))
    (q := fullShare) (r₁ := k / 2) (r₂ := k / 2) (d₁ := 0) (d₂ := 0) (fs := fs) (fd := fd)
    (duty_send m ρ d c k hk (par k)) (duty_recv m ρ d (nxt d c) k hk (par k))
    k k N (credit_land d (nxt d c) k) (amount_cell m ρ c (.send d (par k)) _ _) (amount_cell m ρ (nxt d c) (.recv d (par k)) _ _)
    (O₀ := due c q) (due c (q + 1)) (by rw [due_step c q (by split at hq <;> omega), pay_send d c k q hq]) (W := W)
    (send_made m ρ d c k fs hfs) (recv_made m ρ d c k fs fd hfs)) $$ [Hsrc Ha HO Ht1 Ht2]
  · isplitr; · iexact Hc1
    isplitr; · iexact Hc2
    isplitl [Hsrc]; · iexact Hsrc
    isplitl [Ha]; · iexact Ha
    isplitl [HO]; · iexact HO
    isplitl [Ht1]; · iexact Ht1
    isplitr; · iexact HSr
    isplitl [Ht2]; · iexact Ht2
    iexact Hrr
  iintro ⟨Hcr, HO⟩
  iapply Hk
  isplitr [HO]
  · isplitl [Hrest]; · iexact Hrest
    isplitl [HS]
    · unfold posS; isplitl [HS]; · iexact HS
      iexact HSr
    isplitl [HR]; · iexact HR
    isplitl [HC]; · iexact HC
    isplitl [Hcr]; · iexact Hcr
    isplitl [H2]; · iexact H2
    isplitl [H3]; · iexact H3
    iexact HM
  · iexists W; iexact HO

theorem bigSep_one (Φ : ℕ → sProp 𝕄) : bigSep (({0} : Finset ℕ) \ ∅) Φ = Φ 0 := by rw [Finset.sdiff_empty, bigSep_singleton]

variable {m ρ} in
/-- The wait for step `k`'s transfer to have left. -/
theorem r_sent {d : Bool} {c : Dev nD} {k q : ℕ} {sm : DmaSem sig} {sp sp' : Space} {s s' : Shape} {e e' : EltTy} {src : Memref sig .tc sp' s' e'} {dst : Memref sig .tc sp s e}
    {hsrc : src.view.WordExact} {hdst : dst.view.WordExact} {α : Type} {Q : α → sProp 𝕄} {K : PUnit → Prog (TpuEff nD τ sig (Elt F) Λ₀ .tc) α}
    (hN : dst.view.dmaCredit = N) (hk : k < 30 := by decide) (hsm : sm = sendS d (par k) := by rfl) :
    iprop(env m ρ c ∗ P m ρ d c (.p2 k) ∗ Ow c q)
      ⊢ iprop(((P m ρ d c (.p3 k) ∗ Ow c q) -∗ WP c (K ⟨⟩) Q)
        -∗ WP c (.op (.waitDma2 sm src dst hsrc hdst) K) Q) := by
  subst hsm
  simp only [P]
  rw [held_send m ρ d c k hk]
  unfold Ow
  iintro ⟨#He, ⟨Hrest, HS, HR, HC, Hcr, H2, H3, HM⟩, ⟨%W, HO⟩⟩ Hk
  ihave HS := (Entails.of_eq (posS_eq d c k)) $$ HS
  icases HS with ⟨HS, -⟩
  ihave #Hfacts := (env_facts m ρ c) $$ He
  ihave Hc1 := (facts_cell m ρ c (.send d (par k))) $$ Hfacts
  icases Hc1 with ⟨%κ, #Hc1⟩
  ihave #Hlev := (facts_lev m ρ) $$ Hfacts
  have hmw := may_send (F := F) d c k q hk
  ihave #Hmw := hmw $$ Hlev
  iapply (Rounds.wp_wait_rest_token Variants.none ER (ringRd m ρ) (c : Thread nD τ) none (κ := κ)
      (wpE_waitDma2_eq Variants.none (c : Thread nD τ) none Set.univ) (Set.mem_univ _) k (O := due c q) (W := W) (R := k / 2) (m := 0) (T := ∅)
      (by
        have h := expect_cell m ρ c (.send d (par k)) (k / 2)
        rw [dK_send d (par k) (k / 2) (by omega), Finset.card_singleton, one_mul] at h
        rw [hN, Nat.zero_add]; exact h.symm)) $$ [Hcr HO HS]
  · isplitr; · iexact Hc1
    isplitl [Hcr]; · rw [hN]; iexact Hcr
    isplitl [HO]; · iexact HO
    isplitr; · iexact Hmw
    iexact HS
  iintro ⟨HO, HS, HSr, Hpay⟩
  ihave Hpay := (Entails.of_eq (show (bigSep ((ringRd m ρ).duties (cell c (.send d (par k))) (k / 2) \ ∅) fun δ => (ringRd m ρ).payload (cell c (.send d (par k))) (k / 2) δ)
      = sendPay m ρ d c k by
    rw [duties_cell, dK_send d (par k) (k / 2) (by omega), bigSep_one, payload_cell]
    unfold payloadK; simp only; rw [par_div])) $$ Hpay
  iapply Hk
  isplitr [HO]
  · isplitl [Hrest]; · iexact Hrest
    isplitl [HS HSr]
    · unfold posS; rw [par_add_two, div_add_two]; isplitl [HS]; · iexact HS
      iexact HSr
    isplitl [HR]; · iexact HR
    isplitl [HC]; · iexact HC
    isplitl [H2]; · iexact H2
    isplitl [H3]; · iexact H3
    isplitl [Hpay]; · iexact Hpay
    iexact HM
  · iexists _; iexact HO

variable {m ρ} in
/-- The wait for step `k`'s chunk to arrive. -/
theorem r_recv {d : Bool} {c : Dev nD} {k q : ℕ} {sm : DmaSem sig} {sp sp' : Space} {s s' : Shape} {e e' : EltTy} {src : Memref sig .tc sp' s' e'} {dst : Memref sig .tc sp s e}
    {hsrc : src.view.WordExact} {hdst : dst.view.WordExact} {α : Type} {Q : α → sProp 𝕄} {K : PUnit → Prog (TpuEff nD τ sig (Elt F) Λ₀ .tc) α}
    (hN : dst.view.dmaCredit = N) (hk : k < 30 := by decide) (hq : 4 * k + 2 ≤ q := by decide)
    (hsm : sm = recvS d (par k) := by rfl) :
    iprop(env m ρ c ∗ P m ρ d c (.p3 k) ∗ Ow c q)
      ⊢ iprop(((P m ρ d c (.p4 k) ∗ Ow c q) -∗ WP c (K ⟨⟩) Q)
        -∗ WP c (.op (.waitDma2 sm src dst hsrc hdst) K) Q) := by
  subst hsm
  simp only [P]
  unfold Ow sup2
  iintro ⟨#He, ⟨Hrest, HS, HR, HC, Hcr, H3, HM⟩, ⟨%W, HO⟩⟩ Hk
  ihave HR := (Entails.of_eq (posR_eq d c k)) $$ HR
  icases HR with ⟨HR, -⟩
  ihave #Hfacts := (env_facts m ρ c) $$ He
  ihave Hc1 := (facts_cell m ρ c (.recv d (par k))) $$ Hfacts
  icases Hc1 with ⟨%κ, #Hc1⟩
  ihave #Hlev := (facts_lev m ρ) $$ Hfacts
  have hmw := may_recv (F := F) d c k q hk hq
  ihave #Hmw := hmw $$ Hlev
  iapply (Rounds.wp_wait_rest_token Variants.none ER (ringRd m ρ) (c : Thread nD τ) none (κ := κ)
      (wpE_waitDma2_eq Variants.none (c : Thread nD τ) none Set.univ) (Set.mem_univ _) k (O := due c q) (W := W) (R := k / 2) (m := 0) (T := ∅)
      (by
        have h := expect_cell m ρ c (.recv d (par k)) (k / 2)
        rw [dK_recv d (par k) (k / 2) (by omega), Finset.card_singleton, one_mul] at h
        rw [hN, Nat.zero_add]; exact h.symm)) $$ [Hcr HO HR]
  · isplitr; · iexact Hc1
    isplitl [Hcr]; · rw [hN]; iexact Hcr
    isplitl [HO]; · iexact HO
    isplitr; · iexact Hmw
    iexact HR
  iintro ⟨HO, HR, HRr, Hpay⟩
  ihave Hpay := (Entails.of_eq (show (bigSep ((ringRd m ρ).duties (cell c (.recv d (par k))) (k / 2) \ ∅) fun δ => (ringRd m ρ).payload (cell c (.recv d (par k))) (k / 2) δ)
      = recvPay m ρ d c k by
    rw [duties_cell, dK_recv d (par k) (k / 2) (by omega), bigSep_one, payload_cell]
    unfold payloadK; simp only; rw [par_div])) $$ Hpay
  iapply Hk
  isplitr [HO]
  · isplitl [Hrest]; · iexact Hrest
    isplitl [HS]; · iexact HS
    isplitl [HR HRr]
    · unfold posR; rw [par_add_two, div_add_two]; isplitl [HR]; · iexact HR
      iexact HRr
    isplitl [HC]; · iexact HC
    isplitl [H3]; · iexact H3
    isplitl [HM]; · iexact HM
    iexact Hpay
  · iexists _; iexact HO

variable {m ρ} in
/-- The return of step `k`'s credit: the landing area of step `k + 2` is released. -/
theorem r_signal {d : Bool} {c : Dev nD} {k q : ℕ} {n : Dev nD} {sm : Sem sig} {i : ℤ} {α : Type} {Q : α → sProp 𝕄} {K : PUnit → Prog (TpuEff nD τ sig (Elt F) Λ₀ .tc) α}
    (hn : n = prv d c) (hk : k < 30 := by decide) (hq : q = 4 * k + 2 + (if d then 1 else 0) := by rfl) (hsm : sm = credS d := by rfl)
    (hi : i = ((1 : ℕ) : ℤ) := by rfl) :
    iprop(env m ρ c ∗ P m ρ d c (.p5 k) ∗ Ow c q)
      ⊢ iprop(((P m ρ d c (.p0 (k + 1)) ∗ Ow c (q + 1)) -∗ WP c (K ⟨⟩) Q)
        -∗ WP c (.op (.semSignal ((n, .tc) : Thread nD τ) sm i) K) Q) := by
  subst hn hsm hi
  simp only [P]
  unfold Ow sup3 rest
  iintro ⟨#He, ⟨⟨Hb, Hf, #Hrel, HS', HR'⟩, HS, HR, HC, ⟨Ht, Hrd⟩, HM, Ha⟩, ⟨%W, HO⟩⟩ Hk
  ihave HR := (Entails.of_eq (posR_eq d c (k + 2))) $$ HR
  icases HR with ⟨HR, #HRr⟩
  ihave #Hfacts := (env_facts m ρ c) $$ He
  ihave Hc1 := (facts_cell m ρ (prv d c) (.cred d)) $$ Hfacts
  icases Hc1 with ⟨%κ, #Hc1⟩
  ihave Hreach := (env_rel m ρ (!d) c) $$ He
  ihave #Hreach := ((rel_reached (!d) (nxt (!d) c) 2).trans (Entails.of_eq
    (show reached ER (cell (nxt (!d) c) (.cred (!!d))) 0 = reached ER (cell (prv d c) (.cred d)) 0 by cases d <;> rfl))) $$ Hreach
  have hrel : iprop(facts m ρ ∗ rel d c (min (k + 2) 30) ∗ reached ER (cell c (.recv d (par (k + 2)))) ((k + 2) / 2)
      ∗ (if k + 2 < 30 then readerAt ES (c, d, k + 2) 0 else emp) ∗ areaAt d c (k + 2)) ⊢ (|={Set.univ}=> rel d c (min (k + 3) 30) : sProp 𝕄) := by
    by_cases h : k + 2 < 30
    · unfold areaAt
      rw [if_pos h, if_pos h, Nat.min_eq_left (by omega), Nat.min_eq_left (by omega)]
      iintro ⟨Hfa, Hre, Hrr, Hrd, Ha⟩
      ihave Hsl := (facts_slot m ρ c d (k + 2) h) $$ Hfa
      icases Hsl with ⟨%ι, Hsl⟩
      imod (slot_release ES (S := area (F := F) d c (k + 2)) (ι := ι) (Set.mem_univ ι) (area_excl d c (k + 2)) 0) $$ [Hsl Hrd Ha] with ⟨-, Hrl⟩
      · isplitl [Hsl]; · iexact Hsl
        isplitl [Hrd]; · iexact Hrd
        iexact Ha
      imodintro
      iapply (rel_succ d c (k + 2))
      isplitl [Hre]; · iexact Hre
      isplitl [Hrl]; · iexact Hrl
      iexact Hrr
    · rw [Nat.min_eq_right (by omega), Nat.min_eq_right (by omega)]
      iintro ⟨-, Hre, -⟩
      imodintro; iexact Hre
  imod hrel $$ [Hrd Ha] with #Hrel'
  · isplitr; · iexact Hfacts
    isplitr; · iexact Hrel
    isplitr; · iexact HRr
    isplitl [Hrd]; · iexact Hrd
    iexact Ha
  iapply (Rounds.wp_signal Variants.none ER (ringRd m ρ) (c : Thread nD τ) none (dst := (prv d c : Thread nD τ)) (sem := credS d) (κ := κ)
      (r := 0) (d := k) (k' := 1)
      (by
        have h := duties_cell m ρ (prv d c) (.cred d) 0
        rw [dK_cred d] at h
        exact h ▸ Finset.mem_range.mpr hk)
      (amount_cell m ρ (prv d c) (.cred d) 0 k) k (O₀ := due c q) (due c (q + 1))
      (by rw [due_step c q (by split at hq <;> omega), pay_cred d c k q hq])) $$ [HO Ht]
  · isplitr; · iexact Hc1
    isplitl [HO]; · iexact HO
    isplitl [Ht]; · iexact Ht
    isplitr
    · iapply (Entails.of_eq (show rel d c (min (k + 3) 30) = (ringRd m ρ).payload (cell (prv d c) (.cred d)) 0 k by
        rw [payload_cell]; unfold payloadK; simp only; rw [nxt_prv]))
      iexact Hrel'
    iexact Hreach
  iintro HO
  iapply Hk
  isplitr [HO]
  · isplitl [Hb]; · iexact Hb
    isplitl [Hf]; · iexact Hf
    isplitr; · iexact Hrel'
    isplitl [HS']; · iexact HS'
    isplitl [HS]; · iexact HS
    isplitl [HR']; · iexact HR'
    isplitl [HR]
    · unfold posR; isplitl [HR]; · iexact HR
      iexact HRr
    isplitl [HC]; · iexact HC
    iexact HM
  · iexists W; iexact HO

theorem posC_rel (d : Bool) (r : Dev nD) (n : ℕ) (hn : n < 28) (T : Finset ℕ) (h : n + 1 ≤ T.card) :
    (bigSep T fun δ => rel d r (min (δ + 3) 30)) ⊢ (rel d r (n + 2 + 1) : sProp 𝕄) := by
  obtain ⟨δ, hδ, hle⟩ : ∃ δ ∈ T, n ≤ δ := by
    by_contra hc
    push Not at hc
    have hsub : T ⊆ Finset.range n := fun δ hδ => Finset.mem_range.mpr (hc δ hδ)
    have := Finset.card_le_card hsub
    rw [Finset.card_range] at this; omega
  exact (bigSep_at hδ (Φ := fun δ => rel d r (min (δ + 3) 30))).trans (rel_mono d r (by omega))

variable {m ρ} in
/-- The wait for a return before step `k`. -/
theorem r_credit {d : Bool} {c : Dev nD} {k q : ℕ} {sm : Sem sig} {i : ℤ} {α : Type} {Q : α → sProp 𝕄} {K : PUnit → Prog (TpuEff nD τ sig (Elt F) Λ₀ .tc) α}
    (hk2 : 2 ≤ k := by decide) (hk : k < 30 := by decide) (hq : 4 * k ≤ q := by decide) (hsm : sm = credS d := by rfl)
    (hi : i = ((1 : ℕ) : ℤ) := by rfl) :
    iprop(env m ρ c ∗ P m ρ d c (.p0 k) ∗ Ow c q)
      ⊢ iprop(((P m ρ d c (.p1 k) ∗ Ow c q) -∗ WP c (K ⟨⟩) Q)
        -∗ WP c (.op (.semWait sm i) K) Q) := by
  subst hsm hi
  obtain ⟨n, rfl⟩ : ∃ n, k = n + 2 := ⟨k - 2, by omega⟩
  simp only [P]
  rw [sup_first d c (n + 2) hk]
  unfold sup rest sup0 posC Ow
  rw [if_pos hk2, show n + 2 - 2 = n by omega, show n + 2 + 1 - 2 = n + 1 by omega]
  iintro ⟨#He, ⟨⟨⟨Hcr, H1, H2, H3⟩, Hb⟩, Hf, Hr, HS, HS', HR, HR', ⟨%T, %hT, HC, #HT⟩, HM⟩, ⟨%W, HO⟩⟩ Hk
  ihave #Hfacts := (env_facts m ρ c) $$ He
  ihave Hc1 := (facts_cell m ρ c (.cred d)) $$ Hfacts
  icases Hc1 with ⟨%κ, #Hc1⟩
  ihave #Hlev := (facts_lev m ρ) $$ Hfacts
  have hmw := may_cred (F := F) d c n q (by omega) (by omega)
  ihave #Hmw := hmw $$ Hlev
  iapply (Rounds.wp_wait Variants.none ER (ringRd m ρ) (c : Thread nD τ) none (κ := κ)
      (wpE_semWait_eq Variants.none (c : Thread nD τ) none Set.univ) (Set.mem_univ _) (cr := Finsupp.single n 1) (O := due c q) (W := W)
      {((.reg (credS d) : SemLoc sig), n)} (R := 0) (m := n) (T := T) (Util.total_single _ _) (image_single_subset _ n 1)) $$ [Hcr HO HC]
  · isplitr; · iexact Hc1
    isplitl [Hcr]; · iexact Hcr
    isplitl [HO]; · iexact HO
    isplitr; · iexact Hmw
    iexact HC
  iintro %S ⟨%hS, HO, HC, Hpay⟩
  have hd : (ringRd m ρ).duties ((c : Thread nD τ), .reg (credS d)) 0 = Finset.range 30 :=
    (duties_cell m ρ c (.cred d) 0).trans (dK_cred d)
  have hx : (ringRd m ρ).expect ((c : Thread nD τ), .reg (credS d)) 0 = 30 := by
    refine (expect_cell m ρ c (.cred d) 0).trans ?_
    rw [dK_cred d, Finset.card_range]; rfl
  obtain ⟨hTS, hSd, hcard⟩ := hS
  rw [hd] at hSd hcard
  rw [hx, Finset.card_sdiff_of_subset hSd, Finset.card_range] at hcard
  have hSc : n + 1 ≤ S.card := by
    have := Finset.card_le_card hSd
    rw [Finset.card_range] at this; omega
  have hj : iprop((bigSep T fun δ => rel (F := F) d (nxt d c) (min (δ + 3) 30))
      ∗ bigSep (S \ T) fun δ => (ringRd m ρ).payload ((c : Thread nD τ), .reg (credS d)) 0 δ)
      ⊢ (bigSep S fun δ => rel d (nxt d c) (min (δ + 3) 30) : sProp 𝕄) := by
    have e : (bigSep (S \ T) fun δ => (ringRd m ρ).payload ((c : Thread nD τ), .reg (credS d)) 0 δ)
        = bigSep (S \ T) fun δ => rel d (nxt d c) (min (δ + 3) 30) :=
      bigSep_congr fun δ _ => payload_cell m ρ c (.cred d) 0 δ
    rw [e]
    refine (bigSep_sep_union T (S \ T)).trans ?_
    rw [Finset.union_sdiff_of_subset hTS]; exact BI.Entails.refl _
  ihave #HS2 := hj $$ [Hpay]
  · isplitr; · iexact HT
    iexact Hpay
  ihave #Hrel := (posC_rel d (nxt d c) n (by omega) S hSc) $$ HS2
  iapply Hk
  isplitr [HO]
  · isplitl [Hb Hf Hr HS' HR']
    · isplitl [Hb]; · iexact Hb
      isplitl [Hf]; · iexact Hf
      isplitl [Hr]; · iexact Hr
      isplitl [HS']; · iexact HS'
      iexact HR'
    isplitl [HS]; · iexact HS
    isplitl [HR]; · iexact HR
    isplitl [HC]
    · iexists S; isplitr; · ipureintro; exact ⟨hSd, hSc⟩
      isplitl [HC]; · iexact HC
      iexact HS2
    isplitr; · iexact Hrel
    isplitl [H1]; · iexact H1
    isplitl [H2]; · iexact H2
    isplitl [H3]; · iexact H3
    iexact HM
  · iexists _; iexact HO

variable {m ρ} in
/-- The wait for the last two returns. -/
theorem r_last {d : Bool} {c : Dev nD} {sm : Sem sig} {i : ℤ} {α : Type} {Q : α → sProp 𝕄} {K : PUnit → Prog (TpuEff nD τ sig (Elt F) Λ₀ .tc) α} (hsm : sm = credS d := by rfl) (hi : i = ((2 : ℕ) : ℤ) := by rfl) :
    iprop(env m ρ c ∗ P m ρ d c (.p0 30) ∗ Ow c 120)
      ⊢ iprop(((P m ρ d c .p6 ∗ Ow c 120) -∗ WP c (K ⟨⟩) Q)
        -∗ WP c (.op (.semWait sm i) K) Q) := by
  subst hsm hi
  simp only [P]
  unfold posC Ow fin2
  rw [due_end]
  iintro ⟨#He, ⟨-, ⟨Hc28, Hc29⟩, -, HS, HS', HR, HR', ⟨%T, -, HC, -⟩, HM⟩, ⟨%W, HO⟩⟩ Hk
  ihave #Hfacts := (env_facts m ρ c) $$ He
  ihave Hc1 := (facts_cell m ρ c (.cred d)) $$ Hfacts
  icases Hc1 with ⟨%κ, #Hc1⟩
  have hcr : iprop(cred (tallyAt (cell c (.cred d)) 28 1) ∗ cred (tallyAt (cell c (.cred d)) 29 1))
      ⊢ (cred (tallyOn ((c : Thread nD τ), .reg (credS d)) (Finsupp.single 28 1 + Finsupp.single 29 1)) : sProp 𝕄) := by
    rw [tallyOn_add]
    exact (cred_add _ _).2
  have htot : Util.total (Finsupp.single 28 1 + Finsupp.single 29 1 : ℕ →₀ ℕ) = 2 := by
    rw [Util.total_add, Util.total_single, Util.total_single]
  iapply (Rounds.wp_wait_rest Variants.none ER (ringRd m ρ) (c : Thread nD τ) none (κ := κ)
      (wpE_semWait_eq Variants.none (c : Thread nD τ) none Set.univ) (Set.mem_univ _) (cr := Finsupp.single 28 1 + Finsupp.single 29 1)
      (O := 0) (W := W) (((Finsupp.single 28 1 + Finsupp.single 29 1 : ℕ →₀ ℕ)).support.image ((.reg (credS d) : SemLoc sig), ·)) (R := 0) (m := 30 - 2) (T := T)
      (by
        refine Eq.trans ?_ (expect_cell m ρ c (.cred d) 0).symm
        rw [dK_cred d, Finset.card_range]; rfl)
      htot subset_rfl) $$ [Hc28 Hc29 HO HC]
  · isplitr; · iexact Hc1
    isplitl [Hc28 Hc29]
    · iapply hcr; isplitl [Hc28]; · iexact Hc28
      iexact Hc29
    isplitl [HO]; · iexact HO
    isplitr; · rw [MayOwe_zero]; iempintro
    iexact HC
  iintro ⟨HO, HC, -, -⟩
  iapply Hk
  isplitr [HO]
  · isplitl [HS]; · iexact HS
    isplitl [HS']; · iexact HS'
    isplitl [HR]; · iexact HR
    isplitl [HR']; · iexact HR'
    isplitl [HC]; · iexact HC
    iexact HM
  · iexists _; iexact HO

variable {m ρ} in
/-- A reducing step's load of the core's own chunk. -/
theorem r_load {d : Bool} {c : Dev nD} {k q : ℕ} {off : Fin 2 → ℕ} {inb : ∀ a, off a + S128x1024.size a ≤ S4096x1024.size a}
    {hl : oM.view.LoadsAt (Rect.unit (s := S4096x1024) off S128x1024.size inb).toLoadRect}
    {α : Type} {Q : α → sProp 𝕄} {K : Vec F S128x1024 .bf16 → Prog (TpuEff nD τ sig (Elt F) Λ₀ .tc) α}
    (hoff : off = choff d (back d c (k + 1))) (hk : k < 15 := by decide) :
    iprop(env m ρ c ∗ P m ρ d c (.p4 k) ∗ Ow c q)
      ⊢ iprop(((P m ρ d c (.p4 k) ∗ Ow c q) -∗ WP c (K (xch m ρ d c (back d c (k + 1)))) Q)
        -∗ WP c (.op (.load oM (Rect.unit (s := S4096x1024) off S128x1024.size inb).toLoadRect hl) K) Q) := by
  subst hoff
  simp only [P]
  rw [held_reduce m ρ d c k hk]
  iintro ⟨-, ⟨HA, HB, HC, HD, HE, ⟨Ho, HF⟩, HG⟩, HO⟩ Hk
  unfold ownsTc owns
  icases Ho with ⟨%f, %hf, Ho⟩
  iapply (wp_load_rect Variants.none (c : Thread nD τ) none Set.univ (m := oM) (r := chR d (back d c (k + 1))) (f := f) (S := (chM d (back d c (k + 1))).view.set) subset_rfl) $$ [Ho]
  · iexact Ho
  iintro Ho
  rw [show (oM.access (chR d (back d c (k + 1)))).read (Elt F) f = xch m ρ d c (back d c (k + 1)) from hf]
  iapply Hk
  isplitr [HO]
  · isplitl [HA]; · iexact HA
    isplitl [HB]; · iexact HB
    isplitl [HC]; · iexact HC
    isplitl [HD]; · iexact HD
    isplitl [HE]; · iexact HE
    isplitl [Ho HF]
    · isplitl [Ho]
      · iexists f; isplitr; · ipureintro; exact hf
        iexact Ho
      iexact HF
    iexact HG
  · iexact HO

theorem store_owns (d : Bool) (c : Dev nD) (k : ℕ) (f) :
    ((oM.access (chR d (back d c (k + 1)))).loc (c : Thread nD τ) ↦[(chM d (back d c (k + 1))).view.set]{fullShare}
        ((oM.access (chR d (back d c (k + 1)))).write (Elt F) f (val m ρ d (k + 1) c) Finset.univ))
      ⊢ (ownsTc c (chM d (back d c (k + 1))) fullShare (val m ρ d (k + 1) c) : sProp 𝕄) := by
  have h2 : _ ⊢ (owns (c : Thread nD τ) (chM d (back d c (k + 1))) fullShare _ : sProp 𝕄) :=
    owns_intro (c : Thread nD τ) (chM d (back d c (k + 1))) fullShare ((chM d (back d c (k + 1))).view.write (Elt F) f (val m ρ d (k + 1) c) Finset.univ)
  rw [View.read_write_univ] at h2
  exact h2

theorem owns_load {sh s' : Shape} (M : Memref sig .tc .vmem sh .bf16) (r : Rect sh) (hr : ∀ a, r.stride a = 1) (hq : r.shape.Squeezes s')
    (hc : r.shape.ShapeCasts s') (c : Dev nD) (X : Vec F s' .bf16) {hl : M.view.LoadsAt r.toLoadRect}
    {α : Type} {Q : α → sProp 𝕄} {K : Vec F r.shape .bf16 → Prog (TpuEff nD τ sig (Elt F) Λ₀ .tc) α} :
    (owns (c : Thread nD τ) ((M.slice r hr).squeeze s' hq) fullShare X : sProp 𝕄)
      ⊢ iprop((∀ w : Vec F r.shape .bf16, (⌜shapeCast s' w hc = X⌝ ∗ owns (c : Thread nD τ) ((M.slice r hr).squeeze s' hq) fullShare X) -∗ WP c (K w) Q)
        -∗ WP c (.op (.load M r.toLoadRect hl) K) Q) := by
  unfold owns
  iintro ⟨%f, %hf, Ho⟩ Hk
  have hs : (M.access r).set ⊆ ((M.slice r hr).squeeze s' hq).view.set := by
    exact (View.set_reshape (M.slice r hr).view (Shape.Squeezes.numel_eq hq)).symm.subset
  iapply (wp_load_rect Variants.none (c : Thread nD τ) none Set.univ (m := M) (r := r) (f := f)
    (S := ((M.slice r hr).squeeze s' hq).view.set) hs) $$ [Ho]
  · iexact Ho
  iintro Ho
  ispecialize Hk $$ %((M.access r).read (Elt F) f)
  iapply Hk
  isplitr
  · ipureintro; exact hf
  · iexists f; isplitr; · ipureintro; exact hf
    iexact Ho

theorem slot_load (d : Bool) (s : Fin 2) (c : Dev nD) (X : Chunk F) {off : Fin 3 → ℕ} (hoff : off = ![s.val, 0, 0])
    {inb : ∀ a, off a + S1x128x1024.size a ≤ S2x128x1024.size a} {M : Memref sig .tc .vmem S2x128x1024 .bf16} (hM : M = comM d)
    {hl : M.view.LoadsAt (Rect.unit (s := S2x128x1024) off S1x128x1024.size inb).toLoadRect}
    {α : Type} {Q : α → sProp 𝕄} {K : Vec F S1x128x1024 .bf16 → Prog (TpuEff nD τ sig (Elt F) Λ₀ .tc) α} :
    (owns (c : Thread nD τ) (slM d s) fullShare X : sProp 𝕄)
      ⊢ iprop((∀ w : Vec F S1x128x1024 .bf16, (⌜shapeCast S128x1024 w shapeCasts_S1x128x1024_S128x1024 = X⌝
            ∗ owns (c : Thread nD τ) (slM d s) fullShare X) -∗ WP c (K w) Q)
        -∗ WP c (.op (.load M (Rect.unit (s := S2x128x1024) off S1x128x1024.size inb).toLoadRect hl) K) Q) := by
  subst hoff hM
  match d, s with
  | false, 0 => exact owns_load (comM false) (Rect.unit (s := S2x128x1024) ![0, 0, 0] S1x128x1024.size inb) (fun _ => rfl) squeezes_S1x128x1024_S128x1024 shapeCasts_S1x128x1024_S128x1024 c X
  | false, 1 => exact owns_load (comM false) (Rect.unit (s := S2x128x1024) ![1, 0, 0] S1x128x1024.size inb) (fun _ => rfl) squeezes_S1x128x1024_S128x1024 shapeCasts_S1x128x1024_S128x1024 c X
  | true, 0 => exact owns_load (comM true) (Rect.unit (s := S2x128x1024) ![0, 0, 0] S1x128x1024.size inb) (fun _ => rfl) squeezes_S1x128x1024_S128x1024 shapeCasts_S1x128x1024_S128x1024 c X
  | true, 1 => exact owns_load (comM true) (Rect.unit (s := S2x128x1024) ![1, 0, 0] S1x128x1024.size inb) (fun _ => rfl) squeezes_S1x128x1024_S128x1024 shapeCasts_S1x128x1024_S128x1024 c X

variable {m ρ} in
/-- A reducing step's load of the chunk that arrived. -/
theorem r_slot {d : Bool} {c : Dev nD} {k q : ℕ} {off : Fin 3 → ℕ}
    {inb : ∀ a, off a + S1x128x1024.size a ≤ S2x128x1024.size a} {M : Memref sig .tc .vmem S2x128x1024 .bf16}
    {hl : M.view.LoadsAt (Rect.unit (s := S2x128x1024) off S1x128x1024.size inb).toLoadRect}
    {α : Type} {Q : α → sProp 𝕄} {K : Vec F S1x128x1024 .bf16 → Prog (TpuEff nD τ sig (Elt F) Λ₀ .tc) α}
    (hk : k < 15 := by decide) (hoff : off = ![(par k).val, 0, 0] := by rfl) (hM : M = comM d := by rfl) :
    iprop(env m ρ c ∗ P m ρ d c (.p4 k) ∗ Ow c q)
      ⊢ iprop((∀ w : Vec F S1x128x1024 .bf16, (⌜shapeCast S128x1024 w shapeCasts_S1x128x1024_S128x1024 = val m ρ d k (prv d c)⌝
            ∗ P m ρ d c (.p4 k) ∗ Ow c q) -∗ WP c (K w) Q)
        -∗ WP c (.op (.load M (Rect.unit (s := S2x128x1024) off S1x128x1024.size inb).toLoadRect hl) K) Q) := by
  simp only [P]
  unfold recvPay
  rw [landM_lt d c k hk]
  iintro ⟨-, ⟨HA, HB, HC, HD, HE, HF, Hs⟩, HO⟩ Hk
  iapply (slot_load d (par k) c (val m ρ d k (prv d c)) hoff hM) $$ [Hs]
  · iexact Hs
  iintro %w ⟨%hw, Hs⟩
  ispecialize Hk $$ %w
  iapply Hk
  isplitr
  · ipureintro; exact hw
  isplitr [HO]
  · isplitl [HA]; · iexact HA
    isplitl [HB]; · iexact HB
    isplitl [HC]; · iexact HC
    isplitl [HD]; · iexact HD
    isplitl [HE]; · iexact HE
    isplitl [HF]; · iexact HF
    iexact Hs
  · iexact HO

variable {m ρ} in
/-- A reducing step's store of the sum. -/
theorem r_store {d : Bool} {c : Dev nD} {k q : ℕ} {off : Fin 2 → ℕ} {inb : ∀ a, off a + S128x1024.size a ≤ S4096x1024.size a}
    {w : Vec F S128x1024 .bf16} {Mk : Finset S128x1024.Idx}
    {hx : (oM.access (Rect.unit (s := S4096x1024) off S128x1024.size inb)).Stores Mk}
    {hm : Mk = Finset.univ ∨ ∀ a, (Rect.unit (s := S4096x1024) off S128x1024.size inb).stride a = 1} {α : Type} {Q : α → sProp 𝕄} {K : PUnit → Prog (TpuEff nD τ sig (Elt F) Λ₀ .tc) α}
    (hoff : off = choff d (back d c (k + 1))) (hw : w = val m ρ d (k + 1) c) (hk : k < 15 := by decide) (hMk : Mk = Finset.univ := by rfl) :
    iprop(env m ρ c ∗ P m ρ d c (.p4 k) ∗ Ow c q)
      ⊢ iprop(((P m ρ d c (.p5 k) ∗ Ow c q) -∗ WP c (K ⟨⟩) Q)
        -∗ WP c (.op (.store oM (Rect.unit (s := S4096x1024) off S128x1024.size inb) w Mk hx hm) K) Q) := by
  subst hoff hw hMk
  simp only [P]
  rw [held_reduce m ρ d c k hk]
  iintro ⟨-, ⟨HA, HB, HC, HD, HE, ⟨Ho, HF, HH⟩, HG⟩, HO⟩ Hk
  unfold ownsTc owns
  icases Ho with ⟨%f, %hf, Ho⟩
  iapply (wp_store Variants.none (c : Thread nD τ) none Set.univ (m := oM) (r := chR d (back d c (k + 1))) (f := f)
    (S := (chM d (back d c (k + 1))).view.set) subset_rfl) $$ [Ho]
  · iexact Ho
  iintro Ho
  have ho := store_owns m ρ d c k f
  ihave Ho := ho $$ Ho
  ihave Hb := (Entails.of_eq (held_reduced m ρ d c k hk)) $$ [Ho HF]
  · isplitl [Ho]; · iexact Ho
    iexact HF
  ihave H := (reduce_end m ρ d c k hk) $$ [Hb HH HG]
  · isplitr [HG]
    · isplitl [Hb]; · iexact Hb
      iexact HH
    iexact HG
  iapply Hk
  isplitr [HO]
  · isplitl [HA]; · iexact HA
    isplitl [HB]; · iexact HB
    isplitl [HC]; · iexact HC
    isplitl [HD]; · iexact HD
    isplitl [HE]; · iexact HE
    iexact H
  · iexact HO

end Rules

end Cert.HalfProof
-- ==== Proof.HalfDevs.lean ====
/-
# The first half's ring all-reduce: the peers and slices of the body, in terms of the ring
-/
module

public import proofs.«01_k».proof.Proof.HalfSched

@[expose] public section

set_option maxRecDepth 20000

noncomputable section

namespace Cert.HalfProof

open Cert.HalfIdeal Cert.HalfIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : (ℓ : Loc nD τ sig) → Buf (Elt F) ℓ) (ρ : Dev nD → PrngReg)

/-! ## The peers and the slices the body computes -/

theorem dev1_eq : ∀ c : Dev nD, (⟨k0_dev1 c, k0_dev1_lt c⟩ : Dev nD) = prv false c := by decide +kernel
theorem dev2_eq : ∀ c : Dev nD, (⟨k0_dev2 c, k0_dev2_lt c⟩ : Dev nD) = prv true c := by decide +kernel

theorem off1_eq : ∀ (c : Dev nD) (k : Fin 15), k0_off1 c (BitVec.ofNat 32 k.val) = choff false (back false c k.val) := by decide +kernel
theorem off2_eq : ∀ (c : Dev nD) (k : Fin 15), k0_off2 c (BitVec.ofNat 32 k.val) = choff true (back true c k.val) := by decide +kernel
theorem off3_eq : ∀ (c : Dev nD) (k : Fin 15), k0_off3 c (BitVec.ofNat 32 k.val) = choff false (back false c (k.val + 1)) := by decide +kernel
theorem off4_eq : ∀ (c : Dev nD) (k : Fin 15), k0_off4 c (BitVec.ofNat 32 k.val) = choff true (back true c (k.val + 1)) := by decide +kernel
theorem off5_eq : ∀ (c : Dev nD) (k : Fin 15), k0_off5 c (BitVec.ofNat 32 k.val) = choff false (back false c (15 + k.val)) := by decide +kernel
theorem off6_eq : ∀ (c : Dev nD) (k : Fin 15), k0_off6 c (BitVec.ofNat 32 k.val) = choff true (back true c (15 + k.val)) := by decide +kernel

end Cert.HalfProof
-- ==== Proof.HalfSteps.lean ====
/-
# The first half's ring all-reduce: the two rings side by side
-/
module

public import proofs.«01_k».proof.Proof.HalfRules
public import proofs.«01_k».proof.Proof.HalfDevs
public import Idealize.ShloMosaic.Lib.Pipeline.Value

@[expose] public section

set_option maxRecDepth 20000

noncomputable section

namespace Cert.HalfProof

open Cert.HalfIdeal Cert.HalfIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : (ℓ : Loc nD τ sig) → Buf (Elt F) ℓ) (ρ : Dev nD → PrngReg)

/-! ## Both rings at once -/

/-- What a core has between two operations: what it knows, its place in both rings, and what it owes after `q` payments. -/
def St (c : Dev nD) (a b : Ph) (q : ℕ) : sProp 𝕄 := iprop(env m ρ c ∗ P m ρ false c a ∗ P m ρ true c b ∗ Ow c q)

/-- A stretch `p` of the body takes a core from one place in the two rings to another. -/
abbrev Goes (c : Dev nD) (a b : Ph) (q : ℕ) (a' b' : Ph) (q' : ℕ) {α : Type} (p : Prog (TpuEff nD τ sig (Elt F) Λ₀ .tc) α) : Prop :=
  ∀ {Q : α → sProp 𝕄}, (∀ r, St m ρ c a' b' q' ⊢ Q r) → (St m ρ c a b q ⊢ WP c p Q)

/-- How a program's steps are brought to its head, one by one. -/
theorem runs {α β γ : Type} :
    (∀ e : TpuEff nD τ sig (Elt F) Λ₀ .tc α, Prog.lift e = .op e .ret)
      ∧ (∀ (a : α) (k : α → Prog (TpuEff nD τ sig (Elt F) Λ₀ .tc) β), Prog.ret a >>= k = k a)
      ∧ (∀ (e : TpuEff nD τ sig (Elt F) Λ₀ .tc β) (d : β → Prog _ α) (k : α → Prog _ γ), Prog.op e d >>= k = Prog.op e (fun x => d x >>= k))
      ∧ (∀ a : α, (pure a : Prog (TpuEff nD τ sig (Elt F) Λ₀ .tc) α) = .ret a)
      ∧ (∀ (e : Dev nD) (x : Sem sig) (n : BitVec 32),
        (semSignalWord e x n : Prog (TpuEff nD τ sig (Elt F) Λ₀ .tc) PUnit) = .op (.semSignal (e, .tc) x n.toInt) .ret)
      ∧ (∀ (x : Sem sig) (n : BitVec 32), (semWaitWord x n : Prog (TpuEff nD τ sig (Elt F) Λ₀ .tc) PUnit) = .op (.semWait x n.toInt) .ret) :=
  ⟨fun _ => rfl, fun _ _ => rfl, fun _ _ _ => rfl, fun _ => rfl, fun _ _ _ => rfl, fun _ _ => rfl⟩

variable {m ρ} in
/-- An operation on the first ring leaves the second alone. -/
theorem lf {c : Dev nD} {a a' b : Ph} {q q' : ℕ} {G R : sProp 𝕄}
    (h : iprop(env m ρ c ∗ P m ρ false c a ∗ Ow c q) ⊢ iprop(((P m ρ false c a' ∗ Ow c q') -∗ R) -∗ G))
    (k : St m ρ c a' b q' ⊢ R) : St m ρ c a b q ⊢ G := by
  unfold St at *
  iintro ⟨#He, Ha, Hb, HO⟩
  iapply h $$ [Ha HO]
  · isplitr; · iexact He
    isplitl [Ha]; · iexact Ha
    iexact HO
  iintro ⟨Ha, HO⟩
  iapply k
  isplitr; · iexact He
  isplitl [Ha]; · iexact Ha
  isplitl [Hb]; · iexact Hb
  iexact HO

variable {m ρ} in
/-- An operation on the second ring leaves the first alone. -/
theorem lt {c : Dev nD} {a b b' : Ph} {q q' : ℕ} {G R : sProp 𝕄}
    (h : iprop(env m ρ c ∗ P m ρ true c b ∗ Ow c q) ⊢ iprop(((P m ρ true c b' ∗ Ow c q') -∗ R) -∗ G))
    (k : St m ρ c a b' q' ⊢ R) : St m ρ c a b q ⊢ G := by
  unfold St at *
  iintro ⟨#He, Ha, Hb, HO⟩
  iapply h $$ [Hb HO]
  · isplitr; · iexact He
    isplitl [Hb]; · iexact Hb
    iexact HO
  iintro ⟨Hb, HO⟩
  iapply k
  isplitr; · iexact He
  isplitl [Ha]; · iexact Ha
  isplitl [Hb]; · iexact Hb
  iexact HO

variable {m ρ} in
/-- The same for a load, whose value is known only through an equation. -/
theorem lfw {c : Dev nD} {a a' b : Ph} {q q' : ℕ} {T : Type} {φ : T → Prop} {G : sProp 𝕄} {R : T → sProp 𝕄}
    (h : iprop(env m ρ c ∗ P m ρ false c a ∗ Ow c q) ⊢ iprop((∀ w, (⌜φ w⌝ ∗ P m ρ false c a' ∗ Ow c q') -∗ R w) -∗ G))
    (k : ∀ w, φ w → (St m ρ c a' b q' ⊢ R w)) : St m ρ c a b q ⊢ G := by
  unfold St at *
  iintro ⟨#He, Ha, Hb, HO⟩
  iapply h $$ [Ha HO]
  · isplitr; · iexact He
    isplitl [Ha]; · iexact Ha
    iexact HO
  iintro %w ⟨%hw, Ha, HO⟩
  iapply (k w hw)
  isplitr; · iexact He
  isplitl [Ha]; · iexact Ha
  isplitl [Hb]; · iexact Hb
  iexact HO

variable {m ρ} in
theorem ltw {c : Dev nD} {a b b' : Ph} {q q' : ℕ} {T : Type} {φ : T → Prop} {G : sProp 𝕄} {R : T → sProp 𝕄}
    (h : iprop(env m ρ c ∗ P m ρ true c b ∗ Ow c q) ⊢ iprop((∀ w, (⌜φ w⌝ ∗ P m ρ true c b' ∗ Ow c q') -∗ R w) -∗ G))
    (k : ∀ w, φ w → (St m ρ c a b' q' ⊢ R w)) : St m ρ c a b q ⊢ G := by
  unfold St at *
  iintro ⟨#He, Ha, Hb, HO⟩
  iapply h $$ [Hb HO]
  · isplitr; · iexact He
    isplitl [Hb]; · iexact Hb
    iexact HO
  iintro %w ⟨%hw, Hb, HO⟩
  iapply (k w hw)
  isplitr; · iexact He
  isplitl [Ha]; · iexact Ha
  isplitl [Hb]; · iexact Hb
  iexact HO

variable {m ρ} in
/-- The first two steps start without a wait. -/
theorem s_start {c : Dev nD} {k q : ℕ} {G : sProp 𝕄} (h : St m ρ c (.p1 k) (.p1 k) q ⊢ G) (hk : k < 2 := by decide) : St m ρ c (.p0 k) (.p0 k) q ⊢ G := by
  unfold St at *
  iintro ⟨#He, Ha, Hb, HO⟩
  ihave Ha := (g_start m ρ false c k hk) $$ [Ha]
  · isplitr; · iexact He
    iexact Ha
  ihave Hb := (g_start m ρ true c k hk) $$ [Hb]
  · isplitr; · iexact He
    iexact Hb
  iapply h
  isplitr; · iexact He
  isplitl [Ha]; · iexact Ha
  isplitl [Hb]; · iexact Hb
  iexact HO

variable {m ρ} in
/-- The gathering steps reduce nothing. -/
theorem s_gather {c : Dev nD} {k q : ℕ} {G : sProp 𝕄} (h : St m ρ c (.p5 k) (.p5 k) q ⊢ G) (hk : 15 ≤ k := by decide) (hk' : k < 30 := by decide) : St m ρ c (.p4 k) (.p4 k) q ⊢ G := by
  unfold St at *
  iintro ⟨#He, Ha, Hb, HO⟩
  ihave Ha := (g_gather m ρ false c k hk hk') $$ Ha
  ihave Hb := (g_gather m ρ true c k hk hk') $$ Hb
  iapply h
  isplitr; · iexact He
  isplitl [Ha]; · iexact Ha
  isplitl [Hb]; · iexact Hb
  iexact HO

theorem s_ret {c : Dev nD} {α : Type} {r : α} {Q : α → sProp 𝕄} {G : sProp 𝕄} (h : G ⊢ Q r) : G ⊢ WP c (.ret r) Q :=
  h.trans (le_wp_ret _ _ _ r Q)

theorem s_part {c : Dev nD} {α β : Type} {p : Prog (TpuEff nD τ sig (Elt F) Λ₀ .tc) β} {k : β → Prog (TpuEff nD τ sig (Elt F) Λ₀ .tc) α}
    {Q : α → sProp 𝕄} {G : sProp 𝕄} (h : G ⊢ WP c p fun r => WP c (k r) Q) : G ⊢ WP c (p >>= k) Q := by
  rw [WP, wp_bind]; exact h

/-- A device named by a number is the one the ring says it is, if it is at all sixteen devices. -/
theorem at_all {f : Dev nD → ℕ} {g : Dev nD → Dev nD} (c : Dev nD) {p : f c < nD} (h : ∀ c, f c = (g c).val := by decide +kernel) :
    (⟨f c, p⟩ : Dev nD) = g c := Fin.ext (h c)

/-! ## The slices -/

theorem ch_eq {d : Bool} {j : Dev nD} {off : Fin 2 → ℕ} (h : off = choff d j) {inb : ∀ a, off a + S128x1024.size a ≤ S4096x1024.size a} :
    (oM.slice (Rect.unit (s := S4096x1024) off S128x1024.size inb) (fun _ => rfl) : Memref sig .tc .vmem S128x1024 .bf16) = chM d j := by
  subst h; rfl

theorem land_rs (d : Bool) (k : ℕ) {n : Dev nD} (hk : k < 15 := by decide) : slM d (par k) = landM d n k :=
  (landM_lt d n k hk).symm

theorem land_ag {d : Bool} {c n : Dev nD} {k : ℕ} {off : Fin 2 → ℕ} {inb : ∀ a, off a + S128x1024.size a ≤ S4096x1024.size a}
    (hn : n = nxt d c) (h : off = choff d (back d c k)) (hk : ¬ k < 15 := by decide) :
    (oM.slice (Rect.unit (s := S4096x1024) off S128x1024.size inb) (fun _ => rfl) : Memref sig .tc .vmem S128x1024 .bf16) = landM d n k := by
  rw [landM_ge d n k hk, ch_eq h, hn, back_nxt]

theorem credit_o {off : Fin 2 → ℕ} {inb : ∀ a, off a + S128x1024.size a ≤ S4096x1024.size a} :
    (oM.slice (Rect.unit (s := S4096x1024) off S128x1024.size inb) (fun _ => rfl) : Memref sig .tc .vmem S128x1024 .bf16).view.dmaCredit = N := rfl

variable {m ρ} in
/-- What a reducing step stores. -/
theorem sum_val {d : Bool} {c : Dev nD} {k : ℕ} {v : Vec F S128x1024 .bf16} {w : Vec F S1x128x1024 .bf16} (hv : v = xch m ρ d c (back d c (k + 1)))
    (hw : shapeCast S128x1024 w shapeCasts_S1x128x1024_S128x1024 = val m ρ d k (prv d c)) (hk : k < 15 := by decide) :
    addf (F := F) (φ := .bf16) v (shapeCast S128x1024 w shapeCasts_S1x128x1024_S128x1024) = val m ρ d (k + 1) c := by
  rw [val_reduce m ρ d c k hk, hv, hw]

variable {m ρ} in
theorem sum_val' {d : Bool} {c : Dev nD} {k : ℕ}
    {w : Vec F S1x128x1024 .bf16} (hw : shapeCast S128x1024 w shapeCasts_S1x128x1024_S128x1024 = val m ρ d k (prv d c)) (hk : k < 15 := by decide) :
    addf (F := F) (φ := .bf16) (shapeCast S128x1024 (xch m ρ d c (back d c (k + 1))) shapeCasts_S128x1024_S128x1024)
      (shapeCast S128x1024 w shapeCasts_S1x128x1024_S128x1024) = val m ρ d (k + 1) c :=
  sum_val (shapeCast_self _ _) hw hk

end Cert.HalfProof
-- ==== Proof.HalfPartsA.lean ====
/-
# The first half's ring all-reduce: the body, part by part
-/
module

public import proofs.«01_k».proof.Proof.HalfSteps

@[expose] public section

set_option maxRecDepth 20000

noncomputable section

namespace Cert.HalfProof

open Cert.HalfIdeal Cert.HalfIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable {m : (ℓ : Loc nD τ sig) → Buf (Elt F) ℓ} {ρ : Dev nD → PrngReg}

variable {c : Dev nD} {h0 : (xM : Memref sig .tc .vmem S4096x1024 .bf16).IsWhole} {h1 : (oM : Memref sig .tc .vmem S4096x1024 .bf16).IsWhole}
  {h2 : (comM false).IsWhole} {h3 : (comM true).IsWhole}

open Cert.HalfIdeal renaming cc0_scratch2 → e2, cc0_scratch3 → e3, cc0_scratch4 → e4, cc0_scratch5 → e5, cc0_scratch6 → e6, cc0_scratch7 → e7

/-! ## The parts of the body

`part_n` says from where to where in the two rings the body's `n`-th stretch takes a core, and after how many payments. -/

theorem part_3 {v2 v13 v24 v43 v58 v59 v64} : Goes m ρ c (.p0 0) (.p0 0) 0 (.p2 0) (.p1 0) 1 (k0_part3 xM h0 oM h1 (comM false) h2 (comM true) h3 e2 e3 e4 e5 e6 e7 c v2 v13 v24 v43 v58 v59 v64) := by
  intro Q h; rw [k0_part3_eq_skeleton]; unfold k0_part3_skel; simp only [runs]
  refine s_start ?_
  refine lf (r_send (at_all c) (ch_eq (off1_eq c 0)) (land_rs false 0)) ?_
  exact s_ret (h _)

theorem part_4 {v13 v24} : Goes m ρ c (.p2 0) (.p1 0) 1 (.p4 0) (.p3 0) 2 (k0_part4 xM h0 oM h1 (comM false) h2 (comM true) h3 e2 e3 e4 e5 e6 e7 c v13 v24) := by
  intro Q h; rw [k0_part4_eq_skeleton]; unfold k0_part4_skel; simp only [runs]
  refine lt (r_send (at_all c) (ch_eq (off2_eq c 0)) (land_rs true 0)) ?_
  refine lf (r_sent credit_o) ?_
  refine lf (r_recv (credit_sl false 0)) ?_
  refine lt (r_sent credit_o) ?_
  exact s_ret (h _)

theorem part_5 {v2 v13 v24 v55 v78} : Goes m ρ c (.p4 0) (.p3 0) 2 (.p0 1) (.p0 1) 4 (k0_part5 xM h0 oM h1 (comM false) h2 (comM true) h3 e2 e3 e4 e5 e6 e7 c v2 v13 v24 v55 v78) := by
  intro Q h; rw [k0_part5_eq_skeleton]; unfold k0_part5_skel; simp only [runs]
  refine lt (r_recv (credit_sl true 0)) ?_
  refine lf (r_load (off3_eq c 0)) ?_
  refine lfw r_slot fun w0 hw0 => ?_
  refine lf (r_load (off3_eq c 0)) ?_
  refine lf (r_store (off3_eq c 0) (sum_val' hw0)) ?_
  refine lt (r_load (off4_eq c 0)) ?_
  refine ltw r_slot fun w1 hw1 => ?_
  refine lt (r_load (off4_eq c 0)) ?_
  refine lt (r_store (off4_eq c 0) (sum_val' hw1)) ?_
  refine lf (r_signal (at_all c)) ?_
  refine lt (r_signal (at_all c)) ?_
  exact s_ret (h _)

theorem part_6 {v2 v149 v150 v151 v152} : Goes m ρ c (.p0 1) (.p0 1) 4 (.p0 1) (.p0 1) 4 (k0_part6 xM h0 oM h1 (comM false) h2 (comM true) h3 e2 e3 e4 e5 e6 e7 v2 v149 v150 v151 v152) := by
  intro Q h; rw [k0_part6_eq_skeleton]; unfold k0_part6_skel; simp only [runs]
  exact s_ret (h _)

theorem part_7 {v13 v24 v157 v180 v184 v185 v186 v187 v188} : Goes m ρ c (.p0 1) (.p0 1) 4 (.p3 1) (.p2 1) 6 (k0_part7 xM h0 oM h1 (comM false) h2 (comM true) h3 e2 e3 e4 e5 e6 e7 c v13 v24 v157 v180 v184 v185 v186 v187 v188) := by
  intro Q h; rw [k0_part7_eq_skeleton]; unfold k0_part7_skel; simp only [runs]
  refine s_start ?_
  refine lf (r_send (at_all c) (ch_eq (off1_eq c 1)) (land_rs false 1)) ?_
  refine lt (r_send (at_all c) (ch_eq (off2_eq c 1)) (land_rs true 1)) ?_
  refine lf (r_sent credit_o) ?_
  exact s_ret (h _)

theorem part_8 {v13 v24 v169} : Goes m ρ c (.p3 1) (.p2 1) 6 (.p5 1) (.p4 1) 6 (k0_part8 xM h0 oM h1 (comM false) h2 (comM true) h3 e2 e3 e4 e5 e6 e7 c v13 v24 v169) := by
  intro Q h; rw [k0_part8_eq_skeleton]; unfold k0_part8_skel; simp only [runs]
  refine lf (r_recv (credit_sl false 1)) ?_
  refine lt (r_sent credit_o) ?_
  refine lt (r_recv (credit_sl true 1)) ?_
  refine lf (r_load (off3_eq c 1)) ?_
  refine lfw r_slot fun w0 hw0 => ?_
  refine lf (r_load (off3_eq c 1)) ?_
  refine lf (r_store (off3_eq c 1) (sum_val' hw0)) ?_
  exact s_ret (h _)

theorem part_9 {v2 v13 v24 v192} : Goes m ρ c (.p5 1) (.p4 1) 6 (.p0 2) (.p0 2) 8 (k0_part9 xM h0 oM h1 (comM false) h2 (comM true) h3 e2 e3 e4 e5 e6 e7 c v2 v13 v24 v192) := by
  intro Q h; rw [k0_part9_eq_skeleton]; unfold k0_part9_skel; simp only [runs]
  refine lt (r_load (off4_eq c 1)) ?_
  refine ltw r_slot fun w0 hw0 => ?_
  refine lt (r_load (off4_eq c 1)) ?_
  refine lt (r_store (off4_eq c 1) (sum_val' hw0)) ?_
  refine lf (r_signal (at_all c)) ?_
  refine lt (r_signal (at_all c)) ?_
  exact s_ret (h _)

theorem part_10 {v2 v271 v275 v276 v277} : Goes m ρ c (.p0 2) (.p0 2) 8 (.p1 2) (.p1 2) 8 (k0_part10 xM h0 oM h1 (comM false) h2 (comM true) h3 e2 e3 e4 e5 e6 e7 v2 v271 v275 v276 v277) := by
  intro Q h; rw [k0_part10_eq_skeleton]; unfold k0_part10_skel; simp only [runs]
  refine lf r_credit ?_
  refine lt r_credit ?_
  exact s_ret (h _)

theorem part_11 {v13 v24} : Goes m ρ c (.p1 2) (.p1 2) 8 (.p3 2) (.p2 2) 10 (k0_part11 xM h0 oM h1 (comM false) h2 (comM true) h3 e2 e3 e4 e5 e6 e7 c v13 v24) := by
  intro Q h; rw [k0_part11_eq_skeleton]; unfold k0_part11_skel; simp only [runs]
  refine lf (r_send (at_all c) (ch_eq (off1_eq c 2)) (land_rs false 2)) ?_
  refine lt (r_send (at_all c) (ch_eq (off2_eq c 2)) (land_rs true 2)) ?_
  refine lf (r_sent credit_o) ?_
  exact s_ret (h _)

theorem part_12 {v13 v283 v306 : BitVec 32} {Q : _ → sProp 𝕄}
    (h : ∀ r : (Σ' (v362 : BitVec 32) (v365 : FVec F S128x1024 .bf16), Vec F S1x128x1024 .bf16), r.2.1 = xch m ρ true c (back true c (2 + 1)) → shapeCast S128x1024 r.2.2 shapeCasts_S1x128x1024_S128x1024 = val m ρ true 2 (prv true c) → (St m ρ c (.p5 2) (.p4 2) 10 ⊢ Q r)) :
    St m ρ c (.p3 2) (.p2 2) 10 ⊢ WP c (k0_part12 xM h0 oM h1 (comM false) h2 (comM true) h3 e2 e3 e4 e5 e6 e7 c v13 v283 v306) Q := by
  rw [k0_part12_eq_skeleton]; unfold k0_part12_skel; simp only [runs]
  refine lf (r_recv (credit_sl false 0)) ?_
  refine lt (r_sent credit_o) ?_
  refine lt (r_recv (credit_sl true 0)) ?_
  refine lf (r_load (off3_eq c 2)) ?_
  refine lfw r_slot fun w0 hw0 => ?_
  refine lf (r_load (off3_eq c 2)) ?_
  refine lf (r_store (off3_eq c 2) (sum_val' hw0)) ?_
  refine lt (r_load (off4_eq c 2)) ?_
  refine ltw r_slot fun w1 hw1 => ?_
  exact s_ret (h _ (shapeCast_self (xch m ρ true c (back true c (2 + 1))) shapeCasts_S128x1024_S128x1024) hw1)

theorem part_13 {v2 v13 v24 v362 v365 v366} (hv : v365 = xch m ρ true c (back true c (2 + 1))) (hw : shapeCast S128x1024 v366 shapeCasts_S1x128x1024_S128x1024 = val m ρ true 2 (prv true c)) : Goes m ρ c (.p5 2) (.p4 2) 10 (.p0 3) (.p0 3) 12 (k0_part13 xM h0 oM h1 (comM false) h2 (comM true) h3 e2 e3 e4 e5 e6 e7 c v2 v13 v24 v362 v365 v366) := by
  intro Q h; rw [k0_part13_eq_skeleton]; unfold k0_part13_skel; simp only [runs]
  refine lt (r_load (off4_eq c 2)) ?_
  refine lt (r_store (off4_eq c 2) (sum_val hv hw)) ?_
  refine lf (r_signal (at_all c)) ?_
  refine lt (r_signal (at_all c)) ?_
  exact s_ret (h _)

theorem part_14 {v2 v24 v385 v398 c16_i32_332 c0_i32_333} : Goes m ρ c (.p0 3) (.p0 3) 12 (.p1 3) (.p1 3) 12 (k0_part14 xM h0 oM h1 (comM false) h2 (comM true) h3 e2 e3 e4 e5 e6 e7 v2 v24 v385 v398 c16_i32_332 c0_i32_333) := by
  intro Q h; rw [k0_part14_eq_skeleton]; unfold k0_part14_skel; simp only [runs]
  refine lf r_credit ?_
  refine lt r_credit ?_
  exact s_ret (h _)

theorem part_15 {v13 v24} : Goes m ρ c (.p1 3) (.p1 3) 12 (.p4 3) (.p2 3) 14 (k0_part15 xM h0 oM h1 (comM false) h2 (comM true) h3 e2 e3 e4 e5 e6 e7 c v13 v24) := by
  intro Q h; rw [k0_part15_eq_skeleton]; unfold k0_part15_skel; simp only [runs]
  refine lf (r_send (at_all c) (ch_eq (off1_eq c 3)) (land_rs false 3)) ?_
  refine lt (r_send (at_all c) (ch_eq (off2_eq c 3)) (land_rs true 3)) ?_
  refine lf (r_sent credit_o) ?_
  refine lf (r_recv (credit_sl false 1)) ?_
  exact s_ret (h _)

theorem part_16 {v13 v397 v420} : Goes m ρ c (.p4 3) (.p2 3) 14 (.p0 4) (.p5 3) 15 (k0_part16 xM h0 oM h1 (comM false) h2 (comM true) h3 e2 e3 e4 e5 e6 e7 c v13 v397 v420) := by
  intro Q h; rw [k0_part16_eq_skeleton]; unfold k0_part16_skel; simp only [runs]
  refine lt (r_sent credit_o) ?_
  refine lt (r_recv (credit_sl true 1)) ?_
  refine lf (r_load (off3_eq c 3)) ?_
  refine lfw r_slot fun w0 hw0 => ?_
  refine lf (r_load (off3_eq c 3)) ?_
  refine lf (r_store (off3_eq c 3) (sum_val' hw0)) ?_
  refine lt (r_load (off4_eq c 3)) ?_
  refine ltw r_slot fun w1 hw1 => ?_
  refine lt (r_load (off4_eq c 3)) ?_
  refine lt (r_store (off4_eq c 3) (sum_val' hw1)) ?_
  refine lf (r_signal (at_all c)) ?_
  exact s_ret (h _)

theorem part_17 {v2 v24} : Goes m ρ c (.p0 4) (.p5 3) 15 (.p0 4) (.p0 4) 16 (k0_part17 xM h0 oM h1 (comM false) h2 (comM true) h3 e2 e3 e4 e5 e6 e7 c v2 v24) := by
  intro Q h; rw [k0_part17_eq_skeleton]; unfold k0_part17_skel; simp only [runs]
  refine lt (r_signal (at_all c)) ?_
  exact s_ret (h _)

theorem part_18 {v2 v13 v24 v499 v514 v515 v520} : Goes m ρ c (.p0 4) (.p0 4) 16 (.p2 4) (.p1 4) 17 (k0_part18 xM h0 oM h1 (comM false) h2 (comM true) h3 e2 e3 e4 e5 e6 e7 c v2 v13 v24 v499 v514 v515 v520) := by
  intro Q h; rw [k0_part18_eq_skeleton]; unfold k0_part18_skel; simp only [runs]
  refine lf r_credit ?_
  refine lt r_credit ?_
  refine lf (r_send (at_all c) (ch_eq (off1_eq c 4)) (land_rs false 4)) ?_
  exact s_ret (h _)

theorem part_19 {v13 v24} : Goes m ρ c (.p2 4) (.p1 4) 17 (.p4 4) (.p3 4) 18 (k0_part19 xM h0 oM h1 (comM false) h2 (comM true) h3 e2 e3 e4 e5 e6 e7 c v13 v24) := by
  intro Q h; rw [k0_part19_eq_skeleton]; unfold k0_part19_skel; simp only [runs]
  refine lt (r_send (at_all c) (ch_eq (off2_eq c 4)) (land_rs true 4)) ?_
  refine lf (r_sent credit_o) ?_
  refine lf (r_recv (credit_sl false 0)) ?_
  refine lt (r_sent credit_o) ?_
  exact s_ret (h _)

theorem part_20 {v2 v13 v24 v511 v534} : Goes m ρ c (.p4 4) (.p3 4) 18 (.p0 5) (.p0 5) 20 (k0_part20 xM h0 oM h1 (comM false) h2 (comM true) h3 e2 e3 e4 e5 e6 e7 c v2 v13 v24 v511 v534) := by
  intro Q h; rw [k0_part20_eq_skeleton]; unfold k0_part20_skel; simp only [runs]
  refine lt (r_recv (credit_sl true 0)) ?_
  refine lf (r_load (off3_eq c 4)) ?_
  refine lfw r_slot fun w0 hw0 => ?_
  refine lf (r_load (off3_eq c 4)) ?_
  refine lf (r_store (off3_eq c 4) (sum_val' hw0)) ?_
  refine lt (r_load (off4_eq c 4)) ?_
  refine ltw r_slot fun w1 hw1 => ?_
  refine lt (r_load (off4_eq c 4)) ?_
  refine lt (r_store (off4_eq c 4) (sum_val' hw1)) ?_
  refine lf (r_signal (at_all c)) ?_
  refine lt (r_signal (at_all c)) ?_
  exact s_ret (h _)

theorem part_21 {v2 v603 c16_i32_519 v604 c1_i32_521} : Goes m ρ c (.p0 5) (.p0 5) 20 (.p0 5) (.p0 5) 20 (k0_part21 xM h0 oM h1 (comM false) h2 (comM true) h3 e2 e3 e4 e5 e6 e7 v2 v603 c16_i32_519 v604 c1_i32_521) := by
  intro Q h; rw [k0_part21_eq_skeleton]; unfold k0_part21_skel; simp only [runs]
  exact s_ret (h _)

theorem part_22 {v13 v24 v613 v636 v640 v641} : Goes m ρ c (.p0 5) (.p0 5) 20 (.p2 5) (.p2 5) 22 (k0_part22 xM h0 oM h1 (comM false) h2 (comM true) h3 e2 e3 e4 e5 e6 e7 c v13 v24 v613 v636 v640 v641) := by
  intro Q h; rw [k0_part22_eq_skeleton]; unfold k0_part22_skel; simp only [runs]
  refine lf r_credit ?_
  refine lt r_credit ?_
  refine lf (r_send (at_all c) (ch_eq (off1_eq c 5)) (land_rs false 5)) ?_
  refine lt (r_send (at_all c) (ch_eq (off2_eq c 5)) (land_rs true 5)) ?_
  exact s_ret (h _)

theorem part_23 {v13 v24 v625} : Goes m ρ c (.p2 5) (.p2 5) 22 (.p4 5) (.p4 5) 22 (k0_part23 xM h0 oM h1 (comM false) h2 (comM true) h3 e2 e3 e4 e5 e6 e7 c v13 v24 v625) := by
  intro Q h; rw [k0_part23_eq_skeleton]; unfold k0_part23_skel; simp only [runs]
  refine lf (r_sent credit_o) ?_
  refine lf (r_recv (credit_sl false 1)) ?_
  refine lt (r_sent credit_o) ?_
  refine lt (r_recv (credit_sl true 1)) ?_
  exact s_ret (h _)

theorem part_24 {v2 v13 v24 v648 v694} : Goes m ρ c (.p4 5) (.p4 5) 22 (.p0 6) (.p0 6) 24 (k0_part24 xM h0 oM h1 (comM false) h2 (comM true) h3 e2 e3 e4 e5 e6 e7 c v2 v13 v24 v648 v694) := by
  intro Q h; rw [k0_part24_eq_skeleton]; unfold k0_part24_skel; simp only [runs]
  refine lf (r_load (off3_eq c 5)) ?_
  refine lfw r_slot fun w0 hw0 => ?_
  refine lf (r_load (off3_eq c 5)) ?_
  refine lf (r_store (off3_eq c 5) (sum_val' hw0)) ?_
  refine lt (r_load (off4_eq c 5)) ?_
  refine ltw r_slot fun w1 hw1 => ?_
  refine lt (r_load (off4_eq c 5)) ?_
  refine lt (r_store (off4_eq c 5) (sum_val' hw1)) ?_
  refine lf (r_signal (at_all c)) ?_
  refine lt (r_signal (at_all c)) ?_
  exact s_ret (h _)

theorem part_25 {v2} : Goes m ρ c (.p0 6) (.p0 6) 24 (.p0 6) (.p0 6) 24 (k0_part25 xM h0 oM h1 (comM false) h2 (comM true) h3 e2 e3 e4 e5 e6 e7 v2) := by
  intro Q h; rw [k0_part25_eq_skeleton]; unfold k0_part25_skel; simp only [runs]
  exact s_ret (h _)

theorem part_26 {v13 v24 v727 v750} : Goes m ρ c (.p0 6) (.p0 6) 24 (.p3 6) (.p2 6) 26 (k0_part26 xM h0 oM h1 (comM false) h2 (comM true) h3 e2 e3 e4 e5 e6 e7 c v13 v24 v727 v750) := by
  intro Q h; rw [k0_part26_eq_skeleton]; unfold k0_part26_skel; simp only [runs]
  refine lf r_credit ?_
  refine lt r_credit ?_
  refine lf (r_send (at_all c) (ch_eq (off1_eq c 6)) (land_rs false 6)) ?_
  refine lt (r_send (at_all c) (ch_eq (off2_eq c 6)) (land_rs true 6)) ?_
  refine lf (r_sent credit_o) ?_
  exact s_ret (h _)

theorem part_27 {v13 v24 v739} : Goes m ρ c (.p3 6) (.p2 6) 26 (.p5 6) (.p4 6) 26 (k0_part27 xM h0 oM h1 (comM false) h2 (comM true) h3 e2 e3 e4 e5 e6 e7 c v13 v24 v739) := by
  intro Q h; rw [k0_part27_eq_skeleton]; unfold k0_part27_skel; simp only [runs]
  refine lf (r_recv (credit_sl false 0)) ?_
  refine lt (r_sent credit_o) ?_
  refine lt (r_recv (credit_sl true 0)) ?_
  refine lf (r_load (off3_eq c 6)) ?_
  refine lfw r_slot fun w0 hw0 => ?_
  refine lf (r_load (off3_eq c 6)) ?_
  refine lf (r_store (off3_eq c 6) (sum_val' hw0)) ?_
  exact s_ret (h _)

theorem part_28 {v2 v13 v24 v762} : Goes m ρ c (.p5 6) (.p4 6) 26 (.p0 7) (.p0 7) 28 (k0_part28 xM h0 oM h1 (comM false) h2 (comM true) h3 e2 e3 e4 e5 e6 e7 c v2 v13 v24 v762) := by
  intro Q h; rw [k0_part28_eq_skeleton]; unfold k0_part28_skel; simp only [runs]
  refine lt (r_load (off4_eq c 6)) ?_
  refine ltw r_slot fun w0 hw0 => ?_
  refine lt (r_load (off4_eq c 6)) ?_
  refine lt (r_store (off4_eq c 6) (sum_val' hw0)) ?_
  refine lf (r_signal (at_all c)) ?_
  refine lt (r_signal (at_all c)) ?_
  exact s_ret (h _)

theorem part_29 {v2 v841 v845 v846 v847} : Goes m ρ c (.p0 7) (.p0 7) 28 (.p1 7) (.p1 7) 28 (k0_part29 xM h0 oM h1 (comM false) h2 (comM true) h3 e2 e3 e4 e5 e6 e7 v2 v841 v845 v846 v847) := by
  intro Q h; rw [k0_part29_eq_skeleton]; unfold k0_part29_skel; simp only [runs]
  refine lf r_credit ?_
  refine lt r_credit ?_
  exact s_ret (h _)

theorem part_30 {v13 v24} : Goes m ρ c (.p1 7) (.p1 7) 28 (.p3 7) (.p2 7) 30 (k0_part30 xM h0 oM h1 (comM false) h2 (comM true) h3 e2 e3 e4 e5 e6 e7 c v13 v24) := by
  intro Q h; rw [k0_part30_eq_skeleton]; unfold k0_part30_skel; simp only [runs]
  refine lf (r_send (at_all c) (ch_eq (off1_eq c 7)) (land_rs false 7)) ?_
  refine lt (r_send (at_all c) (ch_eq (off2_eq c 7)) (land_rs true 7)) ?_
  refine lf (r_sent credit_o) ?_
  exact s_ret (h _)

theorem part_31 {v13 v853 v876 : BitVec 32} {Q : _ → sProp 𝕄}
    (h : ∀ r : (Σ' (v932 : BitVec 32) (v935 : FVec F S128x1024 .bf16), Vec F S1x128x1024 .bf16), r.2.1 = xch m ρ true c (back true c (7 + 1)) → shapeCast S128x1024 r.2.2 shapeCasts_S1x128x1024_S128x1024 = val m ρ true 7 (prv true c) → (St m ρ c (.p5 7) (.p4 7) 30 ⊢ Q r)) :
    St m ρ c (.p3 7) (.p2 7) 30 ⊢ WP c (k0_part31 xM h0 oM h1 (comM false) h2 (comM true) h3 e2 e3 e4 e5 e6 e7 c v13 v853 v876) Q := by
  rw [k0_part31_eq_skeleton]; unfold k0_part31_skel; simp only [runs]
  refine lf (r_recv (credit_sl false 1)) ?_
  refine lt (r_sent credit_o) ?_
  refine lt (r_recv (credit_sl true 1)) ?_
  refine lf (r_load (off3_eq c 7)) ?_
  refine lfw r_slot fun w0 hw0 => ?_
  refine lf (r_load (off3_eq c 7)) ?_
  refine lf (r_store (off3_eq c 7) (sum_val' hw0)) ?_
  refine lt (r_load (off4_eq c 7)) ?_
  refine ltw r_slot fun w1 hw1 => ?_
  exact s_ret (h _ (shapeCast_self (xch m ρ true c (back true c (7 + 1))) shapeCasts_S128x1024_S128x1024) hw1)

theorem part_32 {v2 v13 v24 v932 v935 v936} (hv : v935 = xch m ρ true c (back true c (7 + 1))) (hw : shapeCast S128x1024 v936 shapeCasts_S1x128x1024_S128x1024 = val m ρ true 7 (prv true c)) : Goes m ρ c (.p5 7) (.p4 7) 30 (.p0 8) (.p0 8) 32 (k0_part32 xM h0 oM h1 (comM false) h2 (comM true) h3 e2 e3 e4 e5 e6 e7 c v2 v13 v24 v932 v935 v936) := by
  intro Q h; rw [k0_part32_eq_skeleton]; unfold k0_part32_skel; simp only [runs]
  refine lt (r_load (off4_eq c 7)) ?_
  refine lt (r_store (off4_eq c 7) (sum_val hv hw)) ?_
  refine lf (r_signal (at_all c)) ?_
  refine lt (r_signal (at_all c)) ?_
  exact s_ret (h _)

theorem part_33 {v2 v24 v955 v968 c16_i32_837 c0_i32_838} : Goes m ρ c (.p0 8) (.p0 8) 32 (.p1 8) (.p1 8) 32 (k0_part33 xM h0 oM h1 (comM false) h2 (comM true) h3 e2 e3 e4 e5 e6 e7 v2 v24 v955 v968 c16_i32_837 c0_i32_838) := by
  intro Q h; rw [k0_part33_eq_skeleton]; unfold k0_part33_skel; simp only [runs]
  refine lf r_credit ?_
  refine lt r_credit ?_
  exact s_ret (h _)

theorem part_34 {v13 v24} : Goes m ρ c (.p1 8) (.p1 8) 32 (.p4 8) (.p2 8) 34 (k0_part34 xM h0 oM h1 (comM false) h2 (comM true) h3 e2 e3 e4 e5 e6 e7 c v13 v24) := by
  intro Q h; rw [k0_part34_eq_skeleton]; unfold k0_part34_skel; simp only [runs]
  refine lf (r_send (at_all c) (ch_eq (off1_eq c 8)) (land_rs false 8)) ?_
  refine lt (r_send (at_all c) (ch_eq (off2_eq c 8)) (land_rs true 8)) ?_
  refine lf (r_sent credit_o) ?_
  refine lf (r_recv (credit_sl false 0)) ?_
  exact s_ret (h _)

theorem part_35 {v13 v967 v990} : Goes m ρ c (.p4 8) (.p2 8) 34 (.p0 9) (.p5 8) 35 (k0_part35 xM h0 oM h1 (comM false) h2 (comM true) h3 e2 e3 e4 e5 e6 e7 c v13 v967 v990) := by
  intro Q h; rw [k0_part35_eq_skeleton]; unfold k0_part35_skel; simp only [runs]
  refine lt (r_sent credit_o) ?_
  refine lt (r_recv (credit_sl true 0)) ?_
  refine lf (r_load (off3_eq c 8)) ?_
  refine lfw r_slot fun w0 hw0 => ?_
  refine lf (r_load (off3_eq c 8)) ?_
  refine lf (r_store (off3_eq c 8) (sum_val' hw0)) ?_
  refine lt (r_load (off4_eq c 8)) ?_
  refine ltw r_slot fun w1 hw1 => ?_
  refine lt (r_load (off4_eq c 8)) ?_
  refine lt (r_store (off4_eq c 8) (sum_val' hw1)) ?_
  refine lf (r_signal (at_all c)) ?_
  exact s_ret (h _)

theorem part_36 {v2 v24} : Goes m ρ c (.p0 9) (.p5 8) 35 (.p0 9) (.p0 9) 36 (k0_part36 xM h0 oM h1 (comM false) h2 (comM true) h3 e2 e3 e4 e5 e6 e7 c v2 v24) := by
  intro Q h; rw [k0_part36_eq_skeleton]; unfold k0_part36_skel; simp only [runs]
  refine lt (r_signal (at_all c)) ?_
  exact s_ret (h _)

theorem part_37 {v2 v13 v24 v1069 v1084 v1085 v1090} : Goes m ρ c (.p0 9) (.p0 9) 36 (.p2 9) (.p1 9) 37 (k0_part37 xM h0 oM h1 (comM false) h2 (comM true) h3 e2 e3 e4 e5 e6 e7 c v2 v13 v24 v1069 v1084 v1085 v1090) := by
  intro Q h; rw [k0_part37_eq_skeleton]; unfold k0_part37_skel; simp only [runs]
  refine lf r_credit ?_
  refine lt r_credit ?_
  refine lf (r_send (at_all c) (ch_eq (off1_eq c 9)) (land_rs false 9)) ?_
  exact s_ret (h _)

theorem part_38 {v13 v24} : Goes m ρ c (.p2 9) (.p1 9) 37 (.p4 9) (.p3 9) 38 (k0_part38 xM h0 oM h1 (comM false) h2 (comM true) h3 e2 e3 e4 e5 e6 e7 c v13 v24) := by
  intro Q h; rw [k0_part38_eq_skeleton]; unfold k0_part38_skel; simp only [runs]
  refine lt (r_send (at_all c) (ch_eq (off2_eq c 9)) (land_rs true 9)) ?_
  refine lf (r_sent credit_o) ?_
  refine lf (r_recv (credit_sl false 1)) ?_
  refine lt (r_sent credit_o) ?_
  exact s_ret (h _)

theorem part_39 {v2 v13 v24 v1081 v1104} : Goes m ρ c (.p4 9) (.p3 9) 38 (.p0 10) (.p0 10) 40 (k0_part39 xM h0 oM h1 (comM false) h2 (comM true) h3 e2 e3 e4 e5 e6 e7 c v2 v13 v24 v1081 v1104) := by
  intro Q h; rw [k0_part39_eq_skeleton]; unfold k0_part39_skel; simp only [runs]
  refine lt (r_recv (credit_sl true 1)) ?_
  refine lf (r_load (off3_eq c 9)) ?_
  refine lfw r_slot fun w0 hw0 => ?_
  refine lf (r_load (off3_eq c 9)) ?_
  refine lf (r_store (off3_eq c 9) (sum_val' hw0)) ?_
  refine lt (r_load (off4_eq c 9)) ?_
  refine ltw r_slot fun w1 hw1 => ?_
  refine lt (r_load (off4_eq c 9)) ?_
  refine lt (r_store (off4_eq c 9) (sum_val' hw1)) ?_
  refine lf (r_signal (at_all c)) ?_
  refine lt (r_signal (at_all c)) ?_
  exact s_ret (h _)

theorem part_40 {v2 v1173 c16_i32_1024 v1174 c1_i32_1026} : Goes m ρ c (.p0 10) (.p0 10) 40 (.p0 10) (.p0 10) 40 (k0_part40 xM h0 oM h1 (comM false) h2 (comM true) h3 e2 e3 e4 e5 e6 e7 v2 v1173 c16_i32_1024 v1174 c1_i32_1026) := by
  intro Q h; rw [k0_part40_eq_skeleton]; unfold k0_part40_skel; simp only [runs]
  exact s_ret (h _)

theorem part_41 {v13 v24 v1183 v1206 v1210 v1211} : Goes m ρ c (.p0 10) (.p0 10) 40 (.p2 10) (.p2 10) 42 (k0_part41 xM h0 oM h1 (comM false) h2 (comM true) h3 e2 e3 e4 e5 e6 e7 c v13 v24 v1183 v1206 v1210 v1211) := by
  intro Q h; rw [k0_part41_eq_skeleton]; unfold k0_part41_skel; simp only [runs]
  refine lf r_credit ?_
  refine lt r_credit ?_
  refine lf (r_send (at_all c) (ch_eq (off1_eq c 10)) (land_rs false 10)) ?_
  refine lt (r_send (at_all c) (ch_eq (off2_eq c 10)) (land_rs true 10)) ?_
  exact s_ret (h _)

theorem part_42 {v13 v24 v1195} : Goes m ρ c (.p2 10) (.p2 10) 42 (.p4 10) (.p4 10) 42 (k0_part42 xM h0 oM h1 (comM false) h2 (comM true) h3 e2 e3 e4 e5 e6 e7 c v13 v24 v1195) := by
  intro Q h; rw [k0_part42_eq_skeleton]; unfold k0_part42_skel; simp only [runs]
  refine lf (r_sent credit_o) ?_
  refine lf (r_recv (credit_sl false 0)) ?_
  refine lt (r_sent credit_o) ?_
  refine lt (r_recv (credit_sl true 0)) ?_
  exact s_ret (h _)

theorem part_43 {v2 v13 v24 v1218 v1264} : Goes m ρ c (.p4 10) (.p4 10) 42 (.p0 11) (.p0 11) 44 (k0_part43 xM h0 oM h1 (comM false) h2 (comM true) h3 e2 e3 e4 e5 e6 e7 c v2 v13 v24 v1218 v1264) := by
  intro Q h; rw [k0_part43_eq_skeleton]; unfold k0_part43_skel; simp only [runs]
  refine lf (r_load (off3_eq c 10)) ?_
  refine lfw r_slot fun w0 hw0 => ?_
  refine lf (r_load (off3_eq c 10)) ?_
  refine lf (r_store (off3_eq c 10) (sum_val' hw0)) ?_
  refine lt (r_load (off4_eq c 10)) ?_
  refine ltw r_slot fun w1 hw1 => ?_
  refine lt (r_load (off4_eq c 10)) ?_
  refine lt (r_store (off4_eq c 10) (sum_val' hw1)) ?_
  refine lf (r_signal (at_all c)) ?_
  refine lt (r_signal (at_all c)) ?_
  exact s_ret (h _)

theorem part_44 {v2} : Goes m ρ c (.p0 11) (.p0 11) 44 (.p0 11) (.p0 11) 44 (k0_part44 xM h0 oM h1 (comM false) h2 (comM true) h3 e2 e3 e4 e5 e6 e7 v2) := by
  intro Q h; rw [k0_part44_eq_skeleton]; unfold k0_part44_skel; simp only [runs]
  exact s_ret (h _)

theorem part_45 {v13 v24 v1297 v1320} : Goes m ρ c (.p0 11) (.p0 11) 44 (.p3 11) (.p2 11) 46 (k0_part45 xM h0 oM h1 (comM false) h2 (comM true) h3 e2 e3 e4 e5 e6 e7 c v13 v24 v1297 v1320) := by
  intro Q h; rw [k0_part45_eq_skeleton]; unfold k0_part45_skel; simp only [runs]
  refine lf r_credit ?_
  refine lt r_credit ?_
  refine lf (r_send (at_all c) (ch_eq (off1_eq c 11)) (land_rs false 11)) ?_
  refine lt (r_send (at_all c) (ch_eq (off2_eq c 11)) (land_rs true 11)) ?_
  refine lf (r_sent credit_o) ?_
  exact s_ret (h _)

theorem part_46 {v13 v24 v1309} : Goes m ρ c (.p3 11) (.p2 11) 46 (.p5 11) (.p4 11) 46 (k0_part46 xM h0 oM h1 (comM false) h2 (comM true) h3 e2 e3 e4 e5 e6 e7 c v13 v24 v1309) := by
  intro Q h; rw [k0_part46_eq_skeleton]; unfold k0_part46_skel; simp only [runs]
  refine lf (r_recv (credit_sl false 1)) ?_
  refine lt (r_sent credit_o) ?_
  refine lt (r_recv (credit_sl true 1)) ?_
  refine lf (r_load (off3_eq c 11)) ?_
  refine lfw r_slot fun w0 hw0 => ?_
  refine lf (r_load (off3_eq c 11)) ?_
  refine lf (r_store (off3_eq c 11) (sum_val' hw0)) ?_
  exact s_ret (h _)

theorem part_47 {v2 v13 v24 v1332} : Goes m ρ c (.p5 11) (.p4 11) 46 (.p0 12) (.p0 12) 48 (k0_part47 xM h0 oM h1 (comM false) h2 (comM true) h3 e2 e3 e4 e5 e6 e7 c v2 v13 v24 v1332) := by
  intro Q h; rw [k0_part47_eq_skeleton]; unfold k0_part47_skel; simp only [runs]
  refine lt (r_load (off4_eq c 11)) ?_
  refine ltw r_slot fun w0 hw0 => ?_
  refine lt (r_load (off4_eq c 11)) ?_
  refine lt (r_store (off4_eq c 11) (sum_val' hw0)) ?_
  refine lf (r_signal (at_all c)) ?_
  refine lt (r_signal (at_all c)) ?_
  exact s_ret (h _)

theorem part_48 {v2 v1411 v1415 v1416 v1417} : Goes m ρ c (.p0 12) (.p0 12) 48 (.p1 12) (.p1 12) 48 (k0_part48 xM h0 oM h1 (comM false) h2 (comM true) h3 e2 e3 e4 e5 e6 e7 v2 v1411 v1415 v1416 v1417) := by
  intro Q h; rw [k0_part48_eq_skeleton]; unfold k0_part48_skel; simp only [runs]
  refine lf r_credit ?_
  refine lt r_credit ?_
  exact s_ret (h _)

end Cert.HalfProof
-- ==== Proof.HalfPartsB.lean ====
/-
# The first half's ring all-reduce: the body, part by part
-/
module

public import proofs.«01_k».proof.Proof.HalfSteps

@[expose] public section

set_option maxRecDepth 20000

noncomputable section

namespace Cert.HalfProof

open Cert.HalfIdeal Cert.HalfIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable {m : (ℓ : Loc nD τ sig) → Buf (Elt F) ℓ} {ρ : Dev nD → PrngReg}

variable {c : Dev nD} {h0 : (xM : Memref sig .tc .vmem S4096x1024 .bf16).IsWhole} {h1 : (oM : Memref sig .tc .vmem S4096x1024 .bf16).IsWhole}
  {h2 : (comM false).IsWhole} {h3 : (comM true).IsWhole}

open Cert.HalfIdeal renaming cc0_scratch2 → e2, cc0_scratch3 → e3, cc0_scratch4 → e4, cc0_scratch5 → e5, cc0_scratch6 → e6, cc0_scratch7 → e7

/-! ## The parts of the body

`part_n` says from where to where in the two rings the body's `n`-th stretch takes a core, and after how many payments. -/

theorem part_49 {v13 v24} : Goes m ρ c (.p1 12) (.p1 12) 48 (.p3 12) (.p2 12) 50 (k0_part49 xM h0 oM h1 (comM false) h2 (comM true) h3 e2 e3 e4 e5 e6 e7 c v13 v24) := by
  intro Q h; rw [k0_part49_eq_skeleton]; unfold k0_part49_skel; simp only [runs]
  refine lf (r_send (at_all c) (ch_eq (off1_eq c 12)) (land_rs false 12)) ?_
  refine lt (r_send (at_all c) (ch_eq (off2_eq c 12)) (land_rs true 12)) ?_
  refine lf (r_sent credit_o) ?_
  exact s_ret (h _)

theorem part_50 {v13 v1423 v1446 : BitVec 32} {Q : _ → sProp 𝕄}
    (h : ∀ r : (Σ' (v1502 : BitVec 32) (v1505 : FVec F S128x1024 .bf16), Vec F S1x128x1024 .bf16), r.2.1 = xch m ρ true c (back true c (12 + 1)) → shapeCast S128x1024 r.2.2 shapeCasts_S1x128x1024_S128x1024 = val m ρ true 12 (prv true c) → (St m ρ c (.p5 12) (.p4 12) 50 ⊢ Q r)) :
    St m ρ c (.p3 12) (.p2 12) 50 ⊢ WP c (k0_part50 xM h0 oM h1 (comM false) h2 (comM true) h3 e2 e3 e4 e5 e6 e7 c v13 v1423 v1446) Q := by
  rw [k0_part50_eq_skeleton]; unfold k0_part50_skel; simp only [runs]
  refine lf (r_recv (credit_sl false 0)) ?_
  refine lt (r_sent credit_o) ?_
  refine lt (r_recv (credit_sl true 0)) ?_
  refine lf (r_load (off3_eq c 12)) ?_
  refine lfw r_slot fun w0 hw0 => ?_
  refine lf (r_load (off3_eq c 12)) ?_
  refine lf (r_store (off3_eq c 12) (sum_val' hw0)) ?_
  refine lt (r_load (off4_eq c 12)) ?_
  refine ltw r_slot fun w1 hw1 => ?_
  exact s_ret (h _ (shapeCast_self (xch m ρ true c (back true c (12 + 1))) shapeCasts_S128x1024_S128x1024) hw1)

theorem part_51 {v2 v13 v24 v1502 v1505 v1506} (hv : v1505 = xch m ρ true c (back true c (12 + 1))) (hw : shapeCast S128x1024 v1506 shapeCasts_S1x128x1024_S128x1024 = val m ρ true 12 (prv true c)) : Goes m ρ c (.p5 12) (.p4 12) 50 (.p0 13) (.p0 13) 52 (k0_part51 xM h0 oM h1 (comM false) h2 (comM true) h3 e2 e3 e4 e5 e6 e7 c v2 v13 v24 v1502 v1505 v1506) := by
  intro Q h; rw [k0_part51_eq_skeleton]; unfold k0_part51_skel; simp only [runs]
  refine lt (r_load (off4_eq c 12)) ?_
  refine lt (r_store (off4_eq c 12) (sum_val hv hw)) ?_
  refine lf (r_signal (at_all c)) ?_
  refine lt (r_signal (at_all c)) ?_
  exact s_ret (h _)

theorem part_52 {v2 v24 v1525 v1538 c16_i32_1342 c0_i32_1343} : Goes m ρ c (.p0 13) (.p0 13) 52 (.p1 13) (.p1 13) 52 (k0_part52 xM h0 oM h1 (comM false) h2 (comM true) h3 e2 e3 e4 e5 e6 e7 v2 v24 v1525 v1538 c16_i32_1342 c0_i32_1343) := by
  intro Q h; rw [k0_part52_eq_skeleton]; unfold k0_part52_skel; simp only [runs]
  refine lf r_credit ?_
  refine lt r_credit ?_
  exact s_ret (h _)

theorem part_53 {v13 v24} : Goes m ρ c (.p1 13) (.p1 13) 52 (.p4 13) (.p2 13) 54 (k0_part53 xM h0 oM h1 (comM false) h2 (comM true) h3 e2 e3 e4 e5 e6 e7 c v13 v24) := by
  intro Q h; rw [k0_part53_eq_skeleton]; unfold k0_part53_skel; simp only [runs]
  refine lf (r_send (at_all c) (ch_eq (off1_eq c 13)) (land_rs false 13)) ?_
  refine lt (r_send (at_all c) (ch_eq (off2_eq c 13)) (land_rs true 13)) ?_
  refine lf (r_sent credit_o) ?_
  refine lf (r_recv (credit_sl false 1)) ?_
  exact s_ret (h _)

theorem part_54 {v13 v1537 v1560} : Goes m ρ c (.p4 13) (.p2 13) 54 (.p0 14) (.p5 13) 55 (k0_part54 xM h0 oM h1 (comM false) h2 (comM true) h3 e2 e3 e4 e5 e6 e7 c v13 v1537 v1560) := by
  intro Q h; rw [k0_part54_eq_skeleton]; unfold k0_part54_skel; simp only [runs]
  refine lt (r_sent credit_o) ?_
  refine lt (r_recv (credit_sl true 1)) ?_
  refine lf (r_load (off3_eq c 13)) ?_
  refine lfw r_slot fun w0 hw0 => ?_
  refine lf (r_load (off3_eq c 13)) ?_
  refine lf (r_store (off3_eq c 13) (sum_val' hw0)) ?_
  refine lt (r_load (off4_eq c 13)) ?_
  refine ltw r_slot fun w1 hw1 => ?_
  refine lt (r_load (off4_eq c 13)) ?_
  refine lt (r_store (off4_eq c 13) (sum_val' hw1)) ?_
  refine lf (r_signal (at_all c)) ?_
  exact s_ret (h _)

theorem part_55 {v2 v24} : Goes m ρ c (.p0 14) (.p5 13) 55 (.p0 14) (.p0 14) 56 (k0_part55 xM h0 oM h1 (comM false) h2 (comM true) h3 e2 e3 e4 e5 e6 e7 c v2 v24) := by
  intro Q h; rw [k0_part55_eq_skeleton]; unfold k0_part55_skel; simp only [runs]
  refine lt (r_signal (at_all c)) ?_
  exact s_ret (h _)

theorem part_56 {v2 v13 v24 v1639 v1654 v1655 v1660} : Goes m ρ c (.p0 14) (.p0 14) 56 (.p2 14) (.p1 14) 57 (k0_part56 xM h0 oM h1 (comM false) h2 (comM true) h3 e2 e3 e4 e5 e6 e7 c v2 v13 v24 v1639 v1654 v1655 v1660) := by
  intro Q h; rw [k0_part56_eq_skeleton]; unfold k0_part56_skel; simp only [runs]
  refine lf r_credit ?_
  refine lt r_credit ?_
  refine lf (r_send (at_all c) (ch_eq (off1_eq c 14)) (land_rs false 14)) ?_
  exact s_ret (h _)

theorem part_57 {v13 v24} : Goes m ρ c (.p2 14) (.p1 14) 57 (.p4 14) (.p3 14) 58 (k0_part57 xM h0 oM h1 (comM false) h2 (comM true) h3 e2 e3 e4 e5 e6 e7 c v13 v24) := by
  intro Q h; rw [k0_part57_eq_skeleton]; unfold k0_part57_skel; simp only [runs]
  refine lt (r_send (at_all c) (ch_eq (off2_eq c 14)) (land_rs true 14)) ?_
  refine lf (r_sent credit_o) ?_
  refine lf (r_recv (credit_sl false 0)) ?_
  refine lt (r_sent credit_o) ?_
  exact s_ret (h _)

theorem part_58 {v2 v13 v24 v1651 v1674} : Goes m ρ c (.p4 14) (.p3 14) 58 (.p0 15) (.p0 15) 60 (k0_part58 xM h0 oM h1 (comM false) h2 (comM true) h3 e2 e3 e4 e5 e6 e7 c v2 v13 v24 v1651 v1674) := by
  intro Q h; rw [k0_part58_eq_skeleton]; unfold k0_part58_skel; simp only [runs]
  refine lt (r_recv (credit_sl true 0)) ?_
  refine lf (r_load (off3_eq c 14)) ?_
  refine lfw r_slot fun w0 hw0 => ?_
  refine lf (r_load (off3_eq c 14)) ?_
  refine lf (r_store (off3_eq c 14) (sum_val' hw0)) ?_
  refine lt (r_load (off4_eq c 14)) ?_
  refine ltw r_slot fun w1 hw1 => ?_
  refine lt (r_load (off4_eq c 14)) ?_
  refine lt (r_store (off4_eq c 14) (sum_val' hw1)) ?_
  refine lf (r_signal (at_all c)) ?_
  refine lt (r_signal (at_all c)) ?_
  exact s_ret (h _)

theorem part_59 {v2 v24 v1744 c16_i32_1531 c0_i32_1532} : Goes m ρ c (.p0 15) (.p0 15) 60 (.p1 15) (.p1 15) 60 (k0_part59 xM h0 oM h1 (comM false) h2 (comM true) h3 e2 e3 e4 e5 e6 e7 v2 v24 v1744 c16_i32_1531 c0_i32_1532) := by
  intro Q h; rw [k0_part59_eq_skeleton]; unfold k0_part59_skel
  refine lf r_credit ?_
  refine lt r_credit ?_
  exact s_ret (h _)

theorem part_60 {v13 v24} : Goes m ρ c (.p1 15) (.p1 15) 60 (.p4 15) (.p3 15) 62 (k0_part60 xM h0 oM h1 (comM false) h2 (comM true) h3 e2 e3 e4 e5 e6 e7 c v13 v24) := by
  intro Q h; rw [k0_part60_eq_skeleton]; unfold k0_part60_skel; simp only [runs]
  refine lf (r_send (at_all c) (ch_eq (off5_eq c 0)) (land_ag (at_all c) (off5_eq c 0))) ?_
  refine lt (r_send (at_all c) (ch_eq (off6_eq c 0)) (land_ag (at_all c) (off6_eq c 0))) ?_
  refine lf (r_sent credit_o) ?_
  refine lf (r_recv credit_o) ?_
  refine lt (r_sent credit_o) ?_
  exact s_ret (h _)

theorem part_61 {v2 v13 v24 v1803 c0_i32_1586} : Goes m ρ c (.p4 15) (.p3 15) 62 (.p0 16) (.p0 16) 64 (k0_part61 xM h0 oM h1 (comM false) h2 (comM true) h3 e2 e3 e4 e5 e6 e7 c v2 v13 v24 v1803 c0_i32_1586) := by
  intro Q h; rw [k0_part61_eq_skeleton]; unfold k0_part61_skel; simp only [runs]
  refine lt (r_recv credit_o) ?_
  refine s_gather ?_
  refine lf (r_signal (at_all c)) ?_
  refine lt (r_signal (at_all c)) ?_
  exact s_ret (h _)

theorem part_62 {v13 v24 v1824 v1836} : Goes m ρ c (.p0 16) (.p0 16) 64 (.p3 16) (.p2 16) 66 (k0_part62 xM h0 oM h1 (comM false) h2 (comM true) h3 e2 e3 e4 e5 e6 e7 c v13 v24 v1824 v1836) := by
  intro Q h; rw [k0_part62_eq_skeleton]; unfold k0_part62_skel; simp only [runs]
  refine lf r_credit ?_
  refine lt r_credit ?_
  refine lf (r_send (at_all c) (ch_eq (off5_eq c 1)) (land_ag (at_all c) (off5_eq c 1))) ?_
  refine lt (r_send (at_all c) (ch_eq (off6_eq c 1)) (land_ag (at_all c) (off6_eq c 1))) ?_
  refine lf (r_sent credit_o) ?_
  exact s_ret (h _)

theorem part_63 {v2 v13 v24} : Goes m ρ c (.p3 16) (.p2 16) 66 (.p0 17) (.p0 17) 68 (k0_part63 xM h0 oM h1 (comM false) h2 (comM true) h3 e2 e3 e4 e5 e6 e7 c v2 v13 v24) := by
  intro Q h; rw [k0_part63_eq_skeleton]; unfold k0_part63_skel; simp only [runs]
  refine lf (r_recv credit_o) ?_
  refine lt (r_sent credit_o) ?_
  refine lt (r_recv credit_o) ?_
  refine s_gather ?_
  refine lf (r_signal (at_all c)) ?_
  refine lt (r_signal (at_all c)) ?_
  exact s_ret (h _)

theorem part_64 {v2 v24 v1886 v1887 v1888 v1889} : Goes m ρ c (.p0 17) (.p0 17) 68 (.p2 17) (.p1 17) 69 (k0_part64 xM h0 oM h1 (comM false) h2 (comM true) h3 e2 e3 e4 e5 e6 e7 c v2 v24 v1886 v1887 v1888 v1889) := by
  intro Q h; rw [k0_part64_eq_skeleton]; unfold k0_part64_skel; simp only [runs]
  refine lf r_credit ?_
  refine lt r_credit ?_
  refine lf (r_send (at_all c) (ch_eq (off5_eq c 2)) (land_ag (at_all c) (off5_eq c 2))) ?_
  exact s_ret (h _)

theorem part_65 {v13 v24} : Goes m ρ c (.p2 17) (.p1 17) 69 (.p4 17) (.p4 17) 70 (k0_part65 xM h0 oM h1 (comM false) h2 (comM true) h3 e2 e3 e4 e5 e6 e7 c v13 v24) := by
  intro Q h; rw [k0_part65_eq_skeleton]; unfold k0_part65_skel; simp only [runs]
  refine lt (r_send (at_all c) (ch_eq (off6_eq c 2)) (land_ag (at_all c) (off6_eq c 2))) ?_
  refine lf (r_sent credit_o) ?_
  refine lf (r_recv credit_o) ?_
  refine lt (r_sent credit_o) ?_
  refine lt (r_recv credit_o) ?_
  exact s_ret (h _)

theorem part_66 {v2 v13 v24} : Goes m ρ c (.p4 17) (.p4 17) 70 (.p0 18) (.p0 18) 72 (k0_part66 xM h0 oM h1 (comM false) h2 (comM true) h3 e2 e3 e4 e5 e6 e7 c v2 v13 v24) := by
  intro Q h; rw [k0_part66_eq_skeleton]; unfold k0_part66_skel; simp only [runs]
  refine s_gather ?_
  refine lf (r_signal (at_all c)) ?_
  refine lt (r_signal (at_all c)) ?_
  exact s_ret (h _)

theorem part_67 {v13 v24 v1964 v1976} : Goes m ρ c (.p0 18) (.p0 18) 72 (.p3 18) (.p2 18) 74 (k0_part67 xM h0 oM h1 (comM false) h2 (comM true) h3 e2 e3 e4 e5 e6 e7 c v13 v24 v1964 v1976) := by
  intro Q h; rw [k0_part67_eq_skeleton]; unfold k0_part67_skel; simp only [runs]
  refine lf r_credit ?_
  refine lt r_credit ?_
  refine lf (r_send (at_all c) (ch_eq (off5_eq c 3)) (land_ag (at_all c) (off5_eq c 3))) ?_
  refine lt (r_send (at_all c) (ch_eq (off6_eq c 3)) (land_ag (at_all c) (off6_eq c 3))) ?_
  refine lf (r_sent credit_o) ?_
  exact s_ret (h _)

theorem part_68 {v2 v13 v24} : Goes m ρ c (.p3 18) (.p2 18) 74 (.p0 19) (.p0 19) 76 (k0_part68 xM h0 oM h1 (comM false) h2 (comM true) h3 e2 e3 e4 e5 e6 e7 c v2 v13 v24) := by
  intro Q h; rw [k0_part68_eq_skeleton]; unfold k0_part68_skel; simp only [runs]
  refine lf (r_recv credit_o) ?_
  refine lt (r_sent credit_o) ?_
  refine lt (r_recv credit_o) ?_
  refine s_gather ?_
  refine lf (r_signal (at_all c)) ?_
  refine lt (r_signal (at_all c)) ?_
  exact s_ret (h _)

theorem part_69 {v13 v24 v2034 v2035} : Goes m ρ c (.p0 19) (.p0 19) 76 (.p2 19) (.p1 19) 77 (k0_part69 xM h0 oM h1 (comM false) h2 (comM true) h3 e2 e3 e4 e5 e6 e7 c v13 v24 v2034 v2035) := by
  intro Q h; rw [k0_part69_eq_skeleton]; unfold k0_part69_skel; simp only [runs]
  refine lf r_credit ?_
  refine lt r_credit ?_
  refine lf (r_send (at_all c) (ch_eq (off5_eq c 4)) (land_ag (at_all c) (off5_eq c 4))) ?_
  exact s_ret (h _)

theorem part_70 {v13 v24} : Goes m ρ c (.p2 19) (.p1 19) 77 (.p0 20) (.p5 19) 79 (k0_part70 xM h0 oM h1 (comM false) h2 (comM true) h3 e2 e3 e4 e5 e6 e7 c v13 v24) := by
  intro Q h; rw [k0_part70_eq_skeleton]; unfold k0_part70_skel; simp only [runs]
  refine lt (r_send (at_all c) (ch_eq (off6_eq c 4)) (land_ag (at_all c) (off6_eq c 4))) ?_
  refine lf (r_sent credit_o) ?_
  refine lf (r_recv credit_o) ?_
  refine lt (r_sent credit_o) ?_
  refine lt (r_recv credit_o) ?_
  refine s_gather ?_
  refine lf (r_signal (at_all c)) ?_
  exact s_ret (h _)

theorem part_71 {v2 v24 c1_i32_1857} : Goes m ρ c (.p0 20) (.p5 19) 79 (.p1 20) (.p1 20) 80 (k0_part71 xM h0 oM h1 (comM false) h2 (comM true) h3 e2 e3 e4 e5 e6 e7 c v2 v24 c1_i32_1857) := by
  intro Q h; rw [k0_part71_eq_skeleton]; unfold k0_part71_skel; simp only [runs]
  refine lt (r_signal (at_all c)) ?_
  refine lf r_credit ?_
  refine lt r_credit ?_
  exact s_ret (h _)

theorem part_72 {v13 v24 v2121} : Goes m ρ c (.p1 20) (.p1 20) 80 (.p4 20) (.p2 20) 82 (k0_part72 xM h0 oM h1 (comM false) h2 (comM true) h3 e2 e3 e4 e5 e6 e7 c v13 v24 v2121) := by
  intro Q h; rw [k0_part72_eq_skeleton]; unfold k0_part72_skel; simp only [runs]
  refine lf (r_send (at_all c) (ch_eq (off5_eq c 5)) (land_ag (at_all c) (off5_eq c 5))) ?_
  refine lt (r_send (at_all c) (ch_eq (off6_eq c 5)) (land_ag (at_all c) (off6_eq c 5))) ?_
  refine lf (r_sent credit_o) ?_
  refine lf (r_recv credit_o) ?_
  exact s_ret (h _)

theorem part_73 {v2 v13 v24} : Goes m ρ c (.p4 20) (.p2 20) 82 (.p0 21) (.p0 21) 84 (k0_part73 xM h0 oM h1 (comM false) h2 (comM true) h3 e2 e3 e4 e5 e6 e7 c v2 v13 v24) := by
  intro Q h; rw [k0_part73_eq_skeleton]; unfold k0_part73_skel; simp only [runs]
  refine lt (r_sent credit_o) ?_
  refine lt (r_recv credit_o) ?_
  refine s_gather ?_
  refine lf (r_signal (at_all c)) ?_
  refine lt (r_signal (at_all c)) ?_
  exact s_ret (h _)

theorem part_74 {v13 v24 v2174 v2178 v2179} : Goes m ρ c (.p0 21) (.p0 21) 84 (.p2 21) (.p2 21) 86 (k0_part74 xM h0 oM h1 (comM false) h2 (comM true) h3 e2 e3 e4 e5 e6 e7 c v13 v24 v2174 v2178 v2179) := by
  intro Q h; rw [k0_part74_eq_skeleton]; unfold k0_part74_skel; simp only [runs]
  refine lf r_credit ?_
  refine lt r_credit ?_
  refine lf (r_send (at_all c) (ch_eq (off5_eq c 6)) (land_ag (at_all c) (off5_eq c 6))) ?_
  refine lt (r_send (at_all c) (ch_eq (off6_eq c 6)) (land_ag (at_all c) (off6_eq c 6))) ?_
  exact s_ret (h _)

theorem part_75 {v2 v13 v24} : Goes m ρ c (.p2 21) (.p2 21) 86 (.p0 22) (.p0 22) 88 (k0_part75 xM h0 oM h1 (comM false) h2 (comM true) h3 e2 e3 e4 e5 e6 e7 c v2 v13 v24) := by
  intro Q h; rw [k0_part75_eq_skeleton]; unfold k0_part75_skel; simp only [runs]
  refine lf (r_sent credit_o) ?_
  refine lf (r_recv credit_o) ?_
  refine lt (r_sent credit_o) ?_
  refine lt (r_recv credit_o) ?_
  refine s_gather ?_
  refine lf (r_signal (at_all c)) ?_
  refine lt (r_signal (at_all c)) ?_
  exact s_ret (h _)

theorem part_76 {v2 v24 v2234} : Goes m ρ c (.p0 22) (.p0 22) 88 (.p1 22) (.p1 22) 88 (k0_part76 xM h0 oM h1 (comM false) h2 (comM true) h3 e2 e3 e4 e5 e6 e7 v2 v24 v2234) := by
  intro Q h; rw [k0_part76_eq_skeleton]; unfold k0_part76_skel
  refine lf r_credit ?_
  refine lt r_credit ?_
  exact s_ret (h _)

theorem part_77 {v13 v24} : Goes m ρ c (.p1 22) (.p1 22) 88 (.p4 22) (.p3 22) 90 (k0_part77 xM h0 oM h1 (comM false) h2 (comM true) h3 e2 e3 e4 e5 e6 e7 c v13 v24) := by
  intro Q h; rw [k0_part77_eq_skeleton]; unfold k0_part77_skel; simp only [runs]
  refine lf (r_send (at_all c) (ch_eq (off5_eq c 7)) (land_ag (at_all c) (off5_eq c 7))) ?_
  refine lt (r_send (at_all c) (ch_eq (off6_eq c 7)) (land_ag (at_all c) (off6_eq c 7))) ?_
  refine lf (r_sent credit_o) ?_
  refine lf (r_recv credit_o) ?_
  refine lt (r_sent credit_o) ?_
  exact s_ret (h _)

theorem part_78 {v2 v13 v24 c1_i32_2047} : Goes m ρ c (.p4 22) (.p3 22) 90 (.p0 23) (.p0 23) 92 (k0_part78 xM h0 oM h1 (comM false) h2 (comM true) h3 e2 e3 e4 e5 e6 e7 c v2 v13 v24 c1_i32_2047) := by
  intro Q h; rw [k0_part78_eq_skeleton]; unfold k0_part78_skel; simp only [runs]
  refine lt (r_recv credit_o) ?_
  refine s_gather ?_
  refine lf (r_signal (at_all c)) ?_
  refine lt (r_signal (at_all c)) ?_
  exact s_ret (h _)

theorem part_79 {v13 v24 v2314 v2318 v2319 v2324} : Goes m ρ c (.p0 23) (.p0 23) 92 (.p3 23) (.p2 23) 94 (k0_part79 xM h0 oM h1 (comM false) h2 (comM true) h3 e2 e3 e4 e5 e6 e7 c v13 v24 v2314 v2318 v2319 v2324) := by
  intro Q h; rw [k0_part79_eq_skeleton]; unfold k0_part79_skel; simp only [runs]
  refine lf r_credit ?_
  refine lt r_credit ?_
  refine lf (r_send (at_all c) (ch_eq (off5_eq c 8)) (land_ag (at_all c) (off5_eq c 8))) ?_
  refine lt (r_send (at_all c) (ch_eq (off6_eq c 8)) (land_ag (at_all c) (off6_eq c 8))) ?_
  refine lf (r_sent credit_o) ?_
  exact s_ret (h _)

theorem part_80 {v2 v13 v24} : Goes m ρ c (.p3 23) (.p2 23) 94 (.p0 24) (.p0 24) 96 (k0_part80 xM h0 oM h1 (comM false) h2 (comM true) h3 e2 e3 e4 e5 e6 e7 c v2 v13 v24) := by
  intro Q h; rw [k0_part80_eq_skeleton]; unfold k0_part80_skel; simp only [runs]
  refine lf (r_recv credit_o) ?_
  refine lt (r_sent credit_o) ?_
  refine lt (r_recv credit_o) ?_
  refine s_gather ?_
  refine lf (r_signal (at_all c)) ?_
  refine lt (r_signal (at_all c)) ?_
  exact s_ret (h _)

theorem part_81 {v2 v24 v2376 v2377 v2378} : Goes m ρ c (.p0 24) (.p0 24) 96 (.p1 24) (.p1 24) 96 (k0_part81 xM h0 oM h1 (comM false) h2 (comM true) h3 e2 e3 e4 e5 e6 e7 c v2 v24 v2376 v2377 v2378) := by
  intro Q h; rw [k0_part81_eq_skeleton]; unfold k0_part81_skel
  refine lf r_credit ?_
  refine lt r_credit ?_
  exact s_ret (h _)

theorem part_82 {v13 v24} : Goes m ρ c (.p1 24) (.p1 24) 96 (.p4 24) (.p3 24) 98 (k0_part82 xM h0 oM h1 (comM false) h2 (comM true) h3 e2 e3 e4 e5 e6 e7 c v13 v24) := by
  intro Q h; rw [k0_part82_eq_skeleton]; unfold k0_part82_skel; simp only [runs]
  refine lf (r_send (at_all c) (ch_eq (off5_eq c 9)) (land_ag (at_all c) (off5_eq c 9))) ?_
  refine lt (r_send (at_all c) (ch_eq (off6_eq c 9)) (land_ag (at_all c) (off6_eq c 9))) ?_
  refine lf (r_sent credit_o) ?_
  refine lf (r_recv credit_o) ?_
  refine lt (r_sent credit_o) ?_
  exact s_ret (h _)

theorem part_83 {v2 v13 v24} : Goes m ρ c (.p4 24) (.p3 24) 98 (.p0 25) (.p0 25) 100 (k0_part83 xM h0 oM h1 (comM false) h2 (comM true) h3 e2 e3 e4 e5 e6 e7 c v2 v13 v24) := by
  intro Q h; rw [k0_part83_eq_skeleton]; unfold k0_part83_skel; simp only [runs]
  refine lt (r_recv credit_o) ?_
  refine s_gather ?_
  refine lf (r_signal (at_all c)) ?_
  refine lt (r_signal (at_all c)) ?_
  exact s_ret (h _)

theorem part_84 {v13 v24 v2454 v2466} : Goes m ρ c (.p0 25) (.p0 25) 100 (.p3 25) (.p2 25) 102 (k0_part84 xM h0 oM h1 (comM false) h2 (comM true) h3 e2 e3 e4 e5 e6 e7 c v13 v24 v2454 v2466) := by
  intro Q h; rw [k0_part84_eq_skeleton]; unfold k0_part84_skel; simp only [runs]
  refine lf r_credit ?_
  refine lt r_credit ?_
  refine lf (r_send (at_all c) (ch_eq (off5_eq c 10)) (land_ag (at_all c) (off5_eq c 10))) ?_
  refine lt (r_send (at_all c) (ch_eq (off6_eq c 10)) (land_ag (at_all c) (off6_eq c 10))) ?_
  refine lf (r_sent credit_o) ?_
  exact s_ret (h _)

theorem part_85 {v2 v13 v24} : Goes m ρ c (.p3 25) (.p2 25) 102 (.p0 26) (.p0 26) 104 (k0_part85 xM h0 oM h1 (comM false) h2 (comM true) h3 e2 e3 e4 e5 e6 e7 c v2 v13 v24) := by
  intro Q h; rw [k0_part85_eq_skeleton]; unfold k0_part85_skel; simp only [runs]
  refine lf (r_recv credit_o) ?_
  refine lt (r_sent credit_o) ?_
  refine lt (r_recv credit_o) ?_
  refine s_gather ?_
  refine lf (r_signal (at_all c)) ?_
  refine lt (r_signal (at_all c)) ?_
  exact s_ret (h _)

theorem part_86 {v2 v13 v24 v2524} : Goes m ρ c (.p0 26) (.p0 26) 104 (.p2 26) (.p1 26) 105 (k0_part86 xM h0 oM h1 (comM false) h2 (comM true) h3 e2 e3 e4 e5 e6 e7 c v2 v13 v24 v2524) := by
  intro Q h; rw [k0_part86_eq_skeleton]; unfold k0_part86_skel; simp only [runs]
  refine lf r_credit ?_
  refine lt r_credit ?_
  refine lf (r_send (at_all c) (ch_eq (off5_eq c 11)) (land_ag (at_all c) (off5_eq c 11))) ?_
  exact s_ret (h _)

theorem part_87 {v13 v24} : Goes m ρ c (.p2 26) (.p1 26) 105 (.p0 27) (.p5 26) 107 (k0_part87 xM h0 oM h1 (comM false) h2 (comM true) h3 e2 e3 e4 e5 e6 e7 c v13 v24) := by
  intro Q h; rw [k0_part87_eq_skeleton]; unfold k0_part87_skel; simp only [runs]
  refine lt (r_send (at_all c) (ch_eq (off6_eq c 11)) (land_ag (at_all c) (off6_eq c 11))) ?_
  refine lf (r_sent credit_o) ?_
  refine lf (r_recv credit_o) ?_
  refine lt (r_sent credit_o) ?_
  refine lt (r_recv credit_o) ?_
  refine s_gather ?_
  refine lf (r_signal (at_all c)) ?_
  exact s_ret (h _)

theorem part_88 {v2 v24} : Goes m ρ c (.p0 27) (.p5 26) 107 (.p1 27) (.p1 27) 108 (k0_part88 xM h0 oM h1 (comM false) h2 (comM true) h3 e2 e3 e4 e5 e6 e7 c v2 v24) := by
  intro Q h; rw [k0_part88_eq_skeleton]; unfold k0_part88_skel; simp only [runs]
  refine lt (r_signal (at_all c)) ?_
  refine lf r_credit ?_
  refine lt r_credit ?_
  exact s_ret (h _)

theorem part_89 {v13 v24 v2606} : Goes m ρ c (.p1 27) (.p1 27) 108 (.p4 27) (.p2 27) 110 (k0_part89 xM h0 oM h1 (comM false) h2 (comM true) h3 e2 e3 e4 e5 e6 e7 c v13 v24 v2606) := by
  intro Q h; rw [k0_part89_eq_skeleton]; unfold k0_part89_skel; simp only [runs]
  refine lf (r_send (at_all c) (ch_eq (off5_eq c 12)) (land_ag (at_all c) (off5_eq c 12))) ?_
  refine lt (r_send (at_all c) (ch_eq (off6_eq c 12)) (land_ag (at_all c) (off6_eq c 12))) ?_
  refine lf (r_sent credit_o) ?_
  refine lf (r_recv credit_o) ?_
  exact s_ret (h _)

theorem part_90 {v2 v13 v24} : Goes m ρ c (.p4 27) (.p2 27) 110 (.p0 28) (.p0 28) 112 (k0_part90 xM h0 oM h1 (comM false) h2 (comM true) h3 e2 e3 e4 e5 e6 e7 c v2 v13 v24) := by
  intro Q h; rw [k0_part90_eq_skeleton]; unfold k0_part90_skel; simp only [runs]
  refine lt (r_sent credit_o) ?_
  refine lt (r_recv credit_o) ?_
  refine s_gather ?_
  refine lf (r_signal (at_all c)) ?_
  refine lt (r_signal (at_all c)) ?_
  exact s_ret (h _)

theorem part_91 {v13 v24 v2664 v2666 c16_i32_2397 v2667 c1_i32_2399} : Goes m ρ c (.p0 28) (.p0 28) 112 (.p2 28) (.p2 28) 114 (k0_part91 xM h0 oM h1 (comM false) h2 (comM true) h3 e2 e3 e4 e5 e6 e7 c v13 v24 v2664 v2666 c16_i32_2397 v2667 c1_i32_2399) := by
  intro Q h; rw [k0_part91_eq_skeleton]; unfold k0_part91_skel; simp only [runs]
  refine lf r_credit ?_
  refine lt r_credit ?_
  refine lf (r_send (at_all c) (ch_eq (off5_eq c 13)) (land_ag (at_all c) (off5_eq c 13))) ?_
  refine lt (r_send (at_all c) (ch_eq (off6_eq c 13)) (land_ag (at_all c) (off6_eq c 13))) ?_
  exact s_ret (h _)

theorem part_92 {v2 v13 v24} : Goes m ρ c (.p2 28) (.p2 28) 114 (.p0 29) (.p0 29) 116 (k0_part92 xM h0 oM h1 (comM false) h2 (comM true) h3 e2 e3 e4 e5 e6 e7 c v2 v13 v24) := by
  intro Q h; rw [k0_part92_eq_skeleton]; unfold k0_part92_skel; simp only [runs]
  refine lf (r_sent credit_o) ?_
  refine lf (r_recv credit_o) ?_
  refine lt (r_sent credit_o) ?_
  refine lt (r_recv credit_o) ?_
  refine s_gather ?_
  refine lf (r_signal (at_all c)) ?_
  refine lt (r_signal (at_all c)) ?_
  exact s_ret (h _)

theorem part_93 {v2 v24 v2723} : Goes m ρ c (.p0 29) (.p0 29) 116 (.p1 29) (.p1 29) 116 (k0_part93 xM h0 oM h1 (comM false) h2 (comM true) h3 e2 e3 e4 e5 e6 e7 v2 v24 v2723) := by
  intro Q h; rw [k0_part93_eq_skeleton]; unfold k0_part93_skel; simp only [runs]
  refine lf r_credit ?_
  refine lt r_credit ?_
  exact s_ret (h _)

theorem part_94 {v13 v24 v2753} : Goes m ρ c (.p1 29) (.p1 29) 116 (.p4 29) (.p3 29) 118 (k0_part94 xM h0 oM h1 (comM false) h2 (comM true) h3 e2 e3 e4 e5 e6 e7 c v13 v24 v2753) := by
  intro Q h; rw [k0_part94_eq_skeleton]; unfold k0_part94_skel; simp only [runs]
  refine lf (r_send (at_all c) (ch_eq (off5_eq c 14)) (land_ag (at_all c) (off5_eq c 14))) ?_
  refine lt (r_send (at_all c) (ch_eq (off6_eq c 14)) (land_ag (at_all c) (off6_eq c 14))) ?_
  refine lf (r_sent credit_o) ?_
  refine lf (r_recv credit_o) ?_
  refine lt (r_sent credit_o) ?_
  exact s_ret (h _)

end Cert.HalfProof
-- ==== Proof.HalfMem.lean ====
/-
# The first half's ring all-reduce: the memory a core starts and ends with
-/
module

public import proofs.«01_k».proof.Proof.HalfState

@[expose] public section

set_option maxRecDepth 20000

noncomputable section

namespace Cert.HalfProof

open Cert.HalfIdeal Cert.HalfIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : (ℓ : Loc nD τ sig) → Buf (Elt F) ℓ) (ρ : Dev nD → PrngReg)

/-! ## The landing slots cut out of their buffers -/

abbrev slotOff (s : Fin 2) : Fin 3 → ℕ := ![s.val, 0, 0]
theorem slot_inb (s : Fin 2) : ∀ a, slotOff s a + S1x128x1024.size a ≤ S2x128x1024.size a := by revert s; decide +kernel
abbrev slotR (s : Fin 2) : Rect S2x128x1024 := Rect.unit (s := S2x128x1024) (slotOff s) S1x128x1024.size (slot_inb s)

/-- A ring's landing buffer, whatever it holds. -/
def scr (d : Bool) (c : Dev nD) : sProp 𝕄 :=
  iprop(∃ f : Buf (Elt F) ((comM d).view.loc (c : Thread nD τ)), (comM d).view.loc (c : Thread nD τ) ↦[(comM d).view.set]{fullShare} f)

theorem slotR_disj : ∀ s t : Fin 2, s ≠ t → Disjoint (slotR s).set (slotR t).set := fun s t h => by
  refine Rect.unit_disjoint (0 : Fin 3) ?_
  show s.val + 1 ≤ t.val ∨ t.val + 1 ≤ s.val
  have : s.val ≠ t.val := fun e => h (Fin.ext e)
  omega

theorem slotR_cov : (Finset.univ : Finset (Fin 2)).biUnion (fun s => (slotR s).set) = Finset.univ := by
  refine Finset.eq_univ_of_forall fun i => Finset.mem_biUnion.mpr ⟨⟨(i (0 : Fin 3)).val, (i (0 : Fin 3)).isLt⟩, Finset.mem_univ _, ?_⟩
  rw [Rect.mem_set_unit]
  intro a
  match a with
  | ⟨0, _⟩ => exact ⟨le_rfl, Nat.lt_succ_self _⟩
  | ⟨1, h⟩ => exact ⟨Nat.zero_le _, lt_of_lt_of_eq (i ⟨1, h⟩).isLt (Nat.zero_add _).symm⟩
  | ⟨2, h⟩ => exact ⟨Nat.zero_le _, lt_of_lt_of_eq (i ⟨2, h⟩).isLt (Nat.zero_add _).symm⟩

/-- A slot as a chunk and as a slice of the buffer: the same elements. -/
theorem slot_slice (d : Bool) (c : Dev nD) (s : Fin 2) (X : Vec F S1x128x1024 .bf16) :
    (owns (c : Thread nD τ) ((comM d).slice (slotR s) (fun _ => rfl)) fullShare X : sProp 𝕄) ⊢ slot0 d c s := by
  have key (M : Memref sig .tc .vmem S1x128x1024 .bf16) (hq : S1x128x1024.Squeezes S128x1024) :
      (owns (c : Thread nD τ) M fullShare X : sProp 𝕄) ⊢ iprop(∃ v : Chunk F, owns (c : Thread nD τ) (M.squeeze S128x1024 hq) fullShare v) := by
    unfold owns
    iintro ⟨%f, -, H⟩
    iexists (M.squeeze S128x1024 hq).view.read (Elt F) f
    iexists f
    isplitr; · ipureintro; rfl
    have e : M.view.set = (M.squeeze S128x1024 hq).view.set := (View.set_reshape (v := M.view) (Shape.Squeezes.numel_eq hq)).symm
    ihave H := (Entails.of_eq (congrArg (fun S => (M.view.loc (c : Thread nD τ) ↦[S]{fullShare} f : sProp 𝕄)) e)) $$ H
    iexact H
  unfold slot0 ownsTc
  match d, s with
  | false, 0 => exact key ((comM false).slice (slotR 0) (fun _ => rfl)) squeezes_S1x128x1024_S128x1024
  | false, 1 => exact key ((comM false).slice (slotR 1) (fun _ => rfl)) squeezes_S1x128x1024_S128x1024
  | true, 0 => exact key ((comM true).slice (slotR 0) (fun _ => rfl)) squeezes_S1x128x1024_S128x1024
  | true, 1 => exact key ((comM true).slice (slotR 1) (fun _ => rfl)) squeezes_S1x128x1024_S128x1024

theorem slot_unslice (d : Bool) (c : Dev nD) (s : Fin 2) :
    (slot0 d c s : sProp 𝕄) ⊢ iprop(∃ X : Vec F S1x128x1024 .bf16, owns (c : Thread nD τ) ((comM d).slice (slotR s) (fun _ => rfl)) fullShare X) := by
  have key (M : Memref sig .tc .vmem S1x128x1024 .bf16) (hq : S1x128x1024.Squeezes S128x1024) :
      iprop(∃ v : Chunk F, owns (c : Thread nD τ) (M.squeeze S128x1024 hq) fullShare v)
        ⊢ (iprop(∃ X : Vec F S1x128x1024 .bf16, owns (c : Thread nD τ) M fullShare X) : sProp 𝕄) := by
    unfold owns
    iintro ⟨%v, %f, -, H⟩
    iexists M.view.read (Elt F) f
    iexists f
    isplitr; · ipureintro; rfl
    have e : (M.squeeze S128x1024 hq).view.set = M.view.set := View.set_reshape (v := M.view) (Shape.Squeezes.numel_eq hq)
    ihave H := (Entails.of_eq (congrArg (fun S => (M.view.loc (c : Thread nD τ) ↦[S]{fullShare} f : sProp 𝕄)) e)) $$ H
    iexact H
  unfold slot0 ownsTc
  match d, s with
  | false, 0 => exact key ((comM false).slice (slotR 0) (fun _ => rfl)) squeezes_S1x128x1024_S128x1024
  | false, 1 => exact key ((comM false).slice (slotR 1) (fun _ => rfl)) squeezes_S1x128x1024_S128x1024
  | true, 0 => exact key ((comM true).slice (slotR 0) (fun _ => rfl)) squeezes_S1x128x1024_S128x1024
  | true, 1 => exact key ((comM true).slice (slotR 1) (fun _ => rfl)) squeezes_S1x128x1024_S128x1024

/-- A landing buffer is its two slots, -/
theorem scr_split (d : Bool) (c : Dev nD) : (scr d c : sProp 𝕄) ⊢ iprop(slot0 d c 0 ∗ slot0 d c 1) := by
  unfold scr
  iintro ⟨%f, H⟩
  have h := pointsTo_rects (Ix := ℕ) (Name := ℕ) (U := UU) (Lvl := ℕ) (c : Thread nD τ) (comM d) fullShare slotR (fun _ _ => rfl) slotR_disj slotR_cov f
  ihave H := (Entails.of_eq h) $$ H
  have h2 (Φ : Fin 2 → sProp 𝕄) : bigSep Finset.univ Φ = iprop(Φ 0 ∗ Φ 1) := by
    rw [bigSep_univ_eq_bigSepL [(0 : Fin 2), 1] (by decide) (by decide), bigSepL_cons_cons, bigSepL_singleton]; rfl
  ihave H := (Entails.of_eq (h2 _)) $$ H
  icases H with ⟨H0, H1⟩
  ihave H0 := (slot_slice d c 0 _) $$ H0
  ihave H1 := (slot_slice d c 1 _) $$ H1
  isplitl [H0]; · iexact H0
  iexact H1

/-- Two slots' contents as the buffer's. -/
def both (X0 X1 : Vec F S1x128x1024 .bf16) : Vec F S2x128x1024 .bf16 := fun i =>
  (if (i (0 : Fin 3)).val = 0 then X0 else X1) fun a =>
    match a with
    | ⟨0, _⟩ => ⟨0, Nat.one_pos⟩
    | ⟨1, h⟩ => i ⟨1, h⟩
    | ⟨2, h⟩ => i ⟨2, h⟩

theorem one_idx (i : S1x128x1024.Idx) (j : S1x128x1024.Idx) (h1 : (j (1 : Fin 3)).val = (i (1 : Fin 3)).val) (h2 : (j (2 : Fin 3)).val = (i (2 : Fin 3)).val) : j = i := by
  funext a
  match a with
  | ⟨0, _⟩ =>
    have hi : (i (0 : Fin 3)).val < 1 := (i (0 : Fin 3)).isLt
    have hj : (j (0 : Fin 3)).val < 1 := (j (0 : Fin 3)).isLt
    exact Fin.ext (by show (j (0 : Fin 3)).val = (i (0 : Fin 3)).val; omega)
  | ⟨1, _⟩ => exact Fin.ext h1
  | ⟨2, _⟩ => exact Fin.ext h2

theorem both_zero (X0 X1 : Vec F S1x128x1024 .bf16) : (fun j => both X0 X1 ((slotR 0).emb j)) = X0 := by
  funext j
  have hj : (j (0 : Fin 3)).val < 1 := (j (0 : Fin 3)).isLt
  have e : ((slotR 0).emb j (0 : Fin 3)).val = 0 + 1 * (j (0 : Fin 3)).val := rfl
  unfold both
  rw [e, if_pos (by omega)]
  refine congrArg X0 (one_idx j _ ?_ ?_)
  · show 0 + 1 * (j (1 : Fin 3)).val = _; omega
  · show 0 + 1 * (j (2 : Fin 3)).val = _; omega

theorem both_one (X0 X1 : Vec F S1x128x1024 .bf16) : (fun j => both X0 X1 ((slotR 1).emb j)) = X1 := by
  funext j
  have hj : (j (0 : Fin 3)).val < 1 := (j (0 : Fin 3)).isLt
  have e : ((slotR 1).emb j (0 : Fin 3)).val = 1 + 1 * (j (0 : Fin 3)).val := rfl
  unfold both
  rw [e, if_neg (by omega)]
  refine congrArg X1 (one_idx j _ ?_ ?_)
  · show 0 + 1 * (j (1 : Fin 3)).val = _; omega
  · show 0 + 1 * (j (2 : Fin 3)).val = _; omega

/-- and its two slots are the buffer. -/
theorem scr_join (d : Bool) (c : Dev nD) : iprop(slot0 d c 0 ∗ slot0 d c 1) ⊢ (scr d c : sProp 𝕄) := by
  iintro ⟨H0, H1⟩
  ihave H0 := (slot_unslice d c 0) $$ H0
  ihave H1 := (slot_unslice d c 1) $$ H1
  icases H0 with ⟨%X0, H0⟩
  icases H1 with ⟨%X1, H1⟩
  have e (Φ : Fin 2 → sProp 𝕄) : iprop(Φ 0 ∗ Φ 1) = bigSep Finset.univ Φ := by
    rw [bigSep_univ_eq_bigSepL [(0 : Fin 2), 1] (by decide) (by decide), bigSepL_cons_cons, bigSepL_singleton]; rfl
  have h := owns_of_rects (Ix := ℕ) (Name := ℕ) (U := UU) (Lvl := ℕ) (c : Thread nD τ) (comM d) fullShare slotR (fun _ _ => rfl) slotR_disj slotR_cov
    (both X0 X1)
  rw [← e] at h
  rw [both_zero, both_one] at h
  ihave H := h $$ [H0 H1]
  · isplitl [H0]; · iexact H0
    iexact H1
  unfold owns scr
  icases H with ⟨%f, -, H⟩
  iexists f; iexact H

/-! ## The chunks cut out of the result -/

abbrev chT (t : Bool × Dev nD) : Rect S4096x1024 := chR t.1 t.2

theorem chT_disj : ∀ s t : Bool × Dev nD, s ≠ t → Disjoint (chT s).set (chT t).set := fun s t h => by
  refine Rect.unit_disjoint (0 : Fin 2) ?_
  obtain ⟨a, i⟩ := s
  obtain ⟨b, j⟩ := t
  show (if a then 2048 else 0) + 128 * i.val + 128 ≤ (if b then 2048 else 0) + 128 * j.val
    ∨ (if b then 2048 else 0) + 128 * j.val + 128 ≤ (if a then 2048 else 0) + 128 * i.val
  have hi : i.val < 16 := i.isLt
  have hj : j.val < 16 := j.isLt
  cases a <;> cases b <;> simp only [Bool.false_eq_true, if_false, if_true]
  · have : i.val ≠ j.val := fun e => h (by rw [Fin.ext e])
    omega
  · omega
  · omega
  · have : i.val ≠ j.val := fun e => h (by rw [Fin.ext e])
    omega

/-- The chunk a row of the result lies in. -/
def chOf (r : ℕ) : Bool × Dev nD := (decide (2048 ≤ r), ⟨r / 128 % 16, Nat.mod_lt _ (by decide)⟩)

theorem chOf_mem (x : S4096x1024.Idx) : x ∈ (chT (chOf (x (0 : Fin 2)).val)).set := by
  rw [Rect.mem_set_unit]
  intro a
  match a with
  | ⟨0, h⟩ =>
    have hx : (x (0 : Fin 2)).val < 4096 := (x (0 : Fin 2)).isLt
    show (if decide (2048 ≤ (x (0 : Fin 2)).val) then 2048 else 0) + 128 * ((x (0 : Fin 2)).val / 128 % 16) ≤ (x (0 : Fin 2)).val
      ∧ (x (0 : Fin 2)).val < (if decide (2048 ≤ (x (0 : Fin 2)).val) then 2048 else 0) + 128 * ((x (0 : Fin 2)).val / 128 % 16) + 128
    generalize (x (0 : Fin 2)).val = r at hx
    by_cases h2 : 2048 ≤ r
    · simp only [h2, decide_true, if_true]; omega
    · simp only [h2, decide_false, Bool.false_eq_true, if_false]; omega
  | ⟨1, h⟩ => exact ⟨Nat.zero_le _, lt_of_lt_of_eq (x ⟨1, h⟩).isLt (Nat.zero_add _).symm⟩

theorem chT_cov : (Finset.univ : Finset (Bool × Dev nD)).biUnion (fun t => (chT t).set) = Finset.univ :=
  Finset.eq_univ_of_forall fun x => Finset.mem_biUnion.mpr ⟨_, Finset.mem_univ _, chOf_mem x⟩

theorem chOf_emb (d : Bool) (j : Dev nD) (i : S128x1024.Idx) : chOf ((chR d j).emb i (0 : Fin 2)).val = (d, j) := by
  have hi : (i (0 : Fin 2)).val < 128 := (i (0 : Fin 2)).isLt
  have hj : j.val < 16 := j.isLt
  have e : ((chR d j).emb i (0 : Fin 2)).val = (if d then 2048 else 0) + 128 * j.val + 1 * (i (0 : Fin 2)).val := rfl
  rw [e]
  generalize (i (0 : Fin 2)).val = r at hi
  unfold chOf
  cases d
  · simp only [Bool.false_eq_true, if_false]
    rw [Prod.mk.injEq]
    exact ⟨decide_eq_false (by omega), Fin.ext (by show (0 + 128 * j.val + 1 * r) / 128 % 16 = j.val; omega)⟩
  · simp only [if_true]
    rw [Prod.mk.injEq]
    exact ⟨decide_eq_true (by omega), Fin.ext (by show (2048 + 128 * j.val + 1 * r) / 128 % 16 = j.val; omega)⟩

/-- The place of an element of the result in its chunk. -/
def inCh (x : S4096x1024.Idx) : S128x1024.Idx := fun a =>
  match a with
  | ⟨0, _⟩ => ⟨(x (0 : Fin 2)).val % 128, Nat.mod_lt _ (by decide)⟩
  | ⟨1, _⟩ => ⟨(x (1 : Fin 2)).val, (x (1 : Fin 2)).isLt⟩

theorem inCh_emb (d : Bool) (j : Dev nD) (i : S128x1024.Idx) : inCh ((chR d j).emb i) = i := by
  have hi : (i (0 : Fin 2)).val < 128 := (i (0 : Fin 2)).isLt
  funext a
  match a with
  | ⟨0, _⟩ =>
    apply Fin.ext
    show ((if d then 2048 else 0) + 128 * j.val + 1 * (i (0 : Fin 2)).val) % 128 = (i (0 : Fin 2)).val
    cases d
    · simp only [Bool.false_eq_true, if_false]; omega
    · simp only [if_true]; omega
  | ⟨1, _⟩ =>
    apply Fin.ext
    show 0 + 1 * (i (1 : Fin 2)).val = (i (1 : Fin 2)).val
    omega

/-- What the result holds at the end, on every device: each chunk's last partial sum. -/
def outF : (cc0_stg1_0 : Ref sig .tc).ty.Contents (Elt F) := fun x =>
  val m ρ (chOf (x (0 : Fin 2)).val).1 15 (prv (chOf (x (0 : Fin 2)).val).1 (chOf (x (0 : Fin 2)).val).2) (inCh x)

theorem outF_emb (d : Bool) (j : Dev nD) (i : S128x1024.Idx) : outF m ρ ((chR d j).emb i) = val m ρ d 15 (prv d j) i := by
  unfold outF
  rw [chOf_emb, inCh_emb]

theorem val_last (d : Bool) (c : Dev nD) : ∀ n, val m ρ d (15 + n) c = val m ρ d 15 (back d c n)
  | 0 => by rw [back_zero]
  | n + 1 => by
    rw [show 15 + (n + 1) = 15 + n + 1 by omega, val_gather m ρ d c (15 + n) (by omega), val_last d (prv d c) n, back_prv]

theorem cont_last (d : Bool) (c : Dev nD) (i : ℕ) (hi : i < 16) : cont m ρ d c 30 i = val m ρ d 15 (prv d (back d c i)) := by
  unfold cont
  by_cases h : 16 + i ≤ 30
  · rw [if_pos h, show 16 + i = 15 + (i + 1) by omega, val_last]; exact congrArg _ (back_back d c i 1).symm
  · have : i = 15 := by omega
    subst this
    rw [if_neg h, if_pos (by omega), show prv d (back d c 15) = c by rw [show prv d (back d c 15) = back d c (0 + 16) from back_back d c 15 1, back_add16, back_zero]]

theorem bool_sep (Φ : Bool → sProp 𝕄) : bigSep Finset.univ Φ = iprop(Φ false ∗ Φ true) := by
  rw [bigSep_univ_eq_bigSepL [false, true] (by decide) (by decide), bigSepL_cons_cons, bigSepL_singleton]; rfl

/-- All chunks of the result, by the place behind `c`. -/
theorem chunks_eq (c : Dev nD) (X : (cc0_stg1_0 : Ref sig .tc).ty.Contents (Elt F)) :
    (bigSep Finset.univ fun t : Bool × Dev nD => (owns (c : Thread nD τ) (oM.slice (chT t) (fun _ => rfl)) fullShare (fun x => X ((chT t).emb x)) : sProp 𝕄))
      = iprop((bigSep Finset.univ fun i : Fin 16 => ownsTc c (chM false (back false c i.val)) fullShare (fun x => X ((chR false (back false c i.val)).emb x)))
        ∗ (bigSep Finset.univ fun i : Fin 16 => ownsTc c (chM true (back true c i.val)) fullShare (fun x => X ((chR true (back true c i.val)).emb x)))) := by
  refine (BI.bigSep_univ_prod _).trans ((bool_sep _).trans ?_)
  refine congrArg₂ (fun a b : sProp 𝕄 => iprop(a ∗ b)) ?_ ?_
  · exact BI.bigSep_univ_equiv (backE false c) _
  · exact BI.bigSep_univ_equiv (backE true c) _

/-- The result cut into the chunks of both rings, at any contents, -/
theorem out_split (c : Dev nD) (X : (cc0_stg1_0 : Ref sig .tc).ty.Contents (Elt F)) :
    (owns (c : Thread nD τ) oM fullShare X : sProp 𝕄)
      ⊢ iprop((bigSep Finset.univ fun i : Fin 16 => ownsTc c (chM false (back false c i.val)) fullShare (fun x => X ((chR false (back false c i.val)).emb x)))
        ∗ (bigSep Finset.univ fun i : Fin 16 => ownsTc c (chM true (back true c i.val)) fullShare (fun x => X ((chR true (back true c i.val)).emb x)))) :=
  BI.Entails.trans (owns_rects (c : Thread nD τ) oM fullShare chT (fun _ _ => rfl) chT_disj chT_cov X) (Entails.of_eq (chunks_eq c X))

/-- and put together again. -/
theorem out_join (c : Dev nD) (X : (cc0_stg1_0 : Ref sig .tc).ty.Contents (Elt F)) :
    iprop((bigSep Finset.univ fun i : Fin 16 => ownsTc c (chM false (back false c i.val)) fullShare (fun x => X ((chR false (back false c i.val)).emb x)))
        ∗ (bigSep Finset.univ fun i : Fin 16 => ownsTc c (chM true (back true c i.val)) fullShare (fun x => X ((chR true (back true c i.val)).emb x))))
      ⊢ (owns (c : Thread nD τ) oM fullShare X : sProp 𝕄) :=
  BI.Entails.trans (Entails.of_eq (chunks_eq c X).symm) (owns_of_rects (c : Thread nD τ) oM fullShare chT (fun _ _ => rfl) chT_disj chT_cov X)

theorem own_zero : own 0 = Finset.univ := by ext i; rw [mem_own]; simp only [Finset.mem_univ, iff_true]; omega
theorem own_last : own 30 = Finset.univ := by ext i; rw [mem_own]; have := i.isLt; simp only [Finset.mem_univ, iff_true]; omega

theorem held_zero (d : Bool) (c : Dev nD) : (held m ρ d c 0 : sProp 𝕄)
    = iprop((bigSep Finset.univ fun i : Fin 16 => ownsTc c (chM d (back d c i.val)) fullShare (fun x => out0 m ρ c ((chR d (back d c i.val)).emb x))) ∗ emp ∗ emp) := by
  unfold held kept
  rw [own_zero, if_neg (by omega), if_neg (by omega)]
  have e : ∀ i : Fin 16, piece m ρ d c 0 i.val
      = ownsTc c (chM d (back d c i.val)) fullShare (fun x => out0 m ρ c ((chR d (back d c i.val)).emb x)) := fun i => by
    unfold piece cont
    by_cases h : i.val = 0
    · rw [h, if_neg (by omega), if_pos le_rfl]; rfl
    · rw [if_neg (by omega), if_neg (by omega)]; rfl
  rw [bigSep_congr fun i _ => e i]

theorem held_last (d : Bool) (c : Dev nD) : (held m ρ d c 30 : sProp 𝕄)
    = iprop((bigSep Finset.univ fun i : Fin 16 => ownsTc c (chM d (back d c i.val)) fullShare (fun x => outF m ρ ((chR d (back d c i.val)).emb x)))
        ∗ slot0 d c 1 ∗ slot0 d c 0) := by
  unfold held kept
  rw [own_last, if_pos (by omega), if_pos (by omega)]
  have e : ∀ i : Fin 16, piece m ρ d c 30 i.val
      = ownsTc c (chM d (back d c i.val)) fullShare (fun x => outF m ρ ((chR d (back d c i.val)).emb x)) := fun i => by
    unfold piece
    rw [cont_last m ρ d c i.val i.isLt]
    refine congrArg _ (funext fun x => ?_)
    rw [outF_emb]
  rw [bigSep_congr fun i _ => e i]

/-- The result after the first store is what both rings hold at the start, -/
theorem held_start (c : Dev nD) : (owns (c : Thread nD τ) oM fullShare (out0 m ρ c) : sProp 𝕄) ⊢ iprop(held m ρ false c 0 ∗ held m ρ true c 0) := by
  rw [held_zero, held_zero]
  iintro H
  ihave H := (out_split c (out0 m ρ c)) $$ H
  icases H with ⟨HA, HB⟩
  isplitl [HA]
  · isplitl [HA]; · iexact HA
    isplitr <;> iempintro
  · isplitl [HB]; · iexact HB
    isplitr <;> iempintro

/-- and what both hold at the end is the result and the two landing buffers. -/
theorem held_end (c : Dev nD) : iprop(held m ρ false c 30 ∗ held m ρ true c 30)
    ⊢ (iprop(owns (c : Thread nD τ) oM fullShare (outF m ρ) ∗ scr false c ∗ scr true c) : sProp 𝕄) := by
  rw [held_last, held_last]
  iintro ⟨⟨HA, HA1, HA0⟩, HB, HB1, HB0⟩
  isplitl [HA HB]
  · iapply (out_join c (outF m ρ))
    isplitl [HA]; · iexact HA
    iexact HB
  isplitl [HA0 HA1]
  · iapply (scr_join false c); isplitl [HA0]; · iexact HA0
    iexact HA1
  · iapply (scr_join true c); isplitl [HB0]; · iexact HB0
    iexact HB1

end Cert.HalfProof
-- ==== Proof.HalfStart.lean ====
/-
# The first half's ring all-reduce: the barrier, the first store, and the end
-/
module

public import proofs.«01_k».proof.Proof.HalfMem
public import proofs.«01_k».proof.Proof.HalfSteps
public import proofs.«01_k».proof.Proof.HalfDevs

@[expose] public section

set_option maxRecDepth 20000

noncomputable section

namespace Cert.HalfProof

open Cert.HalfIdeal Cert.HalfIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : (ℓ : Loc nD τ sig) → Buf (Elt F) ℓ) (ρ : Dev nD → PrngReg)

/-! ## What a core starts from -/

/-- One ring's ghost state at the start: every step's tokens and credits, those of the two last waits, its counts of the
    first two landing areas, its places in its five cells, all opened, and in the other ring's credit cell too. -/
def ring0 (d : Bool) (c : Dev nD) : sProp 𝕄 :=
  iprop(((bigSep (Finset.Ico 0 30) fun k => sup d c k) ∗ fin2 d c ∗ readerAt ES (c, d, 0) 0 ∗ readerAt ES (c, d, 1) 0)
    ∗ (atPos ER (cell c (.send d 0)) 0 ∅ 0 ∗ atPos ER (cell c (.send d 1)) 0 ∅ 0
      ∗ atPos ER (cell c (.recv d 0)) 0 ∅ 0 ∗ atPos ER (cell c (.recv d 1)) 0 ∅ 0 ∗ atPos ER (cell c (.cred d)) 0 ∅ 0)
    ∗ (reached ER (cell c (.send d 0)) 0 ∗ reached ER (cell c (.send d 1)) 0
      ∗ reached ER (cell c (.recv d 0)) 0 ∗ reached ER (cell c (.recv d 1)) 0 ∗ reached ER (cell c (.cred (!d))) 0))

/-- A core's: both rings', its place in its barrier cell, the tokens of its two barrier signals and the credit of its
    barrier wait. -/
def lin (c : Dev nD) : sProp 𝕄 :=
  iprop(atPos ER (cell c .bar) 0 ∅ 0 ∗ dutyTok ER (cell (prv false c) .bar) 0 0 ∗ dutyTok ER (cell (prv true c) .bar) 0 1
    ∗ cred (tallyAt (cell c .bar) 0 2) ∗ ring0 false c ∗ ring0 true c)

/-- One ring after the landing areas of its first two steps are released: all but the result's chunks. -/
def pre0 (d : Bool) (c : Dev nD) : sProp 𝕄 :=
  iprop((bigSep (Finset.Ico 0 30) fun k => sup d c k) ∗ fin2 d c ∗ rel d c 2
    ∗ posS d c 0 ∗ posS d c 1 ∗ posR d c 0 ∗ posR d c 1 ∗ posC d c 0)

/-- The staged block and the result's buffer. -/
def stgs (c : Dev nD) : sProp 𝕄 :=
  iprop(owns (c : Thread nD τ) xM fullShare (xstg m ρ c) ∗ ∃ v : (cc0_stg1_0 : Ref sig .tc).ty.Contents (Elt F), owns (c : Thread nD τ) oM fullShare v)

/-- Before the barrier, -/
def S0 (c : Dev nD) : sProp 𝕄 :=
  iprop(facts m ρ ∗ lin c ∗ scr false c ∗ scr true c ∗ (∃ W : Waits sig ℕ, owes (c : Thread nD τ) (O₀ c) W) ∗ stgs m ρ c)
/-- and after it. -/
def S1 (c : Dev nD) : sProp 𝕄 :=
  iprop(env m ρ c ∗ pre0 false c ∗ pre0 true c ∗ Ow c 0 ∗ atPos ER (cell c .bar) 1 ∅ 0 ∗ stgs m ρ c)

/-- What the ring's steps leave alone. -/
def Fr (c : Dev nD) : sProp 𝕄 := iprop(atPos ER (cell c .bar) 1 ∅ 0 ∗ owns (c : Thread nD τ) xM fullShare (xstg m ρ c))

theorem slot_area (d : Bool) (c : Dev nD) (k : ℕ) (hk : k < 15) : (slot0 d c (par k) : sProp 𝕄) ⊢ area d c k := by
  unfold slot0 area; rw [landM_lt d c k hk]

/-- A core releases the landing areas of the first two steps of a ring. -/
theorem g_release (d : Bool) (c : Dev nD) : iprop(facts m ρ ∗ ring0 d c ∗ scr d c) ⊢ (|={Set.univ}=> pre0 d c : sProp 𝕄) := by
  unfold ring0
  iintro ⟨#Hf, ⟨⟨Hs, Hf2, Hr0, Hr1⟩, ⟨HS0, HS1, HR0, HR1, HC⟩, ⟨#Hp0, #Hp1, #Hq0, #Hq1, #HqC⟩⟩, Hscr⟩
  ihave Hscr := (scr_split d c) $$ Hscr
  icases Hscr with ⟨Ha0, Ha1⟩
  ihave Ha0 := (show (slot0 d c 0 : sProp 𝕄) ⊢ area d c 0 from slot_area d c 0 (by decide)) $$ Ha0
  ihave Ha1 := (show (slot0 d c 1 : sProp 𝕄) ⊢ area d c 1 from slot_area d c 1 (by decide)) $$ Ha1
  ihave H0 := (facts_slot m ρ c d 0 (by decide)) $$ Hf
  icases H0 with ⟨%ι0, #H0⟩
  ihave H1 := (facts_slot m ρ c d 1 (by decide)) $$ Hf
  icases H1 with ⟨%ι1, #H1⟩
  imod (slot_release ES (S := area (F := F) d c 0) (ι := ι0) (Set.mem_univ ι0) (area_excl d c 0) 0) $$ [Hr0 Ha0] with ⟨-, #Hl0⟩
  · isplitr; · iexact H0
    isplitl [Hr0]; · iexact Hr0
    iexact Ha0
  imod (slot_release ES (S := area (F := F) d c 1) (ι := ι1) (Set.mem_univ ι1) (area_excl d c 1) 0) $$ [Hr1 Ha1] with ⟨-, #Hl1⟩
  · isplitr; · iexact H1
    isplitl [Hr1]; · iexact Hr1
    iexact Ha1
  imodintro
  unfold pre0
  isplitl [Hs]; · iexact Hs
  isplitl [Hf2]; · iexact Hf2
  isplitr
  · iapply (rel_succ d c 1)
    isplitr
    · iapply (rel_succ d c 0)
      isplitr
      · iapply (rel_none d c); iexact HqC
      isplitr; · iexact Hl0
      iexact Hq0
    isplitr; · iexact Hl1
    iexact Hq1
  isplitl [HS0]
  · unfold posS; isplitl [HS0]; · iexact HS0
    iexact Hp0
  isplitl [HS1]
  · unfold posS; isplitl [HS1]; · iexact HS1
    iexact Hp1
  isplitl [HR0]
  · unfold posR; isplitl [HR0]; · iexact HR0
    iexact Hq0
  isplitl [HR1]
  · unfold posR; isplitl [HR1]; · iexact HR1
    iexact Hq1
  unfold posC
  iexists (∅ : Finset ℕ)
  isplitr
  · ipureintro; exact ⟨Finset.empty_subset _, Nat.zero_le _⟩
  isplitl [HC]; · iexact HC
  rw [bigSep_empty]; iempintro

theorem pre0_rel (d : Bool) (c : Dev nD) : (pre0 d c : sProp 𝕄) ⊢ iprop(rel d c 2 ∗ pre0 d c) := by
  unfold pre0
  iintro ⟨Hs, Hf, #Hr, Hk⟩
  isplitr; · iexact Hr
  isplitl [Hs]; · iexact Hs
  isplitl [Hf]; · iexact Hf
  isplitr; · iexact Hr
  iexact Hk

theorem bar_duty (e : Dev nD) (i : ℕ) (hi : i < 2) : i ∈ (ringRd m ρ).duties (cell e .bar) 0 := by
  rw [duties_cell]; rw [dK_bar]
  have : i = 0 ∨ i = 1 := by omega
  rcases this with rfl | rfl <;> decide

theorem bar_pay0 (c : Dev nD) : (rel false c 2 : sProp 𝕄) ⊢ (ringRd m ρ).payload (cell (prv false c) .bar) 0 0 := by
  refine Entails.of_eq ?_
  rw [payload_cell]; unfold payloadK; simp only [if_true]; rw [nxt_prv]
theorem bar_pay1 (c : Dev nD) : (rel true c 2 : sProp 𝕄) ⊢ (ringRd m ρ).payload (cell (prv true c) .bar) 0 1 := by
  refine Entails.of_eq ?_
  rw [payload_cell]; unfold payloadK; simp only [Nat.one_ne_zero, if_false]; rw [nxt_prv]

theorem bar_rest (c : Dev nD) :
    bigSep ((ringRd m ρ).duties (cell c .bar) 0 \ ∅) (fun i => (ringRd m ρ).payload (cell c .bar) 0 i)
      ⊢ (iprop(rel false (nxt false c) 2 ∗ rel true (nxt true c) 2) : sProp 𝕄) := by
  refine Entails.of_eq ?_
  rw [Finset.sdiff_empty, duties_cell, dK_bar, bigSep_put (by decide), bigSep_singleton, payload_cell, payload_cell]
  unfold payloadK; simp only [if_true, Nat.one_ne_zero, if_false]

/-- The barrier: a signal to either neighbour with this core's first landing areas, and the wait for both neighbours'. -/
theorem r_barrier (c : Dev nD) {n1 n2 : Dev nD} (hn1 : n1 = prv false c) (hn2 : n2 = prv true c)
    {sm : Sem sig} (hsm : sm = barS) {i1 i2 i3 : ℤ} (hi1 : i1 = ((1 : ℕ) : ℤ)) (hi2 : i2 = ((1 : ℕ) : ℤ)) (hi3 : i3 = ((2 : ℕ) : ℤ))
    {α : Type} {Q : α → sProp 𝕄} {K : PUnit → Prog (TpuEff nD τ sig (Elt F) Λ₀ .tc) α} (h : S1 m ρ c ⊢ WP c (K ⟨⟩) Q) :
    S0 m ρ c ⊢ WP c (.op (.semSignal ((n1, .tc) : Thread nD τ) sm i1) fun _ => .op (.semSignal ((n2, .tc) : Thread nD τ) sm i2) fun _ => .op (.semWait sm i3) K) Q := by
  subst hn1 hn2 hsm hi1 hi2 hi3
  unfold S0 lin
  iintro ⟨#Hf, ⟨HB, Ht0, Ht1, Hc, HrF, HrT⟩, HsF, HsT, ⟨%W, HO⟩, Hst⟩
  imod (g_release m ρ false c) $$ [HrF HsF] with HF
  · isplitr; · iexact Hf
    isplitl [HrF]; · iexact HrF
    iexact HsF
  imod (g_release m ρ true c) $$ [HrT HsT] with HT
  · isplitr; · iexact Hf
    isplitl [HrT]; · iexact HrT
    iexact HsT
  ihave HF := (pre0_rel false c) $$ HF
  icases HF with ⟨#HlF, HF⟩
  ihave HT := (pre0_rel true c) $$ HT
  icases HT with ⟨#HlT, HT⟩
  ihave H0 := (facts_cell m ρ (prv false c) .bar) $$ Hf
  icases H0 with ⟨%κ0, #H0⟩
  ihave H1 := (facts_cell m ρ (prv true c) .bar) $$ Hf
  icases H1 with ⟨%κ1, #H1⟩
  ihave H2 := (facts_cell m ρ c .bar) $$ Hf
  icases H2 with ⟨%κ2, #H2⟩
  ihave #Hq0 := (facts_bar m ρ (prv false c)) $$ Hf
  ihave #Hq1 := (facts_bar m ρ (prv true c)) $$ Hf
  iapply (Rounds.wp_signal Variants.none ER (ringRd m ρ) (c : Thread nD τ) none (dst := (prv false c : Thread nD τ)) (sem := barS) (κ := κ0)
      (r := 0) (d := 0) (k' := 1) (bar_duty m ρ (prv false c) 0 (by decide)) (amount_cell m ρ (prv false c) .bar 0 0) 0 (O₀ := O₀ c) (O₁ c) rfl) $$ [HO Ht0]
  · isplitr; · iexact H0
    isplitl [HO]; · iexact HO
    isplitl [Ht0]; · iexact Ht0
    isplitr
    · iapply (bar_pay0 m ρ c); iexact HlF
    iexact Hq0
  iintro HO
  iapply (Rounds.wp_signal Variants.none ER (ringRd m ρ) (c : Thread nD τ) none (dst := (prv true c : Thread nD τ)) (sem := barS) (κ := κ1)
      (r := 0) (d := 1) (k' := 1) (bar_duty m ρ (prv true c) 1 (by decide)) (amount_cell m ρ (prv true c) .bar 0 1) 0 (O₀ := O₁ c) (due c 0) rfl) $$ [HO Ht1]
  · isplitr; · iexact H1
    isplitl [HO]; · iexact HO
    isplitl [Ht1]; · iexact Ht1
    isplitr
    · iapply (bar_pay1 m ρ c); iexact HlT
    iexact Hq1
  iintro HO
  iapply (Rounds.wp_wait_rest_token Variants.none ER (ringRd m ρ) (c : Thread nD τ) none (κ := κ2)
      (wpE_semWait_eq Variants.none (c : Thread nD τ) none Set.univ) (Set.mem_univ _) 0 (O := due c 0) (W := W) (R := 0) (m := 0) (T := ∅)
      (by
        refine Eq.trans ?_ (expect_cell m ρ c .bar 0).symm
        rw [dK_bar]; rfl)) $$ [Hc HO HB]
  · isplitr; · iexact H2
    isplitl [Hc]; · iexact Hc
    isplitl [HO]; · iexact HO
    isplitr
    · iapply (mayWait_cell c .bar 0 0 (by decide) fun i hi => by
        show 1 < _
        split <;> omega)
      iapply (facts_lev m ρ); iexact Hf
    iexact HB
  iintro ⟨HO, HB, -, Hpay⟩
  ihave Hp := (bar_rest m ρ c) $$ Hpay
  icases Hp with ⟨HlF', HlT'⟩
  iapply h
  unfold S1 env Ow
  isplitl [HlF' HlT']
  · isplitr; · iexact Hf
    isplitl [HlF']; · iexact HlF'
    iexact HlT'
  isplitl [HF]; · iexact HF
  isplitl [HT]; · iexact HT
  isplitl [HO]; · iexists _; iexact HO
  isplitl [HB]; · iexact HB
  iexact Hst

theorem part_1 (c : Dev nD) (h0 : (xM : Memref sig .tc .vmem S4096x1024 .bf16).IsWhole) (h1 : (oM : Memref sig .tc .vmem S4096x1024 .bf16).IsWhole) (h2 : (comM false).IsWhole) (h3 : (comM true).IsWhole) {Q : _ → sProp 𝕄} (h : ∀ v2 v13 v24, S1 m ρ c ⊢ Q ⟨c, v2, v13, v24⟩) :
    S0 m ρ c ⊢ WP c (k0_part1 xM h0 oM h1 (comM false) h2 (comM true) h3 cc0_scratch2 cc0_scratch3 cc0_scratch4 cc0_scratch5 cc0_scratch6 cc0_scratch7) Q := by
  rw [k0_part1_eq_skeleton]; unfold k0_part1_skel
  simp only [Prog.lift, Prog.bind_op, Prog.bind_ret, Prog.pure_eq_ret, semSignalWord, semWaitWord]
  rw [WP, wp_deviceId]
  refine r_barrier m ρ c (dev1_eq c) (dev2_eq c) rfl rfl rfl rfl ?_
  exact s_ret (h _ _ _)

theorem whole_zero : (![0, 0] : Fin 2 → Nat) = fun _ => 0 := funext fun a => by fin_cases a <;> rfl

/-- The block loaded, and stored into the result. -/
theorem part_2 (c : Dev nD) (h0 : (xM : Memref sig .tc .vmem S4096x1024 .bf16).IsWhole) (h1 : (oM : Memref sig .tc .vmem S4096x1024 .bf16).IsWhole) (h2 : (comM false).IsWhole) (h3 : (comM true).IsWhole) (v2 : BitVec 32) {Q : _ → sProp 𝕄} (h : ∀ r, iprop(St m ρ c (.p0 0) (.p0 0) 0 ∗ Fr m ρ c) ⊢ Q r) :
    S1 m ρ c ⊢ WP c (k0_part2 xM h0 oM h1 (comM false) h2 (comM true) h3 cc0_scratch2 cc0_scratch3 cc0_scratch4 cc0_scratch5 cc0_scratch6 cc0_scratch7 v2) Q := by
  rw [k0_part2_eq_skeleton]; unfold k0_part2_skel
  simp only [Prog.lift, Prog.bind_op, Prog.bind_ret, Prog.pure_eq_ret]
  unfold S1 stgs
  iintro ⟨He, HF, HT, HO, HB, Hx, ⟨%v, Ho⟩⟩
  unfold owns
  icases Hx with ⟨%fx, %hx, Hx⟩
  icases Ho with ⟨%fo, %ho, Ho⟩
  iapply (wp_load_rect Variants.none (c : Thread nD τ) none Set.univ (m := xM) (r := Rect.unit (s := S4096x1024) ![0, 0] S4096x1024.size inb_S4096x1024_S4096x1024_0_0) (f := fx) (S := xM.view.set) (View.set_slice_subset _ _)) $$ [Hx]
  · iexact Hx
  iintro Hx
  iapply (wp_load_rect Variants.none (c : Thread nD τ) none Set.univ (m := oM) (r := Rect.unit (s := S4096x1024) ![0, 0] S4096x1024.size inb_S4096x1024_S4096x1024_0_0) (f := fo) (S := oM.view.set) (View.set_slice_subset _ _)) $$ [Ho]
  · iexact Ho
  iintro Ho
  iapply (wp_store Variants.none (c : Thread nD τ) none Set.univ (m := oM) (r := Rect.unit (s := S4096x1024) ![0, 0] S4096x1024.size inb_S4096x1024_S4096x1024_0_0) (f := fo) (S := oM.view.set) (View.set_slice_subset _ _)) $$ [Ho]
  · iexact Ho
  iintro Ho
  rw [show (xM.access (Rect.unit (s := S4096x1024) ![0, 0] S4096x1024.size inb_S4096x1024_S4096x1024_0_0)).read (Elt F) fx = xstg m ρ c from
    (Memref.readAt_unit_zero (Elt F) cc0_stg0_0 whole_zero _ fx).trans hx]
  rw [show (oM.access (Rect.unit (s := S4096x1024) ![0, 0] S4096x1024.size inb_S4096x1024_S4096x1024_0_0)).write (Elt F) fo (k0_pay1 (xstg m ρ c)) Finset.univ = out0 m ρ c from
    Memref.write_access_unit_zero_univ (Elt F) cc0_stg1_0 whole_zero _ fo _]
  have ho2 : (oM.view.loc (c : Thread nD τ) ↦[oM.view.set]{fullShare} out0 m ρ c) ⊢ (owns (c : Thread nD τ) oM fullShare (out0 m ρ c) : sProp 𝕄) := owns_intro (c : Thread nD τ) oM fullShare (out0 m ρ c)
  ihave Ho := ho2 $$ Ho
  ihave Ho := (held_start m ρ c) $$ Ho
  icases Ho with ⟨HhF, HhT⟩
  iapply (s_ret (h _))
  unfold St Fr pre0
  icases HF with ⟨HF1, HF2, HF3, HF4, HF5, HF6, HF7, HF8⟩
  icases HT with ⟨HT1, HT2, HT3, HT4, HT5, HT6, HT7, HT8⟩
  simp only [P]
  isplitl [He HO HhF HhT HF1 HF2 HF3 HF4 HF5 HF6 HF7 HF8 HT1 HT2 HT3 HT4 HT5 HT6 HT7 HT8]
  · isplitl [He]; · iexact He
    isplitl [HhF HF1 HF2 HF3 HF4 HF5 HF6 HF7 HF8]
    · isplitl [HF1]; · iexact HF1
      isplitl [HF2]; · iexact HF2
      isplitl [HF3]; · iexact HF3
      isplitl [HF4]; · iexact HF4
      isplitl [HF5]; · iexact HF5
      isplitl [HF6]; · iexact HF6
      isplitl [HF7]; · iexact HF7
      isplitl [HF8]; · iexact HF8
      iexact HhF
    isplitl [HhT HT1 HT2 HT3 HT4 HT5 HT6 HT7 HT8]
    · isplitl [HT1]; · iexact HT1
      isplitl [HT2]; · iexact HT2
      isplitl [HT3]; · iexact HT3
      isplitl [HT4]; · iexact HT4
      isplitl [HT5]; · iexact HT5
      isplitl [HT6]; · iexact HT6
      isplitl [HT7]; · iexact HT7
      isplitl [HT8]; · iexact HT8
      iexact HhT
    iexact HO
  · isplitl [HB]; · iexact HB
    unfold owns
    iexists fx
    isplitr; · ipureintro; exact hx
    iexact Hx

/-! ## The end -/

theorem close_cell (c : Dev nD) (k : CK) (R : ℕ) (hR : (match k with | .send _ _ => 15 | .recv _ _ => 15 | _ => 1) ≤ R) :
    iprop(facts m ρ ∗ atPos ER (cell c k) R ∅ 0) ⊢ (|={Set.univ}=> semVal (cell c k) 0 : sProp 𝕄) := by
  iintro ⟨Hf, Hp⟩
  ihave H := (facts_cell m ρ c k) $$ Hf
  icases H with ⟨%κ, H⟩
  iapply (Rounds.cell_close ER (ringRd m ρ) (Set.mem_univ κ) (fun h => h) (R := R) (duties_done m ρ c k R hR))
  isplitl [H]; · iexact H
  iexact Hp

/-- A core's eleven semaphores at zero. -/
def zeros (c : Dev nD) : sProp 𝕄 := bigSep Finset.univ fun i : Fin 11 => semVal (cell c (ckE i)) 0

/-- What a core ends with: its result, its input as staged, its landing buffers, its semaphores at zero, nothing owed. -/
def SE (c : Dev nD) : sProp 𝕄 :=
  iprop(owns (c : Thread nD τ) xM fullShare (xstg m ρ c) ∗ owns (c : Thread nD τ) oM fullShare (outF m ρ)
    ∗ scr false c ∗ scr true c ∗ zeros c ∗ ∃ W : Waits sig ℕ, owes (c : Thread nD τ) 0 W)

theorem cells_list (Φ : Fin 11 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10) := by
  rw [bigSep_univ_eq_bigSepL [(0 : Fin 11), 1, 2, 3, 4, 5, 6, 7, 8, 9, 10] (by decide) (by decide)]
  simp only [bigSepL_cons_cons, bigSepL_singleton]
  rfl

theorem ring_close (d : Bool) (c : Dev nD) : iprop(facts m ρ ∗ P m ρ d c .p6)
    ⊢ (|={Set.univ}=> (semVal (cell c (.send d 0)) 0 ∗ semVal (cell c (.send d 1)) 0 ∗ semVal (cell c (.recv d 0)) 0 ∗ semVal (cell c (.recv d 1)) 0
      ∗ semVal (cell c (.cred d)) 0 ∗ held m ρ d c 30) : sProp 𝕄) := by
  simp only [P]
  unfold posS posR
  iintro ⟨#Hf, ⟨HS0, -⟩, ⟨HS1, -⟩, ⟨HR0, -⟩, ⟨HR1, -⟩, HC, HM⟩
  imod (close_cell m ρ c (.send d 0) 15 le_rfl) $$ [HS0] with HS0
  · isplitr; · iexact Hf
    iexact HS0
  imod (close_cell m ρ c (.send d 1) 15 le_rfl) $$ [HS1] with HS1
  · isplitr; · iexact Hf
    iexact HS1
  imod (close_cell m ρ c (.recv d 0) 15 le_rfl) $$ [HR0] with HR0
  · isplitr; · iexact Hf
    iexact HR0
  imod (close_cell m ρ c (.recv d 1) 15 le_rfl) $$ [HR1] with HR1
  · isplitr; · iexact Hf
    iexact HR1
  imod (close_cell m ρ c (.cred d) 1 le_rfl) $$ [HC] with HC
  · isplitr; · iexact Hf
    iexact HC
  imodintro
  isplitl [HS0]; · iexact HS0
  isplitl [HS1]; · iexact HS1
  isplitl [HR0]; · iexact HR0
  isplitl [HR1]; · iexact HR1
  isplitl [HC]; · iexact HC
  iexact HM

/-- After the last waits the cells close and the memory is whole again. -/
theorem s_close (c : Dev nD) : iprop(St m ρ c .p6 .p6 120 ∗ Fr m ρ c) ⊢ (|={Set.univ}=> SE m ρ c : sProp 𝕄) := by
  unfold St Fr Ow
  iintro ⟨⟨He, HF, HT, ⟨%W, HO⟩⟩, HB, Hx⟩
  ihave #Hf := (env_facts m ρ c) $$ He
  imod (ring_close m ρ false c) $$ [HF] with ⟨HF1, HF2, HF3, HF4, HF5, HF⟩
  · isplitr; · iexact Hf
    iexact HF
  imod (ring_close m ρ true c) $$ [HT] with ⟨HT1, HT2, HT3, HT4, HT5, HT⟩
  · isplitr; · iexact Hf
    iexact HT
  imod (close_cell m ρ c .bar 1 le_rfl) $$ [HB] with HB
  · isplitr; · iexact Hf
    iexact HB
  ihave HM := (held_end m ρ c) $$ [HF HT]
  · isplitl [HF]; · iexact HF
    iexact HT
  icases HM with ⟨Ho, HsF, HsT⟩
  imodintro
  unfold SE zeros
  rw [cells_list]
  isplitl [Hx]; · iexact Hx
  isplitl [Ho]; · iexact Ho
  isplitl [HsF]; · iexact HsF
  isplitl [HsT]; · iexact HsT
  isplitr [HO]
  · isplitl [HB]; · iexact HB
    isplitl [HF1]; · iexact HF1
    isplitl [HF2]; · iexact HF2
    isplitl [HF3]; · iexact HF3
    isplitl [HF4]; · iexact HF4
    isplitl [HT1]; · iexact HT1
    isplitl [HT2]; · iexact HT2
    isplitl [HT3]; · iexact HT3
    isplitl [HT4]; · iexact HT4
    isplitl [HF5]; · iexact HF5
    iexact HT5
  · iexists W; rw [due_end]; iexact HO

/-- Steps that leave a resource alone. -/
theorem s_frame {c : Dev nD} {α : Type} {p : Prog (TpuEff nD τ sig (Elt F) Λ₀ .tc) α} {Q : α → sProp 𝕄} {G R : sProp 𝕄}
    (h : G ⊢ WP c p fun r => iprop(R -∗ Q r)) : iprop(G ∗ R) ⊢ WP c p Q := by
  iintro ⟨HG, HR⟩
  ihave H := h $$ HG
  iapply (wp_wand _ _ _) $$ H
  iintro %r H
  iapply H; iexact HR

theorem s_unframe {G R Q : sProp 𝕄} (h : iprop(G ∗ R) ⊢ Q) : G ⊢ iprop(R -∗ Q) := by
  iintro HG HR
  iapply h; isplitl [HG]; · iexact HG
  iexact HR

end Cert.HalfProof
-- ==== Proof.HalfChain.lean ====
/-
# The first half's ring all-reduce: the whole body
-/
module

public import proofs.«01_k».proof.Proof.HalfPartsA
public import proofs.«01_k».proof.Proof.HalfPartsB
public import proofs.«01_k».proof.Proof.HalfStart

@[expose] public section

set_option maxRecDepth 20000

noncomputable section

namespace Cert.HalfProof

open Cert.HalfIdeal Cert.HalfIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : (ℓ : Loc nD τ sig) → Buf (Elt F) ℓ) (ρ : Dev nD → PrngReg)

variable (c : Dev nD) (h0 : (xM : Memref sig .tc .vmem S4096x1024 .bf16).IsWhole) (h1 : (oM : Memref sig .tc .vmem S4096x1024 .bf16).IsWhole) (h2 : (comM false).IsWhole) (h3 : (comM true).IsWhole)

/-! ## The first half and the second -/

theorem part_95 {Q : (Σ' (d0 : Dev nD) (v2 : BitVec 32) (v13 : BitVec 32) (v24 : BitVec 32) (v1803 : BitVec 32), BitVec 32) → sProp 𝕄}
    (h : ∀ v2 v13 v24 v1803 z, iprop(St m ρ c (.p4 15) (.p3 15) 62 ∗ Fr m ρ c) ⊢ Q ⟨c, v2, v13, v24, v1803, z⟩) :
    S0 m ρ c ⊢ WP c (k0_part95 xM h0 oM h1 (comM false) h2 (comM true) h3 cc0_scratch2 cc0_scratch3 cc0_scratch4 cc0_scratch5 cc0_scratch6 cc0_scratch7) Q := by
  rw [k0_part95_eq_skeleton]; unfold k0_part95_skel
  refine s_part (part_1 m ρ c h0 h1 h2 h3 fun v2 v13 v24 => ?_)
  refine s_part (part_2 m ρ c h0 h1 h2 h3 _ fun r => ?_)
  refine s_frame ?_
  refine s_part (part_3 fun r => ?_)
  refine s_part (part_4 fun r => ?_)
  refine s_part (part_5 fun r => ?_)
  refine s_part (part_6 fun r => ?_)
  refine s_part (part_7 fun r => ?_)
  refine s_part (part_8 fun r => ?_)
  refine s_part (part_9 fun r => ?_)
  refine s_part (part_10 fun r => ?_)
  refine s_part (part_11 fun r => ?_)
  refine s_part (part_12 fun r hv hw => ?_)
  refine s_part (part_13 hv hw fun r => ?_)
  refine s_part (part_14 fun r => ?_)
  refine s_part (part_15 fun r => ?_)
  refine s_part (part_16 fun r => ?_)
  refine s_part (part_17 fun r => ?_)
  refine s_part (part_18 fun r => ?_)
  refine s_part (part_19 fun r => ?_)
  refine s_part (part_20 fun r => ?_)
  refine s_part (part_21 fun r => ?_)
  refine s_part (part_22 fun r => ?_)
  refine s_part (part_23 fun r => ?_)
  refine s_part (part_24 fun r => ?_)
  refine s_part (part_25 fun r => ?_)
  refine s_part (part_26 fun r => ?_)
  refine s_part (part_27 fun r => ?_)
  refine s_part (part_28 fun r => ?_)
  refine s_part (part_29 fun r => ?_)
  refine s_part (part_30 fun r => ?_)
  refine s_part (part_31 fun r hv hw => ?_)
  refine s_part (part_32 hv hw fun r => ?_)
  refine s_part (part_33 fun r => ?_)
  refine s_part (part_34 fun r => ?_)
  refine s_part (part_35 fun r => ?_)
  refine s_part (part_36 fun r => ?_)
  refine s_part (part_37 fun r => ?_)
  refine s_part (part_38 fun r => ?_)
  refine s_part (part_39 fun r => ?_)
  refine s_part (part_40 fun r => ?_)
  refine s_part (part_41 fun r => ?_)
  refine s_part (part_42 fun r => ?_)
  refine s_part (part_43 fun r => ?_)
  refine s_part (part_44 fun r => ?_)
  refine s_part (part_45 fun r => ?_)
  refine s_part (part_46 fun r => ?_)
  refine s_part (part_47 fun r => ?_)
  refine s_part (part_48 fun r => ?_)
  refine s_part (part_49 fun r => ?_)
  refine s_part (part_50 fun r hv hw => ?_)
  refine s_part (part_51 hv hw fun r => ?_)
  refine s_part (part_52 fun r => ?_)
  refine s_part (part_53 fun r => ?_)
  refine s_part (part_54 fun r => ?_)
  refine s_part (part_55 fun r => ?_)
  refine s_part (part_56 fun r => ?_)
  refine s_part (part_57 fun r => ?_)
  refine s_part (part_58 fun r => ?_)
  refine s_part (part_59 fun r => ?_)
  refine s_part (part_60 fun r => ?_)
  exact s_ret (s_unframe (h _ _ _ _ _))

theorem part_96
    (v2 : BitVec 32) (v13 : BitVec 32) (v24 : BitVec 32) (v1803 : BitVec 32) (c0_i32_1586 : BitVec 32) {Q : PUnit → sProp 𝕄}
    (h : iprop(St m ρ c (.p0 30) (.p0 30) 120 ∗ Fr m ρ c) ⊢ Q ⟨⟩) :
    iprop(St m ρ c (.p4 15) (.p3 15) 62 ∗ Fr m ρ c) ⊢ WP c (k0_part96 xM h0 oM h1 (comM false) h2 (comM true) h3 cc0_scratch2 cc0_scratch3 cc0_scratch4 cc0_scratch5 cc0_scratch6 cc0_scratch7 c v2 v13 v24 v1803 c0_i32_1586) Q := by
  rw [k0_part96_eq_skeleton]; unfold k0_part96_skel
  refine s_frame ?_
  refine s_part (part_61 fun r => ?_)
  refine s_part (part_62 fun r => ?_)
  refine s_part (part_63 fun r => ?_)
  refine s_part (part_64 fun r => ?_)
  refine s_part (part_65 fun r => ?_)
  refine s_part (part_66 fun r => ?_)
  refine s_part (part_67 fun r => ?_)
  refine s_part (part_68 fun r => ?_)
  refine s_part (part_69 fun r => ?_)
  refine s_part (part_70 fun r => ?_)
  refine s_part (part_71 fun r => ?_)
  refine s_part (part_72 fun r => ?_)
  refine s_part (part_73 fun r => ?_)
  refine s_part (part_74 fun r => ?_)
  refine s_part (part_75 fun r => ?_)
  refine s_part (part_76 fun r => ?_)
  refine s_part (part_77 fun r => ?_)
  refine s_part (part_78 fun r => ?_)
  refine s_part (part_79 fun r => ?_)
  refine s_part (part_80 fun r => ?_)
  refine s_part (part_81 fun r => ?_)
  refine s_part (part_82 fun r => ?_)
  refine s_part (part_83 fun r => ?_)
  refine s_part (part_84 fun r => ?_)
  refine s_part (part_85 fun r => ?_)
  refine s_part (part_86 fun r => ?_)
  refine s_part (part_87 fun r => ?_)
  refine s_part (part_88 fun r => ?_)
  refine s_part (part_89 fun r => ?_)
  refine s_part (part_90 fun r => ?_)
  refine s_part (part_91 fun r => ?_)
  refine s_part (part_92 fun r => ?_)
  refine s_part (part_93 fun r => ?_)
  refine s_part (part_94 fun r => ?_)
  simp only [runs]
  refine lt (r_recv credit_o) ?_
  refine s_gather ?_
  refine lf (r_signal (at_all c)) ?_
  refine lt (r_signal (at_all c)) ?_
  exact s_ret (s_unframe h)

/-- The body, from a core's start to its end. -/
theorem sound_ring :
    S0 m ρ c ⊢ WP c (cc0_body xM h0 oM h1 (comM false) h2 (comM true) h3 cc0_scratch2 cc0_scratch3 cc0_scratch4 cc0_scratch5 cc0_scratch6 cc0_scratch7) fun _ => SE m ρ c := by
  rw [cc0_body_eq_skeleton]; unfold cc0_body_skel
  refine s_part (part_95 m ρ c h0 h1 h2 h3 fun v2 v13 v24 v1803 z => ?_)
  refine s_part (part_96 m ρ c h0 h1 h2 h3 v2 v13 v24 v1803 z ?_)
  refine BI.Entails.trans ?_ (wp_fupd _ _ _ _ _)
  refine s_frame ?_
  refine lf r_last ?_
  refine lt r_last ?_
  exact s_ret (s_unframe (s_close m ρ c))

end Cert.HalfProof
-- ==== Proof.HalfLaunch.lean ====
/-
# The first half's ring all-reduce: what the launch deals
-/
module

public import proofs.«01_k».proof.Proof.HalfChain
public import Idealize.ShloMosaic.Lib.Pipeline.Launch
public import Idealize.ShloMosaic.Lib.Pipeline.Kit

@[expose] public section

set_option maxRecDepth 20000

noncomputable section

namespace Cert.HalfProof

open Cert.HalfIdeal Cert.HalfIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : (ℓ : Loc nD τ sig) → Buf (Elt F) ℓ) (ρ : Dev nD → PrngReg)

open Idealize.ShloMosaic.Pipeline (Dat Cfg Window BodyObligation cellOf)
/-- Over the pairs of two sets is over the one and, for each, over the other. -/
theorem bigSep_pairs {I J : Type} [DecidableEq I] [DecidableEq J] (s : Finset I) (t : Finset J) (Φ : I × J → sProp 𝕄) :
    bigSep (s ×ˢ t) Φ = bigSep s fun i => bigSep t fun j => Φ (i, j) := by
  induction s using Finset.induction_on with
  | empty => rfl
  | insert i s hi ih =>
    have he : (insert i s) ×ˢ t = (t.map ⟨Prod.mk i, Prod.mk_right_injective i⟩) ∪ (s ×ˢ t) := by
      ext x
      simp only [Finset.mem_product, Finset.mem_insert, Finset.mem_union, Finset.mem_map, Function.Embedding.coeFn_mk]
      constructor
      · rintro ⟨rfl | h, h'⟩
        · exact Or.inl ⟨x.2, h', rfl⟩
        · exact Or.inr ⟨h, h'⟩
      · rintro (⟨j, hj, rfl⟩ | ⟨h, h'⟩)
        · exact ⟨Or.inl rfl, hj⟩
        · exact ⟨Or.inr h, h'⟩
    have hd : Disjoint (t.map ⟨Prod.mk i, Prod.mk_right_injective i⟩) (s ×ˢ t) := by
      refine Finset.disjoint_left.mpr fun x hx hy => hi ?_
      obtain ⟨j, -, rfl⟩ := Finset.mem_map.mp hx
      exact (Finset.mem_product.mp hy).1
    rw [he, BI.bigSep_union hd, ih, BI.bigSep_map, bigSep_put hi]
    rfl

/-! ## The pipeline's proof data -/

/-- A core's own semaphores: all its cells but the barrier. -/
abbrev osem : Fin 10 → SemLoc sig := fun i => csem (ckE i.succ)

/-- Before the one point: the launch's facts and tokens, the two landing buffers and the generator register; -/
def Φ₀ (c : Dev nD) : sProp 𝕄 := iprop((facts m ρ ∗ lin c) ∗ scr false c ∗ scr true c ∗ ∃ r, prngReg c r)
/-- after it: the landing buffers, every cell closed at zero and the register. -/
def Φ₁ (c : Dev nD) : sProp 𝕄 := iprop(scr false c ∗ scr true c ∗ zeros c ∗ ∃ r, prngReg c r)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xstg m ρ c
    | ⟨1, _⟩ => outF m ρ
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem fetch_x : (cfg0.win (0 : Fin 2)).fetch t0_0 = true := rfl

def bodyPre (c : Dev nD) : sProp 𝕄 :=
  iprop(Φ₀ m ρ c ∗ (dats m ρ 0 c).owesAt 0 t0_0.castSucc
    ∗ (∃ d, owns (c : Thread nD τ) xM fullShare ((dats m ρ 0 c).before (0 : Fin 2) t0_0 d))
    ∗ (∃ d, owns (c : Thread nD τ) oM fullShare ((dats m ρ 0 c).before (1 : Fin 2) t0_0 d)))

def bodyPost (c : Dev nD) : sProp 𝕄 :=
  iprop(Φ₁ c ∗ (dats m ρ 0 c).owesAt 0 t0_0.succ ∗ owns (c : Thread nD τ) xM fullShare (xstg m ρ c) ∗ owns (c : Thread nD τ) oM fullShare (outF m ρ))

theorem pre_S0 (c : Dev nD) : bodyPre m ρ c ⊢ (iprop(S0 m ρ c ∗ ∃ r, prngReg c r) : sProp 𝕄) := by
  unfold bodyPre Φ₀ S0 stgs
  iintro ⟨⟨⟨Hf, Hl⟩, Hs0, Hs1, Hp⟩, Ho, ⟨%dx, Hx⟩, ⟨%dy, Hy⟩⟩
  unfold Dat.owesAt Pipeline.owesWithin
  icases Ho with ⟨%W, %hW, HO⟩
  rw [show (dats m ρ 0 c).owed t0_0.castSucc = O₀ c from rfl]
  rw [show (dats m ρ 0 c).before (0 : Fin 2) t0_0 dx = xstg m ρ c by unfold Dat.before; rw [if_pos fetch_x]; rfl]
  isplitr [Hp]
  swap; · iexact Hp
  isplitl [Hf]; · iexact Hf
  isplitl [Hl]; · iexact Hl
  isplitl [Hs0]; · iexact Hs0
  isplitl [Hs1]; · iexact Hs1
  isplitl [HO]; · iexists W; iexact HO
  isplitl [Hx]; · iexact Hx
  iexists _; iexact Hy

theorem SE_post (c : Dev nD) : SE m ρ c ⊢ (iprop((∃ r, prngReg c r) -∗ bodyPost m ρ c) : sProp 𝕄) := by
  unfold bodyPost Φ₁ SE
  iintro ⟨Hx, Ho, Hs0, Hs1, Hz, ⟨%W, HO⟩⟩ Hp
  unfold Dat.owesAt Pipeline.owesWithin
  rw [show (dats m ρ 0 c).owed t0_0.succ = 0 from rfl]
  isplitl [Hs0 Hs1 Hz Hp]
  · isplitl [Hs0]; · iexact Hs0
    isplitl [Hs1]; · iexact Hs1
    isplitl [Hz]; · iexact Hz
    iexact Hp
  isplitl [HO]
  · iexists W
    isplitr; · ipureintro; exact fun _ _ => Or.inl trivial
    iexact HO
  isplitl [Hx]; · iexact Hx
  iexact Ho

theorem wp_after {α : Type} {c : Dev nD} {p : Prog (TpuEff nD τ sig (Elt F) Λ₀ .tc) α} {Q Q' : α → sProp 𝕄} {P : sProp 𝕄}
    (h : P ⊢ WP c p Q) (hQ : ∀ a, Q a ⊢ Q' a) : P ⊢ WP c p Q' := BI.Entails.trans h (wp_mono _ _ _ hQ)

theorem of_same {P Q R : sProp 𝕄} (h : P ⊢ Q) (e : Q = R) : P ⊢ R := e ▸ h

/-- The body's obligation to the pipeline. -/
theorem body_obligation (c : Dev nD) : BodyObligation (dats (F := F) m ρ 0 c) (defs₀ (F := F)) Variants.none 0 Set.univ := fun t => by
  have e0 : stage0_0 0 = xM := rfl
  have e1 : stage0_1 0 = oM := rfl
  have e2 : (defs₀ (F := F)) Proc.tc (0 : Fin 1) (t0_0, cfg0.slots t0_0)
      = cc0_body xM (Memref.isWhole_whole _) oM (Memref.isWhole_whole _) (comM false) (Memref.isWhole_whole _) (comM true)
        (Memref.isWhole_whole _) cc0_scratch2 cc0_scratch3 cc0_scratch4 cc0_scratch5 cc0_scratch6 cc0_scratch7 := rfl
  have e3 : (dats m ρ 0 c).Φ t0_0.castSucc = Φ₀ m ρ c := rfl
  have e4 : (dats m ρ 0 c).Φ t0_0.succ = Φ₁ c := rfl
  have e7 : (dats m ρ 0 c).after (0 : Fin 2) t0_0 = xstg m ρ c := rfl
  have e8 : (dats m ρ 0 c).after (1 : Fin 2) t0_0 = outF m ρ := rfl
  rw [show t = t0_0 from fin_N0 t]
  rw [show ∀ Φ : Fin cfg0.W → sProp 𝕄, bigSep Finset.univ Φ = iprop(Φ (0 : Fin 2) ∗ Φ (1 : Fin 2)) from fun Φ => bigSep_W0 Φ,
    show ∀ Φ : Fin cfg0.W → sProp 𝕄, bigSep Finset.univ Φ = iprop(Φ (0 : Fin 2) ∗ Φ (1 : Fin 2)) from fun Φ => bigSep_W0 Φ]
  dsimp only
  rw [e0, e1, e2, e3, e4, e7, e8]
  rw [show iprop(Φ₁ c ∗ (dats m ρ 0 c).owesAt 0 t0_0.succ ∗ owns (c : Thread nD τ) xM fullShare (xstg m ρ c) ∗ owns (c : Thread nD τ) oM fullShare (outF m ρ)) = bodyPost m ρ c from rfl,
    show iprop(Φ₀ m ρ c ∗ (dats m ρ 0 c).owesAt 0 t0_0.castSucc
    ∗ (∃ d, owns (c : Thread nD τ) xM fullShare ((dats m ρ 0 c).before (0 : Fin 2) t0_0 d))
    ∗ (∃ d, owns (c : Thread nD τ) oM fullShare ((dats m ρ 0 c).before (1 : Fin 2) t0_0 d))) = bodyPre m ρ c from rfl]
  have h := (pre_S0 m ρ c).trans (s_frame (wp_after (sound_ring m ρ c (Memref.isWhole_whole _) (Memref.isWhole_whole _) (Memref.isWhole_whole cc0_scratch0) (Memref.isWhole_whole cc0_scratch1))
    fun _ => SE_post m ρ c))
  refine of_same h ?_
  unfold WP
  congr 1

/-! ## The launch: ghost state -/

theorem ownSemFacts : Pipeline.OwnSemFacts cfg0.spec osem := by decide

theorem share_full (c : Dev nD) (w : Fin cfg0.W) : (dats m ρ 0 c).share w = fullShare := by unfold Dat.share; split <;> rfl

abbrev kcell (x : Dev nD × Fin 11) : GSem nD τ sig := cell x.1 (ckE x.2)

theorem cell_inj {c e : Dev nD} {k l : CK} (h : cell c k = cell e l) : c = e ∧ k = l :=
  ⟨congrArg (fun g : GSem nD τ sig => g.1.1) h, csem_inj (congrArg Prod.snd h)⟩

theorem kcell_inj : Function.Injective kcell := by
  rintro ⟨c, i⟩ ⟨e, j⟩ h
  obtain ⟨h1, h2⟩ := cell_inj h
  exact Prod.ext h1 (ckE_inj h2)

/-- The barrier cells, whose counters the launch has; -/
def barCells : Finset (GSem nD τ sig) := Finset.univ.map ⟨fun c : Dev nD => kcell (c, 0), fun _ _ h => (cell_inj h).1⟩
/-- and the others, whose counters a device has once its kernel is entered. -/
def ownCells : Finset (GSem nD τ sig) :=
  Finset.univ.map ⟨fun x : Dev nD × Fin 10 => kcell (x.1, x.2.succ), fun x y h => by
    have h' := Prod.mk.inj (kcell_inj h)
    exact Prod.ext h'.1 (Fin.succ_injective _ h'.2)⟩

theorem cells_apart : Disjoint barCells ownCells := by
  rw [Finset.disjoint_left]
  rintro g h1 h2
  obtain ⟨c, -, rfl⟩ := Finset.mem_map.mp h1
  obtain ⟨x, -, h⟩ := Finset.mem_map.mp h2
  exact Fin.succ_ne_zero _ (congrArg Prod.snd (kcell_inj h))

theorem kcell_mem (x : Dev nD × Fin 11) : kcell x ∈ (barCells ∪ ownCells : Finset (GSem nD τ sig)) := by
  obtain ⟨c, i⟩ := x
  rcases Fin.eq_zero_or_eq_succ i with rfl | ⟨j, rfl⟩
  · exact Finset.mem_union_left _ (Finset.mem_map.mpr ⟨c, Finset.mem_univ _, rfl⟩)
  · exact Finset.mem_union_right _ (Finset.mem_map.mpr ⟨(c, j), Finset.mem_univ _, rfl⟩)

/-- The duties of a device's cells: at a step of a ring the send's, the arrival's, the credit's, and a barrier signal's. -/
def tokOf (x : Key × Fin 4) : GSem nD τ sig × ℕ × ℕ :=
  match x.2 with
  | 0 => (cell x.1.1 (.send x.1.2.1 (par x.1.2.2)), x.1.2.2 / 2, 0)
  | 1 => (cell x.1.1 (.recv x.1.2.1 (par x.1.2.2)), x.1.2.2 / 2, 0)
  | 2 => (cell x.1.1 (.cred x.1.2.1), 0, x.1.2.2)
  | 3 => (cell x.1.1 .bar, x.1.2.2, if x.1.2.1 then 1 else 0)

theorem par_half {k l : ℕ} (h : par k = par l) (h' : k / 2 = l / 2) : k = l := by
  have := congrArg Fin.val h
  simp only [par] at this
  omega

theorem tokOf_inj : Function.Injective tokOf := by
  rintro ⟨⟨c, d, k⟩, i⟩ ⟨⟨e, f, l⟩, j⟩ h
  have hc := cell_inj (c := (tokOf ((c, d, k), i)).1.1.1) (e := (tokOf ((e, f, l), j)).1.1.1)
    (k := match i with | 0 => .send d (par k) | 1 => .recv d (par k) | 2 => .cred d | 3 => .bar)
    (l := match j with | 0 => .send f (par l) | 1 => .recv f (par l) | 2 => .cred f | 3 => .bar)
    (by
      have h1 := congrArg Prod.fst h
      fin_cases i <;> fin_cases j <;> exact h1)
  have hr := congrArg (fun x => x.2.1) h
  have hd := congrArg (fun x => x.2.2) h
  have hce : c = e := by have := hc.1; fin_cases i <;> fin_cases j <;> exact this
  subst hce
  have hk := hc.2
  fin_cases i <;> fin_cases j <;> simp [tokOf] at hk hr hd ⊢
  · exact ⟨hk.1, par_half hk.2 hr⟩
  · exact ⟨hk.1, par_half hk.2 hr⟩
  · exact ⟨hk, hd⟩
  · refine ⟨?_, hr⟩
    cases d <;> cases f <;> simp at hd ⊢

def ringToks : Finset (GSem nD τ sig × ℕ × ℕ) := (keys ×ˢ (Finset.univ : Finset (Fin 4))).map ⟨tokOf, tokOf_inj⟩

/-- What the launch starts the ring's ghost state from; -/
def v₀ : UV := (launchOf barCells ownCells ringToks, initSlots keys 1)
/-- that, and the pipeline's. -/
def u₀ : UU := (initOf (Pipeline.cells cfgs cellOf_inj) (Pipeline.launchToks cfgs cellOf_inj), v₀)

theorem keys_next (Φ : Key → sProp 𝕄) : bigSep keys Φ = bigSep keys fun x => Φ (nxt x.2.1 x.1, x.2) := by
  have hi : Function.Injective (fun x : Key => ((nxt x.2.1 x.1, x.2) : Key)) := by
    rintro ⟨c, d, k⟩ ⟨e, f, l⟩ h
    obtain ⟨h1, h2⟩ := Prod.mk.inj h
    obtain ⟨rfl, rfl⟩ := Prod.mk.inj h2
    have := congrArg (prv d) h1
    simp only [prv_nxt] at this
    rw [this]
  have hm : keys.map ⟨_, hi⟩ = keys := Finset.eq_of_subset_of_card_le
    (fun x hx => by
      obtain ⟨y, hy, rfl⟩ := Finset.mem_map.mp hx
      simp only [keys, Finset.mem_product, Finset.mem_univ, true_and] at hy ⊢
      exact hy) (by rw [Finset.card_map])
  have h := BI.bigSep_map (s := keys) ⟨_, hi⟩ (Φ := Φ)
  rw [hm] at h; exact h

theorem keys_prev (Φ : Key → sProp 𝕄) : bigSep keys Φ = bigSep keys fun x => Φ (prv x.2.1 x.1, x.2) := by
  have hi : Function.Injective (fun x : Key => ((prv x.2.1 x.1, x.2) : Key)) := by
    rintro ⟨c, d, k⟩ ⟨e, f, l⟩ h
    obtain ⟨h1, h2⟩ := Prod.mk.inj h
    obtain ⟨rfl, rfl⟩ := Prod.mk.inj h2
    have := congrArg (nxt d) h1
    simp only [nxt_prv] at this
    rw [this]
  have hm : keys.map ⟨_, hi⟩ = keys := Finset.eq_of_subset_of_card_le
    (fun x hx => by
      obtain ⟨y, hy, rfl⟩ := Finset.mem_map.mp hx
      simp only [keys, Finset.mem_product, Finset.mem_univ, true_and] at hy ⊢
      exact hy) (by rw [Finset.card_map])
  have h := BI.bigSep_map (s := keys) ⟨_, hi⟩ (Φ := Φ)
  rw [hm] at h; exact h

/-- What a core gets for a step of a ring: the tokens of what it pays, and its count of its landing area. -/
def pk (x : Key) : sProp 𝕄 :=
  iprop((writeTok ES ((nxt x.2.1 x.1, x.2) : Key) 1 ∗ dutyTok ER (cell x.1 (.send x.2.1 (par x.2.2))) (x.2.2 / 2) 0
      ∗ dutyTok ER (cell (nxt x.2.1 x.1) (.recv x.2.1 (par x.2.2))) (x.2.2 / 2) 0)
    ∗ dutyTok ER (cell (prv x.2.1 x.1) (.cred x.2.1)) 0 x.2.2
    ∗ readerAt ES x 0
    ∗ dutyTok ER (cell (prv x.2.1 x.1) .bar) x.2.2 (if x.2.1 then 1 else 0))

theorem deal : iprop((bigSep ringToks fun x => (dutyTok ER x.1 x.2.1 x.2.2 : sProp 𝕄)) ∗ (bigSep keys fun k => readerAt ES k 0)
      ∗ bigSep (keys ×ˢ Finset.range 1) fun x => writeTok ES x.1 (x.2 + 1))
    ⊢ (bigSep keys fun x => pk x : sProp 𝕄) := by
  have eT : (bigSep ringToks fun x => (dutyTok ER x.1 x.2.1 x.2.2 : sProp 𝕄))
      = iprop((bigSep keys fun x => dutyTok ER (cell x.1 (.send x.2.1 (par x.2.2))) (x.2.2 / 2) 0)
        ∗ (bigSep keys fun x => dutyTok ER (cell x.1 (.recv x.2.1 (par x.2.2))) (x.2.2 / 2) 0)
        ∗ (bigSep keys fun x => dutyTok ER (cell x.1 (.cred x.2.1)) 0 x.2.2)
        ∗ (bigSep keys fun x => dutyTok ER (cell x.1 .bar) x.2.2 (if x.2.1 then 1 else 0))) := by
    unfold ringToks
    rw [BI.bigSep_map, bigSep_pairs, ← bigSep_sep', ← bigSep_sep', ← bigSep_sep']
    refine bigSep_congr fun x _ => ?_
    rw [bigSep_univ_eq_bigSepL [(0 : Fin 4), 1, 2, 3] (by decide) (by decide)]
    simp only [bigSepL_cons_cons, bigSepL_singleton]
    rfl
  have eW : (bigSep (keys ×ˢ Finset.range 1) fun x => (writeTok ES x.1 (x.2 + 1) : sProp 𝕄)) = bigSep keys fun x => writeTok ES x 1 := by
    rw [bigSep_pairs]
    refine bigSep_congr fun x _ => ?_
    rw [Finset.range_one, bigSep_singleton]
  rw [eT, eW, keys_next fun x => (writeTok ES x 1 : sProp 𝕄), keys_next fun x => (dutyTok ER (cell x.1 (.recv x.2.1 (par x.2.2))) (x.2.2 / 2) 0 : sProp 𝕄),
    keys_prev fun x => (dutyTok ER (cell x.1 (.cred x.2.1)) 0 x.2.2 : sProp 𝕄),
    keys_prev fun x => (dutyTok ER (cell x.1 .bar) x.2.2 (if x.2.1 then 1 else 0) : sProp 𝕄)]
  unfold pk
  simp only [bigSep_sep']
  iintro ⟨⟨H1, H2, H3, H4⟩, H5, H6⟩
  isplitl [H6 H1 H2]
  · isplitl [H6]; · iexact H6
    isplitl [H1]; · iexact H1
    iexact H2
  isplitl [H3]; · iexact H3
  isplitl [H5]; · iexact H5
  iexact H4

/-- The invariants of all landing areas. -/
def slots : sProp 𝕄 := bigSep keys fun k => iprop(∃ ι, slotInv ES ι k (area (F := F) k.2.1 k.1 k.2.2))
instance slots_persistent : BI.Persistent (slots (F := F)) := by unfold slots; infer_instance

/-- The invariants of all cells. -/
def cellsI : sProp 𝕄 := bigSep Finset.univ fun x : Dev nD × Fin 11 => iprop(∃ κ, cellInv ER (ringRd m ρ) κ (cell x.1 (ckE x.2)))
instance cellsI_persistent : BI.Persistent (cellsI (F := F) m ρ) := by unfold cellsI; infer_instance

/-- Every barrier cell is at round 0 or later. -/
def barsI : sProp 𝕄 := bigSep Finset.univ fun e : Dev nD => reached ER (cell e .bar) 0
instance barsI_persistent : BI.Persistent (barsI (F := F)) := by unfold barsI; infer_instance

/-- What every core knows. -/
def records : sProp 𝕄 := iprop(cellsI m ρ ∗ barsI ∗ slots)
instance records_persistent : BI.Persistent (records (F := F) m ρ) := by unfold records; infer_instance

def share (c : Dev nD) : sProp 𝕄 := bigSep (Finset.univ ×ˢ Finset.range 30) fun y : Bool × ℕ => pk ((c, y) : Key)

/-- A core's rights to open its ten cells. -/
def opens (c : Dev nD) : sProp 𝕄 := bigSep Finset.univ fun i : Fin 10 => openTok ER (kcell (c, i.succ))

/-- What the launch deals a core. -/
def G' (c : Dev nD) : sProp 𝕄 := iprop(records m ρ ∗ atPos ER (cell c .bar) 0 ∅ 0 ∗ opens c ∗ share c)

theorem mono_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ownSems0_eq (c : Dev nD) : (Pipeline.ownSems0 (Ix := ℕ) (Name := ℕ) (U := UU) (Lvl := ℕ) (Val := Elt F) (τ := τ) osem c : sProp 𝕄)
    = iprop(semVal (kcell (c, 1)) 0 ∗ semVal (kcell (c, 2)) 0 ∗ semVal (kcell (c, 3)) 0 ∗ semVal (kcell (c, 4)) 0 ∗ semVal (kcell (c, 5)) 0
      ∗ semVal (kcell (c, 6)) 0 ∗ semVal (kcell (c, 7)) 0 ∗ semVal (kcell (c, 8)) 0 ∗ semVal (kcell (c, 9)) 0 ∗ semVal (kcell (c, 10)) 0) := by
  rw [Pipeline.ownSems0_eq_of_list c osem [0, 1, 2, 3, 4, 5, 6, 7, 8, 9] (by decide) (by decide)]; rfl

theorem unscopedSems0_eq (c : Dev nD) : (unscopedSems0 c : sProp 𝕄) = semVal (kcell (c, 0)) 0 := by
  unfold unscopedSems0; rw [bigSep_eq_bigSepL_of_eq [SemLoc.reg barS] (by decide) (by decide)]; rfl

theorem zeros_eq (c : Dev nD) : (zeros c : sProp 𝕄)
    = iprop(unscopedSems0 c ∗ Pipeline.ownSems0 (Ix := ℕ) (Name := ℕ) (U := UU) (Lvl := ℕ) (Val := Elt F) (τ := τ) osem c) := by
  rw [ownSems0_eq, unscopedSems0_eq]; unfold zeros; rw [cells_list]

/-- The launch makes every cell's invariant, the barrier cells' from their counters, and deals the tokens. -/
theorem fund_ring : iprop((bigSep Finset.univ fun c : Dev nD => unscopedSems0 c) ∗ BI.own (EV v₀)) ⊢ (|={Set.univ}=> bigSep Finset.univ (G' m ρ) : sProp 𝕄) := by
  have hB (Φ : GSem nD τ sig → sProp 𝕄) : bigSep barCells Φ = bigSep Finset.univ fun c : Dev nD => Φ (cell c .bar) := by
    unfold barCells; rw [BI.bigSep_map]; rfl
  have hO : (bigSep ownCells fun g => (openTok ER g : sProp 𝕄)) = bigSep Finset.univ fun c : Dev nD => opens c := by
    unfold ownCells; rw [BI.bigSep_map, BI.bigSep_univ_prod]; rfl
  have hK : (bigSep keys fun x => (pk x : sProp 𝕄)) = bigSep Finset.univ fun c : Dev nD => share c := by
    unfold keys; rw [bigSep_pairs]; rfl
  have hV : (bigSep Finset.univ fun c : Dev nD => (unscopedSems0 c : sProp 𝕄)) = bigSep barCells fun g => semVal g 0 := by
    rw [hB]; exact bigSep_congr fun c _ => unscopedSems0_eq c
  iintro ⟨Hu, HX⟩
  ihave Hu := (Entails.of_eq hV) $$ Hu
  ihave HX := (Entails.of_eq (show (BI.own (EV v₀) : sProp 𝕄) = BI.own (EV (launchOf barCells ownCells ringToks, initSlots keys 1)) from rfl)) $$ HX
  ihave HX := (own_pair_emb EV (launchOf barCells ownCells ringToks) (initSlots keys 1)) $$ HX
  icases HX with ⟨HA, HB⟩
  imod (Rounds.fund_launch ER (ringRd m ρ) cells_apart (fun _ _ h => h) ringToks) $$ [Hu HA] with ⟨%κ, -, Hinv, Hr, Hat, Hop, Htok⟩
  · isplitl [Hu]; · iexact Hu
    iexact HA
  imod (slots_init ES keys 1 (fun k : Key => area (F := F) k.2.1 k.1 k.2.2)) $$ HB with ⟨%ιs, -, Hsl, Hrd, Hwt⟩
  imodintro
  ihave Hat := (Entails.of_eq (hB fun g => atPos ER g 0 ∅ 0)) $$ Hat
  ihave Hr := (Entails.of_eq (hB fun g => reached ER g 0)) $$ Hr
  ihave Hop := (Entails.of_eq hO) $$ Hop
  ihave Hk := (deal (F := F)) $$ [Htok Hrd Hwt]
  · isplitl [Htok]; · iexact Htok
    isplitl [Hrd]; · iexact Hrd
    iexact Hwt
  ihave Hk := (Entails.of_eq hK) $$ Hk
  have hs : (bigSep keys fun k : Key => slotInv ES (ιs k) k (area (F := F) k.2.1 k.1 k.2.2)) ⊢ (slots : sProp 𝕄) := by
    unfold slots
    refine bigSep_mono fun k _ => ?_
    show slotInv ES (ιs k) k (area (F := F) k.2.1 k.1 k.2.2) ⊢ (iprop(∃ ι, slotInv ES ι k (area (F := F) k.2.1 k.1 k.2.2)) : sProp 𝕄)
    iintro H; iexists _; iexact H
  ihave Hsl := hs $$ Hsl
  have hc : (bigSep (barCells ∪ ownCells) fun g => (cellInv ER (ringRd m ρ) (κ g) g : sProp 𝕄)) ⊢ (cellsI m ρ : sProp 𝕄) := by
    unfold cellsI
    have h1 (x : Dev nD × Fin 11) : (bigSep (barCells ∪ ownCells) fun g => (cellInv ER (ringRd m ρ) (κ g) g : sProp 𝕄))
        ⊢ (iprop(∃ κ, cellInv ER (ringRd m ρ) κ (cell x.1 (ckE x.2))) : sProp 𝕄) := by
      have h2 := bigSep_at (kcell_mem x) (Φ := fun g => (cellInv ER (ringRd m ρ) (κ g) g : sProp 𝕄))
      iintro H
      iexists (κ (kcell x))
      iapply h2; iexact H
    exact (BI.bigSep_of_persistent Finset.univ _).trans (bigSep_mono fun x _ => h1 x)
  ihave Hinv := hc $$ Hinv
  have hg : iprop(records m ρ ∗ bigSep Finset.univ fun c : Dev nD => iprop(atPos ER (cell c .bar) 0 ∅ 0 ∗ opens c ∗ share c))
      ⊢ (bigSep Finset.univ (G' m ρ) : sProp 𝕄) :=
    mono_with fun c _ => by unfold G'; iintro H; iexact H
  iapply hg
  isplitl [Hinv Hr Hsl]
  · unfold records barsI
    isplitl [Hinv]; · iexact Hinv
    isplitl [Hr]; · iexact Hr
    iexact Hsl
  simp only [bigSep_sep']
  isplitl [Hat]; · iexact Hat
  isplitl [Hop]; · iexact Hop
  iexact Hk

/-- A core opens one of its cells. -/
theorem open_cell (c : Dev nD) (i : Fin 10) : iprop(records m ρ ∗ openTok ER (kcell (c, i.succ)) ∗ semVal (kcell (c, i.succ)) 0)
    ⊢ (|={Set.univ}=> (atPos ER (kcell (c, i.succ)) 0 ∅ 0 ∗ reached ER (kcell (c, i.succ)) 0) : sProp 𝕄) := by
  unfold records cellsI
  have h := bigSep_at (Finset.mem_univ ((c, i.succ) : Dev nD × Fin 11)) (Φ := fun x : Dev nD × Fin 11 => (iprop(∃ κ, cellInv ER (ringRd m ρ) κ (cell x.1 (ckE x.2))) : sProp 𝕄))
  iintro ⟨⟨HI, -⟩, Ho, Hv⟩
  ihave HI := h $$ HI
  icases HI with ⟨%κ, HI⟩
  iapply (Rounds.cell_open ER (ringRd m ρ) (g := kcell (c, i.succ)) (Set.mem_univ κ))
  isplitl [HI]; · iexact HI
  isplitl [Ho]; · iexact Ho
  iexact Hv

/-- A core opens its ten cells when its kernel is entered. -/
theorem open_cells (c : Dev nD) : iprop(records m ρ ∗ opens c ∗ Pipeline.ownSems0 (Ix := ℕ) (Name := ℕ) (U := UU) (Lvl := ℕ) (Val := Elt F) (τ := τ) osem c)
    ⊢ (|={Set.univ}=> ((bigSep Finset.univ fun i : Fin 10 => atPos ER (kcell (c, i.succ)) 0 ∅ 0)
      ∗ bigSep Finset.univ fun i : Fin 10 => reached ER (kcell (c, i.succ)) 0) : sProp 𝕄) := by
  have e : (Pipeline.ownSems0 (Ix := ℕ) (Name := ℕ) (U := UU) (Lvl := ℕ) (Val := Elt F) (τ := τ) osem c : sProp 𝕄)
      = bigSep Finset.univ fun i : Fin 10 => semVal (kcell (c, i.succ)) 0 := rfl
  rw [e]
  unfold opens
  rw [← bigSep_sep', ← bigSep_sep']
  exact (mono_with fun i _ => open_cell m ρ c i).trans (bigSep_fupd _ _)

end Cert.HalfProof
-- ==== Proof.HalfRun.lean ====
/-
# The first half's ring all-reduce: the launch and its run
-/
module

public import proofs.«01_k».proof.Proof.HalfLaunch
public import Idealize.ShloMosaic.Lib.Pipeline.CollectiveSegs
public import Idealize.ShloMosaic.Lib.Pipeline.RegionTalk

@[expose] public section

set_option maxRecDepth 20000

noncomputable section

namespace Cert.HalfProof

open Cert.HalfIdeal Cert.HalfIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : (ℓ : Loc nD τ sig) → Buf (Elt F) ℓ) (ρ : Dev nD → PrngReg)

open Idealize.ShloMosaic.Pipeline (Dat Cfg Window BodyObligation cellOf)

/-! ## The launch credit -/

theorem pay_at (d : Dev nD) (k : ℕ) (j : Fin 4) : pay d (4 * k + j.val)
    = match j with
      | 0 => tallyAt (cell (nxt false d) (.recv false (par k))) k N
      | 1 => tallyAt (cell (nxt true d) (.recv true (par k))) k N
      | 2 => tallyAt (cell (prv false d) (.cred false)) k 1
      | 3 => tallyAt (cell (prv true d) (.cred true)) k 1 := by
  have hm : (4 * k + j.val) % 4 = j.val := by omega
  have hd : (4 * k + j.val) / 4 = k := by omega
  unfold pay
  rw [hm, hd]
  fin_cases j <;> rfl

theorem due_all (d : Dev nD) : due d 0 = ∑ y ∈ Finset.range 30 ×ˢ (Finset.univ : Finset (Fin 4)), pay d (4 * y.1 + y.2.val) := by
  unfold due
  refine Finset.sum_nbij' (fun i => (i / 4, (⟨i % 4, Nat.mod_lt _ (by decide)⟩ : Fin 4))) (fun y => 4 * y.1 + y.2.val) ?_ ?_ ?_ ?_ ?_
  · intro i hi
    have := Finset.mem_Ico.mp hi
    exact Finset.mem_product.mpr ⟨Finset.mem_range.mpr (by dsimp only; omega), Finset.mem_univ _⟩
  · rintro ⟨k, j⟩ hy
    have := Finset.mem_range.mp (Finset.mem_product.mp hy).1
    have := j.isLt
    exact Finset.mem_Ico.mpr ⟨Nat.zero_le _, by dsimp only at *; omega⟩
  · intro i hi; dsimp only; omega
  · rintro ⟨k, j⟩ hy
    have := j.isLt
    refine Prod.ext (by dsimp only; omega) (Fin.ext (by dsimp only; omega))
  · intro i hi; dsimp only; rw [Nat.div_add_mod]

def credR (d : Bool) (c : Dev nD) : sProp 𝕄 := bigSep (Finset.range 30) fun k => cred (tallyAt (cell c (.recv d (par k))) k N)
def credC (d : Bool) (c : Dev nD) : sProp 𝕄 := bigSep (Finset.range 30) fun k => cred (tallyAt (cell c (.cred d)) k 1)

theorem cred_nxt (d : Bool) (k : CK) (ι n : ℕ) (c : Dev nD) :
    (Pipeline.launchCred (fun e => tallyAt (cell (nxt d e) k) ι n) c : sProp 𝕄) ⊢ cred (tallyAt (cell c k) ι n) :=
  Pipeline.launchCred_tallyAt (csem k) (nxt d) (prv d) (nxt_prv d) (prv_nxt d) ι n c
theorem cred_prv (d : Bool) (k : CK) (ι n : ℕ) (c : Dev nD) :
    (Pipeline.launchCred (fun e => tallyAt (cell (prv d e) k) ι n) c : sProp 𝕄) ⊢ cred (tallyAt (cell c k) ι n) :=
  Pipeline.launchCred_tallyAt (csem k) (prv d) (nxt d) (prv_nxt d) (nxt_prv d) ι n c

theorem cred_step (c : Dev nD) (k : ℕ) :
    (bigSep Finset.univ fun j : Fin 4 => (Pipeline.launchCred (fun e => pay e (4 * k + j.val)) c : sProp 𝕄))
      ⊢ iprop(cred (tallyAt (cell c (.recv false (par k))) k N) ∗ cred (tallyAt (cell c (.recv true (par k))) k N)
        ∗ cred (tallyAt (cell c (.cred false)) k 1) ∗ cred (tallyAt (cell c (.cred true)) k 1)) := by
  rw [bigSep_univ_eq_bigSepL [(0 : Fin 4), 1, 2, 3] (by decide) (by decide)]
  simp only [bigSepL_cons_cons, bigSepL_singleton, pay_at]
  exact BI.sep_mono (cred_nxt _ _ _ _ _) (BI.sep_mono (cred_nxt _ _ _ _ _) (BI.sep_mono (cred_prv _ _ _ _ _) (cred_prv _ _ _ _ _)))

theorem cred_due (c : Dev nD) :
    (Pipeline.launchCred (fun e => due e 0) c : sProp 𝕄) ⊢ iprop(credR false c ∗ credR true c ∗ credC false c ∗ credC true c) := by
  rw [show (fun e : Dev nD => due e 0) = fun e => ∑ y ∈ Finset.range 30 ×ˢ (Finset.univ : Finset (Fin 4)), pay e (4 * y.1 + y.2.val) from funext due_all,
    Pipeline.launchCred_sum, bigSep_pairs]
  unfold credR credC
  rw [← bigSep_sep', ← bigSep_sep', ← bigSep_sep']
  exact bigSep_mono fun k _ => cred_step c k

theorem creds (c : Dev nD) : (Pipeline.launchCred O₀ c : sProp 𝕄)
    ⊢ iprop(cred (tallyAt (cell c .bar) 0 2) ∗ credR false c ∗ credR true c ∗ credC false c ∗ credC true c) := by
  have e : (Pipeline.launchCred O₀ c : sProp 𝕄)
      = iprop((Pipeline.launchCred (fun e => due e 0) c ∗ Pipeline.launchCred (fun e => tallyAt (cell (nxt false e) .bar) 0 1) c)
        ∗ Pipeline.launchCred (fun e => tallyAt (cell (prv false e) .bar) 0 1) c) := by
    rw [← Pipeline.launchCred_add, ← Pipeline.launchCred_add]; rfl
  rw [e]
  iintro ⟨⟨H, H1⟩, H2⟩
  ihave H := (cred_due (F := F) c) $$ H
  ihave H1 := (cred_nxt (F := F) _ _ _ _ _) $$ H1
  ihave H2 := (cred_prv (F := F) _ _ _ _ _) $$ H2
  isplitl [H1 H2]
  · rw [show (2 : ℕ) = 1 + 1 from rfl, ← tallyAt_add]
    iapply (cred_add _ _).2
    isplitl [H1]; · iexact H1
    iexact H2
  iexact H

/-! ## A ring's supplies, sorted by step -/

theorem range_low : Finset.range 30 = insert 0 (insert 1 ((Finset.range 28).map (addRightEmbedding 2))) := by decide
theorem range_high : Finset.range 30 = insert 28 (insert 29 (Finset.range 28)) := by decide

theorem sort_low (Φ : ℕ → sProp 𝕄) : bigSep (Finset.range 30) Φ
    ⊢ iprop(Φ 0 ∗ Φ 1 ∗ bigSep (Finset.range 30) fun k => if k + 2 < 30 then Φ (k + 2) else iprop(emp)) := by
  have h2 : (bigSep (Finset.range 30) fun k => if k + 2 < 30 then Φ (k + 2) else (iprop(emp) : sProp 𝕄)) = iprop(emp ∗ emp ∗ bigSep (Finset.range 28) fun k => Φ (k + 2)) := by
    rw [range_high, bigSep_put (by decide), bigSep_put (by decide), if_neg (by decide), if_neg (by decide)]
    rw [bigSep_congr fun k hk => if_pos (show k + 2 < 30 by have := Finset.mem_range.mp hk; omega)]
  rw [h2]
  rw [range_low, bigSep_put (by decide), bigSep_put (by decide), BI.bigSep_map]
  iintro ⟨H0, H1, H⟩
  isplitl [H0]; · iexact H0
  isplitl [H1]; · iexact H1
  isplitr; · iempintro
  isplitr; · iempintro
  iexact H

theorem sort_high (Φ : ℕ → sProp 𝕄) : bigSep (Finset.range 30) Φ
    ⊢ iprop((bigSep (Finset.range 30) fun k => if 2 ≤ k then Φ (k - 2) else iprop(emp)) ∗ Φ 28 ∗ Φ 29) := by
  have h2 : (bigSep (Finset.range 30) fun k => if 2 ≤ k then Φ (k - 2) else (iprop(emp) : sProp 𝕄)) = iprop(emp ∗ emp ∗ bigSep (Finset.range 28) fun k => Φ k) := by
    rw [range_low, bigSep_put (by decide), bigSep_put (by decide), if_neg (by decide), if_neg (by decide), BI.bigSep_map]
    rw [bigSep_congr fun k _ => if_pos (show 2 ≤ addRightEmbedding 2 k from Nat.le_add_left 2 k)]
    rfl
  rw [h2]
  rw [range_high, bigSep_put (by decide), bigSep_put (by decide)]
  iintro ⟨H0, H1, H⟩
  isplitl [H]
  · isplitr; · iempintro
    isplitr; · iempintro
    iexact H
  isplitl [H0]; · iexact H0
  iexact H1

theorem ring_intro (d : Bool) (c : Dev nD) :
    iprop((bigSep (Finset.range 30) fun k => pk ((c, d, k) : Key)) ∗ credR d c ∗ credC d c)
      ⊢ (iprop(((bigSep (Finset.Ico 0 30) fun k => sup d c k) ∗ fin2 d c ∗ readerAt ES ((c, d, 0) : Key) 0 ∗ readerAt ES ((c, d, 1) : Key) 0)
        ∗ dutyTok ER (cell (prv d c) .bar) 0 (if d then 1 else 0)) : sProp 𝕄) := by
  rw [← Finset.range_eq_Ico]
  unfold pk sup sup0 sup1 sup2 sup3 credR credC fin2
  dsimp only
  simp only [bigSep_sep']
  iintro ⟨⟨⟨H1, H2, H3⟩, H4, H5, H6⟩, HR, HC⟩
  ihave H5 := (sort_low (F := F) fun k => readerAt ES ((c, d, k) : Key) 0) $$ H5
  icases H5 with ⟨Hr0, Hr1, H5⟩
  ihave HC := (sort_high (F := F) fun k => cred (tallyAt (cell c (.cred d)) k 1)) $$ HC
  icases HC with ⟨HC, Hc0, Hc1⟩
  ihave H6 := (bigSep_at (Finset.mem_range.mpr (by decide : (0 : ℕ) < 30)) (Φ := fun k => (dutyTok ER (cell (prv d c) .bar) k (if d then 1 else 0) : sProp 𝕄))) $$ H6
  isplitr [H6]
  · isplitl [H1 H2 H3 H4 H5 HR HC]
    · isplitl [HC]; · iexact HC
      isplitl [H1 H2 H3]
      · isplitl [H1]; · iexact H1
        isplitl [H2]; · iexact H2
        iexact H3
      isplitl [HR]; · iexact HR
      isplitl [H4]; · iexact H4
      iexact H5
    isplitl [Hc0 Hc1]
    · isplitl [Hc0]; · iexact Hc0
      iexact Hc1
    isplitl [Hr0]; · iexact Hr0
    iexact Hr1
  iexact H6

theorem share_eq2 (c : Dev nD) : (share c : sProp 𝕄)
    = iprop((bigSep (Finset.range 30) fun k => pk ((c, false, k) : Key)) ∗ bigSep (Finset.range 30) fun k => pk ((c, true, k) : Key)) := by
  unfold share
  rw [bigSep_pairs, bigSep_univ_eq_bigSepL [false, true] (by decide) (by decide)]
  simp only [bigSepL_cons_cons, bigSepL_singleton]
  rfl

theorem ten_list (Φ : Fin 10 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9) := by
  rw [bigSep_univ_eq_bigSepL [(0 : Fin 10), 1, 2, 3, 4, 5, 6, 7, 8, 9] (by decide) (by decide)]
  simp only [bigSepL_cons_cons, bigSepL_singleton]
  rfl

/-- What the launch deals a core, its ten cells opened, is what its kernel starts from. -/
theorem start_of (c : Dev nD) :
    iprop(levAts L lv ∗ Pipeline.launchCred O₀ c ∗ (records m ρ ∗ atPos ER (cell c .bar) 0 ∅ 0 ∗ share c)
        ∗ (bigSep Finset.univ fun i : Fin 10 => atPos ER (kcell (c, i.succ)) 0 ∅ 0)
        ∗ bigSep Finset.univ fun i : Fin 10 => reached ER (kcell (c, i.succ)) 0)
      ⊢ (iprop(facts m ρ ∗ lin c) : sProp 𝕄) := by
  unfold facts lin ring0 records cellsI barsI slots
  rw [share_eq2, ten_list, ten_list]
  iintro ⟨Hlv, Hcr, ⟨⟨HI, HU, HS⟩, A0, HF, HT⟩, ⟨A1, A2, A3, A4, A5, A6, A7, A8, A9, A10⟩, R1, R2, R3, R4, R5, R6, R7, R8, R9, R10⟩
  ihave Hcr := (creds (F := F) c) $$ Hcr
  icases Hcr with ⟨HB, HR0, HR1, HC0, HC1⟩
  ihave HF := (ring_intro (F := F) false c) $$ [HF HR0 HC0]
  · isplitl [HF]; · iexact HF
    isplitl [HR0] <;> iassumption
  ihave HT := (ring_intro (F := F) true c) $$ [HT HR1 HC1]
  · isplitl [HT]; · iexact HT
    isplitl [HR1] <;> iassumption
  icases HF with ⟨HF, HFb⟩
  icases HT with ⟨HT, HTb⟩
  isplitl [HI HU HS Hlv]
  · isplitl [HI]; · iexact HI
    isplitl [HU]; · iexact HU
    isplitl [HS]; · iexact HS
    iexact Hlv
  isplitl [A0]; · iexact A0
  isplitl [HFb]; · iexact HFb
  isplitl [HTb]; · iexact HTb
  isplitl [HB]; · iexact HB
  isplitl [HF A1 A2 A3 A4 A9 R1 R2 R3 R4 R10]
  · isplitl [HF]; · iexact HF
    isplitl [A1 A2 A3 A4 A9]
    · isplitl [A1]; · iexact A1
      isplitl [A2]; · iexact A2
      isplitl [A3]; · iexact A3
      isplitl [A4]; · iexact A4
      iexact A9
    isplitl [R1]; · iexact R1
    isplitl [R2]; · iexact R2
    isplitl [R3]; · iexact R3
    isplitl [R4]; · iexact R4
    iexact R10
  isplitl [HT]; · iexact HT
  isplitl [A5 A6 A7 A8 A10]
  · isplitl [A5]; · iexact A5
    isplitl [A6]; · iexact A6
    isplitl [A7]; · iexact A7
    isplitl [A8]; · iexact A8
    iexact A10
  isplitl [R5]; · iexact R5
  isplitl [R6]; · iexact R6
  isplitl [R7]; · iexact R7
  isplitl [R8]; · iexact R8
  iexact R9

/-! ## The kernel as a segment of the program -/

def start (c : Dev nD) : sProp 𝕄 := iprop(facts m ρ ∗ lin c)

/-- What the launch keeps for a core's kernel. -/
def Tk (c : Dev nD) : sProp 𝕄 := iprop(Pipeline.launchCred O₀ c ∗ G' m ρ c)

theorem hopen (c : Dev nD) :
    iprop(Tk m ρ c ∗ Pipeline.ownSems0 (Ix := ℕ) (Name := ℕ) (U := UU) (Lvl := ℕ) (Val := Elt F) (τ := τ) osem c ∗ levAts L lv)
      ⊢ (|={Set.univ}=> start m ρ c : sProp 𝕄) := by
  unfold Tk G' start
  iintro ⟨⟨Hcr, ⟨#HR, Hat, Hop, Hsh⟩⟩, Hos, Hlv⟩
  imod (open_cells m ρ c) $$ [Hop Hos] with ⟨HA, HRe⟩
  · isplitr; · iexact HR
    isplitl [Hop] <;> iassumption
  imodintro
  iapply (start_of m ρ c)
  isplitl [Hlv]; · iexact Hlv
  isplitl [Hcr]; · iexact Hcr
  isplitl [Hat Hsh]
  · isplitr; · iexact HR
    isplitl [Hat] <;> iassumption
  isplitl [HA] <;> iassumption

theorem scr_false (c : Dev nD) : (scr false c : sProp 𝕄)
    = iprop(∃ f : Buf (Elt F) ((c : Thread nD τ).loc cc0_scratch0), ((c : Thread nD τ).loc cc0_scratch0) ↦{fullShare} f) := by
  unfold scr comM
  simp only [Memref.view_whole, View.set_whole]
theorem scr_true (c : Dev nD) : (scr true c : sProp 𝕄)
    = iprop(∃ f : Buf (Elt F) ((c : Thread nD τ).loc cc0_scratch1), ((c : Thread nD τ).loc cc0_scratch1) ↦{fullShare} f) := by
  unfold scr comM
  simp only [Memref.view_whole, View.set_whole]

/-- The tables of the calls' prefetched operands: there is none. -/
abbrev adm : (p : Fin 1) → (pcfgs (F := F) p).Adm := fun p => (cfgs p).toPCfg_adm

def pdats : (p : Fin 1) → (c : Dev nD) → Dat τ (Elt F) ℕ ℕ UU ℕ (Pipeline.pin (pcfgs (F := F)) adm p) c := dats m ρ

theorem hin (c : Dev nD) (V : Valuation τ sig (Elt F)) :
    iprop(Pipeline.scopedRest cfg0.spec c ∗ (∃ r, prngReg c r) ∗ StableHlo.held (c.tc : Thread nD τ) ∅ V ∗ start m ρ c)
      ⊢ (dats m ρ 0 c).Φ 0 := by
  rw [show (dats m ρ 0 c).Φ 0 = Φ₀ m ρ c from rfl, scopedRest0_eq]
  unfold Φ₀ start
  rw [scr_false, scr_true]
  iintro ⟨⟨H0, H1⟩, Hp, -, Hs⟩
  isplitl [Hs]; · iexact Hs
  isplitl [H0]; · iexact H0
  isplitl [H1]; · iexact H1
  iexact Hp

theorem hout (c : Dev nD) (V : Valuation τ sig (Elt F)) :
    (dats m ρ 0 c).Φ (Fin.last cfg0.N)
      ⊢ iprop(Pipeline.scopedRest cfg0.spec c ∗ (∃ r, prngReg c r) ∗ StableHlo.held (c.tc : Thread nD τ) ∅ V ∗ Pipeline.ownSems0 osem c ∗ unscopedSems0 c) := by
  rw [show (dats m ρ 0 c).Φ (Fin.last cfg0.N) = Φ₁ c from rfl, scopedRest0_eq]
  unfold Φ₁
  rw [scr_false, scr_true, zeros_eq]
  unfold StableHlo.held
  rw [bigSep_empty]
  iintro ⟨H0, H1, ⟨Hz, Ho⟩, Hp⟩
  isplitl [H0 H1]
  · isplitl [H0]; · iexact H0
    iexact H1
  isplitl [Hp]; · iexact Hp
  isplitr; · iempintro
  isplitl [Ho]; · iexact Ho
  iexact Hz

theorem O₀_pos {c : Dev nD} {g : GSem nD τ sig} {ι : ℕ} (h : 0 < O₀ c g ι) : (∃ e k, g = cell e k) ∧ ι < 30 ∧ 0 < lv g ι := by
  have one {e : Dev nD} (h : 0 < tallyAt (cell e .bar) 0 1 g ι) : (∃ e k, g = cell e k) ∧ ι < 30 ∧ 0 < lv g ι := by
    rw [tallyAt_apply] at h
    by_cases hn : g = cell e .bar ∧ ι = 0
    · obtain ⟨rfl, rfl⟩ := hn
      exact ⟨⟨_, _, rfl⟩, by decide, by rw [lv_cell]; exact Nat.one_pos⟩
    · rw [if_neg hn] at h; exact absurd h (Nat.lt_irrefl 0)
  unfold O₀ O₁ at h
  rw [Pi.add_apply, Finsupp.add_apply, Pi.add_apply, Finsupp.add_apply] at h
  rcases Nat.eq_zero_or_pos (due c 0 g ι) with h1 | h1
  · rcases Nat.eq_zero_or_pos (tallyAt (cell (nxt false c) .bar) 0 1 g ι) with h2 | h2
    · exact one (e := prv false c) (by omega)
    · exact one h2
  · obtain ⟨i, -, hi, hp⟩ := due_pos h1
    obtain ⟨he, rfl, h3⟩ := pay_pos hp
    refine ⟨he, by omega, ?_⟩
    rw [h3]; split <;> omega

/-- A staging semaphore is none of the ring's: its level is zero. -/
theorem lv_stage (c : Dev nD) (q : DmaSem sig) (hq : ∀ i : Fin 11, csem (ckE i) ≠ SemLoc.dma q) (ι : ℕ) : lv ((c : Thread nD τ), .dma q) ι = 0 := by
  have hn : kindOf (SemLoc.dma q) = none := by
    cases hk : kindOf (SemLoc.dma q) with
    | none => rfl
    | some k =>
      obtain ⟨i, rfl⟩ := ckE_surj k
      exact absurd (kindOf_eq_some hk).symm (hq i)
  unfold lv
  dsimp only
  rw [hn]

theorem stage_apart (w : Fin cfg0.W) (s : Fin (cfg0.win w).nbuf) : ∀ i : Fin 11, csem (ckE i) ≠ SemLoc.dma ((cfg0.win w).sem s) := by
  fin_cases w <;> fin_cases s <;> decide

theorem owed_cut (c : Dev nD) (t : Fin (cfg0.N + 1)) (g : GSem nD τ sig) (i : ℕ) (h : 0 < (dats (F := F) m ρ 0 c).owed t g i) :
    i ∈ L g ∧ (0 : ℕ) < lv g i := by
  rcases t with ⟨_ | t, ht⟩
  · obtain ⟨⟨e, k, rfl⟩, hu, hp⟩ := O₀_pos (show 0 < O₀ c g i from h)
    exact ⟨(L_tc e (csem k)).symm ▸ Finset.mem_range.mpr hu, hp⟩
  · exact absurd (show 0 < (0 : CellTallies nD τ sig ℕ) g i from h) (Nat.lt_irrefl 0)

def finalA (c : Dev nD) (w : Fin cfg0.W) : Buf (Elt F) ((cfg0.win w).arr.view.loc (c : Thread nD τ)) := (dats m ρ 0 c).arrAt w cfg0.N

/-- A device's block is as it was. -/
theorem finalA_x (c : Dev nD) : finalA m ρ c (0 : Fin 2) = (s₀ m ρ).mem (win0_0.arr.view.loc (c : Thread nD τ)) :=
  (dats (F := F) m ρ 0 c).arrAt_in (0 : Fin 2) rfl _

/-- A core's arrays in a memory; -/
def W0 (c : Dev nD) : Valuation τ sig (Elt F) := fun b => m ((c : Dev nD), b)
/-- and in it after the ring, which writes its result. -/
def W1 (c : Dev nD) : Valuation τ sig (Elt F) := Function.update (W0 m c) (Proc.devRef .tc main_v12) (finalA m ρ c (1 : Fin 2))

theorem W1_o (c : Dev nD) : W1 m ρ c (Proc.devRef .tc main_v12) = finalA m ρ c (1 : Fin 2) := Function.update_self ..
theorem W1_ne (c : Dev nD) {b : DevRef τ sig} (h : b ≠ Proc.devRef .tc main_v12) : W1 m ρ c b = W0 m c b := Function.update_of_ne h ..
theorem W1_ref (c : Dev nD) {b : Ref sig .tc} (h : b ≠ main_v12) : W1 m ρ c (Proc.devRef .tc b) = m ((c.tc : Thread nD τ).loc b) :=
  W1_ne m ρ c fun e => h (Proc.devRef_injective _ e)

/-- The arrays the kernel is called on. -/
abbrev arrs : Finset (DevRef τ sig) := Pipeline.arrRefs (pcfgs (F := F) 0).spec
/-- The program's other arrays. -/
abbrev others : Finset (DevRef τ sig) := Pipeline.ucRefs τ sig \ arrs (F := F)

theorem arrs_sub : arrs (F := F) ⊆ Pipeline.ucRefs τ sig := Pipeline.arrRefs_sub_ucRefs _ fun w => by fin_cases w <;> rfl

theorem v1_arrs : (Proc.devRef .tc main_v12 : DevRef τ sig) ∈ arrs (F := F) :=
  Finset.mem_map_of_mem _ (Finset.mem_image.mpr ⟨(1 : Fin 2), Finset.mem_univ _, rfl⟩)

theorem keep_others (c : Dev nD) : ∀ b ∈ others (F := F) \ ∅, W1 m ρ c b = W0 m c b := fun b hb =>
  W1_ne m ρ c fun e => (Finset.mem_sdiff.mp (Finset.mem_sdiff.mp hb).1).2 (e ▸ v1_arrs)

set_option backward.isDefEq.respectTransparency.types false in
/-- The kernel: entered with the launch's holdings, left with its result and every counter at zero. -/
def reg : Pipeline.RegionSeg (pcfgs (F := F)) adm (pdats m ρ) 0 defs₀ Variants.none L lv 0 :=
  Pipeline.RegionSeg.ofTalk (pcfgs (F := F)) adm (pdats m ρ) 0 defs₀ Variants.none L lv 0 osem ownSemFacts
    ∅ (others (F := F)) (Finset.empty_subset _) launch0.toP rfl (fun c => (body_obligation m ρ c).loose)
    (fun _ => 0) O₀ (fun c => (zero_add _).symm) (fun _ => rfl) (fun _ => rfl) (fun c w => share_full m ρ c w)
    (W0 m) (W1 m ρ) (keep_others m ρ)
    (Tk m ρ) (fun c => unscopedSems0 c) (start m ρ) (fun c => unscopedSems0 c)
    (hopen m ρ) (fun c => hin m ρ c _) (fun c => hout m ρ c _)
    (fun c => by iintro H; imodintro; iexact H)
    (fun _ => 0)
    ⟨fun c w s => by rw [L_tc]; exact Finset.mem_range.mpr (by decide),
      fun c w s => (lv_stage c _ (stage_apart w s) 0).le,
      fun c t g i h => owed_cut m ρ c t g i h⟩
    (fun _ => iprop(emp))
    (fun c w => by fin_cases w <;> rfl)
    (fun c w => by
      fin_cases w
      · exact (finalA_x m ρ c).trans (W1_ref m ρ c (b := main_v11) (by decide)).symm
      · exact (W1_o m ρ c).symm)

/-- What a core carries across the host's operations. -/
def Rest (c : Dev nD) : sProp 𝕄 := iprop(unscopedSems0 c ∗ ∃ W, owes (c : Thread nD τ) (0 : CellTallies nD τ sig ℕ) W)

/-- No operation of the host's makes an array of its own. -/
theorem fresh0 : (hostOps0 : List (HloOp τ sig (Elt F))).Forall fun op => op.fresh = ∅ := by
  repeat' (first | rfl | apply And.intro)
theorem fresh1 : (hostOps1 : List (HloOp τ sig (Elt F))).Forall fun op => op.fresh = ∅ := by
  repeat' (first | rfl | apply And.intro)

/-- The host's operations after the kernel. -/
def hostSeg : Pipeline.HostSeg (Name := ℕ) (U := UU) (pcfgs (F := F)) defs₀ Variants.none L lv :=
  Pipeline.HostSeg.ofOps (pcfgs (F := F)) defs₀ Variants.none L lv (Pipeline.ucRefs τ sig) hostOps1
    (fun op h => Pipeline.sub_ucRefs op (List.forall_iff_forall_mem.mp hostOps1_sub op h))
    (fun op h => List.forall_iff_forall_mem.mp fresh1 op h)
    (W1 m ρ) Rest

/-- A core's arrays after the host's operations before the ring. -/
def Wa (c : Dev nD) : Valuation τ sig (Elt F) := StableHlo.after hostOps0 (W0 m c)

/-- The memory the ring starts in. -/
def mid : (ℓ : Loc nD τ sig) → Buf (Elt F) ℓ := fun ℓ => Wa m ℓ.1 ℓ.2

/-- What a core carries across the host's operations before the ring. -/
def Rest0 (c : Dev nD) : sProp 𝕄 := iprop(Tk (mid m) ρ c ∗ (∃ r, prngReg c r) ∗ ∃ W, owes (c : Thread nD τ) (O₀ c) W)

/-- The host's operations before the ring. -/
def preA : Pipeline.HostSeg (Name := ℕ) (U := UU) (pcfgs (F := F)) defs₀ Variants.none L lv :=
  Pipeline.HostSeg.ofOps (pcfgs (F := F)) defs₀ Variants.none L lv (Pipeline.ucRefs τ sig) hostOps0
    (fun op h => Pipeline.sub_ucRefs op (List.forall_iff_forall_mem.mp hostOps0_sub op h))
    (fun op h => List.forall_iff_forall_mem.mp fresh0 op h)
    (W0 m) (Rest0 m ρ)

/-- The program's segments: the host's operations before the ring, the ring, the host's operations after it. -/
def segs : List (Pipeline.Seg (pcfgs (F := F)) adm (pdats (mid m) ρ) 0 defs₀ Variants.none L lv) :=
  [.host (preA m ρ), .region (reg (mid m) ρ), .host (hostSeg (mid m) ρ)]

/-- What a core ends with. -/
def Tn (c : Dev nD) : sProp 𝕄 :=
  iprop(StableHlo.held (c.tc : Thread nD τ) (Pipeline.ucRefs τ sig) (StableHlo.after hostOps1 (W1 m ρ c)) ∗ unscopedSems0 c)

theorem reg_post (c : Dev nD) : (reg m ρ).post c ⊢ (hostSeg m ρ).pre c := by
  show iprop(StableHlo.held (c.tc : Thread nD τ) (arrs (F := F)) (W1 m ρ c) ∗ (∃ r, prngReg c r)
      ∗ (StableHlo.held (c.tc : Thread nD τ) (others (F := F)) (W1 m ρ c) ∗ emp) ∗ unscopedSems0 c ∗ ∃ Wd, owes (c : Thread nD τ) (0 : CellTallies nD τ sig ℕ) Wd)
    ⊢ iprop(StableHlo.held (c.tc : Thread nD τ) (Pipeline.ucRefs τ sig) (W1 m ρ c) ∗ Rest c)
  rw [StableHlo.held_sub_split (c.tc : Thread nD τ) (arrs_sub (F := F)) (W1 m ρ c)]
  unfold Rest
  iintro ⟨Ha, -, ⟨Hr, -⟩, Hu, HO⟩
  isplitl [Ha Hr]
  · isplitl [Ha] <;> iassumption
  isplitl [Hu] <;> iassumption

theorem reg_pre (c : Dev nD) : (preA m ρ).post c ⊢ (reg (mid m) ρ).pre c := by
  show iprop(StableHlo.held (c.tc : Thread nD τ) (Pipeline.ucRefs τ sig) (W0 (mid m) c) ∗ Rest0 m ρ c)
    ⊢ iprop(StableHlo.held (c.tc : Thread nD τ) (arrs (F := F)) (W0 (mid m) c) ∗ (∃ r, prngReg c r)
      ∗ (StableHlo.held (c.tc : Thread nD τ) (others (F := F)) (W0 (mid m) c) ∗ emp) ∗ Tk (mid m) ρ c ∗ ∃ Wd, owes (c : Thread nD τ) (0 + O₀ c) Wd)
  rw [StableHlo.held_sub_split (c.tc : Thread nD τ) (arrs_sub (F := F)) (W0 (mid m) c), zero_add]
  unfold Rest0
  iintro ⟨⟨Ha, Hr⟩, HT, Hp, HO⟩
  isplitl [Ha]; · iexact Ha
  isplitl [Hp]; · iexact Hp
  isplitl [Hr]
  · isplitl [Hr]; · iexact Hr
    iempintro
  isplitl [HT]; · iexact HT
  iexact HO

theorem first_pre (c : Dev nD) :
    iprop((StableHlo.held (c.tc : Thread nD τ) (Pipeline.ucRefs τ sig) (W0 m c) ∗ owes (c : Thread nD τ) (O₀ c) ∅ ∗ Pipeline.launchCred O₀ c ∗ prngReg c (ρ c)) ∗ G' (mid m) ρ c)
      ⊢ (preA m ρ).pre c := by
  show _ ⊢ iprop(StableHlo.held (c.tc : Thread nD τ) (Pipeline.ucRefs τ sig) (W0 m c) ∗ Rest0 m ρ c)
  unfold Rest0 Tk
  iintro ⟨⟨Ha, HO, Hcr, Hp⟩, HG⟩
  isplitl [Ha]; · iexact Ha
  isplitl [Hcr HG]
  · isplitl [Hcr] <;> iassumption
  isplitl [Hp]; · iexists _; iexact Hp
  iexists _; iexact HO

/-! ## The run -/

/-- A resource all of which is with one core. -/
def onDev (c₀ : Dev nD) (X : sProp 𝕄) (c : Dev nD) : sProp 𝕄 := if c = c₀ then X else iprop(emp)

theorem onDev_all (c₀ : Dev nD) (X : sProp 𝕄) : bigSep Finset.univ (onDev c₀ X) = X := by
  have h : ∀ c ∈ Finset.univ.erase c₀, onDev c₀ X c = (fun _ : Dev nD => (iprop(emp) : sProp 𝕄)) c := fun c hc => if_neg (Finset.ne_of_mem_erase hc)
  rw [bigSep_univ_at _ c₀, bigSep_congr h, show onDev c₀ X c₀ = X from if_pos rfl]
  exact (congrArg (fun Y => iprop(X ∗ Y)) (BI.bigSep_emp_const _)).trans (BI.equiv_iff.mp sep_emp)

/-- The ring's ghost state, kept with one core until the launch deals it. -/
def G : Dev nD → sProp 𝕄 := onDev 0 (BI.own (EV v₀))

theorem init :
    iprop((bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c)) ∗ levAts L lv)
      ⊢ (|={Set.univ}=> bigSep Finset.univ (preA m ρ).pre : sProp 𝕄) := by
  have hU (c : Dev nD) : (unscopedBufs c (fun b => m ((c.tc : Thread nD τ).loc b)) : sProp 𝕄)
      = StableHlo.held (c.tc : Thread nD τ) (Pipeline.ucRefs τ sig) (W0 m c) := Pipeline.unscopedBufs_held c (W0 m c)
  have hP : (bigSep Finset.univ fun c : Dev nD => iprop((StableHlo.held (c.tc : Thread nD τ) (Pipeline.ucRefs τ sig) (W0 m c) ∗ owes (c : Thread nD τ) (O₀ c) ∅
        ∗ Pipeline.launchCred O₀ c ∗ prngReg c (ρ c)) ∗ G' (mid m) ρ c)) ⊢ (bigSep Finset.univ (preA m ρ).pre : sProp 𝕄) :=
    bigSep_mono fun c _ => first_pre m ρ c
  have hG : bigSep Finset.univ (G (F := F)) ⊢ (BI.own (EV v₀) : sProp 𝕄) := Entails.of_eq (onDev_all 0 _)
  simp only [hU, bigSep_sep'] at hP ⊢
  iintro ⟨⟨HH, HU, HO, Hcr, Hp, HG⟩, -⟩
  ihave HG := hG $$ HG
  imod (fund_ring (mid m) ρ) $$ [HU HG] with HG
  · isplitl [HU] <;> iassumption
  imodintro
  iapply hP
  isplitr [HG]
  · isplitl [HH]; · iexact HH
    isplitl [HO]; · iexact HO
    isplitl [Hcr] <;> iassumption
  iexact HG

theorem ref_unscoped {b : Ref sig .tc} (h : b.isScoped = false) : (Proc.devRef .tc b : DevRef τ sig) ∈ Pipeline.ucRefs τ sig :=
  Finset.mem_filter.mpr ⟨StableHlo.devRef_mem_tcRefs b, fun h' => Bool.false_ne_true (h.symm.trans h')⟩

/-- What a final memory is read to hold on a core: every array as the host's operations leave it, every counter at zero. -/
def QY (c : Dev nD) (s : MemSt nD τ sig (Elt F)) : Prop :=
  (∀ b : Ref sig .tc, b.isScoped = false → s.mem ((c.tc : Thread nD τ).loc b) = StableHlo.after hostOps1 (W1 (mid m) ρ c) (Proc.devRef .tc b))
    ∧ ∀ sm : SemLoc sig, sm.isScoped .tc = false → s.sem ((c.tc : Thread nD τ), sm) = 0

theorem read_end (c : Dev nD) (s' : Phys nD τ sig (Elt F)) :
    iprop(Tn (mid m) ρ c ∗ SI s') ⊢ (|={Set.univ}=> iprop(⌜QY m ρ c s'.mem⌝ ∗ SI s') : sProp 𝕄) := by
  have hB : iprop(SI s' ∗ StableHlo.held (c.tc : Thread nD τ) (Pipeline.ucRefs τ sig) (StableHlo.after hostOps1 (W1 (mid m) ρ c)))
      ⊢ (⌜∀ b ∈ Pipeline.ucRefs τ sig, s'.mem.mem (c, b) = StableHlo.after hostOps1 (W1 (mid m) ρ c) b⌝ : sProp 𝕄) :=
    SI_pointsTo_bufs_agree (qs := fun _ => fullShare) (Pipeline.ucRefs τ sig)
  have h1 : iprop(Tn (mid m) ρ c ∗ SI s')
      ⊢ (⌜∀ b ∈ Pipeline.ucRefs τ sig, s'.mem.mem (c, b) = StableHlo.after hostOps1 (W1 (mid m) ρ c) b⌝ : sProp 𝕄) := by
    unfold Tn
    iintro ⟨⟨Hh, -⟩, HSI⟩
    iapply hB
    isplitl [HSI] <;> iassumption
  refine Laws.pure_elim _ h1 fun h => ?_
  unfold Tn
  iintro ⟨⟨-, Hu⟩, HSI⟩
  imod (Pipeline.unscopedSems0_read (X := unscopedSems0 c) (c := c) fupd_intro s') $$ [Hu HSI] with ⟨%h2, HSI⟩
  · isplitl [Hu] <;> iassumption
  imodintro
  isplitr
  · ipureintro
    exact ⟨fun b hb => h _ (ref_unscoped hb), h2⟩
  iexact HSI

set_option backward.isDefEq.respectTransparency.types false in
set_option maxRecDepth 1000000 in
/-- For any float values, from any memory with every counter at zero: every weakly fair execution of the sixteen programs
    ends, and then each device's arrays hold what the host's operations make of them after the ring, and every semaphore counter
    is zero. -/
theorem run_main : θ_run defs (onTc (τ := τ) (main (F := F))) (s₀ m ρ) (fun r => (∀ c : Dev nD, ∀ b : Ref sig .tc, b.isScoped = false →
      r.2.mem ((c.tc : Thread nD τ).loc b) = StableHlo.after hostOps1 (W1 (mid m) ρ c) (Proc.devRef .tc b)) ∧ r.2.sem = fun _ => 0) :=
  Pipeline.θ_run_regions_kit_sems (pcfgs (F := F)) adm (pdats (mid m) ρ) 0 cellOf_inj EP defs₀ Variants.none L lv m ρ main (segs m ρ)
    (fun c Q => by rw [main_chain, Pipeline.Seg.run_eq_chain]; exact .rfl)
    (by simp only [segs, Pipeline.Seg.pipes_host, Pipeline.Seg.pipes_region, Pipeline.Seg.pipes_nil]; decide)
    (O₀ := O₀) (hL := L_of_ne) (G := G) (u₀ := u₀)
    (hu₀ := by
      unfold u₀ G
      iintro Hu
      ihave H := (ownU_pair _ _) $$ Hu
      icases H with ⟨HP, HX⟩
      imodintro
      isplitl [HP]; · iexact HP
      rw [onDev_all]; iexact HX)
    (T₀ := (preA m ρ).pre) (Tₙ := Tn (mid m) ρ)
    (hch := by
      refine ⟨fun c => .rfl, fun c => reg_pre m ρ c, fun c => reg_post (mid m) ρ c, fun c => ?_⟩
      show iprop(StableHlo.held (c.tc : Thread nD τ) (Pipeline.ucRefs τ sig) (StableHlo.after hostOps1 (W1 (mid m) ρ c)) ∗ Rest c)
        ⊢ iprop(Tn (mid m) ρ c ∗ ∃ W, owes (c : Thread nD τ) (0 : CellTallies nD τ sig ℕ) W)
      unfold Tn Rest
      iintro ⟨Hh, Hu, HO⟩
      isplitl [Hh Hu]
      · isplitl [Hh] <;> iassumption
      iexact HO)
    (hinit := init m ρ)
    (QY := QY m ρ)
    (hfin := read_end m ρ)
    (hQ := fun s h hs => ⟨fun c b hb => (h c).1 b hb, sem_eq_zero hs fun c sm hsm => (h c).2 sm hsm⟩)

end Cert.HalfProof
-- ==== Proof.HalfSum.lean ====
/-
# The first half of the block: its reference

What the plain reference leaves: the residual plus the gate times the product of the attention's output with the whole projection.
-/
module

public import proofs.«01_k».proof.Proof.Gen.RefHalfIdeal
public import proofs.«01_k».proof.Proof.RowMath

@[expose] public section

set_option maxRecDepth 20000

noncomputable section

namespace Cert.HalfSum

open Cert.RefHalfIdeal Cert.RefHalfIdeal.Gen Idealize.ShloMosaic Idealize.ShloMosaic.TcCoe

variable {F : FTy → Type} [FloatOps F]

/-- The vector of the six scales and shifts. -/
def scales (t : FVec F S1x128 .f32) (W : FVec F S128x6144 .f32) : FVec F S1x6144 .f32 :=
  Host.dotGeneral dot_S1x128_S128x6144_S1x6144_1_0_0_1_n_n none t W

/-- The attention's output, laid as one matrix of rows. -/
def rows (o : FVec F S4096x16384 .bf16) : FVec F S1x4096x16384 .f32 :=
  shapeCast S1x4096x16384 (extf .f32 o bitsLt_bf16_f32) shapeCasts_S4096x16384_S1x4096x16384

/-- The residual plus the gate times the projection of the attention's output. -/
def gated (x : FVec F S1x4096x1024 .f32) (a : FVec F S1x4096x16384 .f32) (s : FVec F S1x6144 .f32) (W : FVec F S16384x1024 .f32) :
    FVec F S1x4096x1024 .f32 :=
  addf x (mulf (broadcastInDim S1x4096x1024 ![0, 1, 2] bcast_S1x1x1024_S1x4096x1024_0_1_2
      (broadcastInDim S1x1x1024 ![0, 2] bcast_S1x1024_S1x1x1024_0_2 (extractStridedSlice S1x1024 ![0, 2048] s slices_S1x6144_S1x1024_0_2048)))
    (Host.dotGeneral dot_S1x4096x16384_S16384x1024_S1x4096x1024_2_0_01_1_n_n none a W))

/-- The whole reference. -/
def total (x : FVec F S1x4096x1024 .f32) (o : FVec F S4096x16384 .bf16) (t : FVec F S1x128 .f32) (W : FVec F S128x6144 .f32)
    (Wo : FVec F S16384x1024 .f32) : FVec F S4096x1024 .f32 :=
  shapeCast S4096x1024 (gated x (rows o) (scales t W) Wo) shapeCasts_S1x4096x1024_S4096x1024

theorem rows_apply (o : FVec Ideal S4096x16384 .bf16) (r : Fin 4096) (K : Fin 16384) :
    (rows (F := Ideal) o (ix3 0 r K) : EReal) = o (ix2 r K) := by
  unfold rows
  pointwise

theorem gated_apply (x : FVec Ideal S1x4096x1024 .f32) (a : FVec Ideal S1x4096x16384 .f32) (s : FVec Ideal S1x6144 .f32)
    (W : FVec Ideal S16384x1024 .f32) (r : Fin 4096) (l : Fin 1024) :
    (gated (F := Ideal) x a s W (ix3 0 r l) : EReal)
      = ((x (ix3 0 r l) : EReal) + (s (ix2 0 ⟨2048 + l.val, by omega⟩) : EReal)
          * ∑ K : Fin 16384, (a (ix3 0 r K) : EReal) * (W (ix2 K l) : EReal) : EReal) := by
  unfold gated
  pointwise

/-- A sum over the 16384 places of the attention's output is the sum over the sixteen stretches of 1024, one to a device. -/
theorem sum_stretches (f : Fin 16384 → EReal) :
    ∑ K, f K = ∑ e : Fin 16, ∑ k : Fin 1024, f ⟨e.val * 1024 + k.val, by omega⟩ := by
  rw [← Finset.sum_product', Finset.univ_product_univ]
  refine (Equiv.sum_comp (finProdFinEquiv (m := 16) (n := 1024)) f).symm.trans (Finset.sum_congr rfl fun p _ => congrArg f (Fin.ext ?_))
  show p.2.val + 1024 * p.1.val = p.1.val * 1024 + p.2.val
  omega

/-- The result at a place: the residual there plus the column's gate times the sum of the products, stretch by stretch. -/
theorem total_apply (x : FVec Ideal S1x4096x1024 .f32) (o : FVec Ideal S4096x16384 .bf16) (t : FVec Ideal S1x128 .f32)
    (W : FVec Ideal S128x6144 .f32) (Wo : FVec Ideal S16384x1024 .f32) (r : Fin 4096) (l : Fin 1024) :
    (total (F := Ideal) x o t W Wo (ix2 r l) : EReal)
      = ((x (ix3 0 r l) : EReal) + (scales (F := Ideal) t W (ix2 0 ⟨2048 + l.val, by omega⟩) : EReal)
          * ∑ e : Fin 16, ∑ k : Fin 1024, (o (ix2 r ⟨e.val * 1024 + k.val, by omega⟩) : EReal)
            * (Wo (ix2 ⟨e.val * 1024 + k.val, by omega⟩ l) : EReal) : EReal) := by
  have h : (total (F := Ideal) x o t W Wo (ix2 r l) : EReal) = gated (F := Ideal) x (rows o) (scales t W) Wo (ix3 0 r l) := by
    unfold total
    pointwise
  rw [h, gated_apply, sum_stretches]
  simp only [rows_apply]

end Cert.HalfSum
-- ==== Proof.HalfHost.lean ====
/-
# The first half of the block: what the program's own operations compute

What a device's operations before the ring make of its arguments: the product of its columns of the attention's output with its rows of
the projection, which the ring adds up. And what the operations after the ring make of the sum.
-/
module

public import proofs.«01_k».proof.Proof.Gen.HalfIdeal.Launch
public import Idealize.ShloMosaic.Lib.StableHlo.Run
public import proofs.«01_k».proof.Proof.RowMath

@[expose] public section

set_option maxRecDepth 20000

noncomputable section

namespace Cert.HalfHost

open Cert.HalfIdeal Cert.HalfIdeal.Gen Idealize.ShloMosaic Idealize.ShloMosaic.TcCoe Idealize.SL.Sem Idealize.ShloMosaic.StableHlo

variable {F : FTy → Type} [FloatOps F]

/-- The vector of the six scales and shifts. -/
def scales (t : FVec F S1x128 .f32) (W : FVec F S128x6144 .f32) : FVec F S1x6144 .f32 :=
  Host.dotGeneral dot_S1x128_S128x6144_S1x6144_1_0_0_1_n_n none t W

/-- The gate of the attention's output, cut out of the vector of scales and shifts. -/
def gate (s : FVec F S1x6144 .f32) : FVec F S1x1024 .f32 := extractStridedSlice S1x1024 ![0, 2048] s slices_S1x6144_S1x1024_0_2048

/-- The residual, as a matrix of rows. -/
def flat (x : FVec F S1x4096x1024 .f32) : FVec F S4096x1024 .f32 := shapeCast S4096x1024 x shapeCasts_S1x4096x1024_S4096x1024

/-- The device's part of the projection. -/
def part (o : FVec F S4096x1024 .bf16) (W : FVec F S1024x1024 .f32) : FVec F S4096x1024 .bf16 :=
  truncf .bf16 (Host.dotGeneral dot_S4096x1024_S1024x1024_S4096x1024_1_0_0_1_n_n none o (truncf .bf16 W bitsLt_bf16_f32)) bitsLt_bf16_f32

/-- What the operations after the ring make of its sum `v`: the residual plus the gate times it. -/
def gated (v : FVec F S4096x1024 .bf16) (x : FVec F S4096x1024 .f32) (g : FVec F S1x1024 .f32) : FVec F S4096x1024 .f32 :=
  addf x (mulf (broadcastInDim S4096x1024 ![0, 1] bcast_S1x1024_S4096x1024_0_1 g) (extf .f32 v bitsLt_bf16_f32))

/-! ## What each stretch of operations leaves -/

variable (V : Valuation τ sig (Elt F))

theorem before_v11 : after hostOps0 V (main_v11 : DevRef τ sig) = part (V (main_arg1 : DevRef τ sig)) (V (main_arg4 : DevRef τ sig)) := by
  after_results_simp
  rfl
theorem before_v4 : after hostOps0 V (main_v4 : DevRef τ sig) = gate (scales (V (main_arg2 : DevRef τ sig)) (V (main_arg3 : DevRef τ sig))) := by
  after_results_simp
  rfl
theorem before_v8 : after hostOps0 V (main_v8 : DevRef τ sig) = flat (V (main_arg0 : DevRef τ sig)) := by
  after_results_simp
  rfl
theorem before_arg0 : after hostOps0 V (main_arg0 : DevRef τ sig) = V (main_arg0 : DevRef τ sig) := by after_results_simp
theorem before_arg1 : after hostOps0 V (main_arg1 : DevRef τ sig) = V (main_arg1 : DevRef τ sig) := by after_results_simp
theorem before_arg2 : after hostOps0 V (main_arg2 : DevRef τ sig) = V (main_arg2 : DevRef τ sig) := by after_results_simp
theorem before_arg3 : after hostOps0 V (main_arg3 : DevRef τ sig) = V (main_arg3 : DevRef τ sig) := by after_results_simp
theorem before_arg4 : after hostOps0 V (main_arg4 : DevRef τ sig) = V (main_arg4 : DevRef τ sig) := by after_results_simp

theorem after_v16 : after hostOps1 V (main_v16 : DevRef τ sig)
    = gated (V (main_v12 : DevRef τ sig)) (V (main_v8 : DevRef τ sig)) (V (main_v4 : DevRef τ sig)) := by
  after_results_simp
  rfl
theorem after_arg0 : after hostOps1 V (main_arg0 : DevRef τ sig) = V (main_arg0 : DevRef τ sig) := by after_results_simp
theorem after_arg1 : after hostOps1 V (main_arg1 : DevRef τ sig) = V (main_arg1 : DevRef τ sig) := by after_results_simp
theorem after_arg2 : after hostOps1 V (main_arg2 : DevRef τ sig) = V (main_arg2 : DevRef τ sig) := by after_results_simp
theorem after_arg3 : after hostOps1 V (main_arg3 : DevRef τ sig) = V (main_arg3 : DevRef τ sig) := by after_results_simp
theorem after_arg4 : after hostOps1 V (main_arg4 : DevRef τ sig) = V (main_arg4 : DevRef τ sig) := by after_results_simp

/-! ## The values over the reals -/

/-- The device's part at a place: the sum of the products over its 1024 columns of the attention's output. -/
theorem part_apply (o : FVec Ideal S4096x1024 .bf16) (W : FVec Ideal S1024x1024 .f32) (r : Fin 4096) (l : Fin 1024) :
    (part (F := Ideal) o W (ix2 r l) : EReal) = (∑ k : Fin 1024, (o (ix2 r k) : EReal) * (W (ix2 k l) : EReal) : EReal) := by
  unfold part
  pointwise

/-- The result at a place: the residual there plus the column's gate times the ring's sum there. -/
theorem gated_apply (v : FVec Ideal S4096x1024 .bf16) (x : FVec Ideal S1x4096x1024 .f32) (s : FVec Ideal S1x6144 .f32) (r : Fin 4096)
    (l : Fin 1024) : (gated (F := Ideal) v (flat x) (gate s) (ix2 r l) : EReal)
      = ((x (ix3 0 r l) : EReal) + (s (ix2 0 ⟨2048 + l.val, by omega⟩) : EReal) * (v (ix2 r l) : EReal) : EReal) := by
  unfold gated flat gate
  pointwise

end Cert.HalfHost
-- ==== Proof.HalfValue.lean ====
/-
# The first half's ring all-reduce: its value

What the ring leaves, as the sum of the devices' parts over the reals; what the first half of the block leaves from the attention's
output on; and the claims about it.
-/
module

public import proofs.«01_k».proof.Proof.Gen.HalfIdeal
public import proofs.«01_k».proof.Proof.Gen.Half
public import proofs.«01_k».proof.Proof.HalfRun
public import proofs.«01_k».proof.Proof.HalfSum
public import proofs.«01_k».proof.Proof.HalfHost
public import proofs.«01_k».proof.Proof.Gen.RefHalfIdeal.Run
public import proofs.«01_k».proof.Defs

@[expose] public section

set_option maxRecDepth 20000

noncomputable section

namespace Cert.HalfProof

open Cert.HalfIdeal Cert.HalfIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : (ℓ : Loc nD τ sig) → Buf (Elt F) ℓ) (ρ : Dev nD → PrngReg)

open Idealize.ShloMosaic.Pipeline (Dat Cfg Window BodyObligation cellOf)

/-! ## What the launch leaves in the result -/

/-- The one block of the result is what the body leaves. -/
theorem finalA_blk (c : Dev nD) :
    (win0_1.blk (0 : Fin 1)).view.read (Elt F) (finalA m ρ c (1 : Fin 2)) = outF m ρ := by
  unfold finalA
  rw [show cfg0.N = ((0 : Fin 1) : Fin cfg0.N).val + 1 from rfl, (dats m ρ 0 c).arrAt_succ (1 : Fin 2) (0 : Fin 1)]
  rw [show (cfg0.win (1 : Fin 2)).flush (0 : Fin 1) = true from by decide, if_pos rfl]
  exact View.read_write_univ _ _

/-- That block is the whole result. -/
theorem finalA_o (c : Dev nD) : finalA m ρ c (1 : Fin 2) = outF m ρ := by
  have hz : (fun a => (win0_1.index (0 : Fin 1)) a * main_v12.ty.shape.size a) = fun _ => 0 := funext fun a => by
    fin_cases a <;> decide
  exact (Memref.read_access_unit_zero (Elt F) main_v12 hz (fun a => by fin_cases a <;> decide) _).symm.trans (finalA_blk m ρ c)

/-- What the body finds in its argument is the device's array. -/
theorem xstg_eq (c : Dev nD) : xstg m ρ c = (s₀ m ρ).mem ((c.tc : Thread nD τ).loc main_v11) := by
  have hz : (fun a => (win0_0.index (0 : Fin 1)) a * main_v11.ty.shape.size a) = fun _ => 0 := funext fun a => by
    fin_cases a <;> decide
  exact Memref.read_access_unit_zero (Elt F) main_v11 hz (fun a => by fin_cases a <;> decide) _

/-- The copy the body makes of it before the ring starts changes nothing. -/
theorem out0_eq (c : Dev nD) : out0 m ρ c = (s₀ m ρ).mem ((c.tc : Thread nD τ).loc main_v11) := by
  rw [← xstg_eq]
  exact funext fun i => congrArg (xstg m ρ c) (Shape.reshapeEquiv_self shapeCasts_S4096x1024_S4096x1024 i)

/-! ## The ring's sum over the reals -/

variable (w : (ℓ : Loc nD τ sig) → Buf (Elt Ideal) ℓ)

/-- Over the reals, what a device sends at step `k` of the reduction is the sum, over the `k + 1` devices the chunk has
    passed, of each device's part of the chunk. -/
theorem val_sum (d : Bool) (i : S128x1024.Idx) : ∀ (k : ℕ) (c : Dev nD), k ≤ 15 →
    val (F := Ideal) w ρ d k c i = ∑ t ∈ Finset.range (k + 1), (xch (F := Ideal) w ρ d (back d c t) (back d c k) i : EReal)
  | 0, c, _ => by
      rw [val_zero, Finset.sum_range_one, back_zero]
  | k + 1, c, h => by
      rw [val_reduce w ρ d c k (by omega), Finset.sum_range_succ', back_zero]
      have ih := val_sum d i k (prv d c) (by omega)
      simp only [back_prv] at ih
      rw [← ih]
      exact add_comm (xch (F := Ideal) w ρ d c (back d c (k + 1)) i : EReal) (val (F := Ideal) w ρ d k (prv d c) i)

/-- A chunk's last sum is over all devices. -/
theorem val_all (d : Bool) (j : Dev nD) (i : S128x1024.Idx) :
    val (F := Ideal) w ρ d 15 (prv d j) i = ∑ e : Dev nD, (xch (F := Ideal) w ρ d e j i : EReal) := by
  have hj : back d (prv d j) 15 = j := by
    rw [back_prv]; exact (back_add16 d j 0).trans (back_zero d j)
  rw [val_sum ρ w d i 15 (prv d j) le_rfl, hj, Finset.sum_range]
  exact Equiv.sum_comp (backE d (prv d j)) fun e => (xch (F := Ideal) w ρ d e j i : EReal)

/-- A place of the result is the place of its chunk its row and column say. -/
theorem emb_inCh (x : S4096x1024.Idx) :
    (chR (chOf (x (0 : Fin 2)).val).1 (chOf (x (0 : Fin 2)).val).2).emb (inCh x) = x := by
  have h0 : (x (0 : Fin 2)).val < 4096 := (x (0 : Fin 2)).isLt
  funext a
  apply Fin.ext
  match a with
  | ⟨0, _⟩ =>
    show ((if decide (2048 ≤ (x (0 : Fin 2)).val) = true then 2048 else 0) + 128 * ((x (0 : Fin 2)).val / 128 % 16)) + 1 * ((x (0 : Fin 2)).val % 128) = (x (0 : Fin 2)).val
    by_cases hr : 2048 ≤ (x (0 : Fin 2)).val
    · rw [if_pos (by simpa using hr)]; omega
    · rw [if_neg (by simpa using hr)]; omega
  | ⟨1, _⟩ =>
    show 0 + 1 * (x (1 : Fin 2)).val = (x (1 : Fin 2)).val
    omega

/-- Over the reals the ring leaves, on every device and at every place, the sum of the devices' arrays there. -/
theorem outF_sum (x : S4096x1024.Idx) :
    @Eq EReal (outF (F := Ideal) w ρ x) (∑ e : Dev nD, (show EReal from w ((e.tc : Thread nD τ).loc main_v11) x)) := by
  have h : ∀ e : Dev nD, @Eq EReal (xch (F := Ideal) w ρ (chOf (x (0 : Fin 2)).val).1 e (chOf (x (0 : Fin 2)).val).2 (inCh x))
      (w ((e.tc : Thread nD τ).loc main_v11) x) := fun e => by
    unfold xch
    rw [emb_inCh, out0_eq]
    rfl
  exact (val_all ρ w _ _ _).trans (congrArg (fun f : Dev nD → EReal => ∑ e, f e) (funext h))

/-! ## The first half of the block, from the attention's output on -/

/-- What the operations before the ring leave in a buffer is read off the memory at the start. -/
theorem mid_loc (c : Dev nD) (b : Ref sig .tc) :
    mid m ((c.tc : Thread nD τ).loc b) = StableHlo.after hostOps0 (W0 m c) (Proc.devRef .tc b) := rfl

/-- What the ring finds on a device is the device's part of the projection. -/
theorem mid_v11 (c : Dev nD) : mid m ((c.tc : Thread nD τ).loc main_v11)
    = HalfHost.part (m ((c.tc : Thread nD τ).loc main_arg1)) (m ((c.tc : Thread nD τ).loc main_arg4)) :=
  (mid_loc m c main_v11).trans (HalfHost.before_v11 _)

theorem mid_v4 (c : Dev nD) : mid m ((c.tc : Thread nD τ).loc main_v4)
    = HalfHost.gate (HalfHost.scales (m ((c.tc : Thread nD τ).loc main_arg2)) (m ((c.tc : Thread nD τ).loc main_arg3))) :=
  (mid_loc m c main_v4).trans (HalfHost.before_v4 _)

theorem mid_v8 (c : Dev nD) : mid m ((c.tc : Thread nD τ).loc main_v8) = HalfHost.flat (m ((c.tc : Thread nD τ).loc main_arg0)) :=
  (mid_loc m c main_v8).trans (HalfHost.before_v8 _)

theorem end_arg0 (c : Dev nD) : StableHlo.after hostOps1 (W1 (mid m) ρ c) (Proc.devRef .tc main_arg0) = m ((c.tc : Thread nD τ).loc main_arg0) :=
  (HalfHost.after_arg0 _).trans ((W1_ref (mid m) ρ c (b := main_arg0) (by decide)).trans ((mid_loc m c main_arg0).trans (HalfHost.before_arg0 _)))

theorem end_arg1 (c : Dev nD) : StableHlo.after hostOps1 (W1 (mid m) ρ c) (Proc.devRef .tc main_arg1) = m ((c.tc : Thread nD τ).loc main_arg1) :=
  (HalfHost.after_arg1 _).trans ((W1_ref (mid m) ρ c (b := main_arg1) (by decide)).trans ((mid_loc m c main_arg1).trans (HalfHost.before_arg1 _)))

theorem end_arg2 (c : Dev nD) : StableHlo.after hostOps1 (W1 (mid m) ρ c) (Proc.devRef .tc main_arg2) = m ((c.tc : Thread nD τ).loc main_arg2) :=
  (HalfHost.after_arg2 _).trans ((W1_ref (mid m) ρ c (b := main_arg2) (by decide)).trans ((mid_loc m c main_arg2).trans (HalfHost.before_arg2 _)))

theorem end_arg3 (c : Dev nD) : StableHlo.after hostOps1 (W1 (mid m) ρ c) (Proc.devRef .tc main_arg3) = m ((c.tc : Thread nD τ).loc main_arg3) :=
  (HalfHost.after_arg3 _).trans ((W1_ref (mid m) ρ c (b := main_arg3) (by decide)).trans ((mid_loc m c main_arg3).trans (HalfHost.before_arg3 _)))

theorem end_arg4 (c : Dev nD) : StableHlo.after hostOps1 (W1 (mid m) ρ c) (Proc.devRef .tc main_arg4) = m ((c.tc : Thread nD τ).loc main_arg4) :=
  (HalfHost.after_arg4 _).trans ((W1_ref (mid m) ρ c (b := main_arg4) (by decide)).trans ((mid_loc m c main_arg4).trans (HalfHost.before_arg4 _)))

/-- What a device's result holds at the end. -/
def final (c : Dev nD) : FVec F S4096x1024 .f32 :=
  HalfHost.gated (outF (mid m) ρ) (HalfHost.flat (m ((c.tc : Thread nD τ).loc main_arg0)))
    (HalfHost.gate (HalfHost.scales (m ((c.tc : Thread nD τ).loc main_arg2)) (m ((c.tc : Thread nD τ).loc main_arg3))))

theorem end_out (c : Dev nD) : StableHlo.after hostOps1 (W1 (mid m) ρ c) (Proc.devRef .tc main_v16) = final m ρ c := by
  have e1 : W1 (mid m) ρ c (Proc.devRef .tc main_v12) = outF (mid m) ρ := (W1_o (mid m) ρ c).trans (finalA_o (mid m) ρ c)
  have k8 := (W1_ref (mid m) ρ c (b := main_v8) (by decide)).trans (mid_v8 m c)
  have k4 := (W1_ref (mid m) ρ c (b := main_v4) (by decide)).trans (mid_v4 m c)
  exact (HalfHost.after_v16 _).trans (congr (congr (congrArg HalfHost.gated e1) k8) k4)

/-- For any floats: the run ends with every device's result `final`, every argument as it was and every semaphore counter at zero. -/
theorem run_all : θ_run (defs (F := F)) (onTc (τ := τ) (main (F := F))) (s₀ m ρ) (fun r =>
    (∀ c : Dev nD, r.2.mem ((c.tc : Thread nD τ).loc main_v16) = final m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun r h => ⟨fun c => ⟨(h.1 c main_v16 rfl).trans (end_out m ρ c), (h.1 c main_arg0 rfl).trans (end_arg0 m ρ c), (h.1 c main_arg1 rfl).trans (end_arg1 m ρ c), (h.1 c main_arg2 rfl).trans (end_arg2 m ρ c), (h.1 c main_arg3 rfl).trans (end_arg3 m ρ c), (h.1 c main_arg4 rfl).trans (end_arg4 m ρ c)⟩, h.2⟩) (run_main m ρ)

/-! ## The claims -/

/-- What the frames say of the final state. -/
abbrev argsKept (r : PUnit × MemSt nD τ sig (Elt F)) : Prop :=
  (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0

/-- The first half's program runs over any floats, keeps its arguments and leaves every semaphore counter at zero. -/
theorem frame_any : θ_run (defs (F := F)) (onTc (τ := τ) (main (F := F))) (s₀ m ρ) (argsKept m) :=
  (θ_run defs _ _).mono (fun _ h => ⟨fun c => (h.1 c).2, h.2⟩) (run_all m ρ)

/-- The claim of the first half read over the reals; -/
theorem frame_half_ideal : Cert.quiescent_HalfIdeal := fun m ρ _ => frame_any (F := Ideal) m ρ

/-! The same program is printed twice, once to be read over the machine's floats and once over the reals. -/

theorem body_same : Cert.Half.cc0_body (F := F) = cc0_body (F := F) := rfl

theorem defs₀_same : Cert.Half.defs₀ (F := F) = defs₀ (F := F) :=
  congrArg Defs.onTc (funext fun ℓ => funext fun x => by
    match ℓ, x with
    | ⟨0, _⟩, (t, s) => rfl
    | ⟨_ + 1, h⟩, _ => exact absurd h (Nat.not_lt.2 (Nat.le_add_left _ _)))

theorem defs_same : Cert.Half.defs (F := F) = defs (F := F) := congrArg (Pipeline.defs pcfgs) defs₀_same

set_option maxHeartbeats 4000000 in
/-- The claim of the first half over the machine's floats. -/
theorem frame_half : Cert.quiescent_Half := fun m ρ _ =>
  Eq.mpr (congrArg (fun D => θ_run D (onTc (τ := τ) (main (F := Bits))) (s₀ m ρ) (argsKept (F := Bits) m)) (defs_same (F := Bits)))
    (frame_any (F := Bits) m ρ)

/-- A device's part of the projection, made of its block of the attention's output and its block of the weights, is the sum of the
    products over the device's stretch of places. -/
theorem part_block (o : FVec Ideal ⟨2, ![4096, 16384]⟩ .bf16) (W : FVec Ideal ⟨2, ![16384, 1024]⟩ .f32) (e : Fin 16) (r : Fin 4096)
    (l : Fin 1024) :
    (HalfHost.part (F := Ideal) (Layout.block ⟨2, ![4096, 1024]⟩ ⟨2, ![4096, 16384]⟩ 1 16 e o (by decide))
        (Layout.block ⟨2, ![1024, 1024]⟩ ⟨2, ![16384, 1024]⟩ 0 16 e W (by decide)) (ix2 r l) : EReal)
      = (∑ k : Fin 1024, (o (ix2 r ⟨e.val * 1024 + k.val, by omega⟩) : EReal) * (W (ix2 ⟨e.val * 1024 + k.val, by omega⟩ l) : EReal) : EReal) := by
  rw [HalfHost.part_apply]
  refine Finset.sum_congr rfl fun k _ => ?_
  have h1 : Layout.block ⟨2, ![4096, 1024]⟩ ⟨2, ![4096, 16384]⟩ 1 16 e o (by decide) (ix2 r k) = o (ix2 r ⟨e.val * 1024 + k.val, by omega⟩) := by
    rw [Layout.block_apply]
    congr 1
    funext a
    match a with
    | ⟨0, _⟩ => exact Fin.ext rfl
    | ⟨1, _⟩ => exact Fin.ext rfl
  have h2 : Layout.block ⟨2, ![1024, 1024]⟩ ⟨2, ![16384, 1024]⟩ 0 16 e W (by decide) (ix2 k l) = W (ix2 ⟨e.val * 1024 + k.val, by omega⟩ l) := by
    rw [Layout.block_apply]
    congr 1
    funext a
    match a with
    | ⟨0, _⟩ => exact Fin.ext rfl
    | ⟨1, _⟩ => exact Fin.ext rfl
  exact congr (congrArg (fun a b : EReal => a * b) h1) h2

/-- The two programs cut the scales and shifts out of the same product. -/
theorem scales_same (t : FVec Ideal S1x128 .f32) (W : FVec Ideal S128x6144 .f32) (k : Fin 6144) :
    (HalfHost.scales (F := Ideal) t W (ix2 0 k) : EReal) = HalfSum.scales (F := Ideal) t W (ix2 0 k) := rfl

/-- A place of the reference's memory. -/
abbrev rloc (b : Ref Cert.RefHalfIdeal.sig .tc) : Loc Cert.RefHalfIdeal.nD Cert.RefHalfIdeal.τ Cert.RefHalfIdeal.sig :=
  ((0 : Dev Cert.RefHalfIdeal.nD).tc : Thread Cert.RefHalfIdeal.nD Cert.RefHalfIdeal.τ).loc b

set_option maxRecDepth 1000000 in
/-- Over the reals the program leaves on every device the residual plus the gate times the whole projection of the attention's output,
    which is the reference's result. -/
theorem half_value : Cert.algebraic_HalfIdeal_RefHalfIdeal := by
  intro w ρ w' ρ' _ hagree
  have hval (c : Dev nD) : (final (F := Ideal) w ρ c : FVec Ideal S4096x1024 .f32)
      = Cert.HalfSum.total (F := Ideal) (w' (rloc Cert.RefHalfIdeal.main_arg0)) (w' (rloc Cert.RefHalfIdeal.main_arg1))
        (w' (rloc Cert.RefHalfIdeal.main_arg2)) (w' (rloc Cert.RefHalfIdeal.main_arg3)) (w' (rloc Cert.RefHalfIdeal.main_arg4)) := by
    have key : ∀ a b s t : EReal, s = t → a + b * s = a + b * t := fun _ _ _ _ h => h ▸ rfl
    obtain ⟨h0, -, h2, h3, -⟩ := hagree c
    unfold final
    rw [h0, h2, h3]
    funext i
    obtain ⟨r, l, rfl⟩ : ∃ (r : Fin 4096) (l : Fin 1024), i = ix2 r l := ⟨i 0, i 1, (ix2_eta i).symm⟩
    refine (HalfHost.gated_apply _ _ _ r l).trans (Eq.trans ?_ (Cert.HalfSum.total_apply _ _ _ _ _ r l).symm)
    refine key _ _ _ _ ((outF_sum ρ (mid w) (ix2 r l)).trans (congrArg (fun f : Dev nD → EReal => ∑ e, f e) (funext fun e => ?_)))
    obtain ⟨-, g1, -, -, g4⟩ := hagree e
    refine (congrFun (mid_v11 w e) (ix2 r l)).trans ?_
    rw [g1, g4]
    exact part_block _ _ e r l
  refine ⟨Cert.HalfSum.total (F := Ideal) (w' (rloc Cert.RefHalfIdeal.main_arg0)) (w' (rloc Cert.RefHalfIdeal.main_arg1))
        (w' (rloc Cert.RefHalfIdeal.main_arg2)) (w' (rloc Cert.RefHalfIdeal.main_arg3)) (w' (rloc Cert.RefHalfIdeal.main_arg4)), ?_,
    (θ_run Cert.RefHalfIdeal.defs _ _).mono (fun _ h => h 0) (Cert.RefHalfIdeal.Value.run w' ρ')⟩
  exact (θ_run Cert.HalfIdeal.defs _ _).mono (fun _ h c => ⟨((h.1 c).1).trans (hval c), (h.1 c).2⟩) (run_all (F := Ideal) w ρ)

end Cert.HalfProof
-- ==== Proof.lean ====
module

public import proofs.«01_k».proof.Defs
public import proofs.«01_k».proof.Proof.Gen.Attention
public import proofs.«01_k».proof.Proof.Gen.Attention.Skeleton
public import proofs.«01_k».proof.Proof.Gen.Attention.Launch
public import proofs.«01_k».proof.Proof.Gen.Attention.Points
public import proofs.«01_k».proof.Proof.Gen.Attention.Frame
public import proofs.«01_k».proof.Proof.Gen.AttentionIdeal
public import proofs.«01_k».proof.Proof.Gen.AttentionIdeal.Skeleton
public import proofs.«01_k».proof.Proof.Gen.AttentionIdeal.Launch
public import proofs.«01_k».proof.Proof.Gen.AttentionIdeal.Points
public import proofs.«01_k».proof.Proof.Gen.AttentionIdeal.Frame
public import proofs.«01_k».proof.Proof.Gen.RefAttentionIdeal
public import proofs.«01_k».proof.Proof.Gen.AttentionIdeal.Value
public import proofs.«01_k».proof.Proof.Gen.RefAttentionIdeal.Run
public import proofs.«01_k».proof.Proof.KernelValue
public import proofs.«01_k».proof.Proof.Gen.Ring
public import proofs.«01_k».proof.Proof.Gen.RingIdeal
public import proofs.«01_k».proof.Proof.Gen.RefSumIdeal
public import proofs.«01_k».proof.Proof.RingSum
public import proofs.«01_k».proof.Proof.RingValue
public import proofs.«01_k».proof.Proof.Gen.HalfIdeal
public import proofs.«01_k».proof.Proof.Gen.Half
public import proofs.«01_k».proof.Proof.Gen.RefHalfIdeal
public import proofs.«01_k».proof.Proof.Gen.RefHalfIdeal.Run
public import proofs.«01_k».proof.Proof.HalfValue
public import Idealize.ShloMosaic.Adequacy
public import Idealize.ShloMosaic.Init

@[expose] public section

noncomputable section

namespace Cert.Proof

open Idealize.ShloMosaic Idealize.SL.Sem

/-- The kernel runs, keeps its arguments and leaves every semaphore counter at zero. -/
theorem frame_kernel : Cert.quiescent_Attention := fun m g _ => Cert.Attention.Gen.frame m g

/-- The same of the kernel read over the reals. -/
theorem frame_ideal : Cert.quiescent_AttentionIdeal := fun m g _ => Cert.AttentionIdeal.Gen.frame m g

/-- The same of the reference; it has no semaphore. -/
theorem frame_reference : Cert.quiescent_RefAttentionIdeal := fun m g _ =>
  (θ_run Cert.RefAttentionIdeal.defs _ _).mono (fun r h => ⟨fun c => (h c).2, sem_eq_zero_of_no_sems (by decide) r.2⟩)
    (Cert.RefAttentionIdeal.Value.run m g)

/-- Over the reals the kernel's result and the reference's are both `Attn.attn` of the three arguments. -/
theorem value : Cert.algebraic_AttentionIdeal_RefAttentionIdeal := by
  intro m g m' g' _ hagree
  refine ⟨fun c => Cert.Attn.attn (m (c.tc.loc Cert.AttentionIdeal.main_arg0)) (m (c.tc.loc Cert.AttentionIdeal.main_arg1))
    (m (c.tc.loc Cert.AttentionIdeal.main_arg2)), ?_, ?_⟩
  · exact (θ_run Cert.AttentionIdeal.defs _ _).mono
      (fun _ h c => ⟨(h c).1.trans (Cert.KernelValue.result_eq m c), (h c).2⟩) (Cert.AttentionIdeal.Value.run_blocks m g)
  · refine (θ_run Cert.RefAttentionIdeal.defs _ _).mono (fun _ h c => ⟨(h c).1.trans ?_, (h c).2⟩)
      (Cert.RefAttentionIdeal.Value.run m' g')
    obtain ⟨h0, h1, h2⟩ := hagree c
    rw [Cert.RefTerm.res_eq, Cert.Attn.ref_eq]
    exact congr (congr (congrArg Cert.Attn.attn h0) h1) h2

/-- The ring's reference runs and keeps its arguments; it has no semaphore. -/
theorem frame_sum : Cert.quiescent_RefSumIdeal := fun m g _ =>
  (θ_run Cert.RefSumIdeal.defs _ _).mono (fun r h => ⟨fun c => (h c).2, sem_eq_zero_of_no_sems (by decide) r.2⟩)
    (Cert.RingSum.run m g)

/-- The same of the first half's reference. -/
theorem frame_half_reference : Cert.quiescent_RefHalfIdeal := fun m g _ =>
  (θ_run Cert.RefHalfIdeal.defs _ _).mono (fun r h => ⟨fun c => (h c).2, sem_eq_zero_of_no_sems (by decide) r.2⟩)
    (Cert.RefHalfIdeal.Value.run m g)

/-- Everything the certificate claims. -/
theorem claim : Cert.Claim :=
  ⟨Cert.Attention.Gen.facts, Cert.AttentionIdeal.Gen.facts, Cert.RefAttentionIdeal.Gen.facts,
    Cert.Ring.Gen.facts, Cert.RingIdeal.Gen.facts, Cert.RefSumIdeal.Gen.facts,
    Cert.Half.Gen.facts, Cert.HalfIdeal.Gen.facts, Cert.RefHalfIdeal.Gen.facts,
    frame_kernel, frame_ideal, frame_reference, Cert.RingProof.frame_ring, Cert.RingProof.frame_ring_ideal, frame_sum,
    Cert.HalfProof.frame_half, Cert.HalfProof.frame_half_ideal, frame_half_reference,
    trivial, value, trivial, Cert.RingProof.ring_value, trivial, Cert.HalfProof.half_value⟩

end Cert.Proof

end
